-- ==== Defs.lean ====
def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KGating (m : (ℓ : Loc Cert.KGating.nD Cert.KGating.τ Cert.KGating.sig) → Buf (Elt Bits) ℓ) : Prop :=
  True

def Pre_KGatingIdeal (m : (ℓ : Loc Cert.KGatingIdeal.nD Cert.KGatingIdeal.τ Cert.KGatingIdeal.sig) → Buf (Elt Ideal) ℓ) : Prop :=
  True

def Pre_RGatingIdeal (m : (ℓ : Loc Cert.RGatingIdeal.nD Cert.RGatingIdeal.τ Cert.RGatingIdeal.sig) → Buf (Elt Ideal) ℓ) : Prop :=
  True

def Pre_KMerge (m : (ℓ : Loc Cert.KMerge.nD Cert.KMerge.τ Cert.KMerge.sig) → Buf (Elt Bits) ℓ) : Prop :=
  True

def Pre_KMergeIdeal (m : (ℓ : Loc Cert.KMergeIdeal.nD Cert.KMergeIdeal.τ Cert.KMergeIdeal.sig) → Buf (Elt Ideal) ℓ) : Prop :=
  True

def Pre_RMergeIdeal (m : (ℓ : Loc Cert.RMergeIdeal.nD Cert.RMergeIdeal.τ Cert.RMergeIdeal.sig) → Buf (Elt Ideal) ℓ) : Prop :=
  True

def Pre_KOutproj (m : (ℓ : Loc Cert.KOutproj.nD Cert.KOutproj.τ Cert.KOutproj.sig) → Buf (Elt Bits) ℓ) : Prop :=
  True

def Pre_KOutprojIdeal (m : (ℓ : Loc Cert.KOutprojIdeal.nD Cert.KOutprojIdeal.τ Cert.KOutprojIdeal.sig) → Buf (Elt Ideal) ℓ) : Prop :=
  True

def Pre_ROutprojIdeal (m : (ℓ : Loc Cert.ROutprojIdeal.nD Cert.ROutprojIdeal.τ Cert.ROutprojIdeal.sig) → Buf (Elt Ideal) ℓ) : Prop :=
  True

def Pre_KProjatt (m : (ℓ : Loc Cert.KProjatt.nD Cert.KProjatt.τ Cert.KProjatt.sig) → Buf (Elt Bits) ℓ) : Prop :=
  True

def Pre_KProjattIdeal (m : (ℓ : Loc Cert.KProjattIdeal.nD Cert.KProjattIdeal.τ Cert.KProjattIdeal.sig) → Buf (Elt Ideal) ℓ) : Prop :=
  True

def Pre_RProjattIdeal (m : (ℓ : Loc Cert.RProjattIdeal.nD Cert.RProjattIdeal.τ Cert.RProjattIdeal.sig) → Buf (Elt Ideal) ℓ) : Prop :=
  True

def Pre_KMixnorm (m : (ℓ : Loc Cert.KMixnorm.nD Cert.KMixnorm.τ Cert.KMixnorm.sig) → Buf (Elt Bits) ℓ) : Prop :=
  True

def Pre_KMixnormIdeal (m : (ℓ : Loc Cert.KMixnormIdeal.nD Cert.KMixnormIdeal.τ Cert.KMixnormIdeal.sig) → Buf (Elt Ideal) ℓ) : Prop :=
  True

def Pre_RMixnormIdeal (m : (ℓ : Loc Cert.RMixnormIdeal.nD Cert.RMixnormIdeal.τ Cert.RMixnormIdeal.sig) → Buf (Elt Ideal) ℓ) : Prop :=
  True

def Pre_KFinal (m : (ℓ : Loc Cert.KFinal.nD Cert.KFinal.τ Cert.KFinal.sig) → Buf (Elt Bits) ℓ) : Prop :=
  True

def Pre_KFinalIdeal (m : (ℓ : Loc Cert.KFinalIdeal.nD Cert.KFinalIdeal.τ Cert.KFinalIdeal.sig) → Buf (Elt Ideal) ℓ) : Prop :=
  True

def Pre_RFinalIdeal (m : (ℓ : Loc Cert.RFinalIdeal.nD Cert.RFinalIdeal.τ Cert.RFinalIdeal.sig) → Buf (Elt Ideal) ℓ) : Prop :=
  True

def Pre_KXq (m : (ℓ : Loc Cert.KXq.nD Cert.KXq.τ Cert.KXq.sig) → Buf (Elt Bits) ℓ) : Prop :=
  True

def Pre_KXqIdeal (m : (ℓ : Loc Cert.KXqIdeal.nD Cert.KXqIdeal.τ Cert.KXqIdeal.sig) → Buf (Elt Ideal) ℓ) : Prop :=
  True

def Pre_RXqIdeal (m : (ℓ : Loc Cert.RXqIdeal.nD Cert.RXqIdeal.τ Cert.RXqIdeal.sig) → Buf (Elt Ideal) ℓ) : Prop :=
  True

def Pre_KXkv (m : (ℓ : Loc Cert.KXkv.nD Cert.KXkv.τ Cert.KXkv.sig) → Buf (Elt Bits) ℓ) : Prop :=
  True

def Pre_KXkvIdeal (m : (ℓ : Loc Cert.KXkvIdeal.nD Cert.KXkvIdeal.τ Cert.KXkvIdeal.sig) → Buf (Elt Ideal) ℓ) : Prop :=
  True

def Pre_RXkvIdeal (m : (ℓ : Loc Cert.RXkvIdeal.nD Cert.RXkvIdeal.τ Cert.RXkvIdeal.sig) → Buf (Elt Ideal) ℓ) : Prop :=
  True

def Pre_KXout (m : (ℓ : Loc Cert.KXout.nD Cert.KXout.τ Cert.KXout.sig) → Buf (Elt Bits) ℓ) : Prop :=
  True

def Pre_KXoutIdeal (m : (ℓ : Loc Cert.KXoutIdeal.nD Cert.KXoutIdeal.τ Cert.KXoutIdeal.sig) → Buf (Elt Ideal) ℓ) : Prop :=
  True

def Pre_RXoutIdeal (m : (ℓ : Loc Cert.RXoutIdeal.nD Cert.RXoutIdeal.τ Cert.RXoutIdeal.sig) → Buf (Elt Ideal) ℓ) : Prop :=
  True

def Pre_KXattn (m : (ℓ : Loc Cert.KXattn.nD Cert.KXattn.τ Cert.KXattn.sig) → Buf (Elt Bits) ℓ) : Prop :=
  True

def Pre_KXattnIdeal (m : (ℓ : Loc Cert.KXattnIdeal.nD Cert.KXattnIdeal.τ Cert.KXattnIdeal.sig) → Buf (Elt Ideal) ℓ) : Prop :=
  True

def Pre_KXattnIdeal_finite_queries_and_keys [hPre_finite_queries_and_keys : Cert.Pre_finite_queries_and_keys.Facts] (m : (ℓ : Loc Cert.KXattnIdeal.nD Cert.KXattnIdeal.τ Cert.KXattnIdeal.sig) → Buf (Elt Ideal) ℓ) : Prop :=
  ∀ c : Dev Cert.KXattnIdeal.nD,
    (Cert.Pre_finite_queries_and_keys.fn (F := Ideal) (m ((c.tc : Thread Cert.KXattnIdeal.nD Cert.KXattnIdeal.τ).loc Cert.KXattnIdeal.main_arg0)) (m ((c.tc : Thread Cert.KXattnIdeal.nD Cert.KXattnIdeal.τ).loc Cert.KXattnIdeal.main_arg1)) (m ((c.tc : Thread Cert.KXattnIdeal.nD Cert.KXattnIdeal.τ).loc Cert.KXattnIdeal.main_arg2))).1 = (fun _ => 1#1)
    ∧ (Cert.Pre_finite_queries_and_keys.fn (F := Ideal) (m ((c.tc : Thread Cert.KXattnIdeal.nD Cert.KXattnIdeal.τ).loc Cert.KXattnIdeal.main_arg0)) (m ((c.tc : Thread Cert.KXattnIdeal.nD Cert.KXattnIdeal.τ).loc Cert.KXattnIdeal.main_arg1)) (m ((c.tc : Thread Cert.KXattnIdeal.nD Cert.KXattnIdeal.τ).loc Cert.KXattnIdeal.main_arg2))).2 = (fun _ => 1#1)

def Pre_RXattnIdeal (m : (ℓ : Loc Cert.RXattnIdeal.nD Cert.RXattnIdeal.τ Cert.RXattnIdeal.sig) → Buf (Elt Ideal) ℓ) : Prop :=
  True

def Pre_RXattnIdeal_finite_queries_and_keys [hPre_finite_queries_and_keys : Cert.Pre_finite_queries_and_keys.Facts] (m : (ℓ : Loc Cert.RXattnIdeal.nD Cert.RXattnIdeal.τ Cert.RXattnIdeal.sig) → Buf (Elt Ideal) ℓ) : Prop :=
  ∀ c : Dev Cert.RXattnIdeal.nD,
    (Cert.Pre_finite_queries_and_keys.fn (F := Ideal) (m ((c.tc : Thread Cert.RXattnIdeal.nD Cert.RXattnIdeal.τ).loc Cert.RXattnIdeal.main_arg0)) (m ((c.tc : Thread Cert.RXattnIdeal.nD Cert.RXattnIdeal.τ).loc Cert.RXattnIdeal.main_arg1)) (m ((c.tc : Thread Cert.RXattnIdeal.nD Cert.RXattnIdeal.τ).loc Cert.RXattnIdeal.main_arg2))).1 = (fun _ => 1#1)
    ∧ (Cert.Pre_finite_queries_and_keys.fn (F := Ideal) (m ((c.tc : Thread Cert.RXattnIdeal.nD Cert.RXattnIdeal.τ).loc Cert.RXattnIdeal.main_arg0)) (m ((c.tc : Thread Cert.RXattnIdeal.nD Cert.RXattnIdeal.τ).loc Cert.RXattnIdeal.main_arg1)) (m ((c.tc : Thread Cert.RXattnIdeal.nD Cert.RXattnIdeal.τ).loc Cert.RXattnIdeal.main_arg2))).2 = (fun _ => 1#1)

def Pre_KZa (m : (ℓ : Loc Cert.KZa.nD Cert.KZa.τ Cert.KZa.sig) → Buf (Elt Bits) ℓ) : Prop :=
  True

def Pre_KZaIdeal (m : (ℓ : Loc Cert.KZaIdeal.nD Cert.KZaIdeal.τ Cert.KZaIdeal.sig) → Buf (Elt Ideal) ℓ) : Prop :=
  True

def Pre_RZaIdeal (m : (ℓ : Loc Cert.RZaIdeal.nD Cert.RZaIdeal.τ Cert.RZaIdeal.sig) → Buf (Elt Ideal) ℓ) : Prop :=
  True

def Pre_KDsa (m : (ℓ : Loc Cert.KDsa.nD Cert.KDsa.τ Cert.KDsa.sig) → Buf (Elt Bits) ℓ) : Prop :=
  True

def Pre_KDsaIdeal (m : (ℓ : Loc Cert.KDsaIdeal.nD Cert.KDsaIdeal.τ Cert.KDsaIdeal.sig) → Buf (Elt Ideal) ℓ) : Prop :=
  True

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2)
      ∧ r.2.mem ((c.tc : Thread Cert.KUp.nD Cert.KUp.τ).loc Cert.KUp.main_arg3) = m ((c.tc : Thread Cert.KUp.nD Cert.KUp.τ).loc Cert.KUp.main_arg3))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2))
      ∧ r.2.sem = fun _ => 0)

def quiescent_KGating [hKGating : Cert.KGating.Facts] : Prop :=
  ∀ (m : (ℓ : Loc Cert.KGating.nD Cert.KGating.τ Cert.KGating.sig) → Buf (Elt Bits) ℓ) (g : Dev Cert.KGating.nD → PrngReg), Pre_KGating m →
    θ_run (Cert.KGating.defs (F := Bits)) (onTc (τ := Cert.KGating.τ) (Cert.KGating.main (F := Bits))) ⟨m, fun _ => 0, g⟩ (fun r => (∀ c : Dev Cert.KGating.nD,
      r.2.mem ((c.tc : Thread Cert.KGating.nD Cert.KGating.τ).loc Cert.KGating.main_arg0) = m ((c.tc : Thread Cert.KGating.nD Cert.KGating.τ).loc Cert.KGating.main_arg0)
      ∧ r.2.mem ((c.tc : Thread Cert.KGating.nD Cert.KGating.τ).loc Cert.KGating.main_arg1) = m ((c.tc : Thread Cert.KGating.nD Cert.KGating.τ).loc Cert.KGating.main_arg1)
      ∧ r.2.mem ((c.tc : Thread Cert.KGating.nD Cert.KGating.τ).loc Cert.KGating.main_arg2) = m ((c.tc : Thread Cert.KGating.nD Cert.KGating.τ).loc Cert.KGating.main_arg2)
      ∧ r.2.mem ((c.tc : Thread Cert.KGating.nD Cert.KGating.τ).loc Cert.KGating.main_arg3) = m ((c.tc : Thread Cert.KGating.nD Cert.KGating.τ).loc Cert.KGating.main_arg3))
      ∧ r.2.sem = fun _ => 0)

def quiescent_KGatingIdeal [hKGatingIdeal : Cert.KGatingIdeal.Facts] : Prop :=
  ∀ (m : (ℓ : Loc Cert.KGatingIdeal.nD Cert.KGatingIdeal.τ Cert.KGatingIdeal.sig) → Buf (Elt Ideal) ℓ) (g : Dev Cert.KGatingIdeal.nD → PrngReg), Pre_KGatingIdeal m →
    θ_run (Cert.KGatingIdeal.defs (F := Ideal)) (onTc (τ := Cert.KGatingIdeal.τ) (Cert.KGatingIdeal.main (F := Ideal))) ⟨m, fun _ => 0, g⟩ (fun r => (∀ c : Dev Cert.KGatingIdeal.nD,
      r.2.mem ((c.tc : Thread Cert.KGatingIdeal.nD Cert.KGatingIdeal.τ).loc Cert.KGatingIdeal.main_arg0) = m ((c.tc : Thread Cert.KGatingIdeal.nD Cert.KGatingIdeal.τ).loc Cert.KGatingIdeal.main_arg0)
      ∧ r.2.mem ((c.tc : Thread Cert.KGatingIdeal.nD Cert.KGatingIdeal.τ).loc Cert.KGatingIdeal.main_arg1) = m ((c.tc : Thread Cert.KGatingIdeal.nD Cert.KGatingIdeal.τ).loc Cert.KGatingIdeal.main_arg1)
      ∧ r.2.mem ((c.tc : Thread Cert.KGatingIdeal.nD Cert.KGatingIdeal.τ).loc Cert.KGatingIdeal.main_arg2) = m ((c.tc : Thread Cert.KGatingIdeal.nD Cert.KGatingIdeal.τ).loc Cert.KGatingIdeal.main_arg2)
      ∧ r.2.mem ((c.tc : Thread Cert.KGatingIdeal.nD Cert.KGatingIdeal.τ).loc Cert.KGatingIdeal.main_arg3) = m ((c.tc : Thread Cert.KGatingIdeal.nD Cert.KGatingIdeal.τ).loc Cert.KGatingIdeal.main_arg3))
      ∧ r.2.sem = fun _ => 0)

def quiescent_RGatingIdeal [hRGatingIdeal : Cert.RGatingIdeal.Facts] : Prop :=
  ∀ (m : (ℓ : Loc Cert.RGatingIdeal.nD Cert.RGatingIdeal.τ Cert.RGatingIdeal.sig) → Buf (Elt Ideal) ℓ) (g : Dev Cert.RGatingIdeal.nD → PrngReg), Pre_RGatingIdeal m →
    θ_run (Cert.RGatingIdeal.defs (F := Ideal)) (onTc (τ := Cert.RGatingIdeal.τ) (Cert.RGatingIdeal.main (F := Ideal))) ⟨m, fun _ => 0, g⟩ (fun r => (∀ c : Dev Cert.RGatingIdeal.nD,
      r.2.mem ((c.tc : Thread Cert.RGatingIdeal.nD Cert.RGatingIdeal.τ).loc Cert.RGatingIdeal.main_arg0) = m ((c.tc : Thread Cert.RGatingIdeal.nD Cert.RGatingIdeal.τ).loc Cert.RGatingIdeal.main_arg0)
      ∧ r.2.mem ((c.tc : Thread Cert.RGatingIdeal.nD Cert.RGatingIdeal.τ).loc Cert.RGatingIdeal.main_arg1) = m ((c.tc : Thread Cert.RGatingIdeal.nD Cert.RGatingIdeal.τ).loc Cert.RGatingIdeal.main_arg1)
      ∧ r.2.mem ((c.tc : Thread Cert.RGatingIdeal.nD Cert.RGatingIdeal.τ).loc Cert.RGatingIdeal.main_arg2) = m ((c.tc : Thread Cert.RGatingIdeal.nD Cert.RGatingIdeal.τ).loc Cert.RGatingIdeal.main_arg2)
      ∧ r.2.mem ((c.tc : Thread Cert.RGatingIdeal.nD Cert.RGatingIdeal.τ).loc Cert.RGatingIdeal.main_arg3) = m ((c.tc : Thread Cert.RGatingIdeal.nD Cert.RGatingIdeal.τ).loc Cert.RGatingIdeal.main_arg3))
      ∧ r.2.sem = fun _ => 0)

def quiescent_KMerge [hKMerge : Cert.KMerge.Facts] : Prop :=
  ∀ (m : (ℓ : Loc Cert.KMerge.nD Cert.KMerge.τ Cert.KMerge.sig) → Buf (Elt Bits) ℓ) (g : Dev Cert.KMerge.nD → PrngReg), Pre_KMerge m →
    θ_run (Cert.KMerge.defs (F := Bits)) (onTc (τ := Cert.KMerge.τ) (Cert.KMerge.main (F := Bits))) ⟨m, fun _ => 0, g⟩ (fun r => (∀ c : Dev Cert.KMerge.nD,
      r.2.mem ((c.tc : Thread Cert.KMerge.nD Cert.KMerge.τ).loc Cert.KMerge.main_arg0) = m ((c.tc : Thread Cert.KMerge.nD Cert.KMerge.τ).loc Cert.KMerge.main_arg0)
      ∧ r.2.mem ((c.tc : Thread Cert.KMerge.nD Cert.KMerge.τ).loc Cert.KMerge.main_arg1) = m ((c.tc : Thread Cert.KMerge.nD Cert.KMerge.τ).loc Cert.KMerge.main_arg1)
      ∧ r.2.mem ((c.tc : Thread Cert.KMerge.nD Cert.KMerge.τ).loc Cert.KMerge.main_arg2) = m ((c.tc : Thread Cert.KMerge.nD Cert.KMerge.τ).loc Cert.KMerge.main_arg2)
      ∧ r.2.mem ((c.tc : Thread Cert.KMerge.nD Cert.KMerge.τ).loc Cert.KMerge.main_arg3) = m ((c.tc : Thread Cert.KMerge.nD Cert.KMerge.τ).loc Cert.KMerge.main_arg3)
      ∧ r.2.mem ((c.tc : Thread Cert.KMerge.nD Cert.KMerge.τ).loc Cert.KMerge.main_arg4) = m ((c.tc : Thread Cert.KMerge.nD Cert.KMerge.τ).loc Cert.KMerge.main_arg4)
      ∧ r.2.mem ((c.tc : Thread Cert.KMerge.nD Cert.KMerge.τ).loc Cert.KMerge.main_arg5) = m ((c.tc : Thread Cert.KMerge.nD Cert.KMerge.τ).loc Cert.KMerge.main_arg5)
      ∧ r.2.mem ((c.tc : Thread Cert.KMerge.nD Cert.KMerge.τ).loc Cert.KMerge.main_arg6) = m ((c.tc : Thread Cert.KMerge.nD Cert.KMerge.τ).loc Cert.KMerge.main_arg6)
      ∧ r.2.mem ((c.tc : Thread Cert.KMerge.nD Cert.KMerge.τ).loc Cert.KMerge.main_arg7) = m ((c.tc : Thread Cert.KMerge.nD Cert.KMerge.τ).loc Cert.KMerge.main_arg7))
      ∧ r.2.sem = fun _ => 0)

def quiescent_KMergeIdeal [hKMergeIdeal : Cert.KMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
      ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
      ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
      ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
      ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6)
      ∧ r.2.mem ((c.tc : Thread Cert.KMergeIdeal.nD Cert.KMergeIdeal.τ).loc Cert.KMergeIdeal.main_arg7) = m ((c.tc : Thread Cert.KMergeIdeal.nD Cert.KMergeIdeal.τ).loc Cert.KMergeIdeal.main_arg7))
      ∧ r.2.sem = fun _ => 0)

def quiescent_RMergeIdeal [hRMergeIdeal : Cert.RMergeIdeal.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2)
      ∧ r.2.mem ((c.tc : Thread Cert.RMergeIdeal.nD Cert.RMergeIdeal.τ).loc Cert.RMergeIdeal.main_arg3) = m ((c.tc : Thread Cert.RMergeIdeal.nD Cert.RMergeIdeal.τ).loc Cert.RMergeIdeal.main_arg3)
      ∧ r.2.mem ((c.tc : Thread Cert.RMergeIdeal.nD Cert.RMergeIdeal.τ).loc Cert.RMergeIdeal.main_arg4) = m ((c.tc : Thread Cert.RMergeIdeal.nD Cert.RMergeIdeal.τ).loc Cert.RMergeIdeal.main_arg4)
      ∧ r.2.mem ((c.tc : Thread Cert.RMergeIdeal.nD Cert.RMergeIdeal.τ).loc Cert.RMergeIdeal.main_arg5) = m ((c.tc : Thread Cert.RMergeIdeal.nD Cert.RMergeIdeal.τ).loc Cert.RMergeIdeal.main_arg5)
      ∧ r.2.mem ((c.tc : Thread Cert.RMergeIdeal.nD Cert.RMergeIdeal.τ).loc Cert.RMergeIdeal.main_arg6) = m ((c.tc : Thread Cert.RMergeIdeal.nD Cert.RMergeIdeal.τ).loc Cert.RMergeIdeal.main_arg6)
      ∧ r.2.mem ((c.tc : Thread Cert.RMergeIdeal.nD Cert.RMergeIdeal.τ).loc Cert.RMergeIdeal.main_arg7) = m ((c.tc : Thread Cert.RMergeIdeal.nD Cert.RMergeIdeal.τ).loc Cert.RMergeIdeal.main_arg7))
      ∧ r.2.sem = fun _ => 0)

def quiescent_KOutproj [hKOutproj : Cert.KOutproj.Facts] : Prop :=
  ∀ (m : (ℓ : Loc Cert.KOutproj.nD Cert.KOutproj.τ Cert.KOutproj.sig) → Buf (Elt Bits) ℓ) (g : Dev Cert.KOutproj.nD → PrngReg), Pre_KOutproj m →
    θ_run (Cert.KOutproj.defs (F := Bits)) (onTc (τ := Cert.KOutproj.τ) (Cert.KOutproj.main (F := Bits))) ⟨m, fun _ => 0, g⟩ (fun r => (∀ c : Dev Cert.KOutproj.nD,
      r.2.mem ((c.tc : Thread Cert.KOutproj.nD Cert.KOutproj.τ).loc Cert.KOutproj.main_arg0) = m ((c.tc : Thread Cert.KOutproj.nD Cert.KOutproj.τ).loc Cert.KOutproj.main_arg0)
      ∧ r.2.mem ((c.tc : Thread Cert.KOutproj.nD Cert.KOutproj.τ).loc Cert.KOutproj.main_arg1) = m ((c.tc : Thread Cert.KOutproj.nD Cert.KOutproj.τ).loc Cert.KOutproj.main_arg1)
      ∧ r.2.mem ((c.tc : Thread Cert.KOutproj.nD Cert.KOutproj.τ).loc Cert.KOutproj.main_arg2) = m ((c.tc : Thread Cert.KOutproj.nD Cert.KOutproj.τ).loc Cert.KOutproj.main_arg2)
      ∧ r.2.mem ((c.tc : Thread Cert.KOutproj.nD Cert.KOutproj.τ).loc Cert.KOutproj.main_arg3) = m ((c.tc : Thread Cert.KOutproj.nD Cert.KOutproj.τ).loc Cert.KOutproj.main_arg3))
      ∧ r.2.sem = fun _ => 0)

def quiescent_KOutprojIdeal [hKOutprojIdeal : Cert.KOutprojIdeal.Facts] : Prop :=
  ∀ (m : (ℓ : Loc Cert.KOutprojIdeal.nD Cert.KOutprojIdeal.τ Cert.KOutprojIdeal.sig) → Buf (Elt Ideal) ℓ) (g : Dev Cert.KOutprojIdeal.nD → PrngReg), Pre_KOutprojIdeal m →
    θ_run (Cert.KOutprojIdeal.defs (F := Ideal)) (onTc (τ := Cert.KOutprojIdeal.τ) (Cert.KOutprojIdeal.main (F := Ideal))) ⟨m, fun _ => 0, g⟩ (fun r => (∀ c : Dev Cert.KOutprojIdeal.nD,
      r.2.mem ((c.tc : Thread Cert.KOutprojIdeal.nD Cert.KOutprojIdeal.τ).loc Cert.KOutprojIdeal.main_arg0) = m ((c.tc : Thread Cert.KOutprojIdeal.nD Cert.KOutprojIdeal.τ).loc Cert.KOutprojIdeal.main_arg0)
      ∧ r.2.mem ((c.tc : Thread Cert.KOutprojIdeal.nD Cert.KOutprojIdeal.τ).loc Cert.KOutprojIdeal.main_arg1) = m ((c.tc : Thread Cert.KOutprojIdeal.nD Cert.KOutprojIdeal.τ).loc Cert.KOutprojIdeal.main_arg1)
      ∧ r.2.mem ((c.tc : Thread Cert.KOutprojIdeal.nD Cert.KOutprojIdeal.τ).loc Cert.KOutprojIdeal.main_arg2) = m ((c.tc : Thread Cert.KOutprojIdeal.nD Cert.KOutprojIdeal.τ).loc Cert.KOutprojIdeal.main_arg2)
      ∧ r.2.mem ((c.tc : Thread Cert.KOutprojIdeal.nD Cert.KOutprojIdeal.τ).loc Cert.KOutprojIdeal.main_arg3) = m ((c.tc : Thread Cert.KOutprojIdeal.nD Cert.KOutprojIdeal.τ).loc Cert.KOutprojIdeal.main_arg3))
      ∧ r.2.sem = fun _ => 0)

def quiescent_ROutprojIdeal [hROutprojIdeal : Cert.ROutprojIdeal.Facts] : Prop :=
  ∀ (m : (ℓ : Loc Cert.ROutprojIdeal.nD Cert.ROutprojIdeal.τ Cert.ROutprojIdeal.sig) → Buf (Elt Ideal) ℓ) (g : Dev Cert.ROutprojIdeal.nD → PrngReg), Pre_ROutprojIdeal m →
    θ_run (Cert.ROutprojIdeal.defs (F := Ideal)) (onTc (τ := Cert.ROutprojIdeal.τ) (Cert.ROutprojIdeal.main (F := Ideal))) ⟨m, fun _ => 0, g⟩ (fun r => (∀ c : Dev Cert.ROutprojIdeal.nD,
      r.2.mem ((c.tc : Thread Cert.ROutprojIdeal.nD Cert.ROutprojIdeal.τ).loc Cert.ROutprojIdeal.main_arg0) = m ((c.tc : Thread Cert.ROutprojIdeal.nD Cert.ROutprojIdeal.τ).loc Cert.ROutprojIdeal.main_arg0)
      ∧ r.2.mem ((c.tc : Thread Cert.ROutprojIdeal.nD Cert.ROutprojIdeal.τ).loc Cert.ROutprojIdeal.main_arg1) = m ((c.tc : Thread Cert.ROutprojIdeal.nD Cert.ROutprojIdeal.τ).loc Cert.ROutprojIdeal.main_arg1)
      ∧ r.2.mem ((c.tc : Thread Cert.ROutprojIdeal.nD Cert.ROutprojIdeal.τ).loc Cert.ROutprojIdeal.main_arg2) = m ((c.tc : Thread Cert.ROutprojIdeal.nD Cert.ROutprojIdeal.τ).loc Cert.ROutprojIdeal.main_arg2)
      ∧ r.2.mem ((c.tc : Thread Cert.ROutprojIdeal.nD Cert.ROutprojIdeal.τ).loc Cert.ROutprojIdeal.main_arg3) = m ((c.tc : Thread Cert.ROutprojIdeal.nD Cert.ROutprojIdeal.τ).loc Cert.ROutprojIdeal.main_arg3))
      ∧ r.2.sem = fun _ => 0)

def quiescent_KProjatt [hKProjatt : Cert.KProjatt.Facts] : Prop :=
  ∀ (m : (ℓ : Loc Cert.KProjatt.nD Cert.KProjatt.τ Cert.KProjatt.sig) → Buf (Elt Bits) ℓ) (g : Dev Cert.KProjatt.nD → PrngReg), Pre_KProjatt m →
    θ_run (Cert.KProjatt.defs (F := Bits)) (onTc (τ := Cert.KProjatt.τ) (Cert.KProjatt.main (F := Bits))) ⟨m, fun _ => 0, g⟩ (fun r => (∀ c : Dev Cert.KProjatt.nD,
      r.2.mem ((c.tc : Thread Cert.KProjatt.nD Cert.KProjatt.τ).loc Cert.KProjatt.main_arg0) = m ((c.tc : Thread Cert.KProjatt.nD Cert.KProjatt.τ).loc Cert.KProjatt.main_arg0)
      ∧ r.2.mem ((c.tc : Thread Cert.KProjatt.nD Cert.KProjatt.τ).loc Cert.KProjatt.main_arg1) = m ((c.tc : Thread Cert.KProjatt.nD Cert.KProjatt.τ).loc Cert.KProjatt.main_arg1))
      ∧ r.2.sem = fun _ => 0)

def quiescent_KProjattIdeal [hKProjattIdeal : Cert.KProjattIdeal.Facts] : Prop :=
  ∀ (m : (ℓ : Loc Cert.KProjattIdeal.nD Cert.KProjattIdeal.τ Cert.KProjattIdeal.sig) → Buf (Elt Ideal) ℓ) (g : Dev Cert.KProjattIdeal.nD → PrngReg), Pre_KProjattIdeal m →
    θ_run (Cert.KProjattIdeal.defs (F := Ideal)) (onTc (τ := Cert.KProjattIdeal.τ) (Cert.KProjattIdeal.main (F := Ideal))) ⟨m, fun _ => 0, g⟩ (fun r => (∀ c : Dev Cert.KProjattIdeal.nD,
      r.2.mem ((c.tc : Thread Cert.KProjattIdeal.nD Cert.KProjattIdeal.τ).loc Cert.KProjattIdeal.main_arg0) = m ((c.tc : Thread Cert.KProjattIdeal.nD Cert.KProjattIdeal.τ).loc Cert.KProjattIdeal.main_arg0)
      ∧ r.2.mem ((c.tc : Thread Cert.KProjattIdeal.nD Cert.KProjattIdeal.τ).loc Cert.KProjattIdeal.main_arg1) = m ((c.tc : Thread Cert.KProjattIdeal.nD Cert.KProjattIdeal.τ).loc Cert.KProjattIdeal.main_arg1))
      ∧ r.2.sem = fun _ => 0)

def quiescent_RProjattIdeal [hRProjattIdeal : Cert.RProjattIdeal.Facts] : Prop :=
  ∀ (m : (ℓ : Loc Cert.RProjattIdeal.nD Cert.RProjattIdeal.τ Cert.RProjattIdeal.sig) → Buf (Elt Ideal) ℓ) (g : Dev Cert.RProjattIdeal.nD → PrngReg), Pre_RProjattIdeal m →
    θ_run (Cert.RProjattIdeal.defs (F := Ideal)) (onTc (τ := Cert.RProjattIdeal.τ) (Cert.RProjattIdeal.main (F := Ideal))) ⟨m, fun _ => 0, g⟩ (fun r => (∀ c : Dev Cert.RProjattIdeal.nD,
      r.2.mem ((c.tc : Thread Cert.RProjattIdeal.nD Cert.RProjattIdeal.τ).loc Cert.RProjattIdeal.main_arg0) = m ((c.tc : Thread Cert.RProjattIdeal.nD Cert.RProjattIdeal.τ).loc Cert.RProjattIdeal.main_arg0)
      ∧ r.2.mem ((c.tc : Thread Cert.RProjattIdeal.nD Cert.RProjattIdeal.τ).loc Cert.RProjattIdeal.main_arg1) = m ((c.tc : Thread Cert.RProjattIdeal.nD Cert.RProjattIdeal.τ).loc Cert.RProjattIdeal.main_arg1))
      ∧ r.2.sem = fun _ => 0)

def quiescent_KMixnorm [hKMixnorm : Cert.KMixnorm.Facts] : Prop :=
  ∀ (m : (ℓ : Loc Cert.KMixnorm.nD Cert.KMixnorm.τ Cert.KMixnorm.sig) → Buf (Elt Bits) ℓ) (g : Dev Cert.KMixnorm.nD → PrngReg), Pre_KMixnorm m →
    θ_run (Cert.KMixnorm.defs (F := Bits)) (onTc (τ := Cert.KMixnorm.τ) (Cert.KMixnorm.main (F := Bits))) ⟨m, fun _ => 0, g⟩ (fun r => (∀ c : Dev Cert.KMixnorm.nD,
      r.2.mem ((c.tc : Thread Cert.KMixnorm.nD Cert.KMixnorm.τ).loc Cert.KMixnorm.main_arg0) = m ((c.tc : Thread Cert.KMixnorm.nD Cert.KMixnorm.τ).loc Cert.KMixnorm.main_arg0)
      ∧ r.2.mem ((c.tc : Thread Cert.KMixnorm.nD Cert.KMixnorm.τ).loc Cert.KMixnorm.main_arg1) = m ((c.tc : Thread Cert.KMixnorm.nD Cert.KMixnorm.τ).loc Cert.KMixnorm.main_arg1))
      ∧ r.2.sem = fun _ => 0)

def quiescent_KMixnormIdeal [hKMixnormIdeal : Cert.KMixnormIdeal.Facts] : Prop :=
  ∀ (m : (ℓ : Loc Cert.KMixnormIdeal.nD Cert.KMixnormIdeal.τ Cert.KMixnormIdeal.sig) → Buf (Elt Ideal) ℓ) (g : Dev Cert.KMixnormIdeal.nD → PrngReg), Pre_KMixnormIdeal m →
    θ_run (Cert.KMixnormIdeal.defs (F := Ideal)) (onTc (τ := Cert.KMixnormIdeal.τ) (Cert.KMixnormIdeal.main (F := Ideal))) ⟨m, fun _ => 0, g⟩ (fun r => (∀ c : Dev Cert.KMixnormIdeal.nD,
      r.2.mem ((c.tc : Thread Cert.KMixnormIdeal.nD Cert.KMixnormIdeal.τ).loc Cert.KMixnormIdeal.main_arg0) = m ((c.tc : Thread Cert.KMixnormIdeal.nD Cert.KMixnormIdeal.τ).loc Cert.KMixnormIdeal.main_arg0)
      ∧ r.2.mem ((c.tc : Thread Cert.KMixnormIdeal.nD Cert.KMixnormIdeal.τ).loc Cert.KMixnormIdeal.main_arg1) = m ((c.tc : Thread Cert.KMixnormIdeal.nD Cert.KMixnormIdeal.τ).loc Cert.KMixnormIdeal.main_arg1))
      ∧ r.2.sem = fun _ => 0)

def quiescent_RMixnormIdeal [hRMixnormIdeal : Cert.RMixnormIdeal.Facts] : Prop :=
  ∀ (m : (ℓ : Loc Cert.RMixnormIdeal.nD Cert.RMixnormIdeal.τ Cert.RMixnormIdeal.sig) → Buf (Elt Ideal) ℓ) (g : Dev Cert.RMixnormIdeal.nD → PrngReg), Pre_RMixnormIdeal m →
    θ_run (Cert.RMixnormIdeal.defs (F := Ideal)) (onTc (τ := Cert.RMixnormIdeal.τ) (Cert.RMixnormIdeal.main (F := Ideal))) ⟨m, fun _ => 0, g⟩ (fun r => (∀ c : Dev Cert.RMixnormIdeal.nD,
      r.2.mem ((c.tc : Thread Cert.RMixnormIdeal.nD Cert.RMixnormIdeal.τ).loc Cert.RMixnormIdeal.main_arg0) = m ((c.tc : Thread Cert.RMixnormIdeal.nD Cert.RMixnormIdeal.τ).loc Cert.RMixnormIdeal.main_arg0)
      ∧ r.2.mem ((c.tc : Thread Cert.RMixnormIdeal.nD Cert.RMixnormIdeal.τ).loc Cert.RMixnormIdeal.main_arg1) = m ((c.tc : Thread Cert.RMixnormIdeal.nD Cert.RMixnormIdeal.τ).loc Cert.RMixnormIdeal.main_arg1))
      ∧ r.2.sem = fun _ => 0)

def quiescent_KFinal [hKFinal : Cert.KFinal.Facts] : Prop :=
  ∀ (m : (ℓ : Loc Cert.KFinal.nD Cert.KFinal.τ Cert.KFinal.sig) → Buf (Elt Bits) ℓ) (g : Dev Cert.KFinal.nD → PrngReg), Pre_KFinal m →
    θ_run (Cert.KFinal.defs (F := Bits)) (onTc (τ := Cert.KFinal.τ) (Cert.KFinal.main (F := Bits))) ⟨m, fun _ => 0, g⟩ (fun r => (∀ c : Dev Cert.KFinal.nD,
      r.2.mem ((c.tc : Thread Cert.KFinal.nD Cert.KFinal.τ).loc Cert.KFinal.main_arg0) = m ((c.tc : Thread Cert.KFinal.nD Cert.KFinal.τ).loc Cert.KFinal.main_arg0)
      ∧ r.2.mem ((c.tc : Thread Cert.KFinal.nD Cert.KFinal.τ).loc Cert.KFinal.main_arg1) = m ((c.tc : Thread Cert.KFinal.nD Cert.KFinal.τ).loc Cert.KFinal.main_arg1))
      ∧ r.2.sem = fun _ => 0)

def quiescent_KFinalIdeal [hKFinalIdeal : Cert.KFinalIdeal.Facts] : Prop :=
  ∀ (m : (ℓ : Loc Cert.KFinalIdeal.nD Cert.KFinalIdeal.τ Cert.KFinalIdeal.sig) → Buf (Elt Ideal) ℓ) (g : Dev Cert.KFinalIdeal.nD → PrngReg), Pre_KFinalIdeal m →
    θ_run (Cert.KFinalIdeal.defs (F := Ideal)) (onTc (τ := Cert.KFinalIdeal.τ) (Cert.KFinalIdeal.main (F := Ideal))) ⟨m, fun _ => 0, g⟩ (fun r => (∀ c : Dev Cert.KFinalIdeal.nD,
      r.2.mem ((c.tc : Thread Cert.KFinalIdeal.nD Cert.KFinalIdeal.τ).loc Cert.KFinalIdeal.main_arg0) = m ((c.tc : Thread Cert.KFinalIdeal.nD Cert.KFinalIdeal.τ).loc Cert.KFinalIdeal.main_arg0)
      ∧ r.2.mem ((c.tc : Thread Cert.KFinalIdeal.nD Cert.KFinalIdeal.τ).loc Cert.KFinalIdeal.main_arg1) = m ((c.tc : Thread Cert.KFinalIdeal.nD Cert.KFinalIdeal.τ).loc Cert.KFinalIdeal.main_arg1))
      ∧ r.2.sem = fun _ => 0)

def quiescent_RFinalIdeal [hRFinalIdeal : Cert.RFinalIdeal.Facts] : Prop :=
  ∀ (m : (ℓ : Loc Cert.RFinalIdeal.nD Cert.RFinalIdeal.τ Cert.RFinalIdeal.sig) → Buf (Elt Ideal) ℓ) (g : Dev Cert.RFinalIdeal.nD → PrngReg), Pre_RFinalIdeal m →
    θ_run (Cert.RFinalIdeal.defs (F := Ideal)) (onTc (τ := Cert.RFinalIdeal.τ) (Cert.RFinalIdeal.main (F := Ideal))) ⟨m, fun _ => 0, g⟩ (fun r => (∀ c : Dev Cert.RFinalIdeal.nD,
      r.2.mem ((c.tc : Thread Cert.RFinalIdeal.nD Cert.RFinalIdeal.τ).loc Cert.RFinalIdeal.main_arg0) = m ((c.tc : Thread Cert.RFinalIdeal.nD Cert.RFinalIdeal.τ).loc Cert.RFinalIdeal.main_arg0)
      ∧ r.2.mem ((c.tc : Thread Cert.RFinalIdeal.nD Cert.RFinalIdeal.τ).loc Cert.RFinalIdeal.main_arg1) = m ((c.tc : Thread Cert.RFinalIdeal.nD Cert.RFinalIdeal.τ).loc Cert.RFinalIdeal.main_arg1))
      ∧ r.2.sem = fun _ => 0)

def quiescent_KXq [hKXq : Cert.KXq.Facts] : Prop :=
  ∀ (m : (ℓ : Loc Cert.KXq.nD Cert.KXq.τ Cert.KXq.sig) → Buf (Elt Bits) ℓ) (g : Dev Cert.KXq.nD → PrngReg), Pre_KXq m →
    θ_run (Cert.KXq.defs (F := Bits)) (onTc (τ := Cert.KXq.τ) (Cert.KXq.main (F := Bits))) ⟨m, fun _ => 0, g⟩ (fun r => (∀ c : Dev Cert.KXq.nD,
      r.2.mem ((c.tc : Thread Cert.KXq.nD Cert.KXq.τ).loc Cert.KXq.main_arg0) = m ((c.tc : Thread Cert.KXq.nD Cert.KXq.τ).loc Cert.KXq.main_arg0)
      ∧ r.2.mem ((c.tc : Thread Cert.KXq.nD Cert.KXq.τ).loc Cert.KXq.main_arg1) = m ((c.tc : Thread Cert.KXq.nD Cert.KXq.τ).loc Cert.KXq.main_arg1)
      ∧ r.2.mem ((c.tc : Thread Cert.KXq.nD Cert.KXq.τ).loc Cert.KXq.main_arg2) = m ((c.tc : Thread Cert.KXq.nD Cert.KXq.τ).loc Cert.KXq.main_arg2))
      ∧ r.2.sem = fun _ => 0)

def quiescent_KXqIdeal [hKXqIdeal : Cert.KXqIdeal.Facts] : Prop :=
  ∀ (m : (ℓ : Loc Cert.KXqIdeal.nD Cert.KXqIdeal.τ Cert.KXqIdeal.sig) → Buf (Elt Ideal) ℓ) (g : Dev Cert.KXqIdeal.nD → PrngReg), Pre_KXqIdeal m →
    θ_run (Cert.KXqIdeal.defs (F := Ideal)) (onTc (τ := Cert.KXqIdeal.τ) (Cert.KXqIdeal.main (F := Ideal))) ⟨m, fun _ => 0, g⟩ (fun r => (∀ c : Dev Cert.KXqIdeal.nD,
      r.2.mem ((c.tc : Thread Cert.KXqIdeal.nD Cert.KXqIdeal.τ).loc Cert.KXqIdeal.main_arg0) = m ((c.tc : Thread Cert.KXqIdeal.nD Cert.KXqIdeal.τ).loc Cert.KXqIdeal.main_arg0)
      ∧ r.2.mem ((c.tc : Thread Cert.KXqIdeal.nD Cert.KXqIdeal.τ).loc Cert.KXqIdeal.main_arg1) = m ((c.tc : Thread Cert.KXqIdeal.nD Cert.KXqIdeal.τ).loc Cert.KXqIdeal.main_arg1)
      ∧ r.2.mem ((c.tc : Thread Cert.KXqIdeal.nD Cert.KXqIdeal.τ).loc Cert.KXqIdeal.main_arg2) = m ((c.tc : Thread Cert.KXqIdeal.nD Cert.KXqIdeal.τ).loc Cert.KXqIdeal.main_arg2))
      ∧ r.2.sem = fun _ => 0)

def quiescent_RXqIdeal [hRXqIdeal : Cert.RXqIdeal.Facts] : Prop :=
  ∀ (m : (ℓ : Loc Cert.RXqIdeal.nD Cert.RXqIdeal.τ Cert.RXqIdeal.sig) → Buf (Elt Ideal) ℓ) (g : Dev Cert.RXqIdeal.nD → PrngReg), Pre_RXqIdeal m →
    θ_run (Cert.RXqIdeal.defs (F := Ideal)) (onTc (τ := Cert.RXqIdeal.τ) (Cert.RXqIdeal.main (F := Ideal))) ⟨m, fun _ => 0, g⟩ (fun r => (∀ c : Dev Cert.RXqIdeal.nD,
      r.2.mem ((c.tc : Thread Cert.RXqIdeal.nD Cert.RXqIdeal.τ).loc Cert.RXqIdeal.main_arg0) = m ((c.tc : Thread Cert.RXqIdeal.nD Cert.RXqIdeal.τ).loc Cert.RXqIdeal.main_arg0)
      ∧ r.2.mem ((c.tc : Thread Cert.RXqIdeal.nD Cert.RXqIdeal.τ).loc Cert.RXqIdeal.main_arg1) = m ((c.tc : Thread Cert.RXqIdeal.nD Cert.RXqIdeal.τ).loc Cert.RXqIdeal.main_arg1)
      ∧ r.2.mem ((c.tc : Thread Cert.RXqIdeal.nD Cert.RXqIdeal.τ).loc Cert.RXqIdeal.main_arg2) = m ((c.tc : Thread Cert.RXqIdeal.nD Cert.RXqIdeal.τ).loc Cert.RXqIdeal.main_arg2))
      ∧ r.2.sem = fun _ => 0)

def quiescent_KXkv [hKXkv : Cert.KXkv.Facts] : Prop :=
  ∀ (m : (ℓ : Loc Cert.KXkv.nD Cert.KXkv.τ Cert.KXkv.sig) → Buf (Elt Bits) ℓ) (g : Dev Cert.KXkv.nD → PrngReg), Pre_KXkv m →
    θ_run (Cert.KXkv.defs (F := Bits)) (onTc (τ := Cert.KXkv.τ) (Cert.KXkv.main (F := Bits))) ⟨m, fun _ => 0, g⟩ (fun r => (∀ c : Dev Cert.KXkv.nD,
      r.2.mem ((c.tc : Thread Cert.KXkv.nD Cert.KXkv.τ).loc Cert.KXkv.main_arg0) = m ((c.tc : Thread Cert.KXkv.nD Cert.KXkv.τ).loc Cert.KXkv.main_arg0)
      ∧ r.2.mem ((c.tc : Thread Cert.KXkv.nD Cert.KXkv.τ).loc Cert.KXkv.main_arg1) = m ((c.tc : Thread Cert.KXkv.nD Cert.KXkv.τ).loc Cert.KXkv.main_arg1)
      ∧ r.2.mem ((c.tc : Thread Cert.KXkv.nD Cert.KXkv.τ).loc Cert.KXkv.main_arg2) = m ((c.tc : Thread Cert.KXkv.nD Cert.KXkv.τ).loc Cert.KXkv.main_arg2))
      ∧ r.2.sem = fun _ => 0)

def quiescent_KXkvIdeal [hKXkvIdeal : Cert.KXkvIdeal.Facts] : Prop :=
  ∀ (m : (ℓ : Loc Cert.KXkvIdeal.nD Cert.KXkvIdeal.τ Cert.KXkvIdeal.sig) → Buf (Elt Ideal) ℓ) (g : Dev Cert.KXkvIdeal.nD → PrngReg), Pre_KXkvIdeal m →
    θ_run (Cert.KXkvIdeal.defs (F := Ideal)) (onTc (τ := Cert.KXkvIdeal.τ) (Cert.KXkvIdeal.main (F := Ideal))) ⟨m, fun _ => 0, g⟩ (fun r => (∀ c : Dev Cert.KXkvIdeal.nD,
      r.2.mem ((c.tc : Thread Cert.KXkvIdeal.nD Cert.KXkvIdeal.τ).loc Cert.KXkvIdeal.main_arg0) = m ((c.tc : Thread Cert.KXkvIdeal.nD Cert.KXkvIdeal.τ).loc Cert.KXkvIdeal.main_arg0)
      ∧ r.2.mem ((c.tc : Thread Cert.KXkvIdeal.nD Cert.KXkvIdeal.τ).loc Cert.KXkvIdeal.main_arg1) = m ((c.tc : Thread Cert.KXkvIdeal.nD Cert.KXkvIdeal.τ).loc Cert.KXkvIdeal.main_arg1)
      ∧ r.2.mem ((c.tc : Thread Cert.KXkvIdeal.nD Cert.KXkvIdeal.τ).loc Cert.KXkvIdeal.main_arg2) = m ((c.tc : Thread Cert.KXkvIdeal.nD Cert.KXkvIdeal.τ).loc Cert.KXkvIdeal.main_arg2))
      ∧ r.2.sem = fun _ => 0)

def quiescent_RXkvIdeal [hRXkvIdeal : Cert.RXkvIdeal.Facts] : Prop :=
  ∀ (m : (ℓ : Loc Cert.RXkvIdeal.nD Cert.RXkvIdeal.τ Cert.RXkvIdeal.sig) → Buf (Elt Ideal) ℓ) (g : Dev Cert.RXkvIdeal.nD → PrngReg), Pre_RXkvIdeal m →
    θ_run (Cert.RXkvIdeal.defs (F := Ideal)) (onTc (τ := Cert.RXkvIdeal.τ) (Cert.RXkvIdeal.main (F := Ideal))) ⟨m, fun _ => 0, g⟩ (fun r => (∀ c : Dev Cert.RXkvIdeal.nD,
      r.2.mem ((c.tc : Thread Cert.RXkvIdeal.nD Cert.RXkvIdeal.τ).loc Cert.RXkvIdeal.main_arg0) = m ((c.tc : Thread Cert.RXkvIdeal.nD Cert.RXkvIdeal.τ).loc Cert.RXkvIdeal.main_arg0)
      ∧ r.2.mem ((c.tc : Thread Cert.RXkvIdeal.nD Cert.RXkvIdeal.τ).loc Cert.RXkvIdeal.main_arg1) = m ((c.tc : Thread Cert.RXkvIdeal.nD Cert.RXkvIdeal.τ).loc Cert.RXkvIdeal.main_arg1)
      ∧ r.2.mem ((c.tc : Thread Cert.RXkvIdeal.nD Cert.RXkvIdeal.τ).loc Cert.RXkvIdeal.main_arg2) = m ((c.tc : Thread Cert.RXkvIdeal.nD Cert.RXkvIdeal.τ).loc Cert.RXkvIdeal.main_arg2))
      ∧ r.2.sem = fun _ => 0)

def quiescent_KXout [hKXout : Cert.KXout.Facts] : Prop :=
  ∀ (m : (ℓ : Loc Cert.KXout.nD Cert.KXout.τ Cert.KXout.sig) → Buf (Elt Bits) ℓ) (g : Dev Cert.KXout.nD → PrngReg), Pre_KXout m →
    θ_run (Cert.KXout.defs (F := Bits)) (onTc (τ := Cert.KXout.τ) (Cert.KXout.main (F := Bits))) ⟨m, fun _ => 0, g⟩ (fun r => (∀ c : Dev Cert.KXout.nD,
      r.2.mem ((c.tc : Thread Cert.KXout.nD Cert.KXout.τ).loc Cert.KXout.main_arg0) = m ((c.tc : Thread Cert.KXout.nD Cert.KXout.τ).loc Cert.KXout.main_arg0)
      ∧ r.2.mem ((c.tc : Thread Cert.KXout.nD Cert.KXout.τ).loc Cert.KXout.main_arg1) = m ((c.tc : Thread Cert.KXout.nD Cert.KXout.τ).loc Cert.KXout.main_arg1)
      ∧ r.2.mem ((c.tc : Thread Cert.KXout.nD Cert.KXout.τ).loc Cert.KXout.main_arg2) = m ((c.tc : Thread Cert.KXout.nD Cert.KXout.τ).loc Cert.KXout.main_arg2)
      ∧ r.2.mem ((c.tc : Thread Cert.KXout.nD Cert.KXout.τ).loc Cert.KXout.main_arg3) = m ((c.tc : Thread Cert.KXout.nD Cert.KXout.τ).loc Cert.KXout.main_arg3))
      ∧ r.2.sem = fun _ => 0)

def quiescent_KXoutIdeal [hKXoutIdeal : Cert.KXoutIdeal.Facts] : Prop :=
  ∀ (m : (ℓ : Loc Cert.KXoutIdeal.nD Cert.KXoutIdeal.τ Cert.KXoutIdeal.sig) → Buf (Elt Ideal) ℓ) (g : Dev Cert.KXoutIdeal.nD → PrngReg), Pre_KXoutIdeal m →
    θ_run (Cert.KXoutIdeal.defs (F := Ideal)) (onTc (τ := Cert.KXoutIdeal.τ) (Cert.KXoutIdeal.main (F := Ideal))) ⟨m, fun _ => 0, g⟩ (fun r => (∀ c : Dev Cert.KXoutIdeal.nD,
      r.2.mem ((c.tc : Thread Cert.KXoutIdeal.nD Cert.KXoutIdeal.τ).loc Cert.KXoutIdeal.main_arg0) = m ((c.tc : Thread Cert.KXoutIdeal.nD Cert.KXoutIdeal.τ).loc Cert.KXoutIdeal.main_arg0)
      ∧ r.2.mem ((c.tc : Thread Cert.KXoutIdeal.nD Cert.KXoutIdeal.τ).loc Cert.KXoutIdeal.main_arg1) = m ((c.tc : Thread Cert.KXoutIdeal.nD Cert.KXoutIdeal.τ).loc Cert.KXoutIdeal.main_arg1)
      ∧ r.2.mem ((c.tc : Thread Cert.KXoutIdeal.nD Cert.KXoutIdeal.τ).loc Cert.KXoutIdeal.main_arg2) = m ((c.tc : Thread Cert.KXoutIdeal.nD Cert.KXoutIdeal.τ).loc Cert.KXoutIdeal.main_arg2)
      ∧ r.2.mem ((c.tc : Thread Cert.KXoutIdeal.nD Cert.KXoutIdeal.τ).loc Cert.KXoutIdeal.main_arg3) = m ((c.tc : Thread Cert.KXoutIdeal.nD Cert.KXoutIdeal.τ).loc Cert.KXoutIdeal.main_arg3))
      ∧ r.2.sem = fun _ => 0)

def quiescent_RXoutIdeal [hRXoutIdeal : Cert.RXoutIdeal.Facts] : Prop :=
  ∀ (m : (ℓ : Loc Cert.RXoutIdeal.nD Cert.RXoutIdeal.τ Cert.RXoutIdeal.sig) → Buf (Elt Ideal) ℓ) (g : Dev Cert.RXoutIdeal.nD → PrngReg), Pre_RXoutIdeal m →
    θ_run (Cert.RXoutIdeal.defs (F := Ideal)) (onTc (τ := Cert.RXoutIdeal.τ) (Cert.RXoutIdeal.main (F := Ideal))) ⟨m, fun _ => 0, g⟩ (fun r => (∀ c : Dev Cert.RXoutIdeal.nD,
      r.2.mem ((c.tc : Thread Cert.RXoutIdeal.nD Cert.RXoutIdeal.τ).loc Cert.RXoutIdeal.main_arg0) = m ((c.tc : Thread Cert.RXoutIdeal.nD Cert.RXoutIdeal.τ).loc Cert.RXoutIdeal.main_arg0)
      ∧ r.2.mem ((c.tc : Thread Cert.RXoutIdeal.nD Cert.RXoutIdeal.τ).loc Cert.RXoutIdeal.main_arg1) = m ((c.tc : Thread Cert.RXoutIdeal.nD Cert.RXoutIdeal.τ).loc Cert.RXoutIdeal.main_arg1)
      ∧ r.2.mem ((c.tc : Thread Cert.RXoutIdeal.nD Cert.RXoutIdeal.τ).loc Cert.RXoutIdeal.main_arg2) = m ((c.tc : Thread Cert.RXoutIdeal.nD Cert.RXoutIdeal.τ).loc Cert.RXoutIdeal.main_arg2)
      ∧ r.2.mem ((c.tc : Thread Cert.RXoutIdeal.nD Cert.RXoutIdeal.τ).loc Cert.RXoutIdeal.main_arg3) = m ((c.tc : Thread Cert.RXoutIdeal.nD Cert.RXoutIdeal.τ).loc Cert.RXoutIdeal.main_arg3))
      ∧ r.2.sem = fun _ => 0)

def quiescent_KXattn [hKXattn : Cert.KXattn.Facts] : Prop :=
  ∀ (m : (ℓ : Loc Cert.KXattn.nD Cert.KXattn.τ Cert.KXattn.sig) → Buf (Elt Bits) ℓ) (g : Dev Cert.KXattn.nD → PrngReg), Pre_KXattn m →
    θ_run (Cert.KXattn.defs (F := Bits)) (onTc (τ := Cert.KXattn.τ) (Cert.KXattn.main (F := Bits))) ⟨m, fun _ => 0, g⟩ (fun r => (∀ c : Dev Cert.KXattn.nD,
      r.2.mem ((c.tc : Thread Cert.KXattn.nD Cert.KXattn.τ).loc Cert.KXattn.main_arg0) = m ((c.tc : Thread Cert.KXattn.nD Cert.KXattn.τ).loc Cert.KXattn.main_arg0)
      ∧ r.2.mem ((c.tc : Thread Cert.KXattn.nD Cert.KXattn.τ).loc Cert.KXattn.main_arg1) = m ((c.tc : Thread Cert.KXattn.nD Cert.KXattn.τ).loc Cert.KXattn.main_arg1)
      ∧ r.2.mem ((c.tc : Thread Cert.KXattn.nD Cert.KXattn.τ).loc Cert.KXattn.main_arg2) = m ((c.tc : Thread Cert.KXattn.nD Cert.KXattn.τ).loc Cert.KXattn.main_arg2))
      ∧ r.2.sem = fun _ => 0)

def quiescent_KXattnIdeal [hKXattnIdeal : Cert.KXattnIdeal.Facts] : Prop :=
  ∀ (m : (ℓ : Loc Cert.KXattnIdeal.nD Cert.KXattnIdeal.τ Cert.KXattnIdeal.sig) → Buf (Elt Ideal) ℓ) (g : Dev Cert.KXattnIdeal.nD → PrngReg), Pre_KXattnIdeal m →
    θ_run (Cert.KXattnIdeal.defs (F := Ideal)) (onTc (τ := Cert.KXattnIdeal.τ) (Cert.KXattnIdeal.main (F := Ideal))) ⟨m, fun _ => 0, g⟩ (fun r => (∀ c : Dev Cert.KXattnIdeal.nD,
      r.2.mem ((c.tc : Thread Cert.KXattnIdeal.nD Cert.KXattnIdeal.τ).loc Cert.KXattnIdeal.main_arg0) = m ((c.tc : Thread Cert.KXattnIdeal.nD Cert.KXattnIdeal.τ).loc Cert.KXattnIdeal.main_arg0)
      ∧ r.2.mem ((c.tc : Thread Cert.KXattnIdeal.nD Cert.KXattnIdeal.τ).loc Cert.KXattnIdeal.main_arg1) = m ((c.tc : Thread Cert.KXattnIdeal.nD Cert.KXattnIdeal.τ).loc Cert.KXattnIdeal.main_arg1)
      ∧ r.2.mem ((c.tc : Thread Cert.KXattnIdeal.nD Cert.KXattnIdeal.τ).loc Cert.KXattnIdeal.main_arg2) = m ((c.tc : Thread Cert.KXattnIdeal.nD Cert.KXattnIdeal.τ).loc Cert.KXattnIdeal.main_arg2))
      ∧ r.2.sem = fun _ => 0)

def quiescent_KXattnIdeal_pre_finite_queries_and_keys [hKXattnIdeal : Cert.KXattnIdeal.Facts] [hPre_finite_queries_and_keys : Cert.Pre_finite_queries_and_keys.Facts] : Prop :=
  ∀ (m : (ℓ : Loc Cert.KXattnIdeal.nD Cert.KXattnIdeal.τ Cert.KXattnIdeal.sig) → Buf (Elt Ideal) ℓ) (g : Dev Cert.KXattnIdeal.nD → PrngReg), Pre_KXattnIdeal_finite_queries_and_keys m →
    θ_run (Cert.KXattnIdeal.defs (F := Ideal)) (onTc (τ := Cert.KXattnIdeal.τ) (Cert.KXattnIdeal.main (F := Ideal))) ⟨m, fun _ => 0, g⟩ (fun r => (∀ c : Dev Cert.KXattnIdeal.nD,
      r.2.mem ((c.tc : Thread Cert.KXattnIdeal.nD Cert.KXattnIdeal.τ).loc Cert.KXattnIdeal.main_arg0) = m ((c.tc : Thread Cert.KXattnIdeal.nD Cert.KXattnIdeal.τ).loc Cert.KXattnIdeal.main_arg0)
      ∧ r.2.mem ((c.tc : Thread Cert.KXattnIdeal.nD Cert.KXattnIdeal.τ).loc Cert.KXattnIdeal.main_arg1) = m ((c.tc : Thread Cert.KXattnIdeal.nD Cert.KXattnIdeal.τ).loc Cert.KXattnIdeal.main_arg1)
      ∧ r.2.mem ((c.tc : Thread Cert.KXattnIdeal.nD Cert.KXattnIdeal.τ).loc Cert.KXattnIdeal.main_arg2) = m ((c.tc : Thread Cert.KXattnIdeal.nD Cert.KXattnIdeal.τ).loc Cert.KXattnIdeal.main_arg2))
      ∧ r.2.sem = fun _ => 0)

def quiescent_RXattnIdeal [hRXattnIdeal : Cert.RXattnIdeal.Facts] : Prop :=
  ∀ (m : (ℓ : Loc Cert.RXattnIdeal.nD Cert.RXattnIdeal.τ Cert.RXattnIdeal.sig) → Buf (Elt Ideal) ℓ) (g : Dev Cert.RXattnIdeal.nD → PrngReg), Pre_RXattnIdeal m →
    θ_run (Cert.RXattnIdeal.defs (F := Ideal)) (onTc (τ := Cert.RXattnIdeal.τ) (Cert.RXattnIdeal.main (F := Ideal))) ⟨m, fun _ => 0, g⟩ (fun r => (∀ c : Dev Cert.RXattnIdeal.nD,
      r.2.mem ((c.tc : Thread Cert.RXattnIdeal.nD Cert.RXattnIdeal.τ).loc Cert.RXattnIdeal.main_arg0) = m ((c.tc : Thread Cert.RXattnIdeal.nD Cert.RXattnIdeal.τ).loc Cert.RXattnIdeal.main_arg0)
      ∧ r.2.mem ((c.tc : Thread Cert.RXattnIdeal.nD Cert.RXattnIdeal.τ).loc Cert.RXattnIdeal.main_arg1) = m ((c.tc : Thread Cert.RXattnIdeal.nD Cert.RXattnIdeal.τ).loc Cert.RXattnIdeal.main_arg1)
      ∧ r.2.mem ((c.tc : Thread Cert.RXattnIdeal.nD Cert.RXattnIdeal.τ).loc Cert.RXattnIdeal.main_arg2) = m ((c.tc : Thread Cert.RXattnIdeal.nD Cert.RXattnIdeal.τ).loc Cert.RXattnIdeal.main_arg2))
      ∧ r.2.sem = fun _ => 0)

def quiescent_RXattnIdeal_pre_finite_queries_and_keys [hRXattnIdeal : Cert.RXattnIdeal.Facts] [hPre_finite_queries_and_keys : Cert.Pre_finite_queries_and_keys.Facts] : Prop :=
  ∀ (m : (ℓ : Loc Cert.RXattnIdeal.nD Cert.RXattnIdeal.τ Cert.RXattnIdeal.sig) → Buf (Elt Ideal) ℓ) (g : Dev Cert.RXattnIdeal.nD → PrngReg), Pre_RXattnIdeal_finite_queries_and_keys m →
    θ_run (Cert.RXattnIdeal.defs (F := Ideal)) (onTc (τ := Cert.RXattnIdeal.τ) (Cert.RXattnIdeal.main (F := Ideal))) ⟨m, fun _ => 0, g⟩ (fun r => (∀ c : Dev Cert.RXattnIdeal.nD,
      r.2.mem ((c.tc : Thread Cert.RXattnIdeal.nD Cert.RXattnIdeal.τ).loc Cert.RXattnIdeal.main_arg0) = m ((c.tc : Thread Cert.RXattnIdeal.nD Cert.RXattnIdeal.τ).loc Cert.RXattnIdeal.main_arg0)
      ∧ r.2.mem ((c.tc : Thread Cert.RXattnIdeal.nD Cert.RXattnIdeal.τ).loc Cert.RXattnIdeal.main_arg1) = m ((c.tc : Thread Cert.RXattnIdeal.nD Cert.RXattnIdeal.τ).loc Cert.RXattnIdeal.main_arg1)
      ∧ r.2.mem ((c.tc : Thread Cert.RXattnIdeal.nD Cert.RXattnIdeal.τ).loc Cert.RXattnIdeal.main_arg2) = m ((c.tc : Thread Cert.RXattnIdeal.nD Cert.RXattnIdeal.τ).loc Cert.RXattnIdeal.main_arg2))
      ∧ r.2.sem = fun _ => 0)

def quiescent_KZa [hKZa : Cert.KZa.Facts] : Prop :=
  ∀ (m : (ℓ : Loc Cert.KZa.nD Cert.KZa.τ Cert.KZa.sig) → Buf (Elt Bits) ℓ) (g : Dev Cert.KZa.nD → PrngReg), Pre_KZa m →
    θ_run (Cert.KZa.defs (F := Bits)) (onTc (τ := Cert.KZa.τ) (Cert.KZa.main (F := Bits))) ⟨m, fun _ => 0, g⟩ (fun r => (∀ c : Dev Cert.KZa.nD,
      r.2.mem ((c.tc : Thread Cert.KZa.nD Cert.KZa.τ).loc Cert.KZa.main_arg0) = m ((c.tc : Thread Cert.KZa.nD Cert.KZa.τ).loc Cert.KZa.main_arg0)
      ∧ r.2.mem ((c.tc : Thread Cert.KZa.nD Cert.KZa.τ).loc Cert.KZa.main_arg1) = m ((c.tc : Thread Cert.KZa.nD Cert.KZa.τ).loc Cert.KZa.main_arg1)
      ∧ r.2.mem ((c.tc : Thread Cert.KZa.nD Cert.KZa.τ).loc Cert.KZa.main_arg2) = m ((c.tc : Thread Cert.KZa.nD Cert.KZa.τ).loc Cert.KZa.main_arg2)
      ∧ r.2.mem ((c.tc : Thread Cert.KZa.nD Cert.KZa.τ).loc Cert.KZa.main_arg3) = m ((c.tc : Thread Cert.KZa.nD Cert.KZa.τ).loc Cert.KZa.main_arg3))
      ∧ r.2.sem = fun _ => 0)

def quiescent_KZaIdeal [hKZaIdeal : Cert.KZaIdeal.Facts] : Prop :=
  ∀ (m : (ℓ : Loc Cert.KZaIdeal.nD Cert.KZaIdeal.τ Cert.KZaIdeal.sig) → Buf (Elt Ideal) ℓ) (g : Dev Cert.KZaIdeal.nD → PrngReg), Pre_KZaIdeal m →
    θ_run (Cert.KZaIdeal.defs (F := Ideal)) (onTc (τ := Cert.KZaIdeal.τ) (Cert.KZaIdeal.main (F := Ideal))) ⟨m, fun _ => 0, g⟩ (fun r => (∀ c : Dev Cert.KZaIdeal.nD,
      r.2.mem ((c.tc : Thread Cert.KZaIdeal.nD Cert.KZaIdeal.τ).loc Cert.KZaIdeal.main_arg0) = m ((c.tc : Thread Cert.KZaIdeal.nD Cert.KZaIdeal.τ).loc Cert.KZaIdeal.main_arg0)
      ∧ r.2.mem ((c.tc : Thread Cert.KZaIdeal.nD Cert.KZaIdeal.τ).loc Cert.KZaIdeal.main_arg1) = m ((c.tc : Thread Cert.KZaIdeal.nD Cert.KZaIdeal.τ).loc Cert.KZaIdeal.main_arg1)
      ∧ r.2.mem ((c.tc : Thread Cert.KZaIdeal.nD Cert.KZaIdeal.τ).loc Cert.KZaIdeal.main_arg2) = m ((c.tc : Thread Cert.KZaIdeal.nD Cert.KZaIdeal.τ).loc Cert.KZaIdeal.main_arg2)
      ∧ r.2.mem ((c.tc : Thread Cert.KZaIdeal.nD Cert.KZaIdeal.τ).loc Cert.KZaIdeal.main_arg3) = m ((c.tc : Thread Cert.KZaIdeal.nD Cert.KZaIdeal.τ).loc Cert.KZaIdeal.main_arg3))
      ∧ r.2.sem = fun _ => 0)

def quiescent_RZaIdeal [hRZaIdeal : Cert.RZaIdeal.Facts] : Prop :=
  ∀ (m : (ℓ : Loc Cert.RZaIdeal.nD Cert.RZaIdeal.τ Cert.RZaIdeal.sig) → Buf (Elt Ideal) ℓ) (g : Dev Cert.RZaIdeal.nD → PrngReg), Pre_RZaIdeal m →
    θ_run (Cert.RZaIdeal.defs (F := Ideal)) (onTc (τ := Cert.RZaIdeal.τ) (Cert.RZaIdeal.main (F := Ideal))) ⟨m, fun _ => 0, g⟩ (fun r => (∀ c : Dev Cert.RZaIdeal.nD,
      r.2.mem ((c.tc : Thread Cert.RZaIdeal.nD Cert.RZaIdeal.τ).loc Cert.RZaIdeal.main_arg0) = m ((c.tc : Thread Cert.RZaIdeal.nD Cert.RZaIdeal.τ).loc Cert.RZaIdeal.main_arg0)
      ∧ r.2.mem ((c.tc : Thread Cert.RZaIdeal.nD Cert.RZaIdeal.τ).loc Cert.RZaIdeal.main_arg1) = m ((c.tc : Thread Cert.RZaIdeal.nD Cert.RZaIdeal.τ).loc Cert.RZaIdeal.main_arg1)
      ∧ r.2.mem ((c.tc : Thread Cert.RZaIdeal.nD Cert.RZaIdeal.τ).loc Cert.RZaIdeal.main_arg2) = m ((c.tc : Thread Cert.RZaIdeal.nD Cert.RZaIdeal.τ).loc Cert.RZaIdeal.main_arg2)
      ∧ r.2.mem ((c.tc : Thread Cert.RZaIdeal.nD Cert.RZaIdeal.τ).loc Cert.RZaIdeal.main_arg3) = m ((c.tc : Thread Cert.RZaIdeal.nD Cert.RZaIdeal.τ).loc Cert.RZaIdeal.main_arg3))
      ∧ r.2.sem = fun _ => 0)

def quiescent_KDsa [hKDsa : Cert.KDsa.Facts] : Prop :=
  ∀ (m : (ℓ : Loc Cert.KDsa.nD Cert.KDsa.τ Cert.KDsa.sig) → Buf (Elt Bits) ℓ) (g : Dev Cert.KDsa.nD → PrngReg), Pre_KDsa m →
    θ_run (Cert.KDsa.defs (F := Bits)) (onTc (τ := Cert.KDsa.τ) (Cert.KDsa.main (F := Bits))) ⟨m, fun _ => 0, g⟩ (fun r => (∀ c : Dev Cert.KDsa.nD,
      r.2.mem ((c.tc : Thread Cert.KDsa.nD Cert.KDsa.τ).loc Cert.KDsa.main_arg0) = m ((c.tc : Thread Cert.KDsa.nD Cert.KDsa.τ).loc Cert.KDsa.main_arg0)
      ∧ r.2.mem ((c.tc : Thread Cert.KDsa.nD Cert.KDsa.τ).loc Cert.KDsa.main_arg1) = m ((c.tc : Thread Cert.KDsa.nD Cert.KDsa.τ).loc Cert.KDsa.main_arg1)
      ∧ r.2.mem ((c.tc : Thread Cert.KDsa.nD Cert.KDsa.τ).loc Cert.KDsa.main_arg2) = m ((c.tc : Thread Cert.KDsa.nD Cert.KDsa.τ).loc Cert.KDsa.main_arg2)
      ∧ r.2.mem ((c.tc : Thread Cert.KDsa.nD Cert.KDsa.τ).loc Cert.KDsa.main_arg3) = m ((c.tc : Thread Cert.KDsa.nD Cert.KDsa.τ).loc Cert.KDsa.main_arg3)
      ∧ r.2.mem ((c.tc : Thread Cert.KDsa.nD Cert.KDsa.τ).loc Cert.KDsa.main_arg4) = m ((c.tc : Thread Cert.KDsa.nD Cert.KDsa.τ).loc Cert.KDsa.main_arg4)
      ∧ r.2.mem ((c.tc : Thread Cert.KDsa.nD Cert.KDsa.τ).loc Cert.KDsa.main_arg5) = m ((c.tc : Thread Cert.KDsa.nD Cert.KDsa.τ).loc Cert.KDsa.main_arg5)
      ∧ r.2.mem ((c.tc : Thread Cert.KDsa.nD Cert.KDsa.τ).loc Cert.KDsa.main_arg6) = m ((c.tc : Thread Cert.KDsa.nD Cert.KDsa.τ).loc Cert.KDsa.main_arg6)
      ∧ r.2.mem ((c.tc : Thread Cert.KDsa.nD Cert.KDsa.τ).loc Cert.KDsa.main_arg7) = m ((c.tc : Thread Cert.KDsa.nD Cert.KDsa.τ).loc Cert.KDsa.main_arg7)
      ∧ r.2.mem ((c.tc : Thread Cert.KDsa.nD Cert.KDsa.τ).loc Cert.KDsa.main_arg8) = m ((c.tc : Thread Cert.KDsa.nD Cert.KDsa.τ).loc Cert.KDsa.main_arg8)
      ∧ r.2.mem ((c.tc : Thread Cert.KDsa.nD Cert.KDsa.τ).loc Cert.KDsa.main_arg9) = m ((c.tc : Thread Cert.KDsa.nD Cert.KDsa.τ).loc Cert.KDsa.main_arg9)
      ∧ r.2.mem ((c.tc : Thread Cert.KDsa.nD Cert.KDsa.τ).loc Cert.KDsa.main_arg10) = m ((c.tc : Thread Cert.KDsa.nD Cert.KDsa.τ).loc Cert.KDsa.main_arg10)
      ∧ r.2.mem ((c.tc : Thread Cert.KDsa.nD Cert.KDsa.τ).loc Cert.KDsa.main_arg11) = m ((c.tc : Thread Cert.KDsa.nD Cert.KDsa.τ).loc Cert.KDsa.main_arg11)
      ∧ r.2.mem ((c.tc : Thread Cert.KDsa.nD Cert.KDsa.τ).loc Cert.KDsa.main_arg12) = m ((c.tc : Thread Cert.KDsa.nD Cert.KDsa.τ).loc Cert.KDsa.main_arg12))
      ∧ r.2.sem = fun _ => 0)

def quiescent_KDsaIdeal [hKDsaIdeal : Cert.KDsaIdeal.Facts] : Prop :=
  ∀ (m : (ℓ : Loc Cert.KDsaIdeal.nD Cert.KDsaIdeal.τ Cert.KDsaIdeal.sig) → Buf (Elt Ideal) ℓ) (g : Dev Cert.KDsaIdeal.nD → PrngReg), Pre_KDsaIdeal m →
    θ_run (Cert.KDsaIdeal.defs (F := Ideal)) (onTc (τ := Cert.KDsaIdeal.τ) (Cert.KDsaIdeal.main (F := Ideal))) ⟨m, fun _ => 0, g⟩ (fun r => (∀ c : Dev Cert.KDsaIdeal.nD,
      r.2.mem ((c.tc : Thread Cert.KDsaIdeal.nD Cert.KDsaIdeal.τ).loc Cert.KDsaIdeal.main_arg0) = m ((c.tc : Thread Cert.KDsaIdeal.nD Cert.KDsaIdeal.τ).loc Cert.KDsaIdeal.main_arg0)
      ∧ r.2.mem ((c.tc : Thread Cert.KDsaIdeal.nD Cert.KDsaIdeal.τ).loc Cert.KDsaIdeal.main_arg1) = m ((c.tc : Thread Cert.KDsaIdeal.nD Cert.KDsaIdeal.τ).loc Cert.KDsaIdeal.main_arg1)
      ∧ r.2.mem ((c.tc : Thread Cert.KDsaIdeal.nD Cert.KDsaIdeal.τ).loc Cert.KDsaIdeal.main_arg2) = m ((c.tc : Thread Cert.KDsaIdeal.nD Cert.KDsaIdeal.τ).loc Cert.KDsaIdeal.main_arg2)
      ∧ r.2.mem ((c.tc : Thread Cert.KDsaIdeal.nD Cert.KDsaIdeal.τ).loc Cert.KDsaIdeal.main_arg3) = m ((c.tc : Thread Cert.KDsaIdeal.nD Cert.KDsaIdeal.τ).loc Cert.KDsaIdeal.main_arg3)
      ∧ r.2.mem ((c.tc : Thread Cert.KDsaIdeal.nD Cert.KDsaIdeal.τ).loc Cert.KDsaIdeal.main_arg4) = m ((c.tc : Thread Cert.KDsaIdeal.nD Cert.KDsaIdeal.τ).loc Cert.KDsaIdeal.main_arg4)
      ∧ r.2.mem ((c.tc : Thread Cert.KDsaIdeal.nD Cert.KDsaIdeal.τ).loc Cert.KDsaIdeal.main_arg5) = m ((c.tc : Thread Cert.KDsaIdeal.nD Cert.KDsaIdeal.τ).loc Cert.KDsaIdeal.main_arg5)
      ∧ r.2.mem ((c.tc : Thread Cert.KDsaIdeal.nD Cert.KDsaIdeal.τ).loc Cert.KDsaIdeal.main_arg6) = m ((c.tc : Thread Cert.KDsaIdeal.nD Cert.KDsaIdeal.τ).loc Cert.KDsaIdeal.main_arg6)
      ∧ r.2.mem ((c.tc : Thread Cert.KDsaIdeal.nD Cert.KDsaIdeal.τ).loc Cert.KDsaIdeal.main_arg7) = m ((c.tc : Thread Cert.KDsaIdeal.nD Cert.KDsaIdeal.τ).loc Cert.KDsaIdeal.main_arg7)
      ∧ r.2.mem ((c.tc : Thread Cert.KDsaIdeal.nD Cert.KDsaIdeal.τ).loc Cert.KDsaIdeal.main_arg8) = m ((c.tc : Thread Cert.KDsaIdeal.nD Cert.KDsaIdeal.τ).loc Cert.KDsaIdeal.main_arg8)
      ∧ r.2.mem ((c.tc : Thread Cert.KDsaIdeal.nD Cert.KDsaIdeal.τ).loc Cert.KDsaIdeal.main_arg9) = m ((c.tc : Thread Cert.KDsaIdeal.nD Cert.KDsaIdeal.τ).loc Cert.KDsaIdeal.main_arg9)
      ∧ r.2.mem ((c.tc : Thread Cert.KDsaIdeal.nD Cert.KDsaIdeal.τ).loc Cert.KDsaIdeal.main_arg10) = m ((c.tc : Thread Cert.KDsaIdeal.nD Cert.KDsaIdeal.τ).loc Cert.KDsaIdeal.main_arg10)
      ∧ r.2.mem ((c.tc : Thread Cert.KDsaIdeal.nD Cert.KDsaIdeal.τ).loc Cert.KDsaIdeal.main_arg11) = m ((c.tc : Thread Cert.KDsaIdeal.nD Cert.KDsaIdeal.τ).loc Cert.KDsaIdeal.main_arg11)
      ∧ r.2.mem ((c.tc : Thread Cert.KDsaIdeal.nD Cert.KDsaIdeal.τ).loc Cert.KDsaIdeal.main_arg12) = m ((c.tc : Thread Cert.KDsaIdeal.nD Cert.KDsaIdeal.τ).loc Cert.KDsaIdeal.main_arg12))
      ∧ r.2.sem = fun _ => 0)

def preserves_KUp_KUpIdeal : Prop :=
  True

def preserves_KDown_KDownIdeal : Prop :=
  True

def preserves_KGating_KGatingIdeal : Prop :=
  True

def preserves_KMerge_KMergeIdeal : Prop :=
  True

def preserves_KOutproj_KOutprojIdeal : Prop :=
  True

def preserves_KProjatt_KProjattIdeal : Prop :=
  True

def preserves_KMixnorm_KMixnormIdeal : Prop :=
  True

def preserves_KFinal_KFinalIdeal : Prop :=
  True

def preserves_KXq_KXqIdeal : Prop :=
  True

def preserves_KXkv_KXkvIdeal : Prop :=
  True

def preserves_KXout_KXoutIdeal : Prop :=
  True

def preserves_KXattn_KXattnIdeal : Prop :=
  True

def preserves_KZa_KZaIdeal : Prop :=
  True

def preserves_KDsa_KDsaIdeal : Prop :=
  True

def algebraic_KUpIdeal_RUpIdeal [hKUpIdeal : Cert.KUpIdeal.Facts] [hRUpIdeal : Cert.RUpIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)
      ∧ m' ((c.tc : Thread Cert.RUpIdeal.nD Cert.RUpIdeal.τ).loc Cert.RUpIdeal.main_arg2) = m ((c.tc : Thread Cert.KUpIdeal.nD Cert.KUpIdeal.τ).loc Cert.KUpIdeal.main_arg2)
      ∧ m' ((c.tc : Thread Cert.RUpIdeal.nD Cert.RUpIdeal.τ).loc Cert.RUpIdeal.main_arg3) = m ((c.tc : Thread Cert.KUpIdeal.nD Cert.KUpIdeal.τ).loc Cert.KUpIdeal.main_arg3)) →
    ∃ (v0 : (c : Dev Cert.KUpIdeal.nD) → Buf (Elt Ideal) ((c.tc : Thread Cert.KUpIdeal.nD Cert.KUpIdeal.τ).loc Cert.KUpIdeal.main_v0_0)) (v1 : (c : Dev Cert.KUpIdeal.nD) → Buf (Elt Ideal) ((c.tc : Thread Cert.KUpIdeal.nD Cert.KUpIdeal.τ).loc Cert.KUpIdeal.main_v0_1)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v0_0) = v0 c
          ∧ r.2.mem ((c.tc : Thread Cert.KUpIdeal.nD Cert.KUpIdeal.τ).loc Cert.KUpIdeal.main_v0_1) = v1 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
          ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v7) = v0 c
          ∧ r.2.mem ((c.tc : Thread Cert.RUpIdeal.nD Cert.RUpIdeal.τ).loc Cert.RUpIdeal.main_v9) = v1 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2)
          ∧ r.2.mem ((c.tc : Thread Cert.RUpIdeal.nD Cert.RUpIdeal.τ).loc Cert.RUpIdeal.main_arg3) = m' ((c.tc : Thread Cert.RUpIdeal.nD Cert.RUpIdeal.τ).loc Cert.RUpIdeal.main_arg3))

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)) →
    ∃ (v0 : (c : Dev Cert.KDownIdeal.nD) → Buf (Elt Ideal) ((c.tc : Thread Cert.KDownIdeal.nD Cert.KDownIdeal.τ).loc Cert.KDownIdeal.main_v0)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v0) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v3) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2))

def algebraic_KGatingIdeal_RGatingIdeal [hKGatingIdeal : Cert.KGatingIdeal.Facts] [hRGatingIdeal : Cert.RGatingIdeal.Facts] : Prop :=
  ∀ (m : (ℓ : Loc Cert.KGatingIdeal.nD Cert.KGatingIdeal.τ Cert.KGatingIdeal.sig) → Buf (Elt Ideal) ℓ) (g : Dev Cert.KGatingIdeal.nD → PrngReg)
    (m' : (ℓ : Loc Cert.RGatingIdeal.nD Cert.RGatingIdeal.τ Cert.RGatingIdeal.sig) → Buf (Elt Ideal) ℓ) (g' : Dev Cert.RGatingIdeal.nD → PrngReg), Pre_KGatingIdeal m →
    (∀ c : Dev Cert.KGatingIdeal.nD,
      m' ((c.tc : Thread Cert.RGatingIdeal.nD Cert.RGatingIdeal.τ).loc Cert.RGatingIdeal.main_arg0) = m ((c.tc : Thread Cert.KGatingIdeal.nD Cert.KGatingIdeal.τ).loc Cert.KGatingIdeal.main_arg0)
      ∧ m' ((c.tc : Thread Cert.RGatingIdeal.nD Cert.RGatingIdeal.τ).loc Cert.RGatingIdeal.main_arg1) = m ((c.tc : Thread Cert.KGatingIdeal.nD Cert.KGatingIdeal.τ).loc Cert.KGatingIdeal.main_arg1)
      ∧ m' ((c.tc : Thread Cert.RGatingIdeal.nD Cert.RGatingIdeal.τ).loc Cert.RGatingIdeal.main_arg2) = m ((c.tc : Thread Cert.KGatingIdeal.nD Cert.KGatingIdeal.τ).loc Cert.KGatingIdeal.main_arg2)
      ∧ m' ((c.tc : Thread Cert.RGatingIdeal.nD Cert.RGatingIdeal.τ).loc Cert.RGatingIdeal.main_arg3) = m ((c.tc : Thread Cert.KGatingIdeal.nD Cert.KGatingIdeal.τ).loc Cert.KGatingIdeal.main_arg3)) →
    ∃ (v0 : (c : Dev Cert.KGatingIdeal.nD) → Buf (Elt Ideal) ((c.tc : Thread Cert.KGatingIdeal.nD Cert.KGatingIdeal.τ).loc Cert.KGatingIdeal.main_v6)),
      θ_run (Cert.KGatingIdeal.defs (F := Ideal)) (onTc (τ := Cert.KGatingIdeal.τ) (Cert.KGatingIdeal.main (F := Ideal))) ⟨m, fun _ => 0, g⟩ (fun r => ∀ c : Dev Cert.KGatingIdeal.nD,
          r.2.mem ((c.tc : Thread Cert.KGatingIdeal.nD Cert.KGatingIdeal.τ).loc Cert.KGatingIdeal.main_v6) = v0 c
          ∧ r.2.mem ((c.tc : Thread Cert.KGatingIdeal.nD Cert.KGatingIdeal.τ).loc Cert.KGatingIdeal.main_arg0) = m ((c.tc : Thread Cert.KGatingIdeal.nD Cert.KGatingIdeal.τ).loc Cert.KGatingIdeal.main_arg0)
          ∧ r.2.mem ((c.tc : Thread Cert.KGatingIdeal.nD Cert.KGatingIdeal.τ).loc Cert.KGatingIdeal.main_arg1) = m ((c.tc : Thread Cert.KGatingIdeal.nD Cert.KGatingIdeal.τ).loc Cert.KGatingIdeal.main_arg1)
          ∧ r.2.mem ((c.tc : Thread Cert.KGatingIdeal.nD Cert.KGatingIdeal.τ).loc Cert.KGatingIdeal.main_arg2) = m ((c.tc : Thread Cert.KGatingIdeal.nD Cert.KGatingIdeal.τ).loc Cert.KGatingIdeal.main_arg2)
          ∧ r.2.mem ((c.tc : Thread Cert.KGatingIdeal.nD Cert.KGatingIdeal.τ).loc Cert.KGatingIdeal.main_arg3) = m ((c.tc : Thread Cert.KGatingIdeal.nD Cert.KGatingIdeal.τ).loc Cert.KGatingIdeal.main_arg3))
      ∧ θ_run (Cert.RGatingIdeal.defs (F := Ideal)) (onTc (τ := Cert.RGatingIdeal.τ) (Cert.RGatingIdeal.main (F := Ideal))) ⟨m', fun _ => 0, g'⟩ (fun r => ∀ c : Dev Cert.RGatingIdeal.nD,
          r.2.mem ((c.tc : Thread Cert.RGatingIdeal.nD Cert.RGatingIdeal.τ).loc Cert.RGatingIdeal.main_v45) = v0 c
          ∧ r.2.mem ((c.tc : Thread Cert.RGatingIdeal.nD Cert.RGatingIdeal.τ).loc Cert.RGatingIdeal.main_arg0) = m' ((c.tc : Thread Cert.RGatingIdeal.nD Cert.RGatingIdeal.τ).loc Cert.RGatingIdeal.main_arg0)
          ∧ r.2.mem ((c.tc : Thread Cert.RGatingIdeal.nD Cert.RGatingIdeal.τ).loc Cert.RGatingIdeal.main_arg1) = m' ((c.tc : Thread Cert.RGatingIdeal.nD Cert.RGatingIdeal.τ).loc Cert.RGatingIdeal.main_arg1)
          ∧ r.2.mem ((c.tc : Thread Cert.RGatingIdeal.nD Cert.RGatingIdeal.τ).loc Cert.RGatingIdeal.main_arg2) = m' ((c.tc : Thread Cert.RGatingIdeal.nD Cert.RGatingIdeal.τ).loc Cert.RGatingIdeal.main_arg2)
          ∧ r.2.mem ((c.tc : Thread Cert.RGatingIdeal.nD Cert.RGatingIdeal.τ).loc Cert.RGatingIdeal.main_arg3) = m' ((c.tc : Thread Cert.RGatingIdeal.nD Cert.RGatingIdeal.τ).loc Cert.RGatingIdeal.main_arg3))

def algebraic_KMergeIdeal_RMergeIdeal [hKMergeIdeal : Cert.KMergeIdeal.Facts] [hRMergeIdeal : Cert.RMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg)
    (m' : (ℓ : Loc Cert.RMergeIdeal.nD Cert.RMergeIdeal.τ Cert.RMergeIdeal.sig) → Buf (Elt Ideal) ℓ) (g' : Dev Cert.RMergeIdeal.nD → PrngReg), Pre_KMergeIdeal m →
    (∀ c : Dev Cert.KMergeIdeal.nD,
      m' ((c.tc : Thread Cert.RMergeIdeal.nD Cert.RMergeIdeal.τ).loc Cert.RMergeIdeal.main_arg0) = m ((c.tc : Thread Cert.KMergeIdeal.nD Cert.KMergeIdeal.τ).loc Cert.KMergeIdeal.main_arg0)
      ∧ m' ((c.tc : Thread Cert.RMergeIdeal.nD Cert.RMergeIdeal.τ).loc Cert.RMergeIdeal.main_arg1) = m ((c.tc : Thread Cert.KMergeIdeal.nD Cert.KMergeIdeal.τ).loc Cert.KMergeIdeal.main_arg1)
      ∧ m' ((c.tc : Thread Cert.RMergeIdeal.nD Cert.RMergeIdeal.τ).loc Cert.RMergeIdeal.main_arg2) = m ((c.tc : Thread Cert.KMergeIdeal.nD Cert.KMergeIdeal.τ).loc Cert.KMergeIdeal.main_arg2)
      ∧ m' ((c.tc : Thread Cert.RMergeIdeal.nD Cert.RMergeIdeal.τ).loc Cert.RMergeIdeal.main_arg3) = m ((c.tc : Thread Cert.KMergeIdeal.nD Cert.KMergeIdeal.τ).loc Cert.KMergeIdeal.main_arg3)
      ∧ m' ((c.tc : Thread Cert.RMergeIdeal.nD Cert.RMergeIdeal.τ).loc Cert.RMergeIdeal.main_arg4) = m ((c.tc : Thread Cert.KMergeIdeal.nD Cert.KMergeIdeal.τ).loc Cert.KMergeIdeal.main_arg4)
      ∧ m' ((c.tc : Thread Cert.RMergeIdeal.nD Cert.RMergeIdeal.τ).loc Cert.RMergeIdeal.main_arg5) = m ((c.tc : Thread Cert.KMergeIdeal.nD Cert.KMergeIdeal.τ).loc Cert.KMergeIdeal.main_arg5)
      ∧ m' ((c.tc : Thread Cert.RMergeIdeal.nD Cert.RMergeIdeal.τ).loc Cert.RMergeIdeal.main_arg6) = m ((c.tc : Thread Cert.KMergeIdeal.nD Cert.KMergeIdeal.τ).loc Cert.KMergeIdeal.main_arg6)
      ∧ m' ((c.tc : Thread Cert.RMergeIdeal.nD Cert.RMergeIdeal.τ).loc Cert.RMergeIdeal.main_arg7) = m ((c.tc : Thread Cert.KMergeIdeal.nD Cert.KMergeIdeal.τ).loc Cert.KMergeIdeal.main_arg7)) →
    ∃ (v0 : (c : Dev Cert.KMergeIdeal.nD) → Buf (Elt Ideal) ((c.tc : Thread Cert.KMergeIdeal.nD Cert.KMergeIdeal.τ).loc Cert.KMergeIdeal.main_v0_0)) (v1 : (c : Dev Cert.KMergeIdeal.nD) → Buf (Elt Ideal) ((c.tc : Thread Cert.KMergeIdeal.nD Cert.KMergeIdeal.τ).loc Cert.KMergeIdeal.main_v0_1)) (v2 : (c : Dev Cert.KMergeIdeal.nD) → Buf (Elt Ideal) ((c.tc : Thread Cert.KMergeIdeal.nD Cert.KMergeIdeal.τ).loc Cert.KMergeIdeal.main_v0_2)),
      θ_run (Cert.KMergeIdeal.defs (F := Ideal)) (onTc (τ := Cert.KMergeIdeal.τ) (Cert.KMergeIdeal.main (F := Ideal))) ⟨m, fun _ => 0, g⟩ (fun r => ∀ c : Dev Cert.KMergeIdeal.nD,
          r.2.mem ((c.tc : Thread Cert.KMergeIdeal.nD Cert.KMergeIdeal.τ).loc Cert.KMergeIdeal.main_v0_0) = v0 c
          ∧ r.2.mem ((c.tc : Thread Cert.KMergeIdeal.nD Cert.KMergeIdeal.τ).loc Cert.KMergeIdeal.main_v0_1) = v1 c
          ∧ r.2.mem ((c.tc : Thread Cert.KMergeIdeal.nD Cert.KMergeIdeal.τ).loc Cert.KMergeIdeal.main_v0_2) = v2 c
          ∧ r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
          ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
          ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
          ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
          ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
          ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
          ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6)
          ∧ r.2.mem ((c.tc : Thread Cert.KMergeIdeal.nD Cert.KMergeIdeal.τ).loc Cert.KMergeIdeal.main_arg7) = m ((c.tc : Thread Cert.KMergeIdeal.nD Cert.KMergeIdeal.τ).loc Cert.KMergeIdeal.main_arg7))
      ∧ θ_run (Cert.RMergeIdeal.defs (F := Ideal)) (onTc (τ := Cert.RMergeIdeal.τ) (Cert.RMergeIdeal.main (F := Ideal))) ⟨m', fun _ => 0, g'⟩ (fun r => ∀ c : Dev Cert.RMergeIdeal.nD,
          r.2.mem ((c.tc : Thread Cert.RMergeIdeal.nD Cert.RMergeIdeal.τ).loc Cert.RMergeIdeal.main_v21) = v0 c
          ∧ r.2.mem ((c.tc : Thread Cert.RMergeIdeal.nD Cert.RMergeIdeal.τ).loc Cert.RMergeIdeal.main_v23) = v1 c
          ∧ r.2.mem ((c.tc : Thread Cert.RMergeIdeal.nD Cert.RMergeIdeal.τ).loc Cert.RMergeIdeal.main_v25) = v2 c
          ∧ r.2.mem ((c.tc : Thread Cert.RMergeIdeal.nD Cert.RMergeIdeal.τ).loc Cert.RMergeIdeal.main_arg0) = m' ((c.tc : Thread Cert.RMergeIdeal.nD Cert.RMergeIdeal.τ).loc Cert.RMergeIdeal.main_arg0)
          ∧ r.2.mem ((c.tc : Thread Cert.RMergeIdeal.nD Cert.RMergeIdeal.τ).loc Cert.RMergeIdeal.main_arg1) = m' ((c.tc : Thread Cert.RMergeIdeal.nD Cert.RMergeIdeal.τ).loc Cert.RMergeIdeal.main_arg1)
          ∧ r.2.mem ((c.tc : Thread Cert.RMergeIdeal.nD Cert.RMergeIdeal.τ).loc Cert.RMergeIdeal.main_arg2) = m' ((c.tc : Thread Cert.RMergeIdeal.nD Cert.RMergeIdeal.τ).loc Cert.RMergeIdeal.main_arg2)
          ∧ r.2.mem ((c.tc : Thread Cert.RMergeIdeal.nD Cert.RMergeIdeal.τ).loc Cert.RMergeIdeal.main_arg3) = m' ((c.tc : Thread Cert.RMergeIdeal.nD Cert.RMergeIdeal.τ).loc Cert.RMergeIdeal.main_arg3)
          ∧ r.2.mem ((c.tc : Thread Cert.RMergeIdeal.nD Cert.RMergeIdeal.τ).loc Cert.RMergeIdeal.main_arg4) = m' ((c.tc : Thread Cert.RMergeIdeal.nD Cert.RMergeIdeal.τ).loc Cert.RMergeIdeal.main_arg4)
          ∧ r.2.mem ((c.tc : Thread Cert.RMergeIdeal.nD Cert.RMergeIdeal.τ).loc Cert.RMergeIdeal.main_arg5) = m' ((c.tc : Thread Cert.RMergeIdeal.nD Cert.RMergeIdeal.τ).loc Cert.RMergeIdeal.main_arg5)
          ∧ r.2.mem ((c.tc : Thread Cert.RMergeIdeal.nD Cert.RMergeIdeal.τ).loc Cert.RMergeIdeal.main_arg6) = m' ((c.tc : Thread Cert.RMergeIdeal.nD Cert.RMergeIdeal.τ).loc Cert.RMergeIdeal.main_arg6)
          ∧ r.2.mem ((c.tc : Thread Cert.RMergeIdeal.nD Cert.RMergeIdeal.τ).loc Cert.RMergeIdeal.main_arg7) = m' ((c.tc : Thread Cert.RMergeIdeal.nD Cert.RMergeIdeal.τ).loc Cert.RMergeIdeal.main_arg7))

def algebraic_KOutprojIdeal_ROutprojIdeal [hKOutprojIdeal : Cert.KOutprojIdeal.Facts] [hROutprojIdeal : Cert.ROutprojIdeal.Facts] : Prop :=
  ∀ (m : (ℓ : Loc Cert.KOutprojIdeal.nD Cert.KOutprojIdeal.τ Cert.KOutprojIdeal.sig) → Buf (Elt Ideal) ℓ) (g : Dev Cert.KOutprojIdeal.nD → PrngReg)
    (m' : (ℓ : Loc Cert.ROutprojIdeal.nD Cert.ROutprojIdeal.τ Cert.ROutprojIdeal.sig) → Buf (Elt Ideal) ℓ) (g' : Dev Cert.ROutprojIdeal.nD → PrngReg), Pre_KOutprojIdeal m →
    (∀ c : Dev Cert.KOutprojIdeal.nD,
      m' ((c.tc : Thread Cert.ROutprojIdeal.nD Cert.ROutprojIdeal.τ).loc Cert.ROutprojIdeal.main_arg0) = m ((c.tc : Thread Cert.KOutprojIdeal.nD Cert.KOutprojIdeal.τ).loc Cert.KOutprojIdeal.main_arg0)
      ∧ m' ((c.tc : Thread Cert.ROutprojIdeal.nD Cert.ROutprojIdeal.τ).loc Cert.ROutprojIdeal.main_arg1) = m ((c.tc : Thread Cert.KOutprojIdeal.nD Cert.KOutprojIdeal.τ).loc Cert.KOutprojIdeal.main_arg1)
      ∧ m' ((c.tc : Thread Cert.ROutprojIdeal.nD Cert.ROutprojIdeal.τ).loc Cert.ROutprojIdeal.main_arg2) = m ((c.tc : Thread Cert.KOutprojIdeal.nD Cert.KOutprojIdeal.τ).loc Cert.KOutprojIdeal.main_arg2)
      ∧ m' ((c.tc : Thread Cert.ROutprojIdeal.nD Cert.ROutprojIdeal.τ).loc Cert.ROutprojIdeal.main_arg3) = m ((c.tc : Thread Cert.KOutprojIdeal.nD Cert.KOutprojIdeal.τ).loc Cert.KOutprojIdeal.main_arg3)) →
    ∃ (v0 : (c : Dev Cert.KOutprojIdeal.nD) → Buf (Elt Ideal) ((c.tc : Thread Cert.KOutprojIdeal.nD Cert.KOutprojIdeal.τ).loc Cert.KOutprojIdeal.main_v0_0)) (v1 : (c : Dev Cert.KOutprojIdeal.nD) → Buf (Elt Ideal) ((c.tc : Thread Cert.KOutprojIdeal.nD Cert.KOutprojIdeal.τ).loc Cert.KOutprojIdeal.main_v0_1)),
      θ_run (Cert.KOutprojIdeal.defs (F := Ideal)) (onTc (τ := Cert.KOutprojIdeal.τ) (Cert.KOutprojIdeal.main (F := Ideal))) ⟨m, fun _ => 0, g⟩ (fun r => ∀ c : Dev Cert.KOutprojIdeal.nD,
          r.2.mem ((c.tc : Thread Cert.KOutprojIdeal.nD Cert.KOutprojIdeal.τ).loc Cert.KOutprojIdeal.main_v0_0) = v0 c
          ∧ r.2.mem ((c.tc : Thread Cert.KOutprojIdeal.nD Cert.KOutprojIdeal.τ).loc Cert.KOutprojIdeal.main_v0_1) = v1 c
          ∧ r.2.mem ((c.tc : Thread Cert.KOutprojIdeal.nD Cert.KOutprojIdeal.τ).loc Cert.KOutprojIdeal.main_arg0) = m ((c.tc : Thread Cert.KOutprojIdeal.nD Cert.KOutprojIdeal.τ).loc Cert.KOutprojIdeal.main_arg0)
          ∧ r.2.mem ((c.tc : Thread Cert.KOutprojIdeal.nD Cert.KOutprojIdeal.τ).loc Cert.KOutprojIdeal.main_arg1) = m ((c.tc : Thread Cert.KOutprojIdeal.nD Cert.KOutprojIdeal.τ).loc Cert.KOutprojIdeal.main_arg1)
          ∧ r.2.mem ((c.tc : Thread Cert.KOutprojIdeal.nD Cert.KOutprojIdeal.τ).loc Cert.KOutprojIdeal.main_arg2) = m ((c.tc : Thread Cert.KOutprojIdeal.nD Cert.KOutprojIdeal.τ).loc Cert.KOutprojIdeal.main_arg2)
          ∧ r.2.mem ((c.tc : Thread Cert.KOutprojIdeal.nD Cert.KOutprojIdeal.τ).loc Cert.KOutprojIdeal.main_arg3) = m ((c.tc : Thread Cert.KOutprojIdeal.nD Cert.KOutprojIdeal.τ).loc Cert.KOutprojIdeal.main_arg3))
      ∧ θ_run (Cert.ROutprojIdeal.defs (F := Ideal)) (onTc (τ := Cert.ROutprojIdeal.τ) (Cert.ROutprojIdeal.main (F := Ideal))) ⟨m', fun _ => 0, g'⟩ (fun r => ∀ c : Dev Cert.ROutprojIdeal.nD,
          r.2.mem ((c.tc : Thread Cert.ROutprojIdeal.nD Cert.ROutprojIdeal.τ).loc Cert.ROutprojIdeal.main_v3) = v0 c
          ∧ r.2.mem ((c.tc : Thread Cert.ROutprojIdeal.nD Cert.ROutprojIdeal.τ).loc Cert.ROutprojIdeal.main_v5) = v1 c
          ∧ r.2.mem ((c.tc : Thread Cert.ROutprojIdeal.nD Cert.ROutprojIdeal.τ).loc Cert.ROutprojIdeal.main_arg0) = m' ((c.tc : Thread Cert.ROutprojIdeal.nD Cert.ROutprojIdeal.τ).loc Cert.ROutprojIdeal.main_arg0)
          ∧ r.2.mem ((c.tc : Thread Cert.ROutprojIdeal.nD Cert.ROutprojIdeal.τ).loc Cert.ROutprojIdeal.main_arg1) = m' ((c.tc : Thread Cert.ROutprojIdeal.nD Cert.ROutprojIdeal.τ).loc Cert.ROutprojIdeal.main_arg1)
          ∧ r.2.mem ((c.tc : Thread Cert.ROutprojIdeal.nD Cert.ROutprojIdeal.τ).loc Cert.ROutprojIdeal.main_arg2) = m' ((c.tc : Thread Cert.ROutprojIdeal.nD Cert.ROutprojIdeal.τ).loc Cert.ROutprojIdeal.main_arg2)
          ∧ r.2.mem ((c.tc : Thread Cert.ROutprojIdeal.nD Cert.ROutprojIdeal.τ).loc Cert.ROutprojIdeal.main_arg3) = m' ((c.tc : Thread Cert.ROutprojIdeal.nD Cert.ROutprojIdeal.τ).loc Cert.ROutprojIdeal.main_arg3))

def algebraic_KProjattIdeal_RProjattIdeal [hKProjattIdeal : Cert.KProjattIdeal.Facts] [hRProjattIdeal : Cert.RProjattIdeal.Facts] : Prop :=
  ∀ (m : (ℓ : Loc Cert.KProjattIdeal.nD Cert.KProjattIdeal.τ Cert.KProjattIdeal.sig) → Buf (Elt Ideal) ℓ) (g : Dev Cert.KProjattIdeal.nD → PrngReg)
    (m' : (ℓ : Loc Cert.RProjattIdeal.nD Cert.RProjattIdeal.τ Cert.RProjattIdeal.sig) → Buf (Elt Ideal) ℓ) (g' : Dev Cert.RProjattIdeal.nD → PrngReg), Pre_KProjattIdeal m →
    (∀ c : Dev Cert.KProjattIdeal.nD,
      m' ((c.tc : Thread Cert.RProjattIdeal.nD Cert.RProjattIdeal.τ).loc Cert.RProjattIdeal.main_arg0) = m ((c.tc : Thread Cert.KProjattIdeal.nD Cert.KProjattIdeal.τ).loc Cert.KProjattIdeal.main_arg0)
      ∧ m' ((c.tc : Thread Cert.RProjattIdeal.nD Cert.RProjattIdeal.τ).loc Cert.RProjattIdeal.main_arg1) = m ((c.tc : Thread Cert.KProjattIdeal.nD Cert.KProjattIdeal.τ).loc Cert.KProjattIdeal.main_arg1)) →
    ∃ (v0 : (c : Dev Cert.KProjattIdeal.nD) → Buf (Elt Ideal) ((c.tc : Thread Cert.KProjattIdeal.nD Cert.KProjattIdeal.τ).loc Cert.KProjattIdeal.main_v1)),
      θ_run (Cert.KProjattIdeal.defs (F := Ideal)) (onTc (τ := Cert.KProjattIdeal.τ) (Cert.KProjattIdeal.main (F := Ideal))) ⟨m, fun _ => 0, g⟩ (fun r => ∀ c : Dev Cert.KProjattIdeal.nD,
          r.2.mem ((c.tc : Thread Cert.KProjattIdeal.nD Cert.KProjattIdeal.τ).loc Cert.KProjattIdeal.main_v1) = v0 c
          ∧ r.2.mem ((c.tc : Thread Cert.KProjattIdeal.nD Cert.KProjattIdeal.τ).loc Cert.KProjattIdeal.main_arg0) = m ((c.tc : Thread Cert.KProjattIdeal.nD Cert.KProjattIdeal.τ).loc Cert.KProjattIdeal.main_arg0)
          ∧ r.2.mem ((c.tc : Thread Cert.KProjattIdeal.nD Cert.KProjattIdeal.τ).loc Cert.KProjattIdeal.main_arg1) = m ((c.tc : Thread Cert.KProjattIdeal.nD Cert.KProjattIdeal.τ).loc Cert.KProjattIdeal.main_arg1))
      ∧ θ_run (Cert.RProjattIdeal.defs (F := Ideal)) (onTc (τ := Cert.RProjattIdeal.τ) (Cert.RProjattIdeal.main (F := Ideal))) ⟨m', fun _ => 0, g'⟩ (fun r => ∀ c : Dev Cert.RProjattIdeal.nD,
          r.2.mem ((c.tc : Thread Cert.RProjattIdeal.nD Cert.RProjattIdeal.τ).loc Cert.RProjattIdeal.main_v3) = v0 c
          ∧ r.2.mem ((c.tc : Thread Cert.RProjattIdeal.nD Cert.RProjattIdeal.τ).loc Cert.RProjattIdeal.main_arg0) = m' ((c.tc : Thread Cert.RProjattIdeal.nD Cert.RProjattIdeal.τ).loc Cert.RProjattIdeal.main_arg0)
          ∧ r.2.mem ((c.tc : Thread Cert.RProjattIdeal.nD Cert.RProjattIdeal.τ).loc Cert.RProjattIdeal.main_arg1) = m' ((c.tc : Thread Cert.RProjattIdeal.nD Cert.RProjattIdeal.τ).loc Cert.RProjattIdeal.main_arg1))

def algebraic_KMixnormIdeal_RMixnormIdeal [hKMixnormIdeal : Cert.KMixnormIdeal.Facts] [hRMixnormIdeal : Cert.RMixnormIdeal.Facts] : Prop :=
  ∀ (m : (ℓ : Loc Cert.KMixnormIdeal.nD Cert.KMixnormIdeal.τ Cert.KMixnormIdeal.sig) → Buf (Elt Ideal) ℓ) (g : Dev Cert.KMixnormIdeal.nD → PrngReg)
    (m' : (ℓ : Loc Cert.RMixnormIdeal.nD Cert.RMixnormIdeal.τ Cert.RMixnormIdeal.sig) → Buf (Elt Ideal) ℓ) (g' : Dev Cert.RMixnormIdeal.nD → PrngReg), Pre_KMixnormIdeal m →
    (∀ c : Dev Cert.KMixnormIdeal.nD,
      m' ((c.tc : Thread Cert.RMixnormIdeal.nD Cert.RMixnormIdeal.τ).loc Cert.RMixnormIdeal.main_arg0) = m ((c.tc : Thread Cert.KMixnormIdeal.nD Cert.KMixnormIdeal.τ).loc Cert.KMixnormIdeal.main_arg0)
      ∧ m' ((c.tc : Thread Cert.RMixnormIdeal.nD Cert.RMixnormIdeal.τ).loc Cert.RMixnormIdeal.main_arg1) = m ((c.tc : Thread Cert.KMixnormIdeal.nD Cert.KMixnormIdeal.τ).loc Cert.KMixnormIdeal.main_arg1)) →
    ∃ (v0 : (c : Dev Cert.KMixnormIdeal.nD) → Buf (Elt Ideal) ((c.tc : Thread Cert.KMixnormIdeal.nD Cert.KMixnormIdeal.τ).loc Cert.KMixnormIdeal.main_v3)),
      θ_run (Cert.KMixnormIdeal.defs (F := Ideal)) (onTc (τ := Cert.KMixnormIdeal.τ) (Cert.KMixnormIdeal.main (F := Ideal))) ⟨m, fun _ => 0, g⟩ (fun r => ∀ c : Dev Cert.KMixnormIdeal.nD,
          r.2.mem ((c.tc : Thread Cert.KMixnormIdeal.nD Cert.KMixnormIdeal.τ).loc Cert.KMixnormIdeal.main_v3) = v0 c
          ∧ r.2.mem ((c.tc : Thread Cert.KMixnormIdeal.nD Cert.KMixnormIdeal.τ).loc Cert.KMixnormIdeal.main_arg0) = m ((c.tc : Thread Cert.KMixnormIdeal.nD Cert.KMixnormIdeal.τ).loc Cert.KMixnormIdeal.main_arg0)
          ∧ r.2.mem ((c.tc : Thread Cert.KMixnormIdeal.nD Cert.KMixnormIdeal.τ).loc Cert.KMixnormIdeal.main_arg1) = m ((c.tc : Thread Cert.KMixnormIdeal.nD Cert.KMixnormIdeal.τ).loc Cert.KMixnormIdeal.main_arg1))
      ∧ θ_run (Cert.RMixnormIdeal.defs (F := Ideal)) (onTc (τ := Cert.RMixnormIdeal.τ) (Cert.RMixnormIdeal.main (F := Ideal))) ⟨m', fun _ => 0, g'⟩ (fun r => ∀ c : Dev Cert.RMixnormIdeal.nD,
          r.2.mem ((c.tc : Thread Cert.RMixnormIdeal.nD Cert.RMixnormIdeal.τ).loc Cert.RMixnormIdeal.main_v15) = v0 c
          ∧ r.2.mem ((c.tc : Thread Cert.RMixnormIdeal.nD Cert.RMixnormIdeal.τ).loc Cert.RMixnormIdeal.main_arg0) = m' ((c.tc : Thread Cert.RMixnormIdeal.nD Cert.RMixnormIdeal.τ).loc Cert.RMixnormIdeal.main_arg0)
          ∧ r.2.mem ((c.tc : Thread Cert.RMixnormIdeal.nD Cert.RMixnormIdeal.τ).loc Cert.RMixnormIdeal.main_arg1) = m' ((c.tc : Thread Cert.RMixnormIdeal.nD Cert.RMixnormIdeal.τ).loc Cert.RMixnormIdeal.main_arg1))

def algebraic_KFinalIdeal_RFinalIdeal [hKFinalIdeal : Cert.KFinalIdeal.Facts] [hRFinalIdeal : Cert.RFinalIdeal.Facts] : Prop :=
  ∀ (m : (ℓ : Loc Cert.KFinalIdeal.nD Cert.KFinalIdeal.τ Cert.KFinalIdeal.sig) → Buf (Elt Ideal) ℓ) (g : Dev Cert.KFinalIdeal.nD → PrngReg)
    (m' : (ℓ : Loc Cert.RFinalIdeal.nD Cert.RFinalIdeal.τ Cert.RFinalIdeal.sig) → Buf (Elt Ideal) ℓ) (g' : Dev Cert.RFinalIdeal.nD → PrngReg), Pre_KFinalIdeal m →
    (∀ c : Dev Cert.KFinalIdeal.nD,
      m' ((c.tc : Thread Cert.RFinalIdeal.nD Cert.RFinalIdeal.τ).loc Cert.RFinalIdeal.main_arg0) = m ((c.tc : Thread Cert.KFinalIdeal.nD Cert.KFinalIdeal.τ).loc Cert.KFinalIdeal.main_arg0)
      ∧ m' ((c.tc : Thread Cert.RFinalIdeal.nD Cert.RFinalIdeal.τ).loc Cert.RFinalIdeal.main_arg1) = m ((c.tc : Thread Cert.KFinalIdeal.nD Cert.KFinalIdeal.τ).loc Cert.KFinalIdeal.main_arg1)) →
    ∃ (v0 : (c : Dev Cert.KFinalIdeal.nD) → Buf (Elt Ideal) ((c.tc : Thread Cert.KFinalIdeal.nD Cert.KFinalIdeal.τ).loc Cert.KFinalIdeal.main_v1)),
      θ_run (Cert.KFinalIdeal.defs (F := Ideal)) (onTc (τ := Cert.KFinalIdeal.τ) (Cert.KFinalIdeal.main (F := Ideal))) ⟨m, fun _ => 0, g⟩ (fun r => ∀ c : Dev Cert.KFinalIdeal.nD,
          r.2.mem ((c.tc : Thread Cert.KFinalIdeal.nD Cert.KFinalIdeal.τ).loc Cert.KFinalIdeal.main_v1) = v0 c
          ∧ r.2.mem ((c.tc : Thread Cert.KFinalIdeal.nD Cert.KFinalIdeal.τ).loc Cert.KFinalIdeal.main_arg0) = m ((c.tc : Thread Cert.KFinalIdeal.nD Cert.KFinalIdeal.τ).loc Cert.KFinalIdeal.main_arg0)
          ∧ r.2.mem ((c.tc : Thread Cert.KFinalIdeal.nD Cert.KFinalIdeal.τ).loc Cert.KFinalIdeal.main_arg1) = m ((c.tc : Thread Cert.KFinalIdeal.nD Cert.KFinalIdeal.τ).loc Cert.KFinalIdeal.main_arg1))
      ∧ θ_run (Cert.RFinalIdeal.defs (F := Ideal)) (onTc (τ := Cert.RFinalIdeal.τ) (Cert.RFinalIdeal.main (F := Ideal))) ⟨m', fun _ => 0, g'⟩ (fun r => ∀ c : Dev Cert.RFinalIdeal.nD,
          r.2.mem ((c.tc : Thread Cert.RFinalIdeal.nD Cert.RFinalIdeal.τ).loc Cert.RFinalIdeal.main_v12) = v0 c
          ∧ r.2.mem ((c.tc : Thread Cert.RFinalIdeal.nD Cert.RFinalIdeal.τ).loc Cert.RFinalIdeal.main_arg0) = m' ((c.tc : Thread Cert.RFinalIdeal.nD Cert.RFinalIdeal.τ).loc Cert.RFinalIdeal.main_arg0)
          ∧ r.2.mem ((c.tc : Thread Cert.RFinalIdeal.nD Cert.RFinalIdeal.τ).loc Cert.RFinalIdeal.main_arg1) = m' ((c.tc : Thread Cert.RFinalIdeal.nD Cert.RFinalIdeal.τ).loc Cert.RFinalIdeal.main_arg1))

def algebraic_KXqIdeal_RXqIdeal [hKXqIdeal : Cert.KXqIdeal.Facts] [hRXqIdeal : Cert.RXqIdeal.Facts] : Prop :=
  ∀ (m : (ℓ : Loc Cert.KXqIdeal.nD Cert.KXqIdeal.τ Cert.KXqIdeal.sig) → Buf (Elt Ideal) ℓ) (g : Dev Cert.KXqIdeal.nD → PrngReg)
    (m' : (ℓ : Loc Cert.RXqIdeal.nD Cert.RXqIdeal.τ Cert.RXqIdeal.sig) → Buf (Elt Ideal) ℓ) (g' : Dev Cert.RXqIdeal.nD → PrngReg), Pre_KXqIdeal m →
    (∀ c : Dev Cert.KXqIdeal.nD,
      m' ((c.tc : Thread Cert.RXqIdeal.nD Cert.RXqIdeal.τ).loc Cert.RXqIdeal.main_arg0) = m ((c.tc : Thread Cert.KXqIdeal.nD Cert.KXqIdeal.τ).loc Cert.KXqIdeal.main_arg0)
      ∧ m' ((c.tc : Thread Cert.RXqIdeal.nD Cert.RXqIdeal.τ).loc Cert.RXqIdeal.main_arg1) = m ((c.tc : Thread Cert.KXqIdeal.nD Cert.KXqIdeal.τ).loc Cert.KXqIdeal.main_arg1)
      ∧ m' ((c.tc : Thread Cert.RXqIdeal.nD Cert.RXqIdeal.τ).loc Cert.RXqIdeal.main_arg2) = m ((c.tc : Thread Cert.KXqIdeal.nD Cert.KXqIdeal.τ).loc Cert.KXqIdeal.main_arg2)) →
    ∃ (v0 : (c : Dev Cert.KXqIdeal.nD) → Buf (Elt Ideal) ((c.tc : Thread Cert.KXqIdeal.nD Cert.KXqIdeal.τ).loc Cert.KXqIdeal.main_v2)),
      θ_run (Cert.KXqIdeal.defs (F := Ideal)) (onTc (τ := Cert.KXqIdeal.τ) (Cert.KXqIdeal.main (F := Ideal))) ⟨m, fun _ => 0, g⟩ (fun r => ∀ c : Dev Cert.KXqIdeal.nD,
          r.2.mem ((c.tc : Thread Cert.KXqIdeal.nD Cert.KXqIdeal.τ).loc Cert.KXqIdeal.main_v2) = v0 c
          ∧ r.2.mem ((c.tc : Thread Cert.KXqIdeal.nD Cert.KXqIdeal.τ).loc Cert.KXqIdeal.main_arg0) = m ((c.tc : Thread Cert.KXqIdeal.nD Cert.KXqIdeal.τ).loc Cert.KXqIdeal.main_arg0)
          ∧ r.2.mem ((c.tc : Thread Cert.KXqIdeal.nD Cert.KXqIdeal.τ).loc Cert.KXqIdeal.main_arg1) = m ((c.tc : Thread Cert.KXqIdeal.nD Cert.KXqIdeal.τ).loc Cert.KXqIdeal.main_arg1)
          ∧ r.2.mem ((c.tc : Thread Cert.KXqIdeal.nD Cert.KXqIdeal.τ).loc Cert.KXqIdeal.main_arg2) = m ((c.tc : Thread Cert.KXqIdeal.nD Cert.KXqIdeal.τ).loc Cert.KXqIdeal.main_arg2))
      ∧ θ_run (Cert.RXqIdeal.defs (F := Ideal)) (onTc (τ := Cert.RXqIdeal.τ) (Cert.RXqIdeal.main (F := Ideal))) ⟨m', fun _ => 0, g'⟩ (fun r => ∀ c : Dev Cert.RXqIdeal.nD,
          r.2.mem ((c.tc : Thread Cert.RXqIdeal.nD Cert.RXqIdeal.τ).loc Cert.RXqIdeal.main_v16) = v0 c
          ∧ r.2.mem ((c.tc : Thread Cert.RXqIdeal.nD Cert.RXqIdeal.τ).loc Cert.RXqIdeal.main_arg0) = m' ((c.tc : Thread Cert.RXqIdeal.nD Cert.RXqIdeal.τ).loc Cert.RXqIdeal.main_arg0)
          ∧ r.2.mem ((c.tc : Thread Cert.RXqIdeal.nD Cert.RXqIdeal.τ).loc Cert.RXqIdeal.main_arg1) = m' ((c.tc : Thread Cert.RXqIdeal.nD Cert.RXqIdeal.τ).loc Cert.RXqIdeal.main_arg1)
          ∧ r.2.mem ((c.tc : Thread Cert.RXqIdeal.nD Cert.RXqIdeal.τ).loc Cert.RXqIdeal.main_arg2) = m' ((c.tc : Thread Cert.RXqIdeal.nD Cert.RXqIdeal.τ).loc Cert.RXqIdeal.main_arg2))

def algebraic_KXkvIdeal_RXkvIdeal [hKXkvIdeal : Cert.KXkvIdeal.Facts] [hRXkvIdeal : Cert.RXkvIdeal.Facts] : Prop :=
  ∀ (m : (ℓ : Loc Cert.KXkvIdeal.nD Cert.KXkvIdeal.τ Cert.KXkvIdeal.sig) → Buf (Elt Ideal) ℓ) (g : Dev Cert.KXkvIdeal.nD → PrngReg)
    (m' : (ℓ : Loc Cert.RXkvIdeal.nD Cert.RXkvIdeal.τ Cert.RXkvIdeal.sig) → Buf (Elt Ideal) ℓ) (g' : Dev Cert.RXkvIdeal.nD → PrngReg), Pre_KXkvIdeal m →
    (∀ c : Dev Cert.KXkvIdeal.nD,
      m' ((c.tc : Thread Cert.RXkvIdeal.nD Cert.RXkvIdeal.τ).loc Cert.RXkvIdeal.main_arg0) = m ((c.tc : Thread Cert.KXkvIdeal.nD Cert.KXkvIdeal.τ).loc Cert.KXkvIdeal.main_arg0)
      ∧ m' ((c.tc : Thread Cert.RXkvIdeal.nD Cert.RXkvIdeal.τ).loc Cert.RXkvIdeal.main_arg1) = m ((c.tc : Thread Cert.KXkvIdeal.nD Cert.KXkvIdeal.τ).loc Cert.KXkvIdeal.main_arg1)
      ∧ m' ((c.tc : Thread Cert.RXkvIdeal.nD Cert.RXkvIdeal.τ).loc Cert.RXkvIdeal.main_arg2) = m ((c.tc : Thread Cert.KXkvIdeal.nD Cert.KXkvIdeal.τ).loc Cert.KXkvIdeal.main_arg2)) →
    ∃ (v0 : (c : Dev Cert.KXkvIdeal.nD) → Buf (Elt Ideal) ((c.tc : Thread Cert.KXkvIdeal.nD Cert.KXkvIdeal.τ).loc Cert.KXkvIdeal.main_v3)),
      θ_run (Cert.KXkvIdeal.defs (F := Ideal)) (onTc (τ := Cert.KXkvIdeal.τ) (Cert.KXkvIdeal.main (F := Ideal))) ⟨m, fun _ => 0, g⟩ (fun r => ∀ c : Dev Cert.KXkvIdeal.nD,
          r.2.mem ((c.tc : Thread Cert.KXkvIdeal.nD Cert.KXkvIdeal.τ).loc Cert.KXkvIdeal.main_v3) = v0 c
          ∧ r.2.mem ((c.tc : Thread Cert.KXkvIdeal.nD Cert.KXkvIdeal.τ).loc Cert.KXkvIdeal.main_arg0) = m ((c.tc : Thread Cert.KXkvIdeal.nD Cert.KXkvIdeal.τ).loc Cert.KXkvIdeal.main_arg0)
          ∧ r.2.mem ((c.tc : Thread Cert.KXkvIdeal.nD Cert.KXkvIdeal.τ).loc Cert.KXkvIdeal.main_arg1) = m ((c.tc : Thread Cert.KXkvIdeal.nD Cert.KXkvIdeal.τ).loc Cert.KXkvIdeal.main_arg1)
          ∧ r.2.mem ((c.tc : Thread Cert.KXkvIdeal.nD Cert.KXkvIdeal.τ).loc Cert.KXkvIdeal.main_arg2) = m ((c.tc : Thread Cert.KXkvIdeal.nD Cert.KXkvIdeal.τ).loc Cert.KXkvIdeal.main_arg2))
      ∧ θ_run (Cert.RXkvIdeal.defs (F := Ideal)) (onTc (τ := Cert.RXkvIdeal.τ) (Cert.RXkvIdeal.main (F := Ideal))) ⟨m', fun _ => 0, g'⟩ (fun r => ∀ c : Dev Cert.RXkvIdeal.nD,
          r.2.mem ((c.tc : Thread Cert.RXkvIdeal.nD Cert.RXkvIdeal.τ).loc Cert.RXkvIdeal.main_v17) = v0 c
          ∧ r.2.mem ((c.tc : Thread Cert.RXkvIdeal.nD Cert.RXkvIdeal.τ).loc Cert.RXkvIdeal.main_arg0) = m' ((c.tc : Thread Cert.RXkvIdeal.nD Cert.RXkvIdeal.τ).loc Cert.RXkvIdeal.main_arg0)
          ∧ r.2.mem ((c.tc : Thread Cert.RXkvIdeal.nD Cert.RXkvIdeal.τ).loc Cert.RXkvIdeal.main_arg1) = m' ((c.tc : Thread Cert.RXkvIdeal.nD Cert.RXkvIdeal.τ).loc Cert.RXkvIdeal.main_arg1)
          ∧ r.2.mem ((c.tc : Thread Cert.RXkvIdeal.nD Cert.RXkvIdeal.τ).loc Cert.RXkvIdeal.main_arg2) = m' ((c.tc : Thread Cert.RXkvIdeal.nD Cert.RXkvIdeal.τ).loc Cert.RXkvIdeal.main_arg2))

def algebraic_KXoutIdeal_RXoutIdeal [hKXoutIdeal : Cert.KXoutIdeal.Facts] [hRXoutIdeal : Cert.RXoutIdeal.Facts] : Prop :=
  ∀ (m : (ℓ : Loc Cert.KXoutIdeal.nD Cert.KXoutIdeal.τ Cert.KXoutIdeal.sig) → Buf (Elt Ideal) ℓ) (g : Dev Cert.KXoutIdeal.nD → PrngReg)
    (m' : (ℓ : Loc Cert.RXoutIdeal.nD Cert.RXoutIdeal.τ Cert.RXoutIdeal.sig) → Buf (Elt Ideal) ℓ) (g' : Dev Cert.RXoutIdeal.nD → PrngReg), Pre_KXoutIdeal m →
    (∀ c : Dev Cert.KXoutIdeal.nD,
      m' ((c.tc : Thread Cert.RXoutIdeal.nD Cert.RXoutIdeal.τ).loc Cert.RXoutIdeal.main_arg0) = m ((c.tc : Thread Cert.KXoutIdeal.nD Cert.KXoutIdeal.τ).loc Cert.KXoutIdeal.main_arg0)
      ∧ m' ((c.tc : Thread Cert.RXoutIdeal.nD Cert.RXoutIdeal.τ).loc Cert.RXoutIdeal.main_arg1) = m ((c.tc : Thread Cert.KXoutIdeal.nD Cert.KXoutIdeal.τ).loc Cert.KXoutIdeal.main_arg1)
      ∧ m' ((c.tc : Thread Cert.RXoutIdeal.nD Cert.RXoutIdeal.τ).loc Cert.RXoutIdeal.main_arg2) = m ((c.tc : Thread Cert.KXoutIdeal.nD Cert.KXoutIdeal.τ).loc Cert.KXoutIdeal.main_arg2)
      ∧ m' ((c.tc : Thread Cert.RXoutIdeal.nD Cert.RXoutIdeal.τ).loc Cert.RXoutIdeal.main_arg3) = m ((c.tc : Thread Cert.KXoutIdeal.nD Cert.KXoutIdeal.τ).loc Cert.KXoutIdeal.main_arg3)) →
    ∃ (v0 : (c : Dev Cert.KXoutIdeal.nD) → Buf (Elt Ideal) ((c.tc : Thread Cert.KXoutIdeal.nD Cert.KXoutIdeal.τ).loc Cert.KXoutIdeal.main_v2_0)) (v1 : (c : Dev Cert.KXoutIdeal.nD) → Buf (Elt Ideal) ((c.tc : Thread Cert.KXoutIdeal.nD Cert.KXoutIdeal.τ).loc Cert.KXoutIdeal.main_v2_1)),
      θ_run (Cert.KXoutIdeal.defs (F := Ideal)) (onTc (τ := Cert.KXoutIdeal.τ) (Cert.KXoutIdeal.main (F := Ideal))) ⟨m, fun _ => 0, g⟩ (fun r => ∀ c : Dev Cert.KXoutIdeal.nD,
          r.2.mem ((c.tc : Thread Cert.KXoutIdeal.nD Cert.KXoutIdeal.τ).loc Cert.KXoutIdeal.main_v2_0) = v0 c
          ∧ r.2.mem ((c.tc : Thread Cert.KXoutIdeal.nD Cert.KXoutIdeal.τ).loc Cert.KXoutIdeal.main_v2_1) = v1 c
          ∧ r.2.mem ((c.tc : Thread Cert.KXoutIdeal.nD Cert.KXoutIdeal.τ).loc Cert.KXoutIdeal.main_arg0) = m ((c.tc : Thread Cert.KXoutIdeal.nD Cert.KXoutIdeal.τ).loc Cert.KXoutIdeal.main_arg0)
          ∧ r.2.mem ((c.tc : Thread Cert.KXoutIdeal.nD Cert.KXoutIdeal.τ).loc Cert.KXoutIdeal.main_arg1) = m ((c.tc : Thread Cert.KXoutIdeal.nD Cert.KXoutIdeal.τ).loc Cert.KXoutIdeal.main_arg1)
          ∧ r.2.mem ((c.tc : Thread Cert.KXoutIdeal.nD Cert.KXoutIdeal.τ).loc Cert.KXoutIdeal.main_arg2) = m ((c.tc : Thread Cert.KXoutIdeal.nD Cert.KXoutIdeal.τ).loc Cert.KXoutIdeal.main_arg2)
          ∧ r.2.mem ((c.tc : Thread Cert.KXoutIdeal.nD Cert.KXoutIdeal.τ).loc Cert.KXoutIdeal.main_arg3) = m ((c.tc : Thread Cert.KXoutIdeal.nD Cert.KXoutIdeal.τ).loc Cert.KXoutIdeal.main_arg3))
      ∧ θ_run (Cert.RXoutIdeal.defs (F := Ideal)) (onTc (τ := Cert.RXoutIdeal.τ) (Cert.RXoutIdeal.main (F := Ideal))) ⟨m', fun _ => 0, g'⟩ (fun r => ∀ c : Dev Cert.RXoutIdeal.nD,
          r.2.mem ((c.tc : Thread Cert.RXoutIdeal.nD Cert.RXoutIdeal.τ).loc Cert.RXoutIdeal.main_v3) = v0 c
          ∧ r.2.mem ((c.tc : Thread Cert.RXoutIdeal.nD Cert.RXoutIdeal.τ).loc Cert.RXoutIdeal.main_v18) = v1 c
          ∧ r.2.mem ((c.tc : Thread Cert.RXoutIdeal.nD Cert.RXoutIdeal.τ).loc Cert.RXoutIdeal.main_arg0) = m' ((c.tc : Thread Cert.RXoutIdeal.nD Cert.RXoutIdeal.τ).loc Cert.RXoutIdeal.main_arg0)
          ∧ r.2.mem ((c.tc : Thread Cert.RXoutIdeal.nD Cert.RXoutIdeal.τ).loc Cert.RXoutIdeal.main_arg1) = m' ((c.tc : Thread Cert.RXoutIdeal.nD Cert.RXoutIdeal.τ).loc Cert.RXoutIdeal.main_arg1)
          ∧ r.2.mem ((c.tc : Thread Cert.RXoutIdeal.nD Cert.RXoutIdeal.τ).loc Cert.RXoutIdeal.main_arg2) = m' ((c.tc : Thread Cert.RXoutIdeal.nD Cert.RXoutIdeal.τ).loc Cert.RXoutIdeal.main_arg2)
          ∧ r.2.mem ((c.tc : Thread Cert.RXoutIdeal.nD Cert.RXoutIdeal.τ).loc Cert.RXoutIdeal.main_arg3) = m' ((c.tc : Thread Cert.RXoutIdeal.nD Cert.RXoutIdeal.τ).loc Cert.RXoutIdeal.main_arg3))

def algebraic_KXattnIdeal_RXattnIdeal_pre_finite_queries_and_keys [hKXattnIdeal : Cert.KXattnIdeal.Facts] [hRXattnIdeal : Cert.RXattnIdeal.Facts] [hPre_finite_queries_and_keys : Cert.Pre_finite_queries_and_keys.Facts] : Prop :=
  ∀ (m : (ℓ : Loc Cert.KXattnIdeal.nD Cert.KXattnIdeal.τ Cert.KXattnIdeal.sig) → Buf (Elt Ideal) ℓ) (g : Dev Cert.KXattnIdeal.nD → PrngReg)
    (m' : (ℓ : Loc Cert.RXattnIdeal.nD Cert.RXattnIdeal.τ Cert.RXattnIdeal.sig) → Buf (Elt Ideal) ℓ) (g' : Dev Cert.RXattnIdeal.nD → PrngReg), Pre_KXattnIdeal_finite_queries_and_keys m →
    (∀ c : Dev Cert.KXattnIdeal.nD,
      m' ((c.tc : Thread Cert.RXattnIdeal.nD Cert.RXattnIdeal.τ).loc Cert.RXattnIdeal.main_arg0) = m ((c.tc : Thread Cert.KXattnIdeal.nD Cert.KXattnIdeal.τ).loc Cert.KXattnIdeal.main_arg0)
      ∧ m' ((c.tc : Thread Cert.RXattnIdeal.nD Cert.RXattnIdeal.τ).loc Cert.RXattnIdeal.main_arg1) = m ((c.tc : Thread Cert.KXattnIdeal.nD Cert.KXattnIdeal.τ).loc Cert.KXattnIdeal.main_arg1)
      ∧ m' ((c.tc : Thread Cert.RXattnIdeal.nD Cert.RXattnIdeal.τ).loc Cert.RXattnIdeal.main_arg2) = m ((c.tc : Thread Cert.KXattnIdeal.nD Cert.KXattnIdeal.τ).loc Cert.KXattnIdeal.main_arg2)) →
    ∃ (v0 : (c : Dev Cert.KXattnIdeal.nD) → Buf (Elt Ideal) ((c.tc : Thread Cert.KXattnIdeal.nD Cert.KXattnIdeal.τ).loc Cert.KXattnIdeal.main_v0)),
      θ_run (Cert.KXattnIdeal.defs (F := Ideal)) (onTc (τ := Cert.KXattnIdeal.τ) (Cert.KXattnIdeal.main (F := Ideal))) ⟨m, fun _ => 0, g⟩ (fun r => ∀ c : Dev Cert.KXattnIdeal.nD,
          r.2.mem ((c.tc : Thread Cert.KXattnIdeal.nD Cert.KXattnIdeal.τ).loc Cert.KXattnIdeal.main_v0) = v0 c
          ∧ r.2.mem ((c.tc : Thread Cert.KXattnIdeal.nD Cert.KXattnIdeal.τ).loc Cert.KXattnIdeal.main_arg0) = m ((c.tc : Thread Cert.KXattnIdeal.nD Cert.KXattnIdeal.τ).loc Cert.KXattnIdeal.main_arg0)
          ∧ r.2.mem ((c.tc : Thread Cert.KXattnIdeal.nD Cert.KXattnIdeal.τ).loc Cert.KXattnIdeal.main_arg1) = m ((c.tc : Thread Cert.KXattnIdeal.nD Cert.KXattnIdeal.τ).loc Cert.KXattnIdeal.main_arg1)
          ∧ r.2.mem ((c.tc : Thread Cert.KXattnIdeal.nD Cert.KXattnIdeal.τ).loc Cert.KXattnIdeal.main_arg2) = m ((c.tc : Thread Cert.KXattnIdeal.nD Cert.KXattnIdeal.τ).loc Cert.KXattnIdeal.main_arg2))
      ∧ θ_run (Cert.RXattnIdeal.defs (F := Ideal)) (onTc (τ := Cert.RXattnIdeal.τ) (Cert.RXattnIdeal.main (F := Ideal))) ⟨m', fun _ => 0, g'⟩ (fun r => ∀ c : Dev Cert.RXattnIdeal.nD,
          r.2.mem ((c.tc : Thread Cert.RXattnIdeal.nD Cert.RXattnIdeal.τ).loc Cert.RXattnIdeal.main_v23) = v0 c
          ∧ r.2.mem ((c.tc : Thread Cert.RXattnIdeal.nD Cert.RXattnIdeal.τ).loc Cert.RXattnIdeal.main_arg0) = m' ((c.tc : Thread Cert.RXattnIdeal.nD Cert.RXattnIdeal.τ).loc Cert.RXattnIdeal.main_arg0)
          ∧ r.2.mem ((c.tc : Thread Cert.RXattnIdeal.nD Cert.RXattnIdeal.τ).loc Cert.RXattnIdeal.main_arg1) = m' ((c.tc : Thread Cert.RXattnIdeal.nD Cert.RXattnIdeal.τ).loc Cert.RXattnIdeal.main_arg1)
          ∧ r.2.mem ((c.tc : Thread Cert.RXattnIdeal.nD Cert.RXattnIdeal.τ).loc Cert.RXattnIdeal.main_arg2) = m' ((c.tc : Thread Cert.RXattnIdeal.nD Cert.RXattnIdeal.τ).loc Cert.RXattnIdeal.main_arg2))

def algebraic_KZaIdeal_RZaIdeal [hKZaIdeal : Cert.KZaIdeal.Facts] [hRZaIdeal : Cert.RZaIdeal.Facts] : Prop :=
  ∀ (m : (ℓ : Loc Cert.KZaIdeal.nD Cert.KZaIdeal.τ Cert.KZaIdeal.sig) → Buf (Elt Ideal) ℓ) (g : Dev Cert.KZaIdeal.nD → PrngReg)
    (m' : (ℓ : Loc Cert.RZaIdeal.nD Cert.RZaIdeal.τ Cert.RZaIdeal.sig) → Buf (Elt Ideal) ℓ) (g' : Dev Cert.RZaIdeal.nD → PrngReg), Pre_KZaIdeal m →
    (∀ c : Dev Cert.KZaIdeal.nD,
      m' ((c.tc : Thread Cert.RZaIdeal.nD Cert.RZaIdeal.τ).loc Cert.RZaIdeal.main_arg0) = m ((c.tc : Thread Cert.KZaIdeal.nD Cert.KZaIdeal.τ).loc Cert.KZaIdeal.main_arg0)
      ∧ m' ((c.tc : Thread Cert.RZaIdeal.nD Cert.RZaIdeal.τ).loc Cert.RZaIdeal.main_arg1) = m ((c.tc : Thread Cert.KZaIdeal.nD Cert.KZaIdeal.τ).loc Cert.KZaIdeal.main_arg1)
      ∧ m' ((c.tc : Thread Cert.RZaIdeal.nD Cert.RZaIdeal.τ).loc Cert.RZaIdeal.main_arg2) = m ((c.tc : Thread Cert.KZaIdeal.nD Cert.KZaIdeal.τ).loc Cert.KZaIdeal.main_arg2)
      ∧ m' ((c.tc : Thread Cert.RZaIdeal.nD Cert.RZaIdeal.τ).loc Cert.RZaIdeal.main_arg3) = m ((c.tc : Thread Cert.KZaIdeal.nD Cert.KZaIdeal.τ).loc Cert.KZaIdeal.main_arg3)) →
    ∃ (v0 : (c : Dev Cert.KZaIdeal.nD) → Buf (Elt Ideal) ((c.tc : Thread Cert.KZaIdeal.nD Cert.KZaIdeal.τ).loc Cert.KZaIdeal.main_v35_0)) (v1 : (c : Dev Cert.KZaIdeal.nD) → Buf (Elt Ideal) ((c.tc : Thread Cert.KZaIdeal.nD Cert.KZaIdeal.τ).loc Cert.KZaIdeal.main_v35_1)) (v2 : (c : Dev Cert.KZaIdeal.nD) → Buf (Elt Ideal) ((c.tc : Thread Cert.KZaIdeal.nD Cert.KZaIdeal.τ).loc Cert.KZaIdeal.main_v35_2)) (v3 : (c : Dev Cert.KZaIdeal.nD) → Buf (Elt Ideal) ((c.tc : Thread Cert.KZaIdeal.nD Cert.KZaIdeal.τ).loc Cert.KZaIdeal.main_v35_3)) (v4 : (c : Dev Cert.KZaIdeal.nD) → Buf (Elt Ideal) ((c.tc : Thread Cert.KZaIdeal.nD Cert.KZaIdeal.τ).loc Cert.KZaIdeal.main_v35_4)) (v5 : (c : Dev Cert.KZaIdeal.nD) → Buf (Elt Ideal) ((c.tc : Thread Cert.KZaIdeal.nD Cert.KZaIdeal.τ).loc Cert.KZaIdeal.main_v35_5)) (v6 : (c : Dev Cert.KZaIdeal.nD) → Buf (Elt Ideal) ((c.tc : Thread Cert.KZaIdeal.nD Cert.KZaIdeal.τ).loc Cert.KZaIdeal.main_v35_6)),
      θ_run (Cert.KZaIdeal.defs (F := Ideal)) (onTc (τ := Cert.KZaIdeal.τ) (Cert.KZaIdeal.main (F := Ideal))) ⟨m, fun _ => 0, g⟩ (fun r => ∀ c : Dev Cert.KZaIdeal.nD,
          r.2.mem ((c.tc : Thread Cert.KZaIdeal.nD Cert.KZaIdeal.τ).loc Cert.KZaIdeal.main_v35_0) = v0 c
          ∧ r.2.mem ((c.tc : Thread Cert.KZaIdeal.nD Cert.KZaIdeal.τ).loc Cert.KZaIdeal.main_v35_1) = v1 c
          ∧ r.2.mem ((c.tc : Thread Cert.KZaIdeal.nD Cert.KZaIdeal.τ).loc Cert.KZaIdeal.main_v35_2) = v2 c
          ∧ r.2.mem ((c.tc : Thread Cert.KZaIdeal.nD Cert.KZaIdeal.τ).loc Cert.KZaIdeal.main_v35_3) = v3 c
          ∧ r.2.mem ((c.tc : Thread Cert.KZaIdeal.nD Cert.KZaIdeal.τ).loc Cert.KZaIdeal.main_v35_4) = v4 c
          ∧ r.2.mem ((c.tc : Thread Cert.KZaIdeal.nD Cert.KZaIdeal.τ).loc Cert.KZaIdeal.main_v35_5) = v5 c
          ∧ r.2.mem ((c.tc : Thread Cert.KZaIdeal.nD Cert.KZaIdeal.τ).loc Cert.KZaIdeal.main_v35_6) = v6 c
          ∧ r.2.mem ((c.tc : Thread Cert.KZaIdeal.nD Cert.KZaIdeal.τ).loc Cert.KZaIdeal.main_arg0) = m ((c.tc : Thread Cert.KZaIdeal.nD Cert.KZaIdeal.τ).loc Cert.KZaIdeal.main_arg0)
          ∧ r.2.mem ((c.tc : Thread Cert.KZaIdeal.nD Cert.KZaIdeal.τ).loc Cert.KZaIdeal.main_arg1) = m ((c.tc : Thread Cert.KZaIdeal.nD Cert.KZaIdeal.τ).loc Cert.KZaIdeal.main_arg1)
          ∧ r.2.mem ((c.tc : Thread Cert.KZaIdeal.nD Cert.KZaIdeal.τ).loc Cert.KZaIdeal.main_arg2) = m ((c.tc : Thread Cert.KZaIdeal.nD Cert.KZaIdeal.τ).loc Cert.KZaIdeal.main_arg2)
          ∧ r.2.mem ((c.tc : Thread Cert.KZaIdeal.nD Cert.KZaIdeal.τ).loc Cert.KZaIdeal.main_arg3) = m ((c.tc : Thread Cert.KZaIdeal.nD Cert.KZaIdeal.τ).loc Cert.KZaIdeal.main_arg3))
      ∧ θ_run (Cert.RZaIdeal.defs (F := Ideal)) (onTc (τ := Cert.RZaIdeal.τ) (Cert.RZaIdeal.main (F := Ideal))) ⟨m', fun _ => 0, g'⟩ (fun r => ∀ c : Dev Cert.RZaIdeal.nD,
          r.2.mem ((c.tc : Thread Cert.RZaIdeal.nD Cert.RZaIdeal.τ).loc Cert.RZaIdeal.main_v3) = v0 c
          ∧ r.2.mem ((c.tc : Thread Cert.RZaIdeal.nD Cert.RZaIdeal.τ).loc Cert.RZaIdeal.main_v124) = v1 c
          ∧ r.2.mem ((c.tc : Thread Cert.RZaIdeal.nD Cert.RZaIdeal.τ).loc Cert.RZaIdeal.main_v125) = v2 c
          ∧ r.2.mem ((c.tc : Thread Cert.RZaIdeal.nD Cert.RZaIdeal.τ).loc Cert.RZaIdeal.main_v126) = v3 c
          ∧ r.2.mem ((c.tc : Thread Cert.RZaIdeal.nD Cert.RZaIdeal.τ).loc Cert.RZaIdeal.main_v127) = v4 c
          ∧ r.2.mem ((c.tc : Thread Cert.RZaIdeal.nD Cert.RZaIdeal.τ).loc Cert.RZaIdeal.main_v128) = v5 c
          ∧ r.2.mem ((c.tc : Thread Cert.RZaIdeal.nD Cert.RZaIdeal.τ).loc Cert.RZaIdeal.main_v129) = v6 c
          ∧ r.2.mem ((c.tc : Thread Cert.RZaIdeal.nD Cert.RZaIdeal.τ).loc Cert.RZaIdeal.main_arg0) = m' ((c.tc : Thread Cert.RZaIdeal.nD Cert.RZaIdeal.τ).loc Cert.RZaIdeal.main_arg0)
          ∧ r.2.mem ((c.tc : Thread Cert.RZaIdeal.nD Cert.RZaIdeal.τ).loc Cert.RZaIdeal.main_arg1) = m' ((c.tc : Thread Cert.RZaIdeal.nD Cert.RZaIdeal.τ).loc Cert.RZaIdeal.main_arg1)
          ∧ r.2.mem ((c.tc : Thread Cert.RZaIdeal.nD Cert.RZaIdeal.τ).loc Cert.RZaIdeal.main_arg2) = m' ((c.tc : Thread Cert.RZaIdeal.nD Cert.RZaIdeal.τ).loc Cert.RZaIdeal.main_arg2)
          ∧ r.2.mem ((c.tc : Thread Cert.RZaIdeal.nD Cert.RZaIdeal.τ).loc Cert.RZaIdeal.main_arg3) = m' ((c.tc : Thread Cert.RZaIdeal.nD Cert.RZaIdeal.τ).loc Cert.RZaIdeal.main_arg3))

def Claim : Prop :=
  ∃ (hKUp : Cert.KUp.Facts) (hKUpIdeal : Cert.KUpIdeal.Facts) (hRUpIdeal : Cert.RUpIdeal.Facts) (hKDown : Cert.KDown.Facts) (hKDownIdeal : Cert.KDownIdeal.Facts) (hRDownIdeal : Cert.RDownIdeal.Facts) (hKGating : Cert.KGating.Facts) (hKGatingIdeal : Cert.KGatingIdeal.Facts) (hRGatingIdeal : Cert.RGatingIdeal.Facts) (hKMerge : Cert.KMerge.Facts) (hKMergeIdeal : Cert.KMergeIdeal.Facts) (hRMergeIdeal : Cert.RMergeIdeal.Facts) (hKOutproj : Cert.KOutproj.Facts) (hKOutprojIdeal : Cert.KOutprojIdeal.Facts) (hROutprojIdeal : Cert.ROutprojIdeal.Facts) (hKProjatt : Cert.KProjatt.Facts) (hKProjattIdeal : Cert.KProjattIdeal.Facts) (hRProjattIdeal : Cert.RProjattIdeal.Facts) (hKMixnorm : Cert.KMixnorm.Facts) (hKMixnormIdeal : Cert.KMixnormIdeal.Facts) (hRMixnormIdeal : Cert.RMixnormIdeal.Facts) (hKFinal : Cert.KFinal.Facts) (hKFinalIdeal : Cert.KFinalIdeal.Facts) (hRFinalIdeal : Cert.RFinalIdeal.Facts) (hKXq : Cert.KXq.Facts) (hKXqIdeal : Cert.KXqIdeal.Facts) (hRXqIdeal : Cert.RXqIdeal.Facts) (hKXkv : Cert.KXkv.Facts) (hKXkvIdeal : Cert.KXkvIdeal.Facts) (hRXkvIdeal : Cert.RXkvIdeal.Facts) (hKXout : Cert.KXout.Facts) (hKXoutIdeal : Cert.KXoutIdeal.Facts) (hRXoutIdeal : Cert.RXoutIdeal.Facts) (hKXattn : Cert.KXattn.Facts) (hKXattnIdeal : Cert.KXattnIdeal.Facts) (hRXattnIdeal : Cert.RXattnIdeal.Facts) (hKZa : Cert.KZa.Facts) (hKZaIdeal : Cert.KZaIdeal.Facts) (hRZaIdeal : Cert.RZaIdeal.Facts) (hKDsa : Cert.KDsa.Facts) (hKDsaIdeal : Cert.KDsaIdeal.Facts) (hPre_finite_queries_and_keys : Cert.Pre_finite_queries_and_keys.Facts),
    quiescent_KUp (hKUp := hKUp)
    ∧ quiescent_KUpIdeal (hKUpIdeal := hKUpIdeal)
    ∧ quiescent_RUpIdeal (hRUpIdeal := hRUpIdeal)
    ∧ quiescent_KDown (hKDown := hKDown)
    ∧ quiescent_KDownIdeal (hKDownIdeal := hKDownIdeal)
    ∧ quiescent_RDownIdeal (hRDownIdeal := hRDownIdeal)
    ∧ quiescent_KGating (hKGating := hKGating)
    ∧ quiescent_KGatingIdeal (hKGatingIdeal := hKGatingIdeal)
    ∧ quiescent_RGatingIdeal (hRGatingIdeal := hRGatingIdeal)
    ∧ quiescent_KMerge (hKMerge := hKMerge)
    ∧ quiescent_KMergeIdeal (hKMergeIdeal := hKMergeIdeal)
    ∧ quiescent_RMergeIdeal (hRMergeIdeal := hRMergeIdeal)
    ∧ quiescent_KOutproj (hKOutproj := hKOutproj)
    ∧ quiescent_KOutprojIdeal (hKOutprojIdeal := hKOutprojIdeal)
    ∧ quiescent_ROutprojIdeal (hROutprojIdeal := hROutprojIdeal)
    ∧ quiescent_KProjatt (hKProjatt := hKProjatt)
    ∧ quiescent_KProjattIdeal (hKProjattIdeal := hKProjattIdeal)
    ∧ quiescent_RProjattIdeal (hRProjattIdeal := hRProjattIdeal)
    ∧ quiescent_KMixnorm (hKMixnorm := hKMixnorm)
    ∧ quiescent_KMixnormIdeal (hKMixnormIdeal := hKMixnormIdeal)
    ∧ quiescent_RMixnormIdeal (hRMixnormIdeal := hRMixnormIdeal)
    ∧ quiescent_KFinal (hKFinal := hKFinal)
    ∧ quiescent_KFinalIdeal (hKFinalIdeal := hKFinalIdeal)
    ∧ quiescent_RFinalIdeal (hRFinalIdeal := hRFinalIdeal)
    ∧ quiescent_KXq (hKXq := hKXq)
    ∧ quiescent_KXqIdeal (hKXqIdeal := hKXqIdeal)
    ∧ quiescent_RXqIdeal (hRXqIdeal := hRXqIdeal)
    ∧ quiescent_KXkv (hKXkv := hKXkv)
    ∧ quiescent_KXkvIdeal (hKXkvIdeal := hKXkvIdeal)
    ∧ quiescent_RXkvIdeal (hRXkvIdeal := hRXkvIdeal)
    ∧ quiescent_KXout (hKXout := hKXout)
    ∧ quiescent_KXoutIdeal (hKXoutIdeal := hKXoutIdeal)
    ∧ quiescent_RXoutIdeal (hRXoutIdeal := hRXoutIdeal)
    ∧ quiescent_KXattn (hKXattn := hKXattn)
    ∧ quiescent_KXattnIdeal (hKXattnIdeal := hKXattnIdeal)
    ∧ quiescent_KXattnIdeal_pre_finite_queries_and_keys (hKXattnIdeal := hKXattnIdeal) (hPre_finite_queries_and_keys := hPre_finite_queries_and_keys)
    ∧ quiescent_RXattnIdeal (hRXattnIdeal := hRXattnIdeal)
    ∧ quiescent_RXattnIdeal_pre_finite_queries_and_keys (hRXattnIdeal := hRXattnIdeal) (hPre_finite_queries_and_keys := hPre_finite_queries_and_keys)
    ∧ quiescent_KZa (hKZa := hKZa)
    ∧ quiescent_KZaIdeal (hKZaIdeal := hKZaIdeal)
    ∧ quiescent_RZaIdeal (hRZaIdeal := hRZaIdeal)
    ∧ quiescent_KDsa (hKDsa := hKDsa)
    ∧ quiescent_KDsaIdeal (hKDsaIdeal := hKDsaIdeal)
    ∧ preserves_KUp_KUpIdeal
    ∧ preserves_KDown_KDownIdeal
    ∧ preserves_KGating_KGatingIdeal
    ∧ preserves_KMerge_KMergeIdeal
    ∧ preserves_KOutproj_KOutprojIdeal
    ∧ preserves_KProjatt_KProjattIdeal
    ∧ preserves_KMixnorm_KMixnormIdeal
    ∧ preserves_KFinal_KFinalIdeal
    ∧ preserves_KXq_KXqIdeal
    ∧ preserves_KXkv_KXkvIdeal
    ∧ preserves_KXout_KXoutIdeal
    ∧ preserves_KXattn_KXattnIdeal
    ∧ preserves_KZa_KZaIdeal
    ∧ preserves_KDsa_KDsaIdeal
    ∧ algebraic_KUpIdeal_RUpIdeal (hKUpIdeal := hKUpIdeal) (hRUpIdeal := hRUpIdeal)
    ∧ algebraic_KDownIdeal_RDownIdeal (hKDownIdeal := hKDownIdeal) (hRDownIdeal := hRDownIdeal)
    ∧ algebraic_KGatingIdeal_RGatingIdeal (hKGatingIdeal := hKGatingIdeal) (hRGatingIdeal := hRGatingIdeal)
    ∧ algebraic_KMergeIdeal_RMergeIdeal (hKMergeIdeal := hKMergeIdeal) (hRMergeIdeal := hRMergeIdeal)
    ∧ algebraic_KOutprojIdeal_ROutprojIdeal (hKOutprojIdeal := hKOutprojIdeal) (hROutprojIdeal := hROutprojIdeal)
    ∧ algebraic_KProjattIdeal_RProjattIdeal (hKProjattIdeal := hKProjattIdeal) (hRProjattIdeal := hRProjattIdeal)
    ∧ algebraic_KMixnormIdeal_RMixnormIdeal (hKMixnormIdeal := hKMixnormIdeal) (hRMixnormIdeal := hRMixnormIdeal)
    ∧ algebraic_KFinalIdeal_RFinalIdeal (hKFinalIdeal := hKFinalIdeal) (hRFinalIdeal := hRFinalIdeal)
    ∧ algebraic_KXqIdeal_RXqIdeal (hKXqIdeal := hKXqIdeal) (hRXqIdeal := hRXqIdeal)
    ∧ algebraic_KXkvIdeal_RXkvIdeal (hKXkvIdeal := hKXkvIdeal) (hRXkvIdeal := hRXkvIdeal)
    ∧ algebraic_KXoutIdeal_RXoutIdeal (hKXoutIdeal := hKXoutIdeal) (hRXoutIdeal := hRXoutIdeal)
    ∧ algebraic_KXattnIdeal_RXattnIdeal_pre_finite_queries_and_keys (hKXattnIdeal := hKXattnIdeal) (hRXattnIdeal := hRXattnIdeal) (hPre_finite_queries_and_keys := hPre_finite_queries_and_keys)
    ∧ algebraic_KZaIdeal_RZaIdeal (hKZaIdeal := hKZaIdeal) (hRZaIdeal := hRZaIdeal)
-- ==== Pre_finite_queries_and_keys.lean ====
abbrev S4x2048x1024 : Shape := ⟨3, ![4, 2048, 1024]⟩
abbrev S4x256x1024 : Shape := ⟨3, ![4, 256, 1024]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  bcast_S_S4x256x1024 : S_.BroadcastsInDim S4x256x1024 (![] : Fin 0 → Fin S4x256x1024.rank)

variable [Facts]

def fn {F : FTy → Type} [FloatOps F] (main_arg0 : FVec F S4x2048x1024 .bf16) (main_arg1 : FVec F S4x256x1024 .bf16) (main_arg2 : FVec F S4x256x1024 .bf16) : IVec S4x2048x1024 1 × IVec S4x256x1024 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_v4 : FVec F S4x256x1024 .f32 := (extf .f32 · bitsLt_bf16_f32) main_arg1
  let main_v5 : FVec F S4x256x1024 .f32 := Host.absf main_v4
  let main_cst_0 : FVec F S_ .f32 := constant S_ .f32 0x7F800000#32
  let main_v6 : FVec F S4x256x1024 .f32 := broadcastInDim S4x256x1024 ![] bcast_S_S4x256x1024 main_cst_0
  let main_v7 : IVec S4x256x1024 1 := cmpf .olt main_v5 main_v6
  (main_v3, main_v7)
-- ==== KUp.lean ====
abbrev S8192x4096 : Shape := ⟨2, ![8192, 4096]⟩
abbrev S4096x11008 : Shape := ⟨2, ![4096, 11008]⟩
abbrev S1x11008x4096 : Shape := ⟨3, ![1, 11008, 4096]⟩
abbrev S8192x11008 : Shape := ⟨2, ![8192, 11008]⟩
abbrev S11008x4096 : Shape := ⟨2, ![11008, 4096]⟩
abbrev S2048x4096 : Shape := ⟨2, ![2048, 4096]⟩
abbrev S4096x256 : Shape := ⟨2, ![4096, 256]⟩
abbrev S1x64x4096 : Shape := ⟨3, ![1, 64, 4096]⟩
abbrev S2048x256 : Shape := ⟨2, ![2048, 256]⟩
abbrev S64x4096 : Shape := ⟨2, ![64, 4096]⟩
abbrev S512x4096 : Shape := ⟨2, ![512, 4096]⟩
abbrev S512x256 : Shape := ⟨2, ![512, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .bf16⟩
  | .hbm, ⟨2, _⟩ => ⟨S4096x11008, .bf16⟩
  | .hbm, ⟨3, _⟩ => ⟨S1x11008x4096, .f32⟩
  | .hbm, ⟨4, _⟩ => ⟨S8192x11008, .bf16⟩
  | .hbm, ⟨5, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x64x4096, .f32⟩
  | .local _ .vmem, ⟨7, _⟩ => ⟨S1x64x4096, .f32⟩
  | .local _ .vmem, ⟨8, _⟩ => ⟨S2048x256, .bf16⟩
  | .local _ .vmem, ⟨9, _⟩ => ⟨S2048x256, .bf16⟩
  | .local _ .vmem, ⟨10, _⟩ => ⟨S64x4096, .bf16⟩
  | .local _ .vmem, ⟨11, _⟩ => ⟨S64x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RUpIdeal.lean ====
abbrev S8192x4096 : Shape := ⟨2, ![8192, 4096]⟩
abbrev S4096x11008 : Shape := ⟨2, ![4096, 11008]⟩
abbrev S1x11008x4096 : Shape := ⟨3, ![1, 11008, 4096]⟩
abbrev S8192x11008 : Shape := ⟨2, ![8192, 11008]⟩
abbrev S_ : Shape := ⟨0, ![]⟩
abbrev S11008x4096 : Shape := ⟨2, ![11008, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .bf16⟩
  | .hbm, ⟨2, _⟩ => ⟨S4096x11008, .bf16⟩
  | .hbm, ⟨3, _⟩ => ⟨S1x11008x4096, .f32⟩
  | .hbm, ⟨4, _⟩ => ⟨S8192x4096, .f32⟩
  | .hbm, ⟨5, _⟩ => ⟨S4096x11008, .f32⟩
  | .hbm, ⟨6, _⟩ => ⟨S4096x11008, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S8192x11008, .bf16⟩
  | .hbm, ⟨20, _⟩ => ⟨S11008x4096, .f32⟩
  | .hbm, ⟨21, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== KDown.lean ====
abbrev S8192x11008 : Shape := ⟨2, ![8192, 11008]⟩
abbrev S11008x4096 : Shape := ⟨2, ![11008, 4096]⟩
abbrev S8192x4096 : Shape := ⟨2, ![8192, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RDownIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x11008, .f32⟩
  | .hbm, ⟨4, _⟩ => ⟨S11008x4096, .f32⟩
  | .hbm, ⟨5, _⟩ => ⟨S8192x4096, .f32⟩
  | .hbm, ⟨6, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KGating.lean ====
abbrev S4x2048x4096 : Shape := ⟨3, ![4, 2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S8192x4096 : Shape := ⟨2, ![8192, 4096]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S8192x2048 : Shape := ⟨2, ![8192, 2048]⟩
abbrev S512x4096 : Shape := ⟨2, ![512, 4096]⟩
abbrev S512x2048 : Shape := ⟨2, ![512, 2048]⟩
abbrev S128x128 : Shape := ⟨2, ![128, 128]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S8192x4096, .f32⟩
  | .hbm, ⟨5, _⟩ => ⟨S2048, .f32⟩
  | .hbm, ⟨6, _⟩ => ⟨S16x128x128, .f32⟩
  | .hbm, ⟨7, _⟩ => ⟨S16x128, .f32⟩
  | .hbm, ⟨8, _⟩ => ⟨S1x2048, .f32⟩
  | .hbm, ⟨9, _⟩ => ⟨S128x16, .f32⟩
  | .hbm, ⟨10, _⟩ => ⟨S8192x2048, .bf16⟩
  | .local _ .vmem, ⟨0, _⟩ => ⟨S512x4096, .f32⟩
  | .local _ .vmem, ⟨1, _⟩ => ⟨S512x4096, .f32⟩
  | .local _ .vmem, ⟨2, _⟩ => ⟨S1x2048, .f32⟩
  | .local _ .vmem, ⟨3, _⟩ => ⟨S16x128x128, .f32⟩
  | .local _ .vmem, ⟨4, _⟩ => ⟨S128x16, .f32⟩
  | .local _ .vmem, ⟨5, _⟩ => ⟨S512x2048, .bf16⟩
  | .local _ .vmem, ⟨6, _⟩ => ⟨S512x2048, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RGatingIdeal.lean ====
abbrev S4x2048x4096 : Shape := ⟨3, ![4, 2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S_ : Shape := ⟨0, ![]⟩
abbrev S2048 : Shape := ⟨1, ![2048]⟩
abbrev S16x128x128 : Shape := ⟨3, ![16, 128, 128]⟩
abbrev S16x128 : Shape := ⟨2, ![16, 128]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x16x128x16x128 : Shape := ⟨5, ![4, 16, 128, 16, 128]⟩
abbrev S128x128 : Shape := ⟨2, ![128, 128]⟩
abbrev S1x128x128 : Shape := ⟨3, ![1, 128, 128]⟩
abbrev S16x4x16x128x128 : Shape := ⟨5, ![16, 4, 16, 128, 128]⟩
abbrev S128x16 : Shape := ⟨2, ![128, 16]⟩
abbrev S1x1x128x16x1 : Shape := ⟨5, ![1, 1, 128, 16, 1]⟩
abbrev S8192x2048 : Shape := ⟨2, ![8192, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x2048, .f32⟩
  | .hbm, ⟨2, _⟩ => ⟨S1x16x128x128, .f32⟩
  | .hbm, ⟨3, _⟩ => ⟨S1x16x128, .f32⟩
  | .hbm, ⟨4, _⟩ => ⟨S4x2048x4096, .f32⟩
  | .hbm, ⟨5, _⟩ => ⟨S4x2048x4096, .f32⟩
  | .hbm, ⟨6, _⟩ => ⟨S_, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S2048, .f32⟩
  | .hbm, ⟨22, _⟩ => ⟨S16x128x128, .f32⟩
  | .hbm, ⟨23, _⟩ => ⟨S16x128, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S1x1x2048, .f32⟩
  | .hbm, ⟨40, _⟩ => ⟨S4x2048x2048, .f32⟩
  | .hbm, ⟨41, _⟩ => ⟨S4x2048x2048, .f32⟩
  | .hbm, ⟨42, _⟩ => ⟨S4x16x128x16x128, .f32⟩
  | .hbm, ⟨43, _⟩ => ⟨S_, .i1⟩
  | .hbm, ⟨44, _⟩ => ⟨S128x128, .i1⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .i1⟩
  | .hbm, ⟨52, _⟩ => ⟨S128x128, .i1⟩
  | .hbm, ⟨53, _⟩ => ⟨S128x128, .i1⟩
  | .hbm, ⟨54, _⟩ => ⟨S1x128x128, .i1⟩
  | .hbm, ⟨55, _⟩ => ⟨S_, .i32⟩
  | .hbm, ⟨56, _⟩ => ⟨S_, .f32⟩
  | .hbm, ⟨57, _⟩ => ⟨S16x128x128, .i1⟩
  | .hbm, ⟨58, _⟩ => ⟨S16x128x128, .f32⟩
  | .hbm, ⟨59, _⟩ => ⟨S16x128x128, .f32⟩
  | .hbm, ⟨60, _⟩ => ⟨S16x4x16x128x128, .f32⟩
  | .hbm, ⟨61, _⟩ => ⟨S4x16x128x16x128, .f32⟩
  | .hbm, ⟨62, _⟩ => ⟨S128x16, .f32⟩
  | .hbm, ⟨63, _⟩ => ⟨S1x1x128x16x1, .f32⟩
  | .hbm, ⟨64, _⟩ => ⟨S4x16x128x16x128, .f32⟩
  | .hbm, ⟨65, _⟩ => ⟨S4x16x128x16x128, .f32⟩
  | .hbm, ⟨66, _⟩ => ⟨S4x2048x2048, .f32⟩
  | .hbm, ⟨67, _⟩ => ⟨S4x2048x2048, .f32⟩
  | .hbm, ⟨68, _⟩ => ⟨S8192x2048, .f32⟩
  | .hbm, ⟨69, _⟩ => ⟨S8192x2048, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== KMerge.lean ====
abbrev S8192x2048 : Shape := ⟨2, ![8192, 2048]⟩
abbrev S8192x4096 : Shape := ⟨2, ![8192, 4096]⟩
abbrev S2048x4096 : Shape := ⟨2, ![2048, 4096]⟩
abbrev S1x4096x11008 : Shape := ⟨3, ![1, 4096, 11008]⟩
abbrev S4096x11008 : Shape := ⟨2, ![4096, 11008]⟩
abbrev S1024x2048 : Shape := ⟨2, ![1024, 2048]⟩
abbrev S1024x4096 : Shape := ⟨2, ![1024, 4096]⟩
abbrev S2048x256 : Shape := ⟨2, ![2048, 256]⟩
abbrev S256x4096 : Shape := ⟨2, ![256, 4096]⟩
abbrev S1x32x11008 : Shape := ⟨3, ![1, 32, 11008]⟩
abbrev S1024x256 : Shape := ⟨2, ![1024, 256]⟩
abbrev S32x11008 : Shape := ⟨2, ![32, 11008]⟩
abbrev S256x2048 : Shape := ⟨2, ![256, 2048]⟩
abbrev S256x256 : Shape := ⟨2, ![256, 256]⟩

abbrev nBuf : Space → Nat
  | .hbm => 11
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .bf16⟩
  | .hbm, ⟨3, _⟩ => ⟨S2048x4096, .bf16⟩
  | .hbm, ⟨4, _⟩ => ⟨S2048x4096, .bf16⟩
  | .hbm, ⟨5, _⟩ => ⟨S8192x4096, .bf16⟩
  | .hbm, ⟨6, _⟩ => ⟨S1x4096x11008, .f32⟩
  | .hbm, ⟨7, _⟩ => ⟨S1x4096x11008, .f32⟩
  | .hbm, ⟨8, _⟩ => ⟨S8192x4096, .bf16⟩
  | .hbm, ⟨9, _⟩ => ⟨S4096x11008, .bf16⟩
  | .hbm, ⟨10, _⟩ => ⟨S4096x11008, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x4096, .bf16⟩
  | .local _ .vmem, ⟨5, _⟩ => ⟨S1024x4096, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S1x32x11008, .f32⟩
  | .local _ .vmem, ⟨15, _⟩ => ⟨S1x32x11008, .f32⟩
  | .local _ .vmem, ⟨16, _⟩ => ⟨S1x32x11008, .f32⟩
  | .local _ .vmem, ⟨17, _⟩ => ⟨S1x32x11008, .f32⟩
  | .local _ .vmem, ⟨18, _⟩ => ⟨S1024x256, .bf16⟩
  | .local _ .vmem, ⟨19, _⟩ => ⟨S1024x256, .bf16⟩
  | .local _ .vmem, ⟨20, _⟩ => ⟨S32x11008, .bf16⟩
  | .local _ .vmem, ⟨21, _⟩ => ⟨S32x11008, .bf16⟩
  | .local _ .vmem, ⟨22, _⟩ => ⟨S32x11008, .bf16⟩
  | .local _ .vmem, ⟨23, _⟩ => ⟨S32x11008, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x32x11008 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x11008 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x11008 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x11008 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RMergeIdeal.lean ====
abbrev S8192x2048 : Shape := ⟨2, ![8192, 2048]⟩
abbrev S8192x4096 : Shape := ⟨2, ![8192, 4096]⟩
abbrev S2048x4096 : Shape := ⟨2, ![2048, 4096]⟩
abbrev S1x4096x11008 : Shape := ⟨3, ![1, 4096, 11008]⟩
abbrev S4096x8192 : Shape := ⟨2, ![4096, 8192]⟩
abbrev S8192x8192 : Shape := ⟨2, ![8192, 8192]⟩
abbrev S_ : Shape := ⟨0, ![]⟩
abbrev S4096x11008 : Shape := ⟨2, ![4096, 11008]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .bf16⟩
  | .hbm, ⟨3, _⟩ => ⟨S2048x4096, .bf16⟩
  | .hbm, ⟨4, _⟩ => ⟨S2048x4096, .bf16⟩
  | .hbm, ⟨5, _⟩ => ⟨S8192x4096, .bf16⟩
  | .hbm, ⟨6, _⟩ => ⟨S1x4096x11008, .f32⟩
  | .hbm, ⟨7, _⟩ => ⟨S1x4096x11008, .f32⟩
  | .hbm, ⟨8, _⟩ => ⟨S8192x2048, .f32⟩
  | .hbm, ⟨9, _⟩ => ⟨S8192x2048, .f32⟩
  | .hbm, ⟨10, _⟩ => ⟨S8192x4096, .f32⟩
  | .hbm, ⟨11, _⟩ => ⟨S2048x4096, .f32⟩
  | .hbm, ⟨12, _⟩ => ⟨S2048x4096, .f32⟩
  | .hbm, ⟨13, _⟩ => ⟨S8192x4096, .f32⟩
  | .hbm, ⟨14, _⟩ => ⟨S4096x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | .hbm, ⟨32, _⟩ => ⟨S4096x11008, .f32⟩
  | .hbm, ⟨33, _⟩ => ⟨S4096x11008, .bf16⟩
  | .hbm, ⟨34, _⟩ => ⟨S4096x11008, .f32⟩
  | .hbm, ⟨35, _⟩ => ⟨S4096x11008, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KOutproj.lean ====
abbrev S8192x4096 : Shape := ⟨2, ![8192, 4096]⟩
abbrev S4096x4096 : Shape := ⟨2, ![4096, 4096]⟩
abbrev S1x1024x4096 : Shape := ⟨3, ![1, 1024, 4096]⟩
abbrev S1024x4096 : Shape := ⟨2, ![1024, 4096]⟩
abbrev S4096x512 : Shape := ⟨2, ![4096, 512]⟩
abbrev S1024x512 : Shape := ⟨2, ![1024, 512]⟩
abbrev S1x16x4096 : Shape := ⟨3, ![1, 16, 4096]⟩
abbrev S16x4096 : Shape := ⟨2, ![16, 4096]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S1x1024x4096, .f32⟩
  | .hbm, ⟨4, _⟩ => ⟨S8192x4096, .f32⟩
  | .hbm, ⟨5, _⟩ => ⟨S1024x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x16x4096, .f32⟩
  | .local _ .vmem, ⟨7, _⟩ => ⟨S1x16x4096, .f32⟩
  | .local _ .vmem, ⟨8, _⟩ => ⟨S1024x512, .f32⟩
  | .local _ .vmem, ⟨9, _⟩ => ⟨S1024x512, .f32⟩
  | .local _ .vmem, ⟨10, _⟩ => ⟨S16x4096, .bf16⟩
  | .local _ .vmem, ⟨11, _⟩ => ⟨S16x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ROutprojIdeal.lean ====
abbrev S8192x4096 : Shape := ⟨2, ![8192, 4096]⟩
abbrev S4096x4096 : Shape := ⟨2, ![4096, 4096]⟩
abbrev S1x1024x4096 : Shape := ⟨3, ![1, 1024, 4096]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S1x1024x4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S8192x4096, .f32⟩
  | .hbm, ⟨8, _⟩ => ⟨S1024x4096, .f32⟩
  | .hbm, ⟨9, _⟩ => ⟨S1024x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KProjatt.lean ====
abbrev S8192x4096 : Shape := ⟨2, ![8192, 4096]⟩
abbrev S1x4096x16464 : Shape := ⟨3, ![1, 4096, 16464]⟩
abbrev S1x16464x4096 : Shape := ⟨3, ![1, 16464, 4096]⟩
abbrev S8192x4352 : Shape := ⟨2, ![8192, 4352]⟩
abbrev S1024x4096 : Shape := ⟨2, ![1024, 4096]⟩
abbrev S1x256x4096 : Shape := ⟨3, ![1, 256, 4096]⟩
abbrev S1024x256 : Shape := ⟨2, ![1024, 256]⟩
abbrev S256x4096 : Shape := ⟨2, ![256, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x16464, .f32⟩
  | .hbm, ⟨2, _⟩ => ⟨S1x16464x4096, .f32⟩
  | .hbm, ⟨3, _⟩ => ⟨S8192x4352, .f32⟩
  | .local _ .vmem, ⟨0, _⟩ => ⟨S1024x4096, .bf16⟩
  | .local _ .vmem, ⟨1, _⟩ => ⟨S1024x4096, .bf16⟩
  | .local _ .vmem, ⟨2, _⟩ => ⟨S1x256x4096, .f32⟩
  | .local _ .vmem, ⟨3, _⟩ => ⟨S1x256x4096, .f32⟩
  | .local _ .vmem, ⟨4, _⟩ => ⟨S1024x256, .f32⟩
  | .local _ .vmem, ⟨5, _⟩ => ⟨S1024x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RProjattIdeal.lean ====
abbrev S8192x4096 : Shape := ⟨2, ![8192, 4096]⟩
abbrev S1x4096x16464 : Shape := ⟨3, ![1, 4096, 16464]⟩
abbrev S1x4096x4352 : Shape := ⟨3, ![1, 4096, 4352]⟩
abbrev S4096x4352 : Shape := ⟨2, ![4096, 4352]⟩
abbrev S8192x4352 : Shape := ⟨2, ![8192, 4352]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16464, .f32⟩
  | .hbm, ⟨2, _⟩ => ⟨S8192x4096, .f32⟩
  | .hbm, ⟨3, _⟩ => ⟨S1x4096x4352, .f32⟩
  | .hbm, ⟨4, _⟩ => ⟨S4096x4352, .f32⟩
  | .hbm, ⟨5, _⟩ => ⟨S8192x4352, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KMixnorm.lean ====
abbrev S4x2048x4096 : Shape := ⟨3, ![4, 2048, 4096]⟩
abbrev S1x4096 : Shape := ⟨2, ![1, 4096]⟩
abbrev S8192x4096 : Shape := ⟨2, ![8192, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RMixnormIdeal.lean ====
abbrev S4x2048x4096 : Shape := ⟨3, ![4, 2048, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S4096, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S8192x4096, .f32⟩
  | .hbm, ⟨20, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KFinal.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RFinalIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KXq.lean ====
abbrev S8192x4096 : Shape := ⟨2, ![8192, 4096]⟩
abbrev S1x4096 : Shape := ⟨2, ![1, 4096]⟩
abbrev S4096x1024 : Shape := ⟨2, ![4096, 1024]⟩
abbrev S4096 : Shape := ⟨1, ![4096]⟩
abbrev S8192x1024 : Shape := ⟨2, ![8192, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x1024, .bf16⟩
  | .hbm, ⟨3, _⟩ => ⟨S4096, .f32⟩
  | .hbm, ⟨4, _⟩ => ⟨S1x4096, .f32⟩
  | .hbm, ⟨5, _⟩ => ⟨S8192x1024, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RXqIdeal.lean ====
abbrev S8192x4096 : Shape := ⟨2, ![8192, 4096]⟩
abbrev S1x4096 : Shape := ⟨2, ![1, 4096]⟩
abbrev S4096x1024 : Shape := ⟨2, ![4096, 1024]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x1024, .bf16⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S4096x1024, .f32⟩
  | .hbm, ⟨21, _⟩ => ⟨S8192x1024, .f32⟩
  | .hbm, ⟨22, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KXkv.lean ====
abbrev S4x256x4096 : Shape := ⟨3, ![4, 256, 4096]⟩
abbrev S1x4096 : Shape := ⟨2, ![1, 4096]⟩
abbrev S4096x1024 : Shape := ⟨2, ![4096, 1024]⟩
abbrev S1024x4096 : Shape := ⟨2, ![1024, 4096]⟩
abbrev S4096 : Shape := ⟨1, ![4096]⟩
abbrev S1024x1024 : Shape := ⟨2, ![1024, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S4096x1024, .bf16⟩
  | .hbm, ⟨3, _⟩ => ⟨S1024x4096, .f32⟩
  | .hbm, ⟨4, _⟩ => ⟨S4096, .f32⟩
  | .hbm, ⟨5, _⟩ => ⟨S1x4096, .f32⟩
  | .hbm, ⟨6, _⟩ => ⟨S1024x1024, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RXkvIdeal.lean ====
abbrev S4x256x4096 : Shape := ⟨3, ![4, 256, 4096]⟩
abbrev S1x4096 : Shape := ⟨2, ![1, 4096]⟩
abbrev S4096x1024 : Shape := ⟨2, ![4096, 1024]⟩
abbrev S4096 : Shape := ⟨1, ![4096]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S4x256x1024 : Shape := ⟨3, ![4, 256, 1024]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S4096x1024, .bf16⟩
  | .hbm, ⟨3, _⟩ => ⟨S4096, .f32⟩
  | .hbm, ⟨4, _⟩ => ⟨S4x256x4096, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x4096, .f32⟩
  | .hbm, ⟨16, _⟩ => ⟨S4x256x4096, .f32⟩
  | .hbm, ⟨17, _⟩ => ⟨S1x1x4096, .f32⟩
  | .hbm, ⟨18, _⟩ => ⟨S4x256x4096, .f32⟩
  | .hbm, ⟨19, _⟩ => ⟨S4x256x4096, .f32⟩
  | .hbm, ⟨20, _⟩ => ⟨S4096x1024, .f32⟩
  | .hbm, ⟨21, _⟩ => ⟨S4x256x1024, .f32⟩
  | .hbm, ⟨22, _⟩ => ⟨S1024x1024, .f32⟩
  | .hbm, ⟨23, _⟩ => ⟨S1024x1024, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KXout.lean ====
abbrev S8192x1024 : Shape := ⟨2, ![8192, 1024]⟩
abbrev S1024x4096 : Shape := ⟨2, ![1024, 4096]⟩
abbrev S8192x4096 : Shape := ⟨2, ![8192, 4096]⟩
abbrev S1x4096 : Shape := ⟨2, ![1, 4096]⟩
abbrev S4096 : Shape := ⟨1, ![4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .f32⟩
  | .local _ .vmem, ⟨4, _⟩ => ⟨S512x4096, .f32⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | .local _ .vmem, ⟨8, _⟩ => ⟨S512x4096, .bf16⟩
  | .local _ .vmem, ⟨9, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RXoutIdeal.lean ====
abbrev S8192x1024 : Shape := ⟨2, ![8192, 1024]⟩
abbrev S1024x4096 : Shape := ⟨2, ![1024, 4096]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S1x4096, .f32⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KXattn.lean ====
abbrev S4x2048x1024 : Shape := ⟨3, ![4, 2048, 1024]⟩
abbrev S4x256x1024 : Shape := ⟨3, ![4, 256, 1024]⟩
abbrev S1x1024x1024 : Shape := ⟨3, ![1, 1024, 1024]⟩
abbrev S1x256x1024 : Shape := ⟨3, ![1, 256, 1024]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x1024, .bf16⟩
  | .hbm, ⟨1, _⟩ => ⟨S4x256x1024, .bf16⟩
  | .hbm, ⟨2, _⟩ => ⟨S4x256x1024, .bf16⟩
  | .hbm, ⟨3, _⟩ => ⟨S4x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024x1024, .bf16⟩
  | .local _ .vmem, ⟨7, _⟩ => ⟨S1x1024x1024, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RXattnIdeal.lean ====
abbrev S4x2048x1024 : Shape := ⟨3, ![4, 2048, 1024]⟩
abbrev S4x256x1024 : Shape := ⟨3, ![4, 256, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x256x1024, .bf16⟩
  | .hbm, ⟨2, _⟩ => ⟨S4x256x1024, .bf16⟩
  | .hbm, ⟨3, _⟩ => ⟨S4x2048x1024, .f32⟩
  | .hbm, ⟨4, _⟩ => ⟨S4x256x1024, .f32⟩
  | .hbm, ⟨5, _⟩ => ⟨S4x256x1024, .f32⟩
  | .hbm, ⟨6, _⟩ => ⟨S4x2048x4x256, .f32⟩
  | .hbm, ⟨7, _⟩ => ⟨S4x256x4x256, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x256x2048, .f32⟩
  | .hbm, ⟨28, _⟩ => ⟨S4x2048x4x256, .f32⟩
  | .hbm, ⟨29, _⟩ => ⟨S4x2048x1024, .f32⟩
  | .hbm, ⟨30, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== KZa.lean ====
abbrev S8192x4096 : Shape := ⟨2, ![8192, 4096]⟩
abbrev S1x4096x16464 : Shape := ⟨3, ![1, 4096, 16464]⟩
abbrev S4x2048x4352 : Shape := ⟨3, ![4, 2048, 4352]⟩
abbrev S4x2048 : Shape := ⟨2, ![4, 2048]⟩
abbrev S1x16464x4096 : Shape := ⟨3, ![1, 16464, 4096]⟩
abbrev S4x2048x1 : Shape := ⟨3, ![4, 2048, 1]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S8 : Shape := ⟨1, ![8]⟩
abbrev S48 : Shape := ⟨1, ![48]⟩
abbrev S64 : Shape := ⟨1, ![64]⟩
abbrev S1x64 : Shape := ⟨2, ![1, 64]⟩
abbrev S2x64 : Shape := ⟨2, ![2, 64]⟩
abbrev S4x2048x2048 : Shape := ⟨3, ![4, 2048, 2048]⟩
abbrev S4x2048x512 : Shape := ⟨3, ![4, 2048, 512]⟩
abbrev S4x4x512x512 : Shape := ⟨4, ![4, 4, 512, 512]⟩
abbrev S4x2048x128 : Shape := ⟨3, ![4, 2048, 128]⟩
abbrev S4x16x2048 : Shape := ⟨3, ![4, 16, 2048]⟩
abbrev S1024x4096 : Shape := ⟨2, ![1024, 4096]⟩
abbrev S1x512x4096 : Shape := ⟨3, ![1, 512, 4096]⟩
abbrev S1x128x4352 : Shape := ⟨3, ![1, 128, 4352]⟩
abbrev S1x128x1 : Shape := ⟨3, ![1, 128, 1]⟩
abbrev S1024x512 : Shape := ⟨2, ![1024, 512]⟩
abbrev S1x128x2048 : Shape := ⟨3, ![1, 128, 2048]⟩
abbrev S1x128x512 : Shape := ⟨3, ![1, 128, 512]⟩
abbrev S1x1x512x128 : Shape := ⟨4, ![1, 1, 512, 128]⟩
abbrev S1x128x128 : Shape := ⟨3, ![1, 128, 128]⟩
abbrev S1x16x128 : Shape := ⟨3, ![1, 16, 128]⟩
abbrev S128x1 : Shape := ⟨2, ![128, 1]⟩
abbrev S128x128 : Shape := ⟨2, ![128, 128]⟩
abbrev S128x512 : Shape := ⟨2, ![128, 512]⟩
abbrev S512x128 : Shape := ⟨2, ![512, 128]⟩
abbrev S16x128 : Shape := ⟨2, ![16, 128]⟩
abbrev S512x4096 : Shape := ⟨2, ![512, 4096]⟩

abbrev nBuf : Space → Nat
  | .hbm => 56
  | .vmem => 24
  | .smem => 0
  | _ => 0

abbrev bufTy : (tb : Table) → Fin (tcTables nBuf tb) → BufTy
  | .hbm, ⟨0, _⟩ => ⟨S8192x4096, .bf16⟩
  | .hbm, ⟨1, _⟩ => ⟨S1x4096x16464, .f32⟩
  | .hbm, ⟨2, _⟩ => ⟨S4x2048x4352, .f32⟩
  | .hbm, ⟨3, _⟩ => ⟨S4x2048, .i32⟩
  | .hbm, ⟨4, _⟩ => ⟨S1x16464x4096, .f32⟩
  | .hbm, ⟨5, _⟩ => ⟨S4x2048, .f32⟩
  | .hbm, ⟨6, _⟩ => ⟨S4x2048x1, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S96, .f32⟩
  | .hbm, ⟨23, _⟩ => ⟨S128, .f32⟩
  | .hbm, ⟨24, _⟩ => ⟨S1x128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S48, .f32⟩
  | .hbm, ⟨44, _⟩ => ⟨S64, .f32⟩
  | .hbm, ⟨45, _⟩ => ⟨S1x64, .f32⟩
  | .hbm, ⟨46, _⟩ => ⟨S2x64, .f32⟩
  | .hbm, ⟨47, _⟩ => ⟨S128, .f32⟩
  | .hbm, ⟨48, _⟩ => ⟨S1x128, .f32⟩
  | .hbm, ⟨49, _⟩ => ⟨S8192x4096, .f32⟩
  | .hbm, ⟨50, _⟩ => ⟨S4x2048x2048, .bf16⟩
  | .hbm, ⟨51, _⟩ => ⟨S4x2048x512, .bf16⟩
  | .hbm, ⟨52, _⟩ => ⟨S4x4x512x512, .bf16⟩
  | .hbm, ⟨53, _⟩ => ⟨S4x2048x2048, .bf16⟩
  | .hbm, ⟨54, _⟩ => ⟨S4x2048x128, .bf16⟩
  | .hbm, ⟨55, _⟩ => ⟨S4x16x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x128x4352, .f32⟩
  | .local _ .vmem, ⟨5, _⟩ => ⟨S1x128x4352, .f32⟩
  | .local _ .vmem, ⟨6, _⟩ => ⟨S1x128x1, .f32⟩
  | .local _ .vmem, ⟨7, _⟩ => ⟨S1x128x1, .f32⟩
  | .local _ .vmem, ⟨8, _⟩ => ⟨S1x128, .f32⟩
  | .local _ .vmem, ⟨9, _⟩ => ⟨S1x128, .f32⟩
  | .local _ .vmem, ⟨10, _⟩ => ⟨S1024x512, .f32⟩
  | .local _ .vmem, ⟨11, _⟩ => ⟨S1024x512, .f32⟩
  | .local _ .vmem, ⟨12, _⟩ => ⟨S1x128x2048, .bf16⟩
  | .local _ .vmem, ⟨13, _⟩ => ⟨S1x128x2048, .bf16⟩
  | .local _ .vmem, ⟨14, _⟩ => ⟨S1x128x512, .bf16⟩
  | .local _ .vmem, ⟨15, _⟩ => ⟨S1x128x512, .bf16⟩
  | .local _ .vmem, ⟨16, _⟩ => ⟨S1x1x512x128, .bf16⟩
  | .local _ .vmem, ⟨17, _⟩ => ⟨S1x1x512x128, .bf16⟩
  | .local _ .vmem, ⟨18, _⟩ => ⟨S1x128x2048, .bf16⟩
  | .local _ .vmem, ⟨19, _⟩ => ⟨S1x128x2048, .bf16⟩
  | .local _ .vmem, ⟨20, _⟩ => ⟨S1x128x128, .bf16⟩
  | .local _ .vmem, ⟨21, _⟩ => ⟨S1x128x128, .bf16⟩
  | .local _ .vmem, ⟨22, _⟩ => ⟨S1x16x128, .f32⟩
  | .local _ .vmem, ⟨23, _⟩ => ⟨S1x16x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v35_3 : Ref sig .tc := ⟨.hbm, 52, rfl⟩
abbrev main_v35_4 : Ref sig .tc := ⟨.hbm, 53, rfl⟩
abbrev main_v35_5 : Ref sig .tc := ⟨.hbm, 54, rfl⟩
abbrev main_v35_6 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.divsi v28 c4_i32
  let c0_i32_10 : BitVec 32 := 0#32
  let v30 : BitVec 1 := Scalar.cmpi .sgt v28 c0_i32_10
  let v31 : BitVec 32 := Scalar.extui v30
  let c0_i32_11 : BitVec 32 := 0#32
  let v32 : BitVec 1 := Scalar.cmpi .slt v28 c0_i32_11
  let v33 : BitVec 32 := Scalar.extui v32
  let v34 : BitVec 32 := Scalar.subi v31 v33
  let c0_i32_12 : BitVec 32 := 0#32
  let v35 : BitVec 1 := Scalar.cmpi .sgt c4_i32 c0_i32_12
  let v36 : BitVec 32 := Scalar.extui v35
  let c0_i32_13 : BitVec 32 := 0#32
  let v37 : BitVec 1 := Scalar.cmpi .slt c4_i32 c0_i32_13
  let v38 : BitVec 32 := Scalar.extui v37
  let v39 : BitVec 32 := Scalar.subi v36 v38
  let v40 : BitVec 1 := Scalar.cmpi .ne v34 v39
  let v41 : BitVec 32 := Scalar.remsi v28 c4_i32
  let c0_i32_14 : BitVec 32 := 0#32
  let v42 : BitVec 1 := Scalar.cmpi .ne v41 c0_i32_14
  let v43 : BitVec 1 := Scalar.andi v40 v42
  let c1_i32_15 : BitVec 32 := 1#32
  let v44 : BitVec 32 := Scalar.subi v29 c1_i32_15
  let v45 : BitVec 32 := Scalar.select v43 v44 v29
  let c16_i32_16 : BitVec 32 := 16#32
  let c0_i32_17 : BitVec 32 := 0#32
  let v46 : BitVec 1 := Scalar.cmpi .eq c16_i32_16 c0_i32_17
  let c1_i32_18 : BitVec 32 := 1#32
  let v47 : BitVec 32 := Scalar.select v46 c1_i32_18 c16_i32_16
  let v48 : BitVec 32 := Scalar.remsi v1 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c4_i32_22 : BitVec 32 := 4#32
  let c0_i32_23 : BitVec 32 := 0#32
  let v56 : BitVec 1 := Scalar.cmpi .eq c4_i32_22 c0_i32_23
  let c1_i32_24 : BitVec 32 := 1#32
  let v57 : BitVec 32 := Scalar.select v56 c1_i32_24 c4_i32_22
  let v58 : BitVec 32 := Scalar.remsi v55 v57
  let c0_i32_25 : BitVec 32 := 0#32
  let v59 : BitVec 1 := Scalar.cmpi .ne v58 c0_i32_25
  let c0_i32_26 : BitVec 32 := 0#32
  let v60 : BitVec 1 := Scalar.cmpi .slt v58 c0_i32_26
  let c0_i32_27 : BitVec 32 := 0#32
  let v61 : BitVec 1 := Scalar.cmpi .slt v57 c0_i32_27
  let v62 : BitVec 1 := Scalar.xori v60 v61
  let v63 : BitVec 1 := Scalar.andi v62 v59
  let v64 : BitVec 32 := Scalar.addi v58 v57
  let v65 : BitVec 32 := Scalar.select v63 v64 v58
  let c0_i32_28 : BitVec 32 := 0#32
  let c0_i32_29 : BitVec 32 := 0#32
  ![v18.toNat, v45.toNat, c0_i32_28.toNat, v65.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x4352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RZaIdeal.lean ====
abbrev S8192x4096 : Shape := ⟨2, ![8192, 4096]⟩
abbrev S1x4096x16464 : Shape := ⟨3, ![1, 4096, 16464]⟩
abbrev S4x2048x4352 : Shape := ⟨3, ![4, 2048, 4352]⟩
abbrev S4x2048 : Shape := ⟨2, ![4, 2048]⟩
abbrev S1x4096x4096 : Shape := ⟨3, ![1, 4096, 4096]⟩
abbrev S4096x4096 : Shape := ⟨2, ![4096, 4096]⟩
abbrev S4x2048x2048 : Shape := ⟨3, ![4, 2048, 2048]⟩
abbrev S4x2048x16x128 : Shape := ⟨4, ![4, 2048, 16, 128]⟩
abbrev S4x2048x512 : Shape := ⟨3, ![4, 2048, 512]⟩
abbrev S4x2048x4x128 : Shape := ⟨4, ![4, 2048, 4, 128]⟩
abbrev S4x2048x1024 : Shape := ⟨3, ![4, 2048, 1024]⟩
abbrev S4x2048x16x64 : Shape := ⟨4, ![4, 2048, 16, 64]⟩
abbrev S4x2048x64 : Shape := ⟨3, ![4, 2048, 64]⟩
abbrev S4x2048x1x64 : Shape := ⟨4, ![4, 2048, 1, 64]⟩
abbrev S4x2048x16 : Shape := ⟨3, ![4, 2048, 16]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16x32 : Shape := ⟨4, ![4, 2048, 16, 32]⟩
abbrev S4x2048x16x96 : Shape := ⟨4, ![4, 2048, 16, 96]⟩
abbrev S4x2048x16x16 : Shape := ⟨4, ![4, 2048, 16, 16]⟩
abbrev S4x2048x1x16 : Shape := ⟨4, ![4, 2048, 1, 16]⟩
abbrev S4x2048x4x32 : Shape := ⟨4, ![4, 2048, 4, 32]⟩
abbrev S4x2048x4x96 : Shape := ⟨4, ![4, 2048, 4, 96]⟩
abbrev S4x2048x4x16 : Shape := ⟨4, ![4, 2048, 4, 16]⟩
abbrev S8 : Shape := ⟨1, ![8]⟩
abbrev S1x1x8 : Shape := ⟨3, ![1, 1, 8]⟩
abbrev S4x2048x8 : Shape := ⟨3, ![4, 2048, 8]⟩
abbrev S4x2048x16x48 : Shape := ⟨4, ![4, 2048, 16, 48]⟩
abbrev S4x2048x16x8 : Shape := ⟨4, ![4, 2048, 16, 8]⟩
abbrev S4x2048x1x8 : Shape := ⟨4, ![4, 2048, 1, 8]⟩
abbrev S4x2048x1x48 : Shape := ⟨4, ![4, 2048, 1, 48]⟩
abbrev S4x2048x1x128 : Shape := ⟨4, ![4, 2048, 1, 128]⟩
abbrev S4x2048x128 : Shape := ⟨3, ![4, 2048, 128]⟩
abbrev S4x4x512x512 : Shape := ⟨4, ![4, 4, 512, 512]⟩
abbrev S4x16x2048 : Shape := ⟨3, ![4, 16, 2048]⟩

abbrev nBuf : Space → Nat
  | .hbm => 144
  | .vmem => 0
  | .smem => 0
  | _ => 0

abbrev hbmTy0_0 (i : Nat) : BufTy := match i % 128 with
  | 0 => ⟨S8192x4096, .bf16⟩
  | 1 => ⟨S1x4096x16464, .f32⟩
  | 2 => ⟨S4x2048x4352, .f32⟩
  | 3 => ⟨S4x2048, .i32⟩
  | 4 => ⟨S8192x4096, .f32⟩
  | 5 => ⟨S1x4096x4096, .f32⟩
  | 6 => ⟨S4096x4096, .f32⟩
  | 7 => ⟨S8192x4096, .f32⟩
  | 8 => ⟨S4x2048x2048, .f32⟩
  | 9 => ⟨S4x2048x16x128, .f32⟩
  | 10 => ⟨S4x2048x512, .f32⟩
  | 11 => ⟨S4x2048x4x128, .f32⟩
  | 12 => ⟨S4x2048x512, .f32⟩
  | 13 => ⟨S4x2048x1024, .f32⟩
  | 14 => ⟨S4x2048x16x64, .f32⟩
  | 15 => ⟨S4x2048x64, .f32⟩
  | 16 => ⟨S4x2048x1x64, .f32⟩
  | 17 => ⟨S4x2048x16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S4x2048, .f32⟩
  | 33 => ⟨S4x2048x1, .f32⟩
  | 34 => ⟨S1x1x16, .f32⟩
  | 35 => ⟨S4x2048x16, .f32⟩
  | 36 => ⟨S4x2048x16, .f32⟩
  | 37 => ⟨S4x2048x16, .f32⟩
  | 38 => ⟨S4x2048x16, .f32⟩
  | 39 => ⟨S4x2048x16, .f32⟩
  | 40 => ⟨S4x2048x16x32, .f32⟩
  | 41 => ⟨S4x2048x16x96, .f32⟩
  | 42 => ⟨S4x2048x16x16, .f32⟩
  | 43 => ⟨S4x2048x16x16, .f32⟩
  | 44 => ⟨S4x2048x1x16, .f32⟩
  | 45 => ⟨S4x2048x1x16, .f32⟩
  | 46 => ⟨S4x2048x16x16, .f32⟩
  | 47 => ⟨S4x2048x16x16, .f32⟩
  | 48 => ⟨S4x2048x16x16, .f32⟩
  | 49 => ⟨S4x2048x16x16, .f32⟩
  | 50 => ⟨S4x2048x16x16, .f32⟩
  | 51 => ⟨S4x2048x16x16, .f32⟩
  | 52 => ⟨S4x2048x16x16, .f32⟩
  | 53 => ⟨S4x2048x16x16, .f32⟩
  | 54 => ⟨S4x2048x16x16, .f32⟩
  | 55 => ⟨S4x2048x16x16, .f32⟩
  | 56 => ⟨S4x2048x16x128, .f32⟩
  | 57 => ⟨S4x2048x2048, .f32⟩
  | 58 => ⟨S4x2048x4x32, .f32⟩
  | 59 => ⟨S4x2048x4x96, .f32⟩
  | 60 => ⟨S4x2048x4x16, .f32⟩
  | 61 => ⟨S4x2048x4x16, .f32⟩
  | 62 => ⟨S4x2048x1x16, .f32⟩
  | 63 => ⟨S4x2048x1x16, .f32⟩
  | 64 => ⟨S4x2048x4x16, .f32⟩
  | 65 => ⟨S4x2048x4x16, .f32⟩
  | 66 => ⟨S4x2048x4x16, .f32⟩
  | 67 => ⟨S4x2048x4x16, .f32⟩
  | 68 => ⟨S4x2048x4x16, .f32⟩
  | 69 => ⟨S4x2048x4x16, .f32⟩
  | 70 => ⟨S4x2048x4x16, .f32⟩
  | 71 => ⟨S4x2048x4x16, .f32⟩
  | 72 => ⟨S4x2048x4x16, .f32⟩
  | 73 => ⟨S4x2048x4x16, .f32⟩
  | 74 => ⟨S4x2048x4x128, .f32⟩
  | 75 => ⟨S4x2048x512, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S4x2048, .f32⟩
  | 91 => ⟨S4x2048x1, .f32⟩
  | 92 => ⟨S1x1x8, .f32⟩
  | 93 => ⟨S4x2048x8, .f32⟩
  | 94 => ⟨S4x2048x8, .f32⟩
  | 95 => ⟨S4x2048x8, .f32⟩
  | 96 => ⟨S4x2048x8, .f32⟩
  | 97 => ⟨S4x2048x8, .f32⟩
  | 98 => ⟨S4x2048x16x16, .f32⟩
  | 99 => ⟨S4x2048x16x48, .f32⟩
  | 100 => ⟨S4x2048x16x8, .f32⟩
  | 101 => ⟨S4x2048x16x8, .f32⟩
  | 102 => ⟨S4x2048x1x8, .f32⟩
  | 103 => ⟨S4x2048x1x8, .f32⟩
  | 104 => ⟨S4x2048x16x8, .f32⟩
  | 105 => ⟨S4x2048x16x8, .f32⟩
  | 106 => ⟨S4x2048x16x8, .f32⟩
  | 107 => ⟨S4x2048x16x8, .f32⟩
  | 108 => ⟨S4x2048x16x8, .f32⟩
  | 109 => ⟨S4x2048x16x8, .f32⟩
  | 110 => ⟨S4x2048x16x8, .f32⟩
  | 111 => ⟨S4x2048x16x8, .f32⟩
  | 112 => ⟨S4x2048x16x8, .f32⟩
  | 113 => ⟨S4x2048x16x8, .f32⟩
  | 114 => ⟨S4x2048x16x64, .f32⟩
  | 115 => ⟨S4x2048x1x16, .f32⟩
  | 116 => ⟨S4x2048x1x48, .f32⟩
  | 117 => ⟨S4x2048x1x8, .f32⟩
  | 118 => ⟨S4x2048x1x8, .f32⟩
  | 119 => ⟨S4x2048x1x8, .f32⟩
  | 120 => ⟨S4x2048x1x8, .f32⟩
  | 121 => ⟨S4x2048x1x8, .f32⟩
  | 122 => ⟨S4x2048x1x8, .f32⟩
  | 123 => ⟨S4x2048x1x8, .f32⟩
  | 124 => ⟨S4x2048x1x8, .f32⟩
  | 125 => ⟨S4x2048x1x8, .f32⟩
  | 126 => ⟨S4x2048x1x8, .f32⟩
  | 127 => ⟨S4x2048x1x64, .f32⟩
  | _ => ⟨S8192x4096, .bf16⟩

abbrev hbmTy0_1 (i : Nat) : BufTy := match i % 128 with
  | 0 => ⟨S_, .f32⟩
  | 1 => ⟨S4x2048x16x64, .f32⟩
  | 2 => ⟨S4x2048x16x128, .f32⟩
  | 3 => ⟨S4x2048x2048, .f32⟩
  | 4 => ⟨S_, .f32⟩
  | 5 => ⟨S4x2048x1x64, .f32⟩
  | 6 => ⟨S4x2048x1x128, .f32⟩
  | 7 => ⟨S4x2048x128, .f32⟩
  | 8 => ⟨S4x4x512x512, .f32⟩
  | 9 => ⟨S4x4x512x512, .f32⟩
  | 10 => ⟨S4x2048x2048, .bf16⟩
  | 11 => ⟨S4x2048x512, .bf16⟩
  | 12 => ⟨S4x4x512x512, .bf16⟩
  | 13 => ⟨S4x2048x2048, .bf16⟩
  | 14 => ⟨S4x2048x128, .bf16⟩
  | 15 => ⟨S4x16x2048, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_3 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_5 : Ref sig .tc := ⟨.hbm, 84, rfl⟩
abbrev main_v74 : Ref sig .tc := ⟨.hbm, 85, rfl⟩
abbrev main_v75 : Ref sig .tc := ⟨.hbm, 86, rfl⟩
abbrev main_cst_6 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_cst_7 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_cst_8 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩

abbrev nD : Nat := 1
abbrev τ : Topo := Topo.v7x

variable {F : FTy → Type} [FloatOps F]
-- ==== KDsa.lean ====
abbrev S4x2048x2048 : Shape := ⟨3, ![4, 2048, 2048]⟩
abbrev S4x2048x512 : Shape := ⟨3, ![4, 2048, 512]⟩
abbrev S4x4x512x512 : Shape := ⟨4, ![4, 4, 512, 512]⟩
abbrev S4x2048x128 : Shape := ⟨3, ![4, 2048, 128]⟩
abbrev S4x16x2048 : Shape := ⟨3, ![4, 16, 2048]⟩
abbrev S1x2048x4096 : Shape := ⟨3, ![1, 2048, 4096]⟩
abbrev S1x4096x16464 : Shape := ⟨3, ![1, 4096, 16464]⟩
abbrev S1x4096x4096 : Shape := ⟨3, ![1, 4096, 4096]⟩
abbrev S1x4096x1024 : Shape := ⟨3, ![1, 4096, 1024]⟩
abbrev S1x16464x4096 : Shape := ⟨3, ![1, 16464, 4096]⟩
abbrev S2048x4096 : Shape := ⟨2, ![2048, 4096]⟩
abbrev S8192x4096 : Shape := ⟨2, ![8192, 4096]⟩
abbrev S4096x4096 : Shape := ⟨2, ![4096, 4096]⟩
abbrev S4096x1024 : Shape := ⟨2, ![4096, 1024]⟩
abbrev S1x128x2048 : Shape := ⟨3, ![1, 128, 2048]⟩
abbrev S1x16x128 : Shape := ⟨3, ![1, 16, 128]⟩
abbrev S1x2048x128 : Shape := ⟨3, ![1, 2048, 128]⟩
abbrev S1x2048x512 : Shape := ⟨3, ![1, 2048, 512]⟩
abbrev S1x4x512x512 : Shape := ⟨4, ![1, 4, 512, 512]⟩
abbrev S1x32x4096 : Shape := ⟨3, ![1, 32, 4096]⟩
abbrev S1x128x4096 : Shape := ⟨3, ![1, 128, 4096]⟩
abbrev S1x64x4096 : Shape := ⟨3, ![1, 64, 4096]⟩
abbrev S1x64x1024 : Shape := ⟨3, ![1, 64, 1024]⟩
abbrev S32x4096 : Shape := ⟨2, ![32, 4096]⟩
abbrev S128x4096 : Shape := ⟨2, ![128, 4096]⟩
abbrev S64x4096 : Shape := ⟨2, ![64, 4096]⟩
abbrev S64x1024 : Shape := ⟨2, ![64, 1024]⟩
abbrev S2048x128 : Shape := ⟨2, ![2048, 128]⟩
abbrev S2048x2048 : Shape := ⟨2, ![2048, 2048]⟩
abbrev S144x2048 : Shape := ⟨2, ![144, 2048]⟩
abbrev S1x128 : Shape := ⟨2, ![1, 128]⟩
abbrev S512x1 : Shape := ⟨2, ![512, 1]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S256x128 : Shape := ⟨2, ![256, 128]⟩
abbrev S512x256 : Shape := ⟨2, ![512, 256]⟩
abbrev S1x1x128 : Shape := ⟨3, ![1, 1, 128]⟩
abbrev S8x128 : Shape := ⟨2, ![8, 128]⟩
abbrev S64x128 : Shape := ⟨2, ![64, 128]⟩
abbrev S32x128 : Shape := ⟨2, ![32, 128]⟩
abbrev S16x128 : Shape := ⟨2, ![16, 128]⟩
abbrev S128 : Shape := ⟨1, ![128]⟩
abbrev S1 : Shape := ⟨1, ![1]⟩
abbrev S1x1x1 : Shape := ⟨3, ![1, 1, 1]⟩
abbrev S8x2048 : Shape := ⟨2, ![8, 2048]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S2048 : Shape := ⟨1, ![2048]⟩
abbrev S1x2048 : Shape := ⟨2, ![1, 2048]⟩
abbrev S1x512 : Shape := ⟨2, ![1, 512]⟩
abbrev S1x1x128x512 : Shape := ⟨4, ![1, 1, 128, 512]⟩
abbrev S144x512 : Shape := ⟨2, ![144, 512]⟩
abbrev S128x2048 : Shape := ⟨2, ![128, 2048]⟩

abbrev nBuf : Space → Nat
  | .hbm => 22
  | .vmem => 46
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x512, .bf16⟩
  | .hbm, ⟨2, _⟩ => ⟨S4x4x512x512, .bf16⟩
  | .hbm, ⟨3, _⟩ => ⟨S4x2048x2048, .bf16⟩
  | .hbm, ⟨4, _⟩ => ⟨S4x2048x128, .bf16⟩
  | .hbm, ⟨5, _⟩ => ⟨S4x16x2048, .f32⟩
  | .hbm, ⟨6, _⟩ => ⟨S1x2048x4096, .f32⟩
  | .hbm, ⟨7, _⟩ => ⟨S1x2048x4096, .f32⟩
  | .hbm, ⟨8, _⟩ => ⟨S1x4096x16464, .f32⟩
  | .hbm, ⟨9, _⟩ => ⟨S1x4096x4096, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S1x16464x4096, .f32⟩
  | .hbm, ⟨14, _⟩ => ⟨S4x2048x2048, .bf16⟩
  | .hbm, ⟨15, _⟩ => ⟨S2048x4096, .bf16⟩
  | .hbm, ⟨16, _⟩ => ⟨S2048x4096, .bf16⟩
  | .hbm, ⟨17, _⟩ => ⟨S8192x4096, .bf16⟩
  | .hbm, ⟨18, _⟩ => ⟨S4096x4096, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x16x128, .f32⟩
  | .local _ .vmem, ⟨3, _⟩ => ⟨S1x16x128, .f32⟩
  | .local _ .vmem, ⟨4, _⟩ => ⟨S1x2048x128, .bf16⟩
  | .local _ .vmem, ⟨5, _⟩ => ⟨S1x2048x128, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x4x512x512, .bf16⟩
  | .local _ .vmem, ⟨11, _⟩ => ⟨S1x4x512x512, .bf16⟩
  | .local _ .vmem, ⟨12, _⟩ => ⟨S1x32x4096, .f32⟩
  | .local _ .vmem, ⟨13, _⟩ => ⟨S1x32x4096, .f32⟩
  | .local _ .vmem, ⟨14, _⟩ => ⟨S1x32x4096, .f32⟩
  | .local _ .vmem, ⟨15, _⟩ => ⟨S1x32x4096, .f32⟩
  | .local _ .vmem, ⟨16, _⟩ => ⟨S1x128x4096, .f32⟩
  | .local _ .vmem, ⟨17, _⟩ => ⟨S1x128x4096, .f32⟩
  | .local _ .vmem, ⟨18, _⟩ => ⟨S1x64x4096, .f32⟩
  | .local _ .vmem, ⟨19, _⟩ => ⟨S1x64x4096, .f32⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S1x64x1024, .f32⟩
  | .local _ .vmem, ⟨25, _⟩ => ⟨S1x64x1024, .f32⟩
  | .local _ .vmem, ⟨26, _⟩ => ⟨S1x128x2048, .bf16⟩
  | .local _ .vmem, ⟨27, _⟩ => ⟨S1x128x2048, .bf16⟩
  | .local _ .vmem, ⟨28, _⟩ => ⟨S32x4096, .bf16⟩
  | .local _ .vmem, ⟨29, _⟩ => ⟨S32x4096, .bf16⟩
  | .local _ .vmem, ⟨30, _⟩ => ⟨S32x4096, .bf16⟩
  | .local _ .vmem, ⟨31, _⟩ => ⟨S32x4096, .bf16⟩
  | .local _ .vmem, ⟨32, _⟩ => ⟨S128x4096, .bf16⟩
  | .local _ .vmem, ⟨33, _⟩ => ⟨S128x4096, .bf16⟩
  | .local _ .vmem, ⟨34, _⟩ => ⟨S64x4096, .bf16⟩
  | .local _ .vmem, ⟨35, _⟩ => ⟨S64x4096, .bf16⟩
  | .local _ .vmem, ⟨36, _⟩ => ⟨S64x1024, .bf16⟩
  | .local _ .vmem, ⟨37, _⟩ => ⟨S64x1024, .bf16⟩
  | .local _ .vmem, ⟨38, _⟩ => ⟨S64x1024, .bf16⟩
  | .local _ .vmem, ⟨39, _⟩ => ⟨S64x1024, .bf16⟩
  | .local _ .vmem, ⟨40, _⟩ => ⟨S64x1024, .bf16⟩
  | .local _ .vmem, ⟨41, _⟩ => ⟨S64x1024, .bf16⟩
  | .local _ .vmem, ⟨42, _⟩ => ⟨S2048x128, .f32⟩
  | .local _ .vmem, ⟨43, _⟩ => ⟨S2048x128, .f32⟩
  | .local _ .vmem, ⟨44, _⟩ => ⟨S2048x2048, .f32⟩
  | .local _ .vmem, ⟨45, _⟩ => ⟨S144x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev main_v1_5 : Ref sig .tc := ⟨.hbm, 19, rfl⟩
abbrev main_v1_6 : Ref sig .tc := ⟨.hbm, 20, rfl⟩
abbrev main_v1_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c128_i32 : BitVec 32 := 128#32
  let v28 : BitVec 32 := Scalar.muli arg1 c128_i32
  let c128_i32_34 : BitVec 32 := 128#32
  let v29 : BitVec 32 := Scalar.addi v28 c128_i32_34
  let c512_i32 : BitVec 32 := 512#32
  let v30 : BitVec 32 := Scalar.addi v29 c512_i32
  let c1_i32 : BitVec 32 := 1#32
  let v31 : BitVec 32 := Scalar.subi v30 c1_i32
  let c0_i32 : BitVec 32 := 0#32
  let v33 : BitVec 1 := Scalar.cmpi .sgt v31 c0_i32
  let v34 : BitVec 32 := Scalar.extui v33
  let c0_i32_36 : BitVec 32 := 0#32
  let v35 : BitVec 1 := Scalar.cmpi .slt v31 c0_i32_36
  let v36 : BitVec 32 := Scalar.extui v35
  let v37 : BitVec 32 := Scalar.subi v34 v36
  let c512_i32_35 : BitVec 32 := 512#32
  let c0_i32_37 : BitVec 32 := 0#32
  let v38 : BitVec 1 := Scalar.cmpi .sgt c512_i32_35 c0_i32_37
  let v39 : BitVec 32 := Scalar.extui v38
  let c0_i32_38 : BitVec 32 := 0#32
  let v40 : BitVec 1 := Scalar.cmpi .slt c512_i32_35 c0_i32_38
  let v41 : BitVec 32 := Scalar.extui v40
  let v42 : BitVec 32 := Scalar.subi v39 v41
  let v43 : BitVec 1 := Scalar.cmpi .ne v37 v42
  let v44 : BitVec 32 := Scalar.remsi v31 c512_i32_35
  let c0_i32_39 : BitVec 32 := 0#32
  let v45 : BitVec 1 := Scalar.cmpi .ne v44 c0_i32_39
  let v46 : BitVec 1 := Scalar.andi v43 v45
  let v32 : BitVec 32 := Scalar.divsi v31 c512_i32_35
  let c1_i32_40 : BitVec 32 := 1#32
  let v47 : BitVec 32 := Scalar.subi v32 c1_i32_40
  let v48 : BitVec 32 := Scalar.select v46 v47 v32
  let c1_i32_41 : BitVec 32 := 1#32
  let v49 : BitVec 1 := Scalar.cmpi .eq v48 c1_i32_41
  let v50 : BitVec 32 := Scalar.extui v49
  let c0_i32_42 : BitVec 32 := 0#32
  let v51 : BitVec 1 := Scalar.cmpi .ne v50 c0_i32_42
  v51

def k0_cond2 (i : grid0.Coords) : BitVec 1 :=
  let arg1 : BitVec 32 := BitVec.ofNat 32 (i 1).val
  let c1_i32_146 : BitVec 32 := 1#32
  let v259 : BitVec 32 := Scalar.addi arg1 c1_i32_146
  let c128_i32_147 : BitVec 32 := 128#32
  let v260 : BitVec 32 := Scalar.muli v259 c128_i32_147
  let c256_i32 : BitVec 32 := 256#32
  let v261 : BitVec 1 := Scalar.cmpi .sle v260 c256_i32
  let v262 : BitVec 32 := Scalar.extui v261
  let c0_i32_148 : BitVec 32 := 0#32
  let v263 : BitVec 1 := Scalar.cmpi .ne v262 c0_i32_148
  v263

@[reducible] def k0_t1_loop : Scf.Loop 32 :=
  let c0_i32_358 : BitVec 32 := 0#32
  let c31_i32 : BitVec 32 := 31#32
  let v677 : BitVec 32 := Scalar.addi c0_i32_358 c31_i32
  let c1_i32_359 : BitVec 32 := 1#32
  ⟨c0_i32_358, v677, c1_i32_359⟩
@[reducible] def k0_t2_loop (v695 : BitVec 32) : Scf.Loop 32 :=
  let c0_i32_366 : BitVec 32 := 0#32
  let v696 : BitVec 32 := Scalar.subi v695 c0_i32_366
  let c1_i32_367 : BitVec 32 := 1#32
  let v698 : BitVec 32 := Scalar.divsi v696 c1_i32_367
  let v699 : BitVec 32 := Scalar.muli v698 c1_i32_367
  let v700 : BitVec 32 := Scalar.addi c0_i32_366 v699
  let c1_i32_368 : BitVec 32 := 1#32
  ⟨c0_i32_366, v700, c1_i32_368⟩
def k0_cond3 (v324 : BitVec 1) : BitVec 1 :=
  let v325 : BitVec 32 := Scalar.extui v324
  let c0_i32_168 : BitVec 32 := 0#32
  let v326 : BitVec 1 := Scalar.cmpi .ne v325 c0_i32_168
  v326

@[reducible] def k0_t3_loop (v695 : BitVec 32) : Scf.Loop 32 :=
  let c0_i32_366 : BitVec 32 := 0#32
  let v696 : BitVec 32 := Scalar.subi v695 c0_i32_366
  let c1_i32_367 : BitVec 32 := 1#32
  let v698 : BitVec 32 := Scalar.divsi v696 c1_i32_367
  let v699 : BitVec 32 := Scalar.muli v698 c1_i32_367
  let v700 : BitVec 32 := Scalar.addi c0_i32_366 v699
  let v697 : BitVec 32 := Scalar.addi c0_i32_366 v696
  let c1_i32_369 : BitVec 32 := 1#32
  ⟨v700, v697, c1_i32_369⟩

def k0_chk1 (i : grid0.Coords) (v324 : BitVec 1) (v695 : BitVec 32) : Prop :=
  (∀ (k0_h1 : k0_cond1 i = 1#1), ∀ (k0_h3 : k0_cond3 v324 = 1#1), (k0_t2_loop v695).OK) ∧
  (∀ (k0_h1 : k0_cond1 i = 1#1), ∀ (k0_h3 : k0_cond3 v324 = 1#1), (k0_t3_loop v695).OK)
theorem k0_t2_ok : ∀ (i : grid0.Coords) (v324 : BitVec 1) (v695 : BitVec 32) (k0_hw1 : k0_chk1 i v324 v695), ∀ (k0_h1 : k0_cond1 i = 1#1), ∀ (k0_h3 : k0_cond3 v324 = 1#1), (k0_t2_loop v695).OK := fun i v324 v695 k0_hw1 k0_h1 k0_h3 => k0_hw1.1 k0_h1 k0_h3
theorem k0_t3_ok : ∀ (i : grid0.Coords) (v324 : BitVec 1) (v695 : BitVec 32) (k0_hw1 : k0_chk1 i v324 v695), ∀ (k0_h1 : k0_cond1 i = 1#1), ∀ (k0_h3 : k0_cond3 v324 = 1#1), (k0_t3_loop v695).OK := fun i v324 v695 k0_hw1 k0_h1 k0_h3 => k0_hw1.2 k0_h1 k0_h3

def k0_cond4 (i : grid0.Coords) : BitVec 1 :=
  let arg1 : BitVec 32 := BitVec.ofNat 32 (i 1).val
  let c128_i32 : BitVec 32 := 128#32
  let v28 : BitVec 32 := Scalar.muli arg1 c128_i32
  let c128_i32_34 : BitVec 32 := 128#32
  let v29 : BitVec 32 := Scalar.addi v28 c128_i32_34
  let c512_i32 : BitVec 32 := 512#32
  let v30 : BitVec 32 := Scalar.addi v29 c512_i32
  let c1_i32 : BitVec 32 := 1#32
  let v31 : BitVec 32 := Scalar.subi v30 c1_i32
  let c0_i32 : BitVec 32 := 0#32
  let v33 : BitVec 1 := Scalar.cmpi .sgt v31 c0_i32
  let v34 : BitVec 32 := Scalar.extui v33
  let c0_i32_36 : BitVec 32 := 0#32
  let v35 : BitVec 1 := Scalar.cmpi .slt v31 c0_i32_36
  let v36 : BitVec 32 := Scalar.extui v35
  let v37 : BitVec 32 := Scalar.subi v34 v36
  let c512_i32_35 : BitVec 32 := 512#32
  let c0_i32_37 : BitVec 32 := 0#32
  let v38 : BitVec 1 := Scalar.cmpi .sgt c512_i32_35 c0_i32_37
  let v39 : BitVec 32 := Scalar.extui v38
  let c0_i32_38 : BitVec 32 := 0#32
  let v40 : BitVec 1 := Scalar.cmpi .slt c512_i32_35 c0_i32_38
  let v41 : BitVec 32 := Scalar.extui v40
  let v42 : BitVec 32 := Scalar.subi v39 v41
  let v43 : BitVec 1 := Scalar.cmpi .ne v37 v42
  let v44 : BitVec 32 := Scalar.remsi v31 c512_i32_35
  let c0_i32_39 : BitVec 32 := 0#32
  let v45 : BitVec 1 := Scalar.cmpi .ne v44 c0_i32_39
  let v46 : BitVec 1 := Scalar.andi v43 v45
  let v32 : BitVec 32 := Scalar.divsi v31 c512_i32_35
  let c1_i32_40 : BitVec 32 := 1#32
  let v47 : BitVec 32 := Scalar.subi v32 c1_i32_40
  let v48 : BitVec 32 := Scalar.select v46 v47 v32
  let c2_i32 : BitVec 32 := 2#32
  let v52 : BitVec 1 := Scalar.cmpi .eq v48 c2_i32
  let v53 : BitVec 32 := Scalar.extui v52
  let c0_i32_43 : BitVec 32 := 0#32
  let v54 : BitVec 1 := Scalar.cmpi .ne v53 c0_i32_43
  v54

@[reducible] def k0_t4_loop : Scf.Loop 32 :=
  let c0_i32_289 : BitVec 32 := 0#32
  let c31_i32 : BitVec 32 := 31#32
  let v511 : BitVec 32 := Scalar.addi c0_i32_289 c31_i32
  let c1_i32_290 : BitVec 32 := 1#32
  ⟨c0_i32_289, v511, c1_i32_290⟩
@[reducible] def k0_t5_loop (v1216 : BitVec 32) : Scf.Loop 32 :=
  let c0_i32_645 : BitVec 32 := 0#32
  let v1217 : BitVec 32 := Scalar.subi v1216 c0_i32_645
  let c1_i32_646 : BitVec 32 := 1#32
  let v1219 : BitVec 32 := Scalar.divsi v1217 c1_i32_646
  let v1220 : BitVec 32 := Scalar.muli v1219 c1_i32_646
  let v1221 : BitVec 32 := Scalar.addi c0_i32_645 v1220
  let c1_i32_647 : BitVec 32 := 1#32
  ⟨c0_i32_645, v1221, c1_i32_647⟩
def k0_cond5 (v612 : BitVec 1) : BitVec 1 :=
  let v613 : BitVec 32 := Scalar.extui v612
  let c0_i32_321 : BitVec 32 := 0#32
  let v614 : BitVec 1 := Scalar.cmpi .ne v613 c0_i32_321
  v614

@[reducible] def k0_t6_loop (v1216 : BitVec 32) : Scf.Loop 32 :=
  let c0_i32_645 : BitVec 32 := 0#32
  let v1217 : BitVec 32 := Scalar.subi v1216 c0_i32_645
  let c1_i32_646 : BitVec 32 := 1#32
  let v1219 : BitVec 32 := Scalar.divsi v1217 c1_i32_646
  let v1220 : BitVec 32 := Scalar.muli v1219 c1_i32_646
  let v1221 : BitVec 32 := Scalar.addi c0_i32_645 v1220
  let v1218 : BitVec 32 := Scalar.addi c0_i32_645 v1217
  let c1_i32_648 : BitVec 32 := 1#32
  ⟨v1221, v1218, c1_i32_648⟩

def k0_chk2 (i : grid0.Coords) (v612 : BitVec 1) (v1216 : BitVec 32) : Prop :=
  (∀ (k0_h4 : k0_cond4 i = 1#1), ∀ (k0_h5 : k0_cond5 v612 = 1#1), (k0_t5_loop v1216).OK) ∧
  (∀ (k0_h4 : k0_cond4 i = 1#1), ∀ (k0_h5 : k0_cond5 v612 = 1#1), (k0_t6_loop v1216).OK)
theorem k0_t5_ok : ∀ (i : grid0.Coords) (v612 : BitVec 1) (v1216 : BitVec 32) (k0_hw2 : k0_chk2 i v612 v1216), ∀ (k0_h4 : k0_cond4 i = 1#1), ∀ (k0_h5 : k0_cond5 v612 = 1#1), (k0_t5_loop v1216).OK := fun i v612 v1216 k0_hw2 k0_h4 k0_h5 => k0_hw2.1 k0_h4 k0_h5
theorem k0_t6_ok : ∀ (i : grid0.Coords) (v612 : BitVec 1) (v1216 : BitVec 32) (k0_hw2 : k0_chk2 i v612 v1216), ∀ (k0_h4 : k0_cond4 i = 1#1), ∀ (k0_h5 : k0_cond5 v612 = 1#1), (k0_t6_loop v1216).OK := fun i v612 v1216 k0_hw2 k0_h4 k0_h5 => k0_hw2.2 k0_h4 k0_h5

def k0_cond6 (i : grid0.Coords) : BitVec 1 :=
  let arg1 : BitVec 32 := BitVec.ofNat 32 (i 1).val
  let c128_i32 : BitVec 32 := 128#32
  let v28 : BitVec 32 := Scalar.muli arg1 c128_i32
  let c128_i32_34 : BitVec 32 := 128#32
  let v29 : BitVec 32 := Scalar.addi v28 c128_i32_34
  let c512_i32 : BitVec 32 := 512#32
  let v30 : BitVec 32 := Scalar.addi v29 c512_i32
  let c1_i32 : BitVec 32 := 1#32
  let v31 : BitVec 32 := Scalar.subi v30 c1_i32
  let c0_i32 : BitVec 32 := 0#32
  let v33 : BitVec 1 := Scalar.cmpi .sgt v31 c0_i32
  let v34 : BitVec 32 := Scalar.extui v33
  let c0_i32_36 : BitVec 32 := 0#32
  let v35 : BitVec 1 := Scalar.cmpi .slt v31 c0_i32_36
  let v36 : BitVec 32 := Scalar.extui v35
  let v37 : BitVec 32 := Scalar.subi v34 v36
  let c512_i32_35 : BitVec 32 := 512#32
  let c0_i32_37 : BitVec 32 := 0#32
  let v38 : BitVec 1 := Scalar.cmpi .sgt c512_i32_35 c0_i32_37
  let v39 : BitVec 32 := Scalar.extui v38
  let c0_i32_38 : BitVec 32 := 0#32
  let v40 : BitVec 1 := Scalar.cmpi .slt c512_i32_35 c0_i32_38
  let v41 : BitVec 32 := Scalar.extui v40
  let v42 : BitVec 32 := Scalar.subi v39 v41
  let v43 : BitVec 1 := Scalar.cmpi .ne v37 v42
  let v44 : BitVec 32 := Scalar.remsi v31 c512_i32_35
  let c0_i32_39 : BitVec 32 := 0#32
  let v45 : BitVec 1 := Scalar.cmpi .ne v44 c0_i32_39
  let v46 : BitVec 1 := Scalar.andi v43 v45
  let v32 : BitVec 32 := Scalar.divsi v31 c512_i32_35
  let c1_i32_40 : BitVec 32 := 1#32
  let v47 : BitVec 32 := Scalar.subi v32 c1_i32_40
  let v48 : BitVec 32 := Scalar.select v46 v47 v32
  let c3_i32 : BitVec 32 := 3#32
  let v55 : BitVec 1 := Scalar.cmpi .eq v48 c3_i32
  let v56 : BitVec 32 := Scalar.extui v55
  let c0_i32_44 : BitVec 32 := 0#32
  let v57 : BitVec 1 := Scalar.cmpi .ne v56 c0_i32_44
  v57

@[reducible] def k0_t7_loop : Scf.Loop 32 :=
  let c0_i32_422 : BitVec 32 := 0#32
  let c31_i32 : BitVec 32 := 31#32
  let v729 : BitVec 32 := Scalar.addi c0_i32_422 c31_i32
  let c1_i32_423 : BitVec 32 := 1#32
  ⟨c0_i32_422, v729, c1_i32_423⟩
@[reducible] def k0_t8_loop (v1707 : BitVec 32) : Scf.Loop 32 :=
  let c0_i32_915 : BitVec 32 := 0#32
  let v1708 : BitVec 32 := Scalar.subi v1707 c0_i32_915
  let c1_i32_916 : BitVec 32 := 1#32
  let v1710 : BitVec 32 := Scalar.divsi v1708 c1_i32_916
  let v1711 : BitVec 32 := Scalar.muli v1710 c1_i32_916
  let v1712 : BitVec 32 := Scalar.addi c0_i32_915 v1711
  let c1_i32_917 : BitVec 32 := 1#32
  ⟨c0_i32_915, v1712, c1_i32_917⟩
def k0_cond7 (v870 : BitVec 1) : BitVec 1 :=
  let v871 : BitVec 32 := Scalar.extui v870
  let c0_i32_465 : BitVec 32 := 0#32
  let v872 : BitVec 1 := Scalar.cmpi .ne v871 c0_i32_465
  v872

@[reducible] def k0_t9_loop (v1707 : BitVec 32) : Scf.Loop 32 :=
  let c0_i32_915 : BitVec 32 := 0#32
  let v1708 : BitVec 32 := Scalar.subi v1707 c0_i32_915
  let c1_i32_916 : BitVec 32 := 1#32
  let v1710 : BitVec 32 := Scalar.divsi v1708 c1_i32_916
  let v1711 : BitVec 32 := Scalar.muli v1710 c1_i32_916
  let v1712 : BitVec 32 := Scalar.addi c0_i32_915 v1711
  let v1709 : BitVec 32 := Scalar.addi c0_i32_915 v1708
  let c1_i32_918 : BitVec 32 := 1#32
  ⟨v1712, v1709, c1_i32_918⟩

def k0_chk3 (i : grid0.Coords) (v870 : BitVec 1) (v1707 : BitVec 32) : Prop :=
  (∀ (k0_h6 : k0_cond6 i = 1#1), ∀ (k0_h7 : k0_cond7 v870 = 1#1), (k0_t8_loop v1707).OK) ∧
  (∀ (k0_h6 : k0_cond6 i = 1#1), ∀ (k0_h7 : k0_cond7 v870 = 1#1), (k0_t9_loop v1707).OK)
theorem k0_t8_ok : ∀ (i : grid0.Coords) (v870 : BitVec 1) (v1707 : BitVec 32) (k0_hw3 : k0_chk3 i v870 v1707), ∀ (k0_h6 : k0_cond6 i = 1#1), ∀ (k0_h7 : k0_cond7 v870 = 1#1), (k0_t8_loop v1707).OK := fun i v870 v1707 k0_hw3 k0_h6 k0_h7 => k0_hw3.1 k0_h6 k0_h7
theorem k0_t9_ok : ∀ (i : grid0.Coords) (v870 : BitVec 1) (v1707 : BitVec 32) (k0_hw3 : k0_chk3 i v870 v1707), ∀ (k0_h6 : k0_cond6 i = 1#1), ∀ (k0_h7 : k0_cond7 v870 = 1#1), (k0_t9_loop v1707).OK := fun i v870 v1707 k0_hw3 k0_h6 k0_h7 => k0_hw3.2 k0_h6 k0_h7

def k0_cond8 (i : grid0.Coords) : BitVec 1 :=
  let arg1 : BitVec 32 := BitVec.ofNat 32 (i 1).val
  let c128_i32 : BitVec 32 := 128#32
  let v28 : BitVec 32 := Scalar.muli arg1 c128_i32
  let c128_i32_34 : BitVec 32 := 128#32
  let v29 : BitVec 32 := Scalar.addi v28 c128_i32_34
  let c512_i32 : BitVec 32 := 512#32
  let v30 : BitVec 32 := Scalar.addi v29 c512_i32
  let c1_i32 : BitVec 32 := 1#32
  let v31 : BitVec 32 := Scalar.subi v30 c1_i32
  let c0_i32 : BitVec 32 := 0#32
  let v33 : BitVec 1 := Scalar.cmpi .sgt v31 c0_i32
  let v34 : BitVec 32 := Scalar.extui v33
  let c0_i32_36 : BitVec 32 := 0#32
  let v35 : BitVec 1 := Scalar.cmpi .slt v31 c0_i32_36
  let v36 : BitVec 32 := Scalar.extui v35
  let v37 : BitVec 32 := Scalar.subi v34 v36
  let c512_i32_35 : BitVec 32 := 512#32
  let c0_i32_37 : BitVec 32 := 0#32
  let v38 : BitVec 1 := Scalar.cmpi .sgt c512_i32_35 c0_i32_37
  let v39 : BitVec 32 := Scalar.extui v38
  let c0_i32_38 : BitVec 32 := 0#32
  let v40 : BitVec 1 := Scalar.cmpi .slt c512_i32_35 c0_i32_38
  let v41 : BitVec 32 := Scalar.extui v40
  let v42 : BitVec 32 := Scalar.subi v39 v41
  let v43 : BitVec 1 := Scalar.cmpi .ne v37 v42
  let v44 : BitVec 32 := Scalar.remsi v31 c512_i32_35
  let c0_i32_39 : BitVec 32 := 0#32
  let v45 : BitVec 1 := Scalar.cmpi .ne v44 c0_i32_39
  let v46 : BitVec 1 := Scalar.andi v43 v45
  let v32 : BitVec 32 := Scalar.divsi v31 c512_i32_35
  let c1_i32_40 : BitVec 32 := 1#32
  let v47 : BitVec 32 := Scalar.subi v32 c1_i32_40
  let v48 : BitVec 32 := Scalar.select v46 v47 v32
  let c4_i32 : BitVec 32 := 4#32
  let v58 : BitVec 1 := Scalar.cmpi .eq v48 c4_i32
  let v59 : BitVec 32 := Scalar.extui v58
  let c0_i32_45 : BitVec 32 := 0#32
  let v60 : BitVec 1 := Scalar.cmpi .ne v59 c0_i32_45
  v60

@[reducible] def k0_t10_loop : Scf.Loop 32 :=
  let c0_i32_555 : BitVec 32 := 0#32
  let c31_i32 : BitVec 32 := 31#32
  let v947 : BitVec 32 := Scalar.addi c0_i32_555 c31_i32
  let c1_i32_556 : BitVec 32 := 1#32
  ⟨c0_i32_555, v947, c1_i32_556⟩
@[reducible] def k0_t11_loop (v2198 : BitVec 32) : Scf.Loop 32 :=
  let c0_i32_1185 : BitVec 32 := 0#32
  let v2199 : BitVec 32 := Scalar.subi v2198 c0_i32_1185
  let c1_i32_1186 : BitVec 32 := 1#32
  let v2201 : BitVec 32 := Scalar.divsi v2199 c1_i32_1186
  let v2202 : BitVec 32 := Scalar.muli v2201 c1_i32_1186
  let v2203 : BitVec 32 := Scalar.addi c0_i32_1185 v2202
  let c1_i32_1187 : BitVec 32 := 1#32
  ⟨c0_i32_1185, v2203, c1_i32_1187⟩
def k0_cond9 (v1128 : BitVec 1) : BitVec 1 :=
  let v1129 : BitVec 32 := Scalar.extui v1128
  let c0_i32_609 : BitVec 32 := 0#32
  let v1130 : BitVec 1 := Scalar.cmpi .ne v1129 c0_i32_609
  v1130

@[reducible] def k0_t12_loop (v2198 : BitVec 32) : Scf.Loop 32 :=
  let c0_i32_1185 : BitVec 32 := 0#32
  let v2199 : BitVec 32 := Scalar.subi v2198 c0_i32_1185
  let c1_i32_1186 : BitVec 32 := 1#32
  let v2201 : BitVec 32 := Scalar.divsi v2199 c1_i32_1186
  let v2202 : BitVec 32 := Scalar.muli v2201 c1_i32_1186
  let v2203 : BitVec 32 := Scalar.addi c0_i32_1185 v2202
  let v2200 : BitVec 32 := Scalar.addi c0_i32_1185 v2199
  let c1_i32_1188 : BitVec 32 := 1#32
  ⟨v2203, v2200, c1_i32_1188⟩

def k0_chk4 (i : grid0.Coords) (v1128 : BitVec 1) (v2198 : BitVec 32) : Prop :=
  (∀ (k0_h8 : k0_cond8 i = 1#1), ∀ (k0_h9 : k0_cond9 v1128 = 1#1), (k0_t11_loop v2198).OK) ∧
  (∀ (k0_h8 : k0_cond8 i = 1#1), ∀ (k0_h9 : k0_cond9 v1128 = 1#1), (k0_t12_loop v2198).OK)
theorem k0_t11_ok : ∀ (i : grid0.Coords) (v1128 : BitVec 1) (v2198 : BitVec 32) (k0_hw4 : k0_chk4 i v1128 v2198), ∀ (k0_h8 : k0_cond8 i = 1#1), ∀ (k0_h9 : k0_cond9 v1128 = 1#1), (k0_t11_loop v2198).OK := fun i v1128 v2198 k0_hw4 k0_h8 k0_h9 => k0_hw4.1 k0_h8 k0_h9
theorem k0_t12_ok : ∀ (i : grid0.Coords) (v1128 : BitVec 1) (v2198 : BitVec 32) (k0_hw4 : k0_chk4 i v1128 v2198), ∀ (k0_h8 : k0_cond8 i = 1#1), ∀ (k0_h9 : k0_cond9 v1128 = 1#1), (k0_t12_loop v2198).OK := fun i v1128 v2198 k0_hw4 k0_h8 k0_h9 => k0_hw4.2 k0_h8 k0_h9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.muli v1 c16_i32_0
  let c1034_i32 : BitVec 32 := 1034#32
  let v3 : BitVec 32 := Scalar.addi c1034_i32 v2
  let c8_i32 : BitVec 32 := 8#32
  let v4 : BitVec 32 := Scalar.muli v3 c8_i32
  let c0_i32 : BitVec 32 := 0#32
  let c0_i32_1 : BitVec 32 := 0#32
  let c0_i32_2 : BitVec 32 := 0#32
  ![c0_i32.toNat, v4.toNat, c0_i32_1.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S64x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Proof.Up.lean ====
/-
  The value of the up projection of the feed-forward part: every block the kernel writes is the block of
  `silu(h · w1) * (h · w3)`, and the side output is the cast of the down projection's weights.
-/
module

public import proofs.«01_k».proof.Proof.Gen.KUpIdeal.Value
public import Idealize.ShloMosaic.Lib.Pointwise

@[expose] public section

set_option maxRecDepth 16384

noncomputable section

namespace Cert.KUpIdeal.Hand

open Cert.KUpIdeal Cert.KUpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry of the product of two matrices. -/
abbrev dot (a : FVec Ideal S8192x4096 .bf16) (w : FVec Ideal S4096x11008 .bf16) (r : Fin 8192) (q : Fin 11008) : EReal :=
  ∑ k : Fin 4096, a (ix2 r k) * w (ix2 k q)

/-- The gate of the two projections: `silu(a) * b`. -/
abbrev swi (a b : EReal) : EReal := a * Ideal.logistic a * b

/-- The up projection, index by index. -/
def G (a : FVec Ideal S8192x4096 .bf16) (w1 w3 : FVec Ideal S4096x11008 .bf16) : FVec Ideal S8192x11008 .bf16 :=
  fun i => swi (dot a w1 (i 0) (i 1)) (dot a w3 (i 0) (i 1))

/-- The cast of the weights, index by index. -/
def G5 (w : FVec Ideal S1x11008x4096 .f32) : FVec Ideal S11008x4096 .bf16 :=
  fun i => w (ix3 (n0 := 1) (n1 := 11008) (n2 := 4096) 0 (i 0) (i 1))

/-- The block index of every window at every point of the grid. -/
theorem idx_facts : ∀ t : Fin cfg0.N,
    win0_0.index t 0 = t.val / 43 ∧ win0_0.index t 1 = 0 ∧ win0_1.index t 0 = 0
    ∧ win0_1.index t 1 = t.val % 43 ∧ win0_2.index t 0 = 0 ∧ win0_2.index t 1 = t.val % 43
    ∧ win0_3.index t 0 = 0 ∧ win0_3.index t 1 = t.val ∧ win0_3.index t 2 = 0
    ∧ win0_4.index t 0 = t.val / 43 ∧ win0_4.index t 1 = t.val % 43 ∧ win0_5.index t 0 = t.val
    ∧ win0_5.index t 1 = 0 :=
  (by decide +kernel : ∀ t : Fin grid0.N,
    win0_0.index t 0 = t.val / 43 ∧ win0_0.index t 1 = 0 ∧ win0_1.index t 0 = 0
    ∧ win0_1.index t 1 = t.val % 43 ∧ win0_2.index t 0 = 0 ∧ win0_2.index t 1 = t.val % 43
    ∧ win0_3.index t 0 = 0 ∧ win0_3.index t 1 = t.val ∧ win0_3.index t 2 = 0
    ∧ win0_4.index t 0 = t.val / 43 ∧ win0_4.index t 1 = t.val % 43 ∧ win0_5.index t 0 = t.val
    ∧ win0_5.index t 1 = 0)

theorem blk0 (c : Dev nD) (t : Fin cfg0.N) (j : S2048x4096.Idx) (i : S8192x4096.Idx)
    (h0 : (i 0).val = t.val / 43 * 2048 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 2048 + 1 * (j 0).val = (i 0).val; rw [e0]; omega
  | ⟨1, _⟩ => show win0_0.index t 1 * 4096 + 1 * (j 1).val = (i 1).val; rw [e1]; omega

theorem blk1 (c : Dev nD) (t : Fin cfg0.N) (j : S4096x256.Idx) (i : S4096x11008.Idx)
    (h0 : (i 0).val = (j 0).val) (h1 : (i 1).val = t.val % 43 * 256 + (j 1).val) :
    iblk m c 1 t j = m ((c : Thread nD τ).loc main_arg1) i := by
  obtain ⟨-, -, e0, e1, -⟩ := idx_facts t
  show m ((c : Thread nD τ).loc main_arg1) _ = _
  refine congrArg _ (funext fun a => Fin.ext ?_)
  match a with
  | ⟨0, _⟩ => show win0_1.index t 0 * 4096 + 1 * (j 0).val = (i 0).val; rw [e0]; omega
  | ⟨1, _⟩ => show win0_1.index t 1 * 256 + 1 * (j 1).val = (i 1).val; rw [e1]; omega

theorem blk2 (c : Dev nD) (t : Fin cfg0.N) (j : S4096x256.Idx) (i : S4096x11008.Idx)
    (h0 : (i 0).val = (j 0).val) (h1 : (i 1).val = t.val % 43 * 256 + (j 1).val) :
    iblk m c 2 t j = m ((c : Thread nD τ).loc main_arg2) i := by
  obtain ⟨-, -, -, -, e0, e1, -⟩ := idx_facts t
  show m ((c : Thread nD τ).loc main_arg2) _ = _
  refine congrArg _ (funext fun a => Fin.ext ?_)
  match a with
  | ⟨0, _⟩ => show win0_2.index t 0 * 4096 + 1 * (j 0).val = (i 0).val; rw [e0]; omega
  | ⟨1, _⟩ => show win0_2.index t 1 * 256 + 1 * (j 1).val = (i 1).val; rw [e1]; omega

theorem blk3 (c : Dev nD) (t : Fin cfg0.N) (j : S1x64x4096.Idx) (i : S1x11008x4096.Idx)
    (h0 : (i 0).val = (j 0).val) (h1 : (i 1).val = t.val * 64 + (j 1).val) (h2 : (i 2).val = (j 2).val) :
    iblk m c 3 t j = m ((c : Thread nD τ).loc main_arg3) i := by
  obtain ⟨-, -, -, -, -, -, e0, e1, e2, -⟩ := idx_facts t
  show m ((c : Thread nD τ).loc main_arg3) _ = _
  refine congrArg _ (funext fun a => Fin.ext ?_)
  match a with
  | ⟨0, _⟩ => show win0_3.index t 0 * 1 + 1 * (j 0).val = (i 0).val; rw [e0]; omega
  | ⟨1, _⟩ => show win0_3.index t 1 * 64 + 1 * (j 1).val = (i 1).val; rw [e1]; omega
  | ⟨2, _⟩ => show win0_3.index t 2 * 4096 + 1 * (j 2).val = (i 2).val; rw [e2]; omega

/-- Where an element of window 4's block sits in the array, axis 0. -/
theorem emb4_0 (t : Fin cfg0.N) (j : ((cfg0.win 4).xblock (grid0.coords t)).Idx) :
    ((win0_4.rect t).emb j 0).val = t.val / 43 * 2048 + (j 0).val := by
  obtain ⟨-, -, -, -, -, -, -, -, -, e0, e1, -⟩ := idx_facts t
  rw [win0_4.rect_emb_val, e0]; rfl

/-- Where an element of window 4's block sits in the array, axis 1. -/
theorem emb4_1 (t : Fin cfg0.N) (j : ((cfg0.win 4).xblock (grid0.coords t)).Idx) :
    ((win0_4.rect t).emb j 1).val = t.val % 43 * 256 + (j 1).val := by
  obtain ⟨-, -, -, -, -, -, -, -, -, e0, e1, -⟩ := idx_facts t
  rw [win0_4.rect_emb_val, e1]; rfl

/-- Every index of the result lies in some point's block of window 4. -/
theorem cover4 (i : S8192x11008.Idx) : ∃ t : Fin cfg0.N, (cfg0.win 4).flush t = true ∧ i ∈ ((cfg0.win 4).blk t).view.set := by
  have h0 : (i 0).val < 8192 := (i 0).isLt
  have h1 : (i 1).val < 11008 := (i 1).isLt
  have hN : (i 0).val / 2048 * 43 + (i 1).val / 256 < cfg0.N := by
    show _ < grid0.N
    rw [N_0]; omega
  refine ⟨⟨_, hN⟩, flush0_4 _, ?_⟩
  obtain ⟨-, -, -, -, -, -, -, -, -, e0, e1, -⟩ := idx_facts ⟨_, hN⟩
  dsimp only at e0 e1
  show i ∈ ((View.whole main_v0_0).slice (win0_4.rect ⟨_, hN⟩)).set
  rw [View.set_slice_whole, Rect.mem_set_unit]
  intro a
  match a with
  | ⟨0, _⟩ =>
    show win0_4.index ⟨_, hN⟩ 0 * 2048 ≤ (i 0).val ∧ (i 0).val < win0_4.index ⟨_, hN⟩ 0 * 2048 + 2048
    rw [e0]; omega
  | ⟨1, _⟩ =>
    show win0_4.index ⟨_, hN⟩ 1 * 256 ≤ (i 1).val ∧ (i 1).val < win0_4.index ⟨_, hN⟩ 1 * 256 + 256
    rw [e1]; omega

/-- Where an element of window 5's block sits in the array, axis 0. -/
theorem emb5_0 (t : Fin cfg0.N) (j : ((cfg0.win 5).xblock (grid0.coords t)).Idx) :
    ((win0_5.rect t).emb j 0).val = t.val * 64 + (j 0).val := by
  obtain ⟨-, -, -, -, -, -, -, -, -, -, -, e0, e1⟩ := idx_facts t
  rw [win0_5.rect_emb_val, e0]; rfl

/-- Where an element of window 5's block sits in the array, axis 1. -/
theorem emb5_1 (t : Fin cfg0.N) (j : ((cfg0.win 5).xblock (grid0.coords t)).Idx) :
    ((win0_5.rect t).emb j 1).val = (j 1).val := by
  obtain ⟨-, -, -, -, -, -, -, -, -, -, -, e0, e1⟩ := idx_facts t
  exact win0_5.rect_emb_val_of_index_zero t 1 e1 j

/-- Every index of the result lies in some point's block of window 5. -/
theorem cover5 (i : S11008x4096.Idx) : ∃ t : Fin cfg0.N, (cfg0.win 5).flush t = true ∧ i ∈ ((cfg0.win 5).blk t).view.set := by
  have h0 : (i 0).val < 11008 := (i 0).isLt
  have h1 : (i 1).val < 4096 := (i 1).isLt
  have hN : (i 0).val / 64 < cfg0.N := by
    show _ < grid0.N
    rw [N_0]; omega
  refine ⟨⟨_, hN⟩, flush0_5 _, ?_⟩
  obtain ⟨-, -, -, -, -, -, -, -, -, -, -, e0, e1⟩ := idx_facts ⟨_, hN⟩
  dsimp only at e0 e1
  show i ∈ ((View.whole main_v0_1).slice (win0_5.rect ⟨_, hN⟩)).set
  rw [View.set_slice_whole, Rect.mem_set_unit]
  intro a
  match a with
  | ⟨0, _⟩ =>
    show win0_5.index ⟨_, hN⟩ 0 * 64 ≤ (i 0).val ∧ (i 0).val < win0_5.index ⟨_, hN⟩ 0 * 64 + 64
    rw [e0]; omega
  | ⟨1, _⟩ =>
    show win0_5.index ⟨_, hN⟩ 1 * 4096 ≤ (i 1).val ∧ (i 1).val < win0_5.index ⟨_, hN⟩ 1 * 4096 + 4096
    rw [e1]; omega

/-- One entry of the product of two blocks. -/
abbrev bdot (a : FVec Ideal S512x4096 .bf16) (w : FVec Ideal S4096x256 .bf16) (j : S512x256.Idx) : EReal :=
  ∑ k : Fin 4096, a (ix2 (n0 := 512) (j 0) k) * w (ix2 (n1 := 256) k (j 1))

theorem pay4_apply (w1 w3 : Vec Ideal S4096x256 .bf16) (a b : Vec Ideal S512x4096 .bf16) (j : S512x256.Idx) :
    k0_pay4 w1 w3 a b j = swi (bdot a w1 j) (bdot b w3 j) := by
  idx_vars j
  pointwise [k0_pay4]
  rfl

theorem pay5_apply (w1 w3 : Vec Ideal S4096x256 .bf16) (a b : Vec Ideal S512x4096 .bf16) (j : S512x256.Idx) :
    k0_pay5 w1 w3 a b j = swi (bdot a w1 j) (bdot b w3 j) := by
  idx_vars j
  pointwise [k0_pay5]
  rfl

theorem pay2_apply (w1 w3 : Vec Ideal S4096x256 .bf16) (a b : Vec Ideal S512x4096 .bf16) (j : S512x256.Idx) :
    k0_pay2 w1 w3 a b j = swi (bdot a w1 j) (bdot b w3 j) := by
  idx_vars j
  pointwise [k0_pay2]
  rfl

theorem pay1_apply (w1 w3 : Vec Ideal S4096x256 .bf16) (a b : Vec Ideal S512x4096 .bf16) (j : S512x256.Idx) :
    k0_pay1 w3 (k0_pay6 w1 a) b j = swi (bdot a w1 j) (bdot b w3 j) := by
  idx_vars j
  pointwise [k0_pay1, k0_pay6]
  rfl

/-- The two arrays of results of device `c`. -/
abbrev out (c : Dev nD) : Buf (Elt Ideal) ((c : Thread nD τ).loc main_v0_0) :=
  G (m ((c : Thread nD τ).loc main_arg0)) (m ((c : Thread nD τ).loc main_arg1)) (m ((c : Thread nD τ).loc main_arg2))
abbrev out5 (c : Dev nD) : Buf (Elt Ideal) ((c : Thread nD τ).loc main_v0_1) := G5 (m ((c : Thread nD τ).loc main_arg3))

theorem one_mul' (k : Nat) : 0 + 1 * k = k := by omega

/-- The block the body leaves at a point is the whole result read at the block's place. -/
theorem block4 (c : Dev nD) (t : Fin cfg0.N) (y : S2048x256.Idx) :
    out0_4 (iblk m c 0 t) (iblk m c 1 t) (iblk m c 2 t) (iblk m c 3 t) y = out m c ((win0_4.rect t).emb y) := by
  have key : ∀ (a b : Vec Ideal S512x4096 .bf16) (w1 w3 : Vec Ideal S4096x256 .bf16) (x : S512x256.Idx) (y : S2048x256.Idx),
      (∀ k : Fin 4096, a (ix2 (n0 := 512) (x 0) k) = iblk m c 0 t (ix2 (n0 := 2048) (y 0) k)) →
      (∀ k : Fin 4096, b (ix2 (n0 := 512) (x 0) k) = iblk m c 0 t (ix2 (n0 := 2048) (y 0) k)) →
      (∀ k : Fin 4096, w1 (ix2 (n1 := 256) k (x 1)) = iblk m c 1 t (ix2 (n1 := 256) k (y 1))) →
      (∀ k : Fin 4096, w3 (ix2 (n1 := 256) k (x 1)) = iblk m c 2 t (ix2 (n1 := 256) k (y 1))) →
      swi (bdot a w1 x) (bdot b w3 x) = out m c ((win0_4.rect t).emb y) := by
    intro a b w1 w3 x y ha hb h1 h3
    have e0 := emb4_0 t y
    have e1 := emb4_1 t y
    refine congrArg₂ swi (Finset.sum_congr rfl fun k _ => congrArg₂ (· * ·) ?_ ?_) (Finset.sum_congr rfl fun k _ => congrArg₂ (· * ·) ?_ ?_)
    · exact (ha k).trans (blk0 m c t _ _ e0 rfl)
    · exact (h1 k).trans (blk1 m c t _ _ rfl e1)
    · exact (hb k).trans (blk0 m c t _ _ e0 rfl)
    · exact (h3 k).trans (blk2 m c t _ _ rfl e1)
  unfold out0_4
  refine View.canon_apply_of_pieces (fun y : S2048x256.Idx => out m c ((win0_4.rect t).emb y)) _ ?_ y (cover0_4 _ _ _ _ y)
  intro pc hpc
  rcases List.mem_cons.mp hpc with rfl | hpc
  · exact fun x => (pay2_apply _ _ _ _ x).trans (key _ _ _ _ x (r0_10.idx x)
      (fun k => congrArg (iblk m c 0 t) (Shape.idx_ext₂ rfl (one_mul' k.val)))
      (fun k => congrArg (iblk m c 0 t) (Shape.idx_ext₂ rfl (one_mul' k.val)))
      (fun k => congrArg (iblk m c 1 t) (Shape.idx_ext₂ (one_mul' k.val) rfl))
      (fun k => congrArg (iblk m c 2 t) (Shape.idx_ext₂ (one_mul' k.val) rfl)))
  rcases List.mem_cons.mp hpc with rfl | hpc
  · exact fun x => (pay1_apply _ _ _ _ x).trans (key _ _ _ _ x (r0_8.idx x)
      (fun k => congrArg (iblk m c 0 t) (Shape.idx_ext₂ rfl (one_mul' k.val)))
      (fun k => congrArg (iblk m c 0 t) (Shape.idx_ext₂ rfl (one_mul' k.val)))
      (fun k => congrArg (iblk m c 1 t) (Shape.idx_ext₂ (one_mul' k.val) rfl))
      (fun k => congrArg (iblk m c 2 t) (Shape.idx_ext₂ (one_mul' k.val) rfl)))
  rcases List.mem_cons.mp hpc with rfl | hpc
  · exact fun x => (pay5_apply _ _ _ _ x).trans (key _ _ _ _ x (r0_6.idx x)
      (fun k => congrArg (iblk m c 0 t) (Shape.idx_ext₂ rfl (one_mul' k.val)))
      (fun k => congrArg (iblk m c 0 t) (Shape.idx_ext₂ rfl (one_mul' k.val)))
      (fun k => congrArg (iblk m c 1 t) (Shape.idx_ext₂ (one_mul' k.val) rfl))
      (fun k => congrArg (iblk m c 2 t) (Shape.idx_ext₂ (one_mul' k.val) rfl)))
  rcases List.mem_cons.mp hpc with rfl | hpc
  · exact fun x => (pay4_apply _ _ _ _ x).trans (key _ _ _ _ x (r0_4.idx x)
      (fun k => congrArg (iblk m c 0 t) (Shape.idx_ext₂ rfl (one_mul' k.val)))
      (fun k => congrArg (iblk m c 0 t) (Shape.idx_ext₂ rfl (one_mul' k.val)))
      (fun k => congrArg (iblk m c 1 t) (Shape.idx_ext₂ (one_mul' k.val) rfl))
      (fun k => congrArg (iblk m c 2 t) (Shape.idx_ext₂ (one_mul' k.val) rfl)))
  nomatch hpc

/-- What a point writes back is its block of the whole result. -/
theorem flushed4_eq (c : Dev nD) (t : Fin cfg0.N) :
    (dats m 0 c).flushed 4 t = ((cfg0.win 4).blk t).view.read (Elt Ideal) (out m c) := by
  rw [Value.flushed4]
  exact funext fun j => block4 m c t j

theorem final4 (c : Dev nD) : (dats m 0 c).arrAt 4 cfg0.N = out m c :=
  (dats m 0 c).arrAt_eq_of_cover 4 (out m c) (fun t _ => flushed4_eq m c t) cover4

/-- The side output's block at a point. -/
theorem flushed5_eq (c : Dev nD) (t : Fin cfg0.N) :
    (dats m 0 c).flushed 5 t = ((cfg0.win 5).blk t).view.read (Elt Ideal) (out5 m c) := by
  rw [Value.flushed5]
  unfold out0_5
  refine funext fun j => (Value.canon5_eq _ j).trans ?_
  exact blk3 m c t _ (ix3 0 _ _) rfl
    (by show _ = t.val * 64 + (0 + 1 * (j 0).val); rw [one_mul']; exact emb5_0 t j)
    (by show _ = 0 + 1 * (j 1).val; rw [one_mul']; exact emb5_1 t j)

theorem final5 (c : Dev nD) : (dats m 0 c).arrAt 5 cfg0.N = out5 m c :=
  (dats m 0 c).arrAt_eq_of_cover 5 (out5 m c) (fun t _ => flushed5_eq m c t) cover5

/-- The run: both result arrays at the whole-array functions, the arguments unchanged. -/
theorem run : θ_run defs (onTc (τ := τ) (main (F := Ideal))) ⟨m, fun _ => 0, ρ⟩ fun r => ∀ c : Dev nD,
      r.2.mem ((c : Thread nD τ).loc main_v0_0) = out m c
      ∧ r.2.mem ((c : Thread nD τ).loc main_v0_1) = out5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

/-- The reference's term for the casts of the weights. -/
theorem ref5 (w : FVec Ideal S1x11008x4096 .f32) (hs : S1x11008x4096.ShapeCasts S11008x4096) (i : S11008x4096.Idx) :
    truncf .bf16 (shapeCast S11008x4096 w hs) bitsLt_bf16_f32 i = G5 w i := by
  refine shapeCast_apply w _ i (ix3 (n0 := 1) (n1 := 11008) (n2 := 4096) 0 (i 0) (i 1)) ?_
  rw [Shape.rowMajor_val_three, Shape.rowMajor_val_two]
  show (0 * 11008 + (i 0).val) * 4096 + (i 1).val = (i 0).val * 4096 + (i 1).val
  omega

end Cert.KUpIdeal.Hand

end
-- ==== Proof.UpClaims.lean ====
/-
  The claims about `KUp`: the frames, and that the kernel over the extended reals computes the reference's function.
-/
module

public import proofs.«01_k».proof.Defs
public import proofs.«01_k».proof.Proof.Up
public import proofs.«01_k».proof.Proof.Gen.KUp.Frame
public import proofs.«01_k».proof.Proof.Gen.RUpIdeal.Run

@[expose] public section

set_option maxRecDepth 16384

noncomputable section

namespace Cert.Proof.Up

open Idealize.ShloMosaic Idealize.ShloMosaic.TcCoe Idealize.SL.Sem

theorem frame_kernel : Cert.quiescent_KUp := fun m ρ _ => Cert.KUp.Gen.frame m ρ
theorem frame_ideal : Cert.quiescent_KUpIdeal := fun m ρ _ => Cert.KUpIdeal.Gen.frame m ρ
theorem frame_reference : Cert.quiescent_RUpIdeal := fun m ρ _ =>
  (θ_run Cert.RUpIdeal.defs _ _).mono (fun r h => ⟨fun c => (h c).2.2,
      Idealize.ShloMosaic.sem_eq_zero_of_no_sems (by decide) r.2⟩)
    (Cert.RUpIdeal.Value.run (F := Ideal) m ρ)

theorem preserves : Cert.preserves_KUp_KUpIdeal := trivial

/-- Over the extended reals the kernel's result arrays are the reference's. -/
theorem algebraic : Cert.algebraic_KUpIdeal_RUpIdeal := by
  intro m ρ m' ρ' _ hag
  refine ⟨fun c => KUpIdeal.Hand.out m c, fun c => KUpIdeal.Hand.out5 m c, Cert.KUpIdeal.Hand.run m ρ,
    (θ_run Cert.RUpIdeal.defs _ _).mono (fun r h c => ?_) (Cert.RUpIdeal.Value.run (F := Ideal) m' ρ')⟩
  obtain ⟨h0, h1, h2, h3⟩ := hag c
  refine ⟨(h c).1.trans ?_, (h c).2.1.trans ?_, (h c).2.2⟩
  · rw [h0, h1, h2]
    funext i
    idx_vars i
    pointwise [KUpIdeal.Hand.out, KUpIdeal.Hand.G]
    rfl
  · rw [h3]
    funext i
    exact KUpIdeal.Hand.ref5 _ _ i

end Cert.Proof.Up

end
-- ==== Proof.Down.lean ====
/-
  The value of the down projection of the feed-forward part: every block the kernel writes is the block of
  `x2 + act · w2`, so the whole result is that function of the arguments.
-/
module

public import proofs.«01_k».proof.Proof.Gen.KDownIdeal.Value
public import Idealize.ShloMosaic.Lib.Pointwise

@[expose] public section

set_option maxRecDepth 16384

noncomputable section

namespace Cert.KDownIdeal.Hand

open Cert.KDownIdeal Cert.KDownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The down projection with its residual, index by index. -/
def G (a : FVec Ideal S8192x11008 .bf16) (w : FVec Ideal S11008x4096 .bf16) (x : FVec Ideal S8192x4096 .f32) :
    FVec Ideal S8192x4096 .f32 :=
  fun i => x i + ∑ k : Fin 11008, a (ix2 (n0 := 8192) (i 0) k) * w (ix2 (n1 := 4096) k (i 1))

/-- The block index of every window at every point of the grid. -/
theorem idx_facts : ∀ t : Fin cfg0.N,
    win0_0.index t 0 = t.val / 8 ∧ win0_0.index t 1 = 0 ∧ win0_1.index t 0 = 0 ∧ win0_1.index t 1 = t.val % 8
    ∧ win0_2.index t 0 = t.val / 8 ∧ win0_2.index t 1 = t.val % 8
    ∧ win0_3.index t 0 = t.val / 8 ∧ win0_3.index t 1 = t.val % 8 :=
  (by decide +kernel : ∀ t : Fin grid0.N,
    win0_0.index t 0 = t.val / 8 ∧ win0_0.index t 1 = 0 ∧ win0_1.index t 0 = 0 ∧ win0_1.index t 1 = t.val % 8
    ∧ win0_2.index t 0 = t.val / 8 ∧ win0_2.index t 1 = t.val % 8
    ∧ win0_3.index t 0 = t.val / 8 ∧ win0_3.index t 1 = t.val % 8)

theorem blk0 (c : Dev nD) (t : Fin cfg0.N) (j : S512x11008.Idx) (i : S8192x11008.Idx)
    (h0 : (i 0).val = t.val / 8 * 512 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 512 + 1 * (j 0).val = (i 0).val; rw [e0]; omega
  | ⟨1, _⟩ => show win0_0.index t 1 * 11008 + 1 * (j 1).val = (i 1).val; rw [e1]; omega

theorem blk1 (c : Dev nD) (t : Fin cfg0.N) (j : S11008x512.Idx) (i : S11008x4096.Idx)
    (h0 : (i 0).val = (j 0).val) (h1 : (i 1).val = t.val % 8 * 512 + (j 1).val) :
    iblk m c 1 t j = m ((c : Thread nD τ).loc main_arg1) i := by
  obtain ⟨-, -, e0, e1, -⟩ := idx_facts t
  show m ((c : Thread nD τ).loc main_arg1) _ = _
  refine congrArg _ (funext fun a => Fin.ext ?_)
  match a with
  | ⟨0, _⟩ => show win0_1.index t 0 * 11008 + 1 * (j 0).val = (i 0).val; rw [e0]; omega
  | ⟨1, _⟩ => show win0_1.index t 1 * 512 + 1 * (j 1).val = (i 1).val; rw [e1]; omega

theorem blk2 (c : Dev nD) (t : Fin cfg0.N) (j : S512x512.Idx) (i : S8192x4096.Idx)
    (h0 : (i 0).val = t.val / 8 * 512 + (j 0).val) (h1 : (i 1).val = t.val % 8 * 512 + (j 1).val) :
    iblk m c 2 t j = m ((c : Thread nD τ).loc main_arg2) i := by
  obtain ⟨-, -, -, -, e0, e1, -⟩ := idx_facts t
  show m ((c : Thread nD τ).loc main_arg2) _ = _
  refine congrArg _ (funext fun a => Fin.ext ?_)
  match a with
  | ⟨0, _⟩ => show win0_2.index t 0 * 512 + 1 * (j 0).val = (i 0).val; rw [e0]; omega
  | ⟨1, _⟩ => show win0_2.index t 1 * 512 + 1 * (j 1).val = (i 1).val; rw [e1]; omega

theorem hz : (![0, 0] : Fin 2 → Nat) = fun _ => 0 := funext fun a => by fin_cases a <;> rfl

/-- The payload of the one store, at an index. -/
theorem pay_apply (w : Vec Ideal S11008x512 .bf16) (a : Vec Ideal S512x11008 .bf16) (x : Vec Ideal S512x512 .f32) (j : S512x512.Idx) :
    k0_pay1 w a x j = x j + ∑ k : Fin 11008, a (ix2 (n0 := 512) (j 0) k) * w (ix2 (n1 := 512) k (j 1)) := by
  idx_vars j
  pointwise [k0_pay1]

/-- The whole result of device `c`. -/
abbrev out (c : Dev nD) : Buf (Elt Ideal) ((c : Thread nD τ).loc main_v0) :=
  G (m ((c : Thread nD τ).loc main_arg0)) (m ((c : Thread nD τ).loc main_arg1)) (m ((c : Thread nD τ).loc main_arg2))

/-- What a point writes back is its block of the whole result. -/
theorem flushed_eq (c : Dev nD) (t : Fin cfg0.N) :
    (dats m 0 c).flushed 3 t = ((cfg0.win 3).blk t).view.read (Elt Ideal) (out m c) := by
  rw [Value.flushed3]
  unfold out0_3
  rw [View.canon_unit_zero hz, View.ld_unit_zero hz, View.ld_unit_zero hz, View.ld_unit_zero hz]
  obtain ⟨-, -, -, -, -, -, e0, e1⟩ := idx_facts t
  funext j
  refine (pay_apply _ _ _ j).trans ?_
  have hj0 : (j 0).val < 512 := (j 0).isLt
  have hj1 : (j 1).val < 512 := (j 1).isLt
  show _ = G _ _ _ ((win0_3.rect t).emb j)
  have r0 : ((win0_3.rect t).emb j 0).val = t.val / 8 * 512 + (j 0).val := by
    rw [win0_3.rect_emb_val, e0]; rfl
  have r1 : ((win0_3.rect t).emb j 1).val = t.val % 8 * 512 + (j 1).val := by
    rw [win0_3.rect_emb_val, e1]; rfl
  unfold G
  refine congrArg₂ (· + ·) (blk2 m c t j _ r0 r1) (Finset.sum_congr rfl fun k _ => congrArg₂ (· * ·) ?_ ?_)
  · exact blk0 m c t _ _ r0 rfl
  · exact blk1 m c t _ _ rfl r1

/-- Every index of the result lies in some point's block. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : (i 0).val / 512 * 8 + (i 1).val / 512 < cfg0.N := by
    show _ < grid0.N
    rw [N_0]; omega
  refine ⟨⟨_, hN⟩, flush0_3 _, ?_⟩
  obtain ⟨-, -, -, -, -, -, e0, e1⟩ := idx_facts ⟨_, hN⟩
  dsimp only at e0 e1
  show i ∈ ((View.whole main_v0).slice (win0_3.rect ⟨_, hN⟩)).set
  rw [View.set_slice_whole, Rect.mem_set_unit]
  intro a
  match a with
  | ⟨0, _⟩ =>
    show win0_3.index ⟨_, hN⟩ 0 * 512 ≤ (i 0).val ∧ (i 0).val < win0_3.index ⟨_, hN⟩ 0 * 512 + 512
    rw [e0]; omega
  | ⟨1, _⟩ =>
    show win0_3.index ⟨_, hN⟩ 1 * 512 ≤ (i 1).val ∧ (i 1).val < win0_3.index ⟨_, hN⟩ 1 * 512 + 512
    rw [e1]; omega

theorem final (c : Dev nD) : (dats m 0 c).arrAt 3 cfg0.N = out m c :=
  (dats m 0 c).arrAt_eq_of_cover 3 (out m c) (fun t _ => flushed_eq m c t) cover

/-- The run: the result array at the whole-array function, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KDownIdeal.Hand

end
-- ==== Proof.DownClaims.lean ====
/-
  The claims about `KDown`: the frames, and that the kernel over the extended reals computes the reference's function.
-/
module

public import proofs.«01_k».proof.Defs
public import proofs.«01_k».proof.Proof.Down
public import proofs.«01_k».proof.Proof.Gen.KDown.Frame
public import proofs.«01_k».proof.Proof.Gen.RDownIdeal.Run

@[expose] public section

set_option maxRecDepth 16384

noncomputable section

namespace Cert.Proof.Down

open Idealize.ShloMosaic Idealize.ShloMosaic.TcCoe Idealize.SL.Sem

theorem frame_kernel : Cert.quiescent_KDown := fun m ρ _ => Cert.KDown.Gen.frame m ρ
theorem frame_ideal : Cert.quiescent_KDownIdeal := fun m ρ _ => Cert.KDownIdeal.Gen.frame m ρ
theorem frame_reference : Cert.quiescent_RDownIdeal := fun m ρ _ =>
  (θ_run Cert.RDownIdeal.defs _ _).mono (fun r h => ⟨fun c => (h c).2,
      Idealize.ShloMosaic.sem_eq_zero_of_no_sems (by decide) r.2⟩)
    (Cert.RDownIdeal.Value.run (F := Ideal) m ρ)

theorem preserves : Cert.preserves_KDown_KDownIdeal := trivial

/-- Over the extended reals the kernel's result arrays are the reference's. -/
theorem algebraic : Cert.algebraic_KDownIdeal_RDownIdeal := by
  intro m ρ m' ρ' _ hag
  refine ⟨fun c => KDownIdeal.Hand.out m c, Cert.KDownIdeal.Hand.run m ρ,
    (θ_run Cert.RDownIdeal.defs _ _).mono (fun r h c => ?_) (Cert.RDownIdeal.Value.run (F := Ideal) m' ρ')⟩
  obtain ⟨h0, h1, h2⟩ := hag c
  refine ⟨(h c).1.trans ?_, (h c).2⟩
  · rw [h0, h1, h2]
    funext i
    idx_vars i
    pointwise [KDownIdeal.Hand.out, KDownIdeal.Hand.G]

end Cert.Proof.Down

end
-- ==== Proof.Gating.lean ====
/-
  The value of the spatial gating unit: every block the kernel writes is the block of `gelu(u) * (tril(w) · n + b)`, `u` and `v`
  the halves of the gelu of the input and `n` the normed `v`, taken chunk by chunk of 128 rows and group by group of 128 columns.
-/
module

public import proofs.«01_k».proof.Proof.Gen.KGatingIdeal.Value
public import Idealize.ShloMosaic.Lib.Pointwise

@[expose] public section

set_option maxRecDepth 16384

noncomputable section

namespace Cert.KGatingIdeal.Hand

open Cert.KGatingIdeal Cert.KGatingIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The gelu of one entry. -/
abbrev gl (x : EReal) : EReal :=
  x * (Ideal.ofBits FTy.f32 1056964608#32 * (1 + Ideal.tanh (Ideal.ofBits FTy.f32 1061962282#32 *
    (x + Ideal.ofBits FTy.f32 1027024659#32 * (x * (x * x))))))

/-- One entry of the normed row `x` under the gain `g`. -/
abbrev nrm (x : Fin 2048 → EReal) (g : EReal) (q : Fin 2048) : EReal :=
  x q * Ideal.rsqrt (Ideal.div (∑ k, x k * x k) (Ideal.ofBits FTy.f32 1157627904#32) + Ideal.ofBits FTy.f32 897988541#32) * g

/-- An entry kept on and under the diagonal, zero above it. -/
abbrev tri (p x : Fin 128) (a : EReal) : EReal :=
  Scalar.select (IntOp.cmpi CmpIPredicate.sle (BitVec.ofNat 32 x.val) (BitVec.ofNat 32 p.val)) a 0

/-- A column of the first half. -/
abbrev lft (q : Fin 2048) : Fin 4096 := ⟨q.val, by omega⟩
/-- A column of the second half. -/
abbrev rgt (q : Fin 2048) : Fin 4096 := ⟨2048 + q.val, by omega⟩

/-- One entry of the gated chunk whose rows are `z`. -/
def val (z : Fin 128 → Fin 4096 → EReal) (g : EReal) (w : Fin 128 → EReal) (b : EReal) (p : Fin 128) (q : Fin 2048) : EReal :=
  gl (z p (lft q)) * ((∑ x : Fin 128, tri p x (w x * nrm (fun k => gl (z x (rgt k))) g q)) + b)

theorem val_congr {z z' : Fin 128 → Fin 4096 → EReal} {g g' : EReal} {w w' : Fin 128 → EReal} {b b' : EReal} {p p' : Fin 128} {q q' : Fin 2048}
    (hz : ∀ x k, z x k = z' x k) (hg : g = g') (hw : ∀ x, w x = w' x) (hb : b = b') (hp : p = p') (hq : q = q') :
    val z g w b p q = val z' g' w' b' p' q' := by
  subst hg hb hp hq
  rw [show z = z' from funext fun x => funext fun k => hz x k, show w = w' from funext hw]

/-- The rows of the chunk row `r` lies in. -/
abbrev mate (r : Fin 8192) (x : Fin 128) : Fin 8192 := ⟨r.val / 128 * 128 + x.val, by omega⟩
/-- A row's place in its chunk. -/
abbrev pos (r : Fin 8192) : Fin 128 := ⟨r.val % 128, by omega⟩
/-- A column's group. -/
abbrev gof (q : Fin 2048) : Fin 16 := ⟨q.val / 128, by omega⟩
/-- The block index of every window at every point of the grid. -/
theorem idx_facts : ∀ t : Fin cfg0.N,
    win0_0.index t 0 = t.val ∧ win0_0.index t 1 = 0 ∧ win0_1.index t 0 = 0
    ∧ win0_1.index t 1 = 0 ∧ win0_2.index t 0 = 0 ∧ win0_2.index t 1 = 0
    ∧ win0_2.index t 2 = 0 ∧ win0_3.index t 0 = 0 ∧ win0_3.index t 1 = 0
    ∧ win0_4.index t 0 = t.val ∧ win0_4.index t 1 = 0 :=
  (by decide +kernel : ∀ t : Fin grid0.N,
    win0_0.index t 0 = t.val ∧ win0_0.index t 1 = 0 ∧ win0_1.index t 0 = 0
    ∧ win0_1.index t 1 = 0 ∧ win0_2.index t 0 = 0 ∧ win0_2.index t 1 = 0
    ∧ win0_2.index t 2 = 0 ∧ win0_3.index t 0 = 0 ∧ win0_3.index t 1 = 0
    ∧ win0_4.index t 0 = t.val ∧ win0_4.index t 1 = 0)

/-- The batch a row of the flattened rows belongs to, and its place in it. -/
abbrev hi (r : Fin 8192) : Fin 4 := ⟨r.val / 2048, by omega⟩
abbrev lo (r : Fin 8192) : Fin 2048 := ⟨r.val % 2048, by omega⟩

/-- The rows as the host lays them out. -/
theorem Vx (c : Dev nD) (i : Fin 8192) (k : Fin 4096) : V m c main_v0 (ix2 i k) = (m ((c : Thread nD τ).loc main_arg0)) (ix3 (hi i) (lo i) k) := by
  have e : V m c main_v0 = shapeCast S8192x4096 (m ((c : Thread nD τ).loc main_arg0)) shapeCasts_S4x2048x4096_S8192x4096 := by
    unfold V
    after_results <;> rfl
  rw [e]
  refine shapeCast_apply _ _ _ (ix3 (hi i) (lo i) k) ?_
  rw [Shape.rowMajor_val_three, Shape.rowMajor_val_two]
  show (i.val / 2048 * 2048 + i.val % 2048) * 4096 + k.val = i.val * 4096 + k.val
  rw [Nat.div_add_mod']

/-- A row dropped to a vector and laid out as a row again. -/
theorem row_row (g : FVec Ideal S1x2048 .f32) (k : Fin 2048) :
    shapeCast S1x2048 (shapeCast S2048 g shapeCasts_S1x2048_S2048) shapeCasts_S2048_S1x2048 (ix2 (n0 := 1) 0 k) = g (ix2 (n0 := 1) 0 k) := by
  refine (shapeCast_apply _ _ _ (ix1 k) ?_).trans (shapeCast_apply _ _ _ _ ?_)
  · rw [Shape.rowMajor_val_one, Shape.rowMajor_val_two]
    show k.val = 0 * 2048 + k.val
    omega
  · rw [Shape.rowMajor_val_one, Shape.rowMajor_val_two]
    show 0 * 2048 + k.val = k.val
    omega

/-- The gain's row as the host lays it out. -/
theorem Vg (c : Dev nD) (k : Fin 2048) : V m c main_v4 (ix2 (n0 := 1) 0 k) = (m ((c : Thread nD τ).loc main_arg1)) (ix2 (n0 := 1) 0 k) := by
  have e : V m c main_v4 = shapeCast S1x2048 (shapeCast S2048 (m ((c : Thread nD τ).loc main_arg1)) shapeCasts_S1x2048_S2048) shapeCasts_S2048_S1x2048 := by
    unfold V
    after_results <;> rfl
  rw [e]
  exact row_row _ k

/-- The leading axis of length one dropped from the weights. -/
theorem w_row (w : FVec Ideal S1x16x128x128 .f32) (g : Fin 16) (p k : Fin 128) :
    shapeCast S16x128x128 w shapeCasts_S1x16x128x128_S16x128x128 (ix3 g p k) = w (ix4 (n0 := 1) 0 g p k) := by
  refine shapeCast_apply _ _ _ _ ?_
  rw [Shape.rowMajor_val_three, Shape.rowMajor_val_four]
  show ((0 * 16 + g.val) * 128 + p.val) * 128 + k.val = (g.val * 128 + p.val) * 128 + k.val
  omega

/-- The biases with the leading axis dropped and the others exchanged. -/
theorem b_col (b : FVec Ideal S1x16x128 .f32) (p : Fin 128) (g : Fin 16) :
    transpose S128x16 [1, 0] (shapeCast S16x128 b shapeCasts_S1x16x128_S16x128) transposes_S16x128_S128x16_1_0 (ix2 p g) = b (ix3 (n0 := 1) 0 g p) := by
  have e : shapeCast S16x128 b shapeCasts_S1x16x128_S16x128 (ix2 g p) = b (ix3 (n0 := 1) 0 g p) := by
    refine shapeCast_apply _ _ _ _ ?_
    rw [Shape.rowMajor_val_three, Shape.rowMajor_val_two]
    show (0 * 16 + g.val) * 128 + p.val = g.val * 128 + p.val
    omega
  refine Eq.trans ?_ e
  pointwise [] <;> rfl

/-- The weights as the host lays them out. -/
theorem Vw (c : Dev nD) (g : Fin 16) (p k : Fin 128) : V m c main_v2 (ix3 g p k) = (m ((c : Thread nD τ).loc main_arg2)) (ix4 (n0 := 1) 0 g p k) := by
  have e : V m c main_v2 = shapeCast S16x128x128 (m ((c : Thread nD τ).loc main_arg2)) shapeCasts_S1x16x128x128_S16x128x128 := by
    unfold V
    after_results <;> rfl
  rw [e]
  exact w_row _ g p k

/-- The biases as the host lays them out. -/
theorem Vb (c : Dev nD) (p : Fin 128) (g : Fin 16) : V m c main_v5 (ix2 p g) = (m ((c : Thread nD τ).loc main_arg3)) (ix3 (n0 := 1) 0 g p) := by
  have e : V m c main_v5 = transpose S128x16 [1, 0] (shapeCast S16x128 (m ((c : Thread nD τ).loc main_arg3)) shapeCasts_S1x16x128_S16x128) transposes_S16x128_S128x16_1_0 := by
    unfold V
    after_results <;> rfl
  rw [e]
  exact b_col _ p g

/-- The gated array, index by index. -/
def G (z : FVec Ideal S4x2048x4096 .f32) (g : FVec Ideal S1x2048 .f32) (w : FVec Ideal S1x16x128x128 .f32) (b : FVec Ideal S1x16x128 .f32) :
    FVec Ideal S8192x2048 .bf16 :=
  fun i => val (fun x k => z (ix3 (hi (mate (i 0) x)) (lo (mate (i 0) x)) k)) (g (ix2 (n0 := 1) (n1 := 2048) 0 (i 1)))
    (fun x => w (ix4 (n0 := 1) (n1 := 16) (n2 := 128) (n3 := 128) 0 (gof (i 1)) (pos (i 0)) x))
    (b (ix3 (n0 := 1) (n1 := 16) (n2 := 128) 0 (gof (i 1)) (pos (i 0)))) (pos (i 0)) (i 1)

/-- The array of results of device `c`. -/
abbrev out (c : Dev nD) : Buf (Elt Ideal) ((c : Thread nD τ).loc main_v6) := G (m ((c : Thread nD τ).loc main_arg0)) (m ((c : Thread nD τ).loc main_arg1)) (m ((c : Thread nD τ).loc main_arg2)) (m ((c : Thread nD τ).loc main_arg3))

theorem blk0 (c : Dev nD) (t : Fin cfg0.N) (j : S512x4096.Idx) (i : S8192x4096.Idx)
    (h0 : (i 0).val = t.val * 512 + (j 0).val) (h1 : (i 1).val = (j 1).val) :
    iblk m c 0 t j = V m c main_v0 i := by
  obtain ⟨e0, e1, -⟩ := idx_facts t
  show V m c main_v0 _ = _
  refine congrArg _ (funext fun a => Fin.ext ?_)
  match a with
  | ⟨0, _⟩ => show win0_0.index t 0 * 512 + 1 * (j 0).val = (i 0).val; rw [e0]; omega
  | ⟨1, _⟩ => show win0_0.index t 1 * 4096 + 1 * (j 1).val = (i 1).val; rw [e1]; omega

theorem blk1 (c : Dev nD) (t : Fin cfg0.N) (j : S1x2048.Idx) (i : S1x2048.Idx)
    (h0 : (i 0).val = (j 0).val) (h1 : (i 1).val = (j 1).val) :
    iblk m c 1 t j = V m c main_v4 i := by
  obtain ⟨-, -, e0, e1, -⟩ := idx_facts t
  show V m c main_v4 _ = _
  refine congrArg _ (funext fun a => Fin.ext ?_)
  match a with
  | ⟨0, _⟩ => show win0_1.index t 0 * 1 + 1 * (j 0).val = (i 0).val; rw [e0]; omega
  | ⟨1, _⟩ => show win0_1.index t 1 * 2048 + 1 * (j 1).val = (i 1).val; rw [e1]; omega

theorem blk2 (c : Dev nD) (t : Fin cfg0.N) (j : S16x128x128.Idx) (i : S16x128x128.Idx)
    (h0 : (i 0).val = (j 0).val) (h1 : (i 1).val = (j 1).val) (h2 : (i 2).val = (j 2).val) :
    iblk m c 2 t j = V m c main_v2 i := by
  obtain ⟨-, -, -, -, e0, e1, e2, -⟩ := idx_facts t
  show V m c main_v2 _ = _
  refine congrArg _ (funext fun a => Fin.ext ?_)
  match a with
  | ⟨0, _⟩ => show win0_2.index t 0 * 16 + 1 * (j 0).val = (i 0).val; rw [e0]; omega
  | ⟨1, _⟩ => show win0_2.index t 1 * 128 + 1 * (j 1).val = (i 1).val; rw [e1]; omega
  | ⟨2, _⟩ => show win0_2.index t 2 * 128 + 1 * (j 2).val = (i 2).val; rw [e2]; omega

theorem blk3 (c : Dev nD) (t : Fin cfg0.N) (j : S128x16.Idx) (i : S128x16.Idx)
    (h0 : (i 0).val = (j 0).val) (h1 : (i 1).val = (j 1).val) :
    iblk m c 3 t j = V m c main_v5 i := by
  obtain ⟨-, -, -, -, -, -, -, e0, e1, -⟩ := idx_facts t
  show V m c main_v5 _ = _
  refine congrArg _ (funext fun a => Fin.ext ?_)
  match a with
  | ⟨0, _⟩ => show win0_3.index t 0 * 128 + 1 * (j 0).val = (i 0).val; rw [e0]; omega
  | ⟨1, _⟩ => show win0_3.index t 1 * 16 + 1 * (j 1).val = (i 1).val; rw [e1]; omega

/-- Where an element of window 4's block sits in the array, axis 0. -/
theorem emb4_0 (t : Fin cfg0.N) (j : ((cfg0.win 4).xblock (grid0.coords t)).Idx) :
    ((win0_4.rect t).emb j 0).val = t.val * 512 + (j 0).val := by
  obtain ⟨-, -, -, -, -, -, -, -, -, e0, e1⟩ := idx_facts t
  rw [win0_4.rect_emb_val, e0]; rfl

/-- Where an element of window 4's block sits in the array, axis 1. -/
theorem emb4_1 (t : Fin cfg0.N) (j : ((cfg0.win 4).xblock (grid0.coords t)).Idx) :
    ((win0_4.rect t).emb j 1).val = (j 1).val := by
  obtain ⟨-, -, -, -, -, -, -, -, -, e0, e1⟩ := idx_facts t
  exact win0_4.rect_emb_val_of_index_zero t 1 e1 j

/-- Every index of the result lies in some point's block of window 4. -/
theorem cover4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have hN : (i 0).val / 512 < cfg0.N := by
    show _ < grid0.N
    rw [N_0]; omega
  refine ⟨⟨_, hN⟩, flush0_4 _, ?_⟩
  obtain ⟨-, -, -, -, -, -, -, -, -, e0, e1⟩ := idx_facts ⟨_, hN⟩
  dsimp only at e0 e1
  show i ∈ ((View.whole main_v6).slice (win0_4.rect ⟨_, hN⟩)).set
  rw [View.set_slice_whole, Rect.mem_set_unit]
  intro a
  match a with
  | ⟨0, _⟩ =>
    show win0_4.index ⟨_, hN⟩ 0 * 512 ≤ (i 0).val ∧ (i 0).val < win0_4.index ⟨_, hN⟩ 0 * 512 + 512
    rw [e0]; omega
  | ⟨1, _⟩ =>
    show win0_4.index ⟨_, hN⟩ 1 * 2048 ≤ (i 1).val ∧ (i 1).val < win0_4.index ⟨_, hN⟩ 1 * 2048 + 2048
    rw [e1]; omega

/-- The first half of the gelu. -/
theorem u_apply (z : Vec Ideal S128x4096 .f32) (r : Fin 128) (q : Fin 2048) : k0_pay4 z (ix2 r q) = gl (z (ix2 r (lft q))) := by
  pointwise [k0_pay4, k0_pay3] <;> rfl

/-- The normed second half of the gelu. -/
theorem vn_apply (z : Vec Ideal S128x4096 .f32) (g : Vec Ideal S1x2048 .f32) (r : Fin 128) (q : Fin 2048) :
    k0_pay5 z g (ix2 r q) = nrm (fun k => gl (z (ix2 r (rgt k)))) (g (ix2 (n0 := 1) 0 q)) q := by
  pointwise [k0_pay5, k0_pay3] <;> rfl

/-- One group of one chunk: the product of the masked weights and the group's columns of the normed half, plus the bias, times the
    group's columns of the other half. -/
def grp (u : FVec Ideal S128x128 .f32) (vn : FVec Ideal S128x128 .bf16) (w : Vec Ideal S1x128x128 .f32) (b : Vec Ideal S128x1 .f32) : FVec Ideal S128x128 .bf16 :=
  truncf .bf16 (mulf u (addf (matmul dot_S128x128_S128x128_S128x128_1_0_0_1_n_n none
    (truncf .bf16 (select k0_pay2 (shapeCast S128x128 w shapeCasts_S1x128x128_S128x128) (broadcast S128x128 (Scalar.ofBits (F := Ideal) .f32 0x00000000#32))) bitsLt_bf16_f32) vn (constant S128x128 .f32 0x00000000#32))
    (broadcastTo S128x128 (shapeCast S128x1 b shapeCasts_S128x1_S128x1) broadcasts_S128x1_S128x128))) bitsLt_bf16_f32

theorem grp_apply (u : FVec Ideal S128x128 .f32) (vn : FVec Ideal S128x128 .bf16) (w : Vec Ideal S1x128x128 .f32) (b : Vec Ideal S128x1 .f32) (p q : Fin 128) :
    grp u vn w b (ix2 p q) = u (ix2 p q) * ((∑ x : Fin 128, tri p x (w (ix3 (n0 := 1) 0 p x) * vn (ix2 x q))) + b (ix2 (n1 := 1) p 0)) := by
  pointwise [grp, k0_pay2] <;> rfl

/-- A group's columns. -/
abbrev cut {t : FTy} (u : FVec Ideal S128x2048 t) (o : Nat) (h : S128x2048.Slices ![0, o] S128x128) : FVec Ideal S128x128 t :=
  extractStridedSlice S128x128 ![0, o] u h

theorem cut_apply {t : FTy} (u : FVec Ideal S128x2048 t) (o : Nat) (h : S128x2048.Slices ![0, o] S128x128) (p q : Fin 128) (ho : o ≤ 1920) :
    cut u o h (ix2 p q) = u (ix2 p ⟨o + q.val, by omega⟩) :=
  congrArg u (Shape.idx_ext₂ (Nat.zero_add p.val) rfl)

theorem cast_ix {n : Nat} {a b : Nat} (h : a = b) (ha : a < n) (hb : b < n) : (⟨a, ha⟩ : Fin n) = ⟨b, hb⟩ := Fin.ext h

/-- One group of one chunk, written at its place, is that part of the whole result's block. -/
theorem piece (c : Dev nD) (t : Fin cfg0.N) (oz oq γ : Nat) (hzz : oz % 128 = 0) (hzl : oz ≤ 384) (hq : oq = 128 * γ) (hg : γ < 16)
    (iz : ∀ a, (![oz, 0] : Fin 2 → Nat) a + S128x4096.size a ≤ S512x4096.size a) (iw : ∀ a, (![γ, 0, 0] : Fin 3 → Nat) a + S1x128x128.size a ≤ S16x128x128.size a)
    (ib : ∀ a, (![0, γ] : Fin 2 → Nat) a + S128x1.size a ≤ S128x16.size a) (io : ∀ a, (![oz, oq] : Fin 2 → Nat) a + S128x128.size a ≤ S512x2048.size a)
    (ig : ∀ a, (![0, 0] : Fin 2 → Nat) a + S1x2048.size a ≤ S1x2048.size a)
    (h h' : S128x2048.Slices ![0, oq] S128x128) (x : S128x128.Idx) :
    grp (cut (k0_pay4 (View.ld (iblk m c 0 t) (Rect.unit (s := S512x4096) ![oz, 0] S128x4096.size iz))) oq h)
      (cut (k0_pay5 (View.ld (iblk m c 0 t) (Rect.unit (s := S512x4096) ![oz, 0] S128x4096.size iz))
        (View.ld (iblk m c 1 t) (Rect.unit (s := S1x2048) ![0, 0] S1x2048.size ig))) oq h')
      (View.ld (iblk m c 2 t) (Rect.unit (s := S16x128x128) ![γ, 0, 0] S1x128x128.size iw))
      (View.ld (iblk m c 3 t) (Rect.unit (s := S128x16) ![0, γ] S128x1.size ib)) x
    = out m c ((win0_4.rect t).emb ((Rect.unit (s := S512x2048) ![oz, oq] S128x128.size io).idx x)) := by
  obtain ⟨p, q, rfl⟩ : ∃ p q : Fin 128, x = ix2 p q := ⟨x 0, x 1, Shape.idx_ext₂ rfl rfl⟩
  have hp := p.isLt
  have hql := q.isLt
  have ho : oq ≤ 1920 := by omega
  have hN := t.isLt
  have r0 : ((win0_4.rect t).emb ((Rect.unit (s := S512x2048) ![oz, oq] S128x128.size io).idx (ix2 p q)) 0).val = t.val * 512 + (oz + 1 * p.val) := emb4_0 t _
  have r1 : ((win0_4.rect t).emb ((Rect.unit (s := S512x2048) ![oz, oq] S128x128.size io).idx (ix2 p q)) 1).val = oq + 1 * q.val := emb4_1 t _
  generalize (win0_4.rect t).emb ((Rect.unit (s := S512x2048) ![oz, oq] S128x128.size io).idx (ix2 p q)) = i at r0 r1
  have hi0 : (i 0).val < 8192 := (i 0).isLt
  rw [grp_apply, cut_apply _ _ _ _ _ ho, u_apply]
  have hs : ∀ x : Fin 128, cut (k0_pay5 (View.ld (iblk m c 0 t) (Rect.unit (s := S512x4096) ![oz, 0] S128x4096.size iz))
        (View.ld (iblk m c 1 t) (Rect.unit (s := S1x2048) ![0, 0] S1x2048.size ig))) oq h' (ix2 x q) = _ := fun x => (cut_apply _ _ _ _ _ ho).trans (vn_apply _ _ _ _)
  simp only [hs]
  refine (val_congr (z := fun x k => View.ld (iblk m c 0 t) (Rect.unit (s := S512x4096) ![oz, 0] S128x4096.size iz) (ix2 x k))
    (q := ⟨oq + q.val, by omega⟩) (p := p) ?_ ?_ ?_ ?_ ?_ ?_ : val _ _ _ _ _ _ = _)
  · intro x k
    have hx := x.isLt
    refine Eq.trans ((blk0 m c t _ (ix2 (mate (i 0) x) k) ?_ ?_)) (Vx m c _ k)
    · show (i 0).val / 128 * 128 + x.val = t.val * 512 + (oz + 1 * x.val)
      omega
    · show k.val = 0 + 1 * k.val
      omega
  · refine Eq.trans ((blk1 m c t _ (ix2 (n0 := 1) 0 (i 1)) ?_ ?_)) (Vg m c (i 1))
    · rfl
    · show (i 1).val = 0 + 1 * (oq + q.val)
      omega
  · intro x
    refine Eq.trans ((blk2 m c t _ (ix3 (gof (i 1)) (pos (i 0)) x) ?_ ?_ ?_)) (Vw m c (gof (i 1)) (pos (i 0)) x)
    · show (i 1).val / 128 = γ + 1 * 0
      omega
    · show (i 0).val % 128 = 0 + 1 * p.val
      omega
    · show x.val = 0 + 1 * x.val
      omega
  · refine Eq.trans ((blk3 m c t _ (ix2 (pos (i 0)) (gof (i 1))) ?_ ?_)) (Vb m c (pos (i 0)) (gof (i 1)))
    · show (i 0).val % 128 = 0 + 1 * p.val
      omega
    · show (i 1).val / 128 = γ + 1 * 0
      omega
  · refine Fin.ext ?_
    show p.val = (i 0).val % 128
    omega
  · refine Fin.ext ?_
    show oq + q.val = (i 1).val
    omega

/-! Each of the body's sixty-four stores writes one group of one chunk. -/

/-- A group of a chunk, from the chunk's rows. -/
abbrev gc (z : Vec Ideal S128x4096 .f32) (g : Vec Ideal S1x2048 .f32) (o : Nat) (h : S128x2048.Slices ![0, o] S128x128) (w : Vec Ideal S1x128x128 .f32) (b : Vec Ideal S128x1 .f32) : FVec Ideal S128x128 .f32 :=
  grp (cut (k0_pay4 z) o h) (cut (k0_pay5 z g) o h) w b

section
variable (x0 : Vec Ideal S512x4096 .f32) (x1 : Vec Ideal S1x2048 .f32) (x2 : Vec Ideal S16x128x128 .f32) (x3 : Vec Ideal S128x16 .f32)

theorem pay_3_15 :
    k0_pay1 (k0_pay102 (k0_pay103 x0 x1 x2 x3) (k0_pay114 x0 x1 x2 x3) (k0_pay115 x0 x1 x2 x3) (View.ld x2 r0_47) (View.ld x3 r0_48))
      = gc (View.ld x0 r0_84) (View.ld x1 r0_1) 1920 slices_S128x2048_o0_1920_S128x128 (View.ld x2 r0_47) (View.ld x3 r0_48) := rfl

theorem pay_3_14 :
    k0_pay101 (k0_pay114 x0 x1 x2 x3) (k0_pay100 (k0_pay103 x0 x1 x2 x3) (k0_pay115 x0 x1 x2 x3) (View.ld x2 r0_44)) (View.ld x3 r0_45)
      = gc (View.ld x0 r0_84) (View.ld x1 r0_1) 1792 slices_S128x2048_o0_1792_S128x128 (View.ld x2 r0_44) (View.ld x3 r0_45) := rfl

theorem pay_3_13 :
    k0_pay99 (k0_pay103 x0 x1 x2 x3) (k0_pay114 x0 x1 x2 x3) (k0_pay115 x0 x1 x2 x3) (View.ld x2 r0_41) (View.ld x3 r0_42)
      = gc (View.ld x0 r0_84) (View.ld x1 r0_1) 1664 slices_S128x2048_o0_1664_S128x128 (View.ld x2 r0_41) (View.ld x3 r0_42) := rfl

theorem pay_3_12 :
    k0_pay98 (k0_pay103 x0 x1 x2 x3) (k0_pay114 x0 x1 x2 x3) (k0_pay115 x0 x1 x2 x3) (View.ld x2 r0_38) (View.ld x3 r0_39)
      = gc (View.ld x0 r0_84) (View.ld x1 r0_1) 1536 slices_S128x2048_o0_1536_S128x128 (View.ld x2 r0_38) (View.ld x3 r0_39) := rfl

theorem pay_3_11 :
    k0_pay97 (k0_pay103 x0 x1 x2 x3) (k0_pay114 x0 x1 x2 x3) (k0_pay115 x0 x1 x2 x3) (View.ld x2 r0_35) (View.ld x3 r0_36)
      = gc (View.ld x0 r0_84) (View.ld x1 r0_1) 1408 slices_S128x2048_o0_1408_S128x128 (View.ld x2 r0_35) (View.ld x3 r0_36) := rfl

theorem pay_3_10 :
    k0_pay96 (k0_pay103 x0 x1 x2 x3) (k0_pay114 x0 x1 x2 x3) (k0_pay115 x0 x1 x2 x3) (View.ld x2 r0_32) (View.ld x3 r0_33)
      = gc (View.ld x0 r0_84) (View.ld x1 r0_1) 1280 slices_S128x2048_o0_1280_S128x128 (View.ld x2 r0_32) (View.ld x3 r0_33) := rfl

theorem pay_3_9 :
    k0_pay95 (k0_pay93 (k0_pay103 x0 x1 x2 x3) (k0_pay115 x0 x1 x2 x3) (View.ld x2 r0_29) (View.ld x3 r0_30)) (k0_pay94 (k0_pay114 x0 x1 x2 x3))
      = gc (View.ld x0 r0_84) (View.ld x1 r0_1) 1152 slices_S128x2048_o0_1152_S128x128 (View.ld x2 r0_29) (View.ld x3 r0_30) := rfl

theorem pay_3_8 :
    k0_pay92 (k0_pay103 x0 x1 x2 x3) (k0_pay114 x0 x1 x2 x3) (k0_pay115 x0 x1 x2 x3) (View.ld x2 r0_26) (View.ld x3 r0_27)
      = gc (View.ld x0 r0_84) (View.ld x1 r0_1) 1024 slices_S128x2048_o0_1024_S128x128 (View.ld x2 r0_26) (View.ld x3 r0_27) := rfl

theorem pay_3_7 :
    k0_pay91 (k0_pay114 x0 x1 x2 x3) (k0_pay115 x0 x1 x2 x3) (k0_pay90 (k0_pay103 x0 x1 x2 x3) (View.ld x2 r0_23)) (View.ld x3 r0_24)
      = gc (View.ld x0 r0_84) (View.ld x1 r0_1) 896 slices_S128x2048_o0_896_S128x128 (View.ld x2 r0_23) (View.ld x3 r0_24) := rfl

theorem pay_3_6 :
    k0_pay89 (k0_pay103 x0 x1 x2 x3) (k0_pay114 x0 x1 x2 x3) (k0_pay115 x0 x1 x2 x3) (View.ld x2 r0_20) (View.ld x3 r0_21)
      = gc (View.ld x0 r0_84) (View.ld x1 r0_1) 768 slices_S128x2048_o0_768_S128x128 (View.ld x2 r0_20) (View.ld x3 r0_21) := rfl

theorem pay_3_5 :
    k0_pay88 (k0_pay103 x0 x1 x2 x3) (k0_pay114 x0 x1 x2 x3) (k0_pay115 x0 x1 x2 x3) (View.ld x2 r0_17) (View.ld x3 r0_18)
      = gc (View.ld x0 r0_84) (View.ld x1 r0_1) 640 slices_S128x2048_o0_640_S128x128 (View.ld x2 r0_17) (View.ld x3 r0_18) := rfl

theorem pay_3_4 :
    k0_pay87 (k0_pay103 x0 x1 x2 x3) (k0_pay114 x0 x1 x2 x3) (k0_pay115 x0 x1 x2 x3) (View.ld x2 r0_14) (View.ld x3 r0_15)
      = gc (View.ld x0 r0_84) (View.ld x1 r0_1) 512 slices_S128x2048_o0_512_S128x128 (View.ld x2 r0_14) (View.ld x3 r0_15) := rfl

theorem pay_3_3 :
    k0_pay86 (k0_pay103 x0 x1 x2 x3) (k0_pay114 x0 x1 x2 x3) (k0_pay115 x0 x1 x2 x3) (View.ld x2 r0_11) (View.ld x3 r0_12)
      = gc (View.ld x0 r0_84) (View.ld x1 r0_1) 384 slices_S128x2048_o0_384_S128x128 (View.ld x2 r0_11) (View.ld x3 r0_12) := rfl

theorem pay_3_2 :
    k0_pay85 (k0_pay114 x0 x1 x2 x3) (k0_pay84 (k0_pay103 x0 x1 x2 x3) (k0_pay115 x0 x1 x2 x3) (View.ld x2 r0_8)) (View.ld x3 r0_9)
      = gc (View.ld x0 r0_84) (View.ld x1 r0_1) 256 slices_S128x2048_o0_256_S128x128 (View.ld x2 r0_8) (View.ld x3 r0_9) := rfl

theorem pay_3_1 :
    k0_pay83 (k0_pay103 x0 x1 x2 x3) (k0_pay114 x0 x1 x2 x3) (k0_pay115 x0 x1 x2 x3) (View.ld x2 r0_5) (View.ld x3 r0_6)
      = gc (View.ld x0 r0_84) (View.ld x1 r0_1) 128 slices_S128x2048_o0_128_S128x128 (View.ld x2 r0_5) (View.ld x3 r0_6) := rfl

theorem pay_3_0 :
    k0_pay82 (k0_pay103 x0 x1 x2 x3) (k0_pay114 x0 x1 x2 x3) (k0_pay115 x0 x1 x2 x3) (View.ld x2 r0_2) (View.ld x3 r0_3)
      = gc (View.ld x0 r0_84) (View.ld x1 r0_1) 0 slices_S128x2048_o0_0_S128x128 (View.ld x2 r0_2) (View.ld x3 r0_3) := rfl

theorem pay_2_15 :
    k0_pay78 (k0_pay112 x0 x1 x2 x3) (k0_pay77 (k0_pay103 x0 x1 x2 x3) (k0_pay113 x0 x1 x2 x3) (View.ld x2 r0_47)) (View.ld x3 r0_48)
      = gc (View.ld x0 r0_67) (View.ld x1 r0_1) 1920 slices_S128x2048_o0_1920_S128x128 (View.ld x2 r0_47) (View.ld x3 r0_48) := rfl

theorem pay_2_14 :
    k0_pay76 (k0_pay103 x0 x1 x2 x3) (k0_pay112 x0 x1 x2 x3) (k0_pay113 x0 x1 x2 x3) (View.ld x2 r0_44) (View.ld x3 r0_45)
      = gc (View.ld x0 r0_67) (View.ld x1 r0_1) 1792 slices_S128x2048_o0_1792_S128x128 (View.ld x2 r0_44) (View.ld x3 r0_45) := rfl

theorem pay_2_13 :
    k0_pay75 (k0_pay103 x0 x1 x2 x3) (k0_pay112 x0 x1 x2 x3) (k0_pay113 x0 x1 x2 x3) (View.ld x2 r0_41) (View.ld x3 r0_42)
      = gc (View.ld x0 r0_67) (View.ld x1 r0_1) 1664 slices_S128x2048_o0_1664_S128x128 (View.ld x2 r0_41) (View.ld x3 r0_42) := rfl

theorem pay_2_12 :
    k0_pay74 (k0_pay103 x0 x1 x2 x3) (k0_pay112 x0 x1 x2 x3) (k0_pay113 x0 x1 x2 x3) (View.ld x2 r0_38) (View.ld x3 r0_39)
      = gc (View.ld x0 r0_67) (View.ld x1 r0_1) 1536 slices_S128x2048_o0_1536_S128x128 (View.ld x2 r0_38) (View.ld x3 r0_39) := rfl

theorem pay_2_11 :
    k0_pay73 (k0_pay103 x0 x1 x2 x3) (k0_pay112 x0 x1 x2 x3) (k0_pay113 x0 x1 x2 x3) (View.ld x2 r0_35) (View.ld x3 r0_36)
      = gc (View.ld x0 r0_67) (View.ld x1 r0_1) 1408 slices_S128x2048_o0_1408_S128x128 (View.ld x2 r0_35) (View.ld x3 r0_36) := rfl

theorem pay_2_10 :
    k0_pay72 (k0_pay112 x0 x1 x2 x3) (k0_pay70 (k0_pay103 x0 x1 x2 x3) (k0_pay113 x0 x1 x2 x3) (View.ld x2 r0_32)) (k0_pay71 (View.ld x3 r0_33))
      = gc (View.ld x0 r0_67) (View.ld x1 r0_1) 1280 slices_S128x2048_o0_1280_S128x128 (View.ld x2 r0_32) (View.ld x3 r0_33) := rfl

theorem pay_2_9 :
    k0_pay69 (k0_pay103 x0 x1 x2 x3) (k0_pay112 x0 x1 x2 x3) (k0_pay113 x0 x1 x2 x3) (View.ld x2 r0_29) (View.ld x3 r0_30)
      = gc (View.ld x0 r0_67) (View.ld x1 r0_1) 1152 slices_S128x2048_o0_1152_S128x128 (View.ld x2 r0_29) (View.ld x3 r0_30) := rfl

theorem pay_2_8 :
    k0_pay68 (k0_pay103 x0 x1 x2 x3) (k0_pay112 x0 x1 x2 x3) (k0_pay113 x0 x1 x2 x3) (k0_pay66 (View.ld x2 r0_26)) (k0_pay67 (F := Ideal)) (View.ld x3 r0_27)
      = gc (View.ld x0 r0_67) (View.ld x1 r0_1) 1024 slices_S128x2048_o0_1024_S128x128 (View.ld x2 r0_26) (View.ld x3 r0_27) := rfl

theorem pay_2_7 :
    k0_pay65 (k0_pay103 x0 x1 x2 x3) (k0_pay112 x0 x1 x2 x3) (k0_pay113 x0 x1 x2 x3) (View.ld x2 r0_23) (View.ld x3 r0_24)
      = gc (View.ld x0 r0_67) (View.ld x1 r0_1) 896 slices_S128x2048_o0_896_S128x128 (View.ld x2 r0_23) (View.ld x3 r0_24) := rfl

theorem pay_2_6 :
    k0_pay64 (k0_pay103 x0 x1 x2 x3) (k0_pay112 x0 x1 x2 x3) (k0_pay113 x0 x1 x2 x3) (View.ld x2 r0_20) (View.ld x3 r0_21)
      = gc (View.ld x0 r0_67) (View.ld x1 r0_1) 768 slices_S128x2048_o0_768_S128x128 (View.ld x2 r0_20) (View.ld x3 r0_21) := rfl

theorem pay_2_5 :
    k0_pay63 (k0_pay103 x0 x1 x2 x3) (k0_pay112 x0 x1 x2 x3) (k0_pay113 x0 x1 x2 x3) (View.ld x2 r0_17) (View.ld x3 r0_18)
      = gc (View.ld x0 r0_67) (View.ld x1 r0_1) 640 slices_S128x2048_o0_640_S128x128 (View.ld x2 r0_17) (View.ld x3 r0_18) := rfl

theorem pay_2_4 :
    k0_pay62 (k0_pay103 x0 x1 x2 x3) (k0_pay112 x0 x1 x2 x3) (k0_pay113 x0 x1 x2 x3) (View.ld x2 r0_14) (View.ld x3 r0_15)
      = gc (View.ld x0 r0_67) (View.ld x1 r0_1) 512 slices_S128x2048_o0_512_S128x128 (View.ld x2 r0_14) (View.ld x3 r0_15) := rfl

theorem pay_2_3 :
    k0_pay61 (k0_pay112 x0 x1 x2 x3) (k0_pay60 (k0_pay103 x0 x1 x2 x3) (k0_pay113 x0 x1 x2 x3) (View.ld x2 r0_11)) (View.ld x3 r0_12)
      = gc (View.ld x0 r0_67) (View.ld x1 r0_1) 384 slices_S128x2048_o0_384_S128x128 (View.ld x2 r0_11) (View.ld x3 r0_12) := rfl

theorem pay_2_2 :
    k0_pay59 (k0_pay103 x0 x1 x2 x3) (k0_pay112 x0 x1 x2 x3) (k0_pay113 x0 x1 x2 x3) (View.ld x2 r0_8) (View.ld x3 r0_9)
      = gc (View.ld x0 r0_67) (View.ld x1 r0_1) 256 slices_S128x2048_o0_256_S128x128 (View.ld x2 r0_8) (View.ld x3 r0_9) := rfl

theorem pay_2_1 :
    k0_pay58 (k0_pay103 x0 x1 x2 x3) (k0_pay112 x0 x1 x2 x3) (k0_pay113 x0 x1 x2 x3) (View.ld x2 r0_5) (View.ld x3 r0_6)
      = gc (View.ld x0 r0_67) (View.ld x1 r0_1) 128 slices_S128x2048_o0_128_S128x128 (View.ld x2 r0_5) (View.ld x3 r0_6) := rfl

theorem pay_2_0 :
    k0_pay57 (k0_pay103 x0 x1 x2 x3) (k0_pay110 x0 x1 x2 x3) (k0_pay111 x0 x1 x2 x3) (View.ld x1 r0_1) (View.ld x2 r0_2) (View.ld x3 r0_3)
      = gc (View.ld x0 r0_67) (View.ld x1 r0_1) 0 slices_S128x2048_o0_0_S128x128 (View.ld x2 r0_2) (View.ld x3 r0_3) := rfl

theorem pay_1_15 :
    k0_pay51 (k0_pay103 x0 x1 x2 x3) (k0_pay106 x0 x1 x2 x3) (k0_pay109 x0 x1 x2 x3) (View.ld x2 r0_47) (View.ld x3 r0_48)
      = gc (View.ld x0 r0_50) (View.ld x1 r0_1) 1920 slices_S128x2048_o0_1920_S128x128 (View.ld x2 r0_47) (View.ld x3 r0_48) := rfl

theorem pay_1_14 :
    k0_pay50 (k0_pay103 x0 x1 x2 x3) (k0_pay106 x0 x1 x2 x3) (k0_pay109 x0 x1 x2 x3) (View.ld x2 r0_44) (View.ld x3 r0_45)
      = gc (View.ld x0 r0_50) (View.ld x1 r0_1) 1792 slices_S128x2048_o0_1792_S128x128 (View.ld x2 r0_44) (View.ld x3 r0_45) := rfl

theorem pay_1_13 :
    k0_pay49 (k0_pay103 x0 x1 x2 x3) (k0_pay106 x0 x1 x2 x3) (k0_pay109 x0 x1 x2 x3) (View.ld x2 r0_41) (View.ld x3 r0_42)
      = gc (View.ld x0 r0_50) (View.ld x1 r0_1) 1664 slices_S128x2048_o0_1664_S128x128 (View.ld x2 r0_41) (View.ld x3 r0_42) := rfl

theorem pay_1_12 :
    k0_pay48 (k0_pay103 x0 x1 x2 x3) (k0_pay106 x0 x1 x2 x3) (k0_pay109 x0 x1 x2 x3) (View.ld x2 r0_38) (View.ld x3 r0_39)
      = gc (View.ld x0 r0_50) (View.ld x1 r0_1) 1536 slices_S128x2048_o0_1536_S128x128 (View.ld x2 r0_38) (View.ld x3 r0_39) := rfl

theorem pay_1_11 :
    k0_pay47 (k0_pay106 x0 x1 x2 x3) (k0_pay46 (k0_pay103 x0 x1 x2 x3) (k0_pay109 x0 x1 x2 x3) (View.ld x2 r0_35)) (View.ld x3 r0_36)
      = gc (View.ld x0 r0_50) (View.ld x1 r0_1) 1408 slices_S128x2048_o0_1408_S128x128 (View.ld x2 r0_35) (View.ld x3 r0_36) := rfl

theorem pay_1_10 :
    k0_pay45 (k0_pay103 x0 x1 x2 x3) (k0_pay106 x0 x1 x2 x3) (k0_pay109 x0 x1 x2 x3) (View.ld x2 r0_32) (View.ld x3 r0_33)
      = gc (View.ld x0 r0_50) (View.ld x1 r0_1) 1280 slices_S128x2048_o0_1280_S128x128 (View.ld x2 r0_32) (View.ld x3 r0_33) := rfl

theorem pay_1_9 :
    k0_pay44 (k0_pay103 x0 x1 x2 x3) (k0_pay106 x0 x1 x2 x3) (k0_pay109 x0 x1 x2 x3) (k0_pay43 (View.ld x2 r0_29)) (View.ld x3 r0_30)
      = gc (View.ld x0 r0_50) (View.ld x1 r0_1) 1152 slices_S128x2048_o0_1152_S128x128 (View.ld x2 r0_29) (View.ld x3 r0_30) := rfl

theorem pay_1_8 :
    k0_pay42 (k0_pay103 x0 x1 x2 x3) (k0_pay106 x0 x1 x2 x3) (k0_pay109 x0 x1 x2 x3) (View.ld x2 r0_26) (View.ld x3 r0_27)
      = gc (View.ld x0 r0_50) (View.ld x1 r0_1) 1024 slices_S128x2048_o0_1024_S128x128 (View.ld x2 r0_26) (View.ld x3 r0_27) := rfl

theorem pay_1_7 :
    k0_pay41 (k0_pay103 x0 x1 x2 x3) (k0_pay106 x0 x1 x2 x3) (k0_pay109 x0 x1 x2 x3) (View.ld x2 r0_23) (View.ld x3 r0_24)
      = gc (View.ld x0 r0_50) (View.ld x1 r0_1) 896 slices_S128x2048_o0_896_S128x128 (View.ld x2 r0_23) (View.ld x3 r0_24) := rfl

theorem pay_1_6 :
    k0_pay40 (k0_pay39 (k0_pay103 x0 x1 x2 x3) (k0_pay106 x0 x1 x2 x3) (k0_pay109 x0 x1 x2 x3) (View.ld x2 r0_20) (View.ld x3 r0_21))
      = gc (View.ld x0 r0_50) (View.ld x1 r0_1) 768 slices_S128x2048_o0_768_S128x128 (View.ld x2 r0_20) (View.ld x3 r0_21) := rfl

theorem pay_1_5 :
    k0_pay38 (k0_pay103 x0 x1 x2 x3) (k0_pay106 x0 x1 x2 x3) (k0_pay109 x0 x1 x2 x3) (View.ld x2 r0_17) (View.ld x3 r0_18)
      = gc (View.ld x0 r0_50) (View.ld x1 r0_1) 640 slices_S128x2048_o0_640_S128x128 (View.ld x2 r0_17) (View.ld x3 r0_18) := rfl

theorem pay_1_4 :
    k0_pay37 (k0_pay106 x0 x1 x2 x3) (k0_pay35 (k0_pay103 x0 x1 x2 x3) (View.ld x2 r0_14)) (k0_pay36 (k0_pay109 x0 x1 x2 x3)) (View.ld x3 r0_15)
      = gc (View.ld x0 r0_50) (View.ld x1 r0_1) 512 slices_S128x2048_o0_512_S128x128 (View.ld x2 r0_14) (View.ld x3 r0_15) := rfl

theorem pay_1_3 :
    k0_pay34 (k0_pay103 x0 x1 x2 x3) (k0_pay106 x0 x1 x2 x3) (k0_pay109 x0 x1 x2 x3) (View.ld x2 r0_11) (View.ld x3 r0_12)
      = gc (View.ld x0 r0_50) (View.ld x1 r0_1) 384 slices_S128x2048_o0_384_S128x128 (View.ld x2 r0_11) (View.ld x3 r0_12) := rfl

theorem pay_1_2 :
    k0_pay33 (k0_pay103 x0 x1 x2 x3) (k0_pay106 x0 x1 x2 x3) (k0_pay109 x0 x1 x2 x3) (View.ld x2 r0_8) (View.ld x3 r0_9)
      = gc (View.ld x0 r0_50) (View.ld x1 r0_1) 256 slices_S128x2048_o0_256_S128x128 (View.ld x2 r0_8) (View.ld x3 r0_9) := rfl

theorem pay_1_1 :
    k0_pay32 (k0_pay103 x0 x1 x2 x3) (k0_pay106 x0 x1 x2 x3) (k0_pay107 x0 x1 x2 x3) (k0_pay108 x0 x1 x2 x3) (View.ld x1 r0_1) (View.ld x2 r0_5) (View.ld x3 r0_6)
      = gc (View.ld x0 r0_50) (View.ld x1 r0_1) 128 slices_S128x2048_o0_128_S128x128 (View.ld x2 r0_5) (View.ld x3 r0_6) := rfl

theorem pay_1_0 :
    k0_pay31 (k0_pay103 x0 x1 x2 x3) (k0_pay106 x0 x1 x2 x3) (k0_pay107 x0 x1 x2 x3) (k0_pay108 x0 x1 x2 x3) (View.ld x1 r0_1) (View.ld x2 r0_2) (View.ld x3 r0_3)
      = gc (View.ld x0 r0_50) (View.ld x1 r0_1) 0 slices_S128x2048_o0_0_S128x128 (View.ld x2 r0_2) (View.ld x3 r0_3) := rfl

theorem pay_0_15 :
    k0_pay25 (k0_pay103 x0 x1 x2 x3) (k0_pay104 x0 x1 x2 x3) (k0_pay105 x0 x1 x2 x3) (View.ld x2 r0_47) (View.ld x3 r0_48)
      = gc (View.ld x0 r0_0) (View.ld x1 r0_1) 1920 slices_S128x2048_o0_1920_S128x128 (View.ld x2 r0_47) (View.ld x3 r0_48) := rfl

theorem pay_0_14 :
    k0_pay24 (k0_pay103 x0 x1 x2 x3) (k0_pay104 x0 x1 x2 x3) (k0_pay105 x0 x1 x2 x3) (View.ld x2 r0_44) (View.ld x3 r0_45)
      = gc (View.ld x0 r0_0) (View.ld x1 r0_1) 1792 slices_S128x2048_o0_1792_S128x128 (View.ld x2 r0_44) (View.ld x3 r0_45) := rfl

theorem pay_0_13 :
    k0_pay23 (k0_pay103 x0 x1 x2 x3) (k0_pay104 x0 x1 x2 x3) (k0_pay105 x0 x1 x2 x3) (View.ld x2 r0_41) (View.ld x3 r0_42)
      = gc (View.ld x0 r0_0) (View.ld x1 r0_1) 1664 slices_S128x2048_o0_1664_S128x128 (View.ld x2 r0_41) (View.ld x3 r0_42) := rfl

theorem pay_0_12 :
    k0_pay22 (k0_pay104 x0 x1 x2 x3) (k0_pay21 (k0_pay103 x0 x1 x2 x3) (k0_pay105 x0 x1 x2 x3) (View.ld x2 r0_38)) (View.ld x3 r0_39)
      = gc (View.ld x0 r0_0) (View.ld x1 r0_1) 1536 slices_S128x2048_o0_1536_S128x128 (View.ld x2 r0_38) (View.ld x3 r0_39) := rfl

theorem pay_0_11 :
    k0_pay20 (k0_pay103 x0 x1 x2 x3) (k0_pay104 x0 x1 x2 x3) (k0_pay105 x0 x1 x2 x3) (View.ld x2 r0_35) (View.ld x3 r0_36)
      = gc (View.ld x0 r0_0) (View.ld x1 r0_1) 1408 slices_S128x2048_o0_1408_S128x128 (View.ld x2 r0_35) (View.ld x3 r0_36) := rfl

theorem pay_0_10 :
    k0_pay19 (k0_pay103 x0 x1 x2 x3) (k0_pay104 x0 x1 x2 x3) (k0_pay105 x0 x1 x2 x3) (View.ld x2 r0_32) (View.ld x3 r0_33)
      = gc (View.ld x0 r0_0) (View.ld x1 r0_1) 1280 slices_S128x2048_o0_1280_S128x128 (View.ld x2 r0_32) (View.ld x3 r0_33) := rfl

theorem pay_0_9 :
    k0_pay18 (k0_pay103 x0 x1 x2 x3) (k0_pay104 x0 x1 x2 x3) (k0_pay105 x0 x1 x2 x3) (View.ld x2 r0_29) (View.ld x3 r0_30)
      = gc (View.ld x0 r0_0) (View.ld x1 r0_1) 1152 slices_S128x2048_o0_1152_S128x128 (View.ld x2 r0_29) (View.ld x3 r0_30) := rfl

theorem pay_0_8 :
    k0_pay17 (k0_pay103 x0 x1 x2 x3) (k0_pay104 x0 x1 x2 x3) (k0_pay105 x0 x1 x2 x3) (View.ld x2 r0_26) (View.ld x3 r0_27)
      = gc (View.ld x0 r0_0) (View.ld x1 r0_1) 1024 slices_S128x2048_o0_1024_S128x128 (View.ld x2 r0_26) (View.ld x3 r0_27) := rfl

theorem pay_0_7 :
    k0_pay16 (k0_pay104 x0 x1 x2 x3) (k0_pay15 (k0_pay103 x0 x1 x2 x3) (k0_pay105 x0 x1 x2 x3) (View.ld x2 r0_23) (View.ld x3 r0_24))
      = gc (View.ld x0 r0_0) (View.ld x1 r0_1) 896 slices_S128x2048_o0_896_S128x128 (View.ld x2 r0_23) (View.ld x3 r0_24) := rfl

theorem pay_0_6 :
    k0_pay14 (k0_pay103 x0 x1 x2 x3) (k0_pay104 x0 x1 x2 x3) (k0_pay105 x0 x1 x2 x3) (View.ld x2 r0_20) (View.ld x3 r0_21)
      = gc (View.ld x0 r0_0) (View.ld x1 r0_1) 768 slices_S128x2048_o0_768_S128x128 (View.ld x2 r0_20) (View.ld x3 r0_21) := rfl

theorem pay_0_5 :
    k0_pay13 (k0_pay104 x0 x1 x2 x3) (k0_pay105 x0 x1 x2 x3) (k0_pay12 (k0_pay103 x0 x1 x2 x3) (View.ld x2 r0_17)) (View.ld x3 r0_18)
      = gc (View.ld x0 r0_0) (View.ld x1 r0_1) 640 slices_S128x2048_o0_640_S128x128 (View.ld x2 r0_17) (View.ld x3 r0_18) := rfl

theorem pay_0_4 :
    k0_pay11 (k0_pay103 x0 x1 x2 x3) (k0_pay104 x0 x1 x2 x3) (k0_pay105 x0 x1 x2 x3) (View.ld x2 r0_14) (View.ld x3 r0_15)
      = gc (View.ld x0 r0_0) (View.ld x1 r0_1) 512 slices_S128x2048_o0_512_S128x128 (View.ld x2 r0_14) (View.ld x3 r0_15) := rfl

theorem pay_0_3 :
    k0_pay10 (k0_pay103 x0 x1 x2 x3) (k0_pay104 x0 x1 x2 x3) (k0_pay105 x0 x1 x2 x3) (View.ld x2 r0_11) (View.ld x3 r0_12)
      = gc (View.ld x0 r0_0) (View.ld x1 r0_1) 384 slices_S128x2048_o0_384_S128x128 (View.ld x2 r0_11) (View.ld x3 r0_12) := rfl

theorem pay_0_2 :
    k0_pay9 (k0_pay103 x0 x1 x2 x3) (k0_pay104 x0 x1 x2 x3) (k0_pay105 x0 x1 x2 x3) (View.ld x2 r0_8) (View.ld x3 r0_9)
      = gc (View.ld x0 r0_0) (View.ld x1 r0_1) 256 slices_S128x2048_o0_256_S128x128 (View.ld x2 r0_8) (View.ld x3 r0_9) := rfl

theorem pay_0_1 :
    k0_pay8 (k0_pay103 x0 x1 x2 x3) (k0_pay104 x0 x1 x2 x3) (k0_pay105 x0 x1 x2 x3) (View.ld x2 r0_5) (View.ld x3 r0_6)
      = gc (View.ld x0 r0_0) (View.ld x1 r0_1) 128 slices_S128x2048_o0_128_S128x128 (View.ld x2 r0_5) (View.ld x3 r0_6) := rfl

theorem pay_0_0 :
    k0_pay7 (k0_pay104 x0 x1 x2 x3) (k0_pay6 (View.ld x0 r0_0) (View.ld x1 r0_1) (View.ld x2 r0_2)) (View.ld x3 r0_3)
      = gc (View.ld x0 r0_0) (View.ld x1 r0_1) 0 slices_S128x2048_o0_0_S128x128 (View.ld x2 r0_2) (View.ld x3 r0_3) := rfl

end

/-- What a point leaves in its block of the result. -/
theorem block4 (c : Dev nD) (t : Fin cfg0.N) (y : S512x2048.Idx) :
    out0_4 (iblk m c 0 t) (iblk m c 1 t) (iblk m c 2 t) (iblk m c 3 t) y = out m c ((win0_4.rect t).emb y) := by
  unfold out0_4
  refine View.canon_apply_of_pieces (fun y : S512x2048.Idx => out m c ((win0_4.rect t).emb y)) _ ?_ y (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  intro pc hpc
  rcases List.mem_cons.mp hpc with rfl | hpc
  · exact fun x => (congrFun (pay_3_15 _ _ _ _) x).trans (piece m c t 384 1920 15 (by decide) (by decide) (by decide) (by decide) _ _ _ inb_S512x2048_S128x128_384_1920 _ _ _ x)
  rcases List.mem_cons.mp hpc with rfl | hpc
  · exact fun x => (congrFun (pay_3_14 _ _ _ _) x).trans (piece m c t 384 1792 14 (by decide) (by decide) (by decide) (by decide) _ _ _ inb_S512x2048_S128x128_384_1792 _ _ _ x)
  rcases List.mem_cons.mp hpc with rfl | hpc
  · exact fun x => (congrFun (pay_3_13 _ _ _ _) x).trans (piece m c t 384 1664 13 (by decide) (by decide) (by decide) (by decide) _ _ _ inb_S512x2048_S128x128_384_1664 _ _ _ x)
  rcases List.mem_cons.mp hpc with rfl | hpc
  · exact fun x => (congrFun (pay_3_12 _ _ _ _) x).trans (piece m c t 384 1536 12 (by decide) (by decide) (by decide) (by decide) _ _ _ inb_S512x2048_S128x128_384_1536 _ _ _ x)
  rcases List.mem_cons.mp hpc with rfl | hpc
  · exact fun x => (congrFun (pay_3_11 _ _ _ _) x).trans (piece m c t 384 1408 11 (by decide) (by decide) (by decide) (by decide) _ _ _ inb_S512x2048_S128x128_384_1408 _ _ _ x)
  rcases List.mem_cons.mp hpc with rfl | hpc
  · exact fun x => (congrFun (pay_3_10 _ _ _ _) x).trans (piece m c t 384 1280 10 (by decide) (by decide) (by decide) (by decide) _ _ _ inb_S512x2048_S128x128_384_1280 _ _ _ x)
  rcases List.mem_cons.mp hpc with rfl | hpc
  · exact fun x => (congrFun (pay_3_9 _ _ _ _) x).trans (piece m c t 384 1152 9 (by decide) (by decide) (by decide) (by decide) _ _ _ inb_S512x2048_S128x128_384_1152 _ _ _ x)
  rcases List.mem_cons.mp hpc with rfl | hpc
  · exact fun x => (congrFun (pay_3_8 _ _ _ _) x).trans (piece m c t 384 1024 8 (by decide) (by decide) (by decide) (by decide) _ _ _ inb_S512x2048_S128x128_384_1024 _ _ _ x)
  rcases List.mem_cons.mp hpc with rfl | hpc
  · exact fun x => (congrFun (pay_3_7 _ _ _ _) x).trans (piece m c t 384 896 7 (by decide) (by decide) (by decide) (by decide) _ _ _ inb_S512x2048_S128x128_384_896 _ _ _ x)
  rcases List.mem_cons.mp hpc with rfl | hpc
  · exact fun x => (congrFun (pay_3_6 _ _ _ _) x).trans (piece m c t 384 768 6 (by decide) (by decide) (by decide) (by decide) _ _ _ inb_S512x2048_S128x128_384_768 _ _ _ x)
  rcases List.mem_cons.mp hpc with rfl | hpc
  · exact fun x => (congrFun (pay_3_5 _ _ _ _) x).trans (piece m c t 384 640 5 (by decide) (by decide) (by decide) (by decide) _ _ _ inb_S512x2048_S128x128_384_640 _ _ _ x)
  rcases List.mem_cons.mp hpc with rfl | hpc
  · exact fun x => (congrFun (pay_3_4 _ _ _ _) x).trans (piece m c t 384 512 4 (by decide) (by decide) (by decide) (by decide) _ _ _ inb_S512x2048_S128x128_384_512 _ _ _ x)
  rcases List.mem_cons.mp hpc with rfl | hpc
  · exact fun x => (congrFun (pay_3_3 _ _ _ _) x).trans (piece m c t 384 384 3 (by decide) (by decide) (by decide) (by decide) _ _ _ inb_S512x2048_S128x128_384_384 _ _ _ x)
  rcases List.mem_cons.mp hpc with rfl | hpc
  · exact fun x => (congrFun (pay_3_2 _ _ _ _) x).trans (piece m c t 384 256 2 (by decide) (by decide) (by decide) (by decide) _ _ _ inb_S512x2048_S128x128_384_256 _ _ _ x)
  rcases List.mem_cons.mp hpc with rfl | hpc
  · exact fun x => (congrFun (pay_3_1 _ _ _ _) x).trans (piece m c t 384 128 1 (by decide) (by decide) (by decide) (by decide) _ _ _ inb_S512x2048_S128x128_384_128 _ _ _ x)
  rcases List.mem_cons.mp hpc with rfl | hpc
  · exact fun x => (congrFun (pay_3_0 _ _ _ _) x).trans (piece m c t 384 0 0 (by decide) (by decide) (by decide) (by decide) _ _ _ inb_S512x2048_S128x128_384_0 _ _ _ x)
  rcases List.mem_cons.mp hpc with rfl | hpc
  · exact fun x => (congrFun (pay_2_15 _ _ _ _) x).trans (piece m c t 256 1920 15 (by decide) (by decide) (by decide) (by decide) _ _ _ inb_S512x2048_S128x128_256_1920 _ _ _ x)
  rcases List.mem_cons.mp hpc with rfl | hpc
  · exact fun x => (congrFun (pay_2_14 _ _ _ _) x).trans (piece m c t 256 1792 14 (by decide) (by decide) (by decide) (by decide) _ _ _ inb_S512x2048_S128x128_256_1792 _ _ _ x)
  rcases List.mem_cons.mp hpc with rfl | hpc
  · exact fun x => (congrFun (pay_2_13 _ _ _ _) x).trans (piece m c t 256 1664 13 (by decide) (by decide) (by decide) (by decide) _ _ _ inb_S512x2048_S128x128_256_1664 _ _ _ x)
  rcases List.mem_cons.mp hpc with rfl | hpc
  · exact fun x => (congrFun (pay_2_12 _ _ _ _) x).trans (piece m c t 256 1536 12 (by decide) (by decide) (by decide) (by decide) _ _ _ inb_S512x2048_S128x128_256_1536 _ _ _ x)
  rcases List.mem_cons.mp hpc with rfl | hpc
  · exact fun x => (congrFun (pay_2_11 _ _ _ _) x).trans (piece m c t 256 1408 11 (by decide) (by decide) (by decide) (by decide) _ _ _ inb_S512x2048_S128x128_256_1408 _ _ _ x)
  rcases List.mem_cons.mp hpc with rfl | hpc
  · exact fun x => (congrFun (pay_2_10 _ _ _ _) x).trans (piece m c t 256 1280 10 (by decide) (by decide) (by decide) (by decide) _ _ _ inb_S512x2048_S128x128_256_1280 _ _ _ x)
  rcases List.mem_cons.mp hpc with rfl | hpc
  · exact fun x => (congrFun (pay_2_9 _ _ _ _) x).trans (piece m c t 256 1152 9 (by decide) (by decide) (by decide) (by decide) _ _ _ inb_S512x2048_S128x128_256_1152 _ _ _ x)
  rcases List.mem_cons.mp hpc with rfl | hpc
  · exact fun x => (congrFun (pay_2_8 _ _ _ _) x).trans (piece m c t 256 1024 8 (by decide) (by decide) (by decide) (by decide) _ _ _ inb_S512x2048_S128x128_256_1024 _ _ _ x)
  rcases List.mem_cons.mp hpc with rfl | hpc
  · exact fun x => (congrFun (pay_2_7 _ _ _ _) x).trans (piece m c t 256 896 7 (by decide) (by decide) (by decide) (by decide) _ _ _ inb_S512x2048_S128x128_256_896 _ _ _ x)
  rcases List.mem_cons.mp hpc with rfl | hpc
  · exact fun x => (congrFun (pay_2_6 _ _ _ _) x).trans (piece m c t 256 768 6 (by decide) (by decide) (by decide) (by decide) _ _ _ inb_S512x2048_S128x128_256_768 _ _ _ x)
  rcases List.mem_cons.mp hpc with rfl | hpc
  · exact fun x => (congrFun (pay_2_5 _ _ _ _) x).trans (piece m c t 256 640 5 (by decide) (by decide) (by decide) (by decide) _ _ _ inb_S512x2048_S128x128_256_640 _ _ _ x)
  rcases List.mem_cons.mp hpc with rfl | hpc
  · exact fun x => (congrFun (pay_2_4 _ _ _ _) x).trans (piece m c t 256 512 4 (by decide) (by decide) (by decide) (by decide) _ _ _ inb_S512x2048_S128x128_256_512 _ _ _ x)
  rcases List.mem_cons.mp hpc with rfl | hpc
  · exact fun x => (congrFun (pay_2_3 _ _ _ _) x).trans (piece m c t 256 384 3 (by decide) (by decide) (by decide) (by decide) _ _ _ inb_S512x2048_S128x128_256_384 _ _ _ x)
  rcases List.mem_cons.mp hpc with rfl | hpc
  · exact fun x => (congrFun (pay_2_2 _ _ _ _) x).trans (piece m c t 256 256 2 (by decide) (by decide) (by decide) (by decide) _ _ _ inb_S512x2048_S128x128_256_256 _ _ _ x)
  rcases List.mem_cons.mp hpc with rfl | hpc
  · exact fun x => (congrFun (pay_2_1 _ _ _ _) x).trans (piece m c t 256 128 1 (by decide) (by decide) (by decide) (by decide) _ _ _ inb_S512x2048_S128x128_256_128 _ _ _ x)
  rcases List.mem_cons.mp hpc with rfl | hpc
  · exact fun x => (congrFun (pay_2_0 _ _ _ _) x).trans (piece m c t 256 0 0 (by decide) (by decide) (by decide) (by decide) _ _ _ inb_S512x2048_S128x128_256_0 _ _ _ x)
  rcases List.mem_cons.mp hpc with rfl | hpc
  · exact fun x => (congrFun (pay_1_15 _ _ _ _) x).trans (piece m c t 128 1920 15 (by decide) (by decide) (by decide) (by decide) _ _ _ inb_S512x2048_S128x128_128_1920 _ _ _ x)
  rcases List.mem_cons.mp hpc with rfl | hpc
  · exact fun x => (congrFun (pay_1_14 _ _ _ _) x).trans (piece m c t 128 1792 14 (by decide) (by decide) (by decide) (by decide) _ _ _ inb_S512x2048_S128x128_128_1792 _ _ _ x)
  rcases List.mem_cons.mp hpc with rfl | hpc
  · exact fun x => (congrFun (pay_1_13 _ _ _ _) x).trans (piece m c t 128 1664 13 (by decide) (by decide) (by decide) (by decide) _ _ _ inb_S512x2048_S128x128_128_1664 _ _ _ x)
  rcases List.mem_cons.mp hpc with rfl | hpc
  · exact fun x => (congrFun (pay_1_12 _ _ _ _) x).trans (piece m c t 128 1536 12 (by decide) (by decide) (by decide) (by decide) _ _ _ inb_S512x2048_S128x128_128_1536 _ _ _ x)
  rcases List.mem_cons.mp hpc with rfl | hpc
  · exact fun x => (congrFun (pay_1_11 _ _ _ _) x).trans (piece m c t 128 1408 11 (by decide) (by decide) (by decide) (by decide) _ _ _ inb_S512x2048_S128x128_128_1408 _ _ _ x)
  rcases List.mem_cons.mp hpc with rfl | hpc
  · exact fun x => (congrFun (pay_1_10 _ _ _ _) x).trans (piece m c t 128 1280 10 (by decide) (by decide) (by decide) (by decide) _ _ _ inb_S512x2048_S128x128_128_1280 _ _ _ x)
  rcases List.mem_cons.mp hpc with rfl | hpc
  · exact fun x => (congrFun (pay_1_9 _ _ _ _) x).trans (piece m c t 128 1152 9 (by decide) (by decide) (by decide) (by decide) _ _ _ inb_S512x2048_S128x128_128_1152 _ _ _ x)
  rcases List.mem_cons.mp hpc with rfl | hpc
  · exact fun x => (congrFun (pay_1_8 _ _ _ _) x).trans (piece m c t 128 1024 8 (by decide) (by decide) (by decide) (by decide) _ _ _ inb_S512x2048_S128x128_128_1024 _ _ _ x)
  rcases List.mem_cons.mp hpc with rfl | hpc
  · exact fun x => (congrFun (pay_1_7 _ _ _ _) x).trans (piece m c t 128 896 7 (by decide) (by decide) (by decide) (by decide) _ _ _ inb_S512x2048_S128x128_128_896 _ _ _ x)
  rcases List.mem_cons.mp hpc with rfl | hpc
  · exact fun x => (congrFun (pay_1_6 _ _ _ _) x).trans (piece m c t 128 768 6 (by decide) (by decide) (by decide) (by decide) _ _ _ inb_S512x2048_S128x128_128_768 _ _ _ x)
  rcases List.mem_cons.mp hpc with rfl | hpc
  · exact fun x => (congrFun (pay_1_5 _ _ _ _) x).trans (piece m c t 128 640 5 (by decide) (by decide) (by decide) (by decide) _ _ _ inb_S512x2048_S128x128_128_640 _ _ _ x)
  rcases List.mem_cons.mp hpc with rfl | hpc
  · exact fun x => (congrFun (pay_1_4 _ _ _ _) x).trans (piece m c t 128 512 4 (by decide) (by decide) (by decide) (by decide) _ _ _ inb_S512x2048_S128x128_128_512 _ _ _ x)
  rcases List.mem_cons.mp hpc with rfl | hpc
  · exact fun x => (congrFun (pay_1_3 _ _ _ _) x).trans (piece m c t 128 384 3 (by decide) (by decide) (by decide) (by decide) _ _ _ inb_S512x2048_S128x128_128_384 _ _ _ x)
  rcases List.mem_cons.mp hpc with rfl | hpc
  · exact fun x => (congrFun (pay_1_2 _ _ _ _) x).trans (piece m c t 128 256 2 (by decide) (by decide) (by decide) (by decide) _ _ _ inb_S512x2048_S128x128_128_256 _ _ _ x)
  rcases List.mem_cons.mp hpc with rfl | hpc
  · exact fun x => (congrFun (pay_1_1 _ _ _ _) x).trans (piece m c t 128 128 1 (by decide) (by decide) (by decide) (by decide) _ _ _ inb_S512x2048_S128x128_128_128 _ _ _ x)
  rcases List.mem_cons.mp hpc with rfl | hpc
  · exact fun x => (congrFun (pay_1_0 _ _ _ _) x).trans (piece m c t 128 0 0 (by decide) (by decide) (by decide) (by decide) _ _ _ inb_S512x2048_S128x128_128_0 _ _ _ x)
  rcases List.mem_cons.mp hpc with rfl | hpc
  · exact fun x => (congrFun (pay_0_15 _ _ _ _) x).trans (piece m c t 0 1920 15 (by decide) (by decide) (by decide) (by decide) _ _ _ inb_S512x2048_S128x128_0_1920 _ _ _ x)
  rcases List.mem_cons.mp hpc with rfl | hpc
  · exact fun x => (congrFun (pay_0_14 _ _ _ _) x).trans (piece m c t 0 1792 14 (by decide) (by decide) (by decide) (by decide) _ _ _ inb_S512x2048_S128x128_0_1792 _ _ _ x)
  rcases List.mem_cons.mp hpc with rfl | hpc
  · exact fun x => (congrFun (pay_0_13 _ _ _ _) x).trans (piece m c t 0 1664 13 (by decide) (by decide) (by decide) (by decide) _ _ _ inb_S512x2048_S128x128_0_1664 _ _ _ x)
  rcases List.mem_cons.mp hpc with rfl | hpc
  · exact fun x => (congrFun (pay_0_12 _ _ _ _) x).trans (piece m c t 0 1536 12 (by decide) (by decide) (by decide) (by decide) _ _ _ inb_S512x2048_S128x128_0_1536 _ _ _ x)
  rcases List.mem_cons.mp hpc with rfl | hpc
  · exact fun x => (congrFun (pay_0_11 _ _ _ _) x).trans (piece m c t 0 1408 11 (by decide) (by decide) (by decide) (by decide) _ _ _ inb_S512x2048_S128x128_0_1408 _ _ _ x)
  rcases List.mem_cons.mp hpc with rfl | hpc
  · exact fun x => (congrFun (pay_0_10 _ _ _ _) x).trans (piece m c t 0 1280 10 (by decide) (by decide) (by decide) (by decide) _ _ _ inb_S512x2048_S128x128_0_1280 _ _ _ x)
  rcases List.mem_cons.mp hpc with rfl | hpc
  · exact fun x => (congrFun (pay_0_9 _ _ _ _) x).trans (piece m c t 0 1152 9 (by decide) (by decide) (by decide) (by decide) _ _ _ inb_S512x2048_S128x128_0_1152 _ _ _ x)
  rcases List.mem_cons.mp hpc with rfl | hpc
  · exact fun x => (congrFun (pay_0_8 _ _ _ _) x).trans (piece m c t 0 1024 8 (by decide) (by decide) (by decide) (by decide) _ _ _ inb_S512x2048_S128x128_0_1024 _ _ _ x)
  rcases List.mem_cons.mp hpc with rfl | hpc
  · exact fun x => (congrFun (pay_0_7 _ _ _ _) x).trans (piece m c t 0 896 7 (by decide) (by decide) (by decide) (by decide) _ _ _ inb_S512x2048_S128x128_0_896 _ _ _ x)
  rcases List.mem_cons.mp hpc with rfl | hpc
  · exact fun x => (congrFun (pay_0_6 _ _ _ _) x).trans (piece m c t 0 768 6 (by decide) (by decide) (by decide) (by decide) _ _ _ inb_S512x2048_S128x128_0_768 _ _ _ x)
  rcases List.mem_cons.mp hpc with rfl | hpc
  · exact fun x => (congrFun (pay_0_5 _ _ _ _) x).trans (piece m c t 0 640 5 (by decide) (by decide) (by decide) (by decide) _ _ _ inb_S512x2048_S128x128_0_640 _ _ _ x)
  rcases List.mem_cons.mp hpc with rfl | hpc
  · exact fun x => (congrFun (pay_0_4 _ _ _ _) x).trans (piece m c t 0 512 4 (by decide) (by decide) (by decide) (by decide) _ _ _ inb_S512x2048_S128x128_0_512 _ _ _ x)
  rcases List.mem_cons.mp hpc with rfl | hpc
  · exact fun x => (congrFun (pay_0_3 _ _ _ _) x).trans (piece m c t 0 384 3 (by decide) (by decide) (by decide) (by decide) _ _ _ inb_S512x2048_S128x128_0_384 _ _ _ x)
  rcases List.mem_cons.mp hpc with rfl | hpc
  · exact fun x => (congrFun (pay_0_2 _ _ _ _) x).trans (piece m c t 0 256 2 (by decide) (by decide) (by decide) (by decide) _ _ _ inb_S512x2048_S128x128_0_256 _ _ _ x)
  rcases List.mem_cons.mp hpc with rfl | hpc
  · exact fun x => (congrFun (pay_0_1 _ _ _ _) x).trans (piece m c t 0 128 1 (by decide) (by decide) (by decide) (by decide) _ _ _ inb_S512x2048_S128x128_0_128 _ _ _ x)
  rcases List.mem_cons.mp hpc with rfl | hpc
  · exact fun x => (congrFun (pay_0_0 _ _ _ _) x).trans (piece m c t 0 0 0 (by decide) (by decide) (by decide) (by decide) _ _ _ inb_S512x2048_S128x128_0_0 _ _ _ x)
  nomatch hpc

/-- What a point writes back is its block of the whole result. -/
theorem flushed4_eq (c : Dev nD) (t : Fin cfg0.N) :
    (dats m 0 c).flushed 4 t = ((cfg0.win 4).blk t).view.read (Elt Ideal) (out m c) := by
  rw [Value.flushed4]
  funext j
  exact block4 m c t j

theorem final4 (c : Dev nD) : (dats m 0 c).arrAt 4 cfg0.N = out m c :=
  (dats m 0 c).arrAt_eq_of_cover 4 (out m c) (fun t _ => flushed4_eq m c t) cover4

/-- The run: the result array at the whole-array function, the arguments unchanged. -/
theorem run : θ_run defs (onTc (τ := τ) (main (F := Ideal))) ⟨m, fun _ => 0, ρ⟩ fun r => ∀ c : Dev nD,
      r.2.mem ((c : Thread nD τ).loc main_v6) = out m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun _ h c => ⟨(h c).1.trans (final4 m c), (h c).2⟩) (Value.run_blocks m ρ)

end Cert.KGatingIdeal.Hand

end
-- ==== Proof.GatingRef.lean ====
/-
  The reference of the spatial gating unit, index by index.
-/
module

public import proofs.«01_k».proof.Proof.Gating
public import proofs.«01_k».proof.Proof.Gen.RGatingIdeal
public import proofs.«01_k».proof.Proof.Gen.RGatingIdeal.Run

@[expose] public section

set_option maxRecDepth 16384

noncomputable section

namespace Cert.RGatingIdeal.Hand

open Cert.RGatingIdeal Cert.RGatingIdeal.Gen Idealize.ShloMosaic Idealize.ShloMosaic.TcCoe Idealize.SL.Sem

open Cert.KGatingIdeal.Hand (gl nrm tri val val_congr hi lo lft rgt mate pos gof G)

/-- The gelu of the input. -/
def rZ (a0 : FVec Ideal S4x2048x4096 .f32) : FVec Ideal S4x2048x4096 .f32 := mulf a0 (mulf (broadcastInDim S4x2048x4096 ![] bcast_S_S4x2048x4096 (constant S_ .f32 0x3F000000#32)) (addf (broadcastInDim S4x2048x4096 ![] bcast_S_S4x2048x4096 (constant S_ .f32 0x3F800000#32)) (Host.tanh (mulf (broadcastInDim S4x2048x4096 ![] bcast_S_S4x2048x4096 (constant S_ .f32 0x3F4C422A#32)) (addf a0 (mulf (broadcastInDim S4x2048x4096 ![] bcast_S_S4x2048x4096 (constant S_ .f32 0x3D372713#32)) (mulf (mulf a0 a0) a0)))))))
/-- The normed second half. -/
def rN (Z : FVec Ideal S4x2048x4096 .f32) (a1 : FVec Ideal S1x2048 .f32) : FVec Ideal S4x2048x2048 .f32 := mulf (mulf (extractStridedSlice S4x2048x2048 ![0, 0, 2048] Z slices_S4x2048x4096_S4x2048x2048_0_0_2048) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (extractStridedSlice S4x2048x2048 ![0, 0, 2048] Z slices_S4x2048x4096_S4x2048x2048_0_0_2048) (extractStridedSlice S4x2048x2048 ![0, 0, 2048] Z slices_S4x2048x4096_S4x2048x2048_0_0_2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast S2048 a1 shapeCasts_S1x2048_S2048)))
/-- The weights on and under the diagonal. -/
def rW (a2 : FVec Ideal S1x16x128x128 .f32) : FVec Ideal S16x128x128 .f32 := select (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast S16x128x128 a2 shapeCasts_S1x16x128x128_S16x128x128) (broadcastInDim S16x128x128 ![] bcast_S_S16x128x128 (sitofp .f32 (constantI S_ 32 0#32)))
/-- The products, chunk by chunk and group by group. -/
def rD (M : FVec Ideal S4x16x128x16x128 .f32) (W : FVec Ideal S16x128x128 .f32) : FVec Ideal S16x4x16x128x128 .f32 := Host.dotGeneral dot_S4x16x128x16x128_S16x128x128_S16x4x16x128x128_2_2_014_1_3_0 none M W
/-- The products plus the bias. -/
def rT (D : FVec Ideal S16x4x16x128x128 .f32) (a3 : FVec Ideal S1x16x128 .f32) : FVec Ideal S4x16x128x16x128 .f32 := addf (transpose S4x16x128x16x128 [1, 2, 4, 0, 3] D transposes_S16x4x16x128x128_S4x16x128x16x128_1_2_4_0_3) (broadcastInDim S4x16x128x16x128 ![0, 1, 2, 3, 4] bcast_S1x1x128x16x1_S4x16x128x16x128_0_1_2_3_4 (broadcastInDim S1x1x128x16x1 ![2, 3] bcast_S128x16_S1x1x128x16x1_2_3 (transpose S128x16 [1, 0] (shapeCast S16x128 a3 shapeCasts_S1x16x128_S16x128) transposes_S16x128_S128x16_1_0)))
/-- The gate times the first half. -/
def rF (Z : FVec Ideal S4x2048x4096 .f32) (T : FVec Ideal S4x16x128x16x128 .f32) : FVec Ideal S8192x2048 .bf16 := truncf .bf16 (shapeCast S8192x2048 (mulf (extractStridedSlice S4x2048x2048 ![0, 0, 0] Z slices_S4x2048x4096_S4x2048x2048_0_0_0) (shapeCast S4x2048x2048 T shapeCasts_S4x16x128x16x128_S4x2048x2048)) shapeCasts_S4x2048x2048_S8192x2048) bitsLt_bf16_f32

theorem rZ_apply (a0 : FVec Ideal S4x2048x4096 .f32) (b : Fin 4) (r : Fin 2048) (q : Fin 4096) : rZ a0 (ix3 b r q) = gl (a0 (ix3 b r q)) := by
  have e : ∀ x : EReal, x * x * x = x * (x * x) := fun x => mul_assoc x x x
  pointwise [rZ, e] <;> rfl

/-- The gain as a vector. -/
theorem gain_vec (g : FVec Ideal S1x2048 .f32) : shapeCast S2048 g shapeCasts_S1x2048_S2048 = fun k => g (ix2 (n0 := 1) (n1 := 2048) 0 (k 0)) := by
  funext k
  refine shapeCast_apply _ _ _ _ ?_
  rw [Shape.rowMajor_val_one, Shape.rowMajor_val_two]
  show 0 * 2048 + (k 0).val = (k 0).val
  omega

theorem rN_apply (Z : FVec Ideal S4x2048x4096 .f32) (a1 : FVec Ideal S1x2048 .f32) (b : Fin 4) (r : Fin 2048) (q : Fin 2048) :
    rN Z a1 (ix3 b r q) = nrm (fun k => Z (ix3 b r (rgt k))) (a1 (ix2 (n0 := 1) 0 q)) q := by
  unfold rN
  rw [gain_vec]
  pointwise [] <;> rfl

/-- The weights with the leading axis dropped. -/
theorem w_cast (a2 : FVec Ideal S1x16x128x128 .f32) : shapeCast S16x128x128 a2 shapeCasts_S1x16x128x128_S16x128x128
    = fun k => a2 (ix4 (n0 := 1) (n1 := 16) (n2 := 128) (n3 := 128) 0 (k 0) (k 1) (k 2)) := by
  funext k
  refine shapeCast_apply _ _ _ _ ?_
  rw [Shape.rowMajor_val_three, Shape.rowMajor_val_four]
  show ((0 * 16 + (k 0).val) * 128 + (k 1).val) * 128 + (k 2).val = ((k 0).val * 128 + (k 1).val) * 128 + (k 2).val
  omega

/-- Adding the word zero changes no word, and `a ≥ b` is `b ≤ a`. -/
theorem mask_eq (p x : Fin 128) (a : EReal) :
    Scalar.select (Scalar.select (IntOp.cmpi CmpIPredicate.sge (BitVec.ofNat 32 p.val) (BitVec.ofNat 32 x.val)) (1#1) (0#1)) a 0 = tri p x a := by
  have h : ∀ y : BitVec 1, Scalar.select y (1#1) (0#1) = y := by decide
  rw [h]
  rfl

theorem rW_apply (a2 : FVec Ideal S1x16x128x128 .f32) (g : Fin 16) (p x : Fin 128) : rW a2 (ix3 g p x) = tri p x (a2 (ix4 (n0 := 1) 0 g p x)) := by
  unfold rW
  rw [w_cast]
  refine Eq.trans ?_ (mask_eq p x _)
  have e1 : ∀ y : BitVec 32, IntOp.addi y 0#32 = y := BitVec.add_zero
  have e2 : FloatOps.sitofp (F := Ideal) FTy.f32 0#32 = (0 : EReal) := by
    show (((0#32 : BitVec 32).toInt : ℝ) : EReal) = 0
    norm_num
  pointwise [e1, e2] <;> rfl

theorem rD_apply (M : FVec Ideal S4x16x128x16x128 .f32) (W : FVec Ideal S16x128x128 .f32) (g : Fin 16) (b : Fin 4) (c : Fin 16) (d p : Fin 128) :
    rD M W (ix5 g b c d p) = ∑ x : Fin 128, M (ix5 b c x g d) * W (ix3 g p x) := by
  pointwise [rD] <;> rfl

/-- The biases with the leading axis dropped. -/
theorem b_cast (a3 : FVec Ideal S1x16x128 .f32) : shapeCast S16x128 a3 shapeCasts_S1x16x128_S16x128
    = fun k => a3 (ix3 (n0 := 1) (n1 := 16) (n2 := 128) 0 (k 0) (k 1)) := by
  funext k
  refine shapeCast_apply _ _ _ _ ?_
  rw [Shape.rowMajor_val_three, Shape.rowMajor_val_two]
  show (0 * 16 + (k 0).val) * 128 + (k 1).val = (k 0).val * 128 + (k 1).val
  omega

theorem rT_apply (D : FVec Ideal S16x4x16x128x128 .f32) (a3 : FVec Ideal S1x16x128 .f32) (b : Fin 4) (c : Fin 16) (p : Fin 128) (g : Fin 16) (d : Fin 128) :
    rT D a3 (ix5 b c p g d) = D (ix5 g b c d p) + a3 (ix3 (n0 := 1) 0 g p) := by
  unfold rT
  rw [b_cast]
  pointwise [] <;> rfl

/-- The chunk a row of a batch lies in, its place there, and a column's place in its group. -/
abbrev ch (r : Fin 2048) : Fin 16 := ⟨r.val / 128, by omega⟩
abbrev pl (r : Fin 2048) : Fin 128 := ⟨r.val % 128, by omega⟩
/-- The row of a chunk at a place. -/
abbrev at' (c : Fin 16) (x : Fin 128) : Fin 2048 := ⟨c.val * 128 + x.val, by omega⟩

theorem N5_apply (N : FVec Ideal S4x2048x2048 .f32) (b : Fin 4) (c : Fin 16) (x : Fin 128) (g : Fin 16) (d : Fin 128) :
    shapeCast S4x16x128x16x128 N shapeCasts_S4x2048x2048_S4x16x128x16x128 (ix5 b c x g d) = N (ix3 b (at' c x) (at' g d)) := by
  refine shapeCast_apply _ _ _ _ ?_
  rw [Shape.rowMajor_val_three, Shape.rowMajor_val_five]
  show (b.val * 2048 + (c.val * 128 + x.val)) * 2048 + (g.val * 128 + d.val) = (((b.val * 16 + c.val) * 128 + x.val) * 16 + g.val) * 128 + d.val
  omega

theorem T3_apply (T : FVec Ideal S4x16x128x16x128 .f32) (b : Fin 4) (r q : Fin 2048) :
    shapeCast S4x2048x2048 T shapeCasts_S4x16x128x16x128_S4x2048x2048 (ix3 b r q) = T (ix5 b (ch r) (pl r) (ch q) (pl q)) := by
  refine shapeCast_apply _ _ _ _ ?_
  rw [Shape.rowMajor_val_three, Shape.rowMajor_val_five]
  show (((b.val * 16 + r.val / 128) * 128 + r.val % 128) * 16 + q.val / 128) * 128 + q.val % 128 = (b.val * 2048 + r.val) * 2048 + q.val
  omega

theorem flat_apply (Y : FVec Ideal S4x2048x2048 .f32) (i : Fin 8192) (q : Fin 2048) :
    shapeCast S8192x2048 Y shapeCasts_S4x2048x2048_S8192x2048 (ix2 i q) = Y (ix3 (hi i) (lo i) q) := by
  refine shapeCast_apply _ _ _ _ ?_
  rw [Shape.rowMajor_val_three, Shape.rowMajor_val_two]
  show (i.val / 2048 * 2048 + i.val % 2048) * 2048 + q.val = i.val * 2048 + q.val
  omega

theorem rF_apply (Z : FVec Ideal S4x2048x4096 .f32) (T : FVec Ideal S4x16x128x16x128 .f32) (i : Fin 8192) (q : Fin 2048) :
    rF Z T (ix2 i q) = Z (ix3 (hi i) (lo i) (lft q)) * T (ix5 (hi i) (ch (lo i)) (pl (lo i)) (ch q) (pl q)) := by
  refine (flat_apply (mulf (extractStridedSlice S4x2048x2048 ![0, 0, 0] Z slices_S4x2048x4096_S4x2048x2048_0_0_0)
    (shapeCast S4x2048x2048 T shapeCasts_S4x16x128x16x128_S4x2048x2048)) i q).trans ?_
  show _ * shapeCast S4x2048x2048 T shapeCasts_S4x16x128x16x128_S4x2048x2048 (ix3 (hi i) (lo i) q) = _
  rw [T3_apply]
  refine congrArg (· * _) ?_
  pointwise [] <;> rfl

/-- The reference's array is the gated array. -/
theorem ref (a0 : FVec Ideal S4x2048x4096 .f32) (a1 : FVec Ideal S1x2048 .f32) (a2 : FVec Ideal S1x16x128x128 .f32) (a3 : FVec Ideal S1x16x128 .f32) :
    rF (rZ a0) (rT (rD (shapeCast S4x16x128x16x128 (rN (rZ a0) a1) shapeCasts_S4x2048x2048_S4x16x128x16x128) (rW a2)) a3) = G a0 a1 a2 a3 := by
  funext j
  obtain ⟨i, q, rfl⟩ : ∃ (i : Fin 8192) (q : Fin 2048), j = ix2 i q := ⟨j 0, j 1, Shape.idx_ext₂ rfl rfl⟩
  have hi' := i.isLt
  have hq := q.isLt
  rw [rF_apply, rZ_apply, rT_apply, rD_apply]
  show _ = val _ _ _ _ _ _
  unfold val
  have em : ∀ x : Fin 128, (hi (mate i x) = hi i) ∧ lo (mate i x) = at' (ch (lo i)) x := by
    intro x
    have hx := x.isLt
    refine ⟨Fin.ext ?_, Fin.ext ?_⟩
    · show (i.val / 128 * 128 + x.val) / 2048 = i.val / 2048
      omega
    · show (i.val / 128 * 128 + x.val) % 2048 = i.val % 2048 / 128 * 128 + x.val
      omega
  have ep : pl (lo i) = pos i := Fin.ext (by show i.val % 2048 % 128 = i.val % 128; omega)
  have eq' : at' (ch q) (pl q) = q := Fin.ext (by show q.val / 128 * 128 + q.val % 128 = q.val; omega)
  have e0 : mate i (pos i) = i := Fin.ext (by show i.val / 128 * 128 + i.val % 128 = i.val; omega)
  refine congrArg₂ (· * ·) ?_ (congrArg₂ (· + ·) (Finset.sum_congr rfl fun x _ => ?_) ?_)
  · show _ = gl (a0 (ix3 (hi (mate i (pos i))) (lo (mate i (pos i))) (lft q)))
    rw [e0]
  · rw [N5_apply, rN_apply, rW_apply, eq', ep]
    simp only [rZ_apply]
    show _ = tri (pos i) x (a2 (ix4 (n0 := 1) 0 (gof q) (pos i) x) * nrm (fun k => gl (a0 (ix3 (hi (mate i x)) (lo (mate i x)) (rgt k)))) (a1 (ix2 (n0 := 1) 0 q)) q)
    rw [(em x).1, (em x).2, mul_comm]
    unfold tri
    rw [Scalar.select.eq_1, Scalar.select.eq_1]
    split
    · rfl
    · exact zero_mul _
  · rw [ep]
    rfl

end Cert.RGatingIdeal.Hand

end
-- ==== Proof.GatingClaims.lean ====
/-
  The claims about `KGating`: the frames, and that the kernel over the extended reals computes the reference's function.
-/
module

public import proofs.«01_k».proof.Defs
public import proofs.«01_k».proof.Proof.Gating
public import proofs.«01_k».proof.Proof.GatingRef
public import proofs.«01_k».proof.Proof.Gen.KGating.Frame
public import proofs.«01_k».proof.Proof.Gen.RGatingIdeal.Run

@[expose] public section

set_option maxRecDepth 16384

noncomputable section

namespace Cert.Proof.Gating

open Idealize.ShloMosaic Idealize.ShloMosaic.TcCoe Idealize.SL.Sem

theorem frame_kernel : Cert.quiescent_KGating := fun m ρ _ => Cert.KGating.Gen.frame m ρ
theorem frame_ideal : Cert.quiescent_KGatingIdeal := fun m ρ _ => Cert.KGatingIdeal.Gen.frame m ρ
theorem frame_reference : Cert.quiescent_RGatingIdeal := fun m ρ _ =>
  (θ_run Cert.RGatingIdeal.defs _ _).mono (fun r h => ⟨fun c => (h c).2,
      Idealize.ShloMosaic.sem_eq_zero_of_no_sems (by decide) r.2⟩)
    (Cert.RGatingIdeal.Value.run (F := Ideal) m ρ)

theorem preserves : Cert.preserves_KGating_KGatingIdeal := trivial

/-- Over the extended reals the kernel's result arrays are the reference's. -/
theorem algebraic : Cert.algebraic_KGatingIdeal_RGatingIdeal := by
  intro m ρ m' ρ' _ hag
  refine ⟨fun c => KGatingIdeal.Hand.out m c, Cert.KGatingIdeal.Hand.run m ρ,
    (θ_run Cert.RGatingIdeal.defs _ _).mono (fun r h c => ?_) (Cert.RGatingIdeal.Value.run (F := Ideal) m' ρ')⟩
  obtain ⟨h0, h1, h2, h3⟩ := hag c
  refine ⟨(h c).1.trans ?_, (h c).2⟩
  · unfold Cert.RGatingIdeal.Value.res_main_v45
    rw [h0, h1, h2, h3]
    exact Cert.RGatingIdeal.Hand.ref _ _ _ _

end Cert.Proof.Gating

end
-- ==== Proof.Merge.lean ====
/-
  The value of the gated merge of the two mixers: every block the kernel writes is the block of
  `sigmoid(h · gaᵀ) * (ya · pa) + sigmoid(h · gbᵀ) * (yb · pb)`, and the side outputs are the casts of the SwiGLU's
  first weights.
-/
module

public import proofs.«01_k».proof.Proof.Gen.KMergeIdeal.Value
public import Idealize.ShloMosaic.Lib.Pointwise

@[expose] public section

set_option maxRecDepth 16384

noncomputable section

namespace Cert.KMergeIdeal.Hand

open Cert.KMergeIdeal Cert.KMergeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The two projections under their gates. -/
abbrev mix (ga gb pa pb : EReal) : EReal := Ideal.logistic ga * pa + Ideal.logistic gb * pb

/-- One entry of the product of a mixer's output and its projection. -/
abbrev dot (a : FVec Ideal S8192x2048 .bf16) (w : FVec Ideal S2048x4096 .bf16) (r : Fin 8192) (q : Fin 4096) : EReal :=
  ∑ k : Fin 2048, a (ix2 r k) * w (ix2 k q)

/-- One entry of the product of the normed input and the transposed gate weights. -/
abbrev dotT (a : FVec Ideal S8192x4096 .bf16) (w : FVec Ideal S8192x4096 .bf16) (r : Fin 8192) (q : Fin 8192) : EReal :=
  ∑ k : Fin 4096, a (ix2 r k) * w (ix2 q k)

/-- A column of the second half of the gates. -/
abbrev hi (q : Fin 4096) : Fin 8192 := ⟨4096 + q.val, by omega⟩
/-- A column of the first half of the gates. -/
abbrev lo (q : Fin 4096) : Fin 8192 := ⟨q.val, by omega⟩

/-- The gated merge, index by index. -/
def G (ya yb : FVec Ideal S8192x2048 .bf16) (h : FVec Ideal S8192x4096 .bf16) (pa pb : FVec Ideal S2048x4096 .bf16)
    (g : FVec Ideal S8192x4096 .bf16) : FVec Ideal S8192x4096 .bf16 :=
  fun i => mix (dotT h g (i 0) (lo (i 1))) (dotT h g (i 0) (hi (i 1))) (dot ya pa (i 0) (i 1)) (dot yb pb (i 0) (i 1))

/-- The cast of weights, index by index. -/
def Gc (w : FVec Ideal S1x4096x11008 .f32) : FVec Ideal S4096x11008 .bf16 :=
  fun i => w (ix3 (n0 := 1) (n1 := 4096) (n2 := 11008) 0 (i 0) (i 1))
/-- The block index of every window at every point of the grid. -/
theorem idx_facts : ∀ t : Fin cfg0.N,
    win0_0.index t 0 = t.val / 16 ∧ win0_0.index t 1 = 0 ∧ win0_1.index t 0 = t.val / 16
    ∧ win0_1.index t 1 = 0 ∧ win0_2.index t 0 = t.val / 16 ∧ win0_2.index t 1 = 0
    ∧ win0_3.index t 0 = 0 ∧ win0_3.index t 1 = t.val % 16 ∧ win0_4.index t 0 = 0
    ∧ win0_4.index t 1 = t.val % 16 ∧ win0_5.index t 0 = t.val % 16 ∧ win0_5.index t 1 = 0
    ∧ win0_6.index t 0 = (t.val % 16 + 16) ∧ win0_6.index t 1 = 0 ∧ win0_7.index t 0 = 0
    ∧ win0_7.index t 1 = t.val ∧ win0_7.index t 2 = 0 ∧ win0_8.index t 0 = 0
    ∧ win0_8.index t 1 = t.val ∧ win0_8.index t 2 = 0 ∧ win0_9.index t 0 = t.val / 16
    ∧ win0_9.index t 1 = t.val % 16 ∧ win0_10.index t 0 = t.val ∧ win0_10.index t 1 = 0
    ∧ win0_11.index t 0 = t.val ∧ win0_11.index t 1 = 0 :=
  (by decide +kernel : ∀ t : Fin grid0.N,
    win0_0.index t 0 = t.val / 16 ∧ win0_0.index t 1 = 0 ∧ win0_1.index t 0 = t.val / 16
    ∧ win0_1.index t 1 = 0 ∧ win0_2.index t 0 = t.val / 16 ∧ win0_2.index t 1 = 0
    ∧ win0_3.index t 0 = 0 ∧ win0_3.index t 1 = t.val % 16 ∧ win0_4.index t 0 = 0
    ∧ win0_4.index t 1 = t.val % 16 ∧ win0_5.index t 0 = t.val % 16 ∧ win0_5.index t 1 = 0
    ∧ win0_6.index t 0 = (t.val % 16 + 16) ∧ win0_6.index t 1 = 0 ∧ win0_7.index t 0 = 0
    ∧ win0_7.index t 1 = t.val ∧ win0_7.index t 2 = 0 ∧ win0_8.index t 0 = 0
    ∧ win0_8.index t 1 = t.val ∧ win0_8.index t 2 = 0 ∧ win0_9.index t 0 = t.val / 16
    ∧ win0_9.index t 1 = t.val % 16 ∧ win0_10.index t 0 = t.val ∧ win0_10.index t 1 = 0
    ∧ win0_11.index t 0 = t.val ∧ win0_11.index t 1 = 0)

theorem blk0 (c : Dev nD) (t : Fin cfg0.N) (j : S1024x2048.Idx) (i : S8192x2048.Idx)
    (h0 : (i 0).val = t.val / 16 * 1024 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 1024 + 1 * (j 0).val = (i 0).val; rw [e0]; omega
  | ⟨1, _⟩ => show win0_0.index t 1 * 2048 + 1 * (j 1).val = (i 1).val; rw [e1]; omega

theorem blk1 (c : Dev nD) (t : Fin cfg0.N) (j : S1024x2048.Idx) (i : S8192x2048.Idx)
    (h0 : (i 0).val = t.val / 16 * 1024 + (j 0).val) (h1 : (i 1).val = (j 1).val) :
    iblk m c 1 t j = m ((c : Thread nD τ).loc main_arg1) i := by
  obtain ⟨-, -, e0, e1, -⟩ := idx_facts t
  show m ((c : Thread nD τ).loc main_arg1) _ = _
  refine congrArg _ (funext fun a => Fin.ext ?_)
  match a with
  | ⟨0, _⟩ => show win0_1.index t 0 * 1024 + 1 * (j 0).val = (i 0).val; rw [e0]; omega
  | ⟨1, _⟩ => show win0_1.index t 1 * 2048 + 1 * (j 1).val = (i 1).val; rw [e1]; omega

theorem blk2 (c : Dev nD) (t : Fin cfg0.N) (j : S1024x4096.Idx) (i : S8192x4096.Idx)
    (h0 : (i 0).val = t.val / 16 * 1024 + (j 0).val) (h1 : (i 1).val = (j 1).val) :
    iblk m c 2 t j = m ((c : Thread nD τ).loc main_arg2) i := by
  obtain ⟨-, -, -, -, e0, e1, -⟩ := idx_facts t
  show m ((c : Thread nD τ).loc main_arg2) _ = _
  refine congrArg _ (funext fun a => Fin.ext ?_)
  match a with
  | ⟨0, _⟩ => show win0_2.index t 0 * 1024 + 1 * (j 0).val = (i 0).val; rw [e0]; omega
  | ⟨1, _⟩ => show win0_2.index t 1 * 4096 + 1 * (j 1).val = (i 1).val; rw [e1]; omega

theorem blk3 (c : Dev nD) (t : Fin cfg0.N) (j : S2048x256.Idx) (i : S2048x4096.Idx)
    (h0 : (i 0).val = (j 0).val) (h1 : (i 1).val = t.val % 16 * 256 + (j 1).val) :
    iblk m c 3 t j = m ((c : Thread nD τ).loc main_arg3) i := by
  obtain ⟨-, -, -, -, -, -, e0, e1, -⟩ := idx_facts t
  show m ((c : Thread nD τ).loc main_arg3) _ = _
  refine congrArg _ (funext fun a => Fin.ext ?_)
  match a with
  | ⟨0, _⟩ => show win0_3.index t 0 * 2048 + 1 * (j 0).val = (i 0).val; rw [e0]; omega
  | ⟨1, _⟩ => show win0_3.index t 1 * 256 + 1 * (j 1).val = (i 1).val; rw [e1]; omega

theorem blk4 (c : Dev nD) (t : Fin cfg0.N) (j : S2048x256.Idx) (i : S2048x4096.Idx)
    (h0 : (i 0).val = (j 0).val) (h1 : (i 1).val = t.val % 16 * 256 + (j 1).val) :
    iblk m c 4 t j = m ((c : Thread nD τ).loc main_arg4) i := by
  obtain ⟨-, -, -, -, -, -, -, -, e0, e1, -⟩ := idx_facts t
  show m ((c : Thread nD τ).loc main_arg4) _ = _
  refine congrArg _ (funext fun a => Fin.ext ?_)
  match a with
  | ⟨0, _⟩ => show win0_4.index t 0 * 2048 + 1 * (j 0).val = (i 0).val; rw [e0]; omega
  | ⟨1, _⟩ => show win0_4.index t 1 * 256 + 1 * (j 1).val = (i 1).val; rw [e1]; omega

theorem blk5 (c : Dev nD) (t : Fin cfg0.N) (j : S256x4096.Idx) (i : S8192x4096.Idx)
    (h0 : (i 0).val = t.val % 16 * 256 + (j 0).val) (h1 : (i 1).val = (j 1).val) :
    iblk m c 5 t j = m ((c : Thread nD τ).loc main_arg5) i := by
  obtain ⟨-, -, -, -, -, -, -, -, -, -, e0, e1, -⟩ := idx_facts t
  show m ((c : Thread nD τ).loc main_arg5) _ = _
  refine congrArg _ (funext fun a => Fin.ext ?_)
  match a with
  | ⟨0, _⟩ => show win0_5.index t 0 * 256 + 1 * (j 0).val = (i 0).val; rw [e0]; omega
  | ⟨1, _⟩ => show win0_5.index t 1 * 4096 + 1 * (j 1).val = (i 1).val; rw [e1]; omega

theorem blk6 (c : Dev nD) (t : Fin cfg0.N) (j : S256x4096.Idx) (i : S8192x4096.Idx)
    (h0 : (i 0).val = (t.val % 16 + 16) * 256 + (j 0).val) (h1 : (i 1).val = (j 1).val) :
    iblk m c 6 t j = m ((c : Thread nD τ).loc main_arg5) i := by
  obtain ⟨-, -, -, -, -, -, -, -, -, -, -, -, e0, e1, -⟩ := idx_facts t
  show m ((c : Thread nD τ).loc main_arg5) _ = _
  refine congrArg _ (funext fun a => Fin.ext ?_)
  match a with
  | ⟨0, _⟩ => show win0_6.index t 0 * 256 + 1 * (j 0).val = (i 0).val; rw [e0]; omega
  | ⟨1, _⟩ => show win0_6.index t 1 * 4096 + 1 * (j 1).val = (i 1).val; rw [e1]; omega

theorem blk7 (c : Dev nD) (t : Fin cfg0.N) (j : S1x32x11008.Idx) (i : S1x4096x11008.Idx)
    (h0 : (i 0).val = (j 0).val) (h1 : (i 1).val = t.val * 32 + (j 1).val) (h2 : (i 2).val = (j 2).val) :
    iblk m c 7 t j = m ((c : Thread nD τ).loc main_arg6) i := by
  obtain ⟨-, -, -, -, -, -, -, -, -, -, -, -, -, -, e0, e1, e2, -⟩ := idx_facts t
  show m ((c : Thread nD τ).loc main_arg6) _ = _
  refine congrArg _ (funext fun a => Fin.ext ?_)
  match a with
  | ⟨0, _⟩ => show win0_7.index t 0 * 1 + 1 * (j 0).val = (i 0).val; rw [e0]; omega
  | ⟨1, _⟩ => show win0_7.index t 1 * 32 + 1 * (j 1).val = (i 1).val; rw [e1]; omega
  | ⟨2, _⟩ => show win0_7.index t 2 * 11008 + 1 * (j 2).val = (i 2).val; rw [e2]; omega

theorem blk8 (c : Dev nD) (t : Fin cfg0.N) (j : S1x32x11008.Idx) (i : S1x4096x11008.Idx)
    (h0 : (i 0).val = (j 0).val) (h1 : (i 1).val = t.val * 32 + (j 1).val) (h2 : (i 2).val = (j 2).val) :
    iblk m c 8 t j = m ((c : Thread nD τ).loc main_arg7) i := by
  obtain ⟨-, -, -, -, -, -, -, -, -, -, -, -, -, -, -, -, -, e0, e1, e2, -⟩ := idx_facts t
  show m ((c : Thread nD τ).loc main_arg7) _ = _
  refine congrArg _ (funext fun a => Fin.ext ?_)
  match a with
  | ⟨0, _⟩ => show win0_8.index t 0 * 1 + 1 * (j 0).val = (i 0).val; rw [e0]; omega
  | ⟨1, _⟩ => show win0_8.index t 1 * 32 + 1 * (j 1).val = (i 1).val; rw [e1]; omega
  | ⟨2, _⟩ => show win0_8.index t 2 * 11008 + 1 * (j 2).val = (i 2).val; rw [e2]; omega

/-- Where an element of window 9's block sits in the array, axis 0. -/
theorem emb9_0 (t : Fin cfg0.N) (j : ((cfg0.win 9).xblock (grid0.coords t)).Idx) :
    ((win0_9.rect t).emb j 0).val = t.val / 16 * 1024 + (j 0).val := by
  obtain ⟨-, -, -, -, -, -, -, -, -, -, -, -, -, -, -, -, -, -, -, -, e0, e1, -⟩ := idx_facts t
  rw [win0_9.rect_emb_val, e0]; rfl

/-- Where an element of window 9's block sits in the array, axis 1. -/
theorem emb9_1 (t : Fin cfg0.N) (j : ((cfg0.win 9).xblock (grid0.coords t)).Idx) :
    ((win0_9.rect t).emb j 1).val = t.val % 16 * 256 + (j 1).val := by
  obtain ⟨-, -, -, -, -, -, -, -, -, -, -, -, -, -, -, -, -, -, -, -, e0, e1, -⟩ := idx_facts t
  rw [win0_9.rect_emb_val, e1]; rfl

/-- Every index of the result lies in some point's block of window 9. -/
theorem cover9 (i : S8192x4096.Idx) : ∃ t : Fin cfg0.N, (cfg0.win 9).flush t = true ∧ i ∈ ((cfg0.win 9).blk t).view.set := by
  have h0 : (i 0).val < 8192 := (i 0).isLt
  have h1 : (i 1).val < 4096 := (i 1).isLt
  have hN : (i 0).val / 1024 * 16 + (i 1).val / 256 < cfg0.N := by
    show _ < grid0.N
    rw [N_0]; omega
  refine ⟨⟨_, hN⟩, flush0_9 _, ?_⟩
  obtain ⟨-, -, -, -, -, -, -, -, -, -, -, -, -, -, -, -, -, -, -, -, e0, e1, -⟩ := idx_facts ⟨_, hN⟩
  dsimp only at e0 e1
  show i ∈ ((View.whole main_v0_0).slice (win0_9.rect ⟨_, hN⟩)).set
  rw [View.set_slice_whole, Rect.mem_set_unit]
  intro a
  match a with
  | ⟨0, _⟩ =>
    show win0_9.index ⟨_, hN⟩ 0 * 1024 ≤ (i 0).val ∧ (i 0).val < win0_9.index ⟨_, hN⟩ 0 * 1024 + 1024
    rw [e0]; omega
  | ⟨1, _⟩ =>
    show win0_9.index ⟨_, hN⟩ 1 * 256 ≤ (i 1).val ∧ (i 1).val < win0_9.index ⟨_, hN⟩ 1 * 256 + 256
    rw [e1]; omega

/-- Where an element of window 10's block sits in the array, axis 0. -/
theorem emb10_0 (t : Fin cfg0.N) (j : ((cfg0.win 10).xblock (grid0.coords t)).Idx) :
    ((win0_10.rect t).emb j 0).val = t.val * 32 + (j 0).val := by
  obtain ⟨-, -, -, -, -, -, -, -, -, -, -, -, -, -, -, -, -, -, -, -, -, -, e0, e1, -⟩ := idx_facts t
  rw [win0_10.rect_emb_val, e0]; rfl

/-- Where an element of window 10's block sits in the array, axis 1. -/
theorem emb10_1 (t : Fin cfg0.N) (j : ((cfg0.win 10).xblock (grid0.coords t)).Idx) :
    ((win0_10.rect t).emb j 1).val = (j 1).val := by
  obtain ⟨-, -, -, -, -, -, -, -, -, -, -, -, -, -, -, -, -, -, -, -, -, -, e0, e1, -⟩ := idx_facts t
  exact win0_10.rect_emb_val_of_index_zero t 1 e1 j

/-- Every index of the result lies in some point's block of window 10. -/
theorem cover10 (i : S4096x11008.Idx) : ∃ t : Fin cfg0.N, (cfg0.win 10).flush t = true ∧ i ∈ ((cfg0.win 10).blk t).view.set := by
  have h0 : (i 0).val < 4096 := (i 0).isLt
  have h1 : (i 1).val < 11008 := (i 1).isLt
  have hN : (i 0).val / 32 < cfg0.N := by
    show _ < grid0.N
    rw [N_0]; omega
  refine ⟨⟨_, hN⟩, flush0_10 _, ?_⟩
  obtain ⟨-, -, -, -, -, -, -, -, -, -, -, -, -, -, -, -, -, -, -, -, -, -, e0, e1, -⟩ := idx_facts ⟨_, hN⟩
  dsimp only at e0 e1
  show i ∈ ((View.whole main_v0_1).slice (win0_10.rect ⟨_, hN⟩)).set
  rw [View.set_slice_whole, Rect.mem_set_unit]
  intro a
  match a with
  | ⟨0, _⟩ =>
    show win0_10.index ⟨_, hN⟩ 0 * 32 ≤ (i 0).val ∧ (i 0).val < win0_10.index ⟨_, hN⟩ 0 * 32 + 32
    rw [e0]; omega
  | ⟨1, _⟩ =>
    show win0_10.index ⟨_, hN⟩ 1 * 11008 ≤ (i 1).val ∧ (i 1).val < win0_10.index ⟨_, hN⟩ 1 * 11008 + 11008
    rw [e1]; omega

/-- Where an element of window 11's block sits in the array, axis 0. -/
theorem emb11_0 (t : Fin cfg0.N) (j : ((cfg0.win 11).xblock (grid0.coords t)).Idx) :
    ((win0_11.rect t).emb j 0).val = t.val * 32 + (j 0).val := by
  obtain ⟨-, -, -, -, -, -, -, -, -, -, -, -, -, -, -, -, -, -, -, -, -, -, -, -, e0, e1⟩ := idx_facts t
  rw [win0_11.rect_emb_val, e0]; rfl

/-- Where an element of window 11's block sits in the array, axis 1. -/
theorem emb11_1 (t : Fin cfg0.N) (j : ((cfg0.win 11).xblock (grid0.coords t)).Idx) :
    ((win0_11.rect t).emb j 1).val = (j 1).val := by
  obtain ⟨-, -, -, -, -, -, -, -, -, -, -, -, -, -, -, -, -, -, -, -, -, -, -, -, e0, e1⟩ := idx_facts t
  exact win0_11.rect_emb_val_of_index_zero t 1 e1 j

/-- Every index of the result lies in some point's block of window 11. -/
theorem cover11 (i : S4096x11008.Idx) : ∃ t : Fin cfg0.N, (cfg0.win 11).flush t = true ∧ i ∈ ((cfg0.win 11).blk t).view.set := by
  have h0 : (i 0).val < 4096 := (i 0).isLt
  have h1 : (i 1).val < 11008 := (i 1).isLt
  have hN : (i 0).val / 32 < cfg0.N := by
    show _ < grid0.N
    rw [N_0]; omega
  refine ⟨⟨_, hN⟩, flush0_11 _, ?_⟩
  obtain ⟨-, -, -, -, -, -, -, -, -, -, -, -, -, -, -, -, -, -, -, -, -, -, -, -, e0, e1⟩ := idx_facts ⟨_, hN⟩
  dsimp only at e0 e1
  show i ∈ ((View.whole main_v0_2).slice (win0_11.rect ⟨_, hN⟩)).set
  rw [View.set_slice_whole, Rect.mem_set_unit]
  intro a
  match a with
  | ⟨0, _⟩ =>
    show win0_11.index ⟨_, hN⟩ 0 * 32 ≤ (i 0).val ∧ (i 0).val < win0_11.index ⟨_, hN⟩ 0 * 32 + 32
    rw [e0]; omega
  | ⟨1, _⟩ =>
    show win0_11.index ⟨_, hN⟩ 1 * 11008 ≤ (i 1).val ∧ (i 1).val < win0_11.index ⟨_, hN⟩ 1 * 11008 + 11008
    rw [e1]; omega

theorem one_mul' (k : Nat) : 0 + 1 * k = k := by omega

/-- One entry of the product of two blocks. -/
abbrev bdot (a : FVec Ideal S256x2048 .bf16) (w : FVec Ideal S2048x256 .bf16) (j : S256x256.Idx) : EReal :=
  ∑ k : Fin 2048, a (ix2 (n0 := 256) (j 0) k) * w (ix2 (n1 := 256) k (j 1))
/-- One entry of the product of a block and a transposed one. -/
abbrev bdotT (a : FVec Ideal S256x4096 .bf16) (w : FVec Ideal S256x4096 .bf16) (j : S256x256.Idx) : EReal :=
  ∑ k : Fin 4096, a (ix2 (n0 := 256) (j 0) k) * w (ix2 (n0 := 256) (j 1) k)

theorem pay1_apply (pa pb : Vec Ideal S2048x256 .bf16) (ga gb : Vec Ideal S256x4096 .bf16) (ya yb : Vec Ideal S256x2048 .bf16)
    (h h' : Vec Ideal S256x4096 .bf16) (j : S256x256.Idx) :
    k0_pay1 pa pb ga gb ya yb h h' j = mix (bdotT h ga j) (bdotT h' gb j) (bdot ya pa j) (bdot yb pb j) := by
  idx_vars j
  pointwise [k0_pay1]
  rfl

theorem pay4_apply (pa pb : Vec Ideal S2048x256 .bf16) (ga gb : Vec Ideal S256x4096 .bf16) (ya yb : Vec Ideal S256x2048 .bf16)
    (h h' : Vec Ideal S256x4096 .bf16) (j : S256x256.Idx) :
    k0_pay4 pa pb ga gb ya yb h h' j = mix (bdotT h ga j) (bdotT h' gb j) (bdot ya pa j) (bdot yb pb j) := by
  idx_vars j
  pointwise [k0_pay4]
  rfl

theorem pay5_apply (pa pb : Vec Ideal S2048x256 .bf16) (ga gb : Vec Ideal S256x4096 .bf16) (ya yb : Vec Ideal S256x2048 .bf16)
    (h h' : Vec Ideal S256x4096 .bf16) (j : S256x256.Idx) :
    k0_pay5 pa pb ga gb ya yb h h' j = mix (bdotT h ga j) (bdotT h' gb j) (bdot ya pa j) (bdot yb pb j) := by
  idx_vars j
  pointwise [k0_pay5]
  rfl

theorem pay6_apply (pa pb : Vec Ideal S2048x256 .bf16) (ga gb : Vec Ideal S256x4096 .bf16) (ya yb : Vec Ideal S256x2048 .bf16)
    (h h' : Vec Ideal S256x4096 .bf16) (j : S256x256.Idx) :
    k0_pay6 pa pb ga gb ya yb h h' j = mix (bdotT h ga j) (bdotT h' gb j) (bdot ya pa j) (bdot yb pb j) := by
  idx_vars j
  pointwise [k0_pay6]
  rfl

/-- The arrays of results of device `c`. -/
abbrev out (c : Dev nD) : Buf (Elt Ideal) ((c : Thread nD τ).loc main_v0_0) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev outc1 (c : Dev nD) : Buf (Elt Ideal) ((c : Thread nD τ).loc main_v0_1) := Gc (m ((c : Thread nD τ).loc main_arg6))
abbrev outc3 (c : Dev nD) : Buf (Elt Ideal) ((c : Thread nD τ).loc main_v0_2) := Gc (m ((c : Thread nD τ).loc main_arg7))

/-- The block the body leaves at a point is the whole result read at the block's place. -/
theorem block9 (c : Dev nD) (t : Fin cfg0.N) (y : S1024x256.Idx) :
    out0_9 (iblk m c 0 t) (iblk m c 1 t) (iblk m c 2 t) (iblk m c 3 t) (iblk m c 4 t) (iblk m c 5 t) (iblk m c 6 t) (iblk m c 7 t) (iblk m c 8 t) y = out m c ((win0_9.rect t).emb y) := by
  have key : ∀ (ya yb : Vec Ideal S256x2048 .bf16) (h h' : Vec Ideal S256x4096 .bf16) (pa pb : Vec Ideal S2048x256 .bf16)
      (ga gb : Vec Ideal S256x4096 .bf16) (x : S256x256.Idx) (y : S1024x256.Idx),
      (∀ k : Fin 2048, ya (ix2 (n0 := 256) (x 0) k) = iblk m c 0 t (ix2 (n0 := 1024) (y 0) k)) →
      (∀ k : Fin 2048, yb (ix2 (n0 := 256) (x 0) k) = iblk m c 1 t (ix2 (n0 := 1024) (y 0) k)) →
      (∀ k : Fin 4096, h (ix2 (n0 := 256) (x 0) k) = iblk m c 2 t (ix2 (n0 := 1024) (y 0) k)) →
      (∀ k : Fin 4096, h' (ix2 (n0 := 256) (x 0) k) = iblk m c 2 t (ix2 (n0 := 1024) (y 0) k)) →
      (∀ k : Fin 2048, pa (ix2 (n1 := 256) k (x 1)) = iblk m c 3 t (ix2 (n1 := 256) k (y 1))) →
      (∀ k : Fin 2048, pb (ix2 (n1 := 256) k (x 1)) = iblk m c 4 t (ix2 (n1 := 256) k (y 1))) →
      (∀ k : Fin 4096, ga (ix2 (n0 := 256) (x 1) k) = iblk m c 5 t (ix2 (n0 := 256) (y 1) k)) →
      (∀ k : Fin 4096, gb (ix2 (n0 := 256) (x 1) k) = iblk m c 6 t (ix2 (n0 := 256) (y 1) k)) →
      mix (bdotT h ga x) (bdotT h' gb x) (bdot ya pa x) (bdot yb pb x) = out m c ((win0_9.rect t).emb y) := by
    intro ya yb h h' pa pb ga gb x y e1 e2 e3 e3' e4 e5 e6 e7
    have r0 := emb9_0 t y
    have r1 := emb9_1 t y
    refine congrArg₂ (· + ·) (congrArg₂ (· * ·) (congrArg Ideal.logistic ?_) ?_) (congrArg₂ (· * ·) (congrArg Ideal.logistic ?_) ?_)
    · refine Finset.sum_congr rfl fun k _ => congrArg₂ (· * ·) ((e3 k).trans (blk2 m c t _ _ r0 rfl)) ((e6 k).trans (blk5 m c t _ _ ?_ rfl))
      exact r1
    · exact Finset.sum_congr rfl fun k _ => congrArg₂ (· * ·) ((e1 k).trans (blk0 m c t _ _ r0 rfl)) ((e4 k).trans (blk3 m c t _ _ rfl r1))
    · refine Finset.sum_congr rfl fun k _ => congrArg₂ (· * ·) ((e3' k).trans (blk2 m c t _ _ r0 rfl)) ((e7 k).trans (blk6 m c t _ _ ?_ rfl))
      show 4096 + ((win0_9.rect t).emb y 1).val = (t.val % 16 + 16) * 256 + (y 1).val
      rw [r1]; omega
    · exact Finset.sum_congr rfl fun k _ => congrArg₂ (· * ·) ((e2 k).trans (blk1 m c t _ _ r0 rfl)) ((e5 k).trans (blk4 m c t _ _ rfl r1))
  unfold out0_9
  refine View.canon_apply_of_pieces (fun y : S1024x256.Idx => out m c ((win0_9.rect t).emb y)) _ ?_ y (cover0_9 _ _ _ _ y)
  intro pc hpc
  rcases List.mem_cons.mp hpc with rfl | hpc
  · exact fun x => (pay1_apply _ _ _ _ _ _ _ _ x).trans (key _ _ _ _ _ _ _ _ x (r0_15.idx x)
      (fun k => congrArg (iblk m c 0 t) (Shape.idx_ext₂ rfl (one_mul' k.val)))
      (fun k => congrArg (iblk m c 1 t) (Shape.idx_ext₂ rfl (one_mul' k.val)))
      (fun k => congrArg (iblk m c 2 t) (Shape.idx_ext₂ rfl (one_mul' k.val)))
      (fun k => congrArg (iblk m c 2 t) (Shape.idx_ext₂ rfl (one_mul' k.val)))
      (fun k => congrArg (iblk m c 3 t) (Shape.idx_ext₂ (one_mul' k.val) rfl))
      (fun k => congrArg (iblk m c 4 t) (Shape.idx_ext₂ (one_mul' k.val) rfl))
      (fun k => congrArg (iblk m c 5 t) (Shape.idx_ext₂ rfl (one_mul' k.val)))
      (fun k => congrArg (iblk m c 6 t) (Shape.idx_ext₂ rfl (one_mul' k.val))))
  rcases List.mem_cons.mp hpc with rfl | hpc
  · exact fun x => (pay6_apply _ _ _ _ _ _ _ _ x).trans (key _ _ _ _ _ _ _ _ x (r0_12.idx x)
      (fun k => congrArg (iblk m c 0 t) (Shape.idx_ext₂ rfl (one_mul' k.val)))
      (fun k => congrArg (iblk m c 1 t) (Shape.idx_ext₂ rfl (one_mul' k.val)))
      (fun k => congrArg (iblk m c 2 t) (Shape.idx_ext₂ rfl (one_mul' k.val)))
      (fun k => congrArg (iblk m c 2 t) (Shape.idx_ext₂ rfl (one_mul' k.val)))
      (fun k => congrArg (iblk m c 3 t) (Shape.idx_ext₂ (one_mul' k.val) rfl))
      (fun k => congrArg (iblk m c 4 t) (Shape.idx_ext₂ (one_mul' k.val) rfl))
      (fun k => congrArg (iblk m c 5 t) (Shape.idx_ext₂ rfl (one_mul' k.val)))
      (fun k => congrArg (iblk m c 6 t) (Shape.idx_ext₂ rfl (one_mul' k.val))))
  rcases List.mem_cons.mp hpc with rfl | hpc
  · exact fun x => (pay5_apply _ _ _ _ _ _ _ _ x).trans (key _ _ _ _ _ _ _ _ x (r0_9.idx x)
      (fun k => congrArg (iblk m c 0 t) (Shape.idx_ext₂ rfl (one_mul' k.val)))
      (fun k => congrArg (iblk m c 1 t) (Shape.idx_ext₂ rfl (one_mul' k.val)))
      (fun k => congrArg (iblk m c 2 t) (Shape.idx_ext₂ rfl (one_mul' k.val)))
      (fun k => congrArg (iblk m c 2 t) (Shape.idx_ext₂ rfl (one_mul' k.val)))
      (fun k => congrArg (iblk m c 3 t) (Shape.idx_ext₂ (one_mul' k.val) rfl))
      (fun k => congrArg (iblk m c 4 t) (Shape.idx_ext₂ (one_mul' k.val) rfl))
      (fun k => congrArg (iblk m c 5 t) (Shape.idx_ext₂ rfl (one_mul' k.val)))
      (fun k => congrArg (iblk m c 6 t) (Shape.idx_ext₂ rfl (one_mul' k.val))))
  rcases List.mem_cons.mp hpc with rfl | hpc
  · exact fun x => (pay4_apply _ _ _ _ _ _ _ _ x).trans (key _ _ _ _ _ _ _ _ x (r0_6.idx x)
      (fun k => congrArg (iblk m c 0 t) (Shape.idx_ext₂ rfl (one_mul' k.val)))
      (fun k => congrArg (iblk m c 1 t) (Shape.idx_ext₂ rfl (one_mul' k.val)))
      (fun k => congrArg (iblk m c 2 t) (Shape.idx_ext₂ rfl (one_mul' k.val)))
      (fun k => congrArg (iblk m c 2 t) (Shape.idx_ext₂ rfl (one_mul' k.val)))
      (fun k => congrArg (iblk m c 3 t) (Shape.idx_ext₂ (one_mul' k.val) rfl))
      (fun k => congrArg (iblk m c 4 t) (Shape.idx_ext₂ (one_mul' k.val) rfl))
      (fun k => congrArg (iblk m c 5 t) (Shape.idx_ext₂ rfl (one_mul' k.val)))
      (fun k => congrArg (iblk m c 6 t) (Shape.idx_ext₂ rfl (one_mul' k.val))))
  nomatch hpc

/-- What a point writes back is its block of the whole result. -/
theorem flushed9_eq (c : Dev nD) (t : Fin cfg0.N) :
    (dats m 0 c).flushed 9 t = ((cfg0.win 9).blk t).view.read (Elt Ideal) (out m c) := by
  rw [Value.flushed9]
  exact funext fun j => block9 m c t j

theorem final9 (c : Dev nD) : (dats m 0 c).arrAt 9 cfg0.N = out m c :=
  (dats m 0 c).arrAt_eq_of_cover 9 (out m c) (fun t _ => flushed9_eq m c t) cover9

/-- The side output's block at a point. -/
theorem flushed10_eq (c : Dev nD) (t : Fin cfg0.N) :
    (dats m 0 c).flushed 10 t = ((cfg0.win 10).blk t).view.read (Elt Ideal) (outc1 m c) := by
  rw [Value.flushed10]
  unfold out0_10
  refine funext fun j => (Value.canon10_eq _ j).trans ?_
  exact blk7 m c t _ (ix3 0 _ _) rfl
    (by show _ = t.val * 32 + (0 + 1 * (j 0).val); rw [one_mul']; exact emb10_0 t j)
    (by show _ = 0 + 1 * (j 1).val; rw [one_mul']; exact emb10_1 t j)

theorem final10 (c : Dev nD) : (dats m 0 c).arrAt 10 cfg0.N = outc1 m c :=
  (dats m 0 c).arrAt_eq_of_cover 10 (outc1 m c) (fun t _ => flushed10_eq m c t) cover10

/-- The side output's block at a point. -/
theorem flushed11_eq (c : Dev nD) (t : Fin cfg0.N) :
    (dats m 0 c).flushed 11 t = ((cfg0.win 11).blk t).view.read (Elt Ideal) (outc3 m c) := by
  rw [Value.flushed11]
  unfold out0_11
  refine funext fun j => (Value.canon11_eq _ j).trans ?_
  exact blk8 m c t _ (ix3 0 _ _) rfl
    (by show _ = t.val * 32 + (0 + 1 * (j 0).val); rw [one_mul']; exact emb11_0 t j)
    (by show _ = 0 + 1 * (j 1).val; rw [one_mul']; exact emb11_1 t j)

theorem final11 (c : Dev nD) : (dats m 0 c).arrAt 11 cfg0.N = outc3 m c :=
  (dats m 0 c).arrAt_eq_of_cover 11 (outc3 m c) (fun t _ => flushed11_eq m c t) cover11

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v0_0) = out m c
      ∧ r.2.mem ((c : Thread nD τ).loc main_v0_1) = outc1 m c
      ∧ r.2.mem ((c : Thread nD τ).loc main_v0_2) = outc3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final9 m c), (h c).2.1.trans (final10 m c), (h c).2.2.1.trans (final11 m c), (h c).2.2.2⟩) (Value.run_blocks m ρ)

/-- The reference's term for the casts of the weights. -/
theorem refc (w : FVec Ideal S1x4096x11008 .f32) (hs : S1x4096x11008.ShapeCasts S4096x11008) (i : S4096x11008.Idx) :
    truncf .bf16 (shapeCast S4096x11008 w hs) bitsLt_bf16_f32 i = Gc w i := by
  refine shapeCast_apply w _ i (ix3 (n0 := 1) (n1 := 4096) (n2 := 11008) 0 (i 0) (i 1)) ?_
  rw [Shape.rowMajor_val_three, Shape.rowMajor_val_two]
  show (0 * 4096 + (i 0).val) * 11008 + (i 1).val = (i 0).val * 11008 + (i 1).val
  omega

end Cert.KMergeIdeal.Hand

end
-- ==== Proof.MergeClaims.lean ====
/-
  The claims about `KMerge`: the frames, and that the kernel over the extended reals computes the reference's function.
-/
module

public import proofs.«01_k».proof.Defs
public import proofs.«01_k».proof.Proof.Merge
public import proofs.«01_k».proof.Proof.Gen.KMerge.Frame
public import proofs.«01_k».proof.Proof.Gen.RMergeIdeal.Run

@[expose] public section

set_option maxRecDepth 16384

noncomputable section

namespace Cert.Proof.Merge

open Idealize.ShloMosaic Idealize.ShloMosaic.TcCoe Idealize.SL.Sem

theorem frame_kernel : Cert.quiescent_KMerge := fun m ρ _ => Cert.KMerge.Gen.frame m ρ
theorem frame_ideal : Cert.quiescent_KMergeIdeal := fun m ρ _ => Cert.KMergeIdeal.Gen.frame m ρ
theorem frame_reference : Cert.quiescent_RMergeIdeal := fun m ρ _ =>
  (θ_run Cert.RMergeIdeal.defs _ _).mono (fun r h => ⟨fun c => (h c).2.2.2,
      Idealize.ShloMosaic.sem_eq_zero_of_no_sems (by decide) r.2⟩)
    (Cert.RMergeIdeal.Value.run (F := Ideal) m ρ)

theorem preserves : Cert.preserves_KMerge_KMergeIdeal := trivial

/-- Over the extended reals the kernel's result arrays are the reference's. -/
theorem algebraic : Cert.algebraic_KMergeIdeal_RMergeIdeal := by
  intro m ρ m' ρ' _ hag
  refine ⟨fun c => KMergeIdeal.Hand.out m c, fun c => KMergeIdeal.Hand.outc1 m c, fun c => KMergeIdeal.Hand.outc3 m c, Cert.KMergeIdeal.Hand.run m ρ,
    (θ_run Cert.RMergeIdeal.defs _ _).mono (fun r h c => ?_) (Cert.RMergeIdeal.Value.run (F := Ideal) m' ρ')⟩
  obtain ⟨h0, h1, h2, h3, h4, h5, h6, h7⟩ := hag c
  refine ⟨(h c).1.trans ?_, (h c).2.1.trans ?_, (h c).2.2.1.trans ?_, (h c).2.2.2⟩
  · rw [h0, h1, h2, h3, h4, h5]
    funext i
    idx_vars i
    pointwise [KMergeIdeal.Hand.out, KMergeIdeal.Hand.G]
    rfl
  · rw [h6]
    funext i
    exact KMergeIdeal.Hand.refc _ _ i
  · rw [h7]
    funext i
    exact KMergeIdeal.Hand.refc _ _ i

end Cert.Proof.Merge

end
-- ==== Proof.Outproj.lean ====
/-
  The value of the mixers' output projection: every block the kernel writes is the block of `x + merged · w`, and
  the side output is the cast of the cross-attention's output weights.
-/
module

public import proofs.«01_k».proof.Proof.Gen.KOutprojIdeal.Value
public import Idealize.ShloMosaic.Lib.Pointwise

@[expose] public section

set_option maxRecDepth 16384

noncomputable section

namespace Cert.KOutprojIdeal.Hand

open Cert.KOutprojIdeal Cert.KOutprojIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output projection with its residual, index by index. -/
def G (a : FVec Ideal S8192x4096 .bf16) (w : FVec Ideal S4096x4096 .bf16) (x : FVec Ideal S8192x4096 .f32) :
    FVec Ideal S8192x4096 .f32 :=
  fun i => x i + ∑ k : Fin 4096, a (ix2 (n0 := 8192) (i 0) k) * w (ix2 (n1 := 4096) k (i 1))

/-- The cast of weights, index by index. -/
def Gc (w : FVec Ideal S1x1024x4096 .f32) : FVec Ideal S1024x4096 .bf16 :=
  fun i => w (ix3 (n0 := 1) (n1 := 1024) (n2 := 4096) 0 (i 0) (i 1))
/-- The block index of every window at every point of the grid. -/
theorem idx_facts : ∀ t : Fin cfg0.N,
    win0_0.index t 0 = t.val / 8 ∧ win0_0.index t 1 = 0 ∧ win0_1.index t 0 = 0
    ∧ win0_1.index t 1 = t.val % 8 ∧ win0_2.index t 0 = t.val / 8 ∧ win0_2.index t 1 = t.val % 8
    ∧ win0_3.index t 0 = 0 ∧ win0_3.index t 1 = t.val ∧ win0_3.index t 2 = 0
    ∧ win0_4.index t 0 = t.val / 8 ∧ win0_4.index t 1 = t.val % 8 ∧ win0_5.index t 0 = t.val
    ∧ win0_5.index t 1 = 0 :=
  (by decide +kernel : ∀ t : Fin grid0.N,
    win0_0.index t 0 = t.val / 8 ∧ win0_0.index t 1 = 0 ∧ win0_1.index t 0 = 0
    ∧ win0_1.index t 1 = t.val % 8 ∧ win0_2.index t 0 = t.val / 8 ∧ win0_2.index t 1 = t.val % 8
    ∧ win0_3.index t 0 = 0 ∧ win0_3.index t 1 = t.val ∧ win0_3.index t 2 = 0
    ∧ win0_4.index t 0 = t.val / 8 ∧ win0_4.index t 1 = t.val % 8 ∧ win0_5.index t 0 = t.val
    ∧ win0_5.index t 1 = 0)

theorem blk0 (c : Dev nD) (t : Fin cfg0.N) (j : S1024x4096.Idx) (i : S8192x4096.Idx)
    (h0 : (i 0).val = t.val / 8 * 1024 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 1024 + 1 * (j 0).val = (i 0).val; rw [e0]; omega
  | ⟨1, _⟩ => show win0_0.index t 1 * 4096 + 1 * (j 1).val = (i 1).val; rw [e1]; omega

theorem blk1 (c : Dev nD) (t : Fin cfg0.N) (j : S4096x512.Idx) (i : S4096x4096.Idx)
    (h0 : (i 0).val = (j 0).val) (h1 : (i 1).val = t.val % 8 * 512 + (j 1).val) :
    iblk m c 1 t j = m ((c : Thread nD τ).loc main_arg1) i := by
  obtain ⟨-, -, e0, e1, -⟩ := idx_facts t
  show m ((c : Thread nD τ).loc main_arg1) _ = _
  refine congrArg _ (funext fun a => Fin.ext ?_)
  match a with
  | ⟨0, _⟩ => show win0_1.index t 0 * 4096 + 1 * (j 0).val = (i 0).val; rw [e0]; omega
  | ⟨1, _⟩ => show win0_1.index t 1 * 512 + 1 * (j 1).val = (i 1).val; rw [e1]; omega

theorem blk2 (c : Dev nD) (t : Fin cfg0.N) (j : S1024x512.Idx) (i : S8192x4096.Idx)
    (h0 : (i 0).val = t.val / 8 * 1024 + (j 0).val) (h1 : (i 1).val = t.val % 8 * 512 + (j 1).val) :
    iblk m c 2 t j = m ((c : Thread nD τ).loc main_arg2) i := by
  obtain ⟨-, -, -, -, e0, e1, -⟩ := idx_facts t
  show m ((c : Thread nD τ).loc main_arg2) _ = _
  refine congrArg _ (funext fun a => Fin.ext ?_)
  match a with
  | ⟨0, _⟩ => show win0_2.index t 0 * 1024 + 1 * (j 0).val = (i 0).val; rw [e0]; omega
  | ⟨1, _⟩ => show win0_2.index t 1 * 512 + 1 * (j 1).val = (i 1).val; rw [e1]; omega

theorem blk3 (c : Dev nD) (t : Fin cfg0.N) (j : S1x16x4096.Idx) (i : S1x1024x4096.Idx)
    (h0 : (i 0).val = (j 0).val) (h1 : (i 1).val = t.val * 16 + (j 1).val) (h2 : (i 2).val = (j 2).val) :
    iblk m c 3 t j = m ((c : Thread nD τ).loc main_arg3) i := by
  obtain ⟨-, -, -, -, -, -, e0, e1, e2, -⟩ := idx_facts t
  show m ((c : Thread nD τ).loc main_arg3) _ = _
  refine congrArg _ (funext fun a => Fin.ext ?_)
  match a with
  | ⟨0, _⟩ => show win0_3.index t 0 * 1 + 1 * (j 0).val = (i 0).val; rw [e0]; omega
  | ⟨1, _⟩ => show win0_3.index t 1 * 16 + 1 * (j 1).val = (i 1).val; rw [e1]; omega
  | ⟨2, _⟩ => show win0_3.index t 2 * 4096 + 1 * (j 2).val = (i 2).val; rw [e2]; omega

/-- Where an element of window 4's block sits in the array, axis 0. -/
theorem emb4_0 (t : Fin cfg0.N) (j : ((cfg0.win 4).xblock (grid0.coords t)).Idx) :
    ((win0_4.rect t).emb j 0).val = t.val / 8 * 1024 + (j 0).val := by
  obtain ⟨-, -, -, -, -, -, -, -, -, e0, e1, -⟩ := idx_facts t
  rw [win0_4.rect_emb_val, e0]; rfl

/-- Where an element of window 4's block sits in the array, axis 1. -/
theorem emb4_1 (t : Fin cfg0.N) (j : ((cfg0.win 4).xblock (grid0.coords t)).Idx) :
    ((win0_4.rect t).emb j 1).val = t.val % 8 * 512 + (j 1).val := by
  obtain ⟨-, -, -, -, -, -, -, -, -, e0, e1, -⟩ := idx_facts t
  rw [win0_4.rect_emb_val, e1]; rfl

/-- Every index of the result lies in some point's block of window 4. -/
theorem cover4 (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : (i 0).val / 1024 * 8 + (i 1).val / 512 < cfg0.N := by
    show _ < grid0.N
    rw [N_0]; omega
  refine ⟨⟨_, hN⟩, flush0_4 _, ?_⟩
  obtain ⟨-, -, -, -, -, -, -, -, -, e0, e1, -⟩ := idx_facts ⟨_, hN⟩
  dsimp only at e0 e1
  show i ∈ ((View.whole main_v0_0).slice (win0_4.rect ⟨_, hN⟩)).set
  rw [View.set_slice_whole, Rect.mem_set_unit]
  intro a
  match a with
  | ⟨0, _⟩ =>
    show win0_4.index ⟨_, hN⟩ 0 * 1024 ≤ (i 0).val ∧ (i 0).val < win0_4.index ⟨_, hN⟩ 0 * 1024 + 1024
    rw [e0]; omega
  | ⟨1, _⟩ =>
    show win0_4.index ⟨_, hN⟩ 1 * 512 ≤ (i 1).val ∧ (i 1).val < win0_4.index ⟨_, hN⟩ 1 * 512 + 512
    rw [e1]; omega

/-- Where an element of window 5's block sits in the array, axis 0. -/
theorem emb5_0 (t : Fin cfg0.N) (j : ((cfg0.win 5).xblock (grid0.coords t)).Idx) :
    ((win0_5.rect t).emb j 0).val = t.val * 16 + (j 0).val := by
  obtain ⟨-, -, -, -, -, -, -, -, -, -, -, e0, e1⟩ := idx_facts t
  rw [win0_5.rect_emb_val, e0]; rfl

/-- Where an element of window 5's block sits in the array, axis 1. -/
theorem emb5_1 (t : Fin cfg0.N) (j : ((cfg0.win 5).xblock (grid0.coords t)).Idx) :
    ((win0_5.rect t).emb j 1).val = (j 1).val := by
  obtain ⟨-, -, -, -, -, -, -, -, -, -, -, e0, e1⟩ := idx_facts t
  exact win0_5.rect_emb_val_of_index_zero t 1 e1 j

/-- Every index of the result lies in some point's block of window 5. -/
theorem cover5 (i : S1024x4096.Idx) : ∃ t : Fin cfg0.N, (cfg0.win 5).flush t = true ∧ i ∈ ((cfg0.win 5).blk t).view.set := by
  have h0 : (i 0).val < 1024 := (i 0).isLt
  have h1 : (i 1).val < 4096 := (i 1).isLt
  have hN : (i 0).val / 16 < cfg0.N := by
    show _ < grid0.N
    rw [N_0]; omega
  refine ⟨⟨_, hN⟩, flush0_5 _, ?_⟩
  obtain ⟨-, -, -, -, -, -, -, -, -, -, -, e0, e1⟩ := idx_facts ⟨_, hN⟩
  dsimp only at e0 e1
  show i ∈ ((View.whole main_v0_1).slice (win0_5.rect ⟨_, hN⟩)).set
  rw [View.set_slice_whole, Rect.mem_set_unit]
  intro a
  match a with
  | ⟨0, _⟩ =>
    show win0_5.index ⟨_, hN⟩ 0 * 16 ≤ (i 0).val ∧ (i 0).val < win0_5.index ⟨_, hN⟩ 0 * 16 + 16
    rw [e0]; omega
  | ⟨1, _⟩ =>
    show win0_5.index ⟨_, hN⟩ 1 * 4096 ≤ (i 1).val ∧ (i 1).val < win0_5.index ⟨_, hN⟩ 1 * 4096 + 4096
    rw [e1]; omega

theorem one_mul' (k : Nat) : 0 + 1 * k = k := by omega

/-- The payload of the product's store, at an index. -/
theorem pay_apply (w : Vec Ideal S4096x512 .bf16) (a : Vec Ideal S1024x4096 .bf16) (x : Vec Ideal S1024x512 .f32) (j : S1024x512.Idx) :
    k0_pay2 w a x j = x j + ∑ k : Fin 4096, a (ix2 (n0 := 1024) (j 0) k) * w (ix2 (n1 := 512) k (j 1)) := by
  idx_vars j
  pointwise [k0_pay2]

/-- The two arrays of results of device `c`. -/
abbrev out (c : Dev nD) : Buf (Elt Ideal) ((c : Thread nD τ).loc main_v0_0) :=
  G (m ((c : Thread nD τ).loc main_arg0)) (m ((c : Thread nD τ).loc main_arg1)) (m ((c : Thread nD τ).loc main_arg2))
abbrev outc (c : Dev nD) : Buf (Elt Ideal) ((c : Thread nD τ).loc main_v0_1) := Gc (m ((c : Thread nD τ).loc main_arg3))

/-- What a point writes back is its block of the whole result. -/
theorem flushed4_eq (c : Dev nD) (t : Fin cfg0.N) :
    (dats m 0 c).flushed 4 t = ((cfg0.win 4).blk t).view.read (Elt Ideal) (out m c) := by
  rw [Value.flushed4]
  unfold out0_4
  rw [View.canon_unit_zero hz, View.ld_unit_zero hz, View.ld_unit_zero hz, View.ld_unit_zero hz]
  funext j
  refine (pay_apply _ _ _ j).trans ?_
  show _ = G _ _ _ ((win0_4.rect t).emb j)
  have r0 := emb4_0 t j
  have r1 := emb4_1 t j
  unfold G
  refine congrArg₂ (· + ·) (blk2 m c t j _ r0 r1) (Finset.sum_congr rfl fun k _ => congrArg₂ (· * ·) ?_ ?_)
  · exact blk0 m c t _ _ r0 rfl
  · exact blk1 m c t _ _ rfl r1

theorem final4 (c : Dev nD) : (dats m 0 c).arrAt 4 cfg0.N = out m c :=
  (dats m 0 c).arrAt_eq_of_cover 4 (out m c) (fun t _ => flushed4_eq m c t) cover4

/-- The side output's block at a point. -/
theorem flushed5_eq (c : Dev nD) (t : Fin cfg0.N) :
    (dats m 0 c).flushed 5 t = ((cfg0.win 5).blk t).view.read (Elt Ideal) (outc m c) := by
  rw [Value.flushed5]
  unfold out0_5
  refine funext fun j => (Value.canon5_eq _ j).trans ?_
  exact blk3 m c t _ (ix3 0 _ _) rfl
    (by show _ = t.val * 16 + (0 + 1 * (j 0).val); rw [one_mul']; exact emb5_0 t j)
    (by show _ = 0 + 1 * (j 1).val; rw [one_mul']; exact emb5_1 t j)

theorem final5 (c : Dev nD) : (dats m 0 c).arrAt 5 cfg0.N = outc m c :=
  (dats m 0 c).arrAt_eq_of_cover 5 (outc m c) (fun t _ => flushed5_eq m c t) cover5

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v0_0) = out m c
      ∧ r.2.mem ((c : Thread nD τ).loc main_v0_1) = outc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

/-- The reference's term for the casts of the weights. -/
theorem refc (w : FVec Ideal S1x1024x4096 .f32) (hs : S1x1024x4096.ShapeCasts S1024x4096) (i : S1024x4096.Idx) :
    truncf .bf16 (shapeCast S1024x4096 w hs) bitsLt_bf16_f32 i = Gc w i := by
  refine shapeCast_apply w _ i (ix3 (n0 := 1) (n1 := 1024) (n2 := 4096) 0 (i 0) (i 1)) ?_
  rw [Shape.rowMajor_val_three, Shape.rowMajor_val_two]
  show (0 * 1024 + (i 0).val) * 4096 + (i 1).val = (i 0).val * 4096 + (i 1).val
  omega

end Cert.KOutprojIdeal.Hand

end
-- ==== Proof.OutprojClaims.lean ====
/-
  The claims about `KOutproj`: the frames, and that the kernel over the extended reals computes the reference's function.
-/
module

public import proofs.«01_k».proof.Defs
public import proofs.«01_k».proof.Proof.Outproj
public import proofs.«01_k».proof.Proof.Gen.KOutproj.Frame
public import proofs.«01_k».proof.Proof.Gen.ROutprojIdeal.Run

@[expose] public section

set_option maxRecDepth 16384

noncomputable section

namespace Cert.Proof.Outproj

open Idealize.ShloMosaic Idealize.ShloMosaic.TcCoe Idealize.SL.Sem

theorem frame_kernel : Cert.quiescent_KOutproj := fun m ρ _ => Cert.KOutproj.Gen.frame m ρ
theorem frame_ideal : Cert.quiescent_KOutprojIdeal := fun m ρ _ => Cert.KOutprojIdeal.Gen.frame m ρ
theorem frame_reference : Cert.quiescent_ROutprojIdeal := fun m ρ _ =>
  (θ_run Cert.ROutprojIdeal.defs _ _).mono (fun r h => ⟨fun c => (h c).2.2,
      Idealize.ShloMosaic.sem_eq_zero_of_no_sems (by decide) r.2⟩)
    (Cert.ROutprojIdeal.Value.run (F := Ideal) m ρ)

theorem preserves : Cert.preserves_KOutproj_KOutprojIdeal := trivial

/-- Over the extended reals the kernel's result arrays are the reference's. -/
theorem algebraic : Cert.algebraic_KOutprojIdeal_ROutprojIdeal := by
  intro m ρ m' ρ' _ hag
  refine ⟨fun c => KOutprojIdeal.Hand.out m c, fun c => KOutprojIdeal.Hand.outc m c, Cert.KOutprojIdeal.Hand.run m ρ,
    (θ_run Cert.ROutprojIdeal.defs _ _).mono (fun r h c => ?_) (Cert.ROutprojIdeal.Value.run (F := Ideal) m' ρ')⟩
  obtain ⟨h0, h1, h2, h3⟩ := hag c
  refine ⟨(h c).1.trans ?_, (h c).2.1.trans ?_, (h c).2.2⟩
  · rw [h0, h1, h2]
    funext i
    idx_vars i
    pointwise [KOutprojIdeal.Hand.out, KOutprojIdeal.Hand.G]
  · rw [h3]
    funext i
    exact KOutprojIdeal.Hand.refc _ _ i

end Cert.Proof.Outproj

end
-- ==== Proof.Projatt.lean ====
/-
  The value of the projection of the attention's inputs: every block the kernel writes is the block of the product of the
  normed rows with the columns 4096 to 8447 of the weights, which the host lays out transposed.
-/
module

public import proofs.«01_k».proof.Proof.Gen.KProjattIdeal.Value
public import Idealize.ShloMosaic.Lib.Pointwise
public import Idealize.ShloMosaic.Lib.Pipeline.ValueKit.Acc

@[expose] public section

set_option maxRecDepth 16384

noncomputable section

namespace Cert.KProjattIdeal.Hand

open Cert.KProjattIdeal Cert.KProjattIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A column of the attention's part of the weights. -/
abbrev col (q : Fin 4352) : Fin 16464 := ⟨4096 + q.val, by omega⟩

/-- The projection, index by index. -/
def G (a : FVec Ideal S8192x4096 .bf16) (w : FVec Ideal S1x4096x16464 .f32) : FVec Ideal S8192x4352 .f32 :=
  fun i => ∑ k : Fin 4096, a (ix2 (n0 := 8192) (i 0) k) * w (ix3 (n0 := 1) 0 k (col (i 1)))
/-- The block index of every window at every point of the grid. -/
theorem idx_facts : ∀ t : Fin cfg0.N,
    win0_0.index t 0 = t.val / 17 ∧ win0_0.index t 1 = 0 ∧ win0_1.index t 0 = 0
    ∧ win0_1.index t 1 = (t.val % 17 + 16) ∧ win0_1.index t 2 = 0 ∧ win0_2.index t 0 = t.val / 17
    ∧ win0_2.index t 1 = t.val % 17 :=
  (by decide +kernel : ∀ t : Fin grid0.N,
    win0_0.index t 0 = t.val / 17 ∧ win0_0.index t 1 = 0 ∧ win0_1.index t 0 = 0
    ∧ win0_1.index t 1 = (t.val % 17 + 16) ∧ win0_1.index t 2 = 0 ∧ win0_2.index t 0 = t.val / 17
    ∧ win0_2.index t 1 = t.val % 17)

theorem blk0 (c : Dev nD) (t : Fin cfg0.N) (j : S1024x4096.Idx) (i : S8192x4096.Idx)
    (h0 : (i 0).val = t.val / 17 * 1024 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 1024 + 1 * (j 0).val = (i 0).val; rw [e0]; omega
  | ⟨1, _⟩ => show win0_0.index t 1 * 4096 + 1 * (j 1).val = (i 1).val; rw [e1]; omega

/-- The weights as the host lays them out. -/
theorem V0 (c : Dev nD) (r : Fin 16464) (k : Fin 4096) : V m c main_v0 (ix3 (n0 := 1) 0 r k) = (m ((c : Thread nD τ).loc main_arg1)) (ix3 (n0 := 1) 0 k r) := by
  have e : V m c main_v0 = transpose S1x16464x4096 [0, 2, 1] (m ((c : Thread nD τ).loc main_arg1)) transposes_S1x4096x16464_S1x16464x4096_0_2_1 := by
    unfold V
    after_results <;> rfl
  rw [e]
  generalize (m ((c : Thread nD τ).loc main_arg1)) = w
  pointwise []

theorem blk1 (c : Dev nD) (t : Fin cfg0.N) (j : S1x256x4096.Idx) (i : S1x16464x4096.Idx)
    (h0 : (i 0).val = (j 0).val) (h1 : (i 1).val = (t.val % 17 + 16) * 256 + (j 1).val) (h2 : (i 2).val = (j 2).val) :
    X0_1 m c t j = V m c main_v0 i := by
  obtain ⟨-, -, e0, e1, e2, -⟩ := idx_facts t
  unfold X0_1 Pipeline.Window.fill
  rw [dif_pos (moved0_1 t j)]
  show V m c main_v0 _ = _
  refine congrArg _ (funext fun a => Fin.ext ?_)
  match a with
  | ⟨0, _⟩ => show win0_1.index t 0 * 1 + 1 * (j 0).val = (i 0).val; rw [e0]; omega
  | ⟨1, _⟩ => show win0_1.index t 1 * 256 + 1 * (j 1).val = (i 1).val; rw [e1]; omega
  | ⟨2, _⟩ => show win0_1.index t 2 * 4096 + 1 * (j 2).val = (i 2).val; rw [e2]; omega

/-- Where an element of window 2's block sits in the array, axis 0. -/
theorem emb2_0 (t : Fin cfg0.N) (j : ((cfg0.win 2).xblock (grid0.coords t)).Idx) :
    ((win0_2.rect t).emb j 0).val = t.val / 17 * 1024 + (j 0).val := by
  obtain ⟨-, -, -, -, -, e0, e1⟩ := idx_facts t
  rw [win0_2.rect_emb_val, e0]; rfl

/-- Where an element of window 2's block sits in the array, axis 1. -/
theorem emb2_1 (t : Fin cfg0.N) (j : ((cfg0.win 2).xblock (grid0.coords t)).Idx) :
    ((win0_2.rect t).emb j 1).val = t.val % 17 * 256 + (j 1).val := by
  obtain ⟨-, -, -, -, -, e0, e1⟩ := idx_facts t
  rw [win0_2.rect_emb_val, e1]; rfl

/-- Every index of the result lies in some point's block of window 2. -/
theorem cover2 (i : S8192x4352.Idx) : ∃ t : Fin cfg0.N, (cfg0.win 2).flush t = true ∧ i ∈ ((cfg0.win 2).blk t).view.set := by
  have h0 : (i 0).val < 8192 := (i 0).isLt
  have h1 : (i 1).val < 4352 := (i 1).isLt
  have hN : (i 0).val / 1024 * 17 + (i 1).val / 256 < cfg0.N := by
    show _ < grid0.N
    rw [N_0]; omega
  refine ⟨⟨_, hN⟩, flush0_2 _, ?_⟩
  obtain ⟨-, -, -, -, -, e0, e1⟩ := idx_facts ⟨_, hN⟩
  dsimp only at e0 e1
  show i ∈ ((View.whole main_v1).slice (win0_2.rect ⟨_, hN⟩)).set
  rw [View.set_slice_whole, Rect.mem_set_unit]
  intro a
  match a with
  | ⟨0, _⟩ =>
    show win0_2.index ⟨_, hN⟩ 0 * 1024 ≤ (i 0).val ∧ (i 0).val < win0_2.index ⟨_, hN⟩ 0 * 1024 + 1024
    rw [e0]; omega
  | ⟨1, _⟩ =>
    show win0_2.index ⟨_, hN⟩ 1 * 256 ≤ (i 1).val ∧ (i 1).val < win0_2.index ⟨_, hN⟩ 1 * 256 + 256
    rw [e1]; omega

/-- The payload of the body's store, at an index. -/
theorem pay_apply (w : Vec Ideal S1x256x4096 .f32) (a : Vec Ideal S1024x4096 .bf16) (j : S1024x256.Idx) :
    k0_pay1 w a j = ∑ k : Fin 4096, a (ix2 (n0 := 1024) (j 0) k) * w (ix3 (n0 := 1) (n1 := 256) 0 (j 1) k) := by
  idx_vars j
  pointwise [k0_pay1]

/-- The array of results of device `c`. -/
abbrev out (c : Dev nD) : Buf (Elt Ideal) ((c : Thread nD τ).loc main_v1) := G (m ((c : Thread nD τ).loc main_arg0)) (m ((c : Thread nD τ).loc main_arg1))

/-- What the body leaves in its output block. -/
theorem block2 (c : Dev nD) (i : grid0.Coords) (arg2 : Memref sig .tc .vmem S1024x4096 .bf16) (harg2 : arg2.IsWhole) (arg3 : Memref sig .tc .vmem S1x256x4096 .f32) (harg3 : arg3.IsWhole) (arg4 : Memref sig .tc .vmem S1024x256 .f32) (harg4 : arg4.IsWhole)
    (x0 : Vec Ideal S1024x4096 .bf16) (x1 : Vec Ideal S1x256x4096 .f32) :
    out0_A_2 c i arg2 harg2 arg3 harg3 arg4 harg4 x0 x1 = k0_pay1 x1 x0 := by
  frame_out

/-- What a point writes back is its block of the whole result. -/
theorem flushed2_eq (c : Dev nD) (t : Fin cfg0.N) :
    (dats m 0 c).flushed 2 t = ((cfg0.win 2).blk t).view.read (Elt Ideal) (out m c) := by
  rw [Value.flushed2_A, block2]
  funext j
  refine (pay_apply _ _ _).trans ?_
  show _ = G _ _ ((win0_2.rect t).emb j)
  have r0 := emb2_0 t j
  have r1 := emb2_1 t j
  unfold G
  refine Finset.sum_congr rfl fun k _ => congrArg₂ (· * ·) ?_ ?_
  · exact blk0 m c t _ _ r0 rfl
  · refine (blk1 m c t _ (ix3 (n0 := 1) 0 (col _) k) rfl ?_ rfl).trans (V0 m c _ k)
    show 4096 + ((win0_2.rect t).emb j 1).val = (t.val % 17 + 16) * 256 + (j 1).val
    rw [r1]; omega

theorem final2 (c : Dev nD) : (dats m 0 c).arrAt 2 cfg0.N = out m c :=
  (dats m 0 c).arrAt_eq_of_cover 2 (out m c) (fun t _ => flushed2_eq m c t) cover2

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

/-- The reference's term, index by index. -/
theorem sl_apply (w : FVec Ideal S1x4096x16464 .f32) (hs : S1x4096x16464.Slices ![0, 0, 4096] (⟨3, ![1, 4096, 4352]⟩ : Shape)) (hc : (⟨3, ![1, 4096, 4352]⟩ : Shape).ShapeCasts (⟨2, ![4096, 4352]⟩ : Shape)) :
    shapeCast (⟨2, ![4096, 4352]⟩ : Shape) (extractStridedSlice (⟨3, ![1, 4096, 4352]⟩ : Shape) ![0, 0, 4096] w hs) hc = fun i => w (ix3 (n0 := 1) (n1 := 4096) 0 (i 0) (col (i 1))) := by
  funext i
  refine (shapeCast_apply _ _ i (ix3 (n0 := 1) (n1 := 4096) (n2 := 4352) 0 (i 0) (i 1)) ?_).trans ?_
  · rw [Shape.rowMajor_val_three, Shape.rowMajor_val_two]
    show (0 * 4096 + (i 0).val) * 4352 + (i 1).val = (i 0).val * 4352 + (i 1).val
    omega
  · idx_vars i
    pointwise [] <;> rfl

end Cert.KProjattIdeal.Hand

end
-- ==== Proof.ProjattClaims.lean ====
/-
  The claims about `KProjatt`: the frames, and that the kernel over the extended reals computes the reference's function.
-/
module

public import proofs.«01_k».proof.Defs
public import proofs.«01_k».proof.Proof.Projatt
public import proofs.«01_k».proof.Proof.Gen.KProjatt.Frame
public import proofs.«01_k».proof.Proof.Gen.RProjattIdeal.Run

@[expose] public section

set_option maxRecDepth 16384

noncomputable section

namespace Cert.Proof.Projatt

open Idealize.ShloMosaic Idealize.ShloMosaic.TcCoe Idealize.SL.Sem

theorem frame_kernel : Cert.quiescent_KProjatt := fun m ρ _ => Cert.KProjatt.Gen.frame m ρ
theorem frame_ideal : Cert.quiescent_KProjattIdeal := fun m ρ _ => Cert.KProjattIdeal.Gen.frame m ρ
theorem frame_reference : Cert.quiescent_RProjattIdeal := fun m ρ _ =>
  (θ_run Cert.RProjattIdeal.defs _ _).mono (fun r h => ⟨fun c => (h c).2,
      Idealize.ShloMosaic.sem_eq_zero_of_no_sems (by decide) r.2⟩)
    (Cert.RProjattIdeal.Value.run (F := Ideal) m ρ)

theorem preserves : Cert.preserves_KProjatt_KProjattIdeal := trivial

/-- Over the extended reals the kernel's result arrays are the reference's. -/
theorem algebraic : Cert.algebraic_KProjattIdeal_RProjattIdeal := by
  intro m ρ m' ρ' _ hag
  refine ⟨fun c => KProjattIdeal.Hand.out m c, Cert.KProjattIdeal.Hand.run m ρ,
    (θ_run Cert.RProjattIdeal.defs _ _).mono (fun r h c => ?_) (Cert.RProjattIdeal.Value.run (F := Ideal) m' ρ')⟩
  obtain ⟨h0, h1⟩ := hag c
  refine ⟨(h c).1.trans ?_, (h c).2⟩
  · rw [h0, h1]
    rw [KProjattIdeal.Hand.sl_apply]
    funext i
    idx_vars i
    pointwise [KProjattIdeal.Hand.out, KProjattIdeal.Hand.G]

end Cert.Proof.Projatt

end
-- ==== Proof.Mixnorm.lean ====
/-
  The value of the layer's first norm: every block the kernel writes is the block of the normed rows.
-/
module

public import proofs.«01_k».proof.Proof.Gen.KMixnormIdeal.Value
public import Idealize.ShloMosaic.Lib.Pointwise

@[expose] public section

set_option maxRecDepth 16384

noncomputable section

namespace Cert.KMixnormIdeal.Hand

open Cert.KMixnormIdeal Cert.KMixnormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry of the normed row `x` under the gain `g`. -/
abbrev nrm (x : Fin 4096 → EReal) (g : EReal) (q : Fin 4096) : EReal :=
  x q * Ideal.rsqrt (Ideal.div (∑ k, x k * x k) (Ideal.ofBits FTy.f32 1166016512#32) + Ideal.ofBits FTy.f32 897988541#32) * g

theorem nrm_congr {x x' : Fin 4096 → EReal} {g g' : EReal} (q : Fin 4096) (hx : ∀ k, x k = x' k) (hg : g = g') :
    nrm x g q = nrm x' g' q := by
  rw [show x = x' from funext hx, hg]
/-- The block index of every window at every point of the grid. -/
theorem idx_facts : ∀ t : Fin cfg0.N,
    win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N,
    win0_0.index t 0 = t.val ∧ win0_0.index t 1 = 0 ∧ win0_1.index t 0 = 0
    ∧ win0_1.index t 1 = 0 ∧ win0_2.index t 0 = t.val ∧ win0_2.index t 1 = 0)

/-- The batch a row of the flattened rows belongs to, and its place in it. -/
abbrev hi (r : Fin 8192) : Fin 4 := ⟨r.val / 2048, by omega⟩
abbrev lo (r : Fin 8192) : Fin 2048 := ⟨r.val % 2048, by omega⟩

/-- The rows as the host lays them out. -/
theorem Vx (c : Dev nD) (i : Fin 8192) (k : Fin 4096) : V m c main_v0 (ix2 i k) = (m ((c : Thread nD τ).loc main_arg0)) (ix3 (hi i) (lo i) k) := by
  have e : V m c main_v0 = shapeCast S8192x4096 (m ((c : Thread nD τ).loc main_arg0)) shapeCasts_S4x2048x4096_S8192x4096 := by
    unfold V
    after_results <;> rfl
  rw [e]
  refine shapeCast_apply _ _ _ (ix3 (hi i) (lo i) k) ?_
  rw [Shape.rowMajor_val_three, Shape.rowMajor_val_two]
  show (i.val / 2048 * 2048 + i.val % 2048) * 4096 + k.val = i.val * 4096 + k.val
  rw [Nat.div_add_mod']

/-- A row dropped to a vector and laid out as a row again. -/
theorem row_row (g : FVec Ideal S1x4096 .f32) (k : Fin 4096) :
    shapeCast S1x4096 (shapeCast S4096 g shapeCasts_S1x4096_S4096) shapeCasts_S4096_S1x4096 (ix2 (n0 := 1) 0 k) = g (ix2 (n0 := 1) 0 k) := by
  refine (shapeCast_apply _ _ _ (ix1 k) ?_).trans (shapeCast_apply _ _ _ _ ?_)
  · rw [Shape.rowMajor_val_one, Shape.rowMajor_val_two]
    show k.val = 0 * 4096 + k.val
    omega
  · rw [Shape.rowMajor_val_one, Shape.rowMajor_val_two]
    show 0 * 4096 + k.val = k.val
    omega

/-- The gain's row as the host lays it out. -/
theorem Vg (c : Dev nD) (k : Fin 4096) : V m c main_v2 (ix2 (n0 := 1) 0 k) = (m ((c : Thread nD τ).loc main_arg1)) (ix2 (n0 := 1) 0 k) := by
  have e : V m c main_v2 = shapeCast S1x4096 (shapeCast S4096 (m ((c : Thread nD τ).loc main_arg1)) shapeCasts_S1x4096_S4096) shapeCasts_S4096_S1x4096 := by
    unfold V
    after_results <;> rfl
  rw [e]
  exact row_row _ k

/-- The normed rows, index by index. -/
def G (x : FVec Ideal S4x2048x4096 .f32) (g : FVec Ideal S1x4096 .f32) : FVec Ideal S8192x4096 .bf16 :=
  fun i => nrm (fun k => x (ix3 (hi (i 0)) (lo (i 0)) k)) (g (ix2 (n0 := 1) 0 (i 1))) (i 1)

theorem blk0 (c : Dev nD) (t : Fin cfg0.N) (j : S512x4096.Idx) (i : S8192x4096.Idx)
    (h0 : (i 0).val = t.val * 512 + (j 0).val) (h1 : (i 1).val = (j 1).val) :
    iblk m c 0 t j = V m c main_v0 i := by
  obtain ⟨e0, e1, -⟩ := idx_facts t
  show V m c main_v0 _ = _
  refine congrArg _ (funext fun a => Fin.ext ?_)
  match a with
  | ⟨0, _⟩ => show win0_0.index t 0 * 512 + 1 * (j 0).val = (i 0).val; rw [e0]; omega
  | ⟨1, _⟩ => show win0_0.index t 1 * 4096 + 1 * (j 1).val = (i 1).val; rw [e1]; omega

theorem blk1 (c : Dev nD) (t : Fin cfg0.N) (j : S1x4096.Idx) (i : S1x4096.Idx)
    (h0 : (i 0).val = (j 0).val) (h1 : (i 1).val = (j 1).val) :
    iblk m c 1 t j = V m c main_v2 i := by
  obtain ⟨-, -, e0, e1, -⟩ := idx_facts t
  show V m c main_v2 _ = _
  refine congrArg _ (funext fun a => Fin.ext ?_)
  match a with
  | ⟨0, _⟩ => show win0_1.index t 0 * 1 + 1 * (j 0).val = (i 0).val; rw [e0]; omega
  | ⟨1, _⟩ => show win0_1.index t 1 * 4096 + 1 * (j 1).val = (i 1).val; rw [e1]; omega

/-- Where an element of window 2's block sits in the array, axis 0. -/
theorem emb2_0 (t : Fin cfg0.N) (j : ((cfg0.win 2).xblock (grid0.coords t)).Idx) :
    ((win0_2.rect t).emb j 0).val = t.val * 512 + (j 0).val := by
  obtain ⟨-, -, -, -, e0, e1⟩ := idx_facts t
  rw [win0_2.rect_emb_val, e0]; rfl

/-- Where an element of window 2's block sits in the array, axis 1. -/
theorem emb2_1 (t : Fin cfg0.N) (j : ((cfg0.win 2).xblock (grid0.coords t)).Idx) :
    ((win0_2.rect t).emb j 1).val = (j 1).val := by
  obtain ⟨-, -, -, -, e0, e1⟩ := idx_facts t
  exact win0_2.rect_emb_val_of_index_zero t 1 e1 j

/-- Every index of the result lies in some point's block of window 2. -/
theorem cover2 (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : (i 0).val / 512 < cfg0.N := by
    show _ < grid0.N
    rw [N_0]; omega
  refine ⟨⟨_, hN⟩, flush0_2 _, ?_⟩
  obtain ⟨-, -, -, -, e0, e1⟩ := idx_facts ⟨_, hN⟩
  dsimp only at e0 e1
  show i ∈ ((View.whole main_v3).slice (win0_2.rect ⟨_, hN⟩)).set
  rw [View.set_slice_whole, Rect.mem_set_unit]
  intro a
  match a with
  | ⟨0, _⟩ =>
    show win0_2.index ⟨_, hN⟩ 0 * 512 ≤ (i 0).val ∧ (i 0).val < win0_2.index ⟨_, hN⟩ 0 * 512 + 512
    rw [e0]; omega
  | ⟨1, _⟩ =>
    show win0_2.index ⟨_, hN⟩ 1 * 4096 ≤ (i 1).val ∧ (i 1).val < win0_2.index ⟨_, hN⟩ 1 * 4096 + 4096
    rw [e1]; omega

/-- The payload of the body's store, at an index. -/
theorem pay_apply (x : Vec Ideal S512x4096 .f32) (g : Vec Ideal S1x4096 .f32) (j : S512x4096.Idx) :
    k0_pay1 x g j = nrm (fun q => x (ix2 (n0 := 512) (j 0) q)) (g (ix2 (n0 := 1) 0 (j 1))) (j 1) := by
  idx_vars j
  pointwise [k0_pay1] <;> rfl

/-- The array of results of device `c`. -/
abbrev out (c : Dev nD) : Buf (Elt Ideal) ((c : Thread nD τ).loc main_v3) := G (m ((c : Thread nD τ).loc main_arg0)) (m ((c : Thread nD τ).loc main_arg1))

/-- What a point writes back is its block of the whole result. -/
theorem flushed2_eq (c : Dev nD) (t : Fin cfg0.N) :
    (dats m 0 c).flushed 2 t = ((cfg0.win 2).blk t).view.read (Elt Ideal) (out m c) := by
  rw [Value.flushed2]
  unfold out0_2
  rw [View.canon_unit_zero hz, View.ld_unit_zero hz, View.ld_unit_zero hz]
  funext j
  refine (pay_apply _ _ j).trans ?_
  show _ = G _ _ ((win0_2.rect t).emb j)
  have r0 := emb2_0 t j
  have r1 : (win0_2.rect t).emb j 1 = j 1 := Fin.ext (emb2_1 t j)
  unfold G
  rw [r1]
  refine nrm_congr _ (fun q => ?_) ?_
  · exact (blk0 m c t (ix2 (n0 := 512) (j 0) q) (ix2 (n0 := 8192) ((win0_2.rect t).emb j 0) q) r0 rfl).trans (Vx m c _ q)
  · exact (blk1 m c t (ix2 (n0 := 1) 0 (j 1)) (ix2 (n0 := 1) 0 (j 1)) rfl rfl).trans (Vg m c (j 1))

theorem final2 (c : Dev nD) : (dats m 0 c).arrAt 2 cfg0.N = out m c :=
  (dats m 0 c).arrAt_eq_of_cover 2 (out m c) (fun t _ => flushed2_eq m c t) cover2

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v3) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end Cert.KMixnormIdeal.Hand

end
-- ==== Proof.MixnormRef.lean ====
/-
  The reference's term for this call, index by index.
-/
module

public import proofs.«01_k».proof.Proof.Mixnorm
public import proofs.«01_k».proof.Proof.Gen.RMixnormIdeal

@[expose] public section

set_option maxRecDepth 16384

noncomputable section

namespace Cert.RMixnormIdeal.Hand

open Cert.RMixnormIdeal Cert.RMixnormIdeal.Gen Idealize.ShloMosaic Idealize.ShloMosaic.TcCoe Idealize.SL.Sem

/-- A row dropped to a vector, index by index. -/
theorem row_vec (g : FVec Ideal S1x4096 .f32) (h : S1x4096.ShapeCasts S4096) :
    shapeCast S4096 g h = fun k => g (ix2 (n0 := 1) (n1 := 4096) 0 (k 0)) := by
  funext k
  refine shapeCast_apply _ _ _ _ ?_
  rw [Shape.rowMajor_val_one, Shape.rowMajor_val_two]
  show 0 * 4096 + (k 0).val = (k 0).val
  omega

/-- The reference's normed array, index by index. -/
theorem norm_apply (N : FVec Ideal S4x2048x4096 .f32) (g : FVec Ideal S1x4096 .f32) (b : Fin 4) (r : Fin 2048) (q : Fin 4096) :
    (mulf (mulf N (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf N N) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast S4096 g shapeCasts_S1x4096_S4096)))) (ix3 b r q) = Cert.KMixnormIdeal.Hand.nrm (fun k => N (ix3 b r k)) (g (ix2 (n0 := 1) (n1 := 4096) 0 q)) q := by
  rw [row_vec]
  pointwise [] <;> rfl

theorem ref (a0 : FVec Ideal S4x2048x4096 .f32) (a1 : FVec Ideal S1x4096 .f32) : truncf .bf16 (shapeCast S8192x4096 (mulf (mulf a0 (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf a0 a0) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast S4096 a1 shapeCasts_S1x4096_S4096)))) shapeCasts_S4x2048x4096_S8192x4096) bitsLt_bf16_f32 = Cert.KMixnormIdeal.Hand.G a0 a1 := by
  funext i
  refine (shapeCast_apply _ _ i (ix3 (n0 := 4) (n1 := 2048) (n2 := 4096) (Cert.KMixnormIdeal.Hand.hi (i 0)) (Cert.KMixnormIdeal.Hand.lo (i 0)) (i 1)) ?_).trans
    (norm_apply a0 a1 _ _ _)
  rw [Shape.rowMajor_val_three, Shape.rowMajor_val_two]
  show ((i 0).val / 2048 * 2048 + (i 0).val % 2048) * 4096 + (i 1).val = (i 0).val * 4096 + (i 1).val
  rw [Nat.div_add_mod']

end Cert.RMixnormIdeal.Hand

end
-- ==== Proof.MixnormClaims.lean ====
/-
  The claims about `KMixnorm`: the frames, and that the kernel over the extended reals computes the reference's function.
-/
module

public import proofs.«01_k».proof.Defs
public import proofs.«01_k».proof.Proof.Mixnorm
public import proofs.«01_k».proof.Proof.MixnormRef
public import proofs.«01_k».proof.Proof.Gen.KMixnorm.Frame
public import proofs.«01_k».proof.Proof.Gen.RMixnormIdeal.Run

@[expose] public section

set_option maxRecDepth 16384

noncomputable section

namespace Cert.Proof.Mixnorm

open Idealize.ShloMosaic Idealize.ShloMosaic.TcCoe Idealize.SL.Sem

theorem frame_kernel : Cert.quiescent_KMixnorm := fun m ρ _ => Cert.KMixnorm.Gen.frame m ρ
theorem frame_ideal : Cert.quiescent_KMixnormIdeal := fun m ρ _ => Cert.KMixnormIdeal.Gen.frame m ρ
theorem frame_reference : Cert.quiescent_RMixnormIdeal := fun m ρ _ =>
  (θ_run Cert.RMixnormIdeal.defs _ _).mono (fun r h => ⟨fun c => (h c).2,
      Idealize.ShloMosaic.sem_eq_zero_of_no_sems (by decide) r.2⟩)
    (Cert.RMixnormIdeal.Value.run (F := Ideal) m ρ)

theorem preserves : Cert.preserves_KMixnorm_KMixnormIdeal := trivial

/-- Over the extended reals the kernel's result arrays are the reference's. -/
theorem algebraic : Cert.algebraic_KMixnormIdeal_RMixnormIdeal := by
  intro m ρ m' ρ' _ hag
  refine ⟨fun c => KMixnormIdeal.Hand.out m c, Cert.KMixnormIdeal.Hand.run m ρ,
    (θ_run Cert.RMixnormIdeal.defs _ _).mono (fun r h c => ?_) (Cert.RMixnormIdeal.Value.run (F := Ideal) m' ρ')⟩
  obtain ⟨h0, h1⟩ := hag c
  refine ⟨(h c).1.trans ?_, (h c).2⟩
  · rw [h0, h1]
    exact Cert.RMixnormIdeal.Hand.ref _ _

end Cert.Proof.Mixnorm

end
-- ==== Proof.Final.lean ====
/-
  The value of the layer's last norm: every block the kernel writes is the block of the normed rows.
-/
module

public import proofs.«01_k».proof.Proof.Gen.KFinalIdeal.Value
public import Idealize.ShloMosaic.Lib.Pointwise

@[expose] public section

set_option maxRecDepth 16384

noncomputable section

namespace Cert.KFinalIdeal.Hand

open Cert.KFinalIdeal Cert.KFinalIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry of the normed row `x` under the gain `g`. -/
abbrev nrm (x : Fin 4096 → EReal) (g : EReal) (q : Fin 4096) : EReal :=
  x q * Ideal.rsqrt (Ideal.div (∑ k, x k * x k) (Ideal.ofBits FTy.f32 1166016512#32) + Ideal.ofBits FTy.f32 897988541#32) * g

theorem nrm_congr {x x' : Fin 4096 → EReal} {g g' : EReal} (q : Fin 4096) (hx : ∀ k, x k = x' k) (hg : g = g') :
    nrm x g q = nrm x' g' q := by
  rw [show x = x' from funext hx, hg]
/-- The block index of every window at every point of the grid. -/
theorem idx_facts : ∀ t : Fin cfg0.N,
    win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N,
    win0_0.index t 0 = t.val ∧ win0_0.index t 1 = 0 ∧ win0_1.index t 0 = 0
    ∧ win0_1.index t 1 = 0 ∧ win0_2.index t 0 = t.val ∧ win0_2.index t 1 = 0)

/-- The gain's row as the host lays it out. -/
theorem Vg (c : Dev nD) (k : Fin 4096) : V m c main_v0 (ix2 (n0 := 1) 0 k) = (m ((c : Thread nD τ).loc main_arg1)) (ix1 k) := by
  have e : V m c main_v0 = shapeCast S1x4096 (m ((c : Thread nD τ).loc main_arg1)) shapeCasts_S4096_S1x4096 := by
    unfold V
    after_results <;> rfl
  rw [e]
  refine shapeCast_apply _ _ _ (ix1 k) ?_
  rw [Shape.rowMajor_val_one, Shape.rowMajor_val_two]
  show k.val = 0 * 4096 + k.val
  omega

/-- The normed rows, index by index. -/
def G (x : FVec Ideal S8192x4096 .f32) (g : FVec Ideal S4096 .f32) : FVec Ideal S8192x4096 .f32 :=
  fun i => nrm (fun k => x (ix2 (n0 := 8192) (i 0) k)) (g (ix1 (i 1))) (i 1)

theorem blk0 (c : Dev nD) (t : Fin cfg0.N) (j : S512x4096.Idx) (i : S8192x4096.Idx)
    (h0 : (i 0).val = t.val * 512 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 512 + 1 * (j 0).val = (i 0).val; rw [e0]; omega
  | ⟨1, _⟩ => show win0_0.index t 1 * 4096 + 1 * (j 1).val = (i 1).val; rw [e1]; omega

theorem blk1 (c : Dev nD) (t : Fin cfg0.N) (j : S1x4096.Idx) (i : S1x4096.Idx)
    (h0 : (i 0).val = (j 0).val) (h1 : (i 1).val = (j 1).val) :
    iblk m c 1 t j = V m c main_v0 i := by
  obtain ⟨-, -, e0, e1, -⟩ := idx_facts t
  show V m c main_v0 _ = _
  refine congrArg _ (funext fun a => Fin.ext ?_)
  match a with
  | ⟨0, _⟩ => show win0_1.index t 0 * 1 + 1 * (j 0).val = (i 0).val; rw [e0]; omega
  | ⟨1, _⟩ => show win0_1.index t 1 * 4096 + 1 * (j 1).val = (i 1).val; rw [e1]; omega

/-- Where an element of window 2's block sits in the array, axis 0. -/
theorem emb2_0 (t : Fin cfg0.N) (j : ((cfg0.win 2).xblock (grid0.coords t)).Idx) :
    ((win0_2.rect t).emb j 0).val = t.val * 512 + (j 0).val := by
  obtain ⟨-, -, -, -, e0, e1⟩ := idx_facts t
  rw [win0_2.rect_emb_val, e0]; rfl

/-- Where an element of window 2's block sits in the array, axis 1. -/
theorem emb2_1 (t : Fin cfg0.N) (j : ((cfg0.win 2).xblock (grid0.coords t)).Idx) :
    ((win0_2.rect t).emb j 1).val = (j 1).val := by
  obtain ⟨-, -, -, -, e0, e1⟩ := idx_facts t
  exact win0_2.rect_emb_val_of_index_zero t 1 e1 j

/-- Every index of the result lies in some point's block of window 2. -/
theorem cover2 (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : (i 0).val / 512 < cfg0.N := by
    show _ < grid0.N
    rw [N_0]; omega
  refine ⟨⟨_, hN⟩, flush0_2 _, ?_⟩
  obtain ⟨-, -, -, -, e0, e1⟩ := idx_facts ⟨_, hN⟩
  dsimp only at e0 e1
  show i ∈ ((View.whole main_v1).slice (win0_2.rect ⟨_, hN⟩)).set
  rw [View.set_slice_whole, Rect.mem_set_unit]
  intro a
  match a with
  | ⟨0, _⟩ =>
    show win0_2.index ⟨_, hN⟩ 0 * 512 ≤ (i 0).val ∧ (i 0).val < win0_2.index ⟨_, hN⟩ 0 * 512 + 512
    rw [e0]; omega
  | ⟨1, _⟩ =>
    show win0_2.index ⟨_, hN⟩ 1 * 4096 ≤ (i 1).val ∧ (i 1).val < win0_2.index ⟨_, hN⟩ 1 * 4096 + 4096
    rw [e1]; omega

/-- The payload of the body's store, at an index. -/
theorem pay_apply (x : Vec Ideal S512x4096 .f32) (g : Vec Ideal S1x4096 .f32) (j : S512x4096.Idx) :
    k0_pay1 x g j = nrm (fun q => x (ix2 (n0 := 512) (j 0) q)) (g (ix2 (n0 := 1) 0 (j 1))) (j 1) := by
  idx_vars j
  pointwise [k0_pay1] <;> rfl

/-- The array of results of device `c`. -/
abbrev out (c : Dev nD) : Buf (Elt Ideal) ((c : Thread nD τ).loc main_v1) := G (m ((c : Thread nD τ).loc main_arg0)) (m ((c : Thread nD τ).loc main_arg1))

/-- What a point writes back is its block of the whole result. -/
theorem flushed2_eq (c : Dev nD) (t : Fin cfg0.N) :
    (dats m 0 c).flushed 2 t = ((cfg0.win 2).blk t).view.read (Elt Ideal) (out m c) := by
  rw [Value.flushed2]
  unfold out0_2
  rw [View.canon_unit_zero hz, View.ld_unit_zero hz, View.ld_unit_zero hz]
  funext j
  refine (pay_apply _ _ j).trans ?_
  show _ = G _ _ ((win0_2.rect t).emb j)
  have r0 := emb2_0 t j
  have r1 : (win0_2.rect t).emb j 1 = j 1 := Fin.ext (emb2_1 t j)
  unfold G
  rw [r1]
  refine nrm_congr _ (fun q => ?_) ?_
  · exact blk0 m c t (ix2 (n0 := 512) (j 0) q) (ix2 (n0 := 8192) ((win0_2.rect t).emb j 0) q) r0 rfl
  · exact (blk1 m c t (ix2 (n0 := 1) 0 (j 1)) (ix2 (n0 := 1) 0 (j 1)) rfl rfl).trans (Vg m c (j 1))

theorem final2 (c : Dev nD) : (dats m 0 c).arrAt 2 cfg0.N = out m c :=
  (dats m 0 c).arrAt_eq_of_cover 2 (out m c) (fun t _ => flushed2_eq m c t) cover2

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end Cert.KFinalIdeal.Hand

end
-- ==== Proof.FinalClaims.lean ====
/-
  The claims about `KFinal`: the frames, and that the kernel over the extended reals computes the reference's function.
-/
module

public import proofs.«01_k».proof.Defs
public import proofs.«01_k».proof.Proof.Final
public import proofs.«01_k».proof.Proof.Gen.KFinal.Frame
public import proofs.«01_k».proof.Proof.Gen.RFinalIdeal.Run

@[expose] public section

set_option maxRecDepth 16384

noncomputable section

namespace Cert.Proof.Final

open Idealize.ShloMosaic Idealize.ShloMosaic.TcCoe Idealize.SL.Sem

theorem frame_kernel : Cert.quiescent_KFinal := fun m ρ _ => Cert.KFinal.Gen.frame m ρ
theorem frame_ideal : Cert.quiescent_KFinalIdeal := fun m ρ _ => Cert.KFinalIdeal.Gen.frame m ρ
theorem frame_reference : Cert.quiescent_RFinalIdeal := fun m ρ _ =>
  (θ_run Cert.RFinalIdeal.defs _ _).mono (fun r h => ⟨fun c => (h c).2,
      Idealize.ShloMosaic.sem_eq_zero_of_no_sems (by decide) r.2⟩)
    (Cert.RFinalIdeal.Value.run (F := Ideal) m ρ)

theorem preserves : Cert.preserves_KFinal_KFinalIdeal := trivial

/-- Over the extended reals the kernel's result arrays are the reference's. -/
theorem algebraic : Cert.algebraic_KFinalIdeal_RFinalIdeal := by
  intro m ρ m' ρ' _ hag
  refine ⟨fun c => KFinalIdeal.Hand.out m c, Cert.KFinalIdeal.Hand.run m ρ,
    (θ_run Cert.RFinalIdeal.defs _ _).mono (fun r h c => ?_) (Cert.RFinalIdeal.Value.run (F := Ideal) m' ρ')⟩
  obtain ⟨h0, h1⟩ := hag c
  refine ⟨(h c).1.trans ?_, (h c).2⟩
  · rw [h0, h1]
    funext i
    idx_vars i
    pointwise [KFinalIdeal.Hand.out, KFinalIdeal.Hand.G] <;> rfl

end Cert.Proof.Final

end
-- ==== Proof.Xq.lean ====
/-
  The value of the cross-attention's queries: every block the kernel writes is the block of the normed rows' product with the weights.
-/
module

public import proofs.«01_k».proof.Proof.Gen.KXqIdeal.Value
public import Idealize.ShloMosaic.Lib.Pointwise

@[expose] public section

set_option maxRecDepth 16384

noncomputable section

namespace Cert.KXqIdeal.Hand

open Cert.KXqIdeal Cert.KXqIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry of the normed row `x` under the gain `g`. -/
abbrev nrm (x : Fin 4096 → EReal) (g : EReal) (q : Fin 4096) : EReal :=
  x q * Ideal.rsqrt (Ideal.div (∑ k, x k * x k) (Ideal.ofBits FTy.f32 1166016512#32) + Ideal.ofBits FTy.f32 897988541#32) * g

theorem nrm_congr {x x' : Fin 4096 → EReal} {g g' : EReal} (q : Fin 4096) (hx : ∀ k, x k = x' k) (hg : g = g') :
    nrm x g q = nrm x' g' q := by
  rw [show x = x' from funext hx, hg]
/-- The block index of every window at every point of the grid. -/
theorem idx_facts : ∀ t : Fin cfg0.N,
    win0_0.index t 0 = t.val ∧ win0_0.index t 1 = 0 ∧ win0_1.index t 0 = 0
    ∧ win0_1.index t 1 = 0 ∧ win0_2.index t 0 = 0 ∧ win0_2.index t 1 = 0
    ∧ win0_3.index t 0 = t.val ∧ win0_3.index t 1 = 0 :=
  (by decide +kernel : ∀ t : Fin grid0.N,
    win0_0.index t 0 = t.val ∧ win0_0.index t 1 = 0 ∧ win0_1.index t 0 = 0
    ∧ win0_1.index t 1 = 0 ∧ win0_2.index t 0 = 0 ∧ win0_2.index t 1 = 0
    ∧ win0_3.index t 0 = t.val ∧ win0_3.index t 1 = 0)

/-- A row dropped to a vector and laid out as a row again. -/
theorem row_row (g : FVec Ideal S1x4096 .f32) (k : Fin 4096) :
    shapeCast S1x4096 (shapeCast S4096 g shapeCasts_S1x4096_S4096) shapeCasts_S4096_S1x4096 (ix2 (n0 := 1) 0 k) = g (ix2 (n0 := 1) 0 k) := by
  refine (shapeCast_apply _ _ _ (ix1 k) ?_).trans (shapeCast_apply _ _ _ _ ?_)
  · rw [Shape.rowMajor_val_one, Shape.rowMajor_val_two]
    show k.val = 0 * 4096 + k.val
    omega
  · rw [Shape.rowMajor_val_one, Shape.rowMajor_val_two]
    show 0 * 4096 + k.val = k.val
    omega

/-- The gain's row as the host lays it out. -/
theorem Vg (c : Dev nD) (k : Fin 4096) : V m c main_v1 (ix2 (n0 := 1) 0 k) = (m ((c : Thread nD τ).loc main_arg1)) (ix2 (n0 := 1) 0 k) := by
  have e : V m c main_v1 = shapeCast S1x4096 (shapeCast S4096 (m ((c : Thread nD τ).loc main_arg1)) shapeCasts_S1x4096_S4096) shapeCasts_S4096_S1x4096 := by
    unfold V
    after_results <;> rfl
  rw [e]
  exact row_row _ k

/-- The product of the normed rows and the weights, index by index. -/
def G (x : FVec Ideal S8192x4096 .f32) (g : FVec Ideal S1x4096 .f32) (w : FVec Ideal S4096x1024 .bf16) : FVec Ideal S8192x1024 .bf16 :=
  fun i => ∑ k : Fin 4096, nrm (fun q => x (ix2 (n0 := 8192) (i 0) q)) (g (ix2 (n0 := 1) 0 k)) k * w (ix2 (n1 := 1024) k (i 1))

theorem blk0 (c : Dev nD) (t : Fin cfg0.N) (j : S512x4096.Idx) (i : S8192x4096.Idx)
    (h0 : (i 0).val = t.val * 512 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 512 + 1 * (j 0).val = (i 0).val; rw [e0]; omega
  | ⟨1, _⟩ => show win0_0.index t 1 * 4096 + 1 * (j 1).val = (i 1).val; rw [e1]; omega

theorem blk1 (c : Dev nD) (t : Fin cfg0.N) (j : S1x4096.Idx) (i : S1x4096.Idx)
    (h0 : (i 0).val = (j 0).val) (h1 : (i 1).val = (j 1).val) :
    iblk m c 1 t j = V m c main_v1 i := by
  obtain ⟨-, -, e0, e1, -⟩ := idx_facts t
  show V m c main_v1 _ = _
  refine congrArg _ (funext fun a => Fin.ext ?_)
  match a with
  | ⟨0, _⟩ => show win0_1.index t 0 * 1 + 1 * (j 0).val = (i 0).val; rw [e0]; omega
  | ⟨1, _⟩ => show win0_1.index t 1 * 4096 + 1 * (j 1).val = (i 1).val; rw [e1]; omega

theorem blk2 (c : Dev nD) (t : Fin cfg0.N) (j : S4096x1024.Idx) (i : S4096x1024.Idx)
    (h0 : (i 0).val = (j 0).val) (h1 : (i 1).val = (j 1).val) :
    iblk m c 2 t j = m ((c : Thread nD τ).loc main_arg2) i := by
  obtain ⟨-, -, -, -, e0, e1, -⟩ := idx_facts t
  show m ((c : Thread nD τ).loc main_arg2) _ = _
  refine congrArg _ (funext fun a => Fin.ext ?_)
  match a with
  | ⟨0, _⟩ => show win0_2.index t 0 * 4096 + 1 * (j 0).val = (i 0).val; rw [e0]; omega
  | ⟨1, _⟩ => show win0_2.index t 1 * 1024 + 1 * (j 1).val = (i 1).val; rw [e1]; omega

/-- Where an element of window 3's block sits in the array, axis 0. -/
theorem emb3_0 (t : Fin cfg0.N) (j : ((cfg0.win 3).xblock (grid0.coords t)).Idx) :
    ((win0_3.rect t).emb j 0).val = t.val * 512 + (j 0).val := by
  obtain ⟨-, -, -, -, -, -, e0, e1⟩ := idx_facts t
  rw [win0_3.rect_emb_val, e0]; rfl

/-- Where an element of window 3's block sits in the array, axis 1. -/
theorem emb3_1 (t : Fin cfg0.N) (j : ((cfg0.win 3).xblock (grid0.coords t)).Idx) :
    ((win0_3.rect t).emb j 1).val = (j 1).val := by
  obtain ⟨-, -, -, -, -, -, e0, e1⟩ := idx_facts t
  exact win0_3.rect_emb_val_of_index_zero t 1 e1 j

/-- Every index of the result lies in some point's block of window 3. -/
theorem cover3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hN : (i 0).val / 512 < cfg0.N := by
    show _ < grid0.N
    rw [N_0]; omega
  refine ⟨⟨_, hN⟩, flush0_3 _, ?_⟩
  obtain ⟨-, -, -, -, -, -, e0, e1⟩ := idx_facts ⟨_, hN⟩
  dsimp only at e0 e1
  show i ∈ ((View.whole main_v2).slice (win0_3.rect ⟨_, hN⟩)).set
  rw [View.set_slice_whole, Rect.mem_set_unit]
  intro a
  match a with
  | ⟨0, _⟩ =>
    show win0_3.index ⟨_, hN⟩ 0 * 512 ≤ (i 0).val ∧ (i 0).val < win0_3.index ⟨_, hN⟩ 0 * 512 + 512
    rw [e0]; omega
  | ⟨1, _⟩ =>
    show win0_3.index ⟨_, hN⟩ 1 * 1024 ≤ (i 1).val ∧ (i 1).val < win0_3.index ⟨_, hN⟩ 1 * 1024 + 1024
    rw [e1]; omega

/-- The payload of the body's store, at an index. -/
theorem pay_apply (x : Vec Ideal S512x4096 .f32) (g : Vec Ideal S1x4096 .f32) (w : Vec Ideal S4096x1024 .bf16) (j : S512x1024.Idx) :
    k0_pay1 x g w j = ∑ k : Fin 4096, nrm (fun q => x (ix2 (n0 := 512) (j 0) q)) (g (ix2 (n0 := 1) 0 k)) k * w (ix2 (n1 := 1024) k (j 1)) := by
  idx_vars j
  pointwise [k0_pay1] <;> rfl

/-- The array of results of device `c`. -/
abbrev out (c : Dev nD) : Buf (Elt Ideal) ((c : Thread nD τ).loc main_v2) := G (m ((c : Thread nD τ).loc main_arg0)) (m ((c : Thread nD τ).loc main_arg1)) (m ((c : Thread nD τ).loc main_arg2))

/-- What a point writes back is its block of the whole result. -/
theorem flushed3_eq (c : Dev nD) (t : Fin cfg0.N) :
    (dats m 0 c).flushed 3 t = ((cfg0.win 3).blk t).view.read (Elt Ideal) (out m c) := by
  rw [Value.flushed3]
  unfold out0_3
  rw [View.canon_unit_zero hz, View.ld_unit_zero hz, View.ld_unit_zero hz, View.ld_unit_zero hz]
  funext j
  refine (pay_apply _ _ _ j).trans ?_
  show _ = G _ _ _ ((win0_3.rect t).emb j)
  have r0 := emb3_0 t j
  have r1 : (win0_3.rect t).emb j 1 = j 1 := Fin.ext (emb3_1 t j)
  unfold G
  refine Finset.sum_congr rfl fun k _ => congrArg₂ (· * ·) (nrm_congr k (fun q => ?_) ?_) ?_
  · exact blk0 m c t (ix2 (n0 := 512) (j 0) q) (ix2 (n0 := 8192) ((win0_3.rect t).emb j 0) q) r0 rfl
  · exact (blk1 m c t (ix2 (n0 := 1) 0 k) (ix2 (n0 := 1) 0 k) rfl rfl).trans (Vg m c k)
  · exact blk2 m c t _ _ rfl (emb3_1 t j)

theorem final3 (c : Dev nD) : (dats m 0 c).arrAt 3 cfg0.N = out m c :=
  (dats m 0 c).arrAt_eq_of_cover 3 (out m c) (fun t _ => flushed3_eq m c t) cover3

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)

end Cert.KXqIdeal.Hand

end
-- ==== Proof.XqRef.lean ====
/-
  The reference's term for this call, index by index.
-/
module

public import proofs.«01_k».proof.Proof.Xq
public import proofs.«01_k».proof.Proof.Gen.RXqIdeal

@[expose] public section

set_option maxRecDepth 16384

noncomputable section

namespace Cert.RXqIdeal.Hand

open Cert.RXqIdeal Cert.RXqIdeal.Gen Idealize.ShloMosaic Idealize.ShloMosaic.TcCoe Idealize.SL.Sem

/-- A row dropped to a vector, index by index. -/
theorem row_vec (g : FVec Ideal S1x4096 .f32) (h : S1x4096.ShapeCasts S4096) :
    shapeCast S4096 g h = fun k => g (ix2 (n0 := 1) (n1 := 4096) 0 (k 0)) := by
  funext k
  refine shapeCast_apply _ _ _ _ ?_
  rw [Shape.rowMajor_val_one, Shape.rowMajor_val_two]
  show 0 * 4096 + (k 0).val = (k 0).val
  omega

/-- The reference's normed array, index by index. -/
theorem norm_apply (N : FVec Ideal S8192x4096 .f32) (g : FVec Ideal S1x4096 .f32) (r : Fin 8192) (q : Fin 4096) :
    (mulf (mulf N (broadcastInDim S8192x4096 ![0, 1] bcast_S8192x1_S8192x4096_0_1 (Host.rsqrt (addf (Host.divf (broadcastInDim S8192x1 ![0] bcast_S8192_S8192x1_0 (Host.reduceAdd (mulf N N) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast S4096 g shapeCasts_S1x4096_S4096)))) (ix2 r q) = Cert.KXqIdeal.Hand.nrm (fun k => N (ix2 r k)) (g (ix2 (n0 := 1) (n1 := 4096) 0 q)) q := by
  rw [row_vec]
  pointwise [] <;> rfl

theorem dot_apply (N : FVec Ideal S8192x4096 .f32) (a2 : FVec Ideal S4096x1024 .bf16) (i : S8192x1024.Idx) :
    truncf .bf16 (Host.dotGeneral dot_S8192x4096_S4096x1024_S8192x1024_1_0_0_1_n_n none N (extf .f32 a2 bitsLt_bf16_f32)) bitsLt_bf16_f32 i = ∑ k : Fin 4096, N (ix2 (n0 := 8192) (i 0) k) * a2 (ix2 (n1 := 1024) k (i 1)) := by
  idx_vars i
  pointwise []

theorem ref (a0 : FVec Ideal S8192x4096 .f32) (a1 : FVec Ideal S1x4096 .f32) (a2 : FVec Ideal S4096x1024 .bf16) : truncf .bf16 (Host.dotGeneral dot_S8192x4096_S4096x1024_S8192x1024_1_0_0_1_n_n none (mulf (mulf a0 (broadcastInDim S8192x4096 ![0, 1] bcast_S8192x1_S8192x4096_0_1 (Host.rsqrt (addf (Host.divf (broadcastInDim S8192x1 ![0] bcast_S8192_S8192x1_0 (Host.reduceAdd (mulf a0 a0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast S4096 a1 shapeCasts_S1x4096_S4096)))) (extf .f32 a2 bitsLt_bf16_f32)) bitsLt_bf16_f32 = Cert.KXqIdeal.Hand.G a0 a1 a2 := by
  funext i
  exact (dot_apply _ a2 i).trans (Finset.sum_congr rfl fun k _ => congrArg (· * _) (norm_apply a0 a1 _ k))

end Cert.RXqIdeal.Hand

end
-- ==== Proof.XqClaims.lean ====
/-
  The claims about `KXq`: the frames, and that the kernel over the extended reals computes the reference's function.
-/
module

public import proofs.«01_k».proof.Defs
public import proofs.«01_k».proof.Proof.Xq
public import proofs.«01_k».proof.Proof.XqRef
public import proofs.«01_k».proof.Proof.Gen.KXq.Frame
public import proofs.«01_k».proof.Proof.Gen.RXqIdeal.Run

@[expose] public section

set_option maxRecDepth 16384

noncomputable section

namespace Cert.Proof.Xq

open Idealize.ShloMosaic Idealize.ShloMosaic.TcCoe Idealize.SL.Sem

theorem frame_kernel : Cert.quiescent_KXq := fun m ρ _ => Cert.KXq.Gen.frame m ρ
theorem frame_ideal : Cert.quiescent_KXqIdeal := fun m ρ _ => Cert.KXqIdeal.Gen.frame m ρ
theorem frame_reference : Cert.quiescent_RXqIdeal := fun m ρ _ =>
  (θ_run Cert.RXqIdeal.defs _ _).mono (fun r h => ⟨fun c => (h c).2,
      Idealize.ShloMosaic.sem_eq_zero_of_no_sems (by decide) r.2⟩)
    (Cert.RXqIdeal.Value.run (F := Ideal) m ρ)

theorem preserves : Cert.preserves_KXq_KXqIdeal := trivial

/-- Over the extended reals the kernel's result arrays are the reference's. -/
theorem algebraic : Cert.algebraic_KXqIdeal_RXqIdeal := by
  intro m ρ m' ρ' _ hag
  refine ⟨fun c => KXqIdeal.Hand.out m c, Cert.KXqIdeal.Hand.run m ρ,
    (θ_run Cert.RXqIdeal.defs _ _).mono (fun r h c => ?_) (Cert.RXqIdeal.Value.run (F := Ideal) m' ρ')⟩
  obtain ⟨h0, h1, h2⟩ := hag c
  refine ⟨(h c).1.trans ?_, (h c).2⟩
  · rw [h0, h1, h2]
    exact Cert.RXqIdeal.Hand.ref _ _ _

end Cert.Proof.Xq

end
-- ==== Proof.Xkv.lean ====
/-
  The value of the cross-attention's keys (and values): every block the kernel writes is the block of the normed
  memory's product with the weights.
-/
module

public import proofs.«01_k».proof.Proof.Gen.KXkvIdeal.Value
public import Idealize.ShloMosaic.Lib.Pointwise

@[expose] public section

set_option maxRecDepth 16384

noncomputable section

namespace Cert.KXkvIdeal.Hand

open Cert.KXkvIdeal Cert.KXkvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry of the normed row `x` under the gain `g`. -/
abbrev nrm (x : Fin 4096 → EReal) (g : EReal) (q : Fin 4096) : EReal :=
  x q * Ideal.rsqrt (Ideal.div (∑ k, x k * x k) (Ideal.ofBits FTy.f32 1166016512#32) + Ideal.ofBits FTy.f32 897988541#32) * g

theorem nrm_congr {x x' : Fin 4096 → EReal} {g g' : EReal} (q : Fin 4096) (hx : ∀ k, x k = x' k) (hg : g = g') :
    nrm x g q = nrm x' g' q := by
  rw [show x = x' from funext hx, hg]
/-- The block index of every window at every point of the grid. -/
theorem idx_facts : ∀ t : Fin cfg0.N,
    win0_0.index t 0 = t.val ∧ win0_0.index t 1 = 0 ∧ win0_1.index t 0 = 0
    ∧ win0_1.index t 1 = 0 ∧ win0_2.index t 0 = 0 ∧ win0_2.index t 1 = 0
    ∧ win0_3.index t 0 = t.val ∧ win0_3.index t 1 = 0 :=
  (by decide +kernel : ∀ t : Fin grid0.N,
    win0_0.index t 0 = t.val ∧ win0_0.index t 1 = 0 ∧ win0_1.index t 0 = 0
    ∧ win0_1.index t 1 = 0 ∧ win0_2.index t 0 = 0 ∧ win0_2.index t 1 = 0
    ∧ win0_3.index t 0 = t.val ∧ win0_3.index t 1 = 0)

/-- The batch a row of the flattened rows belongs to, and its place in it. -/
abbrev hi (r : Fin 1024) : Fin 4 := ⟨r.val / 256, by omega⟩
abbrev lo (r : Fin 1024) : Fin 256 := ⟨r.val % 256, by omega⟩

/-- The rows as the host lays them out. -/
theorem Vx (c : Dev nD) (i : Fin 1024) (k : Fin 4096) : V m c main_v0 (ix2 i k) = (m ((c : Thread nD τ).loc main_arg0)) (ix3 (hi i) (lo i) k) := by
  have e : V m c main_v0 = shapeCast S1024x4096 (m ((c : Thread nD τ).loc main_arg0)) shapeCasts_S4x256x4096_S1024x4096 := by
    unfold V
    after_results <;> rfl
  rw [e]
  refine shapeCast_apply _ _ _ (ix3 (hi i) (lo i) k) ?_
  rw [Shape.rowMajor_val_three, Shape.rowMajor_val_two]
  show (i.val / 256 * 256 + i.val % 256) * 4096 + k.val = i.val * 4096 + k.val
  rw [Nat.div_add_mod']

/-- A row dropped to a vector and laid out as a row again. -/
theorem row_row (g : FVec Ideal S1x4096 .f32) (k : Fin 4096) :
    shapeCast S1x4096 (shapeCast S4096 g shapeCasts_S1x4096_S4096) shapeCasts_S4096_S1x4096 (ix2 (n0 := 1) 0 k) = g (ix2 (n0 := 1) 0 k) := by
  refine (shapeCast_apply _ _ _ (ix1 k) ?_).trans (shapeCast_apply _ _ _ _ ?_)
  · rw [Shape.rowMajor_val_one, Shape.rowMajor_val_two]
    show k.val = 0 * 4096 + k.val
    omega
  · rw [Shape.rowMajor_val_one, Shape.rowMajor_val_two]
    show 0 * 4096 + k.val = k.val
    omega

/-- The gain's row as the host lays it out. -/
theorem Vg (c : Dev nD) (k : Fin 4096) : V m c main_v2 (ix2 (n0 := 1) 0 k) = (m ((c : Thread nD τ).loc main_arg1)) (ix2 (n0 := 1) 0 k) := by
  have e : V m c main_v2 = shapeCast S1x4096 (shapeCast S4096 (m ((c : Thread nD τ).loc main_arg1)) shapeCasts_S1x4096_S4096) shapeCasts_S4096_S1x4096 := by
    unfold V
    after_results <;> rfl
  rw [e]
  exact row_row _ k

/-- The product of the normed rows and the weights, index by index. -/
def G (x : FVec Ideal S4x256x4096 .f32) (g : FVec Ideal S1x4096 .f32) (w : FVec Ideal S4096x1024 .bf16) : FVec Ideal S1024x1024 .bf16 :=
  fun i => ∑ k : Fin 4096, nrm (fun q => x (ix3 (hi (i 0)) (lo (i 0)) q)) (g (ix2 (n0 := 1) 0 k)) k * w (ix2 (n1 := 1024) k (i 1))

theorem blk0 (c : Dev nD) (t : Fin cfg0.N) (j : S512x4096.Idx) (i : S1024x4096.Idx)
    (h0 : (i 0).val = t.val * 512 + (j 0).val) (h1 : (i 1).val = (j 1).val) :
    iblk m c 0 t j = V m c main_v0 i := by
  obtain ⟨e0, e1, -⟩ := idx_facts t
  show V m c main_v0 _ = _
  refine congrArg _ (funext fun a => Fin.ext ?_)
  match a with
  | ⟨0, _⟩ => show win0_0.index t 0 * 512 + 1 * (j 0).val = (i 0).val; rw [e0]; omega
  | ⟨1, _⟩ => show win0_0.index t 1 * 4096 + 1 * (j 1).val = (i 1).val; rw [e1]; omega

theorem blk1 (c : Dev nD) (t : Fin cfg0.N) (j : S1x4096.Idx) (i : S1x4096.Idx)
    (h0 : (i 0).val = (j 0).val) (h1 : (i 1).val = (j 1).val) :
    iblk m c 1 t j = V m c main_v2 i := by
  obtain ⟨-, -, e0, e1, -⟩ := idx_facts t
  show V m c main_v2 _ = _
  refine congrArg _ (funext fun a => Fin.ext ?_)
  match a with
  | ⟨0, _⟩ => show win0_1.index t 0 * 1 + 1 * (j 0).val = (i 0).val; rw [e0]; omega
  | ⟨1, _⟩ => show win0_1.index t 1 * 4096 + 1 * (j 1).val = (i 1).val; rw [e1]; omega

theorem blk2 (c : Dev nD) (t : Fin cfg0.N) (j : S4096x1024.Idx) (i : S4096x1024.Idx)
    (h0 : (i 0).val = (j 0).val) (h1 : (i 1).val = (j 1).val) :
    iblk m c 2 t j = m ((c : Thread nD τ).loc main_arg2) i := by
  obtain ⟨-, -, -, -, e0, e1, -⟩ := idx_facts t
  show m ((c : Thread nD τ).loc main_arg2) _ = _
  refine congrArg _ (funext fun a => Fin.ext ?_)
  match a with
  | ⟨0, _⟩ => show win0_2.index t 0 * 4096 + 1 * (j 0).val = (i 0).val; rw [e0]; omega
  | ⟨1, _⟩ => show win0_2.index t 1 * 1024 + 1 * (j 1).val = (i 1).val; rw [e1]; omega

/-- Where an element of window 3's block sits in the array, axis 0. -/
theorem emb3_0 (t : Fin cfg0.N) (j : ((cfg0.win 3).xblock (grid0.coords t)).Idx) :
    ((win0_3.rect t).emb j 0).val = t.val * 512 + (j 0).val := by
  obtain ⟨-, -, -, -, -, -, e0, e1⟩ := idx_facts t
  rw [win0_3.rect_emb_val, e0]; rfl

/-- Where an element of window 3's block sits in the array, axis 1. -/
theorem emb3_1 (t : Fin cfg0.N) (j : ((cfg0.win 3).xblock (grid0.coords t)).Idx) :
    ((win0_3.rect t).emb j 1).val = (j 1).val := by
  obtain ⟨-, -, -, -, -, -, e0, e1⟩ := idx_facts t
  exact win0_3.rect_emb_val_of_index_zero t 1 e1 j

/-- Every index of the result lies in some point's block of window 3. -/
theorem cover3 (i : S1024x1024.Idx) : ∃ t : Fin cfg0.N, (cfg0.win 3).flush t = true ∧ i ∈ ((cfg0.win 3).blk t).view.set := by
  have h0 : (i 0).val < 1024 := (i 0).isLt
  have h1 : (i 1).val < 1024 := (i 1).isLt
  have hN : (i 0).val / 512 < cfg0.N := by
    show _ < grid0.N
    rw [N_0]; omega
  refine ⟨⟨_, hN⟩, flush0_3 _, ?_⟩
  obtain ⟨-, -, -, -, -, -, e0, e1⟩ := idx_facts ⟨_, hN⟩
  dsimp only at e0 e1
  show i ∈ ((View.whole main_v3).slice (win0_3.rect ⟨_, hN⟩)).set
  rw [View.set_slice_whole, Rect.mem_set_unit]
  intro a
  match a with
  | ⟨0, _⟩ =>
    show win0_3.index ⟨_, hN⟩ 0 * 512 ≤ (i 0).val ∧ (i 0).val < win0_3.index ⟨_, hN⟩ 0 * 512 + 512
    rw [e0]; omega
  | ⟨1, _⟩ =>
    show win0_3.index ⟨_, hN⟩ 1 * 1024 ≤ (i 1).val ∧ (i 1).val < win0_3.index ⟨_, hN⟩ 1 * 1024 + 1024
    rw [e1]; omega

/-- The payload of the body's store, at an index. -/
theorem pay_apply (x : Vec Ideal S512x4096 .f32) (g : Vec Ideal S1x4096 .f32) (w : Vec Ideal S4096x1024 .bf16) (j : S512x1024.Idx) :
    k0_pay1 x g w j = ∑ k : Fin 4096, nrm (fun q => x (ix2 (n0 := 512) (j 0) q)) (g (ix2 (n0 := 1) 0 k)) k * w (ix2 (n1 := 1024) k (j 1)) := by
  idx_vars j
  pointwise [k0_pay1] <;> rfl

/-- The array of results of device `c`. -/
abbrev out (c : Dev nD) : Buf (Elt Ideal) ((c : Thread nD τ).loc main_v3) := G (m ((c : Thread nD τ).loc main_arg0)) (m ((c : Thread nD τ).loc main_arg1)) (m ((c : Thread nD τ).loc main_arg2))

/-- What a point writes back is its block of the whole result. -/
theorem flushed3_eq (c : Dev nD) (t : Fin cfg0.N) :
    (dats m 0 c).flushed 3 t = ((cfg0.win 3).blk t).view.read (Elt Ideal) (out m c) := by
  rw [Value.flushed3]
  unfold out0_3
  rw [View.canon_unit_zero hz, View.ld_unit_zero hz, View.ld_unit_zero hz, View.ld_unit_zero hz]
  funext j
  refine (pay_apply _ _ _ j).trans ?_
  show _ = G _ _ _ ((win0_3.rect t).emb j)
  have r0 := emb3_0 t j
  have r1 : (win0_3.rect t).emb j 1 = j 1 := Fin.ext (emb3_1 t j)
  unfold G
  refine Finset.sum_congr rfl fun k _ => congrArg₂ (· * ·) (nrm_congr k (fun q => ?_) ?_) ?_
  · exact (blk0 m c t (ix2 (n0 := 512) (j 0) q) (ix2 (n0 := 1024) ((win0_3.rect t).emb j 0) q) r0 rfl).trans (Vx m c _ q)
  · exact (blk1 m c t (ix2 (n0 := 1) 0 k) (ix2 (n0 := 1) 0 k) rfl rfl).trans (Vg m c k)
  · exact blk2 m c t _ _ rfl (emb3_1 t j)

theorem final3 (c : Dev nD) : (dats m 0 c).arrAt 3 cfg0.N = out m c :=
  (dats m 0 c).arrAt_eq_of_cover 3 (out m c) (fun t _ => flushed3_eq m c t) cover3

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v3) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)

end Cert.KXkvIdeal.Hand

end
-- ==== Proof.XkvRef.lean ====
/-
  The reference's term for this call, index by index.
-/
module

public import proofs.«01_k».proof.Proof.Xkv
public import proofs.«01_k».proof.Proof.Gen.RXkvIdeal

@[expose] public section

set_option maxRecDepth 16384

noncomputable section

namespace Cert.RXkvIdeal.Hand

open Cert.RXkvIdeal Cert.RXkvIdeal.Gen Idealize.ShloMosaic Idealize.ShloMosaic.TcCoe Idealize.SL.Sem

/-- A row dropped to a vector, index by index. -/
theorem row_vec (g : FVec Ideal S1x4096 .f32) (h : S1x4096.ShapeCasts S4096) :
    shapeCast S4096 g h = fun k => g (ix2 (n0 := 1) (n1 := 4096) 0 (k 0)) := by
  funext k
  refine shapeCast_apply _ _ _ _ ?_
  rw [Shape.rowMajor_val_one, Shape.rowMajor_val_two]
  show 0 * 4096 + (k 0).val = (k 0).val
  omega

/-- The reference's normed array, index by index. -/
theorem norm_apply (N : FVec Ideal S4x256x4096 .f32) (g : FVec Ideal S1x4096 .f32) (b : Fin 4) (r : Fin 256) (q : Fin 4096) :
    (mulf (mulf N (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf N N) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 (shapeCast S4096 g shapeCasts_S1x4096_S4096)))) (ix3 b r q) = Cert.KXkvIdeal.Hand.nrm (fun k => N (ix3 b r k)) (g (ix2 (n0 := 1) (n1 := 4096) 0 q)) q := by
  rw [row_vec]
  pointwise [] <;> rfl

theorem dot_apply (N : FVec Ideal S4x256x4096 .f32) (a2 : FVec Ideal S4096x1024 .bf16) (b : Fin 4) (r : Fin 256) (q : Fin 1024) :
    (Host.dotGeneral dot_S4x256x4096_S4096x1024_S4x256x1024_2_0_01_1_n_n none N (extf .f32 a2 bitsLt_bf16_f32)) (ix3 b r q) = ∑ k : Fin 4096, N (ix3 b r k) * a2 (ix2 (n1 := 1024) k q) := by
  pointwise []

theorem ref (a0 : FVec Ideal S4x256x4096 .f32) (a1 : FVec Ideal S1x4096 .f32) (a2 : FVec Ideal S4096x1024 .bf16) : truncf .bf16 (shapeCast S1024x1024 (Host.dotGeneral dot_S4x256x4096_S4096x1024_S4x256x1024_2_0_01_1_n_n none (mulf (mulf a0 (broadcastInDim S4x256x4096 ![0, 1, 2] bcast_S4x256x1_S4x256x4096_0_1_2 (Host.rsqrt (addf (Host.divf (broadcastInDim S4x256x1 ![0, 1] bcast_S4x256_S4x256x1_0_1 (Host.reduceAdd (mulf a0 a0) (constant S_ .f32 0x00000000#32) reducesTo_S4x256x4096_S4x256_d2 h_S_)) (broadcastInDim S4x256x1 ![] bcast_S_S4x256x1 (constant S_ .f32 0x45800000#32))) (broadcastInDim S4x256x1 ![] bcast_S_S4x256x1 (constant S_ .f32 0x358637BD#32)))))) (broadcastInDim S4x256x4096 ![0, 1, 2] bcast_S1x1x4096_S4x256x4096_0_1_2 (broadcastInDim S1x1x4096 ![2] bcast_S4096_S1x1x4096_2 (shapeCast S4096 a1 shapeCasts_S1x4096_S4096)))) (extf .f32 a2 bitsLt_bf16_f32)) shapeCasts_S4x256x1024_S1024x1024) bitsLt_bf16_f32 = Cert.KXkvIdeal.Hand.G a0 a1 a2 := by
  funext i
  refine (shapeCast_apply _ _ i (ix3 (n0 := 4) (n1 := 256) (n2 := 1024) (Cert.KXkvIdeal.Hand.hi (i 0)) (Cert.KXkvIdeal.Hand.lo (i 0)) (i 1)) ?_).trans
    ((dot_apply _ a2 _ _ _).trans (Finset.sum_congr rfl fun k _ => congrArg (· * _) (norm_apply a0 a1 _ _ k)))
  rw [Shape.rowMajor_val_three, Shape.rowMajor_val_two]
  show ((i 0).val / 256 * 256 + (i 0).val % 256) * 1024 + (i 1).val = (i 0).val * 1024 + (i 1).val
  rw [Nat.div_add_mod']

end Cert.RXkvIdeal.Hand

end
-- ==== Proof.XkvClaims.lean ====
/-
  The claims about `KXkv`: the frames, and that the kernel over the extended reals computes the reference's function.
-/
module

public import proofs.«01_k».proof.Defs
public import proofs.«01_k».proof.Proof.Xkv
public import proofs.«01_k».proof.Proof.XkvRef
public import proofs.«01_k».proof.Proof.Gen.KXkv.Frame
public import proofs.«01_k».proof.Proof.Gen.RXkvIdeal.Run

@[expose] public section

set_option maxRecDepth 16384

noncomputable section

namespace Cert.Proof.Xkv

open Idealize.ShloMosaic Idealize.ShloMosaic.TcCoe Idealize.SL.Sem

theorem frame_kernel : Cert.quiescent_KXkv := fun m ρ _ => Cert.KXkv.Gen.frame m ρ
theorem frame_ideal : Cert.quiescent_KXkvIdeal := fun m ρ _ => Cert.KXkvIdeal.Gen.frame m ρ
theorem frame_reference : Cert.quiescent_RXkvIdeal := fun m ρ _ =>
  (θ_run Cert.RXkvIdeal.defs _ _).mono (fun r h => ⟨fun c => (h c).2,
      Idealize.ShloMosaic.sem_eq_zero_of_no_sems (by decide) r.2⟩)
    (Cert.RXkvIdeal.Value.run (F := Ideal) m ρ)

theorem preserves : Cert.preserves_KXkv_KXkvIdeal := trivial

/-- Over the extended reals the kernel's result arrays are the reference's. -/
theorem algebraic : Cert.algebraic_KXkvIdeal_RXkvIdeal := by
  intro m ρ m' ρ' _ hag
  refine ⟨fun c => KXkvIdeal.Hand.out m c, Cert.KXkvIdeal.Hand.run m ρ,
    (θ_run Cert.RXkvIdeal.defs _ _).mono (fun r h c => ?_) (Cert.RXkvIdeal.Value.run (F := Ideal) m' ρ')⟩
  obtain ⟨h0, h1, h2⟩ := hag c
  refine ⟨(h c).1.trans ?_, (h c).2⟩
  · rw [h0, h1, h2]
    exact Cert.RXkvIdeal.Hand.ref _ _ _

end Cert.Proof.Xkv

end
-- ==== Proof.Xout.lean ====
/-
  The value of the cross-attention's output projection with its residual, and of the norm before the SwiGLU.
-/
module

public import proofs.«01_k».proof.Proof.Gen.KXoutIdeal.Value
public import Idealize.ShloMosaic.Lib.Pointwise

@[expose] public section

set_option maxRecDepth 16384

noncomputable section

namespace Cert.KXoutIdeal.Hand

open Cert.KXoutIdeal Cert.KXoutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- One entry of the normed row `x` under the gain `g`. -/
abbrev nrm (x : Fin 4096 → EReal) (g : EReal) (q : Fin 4096) : EReal :=
  x q * Ideal.rsqrt (Ideal.div (∑ k, x k * x k) (Ideal.ofBits FTy.f32 1166016512#32) + Ideal.ofBits FTy.f32 897988541#32) * g

theorem nrm_congr {x x' : Fin 4096 → EReal} {g g' : EReal} (q : Fin 4096) (hx : ∀ k, x k = x' k) (hg : g = g') :
    nrm x g q = nrm x' g' q := by
  rw [show x = x' from funext hx, hg]
/-- The block index of every window at every point of the grid. -/
theorem idx_facts : ∀ t : Fin cfg0.N,
    win0_0.index t 0 = t.val ∧ win0_0.index t 1 = 0 ∧ win0_1.index t 0 = 0
    ∧ win0_1.index t 1 = 0 ∧ win0_2.index t 0 = t.val ∧ win0_2.index t 1 = 0
    ∧ win0_3.index t 0 = 0 ∧ win0_3.index t 1 = 0 ∧ win0_4.index t 0 = t.val
    ∧ win0_4.index t 1 = 0 ∧ win0_5.index t 0 = t.val ∧ win0_5.index t 1 = 0 :=
  (by decide +kernel : ∀ t : Fin grid0.N,
    win0_0.index t 0 = t.val ∧ win0_0.index t 1 = 0 ∧ win0_1.index t 0 = 0
    ∧ win0_1.index t 1 = 0 ∧ win0_2.index t 0 = t.val ∧ win0_2.index t 1 = 0
    ∧ win0_3.index t 0 = 0 ∧ win0_3.index t 1 = 0 ∧ win0_4.index t 0 = t.val
    ∧ win0_4.index t 1 = 0 ∧ win0_5.index t 0 = t.val ∧ win0_5.index t 1 = 0)

/-- A row dropped to a vector and laid out as a row again. -/
theorem row_row (g : FVec Ideal S1x4096 .f32) (k : Fin 4096) :
    shapeCast S1x4096 (shapeCast S4096 g shapeCasts_S1x4096_S4096) shapeCasts_S4096_S1x4096 (ix2 (n0 := 1) 0 k) = g (ix2 (n0 := 1) 0 k) := by
  refine (shapeCast_apply _ _ _ (ix1 k) ?_).trans (shapeCast_apply _ _ _ _ ?_)
  · rw [Shape.rowMajor_val_one, Shape.rowMajor_val_two]
    show k.val = 0 * 4096 + k.val
    omega
  · rw [Shape.rowMajor_val_one, Shape.rowMajor_val_two]
    show 0 * 4096 + k.val = k.val
    omega

/-- The gain's row as the host lays it out. -/
theorem Vg (c : Dev nD) (k : Fin 4096) : V m c main_v1 (ix2 (n0 := 1) 0 k) = (m ((c : Thread nD τ).loc main_arg3)) (ix2 (n0 := 1) 0 k) := by
  have e : V m c main_v1 = shapeCast S1x4096 (shapeCast S4096 (m ((c : Thread nD τ).loc main_arg3)) shapeCasts_S1x4096_S4096) shapeCasts_S4096_S1x4096 := by
    unfold V
    after_results <;> rfl
  rw [e]
  exact row_row _ k

/-- One entry of the projection with its residual. -/
abbrev res (o : FVec Ideal S8192x1024 .bf16) (w : FVec Ideal S1024x4096 .bf16) (x : FVec Ideal S8192x4096 .f32) (r : Fin 8192) (q : Fin 4096) : EReal :=
  x (ix2 r q) + ∑ k : Fin 1024, o (ix2 r k) * w (ix2 k q)

/-- The projection with its residual, index by index. -/
def G (o : FVec Ideal S8192x1024 .bf16) (w : FVec Ideal S1024x4096 .bf16) (x : FVec Ideal S8192x4096 .f32) : FVec Ideal S8192x4096 .f32 :=
  fun i => res o w x (i 0) (i 1)

/-- The normed rows of the same, index by index. -/
def Gn (o : FVec Ideal S8192x1024 .bf16) (w : FVec Ideal S1024x4096 .bf16) (x : FVec Ideal S8192x4096 .f32) (g : FVec Ideal S1x4096 .f32) :
    FVec Ideal S8192x4096 .bf16 :=
  fun i => nrm (fun q => res o w x (i 0) q) (g (ix2 (n0 := 1) 0 (i 1))) (i 1)

theorem blk0 (c : Dev nD) (t : Fin cfg0.N) (j : S512x1024.Idx) (i : S8192x1024.Idx)
    (h0 : (i 0).val = t.val * 512 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 512 + 1 * (j 0).val = (i 0).val; rw [e0]; omega
  | ⟨1, _⟩ => show win0_0.index t 1 * 1024 + 1 * (j 1).val = (i 1).val; rw [e1]; omega

theorem blk1 (c : Dev nD) (t : Fin cfg0.N) (j : S1024x4096.Idx) (i : S1024x4096.Idx)
    (h0 : (i 0).val = (j 0).val) (h1 : (i 1).val = (j 1).val) :
    iblk m c 1 t j = m ((c : Thread nD τ).loc main_arg1) i := by
  obtain ⟨-, -, e0, e1, -⟩ := idx_facts t
  show m ((c : Thread nD τ).loc main_arg1) _ = _
  refine congrArg _ (funext fun a => Fin.ext ?_)
  match a with
  | ⟨0, _⟩ => show win0_1.index t 0 * 1024 + 1 * (j 0).val = (i 0).val; rw [e0]; omega
  | ⟨1, _⟩ => show win0_1.index t 1 * 4096 + 1 * (j 1).val = (i 1).val; rw [e1]; omega

theorem blk2 (c : Dev nD) (t : Fin cfg0.N) (j : S512x4096.Idx) (i : S8192x4096.Idx)
    (h0 : (i 0).val = t.val * 512 + (j 0).val) (h1 : (i 1).val = (j 1).val) :
    iblk m c 2 t j = m ((c : Thread nD τ).loc main_arg2) i := by
  obtain ⟨-, -, -, -, e0, e1, -⟩ := idx_facts t
  show m ((c : Thread nD τ).loc main_arg2) _ = _
  refine congrArg _ (funext fun a => Fin.ext ?_)
  match a with
  | ⟨0, _⟩ => show win0_2.index t 0 * 512 + 1 * (j 0).val = (i 0).val; rw [e0]; omega
  | ⟨1, _⟩ => show win0_2.index t 1 * 4096 + 1 * (j 1).val = (i 1).val; rw [e1]; omega

theorem blk3 (c : Dev nD) (t : Fin cfg0.N) (j : S1x4096.Idx) (i : S1x4096.Idx)
    (h0 : (i 0).val = (j 0).val) (h1 : (i 1).val = (j 1).val) :
    iblk m c 3 t j = V m c main_v1 i := by
  obtain ⟨-, -, -, -, -, -, e0, e1, -⟩ := idx_facts t
  show V m c main_v1 _ = _
  refine congrArg _ (funext fun a => Fin.ext ?_)
  match a with
  | ⟨0, _⟩ => show win0_3.index t 0 * 1 + 1 * (j 0).val = (i 0).val; rw [e0]; omega
  | ⟨1, _⟩ => show win0_3.index t 1 * 4096 + 1 * (j 1).val = (i 1).val; rw [e1]; omega

/-- Where an element of window 4's block sits in the array, axis 0. -/
theorem emb4_0 (t : Fin cfg0.N) (j : ((cfg0.win 4).xblock (grid0.coords t)).Idx) :
    ((win0_4.rect t).emb j 0).val = t.val * 512 + (j 0).val := by
  obtain ⟨-, -, -, -, -, -, -, -, e0, e1, -⟩ := idx_facts t
  rw [win0_4.rect_emb_val, e0]; rfl

/-- Where an element of window 4's block sits in the array, axis 1. -/
theorem emb4_1 (t : Fin cfg0.N) (j : ((cfg0.win 4).xblock (grid0.coords t)).Idx) :
    ((win0_4.rect t).emb j 1).val = (j 1).val := by
  obtain ⟨-, -, -, -, -, -, -, -, e0, e1, -⟩ := idx_facts t
  exact win0_4.rect_emb_val_of_index_zero t 1 e1 j

/-- Every index of the result lies in some point's block of window 4. -/
theorem cover4 (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : (i 0).val / 512 < cfg0.N := by
    show _ < grid0.N
    rw [N_0]; omega
  refine ⟨⟨_, hN⟩, flush0_4 _, ?_⟩
  obtain ⟨-, -, -, -, -, -, -, -, e0, e1, -⟩ := idx_facts ⟨_, hN⟩
  dsimp only at e0 e1
  show i ∈ ((View.whole main_v2_0).slice (win0_4.rect ⟨_, hN⟩)).set
  rw [View.set_slice_whole, Rect.mem_set_unit]
  intro a
  match a with
  | ⟨0, _⟩ =>
    show win0_4.index ⟨_, hN⟩ 0 * 512 ≤ (i 0).val ∧ (i 0).val < win0_4.index ⟨_, hN⟩ 0 * 512 + 512
    rw [e0]; omega
  | ⟨1, _⟩ =>
    show win0_4.index ⟨_, hN⟩ 1 * 4096 ≤ (i 1).val ∧ (i 1).val < win0_4.index ⟨_, hN⟩ 1 * 4096 + 4096
    rw [e1]; omega

/-- Where an element of window 5's block sits in the array, axis 0. -/
theorem emb5_0 (t : Fin cfg0.N) (j : ((cfg0.win 5).xblock (grid0.coords t)).Idx) :
    ((win0_5.rect t).emb j 0).val = t.val * 512 + (j 0).val := by
  obtain ⟨-, -, -, -, -, -, -, -, -, -, e0, e1⟩ := idx_facts t
  rw [win0_5.rect_emb_val, e0]; rfl

/-- Where an element of window 5's block sits in the array, axis 1. -/
theorem emb5_1 (t : Fin cfg0.N) (j : ((cfg0.win 5).xblock (grid0.coords t)).Idx) :
    ((win0_5.rect t).emb j 1).val = (j 1).val := by
  obtain ⟨-, -, -, -, -, -, -, -, -, -, e0, e1⟩ := idx_facts t
  exact win0_5.rect_emb_val_of_index_zero t 1 e1 j

/-- Every index of the result lies in some point's block of window 5. -/
theorem cover5 (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hN : (i 0).val / 512 < cfg0.N := by
    show _ < grid0.N
    rw [N_0]; omega
  refine ⟨⟨_, hN⟩, flush0_5 _, ?_⟩
  obtain ⟨-, -, -, -, -, -, -, -, -, -, e0, e1⟩ := idx_facts ⟨_, hN⟩
  dsimp only at e0 e1
  show i ∈ ((View.whole main_v2_1).slice (win0_5.rect ⟨_, hN⟩)).set
  rw [View.set_slice_whole, Rect.mem_set_unit]
  intro a
  match a with
  | ⟨0, _⟩ =>
    show win0_5.index ⟨_, hN⟩ 0 * 512 ≤ (i 0).val ∧ (i 0).val < win0_5.index ⟨_, hN⟩ 0 * 512 + 512
    rw [e0]; omega
  | ⟨1, _⟩ =>
    show win0_5.index ⟨_, hN⟩ 1 * 4096 ≤ (i 1).val ∧ (i 1).val < win0_5.index ⟨_, hN⟩ 1 * 4096 + 4096
    rw [e1]; omega

/-- One entry of a block's projection with its residual. -/
abbrev bres (x : Vec Ideal S512x4096 .f32) (o : Vec Ideal S512x1024 .bf16) (w : Vec Ideal S1024x4096 .bf16) (r : Fin 512) (q : Fin 4096) : EReal :=
  x (ix2 r q) + ∑ k : Fin 1024, o (ix2 r k) * w (ix2 k q)

/-- The payloads of the body's stores, at an index. -/
theorem pay1_apply (x : Vec Ideal S512x4096 .f32) (o : Vec Ideal S512x1024 .bf16) (w : Vec Ideal S1024x4096 .bf16) (j : S512x4096.Idx) :
    k0_pay1 x o w j = bres x o w (j 0) (j 1) := by
  idx_vars j
  pointwise [k0_pay1] <;> rfl
theorem pay2_apply (x : Vec Ideal S512x4096 .f32) (o : Vec Ideal S512x1024 .bf16) (w : Vec Ideal S1024x4096 .bf16) (g : Vec Ideal S1x4096 .f32) (j : S512x4096.Idx) :
    k0_pay2 x o w g j = nrm (fun q => bres x o w (j 0) q) (g (ix2 (n0 := 1) 0 (j 1))) (j 1) := by
  idx_vars j
  pointwise [k0_pay2, k0_pay1] <;> rfl

/-- The arrays of results of device `c`. -/
abbrev out (c : Dev nD) : Buf (Elt Ideal) ((c : Thread nD τ).loc main_v2_0) := G (m ((c : Thread nD τ).loc main_arg0)) (m ((c : Thread nD τ).loc main_arg1)) (m ((c : Thread nD τ).loc main_arg2))
abbrev outn (c : Dev nD) : Buf (Elt Ideal) ((c : Thread nD τ).loc main_v2_1) := Gn (m ((c : Thread nD τ).loc main_arg0)) (m ((c : Thread nD τ).loc main_arg1)) (m ((c : Thread nD τ).loc main_arg2)) (m ((c : Thread nD τ).loc main_arg3))

/-- An entry of a block's projection is an entry of the whole one. -/
theorem bres_eq (c : Dev nD) (t : Fin cfg0.N) (r : Fin 512) (q : Fin 4096) (i : Fin 8192) (hi : i.val = t.val * 512 + r.val) :
    bres (iblk m c 2 t) (iblk m c 0 t) (iblk m c 1 t) r q = res (m ((c : Thread nD τ).loc main_arg0)) (m ((c : Thread nD τ).loc main_arg1)) (m ((c : Thread nD τ).loc main_arg2)) i q := by
  refine congrArg₂ (· + ·) (blk2 m c t (ix2 r q) (ix2 i q) hi rfl) (Finset.sum_congr rfl fun k _ => congrArg₂ (· * ·) ?_ ?_)
  · exact blk0 m c t (ix2 r k) (ix2 i k) hi rfl
  · exact blk1 m c t (ix2 k q) (ix2 k q) rfl rfl

theorem flushed4_eq (c : Dev nD) (t : Fin cfg0.N) :
    (dats m 0 c).flushed 4 t = ((cfg0.win 4).blk t).view.read (Elt Ideal) (out m c) := by
  rw [Value.flushed4]
  unfold out0_4
  rw [View.canon_unit_zero hz, View.ld_unit_zero hz, View.ld_unit_zero hz, View.ld_unit_zero hz]
  funext j
  refine (pay1_apply _ _ _ j).trans ?_
  show _ = G _ _ _ ((win0_4.rect t).emb j)
  have r1 : (win0_4.rect t).emb j 1 = j 1 := Fin.ext (emb4_1 t j)
  unfold G
  rw [r1]
  exact bres_eq m c t (j 0) (j 1) _ (emb4_0 t j)

theorem flushed5_eq (c : Dev nD) (t : Fin cfg0.N) :
    (dats m 0 c).flushed 5 t = ((cfg0.win 5).blk t).view.read (Elt Ideal) (outn m c) := by
  rw [Value.flushed5]
  unfold out0_5
  rw [View.canon_unit_zero hz, View.ld_unit_zero hz, View.ld_unit_zero hz, View.ld_unit_zero hz, View.ld_unit_zero hz]
  funext j
  refine (pay2_apply _ _ _ _ j).trans ?_
  show _ = Gn _ _ _ _ ((win0_5.rect t).emb j)
  have r1 : (win0_5.rect t).emb j 1 = j 1 := Fin.ext (emb5_1 t j)
  unfold Gn
  rw [r1]
  refine nrm_congr _ (fun q => ?_) ?_
  · exact bres_eq m c t (j 0) q _ (emb5_0 t j)
  · exact (blk3 m c t (ix2 (n0 := 1) 0 (j 1)) (ix2 (n0 := 1) 0 (j 1)) rfl rfl).trans (Vg m c (j 1))

theorem final4 (c : Dev nD) : (dats m 0 c).arrAt 4 cfg0.N = out m c :=
  (dats m 0 c).arrAt_eq_of_cover 4 (out m c) (fun t _ => flushed4_eq m c t) cover4
theorem final5 (c : Dev nD) : (dats m 0 c).arrAt 5 cfg0.N = outn m c :=
  (dats m 0 c).arrAt_eq_of_cover 5 (outn m c) (fun t _ => flushed5_eq m c t) cover5

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v2_0) = out m c
      ∧ r.2.mem ((c : Thread nD τ).loc main_v2_1) = outn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

end Cert.KXoutIdeal.Hand

end
-- ==== Proof.XoutRef.lean ====
/-
  The reference's term for this call, index by index.
-/
module

public import proofs.«01_k».proof.Proof.Xout
public import proofs.«01_k».proof.Proof.Gen.RXoutIdeal

@[expose] public section

set_option maxRecDepth 16384

noncomputable section

namespace Cert.RXoutIdeal.Hand

open Cert.RXoutIdeal Cert.RXoutIdeal.Gen Idealize.ShloMosaic Idealize.ShloMosaic.TcCoe Idealize.SL.Sem

/-- A row dropped to a vector, index by index. -/
theorem row_vec (g : FVec Ideal S1x4096 .f32) (h : S1x4096.ShapeCasts S4096) :
    shapeCast S4096 g h = fun k => g (ix2 (n0 := 1) (n1 := 4096) 0 (k 0)) := by
  funext k
  refine shapeCast_apply _ _ _ _ ?_
  rw [Shape.rowMajor_val_one, Shape.rowMajor_val_two]
  show 0 * 4096 + (k 0).val = (k 0).val
  omega

/-- The reference's normed array, index by index. -/
theorem norm_apply (N : FVec Ideal S8192x4096 .f32) (g : FVec Ideal S1x4096 .f32) (r : Fin 8192) (q : Fin 4096) :
    (mulf (mulf N (broadcastInDim S8192x4096 ![0, 1] bcast_S8192x1_S8192x4096_0_1 (Host.rsqrt (addf (Host.divf (broadcastInDim S8192x1 ![0] bcast_S8192_S8192x1_0 (Host.reduceAdd (mulf N N) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast S4096 g shapeCasts_S1x4096_S4096)))) (ix2 r q) = Cert.KXoutIdeal.Hand.nrm (fun k => N (ix2 r k)) (g (ix2 (n0 := 1) (n1 := 4096) 0 q)) q := by
  rw [row_vec]
  pointwise [] <;> rfl

theorem ref_res (a0 : FVec Ideal S8192x1024 .bf16) (a1 : FVec Ideal S1024x4096 .bf16) (a2 : FVec Ideal S8192x4096 .f32) : addf a2 (Host.dotGeneral dot_S8192x1024_S1024x4096_S8192x4096_1_0_0_1_n_n none (extf .f32 a0 bitsLt_bf16_f32) (extf .f32 a1 bitsLt_bf16_f32)) = Cert.KXoutIdeal.Hand.G a0 a1 a2 := by
  funext i
  idx_vars i
  pointwise [Cert.KXoutIdeal.Hand.G] <;> rfl

theorem ref (a0 : FVec Ideal S8192x1024 .bf16) (a1 : FVec Ideal S1024x4096 .bf16) (a2 : FVec Ideal S8192x4096 .f32) (a3 : FVec Ideal S1x4096 .f32) : truncf .bf16 (mulf (mulf (addf a2 (Host.dotGeneral dot_S8192x1024_S1024x4096_S8192x4096_1_0_0_1_n_n none (extf .f32 a0 bitsLt_bf16_f32) (extf .f32 a1 bitsLt_bf16_f32))) (broadcastInDim S8192x4096 ![0, 1] bcast_S8192x1_S8192x4096_0_1 (Host.rsqrt (addf (Host.divf (broadcastInDim S8192x1 ![0] bcast_S8192_S8192x1_0 (Host.reduceAdd (mulf (addf a2 (Host.dotGeneral dot_S8192x1024_S1024x4096_S8192x4096_1_0_0_1_n_n none (extf .f32 a0 bitsLt_bf16_f32) (extf .f32 a1 bitsLt_bf16_f32))) (addf a2 (Host.dotGeneral dot_S8192x1024_S1024x4096_S8192x4096_1_0_0_1_n_n none (extf .f32 a0 bitsLt_bf16_f32) (extf .f32 a1 bitsLt_bf16_f32)))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast S4096 a3 shapeCasts_S1x4096_S4096)))) bitsLt_bf16_f32 = Cert.KXoutIdeal.Hand.Gn a0 a1 a2 a3 := by
  funext i
  have e : (mulf (mulf (addf a2 (Host.dotGeneral dot_S8192x1024_S1024x4096_S8192x4096_1_0_0_1_n_n none (extf .f32 a0 bitsLt_bf16_f32) (extf .f32 a1 bitsLt_bf16_f32))) (broadcastInDim S8192x4096 ![0, 1] bcast_S8192x1_S8192x4096_0_1 (Host.rsqrt (addf (Host.divf (broadcastInDim S8192x1 ![0] bcast_S8192_S8192x1_0 (Host.reduceAdd (mulf (addf a2 (Host.dotGeneral dot_S8192x1024_S1024x4096_S8192x4096_1_0_0_1_n_n none (extf .f32 a0 bitsLt_bf16_f32) (extf .f32 a1 bitsLt_bf16_f32))) (addf a2 (Host.dotGeneral dot_S8192x1024_S1024x4096_S8192x4096_1_0_0_1_n_n none (extf .f32 a0 bitsLt_bf16_f32) (extf .f32 a1 bitsLt_bf16_f32)))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast S4096 a3 shapeCasts_S1x4096_S4096)))) (ix2 (i 0) (i 1)) = _ := norm_apply _ a3 (i 0) (i 1)
  rw [ref_res] at e
  rw [ref_res]
  rw [ix2_eta] at e
  exact e

end Cert.RXoutIdeal.Hand

end
-- ==== Proof.XoutClaims.lean ====
/-
  The claims about `KXout`: the frames, and that the kernel over the extended reals computes the reference's function.
-/
module

public import proofs.«01_k».proof.Defs
public import proofs.«01_k».proof.Proof.Xout
public import proofs.«01_k».proof.Proof.XoutRef
public import proofs.«01_k».proof.Proof.Gen.KXout.Frame
public import proofs.«01_k».proof.Proof.Gen.RXoutIdeal.Run

@[expose] public section

set_option maxRecDepth 16384

noncomputable section

namespace Cert.Proof.Xout

open Idealize.ShloMosaic Idealize.ShloMosaic.TcCoe Idealize.SL.Sem

theorem frame_kernel : Cert.quiescent_KXout := fun m ρ _ => Cert.KXout.Gen.frame m ρ
theorem frame_ideal : Cert.quiescent_KXoutIdeal := fun m ρ _ => Cert.KXoutIdeal.Gen.frame m ρ
theorem frame_reference : Cert.quiescent_RXoutIdeal := fun m ρ _ =>
  (θ_run Cert.RXoutIdeal.defs _ _).mono (fun r h => ⟨fun c => (h c).2.2,
      Idealize.ShloMosaic.sem_eq_zero_of_no_sems (by decide) r.2⟩)
    (Cert.RXoutIdeal.Value.run (F := Ideal) m ρ)

theorem preserves : Cert.preserves_KXout_KXoutIdeal := trivial

/-- Over the extended reals the kernel's result arrays are the reference's. -/
theorem algebraic : Cert.algebraic_KXoutIdeal_RXoutIdeal := by
  intro m ρ m' ρ' _ hag
  refine ⟨fun c => KXoutIdeal.Hand.out m c, fun c => KXoutIdeal.Hand.outn m c, Cert.KXoutIdeal.Hand.run m ρ,
    (θ_run Cert.RXoutIdeal.defs _ _).mono (fun r h c => ?_) (Cert.RXoutIdeal.Value.run (F := Ideal) m' ρ')⟩
  obtain ⟨h0, h1, h2, h3⟩ := hag c
  refine ⟨(h c).1.trans ?_, (h c).2.1.trans ?_, (h c).2.2⟩
  · rw [h0, h1, h2]
    exact Cert.RXoutIdeal.Hand.ref_res _ _ _
  · rw [h0, h1, h2, h3]
    exact Cert.RXoutIdeal.Hand.ref _ _ _ _

end Cert.Proof.Xout

end
-- ==== Proof.XattnMath.lean ====
/-
  The softmax as one division at the end, and as one division of every weight: equal where the logits are real.
-/
module

public import Idealize.ShloMosaic.Lib.Pointwise
public import Idealize.ShloMosaic.PureOps.Ideal

@[expose] public section

noncomputable section

namespace Cert.Softmax

open Idealize.ShloMosaic

/-- A real factor that is not negative goes into a sum. -/
theorem sum_mul_of_nonneg {n : Nat} (c : EReal) (h0 : 0 ≤ c) (ht : c ≠ ⊤) (f : Fin n → EReal) (s : Finset (Fin n)) :
    (∑ k ∈ s, f k) * c = ∑ k ∈ s, f k * c := by
  induction s using Finset.induction_on with
  | empty => simp
  | insert a s ha ih => rw [Finset.sum_insert ha, Finset.sum_insert ha, EReal.right_distrib_of_nonneg_of_ne_top h0 ht, ih]

/-- A finite sum of reals is real. -/
theorem coe_sum {n : Nat} (f : Fin n → ℝ) (s : Finset (Fin n)) : ∑ k ∈ s, ((f k : ℝ) : EReal) = ((∑ k ∈ s, f k : ℝ) : EReal) := by
  induction s using Finset.induction_on with
  | empty => simp
  | insert a s ha ih => rw [Finset.sum_insert ha, Finset.sum_insert ha, ih, EReal.coe_add]

/-- The largest of real logits is real. -/
theorem fold_max_real {n : Nat} (l : Fin (n + 1) → EReal) (hl : ∀ k, l k ≠ ⊤ ∧ l k ≠ ⊥) :
    ∃ r : ℝ, Finset.fold max ⊥ l Finset.univ = (r : EReal) := by
  have h1 : Finset.fold max ⊥ l Finset.univ ≠ ⊤ :=
    ne_of_lt ((Finset.fold_max_lt _).mpr ⟨bot_lt_top, fun k _ => lt_top_iff_ne_top.mpr (hl k).1⟩)
  have h2 : Finset.fold max ⊥ l Finset.univ ≠ ⊥ :=
    ne_of_gt ((Finset.lt_fold_max _).mpr (Or.inr ⟨0, Finset.mem_univ _, bot_lt_iff_ne_bot.mpr (hl 0).2⟩))
  exact ⟨_, (EReal.coe_toReal h1 h2).symm⟩

/-- Dividing the weighted sum by the weights' sum is summing by the divided weights. -/
theorem softmax_eq {n : Nat} (c : EReal) (hc : c = ⊥) (l v : Fin (n + 1) → EReal) (hl : ∀ k, l k ≠ ⊤ ∧ l k ≠ ⊥) :
    Ideal.div (∑ k, Ideal.exp (l k - Finset.fold max c l Finset.univ) * v k) (∑ k, Ideal.exp (l k - Finset.fold max c l Finset.univ))
      = ∑ k, v k * Ideal.div (Ideal.exp (l k - max c (Finset.fold max c l Finset.univ)))
          (∑ x, Ideal.exp (l x - max c (Finset.fold max c l Finset.univ))) := by
  subst hc
  rw [max_eq_right (bot_le : (⊥ : EReal) ≤ _)]
  obtain ⟨M, hM⟩ := fold_max_real l hl
  rw [hM]
  have hy : ∀ k, ∃ y : ℝ, l k = (y : EReal) := fun k => ⟨_, (EReal.coe_toReal (hl k).1 (hl k).2).symm⟩
  choose y hy using hy
  have he : ∀ k, Ideal.exp (l k - (M : EReal)) = ((Real.exp (y k - M) : ℝ) : EReal) := by
    intro k
    rw [hy k, ← EReal.coe_sub, Ideal.exp_coe]
  simp only [he]
  rw [coe_sum]
  have hd : 0 < ∑ k, Real.exp (y k - M) := Finset.sum_pos (fun k _ => Real.exp_pos _) ⟨0, Finset.mem_univ _⟩
  rw [Ideal.div_coe hd.ne', sum_mul_of_nonneg _ (EReal.coe_nonneg.mpr (by positivity)) (EReal.coe_ne_top _)]
  refine Finset.sum_congr rfl fun k _ => ?_
  rw [Ideal.div_coe hd.ne', mul_comm (v k), mul_assoc, mul_assoc, mul_comm (v k)]

/-- A sum of products of reals, times a real, is real. -/
theorem dot_real {n : Nat} (a b : Fin n → EReal) (s : EReal) (ha : ∀ k, a k ≠ ⊤ ∧ a k ≠ ⊥) (hb : ∀ k, b k ≠ ⊤ ∧ b k ≠ ⊥) (hs : ∃ r : ℝ, s = (r : EReal)) :
    (∑ k, a k * b k) * s ≠ ⊤ ∧ (∑ k, a k * b k) * s ≠ ⊥ := by
  obtain ⟨r, rfl⟩ := hs
  have h1 : ∀ k, ∃ y : ℝ, a k = (y : EReal) := fun k => ⟨_, (EReal.coe_toReal (ha k).1 (ha k).2).symm⟩
  have h2 : ∀ k, ∃ y : ℝ, b k = (y : EReal) := fun k => ⟨_, (EReal.coe_toReal (hb k).1 (hb k).2).symm⟩
  choose p hp using h1
  choose q hq using h2
  have e : ∀ k, a k * b k = ((p k * q k : ℝ) : EReal) := fun k => by rw [hp k, hq k, EReal.coe_mul]
  simp only [e]
  rw [coe_sum, ← EReal.coe_mul]
  exact ⟨EReal.coe_ne_top _, EReal.coe_ne_bot _⟩

/-- An extended real whose absolute value is below +∞ is real. -/
theorem finite_of_abs (x : EReal) (h : max x (-x) < ⊤) : x ≠ ⊤ ∧ x ≠ ⊥ := by
  refine ⟨?_, ?_⟩
  · rintro rfl
    simp at h
  · rintro rfl
    simp at h

theorem neg_inf : Ideal.ofBits FTy.f32 4286578688#32 = ⊥ := by simp [Ideal.ofBits, Ideal.ieee]
theorem pos_inf : Ideal.ofBits FTy.f32 2139095040#32 = ⊤ := by simp [Ideal.ofBits, Ideal.ieee]
theorem sixteenth : ∃ r : ℝ, Ideal.ofBits FTy.f32 1031798784#32 = (r : EReal) := ⟨_, by simp [Ideal.ofBits, Ideal.ieee]; rfl⟩

end Cert.Softmax

end
-- ==== Proof.Xattn.lean ====
/-
  The value of the memory cross-attention: every block the kernel writes is, head by head of 256 columns, the sum of the values
  weighted by the exponentials of the logits less their largest, divided by the weights' sum.
-/
module

public import proofs.«01_k».proof.Proof.Gen.KXattnIdeal.Value
public import Idealize.ShloMosaic.Lib.Pointwise
public import proofs.«01_k».proof.Proof.XattnMath

@[expose] public section

set_option maxRecDepth 16384

noncomputable section

namespace Cert.KXattnIdeal.Hand

open Cert.KXattnIdeal Cert.KXattnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The attention of one query over the memory: its logits `l`, one column `v` of the values. -/
def att (l v : Fin 256 → EReal) : EReal :=
  Ideal.div (∑ x, Ideal.exp (l x - Finset.fold max (Ideal.ofBits FTy.f32 4286578688#32) l Finset.univ) * v x)
    (∑ x, Ideal.exp (l x - Finset.fold max (Ideal.ofBits FTy.f32 4286578688#32) l Finset.univ))

/-- The logits of one query `q` against the keys `k`. -/
abbrev lgt (q : Fin 256 → EReal) (k : Fin 256 → Fin 256 → EReal) (x : Fin 256) : EReal :=
  (∑ e, q e * k x e) * Ideal.ofBits FTy.f32 1031798784#32

theorem att_congr {q q' : Fin 256 → EReal} {k k' : Fin 256 → Fin 256 → EReal} {v v' : Fin 256 → EReal}
    (hq : ∀ e, q e = q' e) (hk : ∀ x e, k x e = k' x e) (hv : ∀ x, v x = v' x) : att (lgt q k) v = att (lgt q' k') v' := by
  rw [show q = q' from funext hq, show k = k' from funext fun x => funext fun e => hk x e, show v = v' from funext hv]

/-- Column `e` of the head column `w` lies in. -/
abbrev hcol (w : Fin 1024) (e : Fin 256) : Fin 1024 := ⟨w.val / 256 * 256 + e.val, by omega⟩

/-- The attention, index by index. -/
def G (q : FVec Ideal S4x2048x1024 .bf16) (k v : FVec Ideal S4x256x1024 .bf16) : FVec Ideal S4x2048x1024 .bf16 :=
  fun i => att (lgt (fun e => q (ix3 (i 0) (i 1) (hcol (i 2) e))) (fun x e => k (ix3 (i 0) x (hcol (i 2) e)))) (fun x => v (ix3 (i 0) x (i 2)))
/-- The block index of every window at every point of the grid. -/
theorem idx_facts : ∀ t : Fin cfg0.N,
    win0_0.index t 0 = t.val / 2 ∧ win0_0.index t 1 = t.val % 2 ∧ win0_0.index t 2 = 0
    ∧ win0_1.index t 0 = t.val / 2 ∧ win0_1.index t 1 = 0 ∧ win0_1.index t 2 = 0
    ∧ win0_2.index t 0 = t.val / 2 ∧ win0_2.index t 1 = 0 ∧ win0_2.index t 2 = 0
    ∧ win0_3.index t 0 = t.val / 2 ∧ win0_3.index t 1 = t.val % 2 ∧ win0_3.index t 2 = 0 :=
  (by decide +kernel : ∀ t : Fin grid0.N,
    win0_0.index t 0 = t.val / 2 ∧ win0_0.index t 1 = t.val % 2 ∧ win0_0.index t 2 = 0
    ∧ win0_1.index t 0 = t.val / 2 ∧ win0_1.index t 1 = 0 ∧ win0_1.index t 2 = 0
    ∧ win0_2.index t 0 = t.val / 2 ∧ win0_2.index t 1 = 0 ∧ win0_2.index t 2 = 0
    ∧ win0_3.index t 0 = t.val / 2 ∧ win0_3.index t 1 = t.val % 2 ∧ win0_3.index t 2 = 0)

theorem blk0 (c : Dev nD) (t : Fin cfg0.N) (j : S1x1024x1024.Idx) (i : S4x2048x1024.Idx)
    (h0 : (i 0).val = t.val / 2 * 1 + (j 0).val) (h1 : (i 1).val = t.val % 2 * 1024 + (j 1).val) (h2 : (i 2).val = (j 2).val) :
    iblk m c 0 t j = m ((c : Thread nD τ).loc main_arg0) i := by
  obtain ⟨e0, e1, e2, -⟩ := idx_facts t
  show m ((c : Thread nD τ).loc main_arg0) _ = _
  refine congrArg _ (funext fun a => Fin.ext ?_)
  match a with
  | ⟨0, _⟩ => show win0_0.index t 0 * 1 + 1 * (j 0).val = (i 0).val; rw [e0]; omega
  | ⟨1, _⟩ => show win0_0.index t 1 * 1024 + 1 * (j 1).val = (i 1).val; rw [e1]; omega
  | ⟨2, _⟩ => show win0_0.index t 2 * 1024 + 1 * (j 2).val = (i 2).val; rw [e2]; omega

theorem blk1 (c : Dev nD) (t : Fin cfg0.N) (j : S1x256x1024.Idx) (i : S4x256x1024.Idx)
    (h0 : (i 0).val = t.val / 2 * 1 + (j 0).val) (h1 : (i 1).val = (j 1).val) (h2 : (i 2).val = (j 2).val) :
    iblk m c 1 t j = m ((c : Thread nD τ).loc main_arg1) i := by
  obtain ⟨-, -, -, e0, e1, e2, -⟩ := idx_facts t
  show m ((c : Thread nD τ).loc main_arg1) _ = _
  refine congrArg _ (funext fun a => Fin.ext ?_)
  match a with
  | ⟨0, _⟩ => show win0_1.index t 0 * 1 + 1 * (j 0).val = (i 0).val; rw [e0]; omega
  | ⟨1, _⟩ => show win0_1.index t 1 * 256 + 1 * (j 1).val = (i 1).val; rw [e1]; omega
  | ⟨2, _⟩ => show win0_1.index t 2 * 1024 + 1 * (j 2).val = (i 2).val; rw [e2]; omega

theorem blk2 (c : Dev nD) (t : Fin cfg0.N) (j : S1x256x1024.Idx) (i : S4x256x1024.Idx)
    (h0 : (i 0).val = t.val / 2 * 1 + (j 0).val) (h1 : (i 1).val = (j 1).val) (h2 : (i 2).val = (j 2).val) :
    iblk m c 2 t j = m ((c : Thread nD τ).loc main_arg2) i := by
  obtain ⟨-, -, -, -, -, -, e0, e1, e2, -⟩ := idx_facts t
  show m ((c : Thread nD τ).loc main_arg2) _ = _
  refine congrArg _ (funext fun a => Fin.ext ?_)
  match a with
  | ⟨0, _⟩ => show win0_2.index t 0 * 1 + 1 * (j 0).val = (i 0).val; rw [e0]; omega
  | ⟨1, _⟩ => show win0_2.index t 1 * 256 + 1 * (j 1).val = (i 1).val; rw [e1]; omega
  | ⟨2, _⟩ => show win0_2.index t 2 * 1024 + 1 * (j 2).val = (i 2).val; rw [e2]; omega

/-- The array of results of device `c`. -/
abbrev out (c : Dev nD) : Buf (Elt Ideal) ((c : Thread nD τ).loc main_v0) := G (m ((c : Thread nD τ).loc main_arg0)) (m ((c : Thread nD τ).loc main_arg1)) (m ((c : Thread nD τ).loc main_arg2))

/-- Where an element of window 3's block sits in the array, axis 0. -/
theorem emb3_0 (t : Fin cfg0.N) (j : ((cfg0.win 3).xblock (grid0.coords t)).Idx) :
    ((win0_3.rect t).emb j 0).val = t.val / 2 * 1 + (j 0).val := by
  obtain ⟨-, -, -, -, -, -, -, -, -, e0, e1, e2⟩ := idx_facts t
  rw [win0_3.rect_emb_val, e0]; rfl

/-- Where an element of window 3's block sits in the array, axis 1. -/
theorem emb3_1 (t : Fin cfg0.N) (j : ((cfg0.win 3).xblock (grid0.coords t)).Idx) :
    ((win0_3.rect t).emb j 1).val = t.val % 2 * 1024 + (j 1).val := by
  obtain ⟨-, -, -, -, -, -, -, -, -, e0, e1, e2⟩ := idx_facts t
  rw [win0_3.rect_emb_val, e1]; rfl

/-- Where an element of window 3's block sits in the array, axis 2. -/
theorem emb3_2 (t : Fin cfg0.N) (j : ((cfg0.win 3).xblock (grid0.coords t)).Idx) :
    ((win0_3.rect t).emb j 2).val = (j 2).val := by
  obtain ⟨-, -, -, -, -, -, -, -, -, e0, e1, e2⟩ := idx_facts t
  exact win0_3.rect_emb_val_of_index_zero t 2 e2 j

/-- Every index of the result lies in some point's block of window 3. -/
theorem cover3 (i : S4x2048x1024.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  have hN : (i 0).val * 2 + (i 1).val / 1024 < cfg0.N := by
    show _ < grid0.N
    rw [N_0]; omega
  refine ⟨⟨_, hN⟩, flush0_3 _, ?_⟩
  obtain ⟨-, -, -, -, -, -, -, -, -, e0, e1, e2⟩ := idx_facts ⟨_, hN⟩
  dsimp only at e0 e1 e2
  show i ∈ ((View.whole main_v0).slice (win0_3.rect ⟨_, hN⟩)).set
  rw [View.set_slice_whole, Rect.mem_set_unit]
  intro a
  match a with
  | ⟨0, _⟩ =>
    show win0_3.index ⟨_, hN⟩ 0 * 1 ≤ (i 0).val ∧ (i 0).val < win0_3.index ⟨_, hN⟩ 0 * 1 + 1
    rw [e0]; omega
  | ⟨1, _⟩ =>
    show win0_3.index ⟨_, hN⟩ 1 * 1024 ≤ (i 1).val ∧ (i 1).val < win0_3.index ⟨_, hN⟩ 1 * 1024 + 1024
    rw [e1]; omega
  | ⟨2, _⟩ =>
    show win0_3.index ⟨_, hN⟩ 2 * 1024 ≤ (i 2).val ∧ (i 2).val < win0_3.index ⟨_, hN⟩ 2 * 1024 + 1024
    rw [e2]; omega

/-- One head of one block, at an index. -/
theorem head_apply (q : Vec Ideal S1x1024x256 .bf16) (k v : Vec Ideal S1x256x256 .bf16) (r : Fin 1024) (d : Fin 256) :
    k0_pay3 q k v (ix3 (n0 := 1) 0 r d) = att (lgt (fun e => q (ix3 (n0 := 1) 0 r e)) (fun x e => k (ix3 (n0 := 1) 0 x e))) (fun x => v (ix3 (n0 := 1) 0 x d)) := by
  pointwise [k0_pay3] <;> rfl

/-! The other heads' stores write the same function of their blocks. -/
theorem head3 (q : Vec Ideal S1x1024x256 .bf16) (k v : Vec Ideal S1x256x256 .bf16) : k0_pay2 q k v = k0_pay3 q k v := rfl
theorem head2 (q : Vec Ideal S1x1024x256 .bf16) (k v : Vec Ideal S1x256x256 .bf16) : k0_pay1 (k0_pay6 q k v) = k0_pay3 q k v := rfl
theorem head1 (q : Vec Ideal S1x1024x256 .bf16) (k v : Vec Ideal S1x256x256 .bf16) : k0_pay5 (k0_pay4 q k) v = k0_pay3 q k v := rfl

/-- One head, written at its place, is that part of the whole result's block. -/
theorem piece (c : Dev nD) (t : Fin cfg0.N) (o γ : Nat) (ho : o = 256 * γ) (hg : γ < 4)
    (iq : ∀ a, (![0, 0, o] : Fin 3 → Nat) a + S1x1024x256.size a ≤ S1x1024x1024.size a)
    (ik : ∀ a, (![0, 0, o] : Fin 3 → Nat) a + S1x256x256.size a ≤ S1x256x1024.size a) (x : S1x1024x256.Idx) :
    k0_pay3 (View.ld (iblk m c 0 t) (Rect.unit (s := S1x1024x1024) ![0, 0, o] S1x1024x256.size iq))
      (View.ld (iblk m c 1 t) (Rect.unit (s := S1x256x1024) ![0, 0, o] S1x256x256.size ik))
      (View.ld (iblk m c 2 t) (Rect.unit (s := S1x256x1024) ![0, 0, o] S1x256x256.size ik)) x
    = out m c ((win0_3.rect t).emb ((Rect.unit (s := S1x1024x1024) ![0, 0, o] S1x1024x256.size iq).idx x)) := by
  obtain ⟨r, d, rfl⟩ : ∃ (r : Fin 1024) (d : Fin 256), x = ix3 (n0 := 1) 0 r d :=
    ⟨x 1, x 2, funext fun a => match a with | ⟨0, _⟩ => Fin.ext (by have h : (x 0).val < 1 := (x 0).isLt; show (x 0).val = 0; omega) | ⟨1, _⟩ => rfl | ⟨2, _⟩ => rfl⟩
  have hd := d.isLt
  have r0 : ((win0_3.rect t).emb ((Rect.unit (s := S1x1024x1024) ![0, 0, o] S1x1024x256.size iq).idx (ix3 (n0 := 1) 0 r d)) 0).val = t.val / 2 * 1 + (0 + 1 * 0) := emb3_0 t _
  have r1 : ((win0_3.rect t).emb ((Rect.unit (s := S1x1024x1024) ![0, 0, o] S1x1024x256.size iq).idx (ix3 (n0 := 1) 0 r d)) 1).val = t.val % 2 * 1024 + (0 + 1 * r.val) := emb3_1 t _
  have r2 : ((win0_3.rect t).emb ((Rect.unit (s := S1x1024x1024) ![0, 0, o] S1x1024x256.size iq).idx (ix3 (n0 := 1) 0 r d)) 2).val = o + 1 * d.val := emb3_2 t _
  generalize (win0_3.rect t).emb ((Rect.unit (s := S1x1024x1024) ![0, 0, o] S1x1024x256.size iq).idx (ix3 (n0 := 1) 0 r d)) = i at r0 r1 r2
  refine (head_apply _ _ _ r d).trans (att_congr (fun e => ?_) (fun x e => ?_) (fun x => ?_))
  · refine blk0 m c t _ (ix3 (i 0) (i 1) (hcol (i 2) e)) ?_ ?_ ?_
    · show (i 0).val = t.val / 2 * 1 + (0 + 1 * 0)
      omega
    · show (i 1).val = t.val % 2 * 1024 + (0 + 1 * r.val)
      omega
    · show (i 2).val / 256 * 256 + e.val = o + 1 * e.val
      omega
  · refine blk1 m c t _ (ix3 (i 0) x (hcol (i 2) e)) ?_ ?_ ?_
    · show (i 0).val = t.val / 2 * 1 + (0 + 1 * 0)
      omega
    · show x.val = 0 + 1 * x.val
      omega
    · show (i 2).val / 256 * 256 + e.val = o + 1 * e.val
      omega
  · refine blk2 m c t _ (ix3 (i 0) x (i 2)) ?_ ?_ ?_
    · show (i 0).val = t.val / 2 * 1 + (0 + 1 * 0)
      omega
    · show x.val = 0 + 1 * x.val
      omega
    · show (i 2).val = o + 1 * d.val
      omega

/-- What a point leaves in its block of the result. -/
theorem block3 (c : Dev nD) (t : Fin cfg0.N) (y : S1x1024x1024.Idx) :
    out0_3 (iblk m c 0 t) (iblk m c 1 t) (iblk m c 2 t) y = out m c ((win0_3.rect t).emb y) := by
  unfold out0_3
  refine View.canon_apply_of_pieces (fun y : S1x1024x1024.Idx => out m c ((win0_3.rect t).emb y)) _ ?_ y (cover0_3 _ _ _ _ y)
  intro pc hpc
  rcases List.mem_cons.mp hpc with rfl | hpc
  · exact fun x => (congrFun (head3 _ _ _) x).trans (piece m c t 768 3 (by decide) (by decide) inb_S1x1024x1024_S1x1024x256_0_0_768 inb_S1x256x1024_S1x256x256_0_0_768 x)
  rcases List.mem_cons.mp hpc with rfl | hpc
  · exact fun x => (congrFun (head2 _ _ _) x).trans (piece m c t 512 2 (by decide) (by decide) inb_S1x1024x1024_S1x1024x256_0_0_512 inb_S1x256x1024_S1x256x256_0_0_512 x)
  rcases List.mem_cons.mp hpc with rfl | hpc
  · exact fun x => (congrFun (head1 _ _ _) x).trans (piece m c t 256 1 (by decide) (by decide) inb_S1x1024x1024_S1x1024x256_0_0_256 inb_S1x256x1024_S1x256x256_0_0_256 x)
  rcases List.mem_cons.mp hpc with rfl | hpc
  · exact fun x => (piece m c t 0 0 (by decide) (by decide) inb_S1x1024x1024_S1x1024x256_0_0_0 inb_S1x256x1024_S1x256x256_0_0_0 x)
  nomatch hpc

/-- What a point writes back is its block of the whole result. -/
theorem flushed3_eq (c : Dev nD) (t : Fin cfg0.N) :
    (dats m 0 c).flushed 3 t = ((cfg0.win 3).blk t).view.read (Elt Ideal) (out m c) := by
  rw [Value.flushed3]
  funext j
  exact block3 m c t j

theorem final3 (c : Dev nD) : (dats m 0 c).arrAt 3 cfg0.N = out m c :=
  (dats m 0 c).arrAt_eq_of_cover 3 (out m c) (fun t _ => flushed3_eq m c t) cover3

/-- The run: the result array at the whole-array function, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2)) :=
  (θ_run defs _ _).mono (fun _ h c => ⟨(h c).1.trans (final3 m c), (h c).2⟩) (Value.run_blocks m ρ)

end Cert.KXattnIdeal.Hand

end
-- ==== Proof.XattnRef.lean ====
/-
  The reference of the memory cross-attention, index by index, and that it is the kernel's function where the queries and the keys
  are finite.
-/
module

public import proofs.«01_k».proof.Proof.Xattn
public import proofs.«01_k».proof.Proof.Gen.RXattnIdeal
public import proofs.«01_k».proof.Proof.Gen.Pre_finite_queries_and_keys

@[expose] public section

set_option maxRecDepth 16384

noncomputable section

namespace Cert.RXattnIdeal.Hand

open Cert.RXattnIdeal Cert.RXattnIdeal.Gen Idealize.ShloMosaic Idealize.ShloMosaic.TcCoe Idealize.SL.Sem

open Cert.KXattnIdeal.Hand (att lgt hcol G)

/-- The logits. -/
def rL (q : FVec Ideal S4x2048x4x256 .f32) (k : FVec Ideal S4x256x4x256 .f32) : FVec Ideal S4x4x2048x256 .f32 := mulf (Host.dotGeneral dot_S4x2048x4x256_S4x256x4x256_S4x4x2048x256_3_3_1_1_02_02 none q k) (broadcastInDim S4x4x2048x256 ![] bcast_S_S4x4x2048x256 (constant S_ .f32 0x3D800000#32))
/-- The largest logit of every query. -/
def rM (L : FVec Ideal S4x4x2048x256 .f32) : FVec Ideal S4x4x2048 .f32 := maximumf (broadcastInDim S4x4x2048 ![] bcast_S_S4x4x2048 (constant S_ .f32 0xFF800000#32)) (Host.reduce FloatOps.maximumf L (constant S_ .f32 0xFF800000#32) reducesTo_S4x4x2048x256_S4x4x2048_d3 h_S_)
/-- The exponentials. -/
def rE (L : FVec Ideal S4x4x2048x256 .f32) (M : FVec Ideal S4x4x2048 .f32) : FVec Ideal S4x4x2048x256 .f32 := Host.exp (subf L (broadcastInDim S4x4x2048x256 ![0, 1, 2, 3] bcast_S4x4x2048x1_S4x4x2048x256_0_1_2_3 (broadcastInDim S4x4x2048x1 ![0, 1, 2] bcast_S4x4x2048_S4x4x2048x1_0_1_2 M)))
/-- The weights. -/
def rP (E : FVec Ideal S4x4x2048x256 .f32) : FVec Ideal S4x4x2048x256 .f32 := Host.divf E (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd E (constant S_ .f32 0x00000000#32) reducesTo_S4x4x2048x256_S4x4x2048_d3 h_S_)))
/-- The weighted sums. -/
def rO (v : FVec Ideal S4x256x4x256 .f32) (P : FVec Ideal S4x4x2048x256 .f32) : FVec Ideal S4x4x256x2048 .f32 := Host.dotGeneral dot_S4x256x4x256_S4x4x2048x256_S4x4x256x2048_1_3_3_2_02_01 none v P
/-- The heads side by side. -/
def rF (O : FVec Ideal S4x4x256x2048 .f32) : FVec Ideal S4x2048x1024 .bf16 := truncf .bf16 (shapeCast S4x2048x1024 (transpose S4x2048x4x256 [0, 3, 1, 2] O transposes_S4x4x256x2048_S4x2048x4x256_0_3_1_2) shapeCasts_S4x2048x4x256_S4x2048x1024) bitsLt_bf16_f32

theorem rL_apply (q : FVec Ideal S4x2048x4x256 .f32) (k : FVec Ideal S4x256x4x256 .f32) (b h : Fin 4) (s : Fin 2048) (x : Fin 256) :
    rL q k (ix4 b h s x) = (∑ e : Fin 256, q (ix4 b s h e) * k (ix4 b x h e)) * Ideal.ofBits FTy.f32 1031798784#32 := by
  pointwise [rL] <;> rfl

/-- The largest along the last axis, over any shape. -/
theorem red_max {n0 n1 n2 n3 : Nat} (L : FVec Ideal ⟨4, ![n0, n1, n2, n3]⟩ .f32) (z : FVec Ideal S_ .f32) (h : (⟨4, ![n0, n1, n2, n3]⟩ : Shape).ReducesTo [3] ⟨3, ![n0, n1, n2]⟩)
    (hu : 0 < S_.numel) (b : Fin n0) (g : Fin n1) (s : Fin n2) :
    Host.reduce FloatOps.maximumf L z h hu (ix3 b g s) = Finset.fold max (z (Shape.Idx.first hu)) (fun x : Fin n3 => L (ix4 b g s x)) Finset.univ := by
  pointwise <;> rfl

/-- The same against the start value once more. -/
theorem max_at {n0 n1 n2 n3 : Nat} (L : FVec Ideal ⟨4, ![n0, n1, n2, n3]⟩ .f32) (h : (⟨4, ![n0, n1, n2, n3]⟩ : Shape).ReducesTo [3] ⟨3, ![n0, n1, n2]⟩)
    (hu : 0 < S_.numel) (hb : S_.BroadcastsInDim ⟨3, ![n0, n1, n2]⟩ (![] : Fin 0 → Fin 3)) (b : Fin n0) (g : Fin n1) (s : Fin n2) :
    maximumf (broadcastInDim ⟨3, ![n0, n1, n2]⟩ ![] hb (constant (F := Ideal) S_ .f32 0xFF800000#32)) (Host.reduce FloatOps.maximumf L (constant S_ .f32 0xFF800000#32) h hu) (ix3 b g s)
    = max (Ideal.ofBits FTy.f32 4286578688#32) (Finset.fold max (Ideal.ofBits FTy.f32 4286578688#32) (fun x : Fin n3 => L (ix4 b g s x)) Finset.univ) :=
  congrArg (max (Ideal.ofBits FTy.f32 4286578688#32)) (red_max L _ h hu b g s)

theorem rM_apply (L : FVec Ideal S4x4x2048x256 .f32) (b h : Fin 4) (s : Fin 2048) :
    rM L (ix3 b h s) = max (Ideal.ofBits FTy.f32 4286578688#32) (Finset.fold max (Ideal.ofBits FTy.f32 4286578688#32) (fun x : Fin 256 => L (ix4 b h s x)) Finset.univ) := by
  unfold rM
  exact max_at (n0 := 4) (n1 := 4) (n2 := 2048) (n3 := 256) L reducesTo_S4x4x2048x256_S4x4x2048_d3 h_S_ bcast_S_S4x4x2048 b h s

theorem rE_apply (L : FVec Ideal S4x4x2048x256 .f32) (M : FVec Ideal S4x4x2048 .f32) (b h : Fin 4) (s : Fin 2048) (x : Fin 256) :
    rE L M (ix4 b h s x) = Ideal.exp (L (ix4 b h s x) - M (ix3 b h s)) := by
  pointwise [rE] <;> rfl

theorem rP_apply (E : FVec Ideal S4x4x2048x256 .f32) (b h : Fin 4) (s : Fin 2048) (x : Fin 256) :
    rP E (ix4 b h s x) = Ideal.div (E (ix4 b h s x)) (∑ y : Fin 256, E (ix4 b h s y)) := by
  pointwise [rP] <;> rfl

theorem rO_apply (v : FVec Ideal S4x256x4x256 .f32) (P : FVec Ideal S4x4x2048x256 .f32) (b h : Fin 4) (d : Fin 256) (s : Fin 2048) :
    rO v P (ix4 b h d s) = ∑ x : Fin 256, v (ix4 b x h d) * P (ix4 b h s x) := by
  pointwise [rO] <;> rfl

/-- A column's head, and its place there. -/
abbrev hd (w : Fin 1024) : Fin 4 := ⟨w.val / 256, by omega⟩
abbrev pl (w : Fin 1024) : Fin 256 := ⟨w.val % 256, by omega⟩
/-- The column of a head at a place. -/
abbrev at' (h : Fin 4) (e : Fin 256) : Fin 1024 := ⟨h.val * 256 + e.val, by omega⟩

theorem q4_apply (q : FVec Ideal S4x2048x1024 .f32) (b : Fin 4) (s : Fin 2048) (h : Fin 4) (e : Fin 256) :
    shapeCast S4x2048x4x256 q shapeCasts_S4x2048x1024_S4x2048x4x256 (ix4 b s h e) = q (ix3 b s (at' h e)) := by
  refine shapeCast_apply _ _ _ _ ?_
  rw [Shape.rowMajor_val_three, Shape.rowMajor_val_four]
  show (b.val * 2048 + s.val) * 1024 + (h.val * 256 + e.val) = ((b.val * 2048 + s.val) * 4 + h.val) * 256 + e.val
  omega

theorem k4_apply (k : FVec Ideal S4x256x1024 .f32) (b : Fin 4) (x : Fin 256) (h : Fin 4) (e : Fin 256) :
    shapeCast S4x256x4x256 k shapeCasts_S4x256x1024_S4x256x4x256 (ix4 b x h e) = k (ix3 b x (at' h e)) := by
  refine shapeCast_apply _ _ _ _ ?_
  rw [Shape.rowMajor_val_three, Shape.rowMajor_val_four]
  show (b.val * 256 + x.val) * 1024 + (h.val * 256 + e.val) = ((b.val * 256 + x.val) * 4 + h.val) * 256 + e.val
  omega

theorem flat_apply (Y : FVec Ideal S4x2048x4x256 .f32) (b : Fin 4) (s : Fin 2048) (w : Fin 1024) :
    shapeCast S4x2048x1024 Y shapeCasts_S4x2048x4x256_S4x2048x1024 (ix3 b s w) = Y (ix4 b s (hd w) (pl w)) := by
  refine shapeCast_apply _ _ _ _ ?_
  rw [Shape.rowMajor_val_three, Shape.rowMajor_val_four]
  show ((b.val * 2048 + s.val) * 4 + w.val / 256) * 256 + w.val % 256 = (b.val * 2048 + s.val) * 1024 + w.val
  omega

theorem rF_apply (O : FVec Ideal S4x4x256x2048 .f32) (b : Fin 4) (s : Fin 2048) (w : Fin 1024) :
    rF O (ix3 b s w) = O (ix4 b (hd w) (pl w) s) := by
  refine (flat_apply (transpose S4x2048x4x256 [0, 3, 1, 2] O transposes_S4x4x256x2048_S4x2048x4x256_0_3_1_2) b s w).trans ?_
  pointwise [] <;> rfl

open Cert.Pre_finite_queries_and_keys (fn) in
/-- The precondition at one query's entry. -/
theorem finite_q (a : FVec Ideal S4x2048x1024 .bf16) (b c : FVec Ideal S4x256x1024 .bf16) (h : (fn a b c).1 = fun _ => 1#1) (i : S4x2048x1024.Idx) :
    a i ≠ ⊤ ∧ a i ≠ ⊥ := by
  have h := congrFun h i
  unfold fn at h
  pointwise at h
  rw [Cert.Softmax.pos_inf] at h
  refine Cert.Softmax.finite_of_abs (a i) ?_
  by_contra hn
  have e : decide (FloatOps.absf (F := Ideal) (φ := .f32) (a i) < (⊤ : EReal)) = false := decide_eq_false hn
  rw [e] at h
  exact absurd h (by decide)

open Cert.Pre_finite_queries_and_keys (fn) in
/-- The precondition at one key's entry. -/
theorem finite_k (a : FVec Ideal S4x2048x1024 .bf16) (b c : FVec Ideal S4x256x1024 .bf16) (h : (fn a b c).2 = fun _ => 1#1) (i : S4x256x1024.Idx) :
    b i ≠ ⊤ ∧ b i ≠ ⊥ := by
  have h := congrFun h i
  unfold fn at h
  pointwise at h
  rw [Cert.Softmax.pos_inf] at h
  refine Cert.Softmax.finite_of_abs (b i) ?_
  by_contra hn
  have e : decide (FloatOps.absf (F := Ideal) (φ := .f32) (b i) < (⊤ : EReal)) = false := decide_eq_false hn
  rw [e] at h
  exact absurd h (by decide)

/-- Where the queries and the keys are finite, the reference's array is the kernel's. -/
theorem ref (a0 : FVec Ideal S4x2048x1024 .bf16) (a1 a2 : FVec Ideal S4x256x1024 .bf16)
    (hq : ∀ i, a0 i ≠ ⊤ ∧ a0 i ≠ ⊥) (hk : ∀ i, a1 i ≠ ⊤ ∧ a1 i ≠ ⊥) :
    rF (rO (shapeCast S4x256x4x256 (extf .f32 a2 bitsLt_bf16_f32) shapeCasts_S4x256x1024_S4x256x4x256) (rP (rE (rL (shapeCast S4x2048x4x256 (extf .f32 a0 bitsLt_bf16_f32) shapeCasts_S4x2048x1024_S4x2048x4x256) (shapeCast S4x256x4x256 (extf .f32 a1 bitsLt_bf16_f32) shapeCasts_S4x256x1024_S4x256x4x256)) (rM (rL (shapeCast S4x2048x4x256 (extf .f32 a0 bitsLt_bf16_f32) shapeCasts_S4x2048x1024_S4x2048x4x256) (shapeCast S4x256x4x256 (extf .f32 a1 bitsLt_bf16_f32) shapeCasts_S4x256x1024_S4x256x4x256)))))) = G a0 a1 a2 := by
  funext j
  obtain ⟨b, s, w, rfl⟩ : ∃ (b : Fin 4) (s : Fin 2048) (w : Fin 1024), j = ix3 b s w :=
    ⟨j 0, j 1, j 2, funext fun a => match a with | ⟨0, _⟩ => rfl | ⟨1, _⟩ => rfl | ⟨2, _⟩ => rfl⟩
  have hl : ∀ x : Fin 256, rL (shapeCast S4x2048x4x256 (extf .f32 a0 bitsLt_bf16_f32) shapeCasts_S4x2048x1024_S4x2048x4x256) (shapeCast S4x256x4x256 (extf .f32 a1 bitsLt_bf16_f32) shapeCasts_S4x256x1024_S4x256x4x256) (ix4 b (hd w) s x) = lgt (fun e => a0 (ix3 b s (hcol w e))) (fun x e => a1 (ix3 b x (hcol w e))) x := by
    intro x
    rw [rL_apply]
    simp only [q4_apply, k4_apply]
    rfl
  have ew : at' (hd w) (pl w) = w := Fin.ext (by show w.val / 256 * 256 + w.val % 256 = w.val; omega)
  rw [rF_apply, rO_apply]
  simp only [rP_apply, rE_apply, rM_apply, k4_apply, hl, ew]
  exact (Cert.Softmax.softmax_eq _ Cert.Softmax.neg_inf _ _ fun x => Cert.Softmax.dot_real _ _ _ (fun e => hq _) (fun e => hk _) Cert.Softmax.sixteenth).symm

end Cert.RXattnIdeal.Hand

end
-- ==== Proof.XattnClaims.lean ====
/-
  The claims about `KXattn`: the frames, and that the kernel over the extended reals computes the reference's function.
-/
module

public import proofs.«01_k».proof.Defs
public import proofs.«01_k».proof.Proof.Xattn
public import proofs.«01_k».proof.Proof.XattnRef
public import proofs.«01_k».proof.Proof.Gen.KXattn.Frame
public import proofs.«01_k».proof.Proof.Gen.RXattnIdeal.Run

@[expose] public section

set_option maxRecDepth 16384

noncomputable section

namespace Cert.Proof.Xattn

open Idealize.ShloMosaic Idealize.ShloMosaic.TcCoe Idealize.SL.Sem

theorem frame_kernel : Cert.quiescent_KXattn := fun m ρ _ => Cert.KXattn.Gen.frame m ρ
theorem frame_ideal : Cert.quiescent_KXattnIdeal := fun m ρ _ => Cert.KXattnIdeal.Gen.frame m ρ
theorem frame_reference : Cert.quiescent_RXattnIdeal := fun m ρ _ =>
  (θ_run Cert.RXattnIdeal.defs _ _).mono (fun r h => ⟨fun c => (h c).2,
      Idealize.ShloMosaic.sem_eq_zero_of_no_sems (by decide) r.2⟩)
    (Cert.RXattnIdeal.Value.run (F := Ideal) m ρ)

theorem frame_ideal_pre : Cert.quiescent_KXattnIdeal_pre_finite_queries_and_keys := fun m ρ _ => Cert.KXattnIdeal.Gen.frame m ρ
theorem frame_reference_pre : Cert.quiescent_RXattnIdeal_pre_finite_queries_and_keys := fun m ρ _ => frame_reference m ρ trivial

theorem preserves : Cert.preserves_KXattn_KXattnIdeal := trivial

/-- Over the extended reals the kernel's result arrays are the reference's. -/
theorem algebraic : Cert.algebraic_KXattnIdeal_RXattnIdeal_pre_finite_queries_and_keys := by
  intro m ρ m' ρ' hp hag
  refine ⟨fun c => KXattnIdeal.Hand.out m c, Cert.KXattnIdeal.Hand.run m ρ,
    (θ_run Cert.RXattnIdeal.defs _ _).mono (fun r h c => ?_) (Cert.RXattnIdeal.Value.run (F := Ideal) m' ρ')⟩
  obtain ⟨h0, h1, h2⟩ := hag c
  refine ⟨(h c).1.trans ?_, (h c).2⟩
  · rw [h0, h1, h2]
    exact Cert.RXattnIdeal.Hand.ref _ _ _ (Cert.RXattnIdeal.Hand.finite_q _ _ _ (hp c).1) (Cert.RXattnIdeal.Hand.finite_k _ _ _ (hp c).2)

end Cert.Proof.Xattn

end
-- ==== Proof.ZaRope.lean ====
/-
  The rotary embedding the kernel computes beside the projection: three tables of lanes and two rotations of a block make the
  embedding of each head of the block.
-/
module

public import proofs.«01_k».proof.Proof.Gen.KZaIdeal.Value
public import Idealize.ShloMosaic.Lib.Pointwise
public import Idealize.ShloMosaic.Lib.KernelVsHost

@[expose] public section

set_option maxRecDepth 16384

noncomputable section

namespace Cert.KZaIdeal.Hand

open Cert.KZaIdeal Cert.KZaIdeal.Gen Idealize.ShloMosaic Idealize.ShloMosaic.TcCoe Idealize.SL.Sem
open Idealize.ShloMosaic.Pipeline (Dat)

/-- Entry `q` of a head `x` embedded by the angles `θ`: the first `h` lanes turn against the next `h`, the others are as they were. -/
def rv (h : Nat) (x θ : Nat → EReal) (q : Nat) : EReal :=
  if q < h then x q * Ideal.cos (θ q) - x (q + h) * Ideal.sin (θ q)
  else if q < 2 * h then x q * Ideal.cos (θ (q - h)) + x (q - h) * Ideal.sin (θ (q - h))
  else x q

/-- A block embedded by its tables: itself times the cosines, plus its rotations times the sines. -/
def turn (a b : BitVec 32) (y c s1 s2 : FVec Ideal S128x128 .f32) : FVec Ideal S128x128 .f32 :=
  addf (addf (mulf y c) (mulf (dynamicRotate 1 a none y rotates_S128x128_d1) s1)) (mulf (dynamicRotate 1 b none y rotates_S128x128_d1) s2)

theorem turn_apply (a b : BitVec 32) (y c s1 s2 : FVec Ideal S128x128 .f32) (p q : Fin 128) :
    turn a b y c s1 s2 (ix2 p q)
      = y (ix2 p q) * c (ix2 p q) + y (ix2 p ⟨(q.val + 128 - a.toNat % 128) % 128, Nat.mod_lt _ (by omega)⟩) * s1 (ix2 p q)
        + y (ix2 p ⟨(q.val + 128 - b.toNat % 128) % 128, Nat.mod_lt _ (by omega)⟩) * s2 (ix2 p q) := by
  unfold turn
  refine congrArg₂ (· + ·) (congrArg₂ (· + ·) rfl (congrArg (· * _) ?_)) (congrArg (· * _) ?_)
  · refine Idealize.ShloMosaic.dynamicRotate_apply _ _ _ _ _ _ fun b => ?_
    fin_cases b <;> rfl
  · refine Idealize.ShloMosaic.dynamicRotate_apply _ _ _ _ _ _ fun b => ?_
    fin_cases b <;> rfl

/-- What the tables of row `p` hold, for heads of `P` lanes. -/
def Tab (h P : Nat) (p : Fin 128) (c s1 s2 : FVec Ideal S128x128 .f32) (θ : Nat → EReal) : Prop := ∀ q : Fin 128,
  (q.val % P < h → c (ix2 p q) = Ideal.cos (θ (q.val % P)) ∧ s1 (ix2 p q) = 0 ∧ s2 (ix2 p q) = 0 - Ideal.sin (θ (q.val % P)))
  ∧ (h ≤ q.val % P → q.val % P < 2 * h → c (ix2 p q) = Ideal.cos (θ (q.val % P - h)) ∧ s1 (ix2 p q) = Ideal.sin (θ (q.val % P - h)) ∧ s2 (ix2 p q) = 0)
  ∧ (2 * h ≤ q.val % P → c (ix2 p q) = 1 ∧ s1 (ix2 p q) = 0 ∧ s2 (ix2 p q) = 0)

/-- The block's embedding is each head's. -/
theorem turn_rv (h P : Nat) (a b : BitVec 32) (ha : a.toNat = h) (hb : b.toNat = 128 - h) (h0 : 0 < h) (h1 : h < 64) (hP : 2 * h ≤ P) (hd : 128 % P = 0)
    (y c s1 s2 : FVec Ideal S128x128 .f32) (p : Fin 128) (θ x : Nat → EReal) (hT : Tab h P p c s1 s2 θ)
    (hy : ∀ q : Fin 128, y (ix2 p q) = x q.val) (q : Fin 128) :
    turn a b y c s1 s2 (ix2 p q) = rv h (fun k => x (q.val / P * P + k)) θ (q.val % P) := by
  have hq := q.isLt
  have e : q.val / P * P + q.val % P = q.val := Nat.div_add_mod' _ _
  have hle : q.val / P * P + P ≤ 128 := by
    obtain ⟨d, hd'⟩ := Nat.dvd_of_mod_eq_zero hd
    have hlt : q.val / P < d := Nat.div_lt_of_lt_mul (hd' ▸ hq)
    calc q.val / P * P + P = (q.val / P + 1) * P := (Nat.succ_mul _ _).symm
      _ ≤ d * P := Nat.mul_le_mul_right _ hlt
      _ = 128 := by rw [Nat.mul_comm]; exact hd'.symm
  obtain ⟨t1, t2, t3⟩ := hT q
  rw [turn_apply, ha, hb, hy q]
  unfold rv
  dsimp only
  rw [e]
  by_cases c1 : q.val % P < h
  · obtain ⟨g1, g2, g3⟩ := t1 c1
    rw [if_pos c1, g1, g2, g3, hy ⟨(q.val + 128 - (128 - h) % 128) % 128, _⟩]
    simp only [show (q.val + 128 - (128 - h) % 128) % 128 = q.val / P * P + (q.val % P + h) by
      rw [Nat.mod_eq_of_lt (show 128 - h < 128 by omega)]; omega]
    rw [mul_zero, add_zero, zero_sub, mul_neg, ← sub_eq_add_neg]
  · rw [if_neg c1]
    by_cases c2 : q.val % P < 2 * h
    · obtain ⟨g1, g2, g3⟩ := t2 (Nat.le_of_not_lt c1) c2
      rw [if_pos c2, g1, g2, g3, hy ⟨(q.val + 128 - h % 128) % 128, _⟩]
      simp only [show (q.val + 128 - h % 128) % 128 = q.val / P * P + (q.val % P - h) by
        rw [Nat.mod_eq_of_lt (show h < 128 by omega)]; omega]
      rw [mul_zero, add_zero]
    · obtain ⟨g1, g2, g3⟩ := t3 (Nat.le_of_not_lt c2)
      rw [if_neg c2, g1, g2, g3, mul_zero, mul_zero, add_zero, add_zero, mul_one]

/-! The lanes the comparisons name. -/

theorem sel_if (P : Prop) [Decidable P] (b : BitVec 1) (h : b = if P then 1#1 else 0#1) (x y : EReal) : Scalar.select b x y = if P then x else y := by
  subst h
  split <;> rfl

theorem lt128_32 : ∀ q : Fin 128, IntOp.cmpi CmpIPredicate.slt (IntOp.andi (BitVec.ofNat 32 q.val) 127#32) 32#32 = if q.val % 128 < 32 then 1#1 else 0#1 := by decide +kernel
theorem lt128_16 : ∀ q : Fin 128, IntOp.cmpi CmpIPredicate.slt (IntOp.andi (BitVec.ofNat 32 q.val) 127#32) 16#32 = if q.val % 128 < 16 then 1#1 else 0#1 := by decide +kernel
theorem ge128_16 : ∀ q : Fin 128, IntOp.cmpi CmpIPredicate.sge (IntOp.andi (BitVec.ofNat 32 q.val) 127#32) 16#32 = if 16 ≤ q.val % 128 then 1#1 else 0#1 := by decide +kernel
theorem lt64_16 : ∀ q : Fin 128, IntOp.cmpi CmpIPredicate.slt (IntOp.andi (BitVec.ofNat 32 q.val) 63#32) 16#32 = if q.val % 64 < 16 then 1#1 else 0#1 := by decide +kernel
theorem lt64_8 : ∀ q : Fin 128, IntOp.cmpi CmpIPredicate.slt (IntOp.andi (BitVec.ofNat 32 q.val) 63#32) 8#32 = if q.val % 64 < 8 then 1#1 else 0#1 := by decide +kernel
theorem ge64_8 : ∀ q : Fin 128, IntOp.cmpi CmpIPredicate.sge (IntOp.andi (BitVec.ofNat 32 q.val) 63#32) 8#32 = if 8 ≤ q.val % 64 then 1#1 else 0#1 := by decide +kernel
theorem lt_64 : ∀ q : Fin 128, IntOp.cmpi CmpIPredicate.slt (BitVec.ofNat 32 q.val) 64#32 = if q.val < 64 then 1#1 else 0#1 := by decide +kernel

/-- The frequencies laid over the lanes: once over the first `h` lanes of a head, again over the next `h`, zero on the others. -/
def lanes (h P : Nat) (fr : Nat → EReal) (q : Nat) : EReal :=
  if q % P < h then fr (q % P) else if q % P < 2 * h then fr (q % P - h) else 0

/-- The tables the selections make are the embedding's. -/
theorem tab_of (h P : Nat) (p : Fin 128) (c s1 s2 : FVec Ideal S128x128 .f32) (r : EReal) (fr : Nat → EReal)
    (hc : ∀ q : Fin 128, c (ix2 p q) = if q.val % P < 2 * h then Ideal.cos (r * lanes h P fr q.val) else 1)
    (h1 : ∀ q : Fin 128, s1 (ix2 p q) = if h ≤ q.val % P then (if q.val % P < 2 * h then Ideal.sin (r * lanes h P fr q.val) else 0) else 0)
    (h2 : ∀ q : Fin 128, s2 (ix2 p q) = if q.val % P < h then 0 - Ideal.sin (r * lanes h P fr q.val) else 0) :
    Tab h P p c s1 s2 (fun k => r * fr k) := by
  intro q
  rw [hc q, h1 q, h2 q]
  unfold lanes
  refine ⟨fun k => ?_, fun k l => ?_, fun k => ?_⟩
  · simp only [if_pos (by omega : q.val % P < 2 * h), if_pos k, if_neg (by omega : ¬ h ≤ q.val % P)]
    exact ⟨by trivial, by trivial, by trivial⟩
  · have k' : ¬ q.val % P < h := by omega
    simp only [if_pos k, if_pos l, if_neg k']
    exact ⟨by trivial, by trivial, by trivial⟩
  · have k' : ¬ q.val % P < h := by omega
    have l' : ¬ q.val % P < 2 * h := by omega
    simp only [if_neg l', if_neg k', ite_self]
    exact ⟨by trivial, by trivial, by trivial⟩

/-- The tables of the heads of 128 lanes. -/
theorem tab_q (v0 : Vec Ideal S1x128x1 .f32) (v2 : Vec Ideal S1x128 .f32) (fr : Nat → EReal)
    (hf : ∀ q : Fin 128, v2 (ix2 (n0 := 1) 0 q) = lanes 16 128 fr q.val) (p : Fin 128) :
    Tab 16 128 p (k0_pay6 v0 v2) (k0_pay7 v0 v2) (k0_pay8 v0 v2) (fun k => v0 (ix3 (n0 := 1) (n2 := 1) 0 p 0) * fr k) := by
  refine tab_of 16 128 p _ _ _ _ fr (fun q => ?_) (fun q => ?_) (fun q => ?_)
  · rw [← hf q]
    pointwise [k0_pay6, k0_pay3, k0_pay2, k0_pay5]
    exact sel_if _ _ (lt128_32 q) _ _
  · rw [← hf q]
    pointwise [k0_pay7, k0_pay4, k0_pay3, k0_pay2, k0_pay5]
    rw [sel_if _ _ (lt128_32 q), sel_if _ _ (ge128_16 q)]
  · rw [← hf q]
    pointwise [k0_pay8, k0_pay4, k0_pay3, k0_pay2, k0_pay5]
    exact sel_if _ _ (lt128_16 q) _ _

/-- The tables of the heads of 64 lanes, two to a block. -/
theorem tab_i (v0 : Vec Ideal S1x128x1 .f32) (v2 : Vec Ideal S1x128 .f32) (fr : Nat → EReal)
    (hf : ∀ q : Fin 128, v2 (ix2 (n0 := 1) 0 q) = lanes 8 64 fr q.val) (p : Fin 128) :
    Tab 8 64 p (k0_pay13 (k0_pay10 v0 v2) k0_pay12) (k0_pay14 (k0_pay11 v0 v2) k0_pay12) (k0_pay15 (k0_pay11 v0 v2) k0_pay12)
      (fun k => v0 (ix3 (n0 := 1) (n2 := 1) 0 p 0) * fr k) := by
  refine tab_of 8 64 p _ _ _ _ fr (fun q => ?_) (fun q => ?_) (fun q => ?_)
  · rw [← hf q]
    pointwise [k0_pay13, k0_pay10, k0_pay9, k0_pay2, k0_pay12]
    exact sel_if _ _ (lt64_16 q) _ _
  · rw [← hf q]
    pointwise [k0_pay14, k0_pay11, k0_pay9, k0_pay2, k0_pay12]
    rw [sel_if _ _ (lt64_16 q), sel_if _ _ (ge64_8 q)]
  · rw [← hf q]
    pointwise [k0_pay15, k0_pay11, k0_pay9, k0_pay2, k0_pay12]
    exact sel_if _ _ (lt64_8 q) _ _

/-- A block kept on its first 64 lanes. -/
theorem half_apply (x y : FVec Ideal S128x128 .f32) (p q : Fin 128) : select k0_pay46 x y (ix2 p q) = if q.val < 64 then x (ix2 p q) else y (ix2 p q) := by
  pointwise [k0_pay46]
  exact sel_if _ _ (lt_64 q) _ _

/-- The tables of a block whose first 64 lanes are a head's and whose others turn nothing. -/
theorem tab_half (h : Nat) (hh : 2 * h ≤ 64) (p : Fin 128) (c s1 s2 o z z' : FVec Ideal S128x128 .f32) (θ : Nat → EReal) (hT : Tab h 64 p c s1 s2 θ)
    (ho : ∀ q, o (ix2 p q) = 1) (hz : ∀ q, z (ix2 p q) = 0) (hz' : ∀ q, z' (ix2 p q) = 0) :
    Tab h 128 p (select k0_pay46 c o) (select k0_pay46 s1 z) (select k0_pay46 s2 z') θ := by
  intro q
  obtain ⟨t1, t2, t3⟩ := hT q
  have hq := q.isLt
  rw [half_apply, half_apply, half_apply, ho, hz, hz']
  by_cases l : q.val < 64
  · simp only [if_pos l]
    rw [show q.val % 128 = q.val % 64 by omega]
    exact ⟨t1, t2, t3⟩
  · simp only [if_neg l]
    exact ⟨fun k => absurd k (by omega), fun _ k => absurd k (by omega), fun _ => ⟨by trivial, by trivial, by trivial⟩⟩

/-- A block of the scan with its leading axis dropped. -/
abbrev flat (v : Vec Ideal S1x128x128 .f32) : FVec Ideal S128x128 .f32 := shapeCast S128x128 v shapeCasts_S1x128x128_S128x128

theorem flat_apply (v : Vec Ideal S1x128x128 .f32) (p q : Fin 128) : flat v (ix2 p q) = v (ix3 (n0 := 1) 0 p q) := by
  refine shapeCast_apply _ _ _ _ ?_
  rw [Shape.rowMajor_val_three, Shape.rowMajor_val_two]
  show (0 * 128 + p.val) * 128 + q.val = p.val * 128 + q.val
  omega

/-- The leading axis put back. -/
abbrev lift (v : FVec Ideal S128x128 .bf16) : FVec Ideal S1x128x128 .bf16 := shapeCast S1x128x128 v shapeCasts_S128x128_S1x128x128

theorem lift_apply (v : FVec Ideal S128x128 .bf16) (p q : Fin 128) : lift v (ix3 (n0 := 1) 0 p q) = v (ix2 p q) := by
  refine shapeCast_apply _ _ _ _ ?_
  rw [Shape.rowMajor_val_three, Shape.rowMajor_val_two]
  show p.val * 128 + q.val = (0 * 128 + p.val) * 128 + q.val
  omega

/-- What the body stores of one head of the queries or the keys. -/
def head (v : Vec Ideal S1x128x128 .f32) (c s1 s2 : FVec Ideal S128x128 .f32) : FVec Ideal S1x128x128 .bf16 :=
  lift (truncf .bf16 (turn 16#32 112#32 (flat v) c s1 s2) bitsLt_bf16_f32)

theorem head_apply (v : Vec Ideal S1x128x128 .f32) (c s1 s2 : FVec Ideal S128x128 .f32) (p q : Fin 128) (θ x : Nat → EReal)
    (hT : Tab 16 128 p c s1 s2 θ) (hx : ∀ q : Fin 128, v (ix3 (n0 := 1) 0 p q) = x q.val) : head v c s1 s2 (ix3 (n0 := 1) 0 p q) = rv 16 x θ q.val := by
  have hq := q.isLt
  refine (lift_apply _ p q).trans ((turn_rv 16 128 16#32 112#32 rfl rfl (by decide) (by decide) (by decide) rfl _ c s1 s2 p θ x hT (fun q => (flat_apply v p q).trans (hx q)) q).trans ?_)
  rw [Nat.div_eq_of_lt hq, Nat.mod_eq_of_lt hq]
  simp only [Nat.zero_mul, Nat.zero_add]

/-- The zeros a half block is completed with. -/
abbrev zeros : FVec Ideal S128x128 .f32 := broadcast S128x128 (Scalar.ofBits (F := Ideal) .f32 0x00000000#32)

theorem zeros_apply (p q : Fin 128) : zeros (ix2 p q) = 0 := by
  pointwise []

/-- What the body stores of the first of two heads of the indexer. -/
def even (v : Vec Ideal S1x128x128 .f32) (c s1 s2 : FVec Ideal S128x128 .f32) : FVec Ideal S1x128x128 .bf16 :=
  lift (truncf .bf16 (select k0_pay46 (turn 8#32 120#32 (flat v) c s1 s2) zeros) bitsLt_bf16_f32)

/-- What the body stores of the second of two heads of the indexer. -/
def odd (v : Vec Ideal S1x128x128 .f32) (c s1 s2 : FVec Ideal S128x128 .f32) : FVec Ideal S1x128x128 .bf16 :=
  lift (truncf .bf16 (select k0_pay46 (dynamicRotate 1 64#32 none (turn 8#32 120#32 (flat v) c s1 s2) rotates_S128x128_d1) zeros) bitsLt_bf16_f32)

theorem even_apply (v : Vec Ideal S1x128x128 .f32) (c s1 s2 : FVec Ideal S128x128 .f32) (p q : Fin 128) (θ x : Nat → EReal)
    (hT : Tab 8 64 p c s1 s2 θ) (hx : ∀ q : Fin 128, v (ix3 (n0 := 1) 0 p q) = x q.val) :
    even v c s1 s2 (ix3 (n0 := 1) 0 p q) = if q.val < 64 then rv 8 x θ q.val else 0 := by
  refine (lift_apply _ p q).trans ((half_apply _ _ p q).trans ?_)
  by_cases l : q.val < 64
  · rw [if_pos l, if_pos l]
    refine (turn_rv 8 64 8#32 120#32 rfl rfl (by decide) (by decide) (by decide) rfl _ c s1 s2 p θ x hT (fun q => (flat_apply v p q).trans (hx q)) q).trans ?_
    rw [Nat.div_eq_of_lt l, Nat.mod_eq_of_lt l]
    simp only [Nat.zero_mul, Nat.zero_add]
  · rw [if_neg l, if_neg l]
    exact zeros_apply p q

theorem odd_apply (v : Vec Ideal S1x128x128 .f32) (c s1 s2 : FVec Ideal S128x128 .f32) (p q : Fin 128) (θ x : Nat → EReal)
    (hT : Tab 8 64 p c s1 s2 θ) (hx : ∀ q : Fin 128, v (ix3 (n0 := 1) 0 p q) = x q.val) :
    odd v c s1 s2 (ix3 (n0 := 1) 0 p q) = if q.val < 64 then rv 8 (fun k => x (64 + k)) θ q.val else 0 := by
  refine (lift_apply _ p q).trans ((half_apply _ _ p q).trans ?_)
  by_cases l : q.val < 64
  · rw [if_pos l, if_pos l]
    refine (Idealize.ShloMosaic.dynamicRotate_apply _ _ _ _ _ (ix2 p ⟨64 + q.val, by omega⟩) fun b => ?_).trans
      ((turn_rv 8 64 8#32 120#32 rfl rfl (by decide) (by decide) (by decide) rfl _ c s1 s2 p θ x hT (fun q => (flat_apply v p q).trans (hx q)) ⟨64 + q.val, by omega⟩).trans ?_)
    · fin_cases b
      · rfl
      · show 64 + q.val = (q.val + 128 - 64 % 128) % 128
        omega
    · dsimp only
      rw [show (64 + q.val) / 64 = 1 by omega, show (64 + q.val) % 64 = q.val by omega]
  · rw [if_neg l, if_neg l]
    exact zeros_apply p q

/-- The one block of the indexer's keys and weights: the keys' lanes turn, the others do not. -/
def keyed (v : Vec Ideal S1x128x128 .f32) (c s1 s2 : FVec Ideal S128x128 .f32) : FVec Ideal S128x128 .f32 :=
  turn 8#32 120#32 (flat v) (select k0_pay46 c (broadcast S128x128 (Scalar.ofBits (F := Ideal) .f32 0x3F800000#32))) (select k0_pay46 s1 zeros) (select k0_pay46 s2 zeros)

theorem keyed_apply (v : Vec Ideal S1x128x128 .f32) (c s1 s2 : FVec Ideal S128x128 .f32) (p q : Fin 128) (θ x : Nat → EReal)
    (hT : Tab 8 64 p c s1 s2 θ) (hx : ∀ q : Fin 128, v (ix3 (n0 := 1) 0 p q) = x q.val) :
    keyed v c s1 s2 (ix2 p q) = rv 8 x θ q.val := by
  have hq := q.isLt
  refine (turn_rv 8 128 8#32 120#32 rfl rfl (by decide) (by decide) (by decide) rfl _ _ _ _ p θ x
    (tab_half 8 (by decide) p c s1 s2 _ zeros zeros θ hT (fun q => ?_) (zeros_apply p) (zeros_apply p)) (fun q => (flat_apply v p q).trans (hx q)) q).trans ?_
  · pointwise []
  · rw [Nat.div_eq_of_lt hq, Nat.mod_eq_of_lt hq]
    simp only [Nat.zero_mul, Nat.zero_add]

theorem pay77_apply (v : Vec Ideal S1x128x128 .f32) (c s1 s2 : FVec Ideal S128x128 .f32) (p q : Fin 128) (θ x : Nat → EReal)
    (hT : Tab 8 64 p c s1 s2 θ) (hx : ∀ q : Fin 128, v (ix3 (n0 := 1) 0 p q) = x q.val) :
    k0_pay77 c s1 s2 k0_pay46 v (ix3 (n0 := 1) 0 p q) = if q.val < 64 then rv 8 x θ q.val else 0 := by
  refine (lift_apply (truncf .bf16 (select k0_pay46 (keyed v c s1 s2) zeros) bitsLt_bf16_f32) p q).trans ((half_apply _ _ p q).trans ?_)
  rw [keyed_apply v c s1 s2 p q θ x hT hx, zeros_apply]

theorem pay78_apply (v : Vec Ideal S1x128x128 .f32) (c s1 s2 : FVec Ideal S128x128 .f32) (p : Fin 128) (h : Fin 16) (θ x : Nat → EReal)
    (hT : Tab 8 64 p c s1 s2 θ) (hx : ∀ q : Fin 128, v (ix3 (n0 := 1) 0 p q) = x q.val) :
    k0_pay78 c s1 s2 k0_pay46 v (ix3 (n0 := 1) 0 h p) = x (64 + h.val) := by
  have e : k0_pay78 c s1 s2 k0_pay46 v (ix3 (n0 := 1) 0 h p) = keyed v c s1 s2 (ix2 p ⟨64 + h.val, by omega⟩) := by
    show shapeCast S1x16x128 (extractStridedSlice S16x128 ![64, 0] (transpose S128x128 [1, 0] (keyed v c s1 s2) transposes_S128x128_p1_0_S128x128) slices_S128x128_o64_0_S16x128) shapeCasts_S16x128_S1x16x128 _ = _
    generalize keyed v c s1 s2 = y
    pointwise []
  rw [e, keyed_apply v c s1 s2 p _ θ x hT hx]
  unfold rv
  rw [if_neg (by dsimp only; omega), if_neg (by dsimp only; omega)]

end Cert.KZaIdeal.Hand

end
-- ==== Proof.ZaGeom.lean ====
/-
  The blocks the projection of the gating's inputs reads and writes, and the arrays the host lays out for it.
-/
module

public import proofs.«01_k».proof.Proof.Gen.KZaIdeal.Value
public import Idealize.ShloMosaic.Lib.Pointwise
public import proofs.«01_k».proof.Proof.ZaRope

@[expose] public section

set_option maxRecDepth 16384

noncomputable section

namespace Cert.KZaIdeal.Hand

open Cert.KZaIdeal Cert.KZaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block index of every window at every point of the grid. -/
theorem idx_facts : ∀ t : Fin cfg0.N,
    win0_0.index t 0 = t.val / 8 ∧ win0_0.index t 1 = 0 ∧ win0_1.index t 0 = 0
    ∧ win0_1.index t 1 = t.val % 8 ∧ win0_1.index t 2 = 0 ∧ win0_2.index t 0 = t.val / 16
    ∧ win0_2.index t 1 = t.val % 16 ∧ win0_2.index t 2 = 0 ∧ win0_3.index t 0 = t.val / 16
    ∧ win0_3.index t 1 = t.val % 16 ∧ win0_3.index t 2 = 0 ∧ win0_4.index t 0 = 0
    ∧ win0_4.index t 1 = 0 ∧ win0_5.index t 0 = 0 ∧ win0_5.index t 1 = 0
    ∧ win0_6.index t 0 = t.val / 8 ∧ win0_6.index t 1 = t.val % 8 ∧ win0_7.index t 0 = t.val / 16
    ∧ win0_7.index t 1 = t.val % 16 ∧ win0_7.index t 2 = 0 ∧ win0_8.index t 0 = t.val / 16
    ∧ win0_8.index t 1 = t.val % 16 ∧ win0_8.index t 2 = 0 ∧ win0_9.index t 0 = t.val / 16
    ∧ win0_9.index t 1 = t.val % 16 / 4 ∧ win0_9.index t 2 = 0 ∧ win0_9.index t 3 = t.val % 4
    ∧ win0_10.index t 0 = t.val / 16 ∧ win0_10.index t 1 = t.val % 16 ∧ win0_10.index t 2 = 0
    ∧ win0_11.index t 0 = t.val / 16 ∧ win0_11.index t 1 = t.val % 16 ∧ win0_11.index t 2 = 0
    ∧ win0_12.index t 0 = t.val / 16 ∧ win0_12.index t 1 = 0 ∧ win0_12.index t 2 = t.val % 16 :=
  (by decide +kernel : ∀ t : Fin grid0.N,
    win0_0.index t 0 = t.val / 8 ∧ win0_0.index t 1 = 0 ∧ win0_1.index t 0 = 0
    ∧ win0_1.index t 1 = t.val % 8 ∧ win0_1.index t 2 = 0 ∧ win0_2.index t 0 = t.val / 16
    ∧ win0_2.index t 1 = t.val % 16 ∧ win0_2.index t 2 = 0 ∧ win0_3.index t 0 = t.val / 16
    ∧ win0_3.index t 1 = t.val % 16 ∧ win0_3.index t 2 = 0 ∧ win0_4.index t 0 = 0
    ∧ win0_4.index t 1 = 0 ∧ win0_5.index t 0 = 0 ∧ win0_5.index t 1 = 0
    ∧ win0_6.index t 0 = t.val / 8 ∧ win0_6.index t 1 = t.val % 8 ∧ win0_7.index t 0 = t.val / 16
    ∧ win0_7.index t 1 = t.val % 16 ∧ win0_7.index t 2 = 0 ∧ win0_8.index t 0 = t.val / 16
    ∧ win0_8.index t 1 = t.val % 16 ∧ win0_8.index t 2 = 0 ∧ win0_9.index t 0 = t.val / 16
    ∧ win0_9.index t 1 = t.val % 16 / 4 ∧ win0_9.index t 2 = 0 ∧ win0_9.index t 3 = t.val % 4
    ∧ win0_10.index t 0 = t.val / 16 ∧ win0_10.index t 1 = t.val % 16 ∧ win0_10.index t 2 = 0
    ∧ win0_11.index t 0 = t.val / 16 ∧ win0_11.index t 1 = t.val % 16 ∧ win0_11.index t 2 = 0
    ∧ win0_12.index t 0 = t.val / 16 ∧ win0_12.index t 1 = 0 ∧ win0_12.index t 2 = t.val % 16)

theorem blk0 (c : Dev nD) (t : Fin cfg0.N) (j : S1024x4096.Idx) (i : S8192x4096.Idx)
    (h0 : (i 0).val = t.val / 8 * 1024 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg _ (funext fun a => Fin.ext ?_)
  match a with
  | ⟨0, _⟩ => show win0_0.index t 0 * 1024 + 1 * (j 0).val = (i 0).val; rw [e0]; omega
  | ⟨1, _⟩ => show win0_0.index t 1 * 4096 + 1 * (j 1).val = (i 1).val; rw [e1]; omega

theorem blk2 (c : Dev nD) (t : Fin cfg0.N) (j : S1x128x4352.Idx) (i : S4x2048x4352.Idx)
    (h0 : (i 0).val = t.val / 16 * 1 + (j 0).val) (h1 : (i 1).val = t.val % 16 * 128 + (j 1).val) (h2 : (i 2).val = (j 2).val) :
    iblk m c 2 t j = m ((c : Thread nD τ).loc main_arg2) i := by
  obtain ⟨-, -, -, -, -, e0, e1, e2, -⟩ := idx_facts t
  show m ((c : Thread nD τ).loc main_arg2) _ = _
  refine congrArg _ (funext fun a => Fin.ext ?_)
  match a with
  | ⟨0, _⟩ => show win0_2.index t 0 * 1 + 1 * (j 0).val = (i 0).val; rw [e0]; omega
  | ⟨1, _⟩ => show win0_2.index t 1 * 128 + 1 * (j 1).val = (i 1).val; rw [e1]; omega
  | ⟨2, _⟩ => show win0_2.index t 2 * 4352 + 1 * (j 2).val = (i 2).val; rw [e2]; omega

theorem blk3 (c : Dev nD) (t : Fin cfg0.N) (j : S1x128x1.Idx) (i : S4x2048x1.Idx)
    (h0 : (i 0).val = t.val / 16 * 1 + (j 0).val) (h1 : (i 1).val = t.val % 16 * 128 + (j 1).val) (h2 : (i 2).val = (j 2).val) :
    iblk m c 3 t j = V m c main_v2 i := by
  obtain ⟨-, -, -, -, -, -, -, -, e0, e1, e2, -⟩ := idx_facts t
  show V m c main_v2 _ = _
  refine congrArg _ (funext fun a => Fin.ext ?_)
  match a with
  | ⟨0, _⟩ => show win0_3.index t 0 * 1 + 1 * (j 0).val = (i 0).val; rw [e0]; omega
  | ⟨1, _⟩ => show win0_3.index t 1 * 128 + 1 * (j 1).val = (i 1).val; rw [e1]; omega
  | ⟨2, _⟩ => show win0_3.index t 2 * 1 + 1 * (j 2).val = (i 2).val; rw [e2]; omega

theorem blk4 (c : Dev nD) (t : Fin cfg0.N) (j : S1x128.Idx) (i : S1x128.Idx)
    (h0 : (i 0).val = (j 0).val) (h1 : (i 1).val = (j 1).val) :
    iblk m c 4 t j = V m c main_v18 i := by
  obtain ⟨-, -, -, -, -, -, -, -, -, -, -, e0, e1, -⟩ := idx_facts t
  show V m c main_v18 _ = _
  refine congrArg _ (funext fun a => Fin.ext ?_)
  match a with
  | ⟨0, _⟩ => show win0_4.index t 0 * 1 + 1 * (j 0).val = (i 0).val; rw [e0]; omega
  | ⟨1, _⟩ => show win0_4.index t 1 * 128 + 1 * (j 1).val = (i 1).val; rw [e1]; omega

theorem blk5 (c : Dev nD) (t : Fin cfg0.N) (j : S1x128.Idx) (i : S1x128.Idx)
    (h0 : (i 0).val = (j 0).val) (h1 : (i 1).val = (j 1).val) :
    iblk m c 5 t j = V m c main_v34 i := by
  obtain ⟨-, -, -, -, -, -, -, -, -, -, -, -, -, e0, e1, -⟩ := idx_facts t
  show V m c main_v34 _ = _
  refine congrArg _ (funext fun a => Fin.ext ?_)
  match a with
  | ⟨0, _⟩ => show win0_5.index t 0 * 1 + 1 * (j 0).val = (i 0).val; rw [e0]; omega
  | ⟨1, _⟩ => show win0_5.index t 1 * 128 + 1 * (j 1).val = (i 1).val; rw [e1]; omega

/-- The weights as the host lays them out. -/
theorem V0 (c : Dev nD) (r : Fin 16464) (k : Fin 4096) : V m c main_v0 (ix3 (n0 := 1) 0 r k) = (m ((c : Thread nD τ).loc main_arg1)) (ix3 (n0 := 1) 0 k r) := by
  have e : V m c main_v0 = transpose S1x16464x4096 [0, 2, 1] (m ((c : Thread nD τ).loc main_arg1)) transposes_S1x4096x16464_S1x16464x4096_0_2_1 := by
    unfold V
    after_results <;> rfl
  rw [e]
  generalize (m ((c : Thread nD τ).loc main_arg1)) = w
  pointwise []

theorem blk1 (c : Dev nD) (t : Fin cfg0.N) (j : S1x512x4096.Idx) (i : S1x16464x4096.Idx)
    (h0 : (i 0).val = (j 0).val) (h1 : (i 1).val = t.val % 8 * 512 + (j 1).val) (h2 : (i 2).val = (j 2).val) :
    X0_1 m c t j = V m c main_v0 i := by
  obtain ⟨-, -, e0, e1, e2, -⟩ := idx_facts t
  unfold X0_1 Pipeline.Window.fill
  rw [dif_pos (moved0_1 t j)]
  show V m c main_v0 _ = _
  refine congrArg _ (funext fun a => Fin.ext ?_)
  match a with
  | ⟨0, _⟩ => show win0_1.index t 0 * 1 + 1 * (j 0).val = (i 0).val; rw [e0]; omega
  | ⟨1, _⟩ => show win0_1.index t 1 * 512 + 1 * (j 1).val = (i 1).val; rw [e1]; omega
  | ⟨2, _⟩ => show win0_1.index t 2 * 4096 + 1 * (j 2).val = (i 2).val; rw [e2]; omega

/-- Where an element of window 6's block sits in the array, axis 0. -/
theorem emb6_0 (t : Fin cfg0.N) (j : ((cfg0.win 6).xblock (grid0.coords t)).Idx) :
    ((win0_6.rect t).emb j 0).val = t.val / 8 * 1024 + (j 0).val := by
  obtain ⟨-, -, -, -, -, -, -, -, -, -, -, -, -, -, -, e0, e1, -⟩ := idx_facts t
  rw [win0_6.rect_emb_val, e0]; rfl

/-- Where an element of window 6's block sits in the array, axis 1. -/
theorem emb6_1 (t : Fin cfg0.N) (j : ((cfg0.win 6).xblock (grid0.coords t)).Idx) :
    ((win0_6.rect t).emb j 1).val = t.val % 8 * 512 + (j 1).val := by
  obtain ⟨-, -, -, -, -, -, -, -, -, -, -, -, -, -, -, e0, e1, -⟩ := idx_facts t
  rw [win0_6.rect_emb_val, e1]; rfl

/-- Every index of the result lies in some point's block of window 6. -/
theorem cover6 (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have hN : (i 0).val / 1024 * 8 + (i 1).val / 512 < cfg0.N := by
    show _ < grid0.N
    rw [N_0]; omega
  refine ⟨⟨_, hN⟩, flush0_6 _, ?_⟩
  obtain ⟨-, -, -, -, -, -, -, -, -, -, -, -, -, -, -, e0, e1, -⟩ := idx_facts ⟨_, hN⟩
  dsimp only at e0 e1
  show i ∈ ((View.whole main_v35_0).slice (win0_6.rect ⟨_, hN⟩)).set
  rw [View.set_slice_whole, Rect.mem_set_unit]
  intro a
  match a with
  | ⟨0, _⟩ =>
    show win0_6.index ⟨_, hN⟩ 0 * 1024 ≤ (i 0).val ∧ (i 0).val < win0_6.index ⟨_, hN⟩ 0 * 1024 + 1024
    rw [e0]; omega
  | ⟨1, _⟩ =>
    show win0_6.index ⟨_, hN⟩ 1 * 512 ≤ (i 1).val ∧ (i 1).val < win0_6.index ⟨_, hN⟩ 1 * 512 + 512
    rw [e1]; omega

/-- Where an element of window 7's block sits in the array, axis 0. -/
theorem emb7_0 (t : Fin cfg0.N) (j : ((cfg0.win 7).xblock (grid0.coords t)).Idx) :
    ((win0_7.rect t).emb j 0).val = t.val / 16 * 1 + (j 0).val := by
  obtain ⟨-, -, -, -, -, -, -, -, -, -, -, -, -, -, -, -, -, e0, e1, e2, -⟩ := idx_facts t
  rw [win0_7.rect_emb_val, e0]; rfl

/-- Where an element of window 7's block sits in the array, axis 1. -/
theorem emb7_1 (t : Fin cfg0.N) (j : ((cfg0.win 7).xblock (grid0.coords t)).Idx) :
    ((win0_7.rect t).emb j 1).val = t.val % 16 * 128 + (j 1).val := by
  obtain ⟨-, -, -, -, -, -, -, -, -, -, -, -, -, -, -, -, -, e0, e1, e2, -⟩ := idx_facts t
  rw [win0_7.rect_emb_val, e1]; rfl

/-- Where an element of window 7's block sits in the array, axis 2. -/
theorem emb7_2 (t : Fin cfg0.N) (j : ((cfg0.win 7).xblock (grid0.coords t)).Idx) :
    ((win0_7.rect t).emb j 2).val = (j 2).val := by
  obtain ⟨-, -, -, -, -, -, -, -, -, -, -, -, -, -, -, -, -, e0, e1, e2, -⟩ := idx_facts t
  exact win0_7.rect_emb_val_of_index_zero t 2 e2 j

/-- Every index of the result lies in some point's block of window 7. -/
theorem cover7 (i : S4x2048x2048.Idx) : ∃ t : Fin cfg0.N, (cfg0.win 7).flush t = true ∧ i ∈ ((cfg0.win 7).blk t).view.set := by
  have h0 : (i 0).val < 4 := (i 0).isLt
  have h1 : (i 1).val < 2048 := (i 1).isLt
  have h2 : (i 2).val < 2048 := (i 2).isLt
  have hN : (i 0).val * 16 + (i 1).val / 128 < cfg0.N := by
    show _ < grid0.N
    rw [N_0]; omega
  refine ⟨⟨_, hN⟩, flush0_7 _, ?_⟩
  obtain ⟨-, -, -, -, -, -, -, -, -, -, -, -, -, -, -, -, -, e0, e1, e2, -⟩ := idx_facts ⟨_, hN⟩
  dsimp only at e0 e1 e2
  show i ∈ ((View.whole main_v35_1).slice (win0_7.rect ⟨_, hN⟩)).set
  rw [View.set_slice_whole, Rect.mem_set_unit]
  intro a
  match a with
  | ⟨0, _⟩ =>
    show win0_7.index ⟨_, hN⟩ 0 * 1 ≤ (i 0).val ∧ (i 0).val < win0_7.index ⟨_, hN⟩ 0 * 1 + 1
    rw [e0]; omega
  | ⟨1, _⟩ =>
    show win0_7.index ⟨_, hN⟩ 1 * 128 ≤ (i 1).val ∧ (i 1).val < win0_7.index ⟨_, hN⟩ 1 * 128 + 128
    rw [e1]; omega
  | ⟨2, _⟩ =>
    show win0_7.index ⟨_, hN⟩ 2 * 2048 ≤ (i 2).val ∧ (i 2).val < win0_7.index ⟨_, hN⟩ 2 * 2048 + 2048
    rw [e2]; omega

/-- Where an element of window 8's block sits in the array, axis 0. -/
theorem emb8_0 (t : Fin cfg0.N) (j : ((cfg0.win 8).xblock (grid0.coords t)).Idx) :
    ((win0_8.rect t).emb j 0).val = t.val / 16 * 1 + (j 0).val := by
  obtain ⟨-, -, -, -, -, -, -, -, -, -, -, -, -, -, -, -, -, -, -, -, e0, e1, e2, -⟩ := idx_facts t
  rw [win0_8.rect_emb_val, e0]; rfl

/-- Where an element of window 8's block sits in the array, axis 1. -/
theorem emb8_1 (t : Fin cfg0.N) (j : ((cfg0.win 8).xblock (grid0.coords t)).Idx) :
    ((win0_8.rect t).emb j 1).val = t.val % 16 * 128 + (j 1).val := by
  obtain ⟨-, -, -, -, -, -, -, -, -, -, -, -, -, -, -, -, -, -, -, -, e0, e1, e2, -⟩ := idx_facts t
  rw [win0_8.rect_emb_val, e1]; rfl

/-- Where an element of window 8's block sits in the array, axis 2. -/
theorem emb8_2 (t : Fin cfg0.N) (j : ((cfg0.win 8).xblock (grid0.coords t)).Idx) :
    ((win0_8.rect t).emb j 2).val = (j 2).val := by
  obtain ⟨-, -, -, -, -, -, -, -, -, -, -, -, -, -, -, -, -, -, -, -, e0, e1, e2, -⟩ := idx_facts t
  exact win0_8.rect_emb_val_of_index_zero t 2 e2 j

/-- Every index of the result lies in some point's block of window 8. -/
theorem cover8 (i : S4x2048x512.Idx) : ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 512 := (i 2).isLt
  have hN : (i 0).val * 16 + (i 1).val / 128 < cfg0.N := by
    show _ < grid0.N
    rw [N_0]; omega
  refine ⟨⟨_, hN⟩, flush0_8 _, ?_⟩
  obtain ⟨-, -, -, -, -, -, -, -, -, -, -, -, -, -, -, -, -, -, -, -, e0, e1, e2, -⟩ := idx_facts ⟨_, hN⟩
  dsimp only at e0 e1 e2
  show i ∈ ((View.whole main_v35_2).slice (win0_8.rect ⟨_, hN⟩)).set
  rw [View.set_slice_whole, Rect.mem_set_unit]
  intro a
  match a with
  | ⟨0, _⟩ =>
    show win0_8.index ⟨_, hN⟩ 0 * 1 ≤ (i 0).val ∧ (i 0).val < win0_8.index ⟨_, hN⟩ 0 * 1 + 1
    rw [e0]; omega
  | ⟨1, _⟩ =>
    show win0_8.index ⟨_, hN⟩ 1 * 128 ≤ (i 1).val ∧ (i 1).val < win0_8.index ⟨_, hN⟩ 1 * 128 + 128
    rw [e1]; omega
  | ⟨2, _⟩ =>
    show win0_8.index ⟨_, hN⟩ 2 * 512 ≤ (i 2).val ∧ (i 2).val < win0_8.index ⟨_, hN⟩ 2 * 512 + 512
    rw [e2]; omega

/-- Where an element of window 9's block sits in the array, axis 0. -/
theorem emb9_0 (t : Fin cfg0.N) (j : ((cfg0.win 9).xblock (grid0.coords t)).Idx) :
    ((win0_9.rect t).emb j 0).val = t.val / 16 * 1 + (j 0).val := by
  obtain ⟨-, -, -, -, -, -, -, -, -, -, -, -, -, -, -, -, -, -, -, -, -, -, -, e0, e1, e2, e3, -⟩ := idx_facts t
  rw [win0_9.rect_emb_val, e0]; rfl

/-- Where an element of window 9's block sits in the array, axis 1. -/
theorem emb9_1 (t : Fin cfg0.N) (j : ((cfg0.win 9).xblock (grid0.coords t)).Idx) :
    ((win0_9.rect t).emb j 1).val = t.val % 16 / 4 * 1 + (j 1).val := by
  obtain ⟨-, -, -, -, -, -, -, -, -, -, -, -, -, -, -, -, -, -, -, -, -, -, -, e0, e1, e2, e3, -⟩ := idx_facts t
  rw [win0_9.rect_emb_val, e1]; rfl

/-- Where an element of window 9's block sits in the array, axis 2. -/
theorem emb9_2 (t : Fin cfg0.N) (j : ((cfg0.win 9).xblock (grid0.coords t)).Idx) :
    ((win0_9.rect t).emb j 2).val = (j 2).val := by
  obtain ⟨-, -, -, -, -, -, -, -, -, -, -, -, -, -, -, -, -, -, -, -, -, -, -, e0, e1, e2, e3, -⟩ := idx_facts t
  exact win0_9.rect_emb_val_of_index_zero t 2 e2 j

/-- Where an element of window 9's block sits in the array, axis 3. -/
theorem emb9_3 (t : Fin cfg0.N) (j : ((cfg0.win 9).xblock (grid0.coords t)).Idx) :
    ((win0_9.rect t).emb j 3).val = t.val % 4 * 128 + (j 3).val := by
  obtain ⟨-, -, -, -, -, -, -, -, -, -, -, -, -, -, -, -, -, -, -, -, -, -, -, e0, e1, e2, e3, -⟩ := idx_facts t
  rw [win0_9.rect_emb_val, e3]; rfl

/-- Every index of the result lies in some point's block of window 9. -/
theorem cover9 (i : S4x4x512x512.Idx) : ∃ t : Fin cfg0.N, (cfg0.win 9).flush t = true ∧ i ∈ ((cfg0.win 9).blk t).view.set := by
  have h0 : (i 0).val < 4 := (i 0).isLt
  have h1 : (i 1).val < 4 := (i 1).isLt
  have h2 : (i 2).val < 512 := (i 2).isLt
  have h3 : (i 3).val < 512 := (i 3).isLt
  have hN : (i 0).val * 16 + ((i 1).val * 4 + (i 3).val / 128) < cfg0.N := by
    show _ < grid0.N
    rw [N_0]; omega
  refine ⟨⟨_, hN⟩, flush0_9 _, ?_⟩
  obtain ⟨-, -, -, -, -, -, -, -, -, -, -, -, -, -, -, -, -, -, -, -, -, -, -, e0, e1, e2, e3, -⟩ := idx_facts ⟨_, hN⟩
  dsimp only at e0 e1 e2 e3
  show i ∈ ((View.whole main_v35_3).slice (win0_9.rect ⟨_, hN⟩)).set
  rw [View.set_slice_whole, Rect.mem_set_unit]
  intro a
  match a with
  | ⟨0, _⟩ =>
    show win0_9.index ⟨_, hN⟩ 0 * 1 ≤ (i 0).val ∧ (i 0).val < win0_9.index ⟨_, hN⟩ 0 * 1 + 1
    rw [e0]; omega
  | ⟨1, _⟩ =>
    show win0_9.index ⟨_, hN⟩ 1 * 1 ≤ (i 1).val ∧ (i 1).val < win0_9.index ⟨_, hN⟩ 1 * 1 + 1
    rw [e1]; omega
  | ⟨2, _⟩ =>
    show win0_9.index ⟨_, hN⟩ 2 * 512 ≤ (i 2).val ∧ (i 2).val < win0_9.index ⟨_, hN⟩ 2 * 512 + 512
    rw [e2]; omega
  | ⟨3, _⟩ =>
    show win0_9.index ⟨_, hN⟩ 3 * 128 ≤ (i 3).val ∧ (i 3).val < win0_9.index ⟨_, hN⟩ 3 * 128 + 128
    rw [e3]; omega

/-- Where an element of window 10's block sits in the array, axis 0. -/
theorem emb10_0 (t : Fin cfg0.N) (j : ((cfg0.win 10).xblock (grid0.coords t)).Idx) :
    ((win0_10.rect t).emb j 0).val = t.val / 16 * 1 + (j 0).val := by
  obtain ⟨-, -, -, -, -, -, -, -, -, -, -, -, -, -, -, -, -, -, -, -, -, -, -, -, -, -, -, e0, e1, e2, -⟩ := idx_facts t
  rw [win0_10.rect_emb_val, e0]; rfl

/-- Where an element of window 10's block sits in the array, axis 1. -/
theorem emb10_1 (t : Fin cfg0.N) (j : ((cfg0.win 10).xblock (grid0.coords t)).Idx) :
    ((win0_10.rect t).emb j 1).val = t.val % 16 * 128 + (j 1).val := by
  obtain ⟨-, -, -, -, -, -, -, -, -, -, -, -, -, -, -, -, -, -, -, -, -, -, -, -, -, -, -, e0, e1, e2, -⟩ := idx_facts t
  rw [win0_10.rect_emb_val, e1]; rfl

/-- Where an element of window 10's block sits in the array, axis 2. -/
theorem emb10_2 (t : Fin cfg0.N) (j : ((cfg0.win 10).xblock (grid0.coords t)).Idx) :
    ((win0_10.rect t).emb j 2).val = (j 2).val := by
  obtain ⟨-, -, -, -, -, -, -, -, -, -, -, -, -, -, -, -, -, -, -, -, -, -, -, -, -, -, -, e0, e1, e2, -⟩ := idx_facts t
  exact win0_10.rect_emb_val_of_index_zero t 2 e2 j

/-- Every index of the result lies in some point's block of window 10. -/
theorem cover10 (i : S4x2048x2048.Idx) : ∃ t : Fin cfg0.N, (cfg0.win 10).flush t = true ∧ i ∈ ((cfg0.win 10).blk t).view.set := by
  have h0 : (i 0).val < 4 := (i 0).isLt
  have h1 : (i 1).val < 2048 := (i 1).isLt
  have h2 : (i 2).val < 2048 := (i 2).isLt
  have hN : (i 0).val * 16 + (i 1).val / 128 < cfg0.N := by
    show _ < grid0.N
    rw [N_0]; omega
  refine ⟨⟨_, hN⟩, flush0_10 _, ?_⟩
  obtain ⟨-, -, -, -, -, -, -, -, -, -, -, -, -, -, -, -, -, -, -, -, -, -, -, -, -, -, -, e0, e1, e2, -⟩ := idx_facts ⟨_, hN⟩
  dsimp only at e0 e1 e2
  show i ∈ ((View.whole main_v35_4).slice (win0_10.rect ⟨_, hN⟩)).set
  rw [View.set_slice_whole, Rect.mem_set_unit]
  intro a
  match a with
  | ⟨0, _⟩ =>
    show win0_10.index ⟨_, hN⟩ 0 * 1 ≤ (i 0).val ∧ (i 0).val < win0_10.index ⟨_, hN⟩ 0 * 1 + 1
    rw [e0]; omega
  | ⟨1, _⟩ =>
    show win0_10.index ⟨_, hN⟩ 1 * 128 ≤ (i 1).val ∧ (i 1).val < win0_10.index ⟨_, hN⟩ 1 * 128 + 128
    rw [e1]; omega
  | ⟨2, _⟩ =>
    show win0_10.index ⟨_, hN⟩ 2 * 2048 ≤ (i 2).val ∧ (i 2).val < win0_10.index ⟨_, hN⟩ 2 * 2048 + 2048
    rw [e2]; omega

/-- Where an element of window 11's block sits in the array, axis 0. -/
theorem emb11_0 (t : Fin cfg0.N) (j : ((cfg0.win 11).xblock (grid0.coords t)).Idx) :
    ((win0_11.rect t).emb j 0).val = t.val / 16 * 1 + (j 0).val := by
  obtain ⟨-, -, -, -, -, -, -, -, -, -, -, -, -, -, -, -, -, -, -, -, -, -, -, -, -, -, -, -, -, -, e0, e1, e2, -⟩ := idx_facts t
  rw [win0_11.rect_emb_val, e0]; rfl

/-- Where an element of window 11's block sits in the array, axis 1. -/
theorem emb11_1 (t : Fin cfg0.N) (j : ((cfg0.win 11).xblock (grid0.coords t)).Idx) :
    ((win0_11.rect t).emb j 1).val = t.val % 16 * 128 + (j 1).val := by
  obtain ⟨-, -, -, -, -, -, -, -, -, -, -, -, -, -, -, -, -, -, -, -, -, -, -, -, -, -, -, -, -, -, e0, e1, e2, -⟩ := idx_facts t
  rw [win0_11.rect_emb_val, e1]; rfl

/-- Where an element of window 11's block sits in the array, axis 2. -/
theorem emb11_2 (t : Fin cfg0.N) (j : ((cfg0.win 11).xblock (grid0.coords t)).Idx) :
    ((win0_11.rect t).emb j 2).val = (j 2).val := by
  obtain ⟨-, -, -, -, -, -, -, -, -, -, -, -, -, -, -, -, -, -, -, -, -, -, -, -, -, -, -, -, -, -, e0, e1, e2, -⟩ := idx_facts t
  exact win0_11.rect_emb_val_of_index_zero t 2 e2 j

/-- Every index of the result lies in some point's block of window 11. -/
theorem cover11 (i : S4x2048x128.Idx) : ∃ t : Fin cfg0.N, (cfg0.win 11).flush t = true ∧ i ∈ ((cfg0.win 11).blk t).view.set := by
  have h0 : (i 0).val < 4 := (i 0).isLt
  have h1 : (i 1).val < 2048 := (i 1).isLt
  have h2 : (i 2).val < 128 := (i 2).isLt
  have hN : (i 0).val * 16 + (i 1).val / 128 < cfg0.N := by
    show _ < grid0.N
    rw [N_0]; omega
  refine ⟨⟨_, hN⟩, flush0_11 _, ?_⟩
  obtain ⟨-, -, -, -, -, -, -, -, -, -, -, -, -, -, -, -, -, -, -, -, -, -, -, -, -, -, -, -, -, -, e0, e1, e2, -⟩ := idx_facts ⟨_, hN⟩
  dsimp only at e0 e1 e2
  show i ∈ ((View.whole main_v35_5).slice (win0_11.rect ⟨_, hN⟩)).set
  rw [View.set_slice_whole, Rect.mem_set_unit]
  intro a
  match a with
  | ⟨0, _⟩ =>
    show win0_11.index ⟨_, hN⟩ 0 * 1 ≤ (i 0).val ∧ (i 0).val < win0_11.index ⟨_, hN⟩ 0 * 1 + 1
    rw [e0]; omega
  | ⟨1, _⟩ =>
    show win0_11.index ⟨_, hN⟩ 1 * 128 ≤ (i 1).val ∧ (i 1).val < win0_11.index ⟨_, hN⟩ 1 * 128 + 128
    rw [e1]; omega
  | ⟨2, _⟩ =>
    show win0_11.index ⟨_, hN⟩ 2 * 128 ≤ (i 2).val ∧ (i 2).val < win0_11.index ⟨_, hN⟩ 2 * 128 + 128
    rw [e2]; omega

/-- Where an element of window 12's block sits in the array, axis 0. -/
theorem emb12_0 (t : Fin cfg0.N) (j : ((cfg0.win 12).xblock (grid0.coords t)).Idx) :
    ((win0_12.rect t).emb j 0).val = t.val / 16 * 1 + (j 0).val := by
  obtain ⟨-, -, -, -, -, -, -, -, -, -, -, -, -, -, -, -, -, -, -, -, -, -, -, -, -, -, -, -, -, -, -, -, -, e0, e1, e2⟩ := idx_facts t
  rw [win0_12.rect_emb_val, e0]; rfl

/-- Where an element of window 12's block sits in the array, axis 1. -/
theorem emb12_1 (t : Fin cfg0.N) (j : ((cfg0.win 12).xblock (grid0.coords t)).Idx) :
    ((win0_12.rect t).emb j 1).val = (j 1).val := by
  obtain ⟨-, -, -, -, -, -, -, -, -, -, -, -, -, -, -, -, -, -, -, -, -, -, -, -, -, -, -, -, -, -, -, -, -, e0, e1, e2⟩ := idx_facts t
  exact win0_12.rect_emb_val_of_index_zero t 1 e1 j

/-- Where an element of window 12's block sits in the array, axis 2. -/
theorem emb12_2 (t : Fin cfg0.N) (j : ((cfg0.win 12).xblock (grid0.coords t)).Idx) :
    ((win0_12.rect t).emb j 2).val = t.val % 16 * 128 + (j 2).val := by
  obtain ⟨-, -, -, -, -, -, -, -, -, -, -, -, -, -, -, -, -, -, -, -, -, -, -, -, -, -, -, -, -, -, -, -, -, e0, e1, e2⟩ := idx_facts t
  rw [win0_12.rect_emb_val, e2]; rfl

/-- Every index of the result lies in some point's block of window 12. -/
theorem cover12 (i : S4x16x2048.Idx) : ∃ t : Fin cfg0.N, (cfg0.win 12).flush t = true ∧ i ∈ ((cfg0.win 12).blk t).view.set := by
  have h0 : (i 0).val < 4 := (i 0).isLt
  have h1 : (i 1).val < 16 := (i 1).isLt
  have h2 : (i 2).val < 2048 := (i 2).isLt
  have hN : (i 0).val * 16 + (i 2).val / 128 < cfg0.N := by
    show _ < grid0.N
    rw [N_0]; omega
  refine ⟨⟨_, hN⟩, flush0_12 _, ?_⟩
  obtain ⟨-, -, -, -, -, -, -, -, -, -, -, -, -, -, -, -, -, -, -, -, -, -, -, -, -, -, -, -, -, -, -, -, -, e0, e1, e2⟩ := idx_facts ⟨_, hN⟩
  dsimp only at e0 e1 e2
  show i ∈ ((View.whole main_v35_6).slice (win0_12.rect ⟨_, hN⟩)).set
  rw [View.set_slice_whole, Rect.mem_set_unit]
  intro a
  match a with
  | ⟨0, _⟩ =>
    show win0_12.index ⟨_, hN⟩ 0 * 1 ≤ (i 0).val ∧ (i 0).val < win0_12.index ⟨_, hN⟩ 0 * 1 + 1
    rw [e0]; omega
  | ⟨1, _⟩ =>
    show win0_12.index ⟨_, hN⟩ 1 * 16 ≤ (i 1).val ∧ (i 1).val < win0_12.index ⟨_, hN⟩ 1 * 16 + 16
    rw [e1]; omega
  | ⟨2, _⟩ =>
    show win0_12.index ⟨_, hN⟩ 2 * 128 ≤ (i 2).val ∧ (i 2).val < win0_12.index ⟨_, hN⟩ 2 * 128 + 128
    rw [e2]; omega

/-- The frequencies of the heads of 128 lanes. -/
def freq16 : FVec Ideal S16 .f32 :=
  Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))
/-- The frequencies of the heads of 64 lanes. -/
def freq8 : FVec Ideal S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The frequencies by their number. -/
def fr16 (k : Nat) : EReal := freq16 (ix1 ⟨k % 16, Nat.mod_lt _ (by decide)⟩)
def fr8 (k : Nat) : EReal := freq8 (ix1 ⟨k % 8, Nat.mod_lt _ (by decide)⟩)

/-- An entry of the attention's rows by the numbers of its batch, its token and its column. -/
def attv (x : FVec Ideal S4x2048x4352 .f32) (b s n : Nat) : EReal :=
  x (ix3 ⟨b % 4, Nat.mod_lt _ (by decide)⟩ ⟨s % 2048, Nat.mod_lt _ (by decide)⟩ ⟨n % 4352, Nat.mod_lt _ (by decide)⟩)

theorem attv_of (x : FVec Ideal S4x2048x4352 .f32) (i : S4x2048x4352.Idx) (b s n : Nat) (hb : (i 0).val = b) (hs : (i 1).val = s) (hn : (i 2).val = n) :
    x i = attv x b s n := by
  subst hb hs hn
  refine congrArg x (funext fun a => Fin.ext ?_)
  match a with
  | ⟨0, _⟩ => exact (Nat.mod_eq_of_lt (i 0).isLt).symm
  | ⟨1, _⟩ => exact (Nat.mod_eq_of_lt (i 1).isLt).symm
  | ⟨2, _⟩ => exact (Nat.mod_eq_of_lt (i 2).isLt).symm

/-- A token's position as a number, by its batch and its place. -/
def posv (x : IVec S4x2048 32) (b s : Nat) : EReal :=
  (sitofp .f32 x : FVec Ideal S4x2048 .f32) (ix2 ⟨b % 4, Nat.mod_lt _ (by decide)⟩ ⟨s % 2048, Nat.mod_lt _ (by decide)⟩)

theorem posv_of (x : IVec S4x2048 32) (b : Fin 4) (s : Fin 2048) : (sitofp .f32 x : FVec Ideal S4x2048 .f32) (ix2 b s) = posv x b.val s.val := by
  refine congrArg (sitofp .f32 x : FVec Ideal S4x2048 .f32) (funext fun a => Fin.ext ?_)
  match a with
  | ⟨0, _⟩ => exact (Nat.mod_eq_of_lt b.isLt).symm
  | ⟨1, _⟩ => exact (Nat.mod_eq_of_lt s.isLt).symm

/-- The positions as the host lays them out. -/
theorem V2 (c : Dev nD) (b : Fin 4) (s : Fin 2048) : V m c main_v2 (ix3 (n2 := 1) b s 0) = posv (m ((c : Thread nD τ).loc main_arg3)) b.val s.val := by
  have e : V m c main_v2 = shapeCast S4x2048x1 (sitofp .f32 (m ((c : Thread nD τ).loc main_arg3)) : FVec Ideal S4x2048 .f32) shapeCasts_S4x2048_S4x2048x1 := by
    unfold V
    after_results <;> rfl
  rw [e, ← posv_of]
  refine shapeCast_apply _ _ _ _ ?_
  rw [Shape.rowMajor_val_three, Shape.rowMajor_val_two]
  show b.val * 2048 + s.val = (b.val * 2048 + s.val) * 1 + 0
  omega

theorem lay16 (f : FVec Ideal S16 .f32) (g : Nat → EReal) (hg : ∀ k : Fin 16, f (ix1 k) = g k.val) (z : FVec Ideal S96 .f32) (hz : ∀ k, z (ix1 k) = 0) (q : Fin 128) :
    concatenate S128 0 [⟨S16, f⟩, ⟨S16, f⟩, ⟨S96, z⟩] concatenates_S16_S16_S96_S128_d0 (ix1 q) = lanes 16 128 g q.val := by
  have hq := q.isLt
  unfold lanes
  rw [Nat.mod_eq_of_lt hq]
  pointwise []
  split
  · exact hg _
  · split
    · rename_i h2
      exact (hg _).trans (if_pos (by omega)).symm
    · rename_i h2
      exact (hz _).trans (if_neg (by omega)).symm

theorem lay8 (f : FVec Ideal S8 .f32) (g : Nat → EReal) (hg : ∀ k : Fin 8, f (ix1 k) = g k.val) (z : FVec Ideal S48 .f32) (hz : ∀ k, z (ix1 k) = 0) (q : Fin 64) :
    concatenate S64 0 [⟨S8, f⟩, ⟨S8, f⟩, ⟨S48, z⟩] concatenates_S8_S8_S48_S64_d0 (ix1 q) = lanes 8 64 g q.val := by
  have hq := q.isLt
  unfold lanes
  rw [Nat.mod_eq_of_lt hq]
  pointwise []
  split
  · exact hg _
  · split
    · rename_i h2
      exact (hg _).trans (if_pos (by omega)).symm
    · rename_i h2
      exact (hz _).trans (if_neg (by omega)).symm

theorem hfr16 (k : Fin 16) : freq16 (ix1 k) = fr16 k.val := by
  unfold fr16
  exact congrArg freq16 (congrArg ix1 (Fin.ext (Nat.mod_eq_of_lt k.isLt).symm))
theorem hfr8 (k : Fin 8) : freq8 (ix1 k) = fr8 k.val := by
  unfold fr8
  exact congrArg freq8 (congrArg ix1 (Fin.ext (Nat.mod_eq_of_lt k.isLt).symm))

/-- The frequencies over the lanes of a block, heads of 128 lanes. -/
theorem V18 (c : Dev nD) (q : Fin 128) : V m c main_v18 (ix2 (n0 := 1) 0 q) = lanes 16 128 fr16 q.val := by
  have e : V m c main_v18 = shapeCast S1x128 (shapeCast S128 (broadcastInDim S1x128 ![0, 1] bcast_S1x128_S1x128_0_1 (shapeCast S1x128
      (concatenate S128 0 [⟨S16, freq16⟩, ⟨S16, freq16⟩, ⟨S96, broadcastInDim S96 ![] bcast_S_S96 (constant (F := Ideal) S_ .f32 0x00000000#32)⟩] concatenates_S16_S16_S96_S128_d0)
      shapeCasts_S128_S1x128)) shapeCasts_S1x128_S128) shapeCasts_S128_S1x128 := by
    unfold V
    after_results_simp <;> (try dsimp only [Matrix.cons_val]) <;> (try after_results_simp) <;> rfl
  rw [e]
  have hl := lay16 freq16 fr16 hfr16 (broadcastInDim S96 ![] bcast_S_S96 (constant (F := Ideal) S_ .f32 0x00000000#32)) (fun k => by pointwise []) q
  generalize concatenate S128 0 _ _ = y at hl ⊢
  refine (shapeCast_apply _ _ _ (ix1 q) ?_).trans ((shapeCast_apply _ _ _ (ix2 (n0 := 1) 0 q) ?_).trans (Eq.trans ?_ hl))
  · rw [Shape.rowMajor_val_one, Shape.rowMajor_val_two]
    show q.val = 0 * 128 + q.val
    omega
  · rw [Shape.rowMajor_val_one, Shape.rowMajor_val_two]
    show 0 * 128 + q.val = q.val
    omega
  · have h2 : shapeCast S1x128 y shapeCasts_S128_S1x128 (ix2 (n0 := 1) 0 q) = y (ix1 q) := by
      refine shapeCast_apply _ _ _ (ix1 q) ?_
      rw [Shape.rowMajor_val_one, Shape.rowMajor_val_two]
      show q.val = 0 * 128 + q.val
      omega
    refine Eq.trans ?_ h2
    generalize shapeCast S1x128 y shapeCasts_S128_S1x128 = z
    pointwise [] <;> rfl

/-- The frequencies over the lanes of a block, heads of 64 lanes, two to a block. -/
theorem V34 (c : Dev nD) (q : Fin 128) : V m c main_v34 (ix2 (n0 := 1) 0 q) = lanes 8 64 fr8 q.val := by
  have e : V m c main_v34 = shapeCast S1x128 (shapeCast S128 (broadcastInDim S2x64 ![0, 1] bcast_S1x64_S2x64_0_1 (shapeCast S1x64
      (concatenate S64 0 [⟨S8, freq8⟩, ⟨S8, freq8⟩, ⟨S48, broadcastInDim S48 ![] bcast_S_S48 (constant (F := Ideal) S_ .f32 0x00000000#32)⟩] concatenates_S8_S8_S48_S64_d0)
      shapeCasts_S64_S1x64)) shapeCasts_S2x64_S128) shapeCasts_S128_S1x128 := by
    unfold V
    after_results_simp <;> (try dsimp only [Matrix.cons_val]) <;> (try after_results_simp) <;> rfl
  rw [e]
  have hq := q.isLt
  have hl := lay8 freq8 fr8 hfr8 (broadcastInDim S48 ![] bcast_S_S48 (constant (F := Ideal) S_ .f32 0x00000000#32)) (fun k => by pointwise []) ⟨q.val % 64, Nat.mod_lt _ (by decide)⟩
  have hm : lanes 8 64 fr8 (q.val % 64) = lanes 8 64 fr8 q.val := by
    unfold lanes
    rw [Nat.mod_mod]
  rw [← hm]
  generalize concatenate S64 0 _ _ = y at hl ⊢
  refine (shapeCast_apply _ _ _ (ix1 q) ?_).trans ((shapeCast_apply _ _ _ (ix2 (n0 := 2) (n1 := 64) ⟨q.val / 64, by omega⟩ ⟨q.val % 64, by omega⟩) ?_).trans (Eq.trans ?_ hl))
  · rw [Shape.rowMajor_val_one, Shape.rowMajor_val_two]
    show q.val = 0 * 128 + q.val
    omega
  · rw [Shape.rowMajor_val_one, Shape.rowMajor_val_two]
    show q.val / 64 * 64 + q.val % 64 = q.val
    omega
  · have h2 : shapeCast S1x64 y shapeCasts_S64_S1x64 (ix2 (n0 := 1) (n1 := 64) 0 ⟨q.val % 64, by omega⟩) = y (ix1 ⟨q.val % 64, by omega⟩) := by
      refine shapeCast_apply _ _ _ _ ?_
      rw [Shape.rowMajor_val_one, Shape.rowMajor_val_two]
      show q.val % 64 = 0 * 64 + q.val % 64
      omega
    refine Eq.trans ?_ h2
    generalize shapeCast S1x64 y shapeCasts_S64_S1x64 = z
    pointwise [] <;> rfl

end Cert.KZaIdeal.Hand

end
-- ==== Proof.Za.lean ====
/-
  The value of the projection of the gating's inputs: every block the kernel writes is a block of the projection, and beside
  it the queries and the keys of the sparse attention embedded by their positions, the values transposed, and the indexer's
  queries, keys and weights.
-/
module

public import proofs.«01_k».proof.Proof.Gen.KZaIdeal.Value
public import Idealize.ShloMosaic.Lib.Pointwise
public import proofs.«01_k».proof.Proof.ZaGeom
public import Idealize.ShloMosaic.Lib.Pipeline.ValueKit.Acc

@[expose] public section

set_option maxRecDepth 16384

noncomputable section

namespace Cert.KZaIdeal.Hand

open Cert.KZaIdeal Cert.KZaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Entry `n` of a row of heads of 128 lanes, each embedded by the row's angles; the row's heads start at column `base`. -/
def H16 (base : Nat) (xs θ : Nat → Nat → EReal) (p n : Nat) : EReal :=
  rv 16 (fun k => xs p (base + n / 128 * 128 + k)) (θ p) (n % 128)

/-- The same of the indexer's heads of 64 lanes, each completed with 64 zeros. -/
def H8 (base : Nat) (xs θ : Nat → Nat → EReal) (p n : Nat) : EReal :=
  if n % 128 < 64 then rv 8 (fun k => xs p (base + n / 128 * 64 + k)) (θ p) (n % 128) else 0

/-- A row of a block of 128 columns of the attention's rows. -/
theorem ld_row (x2 : Vec Ideal S1x128x4352 .f32) (xs : Nat → Nat → EReal) (hx : ∀ (p : Fin 128) (n : Fin 4352), x2 (ix3 (n0 := 1) 0 p n) = xs p.val n.val)
    (o : Nat) (inb : ∀ a : Fin 3, (![0, 0, o] : Fin 3 → Nat) a + (![1, 128, 128] : Fin 3 → Nat) a ≤ S1x128x4352.size a) (p q : Fin 128) :
    (View.ld x2 (Rect.unit ![0, 0, o] ![1, 128, 128] inb) : Vec Ideal S1x128x128 .f32) (ix3 (n0 := 1) 0 p q) = xs p.val (o + q.val) := by
  have ho : o + 128 ≤ 4352 := inb 2
  have e : (View.ld x2 (Rect.unit ![0, 0, o] ![1, 128, 128] inb) : Vec Ideal S1x128x128 .f32) (ix3 (n0 := 1) 0 p q)
      = x2 (ix3 (n0 := 1) 0 p ⟨o + q.val, by omega⟩) := by
    show x2 _ = x2 _
    refine congrArg x2 (funext fun a => Fin.ext ?_)
    match a with
    | ⟨0, _⟩ => rfl
    | ⟨1, _⟩ => show 0 + 1 * p.val = p.val; omega
    | ⟨2, _⟩ => show o + 1 * q.val = o + q.val; omega
  exact e.trans (hx p _)

theorem piece16 (base : Nat) (x2 : Vec Ideal S1x128x4352 .f32) (c s1 s2 : FVec Ideal S128x128 .f32) (xs θ : Nat → Nat → EReal)
    (hx : ∀ (p : Fin 128) (n : Fin 4352), x2 (ix3 (n0 := 1) 0 p n) = xs p.val n.val) (hT : ∀ p : Fin 128, Tab 16 128 p c s1 s2 (θ p.val))
    (o o' : Nat) (ho : o' = base + o) (hd : o % 128 = 0)
    (inb : ∀ a : Fin 3, (![0, 0, o'] : Fin 3 → Nat) a + (![1, 128, 128] : Fin 3 → Nat) a ≤ S1x128x4352.size a) (x : S1x128x128.Idx) :
    head (View.ld x2 (Rect.unit ![0, 0, o'] ![1, 128, 128] inb)) c s1 s2 x = H16 base xs θ (0 + 1 * (x 1).val) (o + 1 * (x 2).val) := by
  have h2 : (x 2).val < 128 := (x 2).isLt
  have ex : x = ix3 (n0 := 1) (n1 := 128) (n2 := 128) 0 (x 1) (x 2) := by
    funext a
    match a with
    | ⟨0, _⟩ => exact Fin.eq_zero (x 0)
    | ⟨1, _⟩ => rfl
    | ⟨2, _⟩ => rfl
  refine (congrArg _ ex).trans ((head_apply _ c s1 s2 (x 1) (x 2) (θ (x 1).val) (fun n => xs (x 1).val (o' + n)) (hT (x 1)) (fun q => ld_row x2 xs hx o' inb (x 1) q)).trans ?_)
  unfold H16
  rw [show 0 + 1 * (x 1).val = (x 1).val by omega, show (o + 1 * (x 2).val) % 128 = (x 2).val by omega, show base + (o + 1 * (x 2).val) / 128 * 128 = o' by omega]

theorem piece8e (base : Nat) (x2 : Vec Ideal S1x128x4352 .f32) (c s1 s2 : FVec Ideal S128x128 .f32) (xs θ : Nat → Nat → EReal)
    (hx : ∀ (p : Fin 128) (n : Fin 4352), x2 (ix3 (n0 := 1) 0 p n) = xs p.val n.val) (hT : ∀ p : Fin 128, Tab 8 64 p c s1 s2 (θ p.val))
    (o o' : Nat) (ho : o' = base + o / 2) (hd : o % 256 = 0)
    (inb : ∀ a : Fin 3, (![0, 0, o'] : Fin 3 → Nat) a + (![1, 128, 128] : Fin 3 → Nat) a ≤ S1x128x4352.size a) (x : S1x128x128.Idx) :
    even (View.ld x2 (Rect.unit ![0, 0, o'] ![1, 128, 128] inb)) c s1 s2 x = H8 base xs θ (0 + 1 * (x 1).val) (o + 1 * (x 2).val) := by
  have h2 : (x 2).val < 128 := (x 2).isLt
  have ex : x = ix3 (n0 := 1) (n1 := 128) (n2 := 128) 0 (x 1) (x 2) := by
    funext a
    match a with
    | ⟨0, _⟩ => exact Fin.eq_zero (x 0)
    | ⟨1, _⟩ => rfl
    | ⟨2, _⟩ => rfl
  refine (congrArg _ ex).trans ((even_apply _ c s1 s2 (x 1) (x 2) (θ (x 1).val) (fun n => xs (x 1).val (o' + n)) (hT (x 1)) (fun q => ld_row x2 xs hx o' inb (x 1) q)).trans ?_)
  unfold H8
  rw [show 0 + 1 * (x 1).val = (x 1).val by omega, show (o + 1 * (x 2).val) % 128 = (x 2).val by omega, show base + (o + 1 * (x 2).val) / 128 * 64 = o' by omega]

theorem piece8o (base : Nat) (x2 : Vec Ideal S1x128x4352 .f32) (c s1 s2 : FVec Ideal S128x128 .f32) (xs θ : Nat → Nat → EReal)
    (hx : ∀ (p : Fin 128) (n : Fin 4352), x2 (ix3 (n0 := 1) 0 p n) = xs p.val n.val) (hT : ∀ p : Fin 128, Tab 8 64 p c s1 s2 (θ p.val))
    (o o' : Nat) (ho : o' + 64 = base + o / 2) (hd : o % 256 = 128)
    (inb : ∀ a : Fin 3, (![0, 0, o'] : Fin 3 → Nat) a + (![1, 128, 128] : Fin 3 → Nat) a ≤ S1x128x4352.size a) (x : S1x128x128.Idx) :
    odd (View.ld x2 (Rect.unit ![0, 0, o'] ![1, 128, 128] inb)) c s1 s2 x = H8 base xs θ (0 + 1 * (x 1).val) (o + 1 * (x 2).val) := by
  have h2 : (x 2).val < 128 := (x 2).isLt
  have ex : x = ix3 (n0 := 1) (n1 := 128) (n2 := 128) 0 (x 1) (x 2) := by
    funext a
    match a with
    | ⟨0, _⟩ => exact Fin.eq_zero (x 0)
    | ⟨1, _⟩ => rfl
    | ⟨2, _⟩ => rfl
  refine (congrArg _ ex).trans ((odd_apply _ c s1 s2 (x 1) (x 2) (θ (x 1).val) (fun n => xs (x 1).val (o' + n)) (hT (x 1)) (fun q => ld_row x2 xs hx o' inb (x 1) q)).trans ?_)
  unfold H8
  rw [show 0 + 1 * (x 1).val = (x 1).val by omega, show (o + 1 * (x 2).val) % 128 = (x 2).val by omega, show base + (o + 1 * (x 2).val) / 128 * 64 = o' + 64 by omega]
  simp only [Nat.add_assoc]

section
variable (c : Dev nD) (i : grid0.Coords) (arg2 : Memref sig .tc .vmem S1024x4096 .bf16) (harg2 : arg2.IsWhole) (arg3 : Memref sig .tc .vmem S1x512x4096 .f32) (harg3 : arg3.IsWhole) (arg4 : Memref sig .tc .vmem S1x128x4352 .f32) (harg4 : arg4.IsWhole) (arg5 : Memref sig .tc .vmem S1x128x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x512 .f32) (harg8 : arg8.IsWhole) (arg9 : Memref sig .tc .vmem S1x128x2048 .bf16) (harg9 : arg9.IsWhole) (arg10 : Memref sig .tc .vmem S1x128x512 .bf16) (harg10 : arg10.IsWhole) (arg11 : Memref sig .tc .vmem S1x1x512x128 .bf16) (harg11 : arg11.IsWhole) (arg12 : Memref sig .tc .vmem S1x128x2048 .bf16) (harg12 : arg12.IsWhole) (arg13 : Memref sig .tc .vmem S1x128x128 .bf16) (harg13 : arg13.IsWhole) (arg14 : Memref sig .tc .vmem S1x16x128 .f32) (harg14 : arg14.IsWhole)
    (x0 : Vec Ideal S1024x4096 .bf16) (x1 : Vec Ideal S1x512x4096 .f32) (x2 : Vec Ideal S1x128x4352 .f32) (x3 : Vec Ideal S1x128x1 .f32) (x4 : Vec Ideal S1x128 .f32) (x5 : Vec Ideal S1x128 .f32)

/-- What the body leaves in its block of the queries. -/
theorem block7
    (xs θ : Nat → Nat → EReal) (hx : ∀ (p : Fin 128) (n : Fin 4352), x2 (ix3 (n0 := 1) 0 p n) = xs p.val n.val)
    (hT : ∀ p : Fin 128, Tab 16 128 p (k0_pay6 x3 x4) (k0_pay7 x3 x4) (k0_pay8 x3 x4) (θ p.val))
    (y : S1x128x2048.Idx) : out0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 y = H16 0 xs θ (y 1).val (y 2).val := by
  frame_out
  refine View.canon_apply_of_pieces (Val := Elt Ideal) (e := .bf16) (fun y : S1x128x2048.Idx => H16 0 xs θ (y 1).val (y 2).val) _ ?_ y (View.cover_of_tiledL (s := S1x128x2048) _ S1x128x128.size (by sl_kernel_rfl) y)
  intro pc hpc
  rcases List.mem_cons.mp hpc with rfl | hpc
  · exact fun x => piece16 0 x2 _ _ _ xs θ hx hT 1920 1920 (by decide) (by decide) _ x
  rcases List.mem_cons.mp hpc with rfl | hpc
  · exact fun x => piece16 0 x2 _ _ _ xs θ hx hT 1792 1792 (by decide) (by decide) _ x
  rcases List.mem_cons.mp hpc with rfl | hpc
  · exact fun x => piece16 0 x2 _ _ _ xs θ hx hT 1664 1664 (by decide) (by decide) _ x
  rcases List.mem_cons.mp hpc with rfl | hpc
  · exact fun x => piece16 0 x2 _ _ _ xs θ hx hT 1536 1536 (by decide) (by decide) _ x
  rcases List.mem_cons.mp hpc with rfl | hpc
  · exact fun x => piece16 0 x2 _ _ _ xs θ hx hT 1408 1408 (by decide) (by decide) _ x
  rcases List.mem_cons.mp hpc with rfl | hpc
  · exact fun x => piece16 0 x2 _ _ _ xs θ hx hT 1280 1280 (by decide) (by decide) _ x
  rcases List.mem_cons.mp hpc with rfl | hpc
  · exact fun x => piece16 0 x2 _ _ _ xs θ hx hT 1152 1152 (by decide) (by decide) _ x
  rcases List.mem_cons.mp hpc with rfl | hpc
  · exact fun x => piece16 0 x2 _ _ _ xs θ hx hT 1024 1024 (by decide) (by decide) _ x
  rcases List.mem_cons.mp hpc with rfl | hpc
  · exact fun x => piece16 0 x2 _ _ _ xs θ hx hT 896 896 (by decide) (by decide) _ x
  rcases List.mem_cons.mp hpc with rfl | hpc
  · exact fun x => piece16 0 x2 _ _ _ xs θ hx hT 768 768 (by decide) (by decide) _ x
  rcases List.mem_cons.mp hpc with rfl | hpc
  · exact fun x => piece16 0 x2 _ _ _ xs θ hx hT 640 640 (by decide) (by decide) _ x
  rcases List.mem_cons.mp hpc with rfl | hpc
  · exact fun x => piece16 0 x2 _ _ _ xs θ hx hT 512 512 (by decide) (by decide) _ x
  rcases List.mem_cons.mp hpc with rfl | hpc
  · exact fun x => piece16 0 x2 _ _ _ xs θ hx hT 384 384 (by decide) (by decide) _ x
  rcases List.mem_cons.mp hpc with rfl | hpc
  · exact fun x => piece16 0 x2 _ _ _ xs θ hx hT 256 256 (by decide) (by decide) _ x
  rcases List.mem_cons.mp hpc with rfl | hpc
  · exact fun x => piece16 0 x2 _ _ _ xs θ hx hT 128 128 (by decide) (by decide) _ x
  rcases List.mem_singleton.mp hpc with rfl
  exact fun x => piece16 0 x2 _ _ _ xs θ hx hT 0 0 (by decide) (by decide) _ x

/-- What the body leaves in its block of the keys. -/
theorem block8
    (xs θ : Nat → Nat → EReal) (hx : ∀ (p : Fin 128) (n : Fin 4352), x2 (ix3 (n0 := 1) 0 p n) = xs p.val n.val)
    (hT : ∀ p : Fin 128, Tab 16 128 p (k0_pay6 x3 x4) (k0_pay7 x3 x4) (k0_pay8 x3 x4) (θ p.val))
    (y : S1x128x512.Idx) : out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 y = H16 2048 xs θ (y 1).val (y 2).val := by
  frame_out
  refine View.canon_apply_of_pieces (Val := Elt Ideal) (e := .bf16) (fun y : S1x128x512.Idx => H16 2048 xs θ (y 1).val (y 2).val) _ ?_ y (View.cover_of_tiledL (s := S1x128x512) _ S1x128x128.size (by sl_kernel_rfl) y)
  intro pc hpc
  rcases List.mem_cons.mp hpc with rfl | hpc
  · exact fun x => piece16 2048 x2 _ _ _ xs θ hx hT 384 2432 (by decide) (by decide) _ x
  rcases List.mem_cons.mp hpc with rfl | hpc
  · exact fun x => piece16 2048 x2 _ _ _ xs θ hx hT 256 2304 (by decide) (by decide) _ x
  rcases List.mem_cons.mp hpc with rfl | hpc
  · exact fun x => piece16 2048 x2 _ _ _ xs θ hx hT 128 2176 (by decide) (by decide) _ x
  rcases List.mem_singleton.mp hpc with rfl
  exact fun x => piece16 2048 x2 _ _ _ xs θ hx hT 0 2048 (by decide) (by decide) _ x

/-- What the body leaves in its block of the indexer's queries. -/
theorem block10
    (xs θ : Nat → Nat → EReal) (hx : ∀ (p : Fin 128) (n : Fin 4352), x2 (ix3 (n0 := 1) 0 p n) = xs p.val n.val)
    (hT : ∀ p : Fin 128, Tab 8 64 p (k0_pay13 (k0_pay10 x3 x5) k0_pay12) (k0_pay14 (k0_pay11 x3 x5) k0_pay12) (k0_pay15 (k0_pay11 x3 x5) k0_pay12) (θ p.val))
    (y : S1x128x2048.Idx) : out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 y = H8 3072 xs θ (y 1).val (y 2).val := by
  frame_out
  refine View.canon_apply_of_pieces (Val := Elt Ideal) (e := .bf16) (fun y : S1x128x2048.Idx => H8 3072 xs θ (y 1).val (y 2).val) _ ?_ y (View.cover_of_tiledL (s := S1x128x2048) _ S1x128x128.size (by sl_kernel_rfl) y)
  intro pc hpc
  rcases List.mem_cons.mp hpc with rfl | hpc
  · exact fun x => piece8o 3072 x2 _ _ _ xs θ hx hT 1920 3968 (by decide) (by decide) _ x
  rcases List.mem_cons.mp hpc with rfl | hpc
  · exact fun x => piece8e 3072 x2 _ _ _ xs θ hx hT 1792 3968 (by decide) (by decide) _ x
  rcases List.mem_cons.mp hpc with rfl | hpc
  · exact fun x => piece8o 3072 x2 _ _ _ xs θ hx hT 1664 3840 (by decide) (by decide) _ x
  rcases List.mem_cons.mp hpc with rfl | hpc
  · exact fun x => piece8e 3072 x2 _ _ _ xs θ hx hT 1536 3840 (by decide) (by decide) _ x
  rcases List.mem_cons.mp hpc with rfl | hpc
  · exact fun x => piece8o 3072 x2 _ _ _ xs θ hx hT 1408 3712 (by decide) (by decide) _ x
  rcases List.mem_cons.mp hpc with rfl | hpc
  · exact fun x => piece8e 3072 x2 _ _ _ xs θ hx hT 1280 3712 (by decide) (by decide) _ x
  rcases List.mem_cons.mp hpc with rfl | hpc
  · exact fun x => piece8o 3072 x2 _ _ _ xs θ hx hT 1152 3584 (by decide) (by decide) _ x
  rcases List.mem_cons.mp hpc with rfl | hpc
  · exact fun x => piece8e 3072 x2 _ _ _ xs θ hx hT 1024 3584 (by decide) (by decide) _ x
  rcases List.mem_cons.mp hpc with rfl | hpc
  · exact fun x => piece8o 3072 x2 _ _ _ xs θ hx hT 896 3456 (by decide) (by decide) _ x
  rcases List.mem_cons.mp hpc with rfl | hpc
  · exact fun x => piece8e 3072 x2 _ _ _ xs θ hx hT 768 3456 (by decide) (by decide) _ x
  rcases List.mem_cons.mp hpc with rfl | hpc
  · exact fun x => piece8o 3072 x2 _ _ _ xs θ hx hT 640 3328 (by decide) (by decide) _ x
  rcases List.mem_cons.mp hpc with rfl | hpc
  · exact fun x => piece8e 3072 x2 _ _ _ xs θ hx hT 512 3328 (by decide) (by decide) _ x
  rcases List.mem_cons.mp hpc with rfl | hpc
  · exact fun x => piece8o 3072 x2 _ _ _ xs θ hx hT 384 3200 (by decide) (by decide) _ x
  rcases List.mem_cons.mp hpc with rfl | hpc
  · exact fun x => piece8e 3072 x2 _ _ _ xs θ hx hT 256 3200 (by decide) (by decide) _ x
  rcases List.mem_cons.mp hpc with rfl | hpc
  · exact fun x => piece8o 3072 x2 _ _ _ xs θ hx hT 128 3072 (by decide) (by decide) _ x
  rcases List.mem_singleton.mp hpc with rfl
  exact fun x => piece8e 3072 x2 _ _ _ xs θ hx hT 0 3072 (by decide) (by decide) _ x

/-- What the body leaves in its block of the indexer's keys. -/
theorem block11
    (xs θ : Nat → Nat → EReal) (hx : ∀ (p : Fin 128) (n : Fin 4352), x2 (ix3 (n0 := 1) 0 p n) = xs p.val n.val)
    (hT : ∀ p : Fin 128, Tab 8 64 p (k0_pay13 (k0_pay10 x3 x5) k0_pay12) (k0_pay14 (k0_pay11 x3 x5) k0_pay12) (k0_pay15 (k0_pay11 x3 x5) k0_pay12) (θ p.val))
    (p q : Fin 128) : out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 (n0 := 1) 0 p q) = H8 4096 xs θ p.val q.val := by
  have e : out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay77 (k0_pay13 (k0_pay10 x3 x5) k0_pay12) (k0_pay14 (k0_pay11 x3 x5) k0_pay12) (k0_pay15 (k0_pay11 x3 x5) k0_pay12) k0_pay46 (View.ld x2 (Rect.unit ![0, 0, 4096] ![1, 128, 128] inb_S1x128x4352_S1x128x128_0_0_4096)) := by
    frame_out
  have hq := q.isLt
  rw [e]
  refine (pay77_apply _ _ _ _ p q (θ p.val) (fun n => xs p.val (4096 + n)) (hT p) (fun q => ld_row x2 xs hx 4096 _ p q)).trans ?_
  unfold H8
  rw [show q.val % 128 = q.val by omega, show 4096 + q.val / 128 * 64 = 4096 by omega]

/-- What the body leaves in its block of the indexer's weights. -/
theorem block12
    (xs θ : Nat → Nat → EReal) (hx : ∀ (p : Fin 128) (n : Fin 4352), x2 (ix3 (n0 := 1) 0 p n) = xs p.val n.val)
    (hT : ∀ p : Fin 128, Tab 8 64 p (k0_pay13 (k0_pay10 x3 x5) k0_pay12) (k0_pay14 (k0_pay11 x3 x5) k0_pay12) (k0_pay15 (k0_pay11 x3 x5) k0_pay12) (θ p.val))
    (h : Fin 16) (p : Fin 128) : out0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 (n0 := 1) 0 h p) = xs p.val (4160 + h.val) := by
  have e : out0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay78 (k0_pay13 (k0_pay10 x3 x5) k0_pay12) (k0_pay14 (k0_pay11 x3 x5) k0_pay12) (k0_pay15 (k0_pay11 x3 x5) k0_pay12) k0_pay46 (View.ld x2 (Rect.unit ![0, 0, 4096] ![1, 128, 128] inb_S1x128x4352_S1x128x128_0_0_4096)) := by
    frame_out
  rw [e]
  refine (pay78_apply _ _ _ _ p h (θ p.val) (fun n => xs p.val (4096 + n)) (hT p) (fun q => ld_row x2 xs hx 4096 _ p q)).trans ?_
  exact congrArg (xs p.val) (by omega)

/-- What the body leaves in its block of the values, transposed. -/
theorem block9
    (xs : Nat → Nat → EReal) (hx : ∀ (p : Fin 128) (n : Fin 4352), x2 (ix3 (n0 := 1) 0 p n) = xs p.val n.val)
    (d : Fin 512) (p : Fin 128) : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix4 (n0 := 1) (n1 := 1) 0 0 d p) = xs p.val (2560 + d.val) := by
  have e : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay45 (k0_pay44 (View.ld x2 (Rect.unit ![0, 0, 2560] ![1, 128, 512] inb_S1x128x4352_S1x128x512_0_0_2560))) := by
    frame_out
  rw [e]
  refine Eq.trans ?_ (hx p ⟨2560 + d.val, by omega⟩)
  have e2 : (View.ld x2 (Rect.unit ![0, 0, 2560] ![1, 128, 512] inb_S1x128x4352_S1x128x512_0_0_2560) : Vec Ideal S1x128x512 .f32) (ix3 (n0 := 1) 0 p d)
      = x2 (ix3 (n0 := 1) 0 p ⟨2560 + d.val, by omega⟩) := by
    show x2 _ = x2 _
    refine congrArg x2 (funext fun a => Fin.ext ?_)
    match a with
    | ⟨0, _⟩ => rfl
    | ⟨1, _⟩ => show 0 + 1 * p.val = p.val; omega
    | ⟨2, _⟩ => show 2560 + 1 * d.val = 2560 + d.val; omega
  rw [← e2]
  generalize (View.ld x2 (Rect.unit ![0, 0, 2560] ![1, 128, 512] inb_S1x128x4352_S1x128x512_0_0_2560) : Vec Ideal S1x128x512 .f32) = v
  pointwise [k0_pay45, k0_pay44]

/-- What the body leaves in its block of the projection. -/
theorem block6  (j : S1024x512.Idx) :
    out0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 j = ∑ k : Fin 4096, x0 (ix2 (n0 := 1024) (j 0) k) * x1 (ix3 (n0 := 1) (n1 := 512) 0 (j 1) k) := by
  have e : out0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 = k0_pay1 (k0_pay79 x1) x0 := by
    frame_out
  rw [e]
  idx_vars j
  pointwise [k0_pay1, k0_pay79]

end

/-- A column of the gating's part of the weights. -/
abbrev col (q : Fin 4096) : Fin 16464 := ⟨q.val, by omega⟩

/-- The projection, index by index. -/
def Gza (a : FVec Ideal S8192x4096 .bf16) (w : FVec Ideal S1x4096x16464 .f32) : FVec Ideal S8192x4096 .f32 :=
  fun i => ∑ k : Fin 4096, a (ix2 (n0 := 8192) (i 0) k) * w (ix3 (n0 := 1) 0 k (col (i 1)))

/-- The angles of the heads of 128 lanes and of 64 lanes, by batch, token and lane. -/
def ang16 (P : IVec S4x2048 32) (b s k : Nat) : EReal := posv P b s * fr16 k
def ang8 (P : IVec S4x2048 32) (b s k : Nat) : EReal := posv P b s * fr8 k

/-- The queries and the keys of the attention, embedded by their positions. -/
def Gq (A : FVec Ideal S4x2048x4352 .f32) (P : IVec S4x2048 32) : FVec Ideal S4x2048x2048 .bf16 :=
  fun i => H16 0 (attv A (i 0).val) (ang16 P (i 0).val) (i 1).val (i 2).val
def Gk (A : FVec Ideal S4x2048x4352 .f32) (P : IVec S4x2048 32) : FVec Ideal S4x2048x512 .bf16 :=
  fun i => H16 2048 (attv A (i 0).val) (ang16 P (i 0).val) (i 1).val (i 2).val
/-- The values, transposed within each block of 512 tokens. -/
def Gvt (A : FVec Ideal S4x2048x4352 .f32) : FVec Ideal S4x4x512x512 .bf16 :=
  fun i => attv A (i 0).val ((i 1).val * 512 + (i 3).val) (2560 + (i 2).val)
/-- The indexer's queries and keys, embedded and completed with zeros, and its weights, transposed. -/
def Gqi (A : FVec Ideal S4x2048x4352 .f32) (P : IVec S4x2048 32) : FVec Ideal S4x2048x2048 .bf16 :=
  fun i => H8 3072 (attv A (i 0).val) (ang8 P (i 0).val) (i 1).val (i 2).val
def Gki (A : FVec Ideal S4x2048x4352 .f32) (P : IVec S4x2048 32) : FVec Ideal S4x2048x128 .bf16 :=
  fun i => H8 4096 (attv A (i 0).val) (ang8 P (i 0).val) (i 1).val (i 2).val
def Gwit (A : FVec Ideal S4x2048x4352 .f32) : FVec Ideal S4x16x2048 .f32 :=
  fun i => attv A (i 0).val (i 2).val (4160 + (i 1).val)

/-- The row and the tables a point reads. -/
def pxs (A : FVec Ideal S4x2048x4352 .f32) (t : Nat) (p n : Nat) : EReal := attv A (t / 16) (t % 16 * 128 + p) n
def pth (f : IVec S4x2048 32 → Nat → Nat → Nat → EReal) (P : IVec S4x2048 32) (t : Nat) (p k : Nat) : EReal := f P (t / 16) (t % 16 * 128 + p) k

theorem tlt (t : Fin cfg0.N) : t.val < 64 := lt_of_lt_of_eq t.isLt N_0

theorem rows (c : Dev nD) (t : Fin cfg0.N) (p : Fin 128) (n : Fin 4352) : iblk m c 2 t (ix3 (n0 := 1) 0 p n) = pxs (m ((c : Thread nD τ).loc main_arg2)) t.val p.val n.val := by
  have ht := tlt t
  refine (blk2 m c t _ (ix3 ⟨t.val / 16, by omega⟩ ⟨t.val % 16 * 128 + p.val, by omega⟩ n) ?_ rfl rfl).trans (attv_of _ _ _ _ _ rfl rfl rfl)
  show t.val / 16 = t.val / 16 * 1 + 0
  omega

theorem poss (c : Dev nD) (t : Fin cfg0.N) (p : Fin 128) : iblk m c 3 t (ix3 (n0 := 1) (n2 := 1) 0 p 0) = posv (m ((c : Thread nD τ).loc main_arg3)) (t.val / 16) (t.val % 16 * 128 + p.val) := by
  have ht := tlt t
  refine (blk3 m c t _ (ix3 (n2 := 1) ⟨t.val / 16, by omega⟩ ⟨t.val % 16 * 128 + p.val, by omega⟩ 0) ?_ rfl rfl).trans (V2 m c _ _)
  show t.val / 16 = t.val / 16 * 1 + 0
  omega

theorem tabs16 (c : Dev nD) (t : Fin cfg0.N) (p : Fin 128) :
    Tab 16 128 p (k0_pay6 (iblk m c 3 t) (iblk m c 4 t)) (k0_pay7 (iblk m c 3 t) (iblk m c 4 t)) (k0_pay8 (iblk m c 3 t) (iblk m c 4 t)) (pth ang16 (m ((c : Thread nD τ).loc main_arg3)) t.val p.val) := by
  have h := tab_q (iblk m c 3 t) (iblk m c 4 t) fr16 (fun q => (blk4 m c t _ (ix2 (n0 := 1) 0 q) rfl rfl).trans (V18 m c q)) p
  rw [poss] at h
  exact h

theorem tabs8 (c : Dev nD) (t : Fin cfg0.N) (p : Fin 128) :
    Tab 8 64 p (k0_pay13 (k0_pay10 (iblk m c 3 t) (iblk m c 5 t)) k0_pay12) (k0_pay14 (k0_pay11 (iblk m c 3 t) (iblk m c 5 t)) k0_pay12) (k0_pay15 (k0_pay11 (iblk m c 3 t) (iblk m c 5 t)) k0_pay12)
      (pth ang8 (m ((c : Thread nD τ).loc main_arg3)) t.val p.val) := by
  have h := tab_i (iblk m c 3 t) (iblk m c 5 t) fr8 (fun q => (blk5 m c t _ (ix2 (n0 := 1) 0 q) rfl rfl).trans (V34 m c q)) p
  rw [poss] at h
  exact h

abbrev za (c : Dev nD) : Buf (Elt Ideal) ((c : Thread nD τ).loc main_v35_0) := Gza (m ((c : Thread nD τ).loc main_arg0)) (m ((c : Thread nD τ).loc main_arg1))
abbrev oq (c : Dev nD) : Buf (Elt Ideal) ((c : Thread nD τ).loc main_v35_1) := Gq (m ((c : Thread nD τ).loc main_arg2)) (m ((c : Thread nD τ).loc main_arg3))
abbrev ok (c : Dev nD) : Buf (Elt Ideal) ((c : Thread nD τ).loc main_v35_2) := Gk (m ((c : Thread nD τ).loc main_arg2)) (m ((c : Thread nD τ).loc main_arg3))
abbrev ovt (c : Dev nD) : Buf (Elt Ideal) ((c : Thread nD τ).loc main_v35_3) := Gvt (m ((c : Thread nD τ).loc main_arg2))
abbrev oqi (c : Dev nD) : Buf (Elt Ideal) ((c : Thread nD τ).loc main_v35_4) := Gqi (m ((c : Thread nD τ).loc main_arg2)) (m ((c : Thread nD τ).loc main_arg3))
abbrev oki (c : Dev nD) : Buf (Elt Ideal) ((c : Thread nD τ).loc main_v35_5) := Gki (m ((c : Thread nD τ).loc main_arg2)) (m ((c : Thread nD τ).loc main_arg3))
abbrev owit (c : Dev nD) : Buf (Elt Ideal) ((c : Thread nD τ).loc main_v35_6) := Gwit (m ((c : Thread nD τ).loc main_arg2))

theorem flushed6_eq (c : Dev nD) (t : Fin cfg0.N) :
    (dats m 0 c).flushed 6 t = ((cfg0.win 6).blk t).view.read (Elt Ideal) (za m c) := by
  rw [Value.flushed6_A]
  funext j
  refine (block6 _ _ _ _ _ _ _ _ _ _ _ _ _ _ _ _ _ _ _ _ _ _ _ _ _ _ _ _ _ _ _ _ _ _ j).trans ?_
  show _ = Gza _ _ ((win0_6.rect t).emb j)
  have r0 := emb6_0 t j
  have r1 := emb6_1 t j
  unfold Gza
  refine Finset.sum_congr rfl fun k _ => congrArg₂ (· * ·) ?_ ?_
  · exact blk0 m c t _ _ r0 rfl
  · exact (blk1 m c t (ix3 (n0 := 1) (n1 := 512) (n2 := 4096) 0 (j 1) k) (ix3 (n0 := 1) 0 (col ((win0_6.rect t).emb j 1)) k) rfl r1 rfl).trans (V0 m c _ k)

theorem final6 (c : Dev nD) : (dats m 0 c).arrAt 6 cfg0.N = za m c :=
  (dats m 0 c).arrAt_eq_of_cover 6 (za m c) (fun t _ => flushed6_eq m c t) cover6

theorem flushed7_eq (c : Dev nD) (t : Fin cfg0.N) :
    (dats m 0 c).flushed 7 t = ((cfg0.win 7).blk t).view.read (Elt Ideal) (oq m c) := by
  rw [Value.flushed7_A]
  funext j
  refine (block7 _ _ _ _ _ _ _ _ _ _ _ _ _ _ _ _ _ _ _ _ _ _ _ _ _ _ _ _ _ _ _ _ _ _ (pxs (m ((c : Thread nD τ).loc main_arg2)) t.val) (pth ang16 (m ((c : Thread nD τ).loc main_arg3)) t.val) (rows m c t) (tabs16 m c t) j).trans ?_
  show _ = H16 0 (attv _ ((win0_7.rect t).emb j 0).val) (ang16 _ ((win0_7.rect t).emb j 0).val) ((win0_7.rect t).emb j 1).val ((win0_7.rect t).emb j 2).val
  have h0 : (j 0).val = 0 := Nat.lt_one_iff.mp (j 0).isLt
  rw [emb7_0, emb7_1, emb7_2, h0, Nat.mul_one, Nat.add_zero]
  rfl

theorem final7 (c : Dev nD) : (dats m 0 c).arrAt 7 cfg0.N = oq m c :=
  (dats m 0 c).arrAt_eq_of_cover 7 (oq m c) (fun t _ => flushed7_eq m c t) cover7

theorem flushed8_eq (c : Dev nD) (t : Fin cfg0.N) :
    (dats m 0 c).flushed 8 t = ((cfg0.win 8).blk t).view.read (Elt Ideal) (ok m c) := by
  rw [Value.flushed8_A]
  funext j
  refine (block8 _ _ _ _ _ _ _ _ _ _ _ _ _ _ _ _ _ _ _ _ _ _ _ _ _ _ _ _ _ _ _ _ _ _ (pxs (m ((c : Thread nD τ).loc main_arg2)) t.val) (pth ang16 (m ((c : Thread nD τ).loc main_arg3)) t.val) (rows m c t) (tabs16 m c t) j).trans ?_
  show _ = H16 2048 (attv _ ((win0_8.rect t).emb j 0).val) (ang16 _ ((win0_8.rect t).emb j 0).val) ((win0_8.rect t).emb j 1).val ((win0_8.rect t).emb j 2).val
  have h0 : (j 0).val = 0 := Nat.lt_one_iff.mp (j 0).isLt
  rw [emb8_0, emb8_1, emb8_2, h0, Nat.mul_one, Nat.add_zero]
  rfl

theorem final8 (c : Dev nD) : (dats m 0 c).arrAt 8 cfg0.N = ok m c :=
  (dats m 0 c).arrAt_eq_of_cover 8 (ok m c) (fun t _ => flushed8_eq m c t) cover8

theorem flushed9_eq (c : Dev nD) (t : Fin cfg0.N) :
    (dats m 0 c).flushed 9 t = ((cfg0.win 9).blk t).view.read (Elt Ideal) (ovt m c) := by
  rw [Value.flushed9_A]
  funext j
  have ht := tlt t
  have ej : j = ix4 (n0 := 1) (n1 := 1) (n2 := 512) (n3 := 128) 0 0 (j 2) (j 3) := by
    funext a
    match a with
    | ⟨0, _⟩ => exact Fin.eq_zero (j 0)
    | ⟨1, _⟩ => exact Fin.eq_zero (j 1)
    | ⟨2, _⟩ => rfl
    | ⟨3, _⟩ => rfl
  refine (congrArg _ ej).trans ((block9 _ _ _ _ _ _ _ _ _ _ _ _ _ _ _ _ _ _ _ _ _ _ _ _ _ _ _ _ _ _ _ _ _ _ (pxs (m ((c : Thread nD τ).loc main_arg2)) t.val) (rows m c t) (j 2) (j 3)).trans ?_)
  show attv _ (t.val / 16) (t.val % 16 * 128 + (j 3).val) (2560 + (j 2).val)
    = attv _ ((win0_9.rect t).emb j 0).val (((win0_9.rect t).emb j 1).val * 512 + ((win0_9.rect t).emb j 3).val) (2560 + ((win0_9.rect t).emb j 2).val)
  have h0 : (j 0).val = 0 := Nat.lt_one_iff.mp (j 0).isLt
  have h1 : (j 1).val = 0 := Nat.lt_one_iff.mp (j 1).isLt
  rw [emb9_0, emb9_1, emb9_2, emb9_3, h0, h1, Nat.mul_one, Nat.add_zero]
  exact congrArg (fun s => attv (m ((c : Thread nD τ).loc main_arg2)) (t.val / 16) s (2560 + (j 2).val)) (by omega)

theorem final9 (c : Dev nD) : (dats m 0 c).arrAt 9 cfg0.N = ovt m c :=
  (dats m 0 c).arrAt_eq_of_cover 9 (ovt m c) (fun t _ => flushed9_eq m c t) cover9

theorem flushed10_eq (c : Dev nD) (t : Fin cfg0.N) :
    (dats m 0 c).flushed 10 t = ((cfg0.win 10).blk t).view.read (Elt Ideal) (oqi m c) := by
  rw [Value.flushed10_A]
  funext j
  refine (block10 _ _ _ _ _ _ _ _ _ _ _ _ _ _ _ _ _ _ _ _ _ _ _ _ _ _ _ _ _ _ _ _ _ _ (pxs (m ((c : Thread nD τ).loc main_arg2)) t.val) (pth ang8 (m ((c : Thread nD τ).loc main_arg3)) t.val) (rows m c t) (tabs8 m c t) j).trans ?_
  show _ = H8 3072 (attv _ ((win0_10.rect t).emb j 0).val) (ang8 _ ((win0_10.rect t).emb j 0).val) ((win0_10.rect t).emb j 1).val ((win0_10.rect t).emb j 2).val
  have h0 : (j 0).val = 0 := Nat.lt_one_iff.mp (j 0).isLt
  rw [emb10_0, emb10_1, emb10_2, h0, Nat.mul_one, Nat.add_zero]
  rfl

theorem final10 (c : Dev nD) : (dats m 0 c).arrAt 10 cfg0.N = oqi m c :=
  (dats m 0 c).arrAt_eq_of_cover 10 (oqi m c) (fun t _ => flushed10_eq m c t) cover10

theorem flushed11_eq (c : Dev nD) (t : Fin cfg0.N) :
    (dats m 0 c).flushed 11 t = ((cfg0.win 11).blk t).view.read (Elt Ideal) (oki m c) := by
  rw [Value.flushed11_A]
  funext j
  have ej : j = ix3 (n0 := 1) (n1 := 128) (n2 := 128) 0 (j 1) (j 2) := by
    funext a
    match a with
    | ⟨0, _⟩ => exact Fin.eq_zero (j 0)
    | ⟨1, _⟩ => rfl
    | ⟨2, _⟩ => rfl
  refine (congrArg _ ej).trans ((block11 _ _ _ _ _ _ _ _ _ _ _ _ _ _ _ _ _ _ _ _ _ _ _ _ _ _ _ _ _ _ _ _ _ _ (pxs (m ((c : Thread nD τ).loc main_arg2)) t.val) (pth ang8 (m ((c : Thread nD τ).loc main_arg3)) t.val) (rows m c t) (tabs8 m c t) (j 1) (j 2)).trans ?_)
  show _ = H8 4096 (attv _ ((win0_11.rect t).emb j 0).val) (ang8 _ ((win0_11.rect t).emb j 0).val) ((win0_11.rect t).emb j 1).val ((win0_11.rect t).emb j 2).val
  have h0 : (j 0).val = 0 := Nat.lt_one_iff.mp (j 0).isLt
  rw [emb11_0, emb11_1, emb11_2, h0, Nat.mul_one, Nat.add_zero]
  rfl

theorem final11 (c : Dev nD) : (dats m 0 c).arrAt 11 cfg0.N = oki m c :=
  (dats m 0 c).arrAt_eq_of_cover 11 (oki m c) (fun t _ => flushed11_eq m c t) cover11

theorem flushed12_eq (c : Dev nD) (t : Fin cfg0.N) :
    (dats m 0 c).flushed 12 t = ((cfg0.win 12).blk t).view.read (Elt Ideal) (owit m c) := by
  rw [Value.flushed12_A]
  funext j
  have ej : j = ix3 (n0 := 1) (n1 := 16) (n2 := 128) 0 (j 1) (j 2) := by
    funext a
    match a with
    | ⟨0, _⟩ => exact Fin.eq_zero (j 0)
    | ⟨1, _⟩ => rfl
    | ⟨2, _⟩ => rfl
  refine (congrArg _ ej).trans ((block12 _ _ _ _ _ _ _ _ _ _ _ _ _ _ _ _ _ _ _ _ _ _ _ _ _ _ _ _ _ _ _ _ _ _ (pxs (m ((c : Thread nD τ).loc main_arg2)) t.val) (pth ang8 (m ((c : Thread nD τ).loc main_arg3)) t.val) (rows m c t) (tabs8 m c t) (j 1) (j 2)).trans ?_)
  show _ = attv _ ((win0_12.rect t).emb j 0).val ((win0_12.rect t).emb j 2).val (4160 + ((win0_12.rect t).emb j 1).val)
  have h0 : (j 0).val = 0 := Nat.lt_one_iff.mp (j 0).isLt
  rw [emb12_0, emb12_1, emb12_2, h0, Nat.mul_one, Nat.add_zero]
  rfl

theorem final12 (c : Dev nD) : (dats m 0 c).arrAt 12 cfg0.N = owit m c :=
  (dats m 0 c).arrAt_eq_of_cover 12 (owit m c) (fun t _ => flushed12_eq m c t) cover12

/-- The run: the result arrays at the whole-array functions, the arguments unchanged. -/
theorem run : θ_run defs (onTc (τ := τ) (main (F := Ideal))) ⟨m, fun _ => 0, ρ⟩ fun r => ∀ c : Dev nD,
      r.2.mem ((c : Thread nD τ).loc main_v35_0) = za m c
      ∧ r.2.mem ((c : Thread nD τ).loc main_v35_1) = oq m c
      ∧ r.2.mem ((c : Thread nD τ).loc main_v35_2) = ok m c
      ∧ r.2.mem ((c : Thread nD τ).loc main_v35_3) = ovt m c
      ∧ r.2.mem ((c : Thread nD τ).loc main_v35_4) = oqi m c
      ∧ r.2.mem ((c : Thread nD τ).loc main_v35_5) = oki m c
      ∧ r.2.mem ((c : Thread nD τ).loc main_v35_6) = owit m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final6 m c), (h c).2.1.trans (final7 m c), (h c).2.2.1.trans (final8 m c), (h c).2.2.2.1.trans (final9 m c), (h c).2.2.2.2.1.trans (final10 m c), (h c).2.2.2.2.2.1.trans (final11 m c), (h c).2.2.2.2.2.2.1.trans (final12 m c), (h c).2.2.2.2.2.2.2⟩) (Value.run_blocks m ρ)

end Cert.KZaIdeal.Hand

end
-- ==== Proof.ZaRef.lean ====
/-
  The reference beside the projection: the rotary embedding of a head, read at an index, and each result of the reference
  as a function of the rows and the positions.
-/
module

public import proofs.«01_k».proof.Proof.Za
public import proofs.«01_k».proof.Proof.Gen.RZaIdeal.Run

@[expose] public section

set_option maxRecDepth 16384

noncomputable section

namespace Cert.RZaIdeal.Hand

open Cert.RZaIdeal Cert.RZaIdeal.Gen Cert.RZaIdeal.Value Idealize.ShloMosaic Idealize.ShloMosaic.TcCoe Idealize.SL.Sem
open Cert.KZaIdeal.Hand (rv attv attv_of posv posv_of fr16 fr8 hfr16 hfr8 freq16 freq8 H16 H8 ang16 ang8 Gza Gq Gk Gvt Gqi Gki Gwit col)

/-- Over the extended reals a narrowing is the identity, entry by entry. -/
theorem trunc_at {S : Shape} (y : FVec Ideal S .f32) (g : FVec Ideal S .bf16) (h : FTy.bf16.bits < FTy.f32.bits) (hy : ∀ i, (y i : EReal) = g i) : truncf .bf16 y h = g :=
  funext fun i => hy i

/-- The embedding of 16 heads of 128 lanes. -/
def ropeq (y : FVec Ideal S4x2048x16x128 .f32) (c s : FVec Ideal S4x2048x16 .f32) : FVec Ideal S4x2048x16x128 .f32 :=
  concatenate S4x2048x16x128 3 [⟨S4x2048x16x16, subf (mulf (extractStridedSlice S4x2048x16x16 ![0, 0, 0, 0] (extractStridedSlice S4x2048x16x32 ![0, 0, 0, 0] y slices_S4x2048x16x128_S4x2048x16x32_0_0_0_0) slices_S4x2048x16x32_S4x2048x16x16_0_0_0_0) (broadcastInDim S4x2048x16x16 ![0, 1, 2, 3] bcast_S4x2048x1x16_S4x2048x16x16_0_1_2_3 (broadcastInDim S4x2048x1x16 ![0, 1, 3] bcast_S4x2048x16_S4x2048x1x16_0_1_3 c))) (mulf (extractStridedSlice S4x2048x16x16 ![0, 0, 0, 16] (extractStridedSlice S4x2048x16x32 ![0, 0, 0, 0] y slices_S4x2048x16x128_S4x2048x16x32_0_0_0_0) slices_S4x2048x16x32_S4x2048x16x16_0_0_0_16) (broadcastInDim S4x2048x16x16 ![0, 1, 2, 3] bcast_S4x2048x1x16_S4x2048x16x16_0_1_2_3 (broadcastInDim S4x2048x1x16 ![0, 1, 3] bcast_S4x2048x16_S4x2048x1x16_0_1_3 s)))⟩,
    ⟨S4x2048x16x16, addf (mulf (extractStridedSlice S4x2048x16x16 ![0, 0, 0, 16] (extractStridedSlice S4x2048x16x32 ![0, 0, 0, 0] y slices_S4x2048x16x128_S4x2048x16x32_0_0_0_0) slices_S4x2048x16x32_S4x2048x16x16_0_0_0_16) (broadcastInDim S4x2048x16x16 ![0, 1, 2, 3] bcast_S4x2048x1x16_S4x2048x16x16_0_1_2_3 (broadcastInDim S4x2048x1x16 ![0, 1, 3] bcast_S4x2048x16_S4x2048x1x16_0_1_3 c))) (mulf (extractStridedSlice S4x2048x16x16 ![0, 0, 0, 0] (extractStridedSlice S4x2048x16x32 ![0, 0, 0, 0] y slices_S4x2048x16x128_S4x2048x16x32_0_0_0_0) slices_S4x2048x16x32_S4x2048x16x16_0_0_0_0) (broadcastInDim S4x2048x16x16 ![0, 1, 2, 3] bcast_S4x2048x1x16_S4x2048x16x16_0_1_2_3 (broadcastInDim S4x2048x1x16 ![0, 1, 3] bcast_S4x2048x16_S4x2048x1x16_0_1_3 s)))⟩, ⟨S4x2048x16x96, (extractStridedSlice S4x2048x16x96 ![0, 0, 0, 32] y slices_S4x2048x16x128_S4x2048x16x96_0_0_0_32)⟩]
    concatenates_S4x2048x16x16_S4x2048x16x16_S4x2048x16x96_S4x2048x16x128_d3

theorem ropeq_apply (y : FVec Ideal S4x2048x16x128 .f32) (c s : FVec Ideal S4x2048x16 .f32) (b : Fin 4) (t : Fin 2048) (g : Fin 16) (q : Fin 128)
    (x θ : Nat → EReal) (hy : ∀ q : Fin 128, y (ix4 b t g q) = x q.val) (hc : ∀ k : Fin 16, c (ix3 b t k) = Ideal.cos (θ k.val))
    (hs : ∀ k : Fin 16, s (ix3 b t k) = Ideal.sin (θ k.val)) : ropeq y c s (ix4 b t g q) = rv 16 x θ q.val := by
  have hq := q.isLt
  unfold rv
  pointwise [ropeq]
  split
  · rename_i l
    refine congrArg₂ (· - ·) (congrArg₂ (· * ·) (hy _) (hc _)) (congrArg₂ (· * ·) ((hy _).trans ?_) (hs _))
    exact congrArg x (by dsimp only; omega)
  · split
    · rename_i l l2
      refine Eq.trans ?_ (if_pos (by omega)).symm
      refine congrArg₂ (· + ·) (congrArg₂ (· * ·) ((hy _).trans ?_) (hc _)) (congrArg₂ (· * ·) (hy _) (hs _))
      exact congrArg x (by dsimp only; omega)
    · rename_i l l2
      refine Eq.trans ?_ (if_neg (by omega)).symm
      refine (hy _).trans ?_
      exact congrArg x (by dsimp only; omega)

/-- The embedding of 4 heads of 128 lanes. -/
def ropek (y : FVec Ideal S4x2048x4x128 .f32) (c s : FVec Ideal S4x2048x16 .f32) : FVec Ideal S4x2048x4x128 .f32 :=
  concatenate S4x2048x4x128 3 [⟨S4x2048x4x16, subf (mulf (extractStridedSlice S4x2048x4x16 ![0, 0, 0, 0] (extractStridedSlice S4x2048x4x32 ![0, 0, 0, 0] y slices_S4x2048x4x128_S4x2048x4x32_0_0_0_0) slices_S4x2048x4x32_S4x2048x4x16_0_0_0_0) (broadcastInDim S4x2048x4x16 ![0, 1, 2, 3] bcast_S4x2048x1x16_S4x2048x4x16_0_1_2_3 (broadcastInDim S4x2048x1x16 ![0, 1, 3] bcast_S4x2048x16_S4x2048x1x16_0_1_3 c))) (mulf (extractStridedSlice S4x2048x4x16 ![0, 0, 0, 16] (extractStridedSlice S4x2048x4x32 ![0, 0, 0, 0] y slices_S4x2048x4x128_S4x2048x4x32_0_0_0_0) slices_S4x2048x4x32_S4x2048x4x16_0_0_0_16) (broadcastInDim S4x2048x4x16 ![0, 1, 2, 3] bcast_S4x2048x1x16_S4x2048x4x16_0_1_2_3 (broadcastInDim S4x2048x1x16 ![0, 1, 3] bcast_S4x2048x16_S4x2048x1x16_0_1_3 s)))⟩,
    ⟨S4x2048x4x16, addf (mulf (extractStridedSlice S4x2048x4x16 ![0, 0, 0, 16] (extractStridedSlice S4x2048x4x32 ![0, 0, 0, 0] y slices_S4x2048x4x128_S4x2048x4x32_0_0_0_0) slices_S4x2048x4x32_S4x2048x4x16_0_0_0_16) (broadcastInDim S4x2048x4x16 ![0, 1, 2, 3] bcast_S4x2048x1x16_S4x2048x4x16_0_1_2_3 (broadcastInDim S4x2048x1x16 ![0, 1, 3] bcast_S4x2048x16_S4x2048x1x16_0_1_3 c))) (mulf (extractStridedSlice S4x2048x4x16 ![0, 0, 0, 0] (extractStridedSlice S4x2048x4x32 ![0, 0, 0, 0] y slices_S4x2048x4x128_S4x2048x4x32_0_0_0_0) slices_S4x2048x4x32_S4x2048x4x16_0_0_0_0) (broadcastInDim S4x2048x4x16 ![0, 1, 2, 3] bcast_S4x2048x1x16_S4x2048x4x16_0_1_2_3 (broadcastInDim S4x2048x1x16 ![0, 1, 3] bcast_S4x2048x16_S4x2048x1x16_0_1_3 s)))⟩, ⟨S4x2048x4x96, (extractStridedSlice S4x2048x4x96 ![0, 0, 0, 32] y slices_S4x2048x4x128_S4x2048x4x96_0_0_0_32)⟩]
    concatenates_S4x2048x4x16_S4x2048x4x16_S4x2048x4x96_S4x2048x4x128_d3

theorem ropek_apply (y : FVec Ideal S4x2048x4x128 .f32) (c s : FVec Ideal S4x2048x16 .f32) (b : Fin 4) (t : Fin 2048) (g : Fin 4) (q : Fin 128)
    (x θ : Nat → EReal) (hy : ∀ q : Fin 128, y (ix4 b t g q) = x q.val) (hc : ∀ k : Fin 16, c (ix3 b t k) = Ideal.cos (θ k.val))
    (hs : ∀ k : Fin 16, s (ix3 b t k) = Ideal.sin (θ k.val)) : ropek y c s (ix4 b t g q) = rv 16 x θ q.val := by
  have hq := q.isLt
  unfold rv
  pointwise [ropek]
  split
  · rename_i l
    refine congrArg₂ (· - ·) (congrArg₂ (· * ·) (hy _) (hc _)) (congrArg₂ (· * ·) ((hy _).trans ?_) (hs _))
    exact congrArg x (by dsimp only; omega)
  · split
    · rename_i l l2
      refine Eq.trans ?_ (if_pos (by omega)).symm
      refine congrArg₂ (· + ·) (congrArg₂ (· * ·) ((hy _).trans ?_) (hc _)) (congrArg₂ (· * ·) (hy _) (hs _))
      exact congrArg x (by dsimp only; omega)
    · rename_i l l2
      refine Eq.trans ?_ (if_neg (by omega)).symm
      refine (hy _).trans ?_
      exact congrArg x (by dsimp only; omega)

/-- The embedding of 16 heads of 64 lanes. -/
def ropeqi (y : FVec Ideal S4x2048x16x64 .f32) (c s : FVec Ideal S4x2048x8 .f32) : FVec Ideal S4x2048x16x64 .f32 :=
  concatenate S4x2048x16x64 3 [⟨S4x2048x16x8, subf (mulf (extractStridedSlice S4x2048x16x8 ![0, 0, 0, 0] (extractStridedSlice S4x2048x16x16 ![0, 0, 0, 0] y slices_S4x2048x16x64_S4x2048x16x16_0_0_0_0) slices_S4x2048x16x16_S4x2048x16x8_0_0_0_0) (broadcastInDim S4x2048x16x8 ![0, 1, 2, 3] bcast_S4x2048x1x8_S4x2048x16x8_0_1_2_3 (broadcastInDim S4x2048x1x8 ![0, 1, 3] bcast_S4x2048x8_S4x2048x1x8_0_1_3 c))) (mulf (extractStridedSlice S4x2048x16x8 ![0, 0, 0, 8] (extractStridedSlice S4x2048x16x16 ![0, 0, 0, 0] y slices_S4x2048x16x64_S4x2048x16x16_0_0_0_0) slices_S4x2048x16x16_S4x2048x16x8_0_0_0_8) (broadcastInDim S4x2048x16x8 ![0, 1, 2, 3] bcast_S4x2048x1x8_S4x2048x16x8_0_1_2_3 (broadcastInDim S4x2048x1x8 ![0, 1, 3] bcast_S4x2048x8_S4x2048x1x8_0_1_3 s)))⟩,
    ⟨S4x2048x16x8, addf (mulf (extractStridedSlice S4x2048x16x8 ![0, 0, 0, 8] (extractStridedSlice S4x2048x16x16 ![0, 0, 0, 0] y slices_S4x2048x16x64_S4x2048x16x16_0_0_0_0) slices_S4x2048x16x16_S4x2048x16x8_0_0_0_8) (broadcastInDim S4x2048x16x8 ![0, 1, 2, 3] bcast_S4x2048x1x8_S4x2048x16x8_0_1_2_3 (broadcastInDim S4x2048x1x8 ![0, 1, 3] bcast_S4x2048x8_S4x2048x1x8_0_1_3 c))) (mulf (extractStridedSlice S4x2048x16x8 ![0, 0, 0, 0] (extractStridedSlice S4x2048x16x16 ![0, 0, 0, 0] y slices_S4x2048x16x64_S4x2048x16x16_0_0_0_0) slices_S4x2048x16x16_S4x2048x16x8_0_0_0_0) (broadcastInDim S4x2048x16x8 ![0, 1, 2, 3] bcast_S4x2048x1x8_S4x2048x16x8_0_1_2_3 (broadcastInDim S4x2048x1x8 ![0, 1, 3] bcast_S4x2048x8_S4x2048x1x8_0_1_3 s)))⟩, ⟨S4x2048x16x48, (extractStridedSlice S4x2048x16x48 ![0, 0, 0, 16] y slices_S4x2048x16x64_S4x2048x16x48_0_0_0_16)⟩]
    concatenates_S4x2048x16x8_S4x2048x16x8_S4x2048x16x48_S4x2048x16x64_d3

theorem ropeqi_apply (y : FVec Ideal S4x2048x16x64 .f32) (c s : FVec Ideal S4x2048x8 .f32) (b : Fin 4) (t : Fin 2048) (g : Fin 16) (q : Fin 64)
    (x θ : Nat → EReal) (hy : ∀ q : Fin 64, y (ix4 b t g q) = x q.val) (hc : ∀ k : Fin 8, c (ix3 b t k) = Ideal.cos (θ k.val))
    (hs : ∀ k : Fin 8, s (ix3 b t k) = Ideal.sin (θ k.val)) : ropeqi y c s (ix4 b t g q) = rv 8 x θ q.val := by
  have hq := q.isLt
  unfold rv
  pointwise [ropeqi]
  split
  · rename_i l
    refine congrArg₂ (· - ·) (congrArg₂ (· * ·) (hy _) (hc _)) (congrArg₂ (· * ·) ((hy _).trans ?_) (hs _))
    exact congrArg x (by dsimp only; omega)
  · split
    · rename_i l l2
      refine Eq.trans ?_ (if_pos (by omega)).symm
      refine congrArg₂ (· + ·) (congrArg₂ (· * ·) ((hy _).trans ?_) (hc _)) (congrArg₂ (· * ·) (hy _) (hs _))
      exact congrArg x (by dsimp only; omega)
    · rename_i l l2
      refine Eq.trans ?_ (if_neg (by omega)).symm
      refine (hy _).trans ?_
      exact congrArg x (by dsimp only; omega)

/-- The embedding of 1 heads of 64 lanes. -/
def ropeki (y : FVec Ideal S4x2048x1x64 .f32) (c s : FVec Ideal S4x2048x8 .f32) : FVec Ideal S4x2048x1x64 .f32 :=
  concatenate S4x2048x1x64 3 [⟨S4x2048x1x8, subf (mulf (extractStridedSlice S4x2048x1x8 ![0, 0, 0, 0] (extractStridedSlice S4x2048x1x16 ![0, 0, 0, 0] y slices_S4x2048x1x64_S4x2048x1x16_0_0_0_0) slices_S4x2048x1x16_S4x2048x1x8_0_0_0_0) (broadcastInDim S4x2048x1x8 ![0, 1, 3] bcast_S4x2048x8_S4x2048x1x8_0_1_3 c)) (mulf (extractStridedSlice S4x2048x1x8 ![0, 0, 0, 8] (extractStridedSlice S4x2048x1x16 ![0, 0, 0, 0] y slices_S4x2048x1x64_S4x2048x1x16_0_0_0_0) slices_S4x2048x1x16_S4x2048x1x8_0_0_0_8) (broadcastInDim S4x2048x1x8 ![0, 1, 3] bcast_S4x2048x8_S4x2048x1x8_0_1_3 s))⟩,
    ⟨S4x2048x1x8, addf (mulf (extractStridedSlice S4x2048x1x8 ![0, 0, 0, 8] (extractStridedSlice S4x2048x1x16 ![0, 0, 0, 0] y slices_S4x2048x1x64_S4x2048x1x16_0_0_0_0) slices_S4x2048x1x16_S4x2048x1x8_0_0_0_8) (broadcastInDim S4x2048x1x8 ![0, 1, 3] bcast_S4x2048x8_S4x2048x1x8_0_1_3 c)) (mulf (extractStridedSlice S4x2048x1x8 ![0, 0, 0, 0] (extractStridedSlice S4x2048x1x16 ![0, 0, 0, 0] y slices_S4x2048x1x64_S4x2048x1x16_0_0_0_0) slices_S4x2048x1x16_S4x2048x1x8_0_0_0_0) (broadcastInDim S4x2048x1x8 ![0, 1, 3] bcast_S4x2048x8_S4x2048x1x8_0_1_3 s))⟩, ⟨S4x2048x1x48, (extractStridedSlice S4x2048x1x48 ![0, 0, 0, 16] y slices_S4x2048x1x64_S4x2048x1x48_0_0_0_16)⟩]
    concatenates_S4x2048x1x8_S4x2048x1x8_S4x2048x1x48_S4x2048x1x64_d3

theorem ropeki_apply (y : FVec Ideal S4x2048x1x64 .f32) (c s : FVec Ideal S4x2048x8 .f32) (b : Fin 4) (t : Fin 2048) (g : Fin 1) (q : Fin 64)
    (x θ : Nat → EReal) (hy : ∀ q : Fin 64, y (ix4 b t g q) = x q.val) (hc : ∀ k : Fin 8, c (ix3 b t k) = Ideal.cos (θ k.val))
    (hs : ∀ k : Fin 8, s (ix3 b t k) = Ideal.sin (θ k.val)) : ropeki y c s (ix4 b t g q) = rv 8 x θ q.val := by
  have hq := q.isLt
  unfold rv
  obtain rfl : g = 0 := Fin.eq_zero g
  pointwise [ropeki]
  split
  · rename_i l
    refine congrArg₂ (· - ·) (congrArg₂ (· * ·) (hy _) (hc _)) (congrArg₂ (· * ·) ((hy _).trans ?_) (hs _))
    exact congrArg x (by dsimp only; omega)
  · split
    · rename_i l l2
      refine Eq.trans ?_ (if_pos (by omega)).symm
      refine congrArg₂ (· + ·) (congrArg₂ (· * ·) ((hy _).trans ?_) (hc _)) (congrArg₂ (· * ·) (hy _) (hs _))
      exact congrArg x (by dsimp only; omega)
    · rename_i l l2
      refine Eq.trans ?_ (if_neg (by omega)).symm
      refine (hy _).trans ?_
      exact congrArg x (by dsimp only; omega)

/-- The angles of the heads that turn 16 pairs of lanes. -/
def angle16 (P : IVec S4x2048 32) : FVec Ideal S4x2048x16 .f32 :=
  mulf (broadcastInDim S4x2048x16 ![0, 1, 2] bcast_S4x2048x1_S4x2048x16_0_1_2 (broadcastInDim S4x2048x1 ![0, 1] bcast_S4x2048_S4x2048x1_0_1 (sitofp .f32 P)))
    (broadcastInDim S4x2048x16 ![0, 1, 2] bcast_S1x1x16_S4x2048x16_0_1_2 (broadcastInDim S1x1x16 ![2] bcast_S16_S1x1x16_2 freq16))

theorem angle16_apply (P : IVec S4x2048 32) (b : Fin 4) (t : Fin 2048) (k : Fin 16) : angle16 P (ix3 b t k) = ang16 P b.val t.val k.val := by
  unfold ang16
  rw [← posv_of, ← hfr16]
  unfold angle16
  generalize (sitofp .f32 P : FVec Ideal S4x2048 .f32) = p
  generalize freq16 = f
  pointwise []

theorem cos16_apply (P : IVec S4x2048 32) (b : Fin 4) (t : Fin 2048) (k : Fin 16) : Host.cos (angle16 P) (ix3 b t k) = Ideal.cos (ang16 P b.val t.val k.val) :=
  congrArg Ideal.cos (angle16_apply P b t k)

theorem sin16_apply (P : IVec S4x2048 32) (b : Fin 4) (t : Fin 2048) (k : Fin 16) : Host.sin (angle16 P) (ix3 b t k) = Ideal.sin (ang16 P b.val t.val k.val) :=
  congrArg Ideal.sin (angle16_apply P b t k)

/-- The angles of the heads that turn 8 pairs of lanes. -/
def angle8 (P : IVec S4x2048 32) : FVec Ideal S4x2048x8 .f32 :=
  mulf (broadcastInDim S4x2048x8 ![0, 1, 2] bcast_S4x2048x1_S4x2048x8_0_1_2 (broadcastInDim S4x2048x1 ![0, 1] bcast_S4x2048_S4x2048x1_0_1 (sitofp .f32 P)))
    (broadcastInDim S4x2048x8 ![0, 1, 2] bcast_S1x1x8_S4x2048x8_0_1_2 (broadcastInDim S1x1x8 ![2] bcast_S8_S1x1x8_2 freq8))

theorem angle8_apply (P : IVec S4x2048 32) (b : Fin 4) (t : Fin 2048) (k : Fin 8) : angle8 P (ix3 b t k) = ang8 P b.val t.val k.val := by
  unfold ang8
  rw [← posv_of, ← hfr8]
  unfold angle8
  generalize (sitofp .f32 P : FVec Ideal S4x2048 .f32) = p
  generalize freq8 = f
  pointwise []

theorem cos8_apply (P : IVec S4x2048 32) (b : Fin 4) (t : Fin 2048) (k : Fin 8) : Host.cos (angle8 P) (ix3 b t k) = Ideal.cos (ang8 P b.val t.val k.val) :=
  congrArg Ideal.cos (angle8_apply P b t k)

theorem sin8_apply (P : IVec S4x2048 32) (b : Fin 4) (t : Fin 2048) (k : Fin 8) : Host.sin (angle8 P) (ix3 b t k) = Ideal.sin (ang8 P b.val t.val k.val) :=
  congrArg Ideal.sin (angle8_apply P b t k)

/-- 16 heads of 128 lanes of the attention's rows. -/
def cutq (A : FVec Ideal S4x2048x4352 .f32) : FVec Ideal S4x2048x16x128 .f32 :=
  shapeCast S4x2048x16x128 (extractStridedSlice S4x2048x2048 ![0, 0, 0] A slices_S4x2048x4352_S4x2048x2048_0_0_0) shapeCasts_S4x2048x2048_S4x2048x16x128

theorem cutq_apply (A : FVec Ideal S4x2048x4352 .f32) (b : Fin 4) (t : Fin 2048) (g : Fin 16) (q : Fin 128) :
    cutq A (ix4 b t g q) = attv A b.val t.val (0 + g.val * 128 + q.val) := by
  have hg := g.isLt
  have hq := q.isLt
  refine (shapeCast_apply _ _ _ (ix3 (n2 := 2048) b t ⟨g.val * 128 + q.val, by omega⟩) ?_).trans ?_
  · rw [Shape.rowMajor_val_four, Shape.rowMajor_val_three]
    show (b.val * 2048 + t.val) * 2048 + (g.val * 128 + q.val) = ((b.val * 2048 + t.val) * 16 + g.val) * 128 + q.val
    omega
  · refine attv_of A _ b.val t.val _ ?_ ?_ ?_
    · show 0 + b.val = b.val
      omega
    · show 0 + t.val = t.val
      omega
    · show 0 + (g.val * 128 + q.val) = 0 + g.val * 128 + q.val
      omega

/-- 4 heads of 128 lanes of the attention's rows. -/
def cutk (A : FVec Ideal S4x2048x4352 .f32) : FVec Ideal S4x2048x4x128 .f32 :=
  shapeCast S4x2048x4x128 (extractStridedSlice S4x2048x512 ![0, 0, 2048] A slices_S4x2048x4352_S4x2048x512_0_0_2048) shapeCasts_S4x2048x512_S4x2048x4x128

theorem cutk_apply (A : FVec Ideal S4x2048x4352 .f32) (b : Fin 4) (t : Fin 2048) (g : Fin 4) (q : Fin 128) :
    cutk A (ix4 b t g q) = attv A b.val t.val (2048 + g.val * 128 + q.val) := by
  have hg := g.isLt
  have hq := q.isLt
  refine (shapeCast_apply _ _ _ (ix3 (n2 := 512) b t ⟨g.val * 128 + q.val, by omega⟩) ?_).trans ?_
  · rw [Shape.rowMajor_val_four, Shape.rowMajor_val_three]
    show (b.val * 2048 + t.val) * 512 + (g.val * 128 + q.val) = ((b.val * 2048 + t.val) * 4 + g.val) * 128 + q.val
    omega
  · refine attv_of A _ b.val t.val _ ?_ ?_ ?_
    · show 0 + b.val = b.val
      omega
    · show 0 + t.val = t.val
      omega
    · show 2048 + (g.val * 128 + q.val) = 2048 + g.val * 128 + q.val
      omega

/-- 16 heads of 64 lanes of the attention's rows. -/
def cutqi (A : FVec Ideal S4x2048x4352 .f32) : FVec Ideal S4x2048x16x64 .f32 :=
  shapeCast S4x2048x16x64 (extractStridedSlice S4x2048x1024 ![0, 0, 3072] A slices_S4x2048x4352_S4x2048x1024_0_0_3072) shapeCasts_S4x2048x1024_S4x2048x16x64

theorem cutqi_apply (A : FVec Ideal S4x2048x4352 .f32) (b : Fin 4) (t : Fin 2048) (g : Fin 16) (q : Fin 64) :
    cutqi A (ix4 b t g q) = attv A b.val t.val (3072 + g.val * 64 + q.val) := by
  have hg := g.isLt
  have hq := q.isLt
  refine (shapeCast_apply _ _ _ (ix3 (n2 := 1024) b t ⟨g.val * 64 + q.val, by omega⟩) ?_).trans ?_
  · rw [Shape.rowMajor_val_four, Shape.rowMajor_val_three]
    show (b.val * 2048 + t.val) * 1024 + (g.val * 64 + q.val) = ((b.val * 2048 + t.val) * 16 + g.val) * 64 + q.val
    omega
  · refine attv_of A _ b.val t.val _ ?_ ?_ ?_
    · show 0 + b.val = b.val
      omega
    · show 0 + t.val = t.val
      omega
    · show 3072 + (g.val * 64 + q.val) = 3072 + g.val * 64 + q.val
      omega

/-- 1 heads of 64 lanes of the attention's rows. -/
def cutki (A : FVec Ideal S4x2048x4352 .f32) : FVec Ideal S4x2048x1x64 .f32 :=
  shapeCast S4x2048x1x64 (extractStridedSlice S4x2048x64 ![0, 0, 4096] A slices_S4x2048x4352_S4x2048x64_0_0_4096) shapeCasts_S4x2048x64_S4x2048x1x64

theorem cutki_apply (A : FVec Ideal S4x2048x4352 .f32) (b : Fin 4) (t : Fin 2048) (g : Fin 1) (q : Fin 64) :
    cutki A (ix4 b t g q) = attv A b.val t.val (4096 + g.val * 64 + q.val) := by
  have hg := g.isLt
  have hq := q.isLt
  refine (shapeCast_apply _ _ _ (ix3 (n2 := 64) b t ⟨g.val * 64 + q.val, by omega⟩) ?_).trans ?_
  · rw [Shape.rowMajor_val_four, Shape.rowMajor_val_three]
    show (b.val * 2048 + t.val) * 64 + (g.val * 64 + q.val) = ((b.val * 2048 + t.val) * 1 + g.val) * 64 + q.val
    omega
  · refine attv_of A _ b.val t.val _ ?_ ?_ ?_
    · show 0 + b.val = b.val
      omega
    · show 0 + t.val = t.val
      omega
    · show 4096 + (g.val * 64 + q.val) = 4096 + g.val * 64 + q.val
      omega

theorem at_ref_q (A : FVec Ideal S4x2048x4352 .f32) (P : IVec S4x2048 32) (i0 : Fin 4) (i1 : Fin 2048) (i2 : Fin 2048) :
    shapeCast S4x2048x2048 (ropeq (cutq A) (Host.cos (angle16 P)) (Host.sin (angle16 P))) shapeCasts_S4x2048x16x128_S4x2048x2048 (ix3 i0 i1 i2)
      = H16 0 (attv A i0.val) (ang16 P i0.val) i1.val i2.val := by
  have hn := i2.isLt
  refine (shapeCast_apply _ _ (ix3 i0 i1 i2) (ix4 (n2 := 16) (n3 := 128) i0 i1 ⟨i2.val / 128, by omega⟩ ⟨i2.val % 128, by omega⟩) ?_).trans ?_
  · rw [Shape.rowMajor_val_four, Shape.rowMajor_val_three]
    show ((i0.val * 2048 + i1.val) * 16 + i2.val / 128) * 128 + i2.val % 128 = (i0.val * 2048 + i1.val) * 2048 + i2.val
    omega
  · unfold H16
    exact ropeq_apply _ _ _ i0 i1 _ _ (fun k => attv A i0.val i1.val (0 + i2.val / 128 * 128 + k)) (ang16 P i0.val i1.val)
      (fun q => cutq_apply A i0 i1 _ q) (cos16_apply P i0 i1) (sin16_apply P i0 i1)

theorem fun_ref_q (A : FVec Ideal S4x2048x4352 .f32) (P : IVec S4x2048 32) :
    truncf .bf16 (shapeCast S4x2048x2048 (ropeq (cutq A) (Host.cos (angle16 P)) (Host.sin (angle16 P))) shapeCasts_S4x2048x16x128_S4x2048x2048) bitsLt_bf16_f32 = Gq A P := by
  refine trunc_at _ _ _ fun i => ?_
  idx_vars i
  refine (at_ref_q A P i0 i1 i2).trans ?_
  unfold Gq
  rfl

theorem eq_ref_q (m : (ℓ : Loc nD τ sig) → Buf (Elt Ideal) ℓ) (c : Dev nD) :
    res_main_v124 (F := Ideal) m c = truncf .bf16 (shapeCast S4x2048x2048 (ropeq (cutq (m ((c.tc : Thread nD τ).loc main_arg2))) (Host.cos (angle16 (m ((c.tc : Thread nD τ).loc main_arg3)))) (Host.sin (angle16 (m ((c.tc : Thread nD τ).loc main_arg3))))) shapeCasts_S4x2048x16x128_S4x2048x2048) bitsLt_bf16_f32 := rfl

theorem ref_q (m : (ℓ : Loc nD τ sig) → Buf (Elt Ideal) ℓ) (c : Dev nD) :
    res_main_v124 (F := Ideal) m c = Gq (m ((c.tc : Thread nD τ).loc main_arg2)) (m ((c.tc : Thread nD τ).loc main_arg3)) :=
  (eq_ref_q m c).trans (fun_ref_q _ _)

theorem at_ref_k (A : FVec Ideal S4x2048x4352 .f32) (P : IVec S4x2048 32) (i0 : Fin 4) (i1 : Fin 2048) (i2 : Fin 512) :
    shapeCast S4x2048x512 (ropek (cutk A) (Host.cos (angle16 P)) (Host.sin (angle16 P))) shapeCasts_S4x2048x4x128_S4x2048x512 (ix3 i0 i1 i2)
      = H16 2048 (attv A i0.val) (ang16 P i0.val) i1.val i2.val := by
  have hn := i2.isLt
  refine (shapeCast_apply _ _ (ix3 i0 i1 i2) (ix4 (n2 := 4) (n3 := 128) i0 i1 ⟨i2.val / 128, by omega⟩ ⟨i2.val % 128, by omega⟩) ?_).trans ?_
  · rw [Shape.rowMajor_val_four, Shape.rowMajor_val_three]
    show ((i0.val * 2048 + i1.val) * 4 + i2.val / 128) * 128 + i2.val % 128 = (i0.val * 2048 + i1.val) * 512 + i2.val
    omega
  · unfold H16
    exact ropek_apply _ _ _ i0 i1 _ _ (fun k => attv A i0.val i1.val (2048 + i2.val / 128 * 128 + k)) (ang16 P i0.val i1.val)
      (fun q => cutk_apply A i0 i1 _ q) (cos16_apply P i0 i1) (sin16_apply P i0 i1)

theorem fun_ref_k (A : FVec Ideal S4x2048x4352 .f32) (P : IVec S4x2048 32) :
    truncf .bf16 (shapeCast S4x2048x512 (ropek (cutk A) (Host.cos (angle16 P)) (Host.sin (angle16 P))) shapeCasts_S4x2048x4x128_S4x2048x512) bitsLt_bf16_f32 = Gk A P := by
  refine trunc_at _ _ _ fun i => ?_
  idx_vars i
  refine (at_ref_k A P i0 i1 i2).trans ?_
  unfold Gk
  rfl

theorem eq_ref_k (m : (ℓ : Loc nD τ sig) → Buf (Elt Ideal) ℓ) (c : Dev nD) :
    res_main_v125 (F := Ideal) m c = truncf .bf16 (shapeCast S4x2048x512 (ropek (cutk (m ((c.tc : Thread nD τ).loc main_arg2))) (Host.cos (angle16 (m ((c.tc : Thread nD τ).loc main_arg3)))) (Host.sin (angle16 (m ((c.tc : Thread nD τ).loc main_arg3))))) shapeCasts_S4x2048x4x128_S4x2048x512) bitsLt_bf16_f32 := rfl

theorem ref_k (m : (ℓ : Loc nD τ sig) → Buf (Elt Ideal) ℓ) (c : Dev nD) :
    res_main_v125 (F := Ideal) m c = Gk (m ((c.tc : Thread nD τ).loc main_arg2)) (m ((c.tc : Thread nD τ).loc main_arg3)) :=
  (eq_ref_k m c).trans (fun_ref_k _ _)

theorem pad_ref_qi (y z : FVec Ideal S4x2048x16x64 .f32) (b : Fin 4) (t : Fin 2048) (g : Fin 16) (q : Fin 128) (x θ : Nat → EReal)
    (hy : ∀ q : Fin 64, y (ix4 b t g q) = rv 8 x θ q.val) (hz : ∀ q, z (ix4 b t g q) = 0) :
    concatenate S4x2048x16x128 3 [⟨S4x2048x16x64, y⟩, ⟨S4x2048x16x64, z⟩] concatenates_S4x2048x16x64_S4x2048x16x64_S4x2048x16x128_d3 (ix4 b t g q)
      = if q.val < 64 then rv 8 x θ q.val else 0 := by
  have hq := q.isLt
  pointwise []
  split
  · exact hy _
  · exact hz _

theorem at_ref_qi (A : FVec Ideal S4x2048x4352 .f32) (P : IVec S4x2048 32) (i0 : Fin 4) (i1 : Fin 2048) (i2 : Fin 2048) :
    shapeCast S4x2048x2048 (concatenate S4x2048x16x128 3 [⟨S4x2048x16x64, ropeqi (cutqi A) (Host.cos (angle8 P)) (Host.sin (angle8 P))⟩,
      ⟨S4x2048x16x64, broadcastInDim S4x2048x16x64 ![] bcast_S_S4x2048x16x64 (constant (F := Ideal) S_ .f32 0x00000000#32)⟩]
      concatenates_S4x2048x16x64_S4x2048x16x64_S4x2048x16x128_d3) shapeCasts_S4x2048x16x128_S4x2048x2048 (ix3 i0 i1 i2)
      = H8 3072 (attv A i0.val) (ang8 P i0.val) i1.val i2.val := by
  have hn := i2.isLt
  refine (shapeCast_apply _ _ (ix3 i0 i1 i2) (ix4 (n2 := 16) (n3 := 128) i0 i1 ⟨i2.val / 128, by omega⟩ ⟨i2.val % 128, by omega⟩) ?_).trans ?_
  · rw [Shape.rowMajor_val_four, Shape.rowMajor_val_three]
    show ((i0.val * 2048 + i1.val) * 16 + i2.val / 128) * 128 + i2.val % 128 = (i0.val * 2048 + i1.val) * 2048 + i2.val
    omega
  · unfold H8
    exact pad_ref_qi _ _ i0 i1 _ _ (fun k => attv A i0.val i1.val (3072 + i2.val / 128 * 64 + k)) (ang8 P i0.val i1.val)
      (fun q => ropeqi_apply _ _ _ i0 i1 _ q _ _ (fun q => cutqi_apply A i0 i1 _ q) (cos8_apply P i0 i1) (sin8_apply P i0 i1)) (fun q => by pointwise [])

theorem fun_ref_qi (A : FVec Ideal S4x2048x4352 .f32) (P : IVec S4x2048 32) :
    truncf .bf16 (shapeCast S4x2048x2048 (concatenate S4x2048x16x128 3 [⟨S4x2048x16x64, ropeqi (cutqi A) (Host.cos (angle8 P)) (Host.sin (angle8 P))⟩,
      ⟨S4x2048x16x64, broadcastInDim S4x2048x16x64 ![] bcast_S_S4x2048x16x64 (constant (F := Ideal) S_ .f32 0x00000000#32)⟩]
      concatenates_S4x2048x16x64_S4x2048x16x64_S4x2048x16x128_d3) shapeCasts_S4x2048x16x128_S4x2048x2048) bitsLt_bf16_f32 = Gqi A P := by
  refine trunc_at _ _ _ fun i => ?_
  idx_vars i
  refine (at_ref_qi A P i0 i1 i2).trans ?_
  unfold Gqi
  rfl

theorem eq_ref_qi (m : (ℓ : Loc nD τ sig) → Buf (Elt Ideal) ℓ) (c : Dev nD) :
    res_main_v127 (F := Ideal) m c = truncf .bf16 (shapeCast S4x2048x2048 (concatenate S4x2048x16x128 3 [⟨S4x2048x16x64, ropeqi (cutqi (m ((c.tc : Thread nD τ).loc main_arg2))) (Host.cos (angle8 (m ((c.tc : Thread nD τ).loc main_arg3)))) (Host.sin (angle8 (m ((c.tc : Thread nD τ).loc main_arg3))))⟩,
      ⟨S4x2048x16x64, broadcastInDim S4x2048x16x64 ![] bcast_S_S4x2048x16x64 (constant (F := Ideal) S_ .f32 0x00000000#32)⟩]
      concatenates_S4x2048x16x64_S4x2048x16x64_S4x2048x16x128_d3) shapeCasts_S4x2048x16x128_S4x2048x2048) bitsLt_bf16_f32 := rfl

theorem ref_qi (m : (ℓ : Loc nD τ sig) → Buf (Elt Ideal) ℓ) (c : Dev nD) :
    res_main_v127 (F := Ideal) m c = Gqi (m ((c.tc : Thread nD τ).loc main_arg2)) (m ((c.tc : Thread nD τ).loc main_arg3)) :=
  (eq_ref_qi m c).trans (fun_ref_qi _ _)

theorem pad_ref_ki (y z : FVec Ideal S4x2048x1x64 .f32) (b : Fin 4) (t : Fin 2048) (g : Fin 1) (q : Fin 128) (x θ : Nat → EReal)
    (hy : ∀ q : Fin 64, y (ix4 b t g q) = rv 8 x θ q.val) (hz : ∀ q, z (ix4 b t g q) = 0) :
    concatenate S4x2048x1x128 3 [⟨S4x2048x1x64, y⟩, ⟨S4x2048x1x64, z⟩] concatenates_S4x2048x1x64_S4x2048x1x64_S4x2048x1x128_d3 (ix4 b t g q)
      = if q.val < 64 then rv 8 x θ q.val else 0 := by
  have hq := q.isLt
  obtain rfl : g = 0 := Fin.eq_zero g
  pointwise []
  split
  · exact hy _
  · exact hz _

theorem at_ref_ki (A : FVec Ideal S4x2048x4352 .f32) (P : IVec S4x2048 32) (i0 : Fin 4) (i1 : Fin 2048) (i2 : Fin 128) :
    shapeCast S4x2048x128 (concatenate S4x2048x1x128 3 [⟨S4x2048x1x64, ropeki (cutki A) (Host.cos (angle8 P)) (Host.sin (angle8 P))⟩,
      ⟨S4x2048x1x64, broadcastInDim S4x2048x1x64 ![] bcast_S_S4x2048x1x64 (constant (F := Ideal) S_ .f32 0x00000000#32)⟩]
      concatenates_S4x2048x1x64_S4x2048x1x64_S4x2048x1x128_d3) shapeCasts_S4x2048x1x128_S4x2048x128 (ix3 i0 i1 i2)
      = H8 4096 (attv A i0.val) (ang8 P i0.val) i1.val i2.val := by
  have hn := i2.isLt
  refine (shapeCast_apply _ _ (ix3 i0 i1 i2) (ix4 (n2 := 1) (n3 := 128) i0 i1 ⟨i2.val / 128, by omega⟩ ⟨i2.val % 128, by omega⟩) ?_).trans ?_
  · rw [Shape.rowMajor_val_four, Shape.rowMajor_val_three]
    show ((i0.val * 2048 + i1.val) * 1 + i2.val / 128) * 128 + i2.val % 128 = (i0.val * 2048 + i1.val) * 128 + i2.val
    omega
  · unfold H8
    exact pad_ref_ki _ _ i0 i1 _ _ (fun k => attv A i0.val i1.val (4096 + i2.val / 128 * 64 + k)) (ang8 P i0.val i1.val)
      (fun q => ropeki_apply _ _ _ i0 i1 _ q _ _ (fun q => cutki_apply A i0 i1 _ q) (cos8_apply P i0 i1) (sin8_apply P i0 i1)) (fun q => by pointwise [])

theorem fun_ref_ki (A : FVec Ideal S4x2048x4352 .f32) (P : IVec S4x2048 32) :
    truncf .bf16 (shapeCast S4x2048x128 (concatenate S4x2048x1x128 3 [⟨S4x2048x1x64, ropeki (cutki A) (Host.cos (angle8 P)) (Host.sin (angle8 P))⟩,
      ⟨S4x2048x1x64, broadcastInDim S4x2048x1x64 ![] bcast_S_S4x2048x1x64 (constant (F := Ideal) S_ .f32 0x00000000#32)⟩]
      concatenates_S4x2048x1x64_S4x2048x1x64_S4x2048x1x128_d3) shapeCasts_S4x2048x1x128_S4x2048x128) bitsLt_bf16_f32 = Gki A P := by
  refine trunc_at _ _ _ fun i => ?_
  idx_vars i
  refine (at_ref_ki A P i0 i1 i2).trans ?_
  unfold Gki
  rfl

theorem eq_ref_ki (m : (ℓ : Loc nD τ sig) → Buf (Elt Ideal) ℓ) (c : Dev nD) :
    res_main_v128 (F := Ideal) m c = truncf .bf16 (shapeCast S4x2048x128 (concatenate S4x2048x1x128 3 [⟨S4x2048x1x64, ropeki (cutki (m ((c.tc : Thread nD τ).loc main_arg2))) (Host.cos (angle8 (m ((c.tc : Thread nD τ).loc main_arg3)))) (Host.sin (angle8 (m ((c.tc : Thread nD τ).loc main_arg3))))⟩,
      ⟨S4x2048x1x64, broadcastInDim S4x2048x1x64 ![] bcast_S_S4x2048x1x64 (constant (F := Ideal) S_ .f32 0x00000000#32)⟩]
      concatenates_S4x2048x1x64_S4x2048x1x64_S4x2048x1x128_d3) shapeCasts_S4x2048x1x128_S4x2048x128) bitsLt_bf16_f32 := rfl

theorem ref_ki (m : (ℓ : Loc nD τ sig) → Buf (Elt Ideal) ℓ) (c : Dev nD) :
    res_main_v128 (F := Ideal) m c = Gki (m ((c.tc : Thread nD τ).loc main_arg2)) (m ((c.tc : Thread nD τ).loc main_arg3)) :=
  (eq_ref_ki m c).trans (fun_ref_ki _ _)

/-- The gating's part of the weights, index by index. -/
theorem sl_apply (w : FVec Ideal S1x4096x16464 .f32) :
    shapeCast S4096x4096 (extractStridedSlice S1x4096x4096 ![0, 0, 0] w slices_S1x4096x16464_S1x4096x4096_0_0_0) shapeCasts_S1x4096x4096_S4096x4096
      = fun i => w (ix3 (n0 := 1) (n1 := 4096) 0 (i 0) (col (i 1))) := by
  funext i
  refine (shapeCast_apply _ _ i (ix3 (n0 := 1) (n1 := 4096) (n2 := 4096) 0 (i 0) (i 1)) ?_).trans ?_
  · rw [Shape.rowMajor_val_three, Shape.rowMajor_val_two]
    show (0 * 4096 + (i 0).val) * 4096 + (i 1).val = (i 0).val * 4096 + (i 1).val
    omega
  · idx_vars i
    pointwise [] <;> rfl

theorem ref_za (a : FVec Ideal S8192x4096 .bf16) (w : FVec Ideal S1x4096x16464 .f32) :
    Host.dotGeneral dot_S8192x4096_S4096x4096_S8192x4096_1_0_0_1_n_n none (extf .f32 a bitsLt_bf16_f32)
      (shapeCast S4096x4096 (extractStridedSlice S1x4096x4096 ![0, 0, 0] w slices_S1x4096x16464_S1x4096x4096_0_0_0) shapeCasts_S1x4096x4096_S4096x4096) = Gza a w := by
  rw [sl_apply]
  funext i
  idx_vars i
  pointwise [Gza]

theorem ref_vt (A : FVec Ideal S4x2048x4352 .f32) :
    truncf .bf16 (transpose S4x4x512x512 [0, 1, 3, 2] (shapeCast S4x4x512x512 (extractStridedSlice S4x2048x512 ![0, 0, 2560] A slices_S4x2048x4352_S4x2048x512_0_0_2560) shapeCasts_S4x2048x512_S4x4x512x512)
      transposes_S4x4x512x512_S4x4x512x512_0_1_3_2) bitsLt_bf16_f32 = Gvt A := by
  funext i
  idx_vars i
  obtain ⟨b, hb⟩ : ∃ b, b = i0 := ⟨_, rfl⟩
  obtain ⟨ch, hch⟩ : ∃ b, b = i1 := ⟨_, rfl⟩
  obtain ⟨d, hd⟩ : ∃ b, b = i2 := ⟨_, rfl⟩
  obtain ⟨k, hk'⟩ : ∃ b, b = i3 := ⟨_, rfl⟩
  rw [← hb, ← hch, ← hd, ← hk']
  have hc := ch.isLt
  have hk := k.isLt
  have e : shapeCast S4x4x512x512 (extractStridedSlice S4x2048x512 ![0, 0, 2560] A slices_S4x2048x4352_S4x2048x512_0_0_2560) shapeCasts_S4x2048x512_S4x4x512x512 (ix4 b ch k d)
      = attv A b.val (ch.val * 512 + k.val) (2560 + d.val) := by
    refine (shapeCast_apply _ _ _ (ix3 (n1 := 2048) b ⟨ch.val * 512 + k.val, by omega⟩ d) ?_).trans ?_
    · rw [Shape.rowMajor_val_four, Shape.rowMajor_val_three]
      show (b.val * 2048 + (ch.val * 512 + k.val)) * 512 + d.val = ((b.val * 4 + ch.val) * 512 + k.val) * 512 + d.val
      omega
    · refine attv_of A _ b.val _ _ ?_ ?_ rfl
      · show 0 + b.val = b.val
        omega
      · show 0 + (ch.val * 512 + k.val) = ch.val * 512 + k.val
        omega
  show _ = attv A b.val (ch.val * 512 + k.val) (2560 + d.val)
  rw [← e]
  generalize shapeCast S4x4x512x512 (extractStridedSlice S4x2048x512 ![0, 0, 2560] A slices_S4x2048x4352_S4x2048x512_0_0_2560) shapeCasts_S4x2048x512_S4x4x512x512 = y
  pointwise []

theorem ref_wit (A : FVec Ideal S4x2048x4352 .f32) :
    transpose S4x16x2048 [0, 2, 1] (extractStridedSlice S4x2048x16 ![0, 0, 4160] A slices_S4x2048x4352_S4x2048x16_0_0_4160) transposes_S4x2048x16_S4x16x2048_0_2_1 = Gwit A := by
  funext i
  idx_vars i
  refine Eq.trans ?_ (attv_of A (ix3 i0 i2 ⟨4160 + i1.val, by omega⟩) i0.val i2.val (4160 + i1.val) rfl rfl rfl)
  pointwise []

end Cert.RZaIdeal.Hand

end
-- ==== Proof.ZaClaims.lean ====
/-
  The claims about `KZa`: the frames, and that the kernel over the extended reals computes the reference's function.
-/
module

public import proofs.«01_k».proof.Defs
public import proofs.«01_k».proof.Proof.ZaRef
public import proofs.«01_k».proof.Proof.Gen.KZa.Frame
public import proofs.«01_k».proof.Proof.Gen.RZaIdeal.Run

@[expose] public section

set_option maxRecDepth 16384

noncomputable section

namespace Cert.Proof.Za

open Idealize.ShloMosaic Idealize.ShloMosaic.TcCoe Idealize.SL.Sem

theorem frame_kernel : Cert.quiescent_KZa := fun m ρ _ => Cert.KZa.Gen.frame m ρ
theorem frame_ideal : Cert.quiescent_KZaIdeal := fun m ρ _ => Cert.KZaIdeal.Gen.frame m ρ
theorem frame_reference : Cert.quiescent_RZaIdeal := fun m ρ _ =>
  (θ_run Cert.RZaIdeal.defs _ _).mono (fun r h => ⟨fun c => (h c).2.2.2.2.2.2.2,
      Idealize.ShloMosaic.sem_eq_zero_of_no_sems (by decide) r.2⟩)
    (Cert.RZaIdeal.Value.run (F := Ideal) m ρ)

theorem preserves : Cert.preserves_KZa_KZaIdeal := trivial

/-- Over the extended reals the kernel's result arrays are the reference's. -/
theorem algebraic : Cert.algebraic_KZaIdeal_RZaIdeal := by
  intro m ρ m' ρ' _ hag
  refine ⟨fun c => KZaIdeal.Hand.za m c, fun c => KZaIdeal.Hand.oq m c, fun c => KZaIdeal.Hand.ok m c, fun c => KZaIdeal.Hand.ovt m c, fun c => KZaIdeal.Hand.oqi m c, fun c => KZaIdeal.Hand.oki m c, fun c => KZaIdeal.Hand.owit m c, Cert.KZaIdeal.Hand.run m ρ,
    (θ_run Cert.RZaIdeal.defs _ _).mono (fun r h c => ?_) (Cert.RZaIdeal.Value.run (F := Ideal) m' ρ')⟩
  obtain ⟨h0, h1, h2, h3⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · rw [h0, h1]
    exact RZaIdeal.Hand.ref_za _ _
  · refine (RZaIdeal.Hand.ref_q m' c).trans ?_
    rw [h2, h3]
  · refine (RZaIdeal.Hand.ref_k m' c).trans ?_
    rw [h2, h3]
  · rw [h2]
    exact RZaIdeal.Hand.ref_vt _
  · refine (RZaIdeal.Hand.ref_qi m' c).trans ?_
    rw [h2, h3]
  · refine (RZaIdeal.Hand.ref_ki m' c).trans ?_
    rw [h2, h3]
  · rw [h2]
    exact RZaIdeal.Hand.ref_wit _

end Cert.Proof.Za

end
-- ==== Proof.DsaSafe.lean ====
module

public import proofs.«01_k».proof.Proof.Gen.KDsaIdeal.Frame
public import Idealize.ShloMosaic.Lib.Exec
public import Idealize.ShloMosaic.Lib.ReshapeSlab

@[expose] public section

/-! Running the sparse attention's body for its frame: an assertion `I` over the body's operands and scratch
buffers that every load and every store gives back, and the programs that, from `I`, run and give `I` back. -/

noncomputable section

namespace Cert.Proof.Dsa

open Cert.KDsaIdeal Cert.KDsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A program that runs from `I` and gives `I` back. -/
structure Safe (c : Dev nD) (I : sProp (MT nD τ sig Unit (Elt F) ℕ (UR sig nD τ) ℕ)) {α : Type} (p : Prog (TpuEff nD τ sig (Elt F) Λ₀ .tc) α) : Prop where
  run : ∀ Q : α → sProp (MT nD τ sig Unit (Elt F) ℕ (UR sig nD τ) ℕ), iprop(I ∗ (∀ v, I -∗ Q v))
    ⊢ wp frame (wpE (defs₀ (F := F)) Variants.none (c : Thread nD τ) none) Set.univ p Q

/-- `I` holds the elements of `m`, at some contents. -/
def Rd (c : Dev nD) (I : sProp (MT nD τ sig Unit (Elt F) ℕ (UR sig nD τ) ℕ)) {cs : CoreSpace} {s : Shape} {e : EltTy} (m : Memref sig .tc cs s e) : Prop :=
  I ⊢ iprop(∃ f, (m.view.loc (c : Thread nD τ) ↦[m.view.set]{fullShare} f)
    ∗ ((m.view.loc (c : Thread nD τ) ↦[m.view.set]{fullShare} f) -∗ I))

/-- `I` holds the elements of `m`, at any contents. -/
def Wr (c : Dev nD) (I : sProp (MT nD τ sig Unit (Elt F) ℕ (UR sig nD τ) ℕ)) {cs : CoreSpace} {s : Shape} {e : EltTy} (m : Memref sig .tc cs s e) : Prop :=
  I ⊢ iprop(∃ f, (m.view.loc (c : Thread nD τ) ↦[m.view.set]{fullShare} f)
    ∗ (∀ f', (m.view.loc (c : Thread nD τ) ↦[m.view.set]{fullShare} f') -∗ I))

variable {c : Dev nD} {I : sProp (MT nD τ sig Unit (Elt F) ℕ (UR sig nD τ) ℕ)} {α β : Type} {cs : CoreSpace} {s : Shape} {e : EltTy}
  {m : Memref sig .tc cs s e}

theorem Wr.rd (h : Wr c I m) : Rd c I m := by
  refine BIBase.Entails.trans h ?_
  iintro ⟨%f, H, HI⟩
  iexists f
  isplitl [H]
  · iexact H
  · iapply HI

theorem pu (v : α) : Safe c I (pure v) := by
  refine ⟨fun Q => ?_⟩
  iintro ⟨HI, HQ⟩
  sl_step
  iapply HQ
  iexact HI

theorem bd {p : Prog (TpuEff nD τ sig (Elt F) Λ₀ .tc) α} {k : α → Prog (TpuEff nD τ sig (Elt F) Λ₀ .tc) β}
    (hp : Safe c I p) (hk : ∀ a, Safe c I (k a)) : Safe c I (p >>= k) := by
  refine ⟨fun Q => ?_⟩
  rw [wp_bind]
  iintro ⟨HI, HQ⟩
  iapply (hp.run _)
  isplitl [HI]
  · iexact HI
  · iintro %a HI
    iapply ((hk a).run Q)
    isplitl [HI]
    · iexact HI
    · iexact HQ

theorem ld {r : LoadRect s} {hl : m.view.LoadsAt r} (h : Rd c I m) :
    Safe c I (Prog.lift (.load m r hl)) := by
  unfold Rd at h
  refine ⟨fun Q => ?_⟩
  iintro ⟨HI, HQ⟩
  icases h $$ HI with ⟨%f, H, HI⟩
  iapply (wp_load Variants.none (c : Thread nD τ) none Set.univ (m := m) (m.view.setOn_subset_set _)) $$ H
  iintro H
  sl_step
  iapply HQ
  iapply HI
  iexact H

theorem st {r : Rect s} {w : r.shape.Idx → Elt F e} {Mk : Finset r.shape.Idx} {hx : (m.access r).Stores Mk}
    {hm : Mk = Finset.univ ∨ ∀ a, r.stride a = 1} (h : Wr c I m) :
    Safe c I (Prog.lift (.store m r w Mk hx hm)) := by
  unfold Wr at h
  refine ⟨fun Q => ?_⟩
  iintro ⟨HI, HQ⟩
  icases h $$ HI with ⟨%f, H, HI⟩
  iapply (wp_store Variants.none (c : Thread nD τ) none Set.univ (m := m)
    ((Memref.setOn_access_subset_setOn m r Mk).trans (m.view.setOn_subset_set _))) $$ H
  iintro H
  sl_step
  iapply HQ
  iapply HI
  iexact H

theorem ls {r : LoadRect s} {hl : m.view.LoadsAt r} {k : _ → Prog (TpuEff nD τ sig (Elt F) Λ₀ .tc) β} (h : Rd c I m)
    (hk : ∀ a, Safe c I (k a)) : Safe c I (Prog.lift (.load m r hl) >>= k) := bd (ld h) hk

theorem sb {r : Rect s} {w : r.shape.Idx → Elt F e} {Mk : Finset r.shape.Idx} {hx : (m.access r).Stores Mk}
    {hm : Mk = Finset.univ ∨ ∀ a, r.stride a = 1} {k : _ → Prog (TpuEff nD τ sig (Elt F) Λ₀ .tc) β} (h : Wr c I m)
    (hk : ∀ a, Safe c I (k a)) : Safe c I (Prog.lift (.store m r w Mk hx hm) >>= k) := bd (st h) hk

theorem asm {P : Prop} {d : Decidable P} (h : P) :
    Safe c I (Prog.lift (TpuEff.assume P d)) := by
  refine ⟨fun Q => ?_⟩
  iintro ⟨HI, HQ⟩
  iapply (wp_assume Variants.none (c : Thread nD τ) none Set.univ h)
  sl_step
  iapply HQ
  iexact HI

theorem ite {P : Prop} {d : Decidable P} {p : P → Prog (TpuEff nD τ sig (Elt F) Λ₀ .tc) α}
    {q : ¬P → Prog (TpuEff nD τ sig (Elt F) Λ₀ .tc) α}
    (hp : ∀ h, Safe c I (p h)) (hq : ∀ h, Safe c I (q h)) : Safe c I (dite P p q) := by
  by_cases h : P
  · rw [dif_pos h]; exact hp h
  · rw [dif_neg h]; exact hq h

theorem fr {w : ℕ} {l : Scf.Loop w} {ok : l.OK} {init : α} {b : Fin l.trips → α → Prog (TpuEff nD τ sig (Elt F) Λ₀ .tc) α}
    (hb : ∀ k acc, Safe c I (b k acc)) : Safe c I (Scf.Loop.for l ok init b) := by
  refine ⟨fun Q => ?_⟩
  exact Scf.wp_for frame _ Set.univ l.lb l.ub l.st ok init b (fun _ _ => I) (fun k acc => by
    refine BIBase.Entails.trans ?_ ((hb k acc).run _)
    iintro H
    isplitl [H]
    · iexact H
    · iintro %v H
      iexact H)

/-! Where an assertion holds an operand -/

theorem Rd.left {A B : sProp (MT nD τ sig Unit (Elt F) ℕ (UR sig nD τ) ℕ)} (h : Rd c A m) : Rd c iprop(A ∗ B) m := by
  unfold Rd at h ⊢
  iintro ⟨HA, HB⟩
  icases h $$ HA with ⟨%f, H, HA⟩
  iexists f
  isplitl [H]
  · iexact H
  · iintro H
    isplitl [HA H]
    · iapply HA; iexact H
    · iexact HB

theorem Rd.right {A B : sProp (MT nD τ sig Unit (Elt F) ℕ (UR sig nD τ) ℕ)} (h : Rd c B m) : Rd c iprop(A ∗ B) m := by
  unfold Rd at h ⊢
  iintro ⟨HA, HB⟩
  icases h $$ HB with ⟨%f, H, HB⟩
  iexists f
  isplitl [H]
  · iexact H
  · iintro H
    isplitl [HA]
    · iexact HA
    · iapply HB; iexact H

theorem Wr.left {A B : sProp (MT nD τ sig Unit (Elt F) ℕ (UR sig nD τ) ℕ)} (h : Wr c A m) : Wr c iprop(A ∗ B) m := by
  unfold Wr at h ⊢
  iintro ⟨HA, HB⟩
  icases h $$ HA with ⟨%f, H, HA⟩
  iexists f
  isplitl [H]
  · iexact H
  · iintro %f' H
    isplitl [HA H]
    · iapply HA; iexact H
    · iexact HB

theorem Wr.right {A B : sProp (MT nD τ sig Unit (Elt F) ℕ (UR sig nD τ) ℕ)} (h : Wr c B m) : Wr c iprop(A ∗ B) m := by
  unfold Wr at h ⊢
  iintro ⟨HA, HB⟩
  icases h $$ HB with ⟨%f, H, HB⟩
  iexists f
  isplitl [H]
  · iexact H
  · iintro %f' H
    isplitl [HA]
    · iexact HA
    · iapply HB; iexact H

theorem rd_owns (X : s.Idx → Elt F e) : Rd c (owns (c : Thread nD τ) m fullShare X) m := by
  unfold Rd owns
  iintro ⟨%f, %hf, H⟩
  iexists f
  isplitl [H]
  · iexact H
  · iintro H
    iexists f
    isplitr
    · ipureintro; exact hf
    · iexact H

theorem wr_owns : Wr (F := F) c iprop(∃ X, owns (c : Thread nD τ) m fullShare X) m := by
  unfold Wr owns
  iintro ⟨%X, %f, %hf, H⟩
  iexists f
  isplitl [H]
  · iexact H
  · iintro %f' H
    iexists m.view.read (Elt F) f'
    iexists f'
    isplitr
    · ipureintro; rfl
    · iexact H

end Cert.Proof.Dsa
-- ==== Proof.DsaBody.lean ====
module

public import proofs.«01_k».proof.Proof.DsaSafe
public import proofs.«01_k».proof.Proof.Gen.KDsaIdeal.Skeleton

@[expose] public section

set_option maxRecDepth 65536
set_option maxHeartbeats 4000000

/-! The sparse attention's body, part by part: from an assertion that holds every operand each part runs and
gives the assertion back. -/

noncomputable section

namespace Cert.Proof.Dsa

open Cert.KDsaIdeal Cert.KDsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertion holds every operand of the body: the inputs at some contents, the results and the scratch buffers
at any. -/
structure Env (c : Dev nD) (I : sProp (MT nD τ sig Unit (Elt F) ℕ (UR sig nD τ) ℕ))
    (a2 : Memref sig .tc .vmem S1x128x2048 .bf16)
    (a3 : Memref sig .tc .vmem S1x16x128 .f32)
    (a4 : Memref sig .tc .vmem S1x2048x128 .bf16)
    (a5 : Memref sig .tc .vmem S1x128x2048 .bf16)
    (a6 : Memref sig .tc .vmem S1x2048x512 .bf16)
    (a7 : Memref sig .tc .vmem S1x4x512x512 .bf16)
    (a8 : Memref sig .tc .vmem S1x32x4096 .f32)
    (a9 : Memref sig .tc .vmem S1x32x4096 .f32)
    (a10 : Memref sig .tc .vmem S1x128x4096 .f32)
    (a11 : Memref sig .tc .vmem S1x64x4096 .f32)
    (a12 : Memref sig .tc .vmem S1x64x1024 .f32)
    (a13 : Memref sig .tc .vmem S1x64x1024 .f32)
    (a14 : Memref sig .tc .vmem S1x64x1024 .f32)
    (a15 : Memref sig .tc .vmem S1x128x2048 .bf16)
    (a16 : Memref sig .tc .vmem S32x4096 .bf16)
    (a17 : Memref sig .tc .vmem S32x4096 .bf16)
    (a18 : Memref sig .tc .vmem S128x4096 .bf16)
    (a19 : Memref sig .tc .vmem S64x4096 .bf16)
    (a20 : Memref sig .tc .vmem S64x1024 .bf16)
    (a21 : Memref sig .tc .vmem S64x1024 .bf16)
    (a22 : Memref sig .tc .vmem S64x1024 .bf16)
    (a23 : Memref sig .tc .vmem S2048x128 .f32)
    (a24 : Memref sig .tc .vmem S2048x128 .f32)
    (a25 : Memref sig .tc .vmem S2048x2048 .f32)
    (a26 : Memref sig .tc .vmem S144x2048 .f32) : Prop where
  r2 : Rd c I a2
  r3 : Rd c I a3
  r4 : Rd c I a4
  r5 : Rd c I a5
  r6 : Rd c I a6
  r7 : Rd c I a7
  r8 : Rd c I a8
  r9 : Rd c I a9
  r10 : Rd c I a10
  r11 : Rd c I a11
  r12 : Rd c I a12
  r13 : Rd c I a13
  r14 : Rd c I a14
  w15 : Wr c I a15
  w16 : Wr c I a16
  w17 : Wr c I a17
  w18 : Wr c I a18
  w19 : Wr c I a19
  w20 : Wr c I a20
  w21 : Wr c I a21
  w22 : Wr c I a22
  w23 : Wr c I a23
  w24 : Wr c I a24
  w25 : Wr c I a25
  w26 : Wr c I a26

variable {c : Dev nD} {I : sProp (MT nD τ sig Unit (Elt F) ℕ (UR sig nD τ) ℕ)} {i : grid0.Coords}
  {a2 : Memref sig .tc .vmem S1x128x2048 .bf16} {a : a2.IsWhole}
  {a3 : Memref sig .tc .vmem S1x16x128 .f32} {b : a3.IsWhole}
  {a4 : Memref sig .tc .vmem S1x2048x128 .bf16} {d : a4.IsWhole}
  {a5 : Memref sig .tc .vmem S1x128x2048 .bf16} {e : a5.IsWhole}
  {a6 : Memref sig .tc .vmem S1x2048x512 .bf16} {f : a6.IsWhole}
  {a7 : Memref sig .tc .vmem S1x4x512x512 .bf16} {g : a7.IsWhole}
  {a8 : Memref sig .tc .vmem S1x32x4096 .f32} {h : a8.IsWhole}
  {a9 : Memref sig .tc .vmem S1x32x4096 .f32} {j : a9.IsWhole}
  {a10 : Memref sig .tc .vmem S1x128x4096 .f32} {l : a10.IsWhole}
  {a11 : Memref sig .tc .vmem S1x64x4096 .f32} {m : a11.IsWhole}
  {a12 : Memref sig .tc .vmem S1x64x1024 .f32} {n : a12.IsWhole}
  {a13 : Memref sig .tc .vmem S1x64x1024 .f32} {o : a13.IsWhole}
  {a14 : Memref sig .tc .vmem S1x64x1024 .f32} {p : a14.IsWhole}
  {a15 : Memref sig .tc .vmem S1x128x2048 .bf16} {q : a15.IsWhole}
  {a16 : Memref sig .tc .vmem S32x4096 .bf16} {r : a16.IsWhole}
  {a17 : Memref sig .tc .vmem S32x4096 .bf16} {s : a17.IsWhole}
  {a18 : Memref sig .tc .vmem S128x4096 .bf16} {t : a18.IsWhole}
  {a19 : Memref sig .tc .vmem S64x4096 .bf16} {u : a19.IsWhole}
  {a20 : Memref sig .tc .vmem S64x1024 .bf16} {v : a20.IsWhole}
  {a21 : Memref sig .tc .vmem S64x1024 .bf16} {w : a21.IsWhole}
  {a22 : Memref sig .tc .vmem S64x1024 .bf16} {z : a22.IsWhole}
  {a23 : Memref sig .tc .vmem S2048x128 .f32} {A : a23.IsWhole}
  {a24 : Memref sig .tc .vmem S2048x128 .f32} {B : a24.IsWhole}
  {a25 : Memref sig .tc .vmem S2048x2048 .f32} {C : a25.IsWhole}
  {a26 : Memref sig .tc .vmem S144x2048 .f32} {D : a26.IsWhole}
  (E : Env c I a2 a3 a4 a5 a6 a7 a8 a9 a10 a11 a12 a13 a14 a15 a16 a17 a18 a19 a20 a21 a22 a23 a24 a25 a26)

include E

theorem p202 : Safe c I (k0_part202 i _ a _ b _ d _ e _ f _ g _ h _ j _ l _ m _ n _ o _ p _ q _ r _ s _ t _ u _ v _ w _ z _ A _ B _ C _ D ) := by
  rw [k0_part202_eq_skeleton]; unfold k0_part202_skel
  exact ls E.r8 fun _ => ls E.w16.rd fun _ => sb E.w16 fun _ => ls E.r9 fun _ => ls E.w17.rd fun _ => sb E.w17 fun _ => ls E.r10 fun _ => ls E.w18.rd fun _ => sb E.w18 fun _ => ls E.r11 fun _ => ls E.w19.rd fun _ => sb E.w19 fun _ => ls E.r12 fun _ => ls E.w20.rd fun _ => sb E.w20 fun _ => ls E.r13 fun _ => pu _

theorem p7 x0 : Safe c I (k0_part7 i _ a _ b _ d _ e _ f _ g _ h _ j _ l _ m _ n _ o _ p _ q _ r _ s _ t _ u _ v _ w _ z _ A _ B _ C _ D x0) := by
  rw [k0_part7_eq_skeleton]; unfold k0_part7_skel
  exact ls E.r4 fun _ => ls E.r2 fun _ => ls E.r2 fun _ => ls E.r3 fun _ => ls E.r3 fun _ => ls E.r2 fun _ => ls E.r2 fun _ => pu _

theorem p8 x0 x1 x2 x3 : Safe c I (k0_part8 i _ a _ b _ d _ e _ f _ g _ h _ j _ l _ m _ n _ o _ p _ q _ r _ s _ t _ u _ v _ w _ z _ A _ B _ C _ D x0 x1 x2 x3) := by
  rw [k0_part8_eq_skeleton]; unfold k0_part8_skel
  exact ls E.r3 fun _ => ls E.r3 fun _ => ls E.r2 fun _ => ls E.r2 fun _ => ls E.r3 fun _ => ls E.r3 fun _ => pu _

theorem p9 x0 x1 x2 x3 x4 : Safe c I (k0_part9 i _ a _ b _ d _ e _ f _ g _ h _ j _ l _ m _ n _ o _ p _ q _ r _ s _ t _ u _ v _ w _ z _ A _ B _ C _ D x0 x1 x2 x3 x4) := by
  rw [k0_part9_eq_skeleton]; unfold k0_part9_skel
  exact ls E.r2 fun _ => ls E.r2 fun _ => ls E.r3 fun _ => ls E.r3 fun _ => ls E.r2 fun _ => ls E.r2 fun _ => ls E.r3 fun _ => pu _

theorem p10 x0 x1 x2 x3 x4 : Safe c I (k0_part10 i _ a _ b _ d _ e _ f _ g _ h _ j _ l _ m _ n _ o _ p _ q _ r _ s _ t _ u _ v _ w _ z _ A _ B _ C _ D x0 x1 x2 x3 x4) := by
  rw [k0_part10_eq_skeleton]; unfold k0_part10_skel
  exact ls E.r3 fun _ => ls E.r2 fun _ => ls E.r2 fun _ => ls E.r3 fun _ => ls E.r3 fun _ => ls E.r2 fun _ => pu _

theorem p11 x0 x1 x2 : Safe c I (k0_part11 i _ a _ b _ d _ e _ f _ g _ h _ j _ l _ m _ n _ o _ p _ q _ r _ s _ t _ u _ v _ w _ z _ A _ B _ C _ D x0 x1 x2) := by
  rw [k0_part11_eq_skeleton]; unfold k0_part11_skel
  exact ls E.r2 fun _ => ls E.r3 fun _ => ls E.r3 fun _ => ls E.r2 fun _ => ls E.r2 fun _ => ls E.r3 fun _ => pu _

theorem b1 x0 x1 x2 x3 x4 x5 x6 k y : Safe c I (k0_t1_body i _ a _ b _ d _ e _ f _ g _ h _ j _ l _ m _ n _ o _ p _ q _ r _ s _ t _ u _ v _ w _ z _ A _ B _ C _ D x0 x1 x2 x3 x4 x5 x6 k y) := by
  unfold k0_t1_body
  exact ls E.w23.rd fun _ => pu _

theorem p12 x0 x1 x2 x3 x4 x5 : Safe c I (k0_part12 i _ a _ b _ d _ e _ f _ g _ h _ j _ l _ m _ n _ o _ p _ q _ r _ s _ t _ u _ v _ w _ z _ A _ B _ C _ D x0 x1 x2 x3 x4 x5) := by
  rw [k0_part12_eq_skeleton]; unfold k0_part12_skel
  exact ls E.r3 fun _ => ls E.w23.rd fun _ => sb E.w23 fun _ => ite (fun _ => pu _) fun _ => ls E.w23.rd fun _ => bd (fr fun _ _ => b1 E ..) fun _ => pu _

theorem p13 x0 x1 x2 x3 : Safe c I (k0_part13 i _ a _ b _ d _ e _ f _ g _ h _ j _ l _ m _ n _ o _ p _ q _ r _ s _ t _ u _ v _ w _ z _ A _ B _ C _ D x0 x1 x2 x3) := by
  rw [k0_part13_eq_skeleton]; unfold k0_part13_skel
  exact ls E.w23.rd fun _ => ls E.w24.rd fun _ => sb E.w24 fun _ => pu _

theorem p5 x0 x1 : Safe c I (k0_part5 i _ a _ b _ d _ e _ f _ g _ h _ j _ l _ m _ n _ o _ p _ q _ r _ s _ t _ u _ v _ w _ z _ A _ B _ C _ D x0 x1) := by
  rw [k0_part5_eq_skeleton]; unfold k0_part5_skel
  exact ls E.w23.rd fun _ => pu _

theorem p1 x0 x1 x2 x3 x4 x5 x6 x7 x8 : Safe c I (k0_part1 i _ a _ b _ d _ e _ f _ g _ h _ j _ l _ m _ n _ o _ p _ q _ r _ s _ t _ u _ v _ w _ z _ A _ B _ C _ D x0 x1 x2 x3 x4 x5 x6 x7 x8) := by
  rw [k0_part1_eq_skeleton]; unfold k0_part1_skel
  exact ls E.w23.rd fun _ => pu _

theorem p2 x0 x1 x2 x3 x4 x5 x6 x7 : Safe c I (k0_part2 i _ a _ b _ d _ e _ f _ g _ h _ j _ l _ m _ n _ o _ p _ q _ r _ s _ t _ u _ v _ w _ z _ A _ B _ C _ D x0 x1 x2 x3 x4 x5 x6 x7) := by
  rw [k0_part2_eq_skeleton]; unfold k0_part2_skel
  exact ls E.w23.rd fun _ => pu _

theorem b2 x0 x1 x2 x3 x4 x5 x6 x7 x8 x9 x10 x11 k y : Safe c I (k0_t2_body i _ a _ b _ d _ e _ f _ g _ h _ j _ l _ m _ n _ o _ p _ q _ r _ s _ t _ u _ v _ w _ z _ A _ B _ C _ D x0 x1 x2 x3 x4 x5 x6 x7 x8 x9 x10 x11 k y) := by
  unfold k0_t2_body
  exact bd (p1 E ..) fun ⟨_, _, _⟩ => bd (p2 E ..) fun ⟨_, _, _⟩ => pu _

theorem p3 x0 x1 x2 x3 x4 x5 x6 x7 x8 : Safe c I (k0_part3 i _ a _ b _ d _ e _ f _ g _ h _ j _ l _ m _ n _ o _ p _ q _ r _ s _ t _ u _ v _ w _ z _ A _ B _ C _ D x0 x1 x2 x3 x4 x5 x6 x7 x8) := by
  rw [k0_part3_eq_skeleton]; unfold k0_part3_skel
  exact ls E.w23.rd fun _ => pu _

theorem p4 x0 x1 x2 x3 x4 x5 x6 x7 : Safe c I (k0_part4 i _ a _ b _ d _ e _ f _ g _ h _ j _ l _ m _ n _ o _ p _ q _ r _ s _ t _ u _ v _ w _ z _ A _ B _ C _ D x0 x1 x2 x3 x4 x5 x6 x7) := by
  rw [k0_part4_eq_skeleton]; unfold k0_part4_skel
  exact ls E.w23.rd fun _ => pu _

theorem b3 x0 x1 x2 x3 x4 x5 x6 x7 x8 x9 x10 x11 x12 k y : Safe c I (k0_t3_body i _ a _ b _ d _ e _ f _ g _ h _ j _ l _ m _ n _ o _ p _ q _ r _ s _ t _ u _ v _ w _ z _ A _ B _ C _ D x0 x1 x2 x3 x4 x5 x6 x7 x8 x9 x10 x11 x12 k y) := by
  unfold k0_t3_body
  exact bd (p3 E ..) fun ⟨_, _, _⟩ => bd (p4 E ..) fun ⟨_, _, _⟩ => pu _

theorem p6 x0 x1 x2 x3 x4 x5 x6 x7 x8 x9 : Safe c I (k0_part6 i _ a _ b _ d _ e _ f _ g _ h _ j _ l _ m _ n _ o _ p _ q _ r _ s _ t _ u _ v _ w _ z _ A _ B _ C _ D x0 x1 x2 x3 x4 x5 x6 x7 x8 x9) := by
  rw [k0_part6_eq_skeleton]; unfold k0_part6_skel
  exact bd (asm (k0_chk1_all ..)) fun _ => bd (fr fun _ _ => b2 E ..) fun ⟨_, _, _⟩ => bd (fr fun _ _ => b3 E ..) fun ⟨_, _, _⟩ => ls E.w23.rd fun _ => pu _

theorem p14 x0 x1 x2 x3 x4 x5 x6 x7 : Safe c I (k0_part14 i _ a _ b _ d _ e _ f _ g _ h _ j _ l _ m _ n _ o _ p _ q _ r _ s _ t _ u _ v _ w _ z _ A _ B _ C _ D x0 x1 x2 x3 x4 x5 x6 x7) := by
  rw [k0_part14_eq_skeleton]; unfold k0_part14_skel
  exact ite (fun _ => bd (p5 E ..) fun ⟨_, _, _, _, _⟩ => bd (p6 E ..) fun ⟨_, _⟩ => ls E.w24.rd fun _ => sb E.w24 fun _ => ls E.w24.rd fun _ => ls E.r5 fun _ => ls E.r5 fun _ => ls E.r5 fun _ => ls E.r5 fun _ => ls E.r6 fun _ => ls E.w25.rd fun _ => sb E.w25 fun _ => pu _) fun _ => ls E.w24.rd fun _ => ls E.r5 fun _ => ls E.r5 fun _ => ls E.r5 fun _ => ls E.r5 fun _ => ls E.r6 fun _ => ls E.w25.rd fun _ => sb E.w25 fun _ => pu _

theorem p15 x0 x1 x2 : Safe c I (k0_part15 i _ a _ b _ d _ e _ f _ g _ h _ j _ l _ m _ n _ o _ p _ q _ r _ s _ t _ u _ v _ w _ z _ A _ B _ C _ D x0 x1 x2) := by
  rw [k0_part15_eq_skeleton]; unfold k0_part15_skel
  exact ls E.r5 fun _ => ls E.r5 fun _ => ls E.r5 fun _ => ls E.r5 fun _ => ls E.r6 fun _ => ls E.w25.rd fun _ => sb E.w25 fun _ => pu _

theorem p16 x0 : Safe c I (k0_part16 i _ a _ b _ d _ e _ f _ g _ h _ j _ l _ m _ n _ o _ p _ q _ r _ s _ t _ u _ v _ w _ z _ A _ B _ C _ D x0) := by
  rw [k0_part16_eq_skeleton]; unfold k0_part16_skel
  exact ls E.r5 fun _ => ls E.r5 fun _ => ls E.r5 fun _ => ls E.r5 fun _ => ls E.r6 fun _ => ls E.w25.rd fun _ => sb E.w25 fun _ => ls E.r5 fun _ => ls E.r5 fun _ => pu _

theorem p17 x0 x1 x2 x3 x4 x5 x6 : Safe c I (k0_part17 i _ a _ b _ d _ e _ f _ g _ h _ j _ l _ m _ n _ o _ p _ q _ r _ s _ t _ u _ v _ w _ z _ A _ B _ C _ D x0 x1 x2 x3 x4 x5 x6) := by
  rw [k0_part17_eq_skeleton]; unfold k0_part17_skel
  exact ls E.r5 fun _ => ls E.r5 fun _ => ls E.r6 fun _ => ls E.w25.rd fun _ => sb E.w25 fun _ => ls E.w26.rd fun _ => sb E.w26 fun _ => pu _

theorem p18 x0 x1 : Safe c I (k0_part18 i _ a _ b _ d _ e _ f _ g _ h _ j _ l _ m _ n _ o _ p _ q _ r _ s _ t _ u _ v _ w _ z _ A _ B _ C _ D x0 x1) := by
  rw [k0_part18_eq_skeleton]; unfold k0_part18_skel
  exact ls E.w25.rd fun _ => ls E.r7 fun _ => ls E.w26.rd fun _ => ls E.w26.rd fun _ => sb E.w26 fun _ => ls E.w25.rd fun _ => ls E.r7 fun _ => ls E.w26.rd fun _ => ls E.w26.rd fun _ => sb E.w26 fun _ => pu _

theorem p19 x0 x1 : Safe c I (k0_part19 i _ a _ b _ d _ e _ f _ g _ h _ j _ l _ m _ n _ o _ p _ q _ r _ s _ t _ u _ v _ w _ z _ A _ B _ C _ D x0 x1) := by
  rw [k0_part19_eq_skeleton]; unfold k0_part19_skel
  exact ls E.w25.rd fun _ => ls E.r7 fun _ => ls E.w26.rd fun _ => ls E.w26.rd fun _ => sb E.w26 fun _ => ls E.w25.rd fun _ => ls E.r7 fun _ => ls E.w26.rd fun _ => ls E.w26.rd fun _ => sb E.w26 fun _ => pu _

theorem p20 : Safe c I (k0_part20 i _ a _ b _ d _ e _ f _ g _ h _ j _ l _ m _ n _ o _ p _ q _ r _ s _ t _ u _ v _ w _ z _ A _ B _ C _ D ) := by
  rw [k0_part20_eq_skeleton]; unfold k0_part20_skel
  exact ls E.w26.rd fun _ => ls E.w26.rd fun _ => ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => pu _

theorem p21 x0 x1 : Safe c I (k0_part21 i _ a _ b _ d _ e _ f _ g _ h _ j _ l _ m _ n _ o _ p _ q _ r _ s _ t _ u _ v _ w _ z _ A _ B _ C _ D x0 x1) := by
  rw [k0_part21_eq_skeleton]; unfold k0_part21_skel
  exact ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => pu _

theorem p22 x0 x1 : Safe c I (k0_part22 i _ a _ b _ d _ e _ f _ g _ h _ j _ l _ m _ n _ o _ p _ q _ r _ s _ t _ u _ v _ w _ z _ A _ B _ C _ D x0 x1) := by
  rw [k0_part22_eq_skeleton]; unfold k0_part22_skel
  exact bd (p7 E ..) fun ⟨_, _, _, _, _, _⟩ => bd (p8 E ..) fun ⟨_, _, _, _⟩ => bd (p9 E ..) fun ⟨_, _, _, _⟩ => bd (p10 E ..) fun ⟨_, _⟩ => bd (p11 E ..) fun ⟨_, _⟩ => bd (p12 E ..) fun ⟨_, _, _⟩ => bd (p13 E ..) fun ⟨_, _, _⟩ => bd (p14 E ..) fun ⟨_, _, _, _⟩ => bd (p15 E ..) fun ⟨_, _⟩ => bd (p16 E ..) fun ⟨_, _, _⟩ => bd (p17 E ..) fun ⟨_, _⟩ => bd (p18 E ..) fun _ => bd (p19 E ..) fun _ => bd (p20 E ..) fun ⟨_, _⟩ => bd (p21 E ..) fun _ => ls E.w15.rd fun _ => sb E.w15 fun _ => ls E.w15.rd fun _ => sb E.w15 fun _ => ls E.w15.rd fun _ => sb E.w15 fun _ => ls E.w15.rd fun _ => sb E.w15 fun _ => ls E.w15.rd fun _ => pu _

theorem p35 x0 : Safe c I (k0_part35 i _ a _ b _ d _ e _ f _ g _ h _ j _ l _ m _ n _ o _ p _ q _ r _ s _ t _ u _ v _ w _ z _ A _ B _ C _ D x0) := by
  rw [k0_part35_eq_skeleton]; unfold k0_part35_skel
  exact ls E.r4 fun _ => ls E.r2 fun _ => ls E.r2 fun _ => ls E.r3 fun _ => ls E.r3 fun _ => ls E.r2 fun _ => ls E.r2 fun _ => pu _

theorem p36 x0 x1 x2 x3 : Safe c I (k0_part36 i _ a _ b _ d _ e _ f _ g _ h _ j _ l _ m _ n _ o _ p _ q _ r _ s _ t _ u _ v _ w _ z _ A _ B _ C _ D x0 x1 x2 x3) := by
  rw [k0_part36_eq_skeleton]; unfold k0_part36_skel
  exact ls E.r3 fun _ => ls E.r3 fun _ => ls E.r2 fun _ => ls E.r2 fun _ => ls E.r3 fun _ => ls E.r3 fun _ => pu _

theorem p37 x0 x1 x2 x3 x4 : Safe c I (k0_part37 i _ a _ b _ d _ e _ f _ g _ h _ j _ l _ m _ n _ o _ p _ q _ r _ s _ t _ u _ v _ w _ z _ A _ B _ C _ D x0 x1 x2 x3 x4) := by
  rw [k0_part37_eq_skeleton]; unfold k0_part37_skel
  exact ls E.r2 fun _ => ls E.r2 fun _ => ls E.r3 fun _ => ls E.r3 fun _ => ls E.r2 fun _ => ls E.r2 fun _ => ls E.r3 fun _ => pu _

theorem p38 x0 x1 x2 x3 x4 : Safe c I (k0_part38 i _ a _ b _ d _ e _ f _ g _ h _ j _ l _ m _ n _ o _ p _ q _ r _ s _ t _ u _ v _ w _ z _ A _ B _ C _ D x0 x1 x2 x3 x4) := by
  rw [k0_part38_eq_skeleton]; unfold k0_part38_skel
  exact ls E.r3 fun _ => ls E.r2 fun _ => ls E.r2 fun _ => ls E.r3 fun _ => ls E.r3 fun _ => ls E.r2 fun _ => pu _

theorem p39 x0 x1 x2 : Safe c I (k0_part39 i _ a _ b _ d _ e _ f _ g _ h _ j _ l _ m _ n _ o _ p _ q _ r _ s _ t _ u _ v _ w _ z _ A _ B _ C _ D x0 x1 x2) := by
  rw [k0_part39_eq_skeleton]; unfold k0_part39_skel
  exact ls E.r2 fun _ => ls E.r3 fun _ => ls E.r3 fun _ => ls E.r2 fun _ => ls E.r2 fun _ => ls E.r3 fun _ => pu _

theorem p40 x0 x1 x2 x3 : Safe c I (k0_part40 i _ a _ b _ d _ e _ f _ g _ h _ j _ l _ m _ n _ o _ p _ q _ r _ s _ t _ u _ v _ w _ z _ A _ B _ C _ D x0 x1 x2 x3) := by
  rw [k0_part40_eq_skeleton]; unfold k0_part40_skel
  exact ls E.r3 fun _ => ls E.w23.rd fun _ => sb E.w23 fun _ => ls E.r4 fun _ => ls E.r2 fun _ => ls E.r2 fun _ => ls E.r3 fun _ => pu _

theorem p41 x0 x1 x2 x3 x4 : Safe c I (k0_part41 i _ a _ b _ d _ e _ f _ g _ h _ j _ l _ m _ n _ o _ p _ q _ r _ s _ t _ u _ v _ w _ z _ A _ B _ C _ D x0 x1 x2 x3 x4) := by
  rw [k0_part41_eq_skeleton]; unfold k0_part41_skel
  exact ls E.r3 fun _ => ls E.r2 fun _ => ls E.r2 fun _ => ls E.r3 fun _ => ls E.r3 fun _ => ls E.r2 fun _ => ls E.r2 fun _ => pu _

theorem p42 x0 x1 x2 x3 : Safe c I (k0_part42 i _ a _ b _ d _ e _ f _ g _ h _ j _ l _ m _ n _ o _ p _ q _ r _ s _ t _ u _ v _ w _ z _ A _ B _ C _ D x0 x1 x2 x3) := by
  rw [k0_part42_eq_skeleton]; unfold k0_part42_skel
  exact ls E.r3 fun _ => ls E.r3 fun _ => ls E.r2 fun _ => ls E.r2 fun _ => ls E.r3 fun _ => ls E.r3 fun _ => pu _

theorem p43 x0 x1 x2 x3 x4 : Safe c I (k0_part43 i _ a _ b _ d _ e _ f _ g _ h _ j _ l _ m _ n _ o _ p _ q _ r _ s _ t _ u _ v _ w _ z _ A _ B _ C _ D x0 x1 x2 x3 x4) := by
  rw [k0_part43_eq_skeleton]; unfold k0_part43_skel
  exact ls E.r2 fun _ => ls E.r2 fun _ => ls E.r3 fun _ => ls E.r3 fun _ => ls E.r2 fun _ => ls E.r2 fun _ => ls E.r3 fun _ => pu _

theorem p44 x0 x1 x2 x3 : Safe c I (k0_part44 i _ a _ b _ d _ e _ f _ g _ h _ j _ l _ m _ n _ o _ p _ q _ r _ s _ t _ u _ v _ w _ z _ A _ B _ C _ D x0 x1 x2 x3) := by
  rw [k0_part44_eq_skeleton]; unfold k0_part44_skel
  exact ls E.r3 fun _ => ls E.r2 fun _ => ls E.r2 fun _ => ls E.r3 fun _ => ls E.r3 fun _ => ls E.r2 fun _ => pu _

theorem p45 x0 x1 x2 x3 x4 : Safe c I (k0_part45 i _ a _ b _ d _ e _ f _ g _ h _ j _ l _ m _ n _ o _ p _ q _ r _ s _ t _ u _ v _ w _ z _ A _ B _ C _ D x0 x1 x2 x3 x4) := by
  rw [k0_part45_eq_skeleton]; unfold k0_part45_skel
  exact ls E.r2 fun _ => ls E.r3 fun _ => ls E.r3 fun _ => ls E.w23.rd fun _ => sb E.w23 fun _ => pu _

theorem p46 x0 x1 : Safe c I (k0_part46 i _ a _ b _ d _ e _ f _ g _ h _ j _ l _ m _ n _ o _ p _ q _ r _ s _ t _ u _ v _ w _ z _ A _ B _ C _ D x0 x1) := by
  rw [k0_part46_eq_skeleton]; unfold k0_part46_skel
  exact ls E.w23.rd fun _ => ls E.w23.rd fun _ => pu _

theorem p23 x0 x1 x2 x3 : Safe c I (k0_part23 i _ a _ b _ d _ e _ f _ g _ h _ j _ l _ m _ n _ o _ p _ q _ r _ s _ t _ u _ v _ w _ z _ A _ B _ C _ D x0 x1 x2 x3) := by
  rw [k0_part23_eq_skeleton]; unfold k0_part23_skel
  exact ls E.w23.rd fun _ => ls E.w23.rd fun _ => pu _

theorem b4 x0 x1 x2 x3 x4 k y : Safe c I (k0_t4_body i _ a _ b _ d _ e _ f _ g _ h _ j _ l _ m _ n _ o _ p _ q _ r _ s _ t _ u _ v _ w _ z _ A _ B _ C _ D x0 x1 x2 x3 x4 k y) := by
  unfold k0_t4_body
  exact bd (p23 E ..) fun ⟨_, _, _, _⟩ => pu _

theorem p47 x0 x1 x2 x3 x4 : Safe c I (k0_part47 i _ a _ b _ d _ e _ f _ g _ h _ j _ l _ m _ n _ o _ p _ q _ r _ s _ t _ u _ v _ w _ z _ A _ B _ C _ D x0 x1 x2 x3 x4) := by
  rw [k0_part47_eq_skeleton]; unfold k0_part47_skel
  exact bd (fr fun _ _ => b4 E ..) fun _ => ls E.w23.rd fun _ => pu _

theorem p48 x0 x1 x2 x3 x4 x5 : Safe c I (k0_part48 i _ a _ b _ d _ e _ f _ g _ h _ j _ l _ m _ n _ o _ p _ q _ r _ s _ t _ u _ v _ w _ z _ A _ B _ C _ D x0 x1 x2 x3 x4 x5) := by
  rw [k0_part48_eq_skeleton]; unfold k0_part48_skel
  exact ls E.w24.rd fun _ => sb E.w24 fun _ => ls E.w23.rd fun _ => ls E.w24.rd fun _ => sb E.w24 fun _ => pu _

theorem p32 x0 x1 : Safe c I (k0_part32 i _ a _ b _ d _ e _ f _ g _ h _ j _ l _ m _ n _ o _ p _ q _ r _ s _ t _ u _ v _ w _ z _ A _ B _ C _ D x0 x1) := by
  rw [k0_part32_eq_skeleton]; unfold k0_part32_skel
  exact ls E.w23.rd fun _ => ls E.w23.rd fun _ => pu _

theorem p24 x0 x1 x2 x3 x4 x5 x6 x7 x8 : Safe c I (k0_part24 i _ a _ b _ d _ e _ f _ g _ h _ j _ l _ m _ n _ o _ p _ q _ r _ s _ t _ u _ v _ w _ z _ A _ B _ C _ D x0 x1 x2 x3 x4 x5 x6 x7 x8) := by
  rw [k0_part24_eq_skeleton]; unfold k0_part24_skel
  exact ls E.w23.rd fun _ => pu _

theorem p25 x0 x1 x2 x3 x4 x5 x6 x7 : Safe c I (k0_part25 i _ a _ b _ d _ e _ f _ g _ h _ j _ l _ m _ n _ o _ p _ q _ r _ s _ t _ u _ v _ w _ z _ A _ B _ C _ D x0 x1 x2 x3 x4 x5 x6 x7) := by
  rw [k0_part25_eq_skeleton]; unfold k0_part25_skel
  exact ls E.w23.rd fun _ => pu _

theorem p26 x0 x1 x2 x3 x4 x5 x6 x7 : Safe c I (k0_part26 i _ a _ b _ d _ e _ f _ g _ h _ j _ l _ m _ n _ o _ p _ q _ r _ s _ t _ u _ v _ w _ z _ A _ B _ C _ D x0 x1 x2 x3 x4 x5 x6 x7) := by
  rw [k0_part26_eq_skeleton]; unfold k0_part26_skel
  exact ls E.w23.rd fun _ => pu _

theorem p27 x0 x1 x2 x3 x4 x5 x6 x7 : Safe c I (k0_part27 i _ a _ b _ d _ e _ f _ g _ h _ j _ l _ m _ n _ o _ p _ q _ r _ s _ t _ u _ v _ w _ z _ A _ B _ C _ D x0 x1 x2 x3 x4 x5 x6 x7) := by
  rw [k0_part27_eq_skeleton]; unfold k0_part27_skel
  exact ls E.w23.rd fun _ => pu _

theorem b5 x0 x1 x2 x3 x4 x5 x6 x7 x8 x9 x10 x11 k y : Safe c I (k0_t5_body i _ a _ b _ d _ e _ f _ g _ h _ j _ l _ m _ n _ o _ p _ q _ r _ s _ t _ u _ v _ w _ z _ A _ B _ C _ D x0 x1 x2 x3 x4 x5 x6 x7 x8 x9 x10 x11 k y) := by
  unfold k0_t5_body
  exact bd (p24 E ..) fun ⟨_, _, _⟩ => bd (p25 E ..) fun ⟨_, _, _⟩ => bd (p26 E ..) fun ⟨_, _, _⟩ => bd (p27 E ..) fun ⟨_, _, _⟩ => pu _

theorem p28 x0 x1 x2 x3 x4 x5 x6 x7 x8 : Safe c I (k0_part28 i _ a _ b _ d _ e _ f _ g _ h _ j _ l _ m _ n _ o _ p _ q _ r _ s _ t _ u _ v _ w _ z _ A _ B _ C _ D x0 x1 x2 x3 x4 x5 x6 x7 x8) := by
  rw [k0_part28_eq_skeleton]; unfold k0_part28_skel
  exact ls E.w23.rd fun _ => pu _

theorem p29 x0 x1 x2 x3 x4 x5 x6 x7 : Safe c I (k0_part29 i _ a _ b _ d _ e _ f _ g _ h _ j _ l _ m _ n _ o _ p _ q _ r _ s _ t _ u _ v _ w _ z _ A _ B _ C _ D x0 x1 x2 x3 x4 x5 x6 x7) := by
  rw [k0_part29_eq_skeleton]; unfold k0_part29_skel
  exact ls E.w23.rd fun _ => pu _

theorem p30 x0 x1 x2 x3 x4 x5 x6 x7 : Safe c I (k0_part30 i _ a _ b _ d _ e _ f _ g _ h _ j _ l _ m _ n _ o _ p _ q _ r _ s _ t _ u _ v _ w _ z _ A _ B _ C _ D x0 x1 x2 x3 x4 x5 x6 x7) := by
  rw [k0_part30_eq_skeleton]; unfold k0_part30_skel
  exact ls E.w23.rd fun _ => pu _

theorem p31 x0 x1 x2 x3 x4 x5 x6 x7 : Safe c I (k0_part31 i _ a _ b _ d _ e _ f _ g _ h _ j _ l _ m _ n _ o _ p _ q _ r _ s _ t _ u _ v _ w _ z _ A _ B _ C _ D x0 x1 x2 x3 x4 x5 x6 x7) := by
  rw [k0_part31_eq_skeleton]; unfold k0_part31_skel
  exact ls E.w23.rd fun _ => pu _

theorem b6 x0 x1 x2 x3 x4 x5 x6 x7 x8 x9 x10 x11 x12 k y : Safe c I (k0_t6_body i _ a _ b _ d _ e _ f _ g _ h _ j _ l _ m _ n _ o _ p _ q _ r _ s _ t _ u _ v _ w _ z _ A _ B _ C _ D x0 x1 x2 x3 x4 x5 x6 x7 x8 x9 x10 x11 x12 k y) := by
  unfold k0_t6_body
  exact bd (p28 E ..) fun ⟨_, _, _⟩ => bd (p29 E ..) fun ⟨_, _, _⟩ => bd (p30 E ..) fun ⟨_, _, _⟩ => bd (p31 E ..) fun ⟨_, _, _⟩ => pu _

theorem p33 x0 x1 x2 x3 x4 x5 x6 x7 x8 x9 : Safe c I (k0_part33 i _ a _ b _ d _ e _ f _ g _ h _ j _ l _ m _ n _ o _ p _ q _ r _ s _ t _ u _ v _ w _ z _ A _ B _ C _ D x0 x1 x2 x3 x4 x5 x6 x7 x8 x9) := by
  rw [k0_part33_eq_skeleton]; unfold k0_part33_skel
  exact bd (asm (k0_chk2_all ..)) fun _ => bd (fr fun _ _ => b5 E ..) fun ⟨_, _, _⟩ => bd (fr fun _ _ => b6 E ..) fun ⟨_, _, _⟩ => ls E.w23.rd fun _ => pu _

theorem p34 x0 x1 x2 x3 x4 x5 x6 x7 x8 x9 : Safe c I (k0_part34 i _ a _ b _ d _ e _ f _ g _ h _ j _ l _ m _ n _ o _ p _ q _ r _ s _ t _ u _ v _ w _ z _ A _ B _ C _ D x0 x1 x2 x3 x4 x5 x6 x7 x8 x9) := by
  rw [k0_part34_eq_skeleton]; unfold k0_part34_skel
  exact ls E.w24.rd fun _ => sb E.w24 fun _ => ls E.w23.rd fun _ => pu _

theorem p49 x0 x1 x2 x3 x4 x5 x6 : Safe c I (k0_part49 i _ a _ b _ d _ e _ f _ g _ h _ j _ l _ m _ n _ o _ p _ q _ r _ s _ t _ u _ v _ w _ z _ A _ B _ C _ D x0 x1 x2 x3 x4 x5 x6) := by
  rw [k0_part49_eq_skeleton]; unfold k0_part49_skel
  exact ite (fun _ => bd (p32 E ..) fun ⟨_, _, _, _, _⟩ => bd (p33 E ..) fun ⟨_, _, _, _, _, _⟩ => bd (p34 E ..) fun ⟨_, _, _, _⟩ => ls E.w24.rd fun _ => sb E.w24 fun _ => ls E.w24.rd fun _ => ls E.r5 fun _ => ls E.r5 fun _ => ls E.r5 fun _ => ls E.r5 fun _ => pu _) fun _ => ls E.w24.rd fun _ => ls E.r5 fun _ => ls E.r5 fun _ => ls E.r5 fun _ => ls E.r5 fun _ => pu _

theorem p50 x0 x1 : Safe c I (k0_part50 i _ a _ b _ d _ e _ f _ g _ h _ j _ l _ m _ n _ o _ p _ q _ r _ s _ t _ u _ v _ w _ z _ A _ B _ C _ D x0 x1) := by
  rw [k0_part50_eq_skeleton]; unfold k0_part50_skel
  exact ls E.r6 fun _ => ls E.w25.rd fun _ => sb E.w25 fun _ => ls E.r5 fun _ => ls E.r5 fun _ => ls E.r5 fun _ => ls E.r5 fun _ => ls E.r6 fun _ => pu _

theorem p51 x0 x1 : Safe c I (k0_part51 i _ a _ b _ d _ e _ f _ g _ h _ j _ l _ m _ n _ o _ p _ q _ r _ s _ t _ u _ v _ w _ z _ A _ B _ C _ D x0 x1) := by
  rw [k0_part51_eq_skeleton]; unfold k0_part51_skel
  exact ls E.w25.rd fun _ => sb E.w25 fun _ => ls E.r5 fun _ => ls E.r5 fun _ => ls E.r5 fun _ => ls E.r5 fun _ => ls E.r6 fun _ => ls E.w25.rd fun _ => sb E.w25 fun _ => pu _

theorem p52 x0 x1 : Safe c I (k0_part52 i _ a _ b _ d _ e _ f _ g _ h _ j _ l _ m _ n _ o _ p _ q _ r _ s _ t _ u _ v _ w _ z _ A _ B _ C _ D x0 x1) := by
  rw [k0_part52_eq_skeleton]; unfold k0_part52_skel
  exact ls E.r5 fun _ => ls E.r5 fun _ => ls E.r5 fun _ => ls E.r5 fun _ => ls E.r6 fun _ => ls E.w25.rd fun _ => sb E.w25 fun _ => pu _

theorem p53 x0 x1 x2 x3 x4 x5 : Safe c I (k0_part53 i _ a _ b _ d _ e _ f _ g _ h _ j _ l _ m _ n _ o _ p _ q _ r _ s _ t _ u _ v _ w _ z _ A _ B _ C _ D x0 x1 x2 x3 x4 x5) := by
  rw [k0_part53_eq_skeleton]; unfold k0_part53_skel
  exact ls E.w24.rd fun _ => ls E.r5 fun _ => ls E.r5 fun _ => ls E.r5 fun _ => ls E.r5 fun _ => ls E.r6 fun _ => ls E.w25.rd fun _ => sb E.w25 fun _ => pu _

theorem p54 x0 x1 x2 : Safe c I (k0_part54 i _ a _ b _ d _ e _ f _ g _ h _ j _ l _ m _ n _ o _ p _ q _ r _ s _ t _ u _ v _ w _ z _ A _ B _ C _ D x0 x1 x2) := by
  rw [k0_part54_eq_skeleton]; unfold k0_part54_skel
  exact ls E.r5 fun _ => ls E.r5 fun _ => ls E.r5 fun _ => ls E.r5 fun _ => ls E.r6 fun _ => ls E.w25.rd fun _ => sb E.w25 fun _ => pu _

theorem p55 x0 : Safe c I (k0_part55 i _ a _ b _ d _ e _ f _ g _ h _ j _ l _ m _ n _ o _ p _ q _ r _ s _ t _ u _ v _ w _ z _ A _ B _ C _ D x0) := by
  rw [k0_part55_eq_skeleton]; unfold k0_part55_skel
  exact ls E.r5 fun _ => ls E.r5 fun _ => ls E.r5 fun _ => ls E.r5 fun _ => ls E.r6 fun _ => ls E.w25.rd fun _ => sb E.w25 fun _ => ls E.r5 fun _ => pu _

theorem p56 x0 x1 x2 x3 x4 x5 : Safe c I (k0_part56 i _ a _ b _ d _ e _ f _ g _ h _ j _ l _ m _ n _ o _ p _ q _ r _ s _ t _ u _ v _ w _ z _ A _ B _ C _ D x0 x1 x2 x3 x4 x5) := by
  rw [k0_part56_eq_skeleton]; unfold k0_part56_skel
  exact ls E.r5 fun _ => ls E.r5 fun _ => ls E.r5 fun _ => ls E.r6 fun _ => ls E.w25.rd fun _ => sb E.w25 fun _ => ls E.w26.rd fun _ => sb E.w26 fun _ => pu _

theorem p57 x0 x1 : Safe c I (k0_part57 i _ a _ b _ d _ e _ f _ g _ h _ j _ l _ m _ n _ o _ p _ q _ r _ s _ t _ u _ v _ w _ z _ A _ B _ C _ D x0 x1) := by
  rw [k0_part57_eq_skeleton]; unfold k0_part57_skel
  exact ls E.w25.rd fun _ => ls E.r7 fun _ => ls E.w26.rd fun _ => ls E.w26.rd fun _ => sb E.w26 fun _ => ls E.w25.rd fun _ => ls E.r7 fun _ => ls E.w26.rd fun _ => ls E.w26.rd fun _ => pu _

theorem p58 x0 x1 x2 : Safe c I (k0_part58 i _ a _ b _ d _ e _ f _ g _ h _ j _ l _ m _ n _ o _ p _ q _ r _ s _ t _ u _ v _ w _ z _ A _ B _ C _ D x0 x1 x2) := by
  rw [k0_part58_eq_skeleton]; unfold k0_part58_skel
  exact sb E.w26 fun _ => ls E.w25.rd fun _ => ls E.r7 fun _ => ls E.w26.rd fun _ => ls E.w26.rd fun _ => sb E.w26 fun _ => ls E.w25.rd fun _ => ls E.r7 fun _ => ls E.w26.rd fun _ => ls E.w26.rd fun _ => pu _

theorem p59 x0 x1 x2 : Safe c I (k0_part59 i _ a _ b _ d _ e _ f _ g _ h _ j _ l _ m _ n _ o _ p _ q _ r _ s _ t _ u _ v _ w _ z _ A _ B _ C _ D x0 x1 x2) := by
  rw [k0_part59_eq_skeleton]; unfold k0_part59_skel
  exact sb E.w26 fun _ => ls E.w25.rd fun _ => ls E.r7 fun _ => ls E.w26.rd fun _ => ls E.w26.rd fun _ => sb E.w26 fun _ => ls E.w25.rd fun _ => ls E.r7 fun _ => ls E.w26.rd fun _ => ls E.w26.rd fun _ => pu _

theorem p60 x0 x1 x2 : Safe c I (k0_part60 i _ a _ b _ d _ e _ f _ g _ h _ j _ l _ m _ n _ o _ p _ q _ r _ s _ t _ u _ v _ w _ z _ A _ B _ C _ D x0 x1 x2) := by
  rw [k0_part60_eq_skeleton]; unfold k0_part60_skel
  exact sb E.w26 fun _ => ls E.w25.rd fun _ => ls E.r7 fun _ => ls E.w26.rd fun _ => ls E.w26.rd fun _ => sb E.w26 fun _ => ls E.w25.rd fun _ => ls E.r7 fun _ => ls E.w26.rd fun _ => ls E.w26.rd fun _ => pu _

theorem p61 x0 : Safe c I (k0_part61 i _ a _ b _ d _ e _ f _ g _ h _ j _ l _ m _ n _ o _ p _ q _ r _ s _ t _ u _ v _ w _ z _ A _ B _ C _ D x0) := by
  rw [k0_part61_eq_skeleton]; unfold k0_part61_skel
  exact sb E.w26 fun _ => ls E.w26.rd fun _ => ls E.w26.rd fun _ => ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => pu _

theorem p62 x0 x1 : Safe c I (k0_part62 i _ a _ b _ d _ e _ f _ g _ h _ j _ l _ m _ n _ o _ p _ q _ r _ s _ t _ u _ v _ w _ z _ A _ B _ C _ D x0 x1) := by
  rw [k0_part62_eq_skeleton]; unfold k0_part62_skel
  exact ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => pu _

theorem p63 x0 x1 : Safe c I (k0_part63 i _ a _ b _ d _ e _ f _ g _ h _ j _ l _ m _ n _ o _ p _ q _ r _ s _ t _ u _ v _ w _ z _ A _ B _ C _ D x0 x1) := by
  rw [k0_part63_eq_skeleton]; unfold k0_part63_skel
  exact bd (p35 E ..) fun ⟨_, _, _, _, _, _⟩ => bd (p36 E ..) fun ⟨_, _, _, _⟩ => bd (p37 E ..) fun ⟨_, _, _, _⟩ => bd (p38 E ..) fun ⟨_, _⟩ => bd (p39 E ..) fun ⟨_, _⟩ => bd (p40 E ..) fun ⟨_, _, _, _, _⟩ => bd (p41 E ..) fun ⟨_, _, _⟩ => bd (p42 E ..) fun ⟨_, _, _, _⟩ => bd (p43 E ..) fun ⟨_, _, _⟩ => bd (p44 E ..) fun ⟨_, _⟩ => bd (p45 E ..) fun ⟨_, _⟩ => bd (p46 E ..) fun ⟨_, _⟩ => bd (p47 E ..) fun ⟨_, _, _, _, _⟩ => bd (p48 E ..) fun ⟨_, _⟩ => bd (p49 E ..) fun ⟨_, _, _⟩ => bd (p50 E ..) fun ⟨_, _⟩ => bd (p51 E ..) fun ⟨_, _⟩ => bd (p52 E ..) fun ⟨_, _, _⟩ => bd (p53 E ..) fun ⟨_, _, _, _⟩ => bd (p54 E ..) fun ⟨_, _⟩ => bd (p55 E ..) fun ⟨_, _⟩ => bd (p56 E ..) fun ⟨_, _⟩ => bd (p57 E ..) fun ⟨_, _⟩ => bd (p58 E ..) fun _ => bd (p59 E ..) fun _ => bd (p60 E ..) fun _ => bd (p61 E ..) fun ⟨_, _⟩ => bd (p62 E ..) fun _ => ls E.w15.rd fun _ => sb E.w15 fun _ => ls E.w15.rd fun _ => sb E.w15 fun _ => ls E.w15.rd fun _ => sb E.w15 fun _ => pu _

theorem p203 x0 x1 : Safe c I (k0_part203 i _ a _ b _ d _ e _ f _ g _ h _ j _ l _ m _ n _ o _ p _ q _ r _ s _ t _ u _ v _ w _ z _ A _ B _ C _ D x0 x1) := by
  rw [k0_part203_eq_skeleton]; unfold k0_part203_skel
  exact ls E.w21.rd fun _ => sb E.w21 fun _ => ls E.r14 fun _ => ls E.w22.rd fun _ => sb E.w22 fun _ => ite (fun _ => bd (p22 E ..) fun _ => sb E.w15 fun _ => ite (fun _ => bd (p63 E ..) fun ⟨_, _⟩ => ls E.w15.rd fun _ => sb E.w15 fun _ => ls E.w15.rd fun _ => sb E.w15 fun _ => pu _) fun _ => pu _) fun _ => ite (fun _ => bd (p63 E ..) fun ⟨_, _⟩ => ls E.w15.rd fun _ => sb E.w15 fun _ => ls E.w15.rd fun _ => sb E.w15 fun _ => pu _) fun _ => pu _

theorem p81 x0 : Safe c I (k0_part81 i _ a _ b _ d _ e _ f _ g _ h _ j _ l _ m _ n _ o _ p _ q _ r _ s _ t _ u _ v _ w _ z _ A _ B _ C _ D x0) := by
  rw [k0_part81_eq_skeleton]; unfold k0_part81_skel
  exact ls E.r4 fun _ => ls E.r2 fun _ => ls E.r2 fun _ => ls E.r3 fun _ => ls E.r3 fun _ => ls E.r2 fun _ => ls E.r2 fun _ => pu _

theorem p82 x0 x1 x2 x3 : Safe c I (k0_part82 i _ a _ b _ d _ e _ f _ g _ h _ j _ l _ m _ n _ o _ p _ q _ r _ s _ t _ u _ v _ w _ z _ A _ B _ C _ D x0 x1 x2 x3) := by
  rw [k0_part82_eq_skeleton]; unfold k0_part82_skel
  exact ls E.r3 fun _ => ls E.r3 fun _ => ls E.r2 fun _ => ls E.r2 fun _ => ls E.r3 fun _ => ls E.r3 fun _ => pu _

theorem p83 x0 x1 x2 x3 x4 : Safe c I (k0_part83 i _ a _ b _ d _ e _ f _ g _ h _ j _ l _ m _ n _ o _ p _ q _ r _ s _ t _ u _ v _ w _ z _ A _ B _ C _ D x0 x1 x2 x3 x4) := by
  rw [k0_part83_eq_skeleton]; unfold k0_part83_skel
  exact ls E.r2 fun _ => ls E.r2 fun _ => ls E.r3 fun _ => ls E.r3 fun _ => ls E.r2 fun _ => ls E.r2 fun _ => ls E.r3 fun _ => pu _

theorem p84 x0 x1 x2 x3 x4 : Safe c I (k0_part84 i _ a _ b _ d _ e _ f _ g _ h _ j _ l _ m _ n _ o _ p _ q _ r _ s _ t _ u _ v _ w _ z _ A _ B _ C _ D x0 x1 x2 x3 x4) := by
  rw [k0_part84_eq_skeleton]; unfold k0_part84_skel
  exact ls E.r3 fun _ => ls E.r2 fun _ => ls E.r2 fun _ => ls E.r3 fun _ => ls E.r3 fun _ => ls E.r2 fun _ => pu _

theorem p85 x0 x1 x2 : Safe c I (k0_part85 i _ a _ b _ d _ e _ f _ g _ h _ j _ l _ m _ n _ o _ p _ q _ r _ s _ t _ u _ v _ w _ z _ A _ B _ C _ D x0 x1 x2) := by
  rw [k0_part85_eq_skeleton]; unfold k0_part85_skel
  exact ls E.r2 fun _ => ls E.r3 fun _ => ls E.r3 fun _ => ls E.r2 fun _ => ls E.r2 fun _ => ls E.r3 fun _ => pu _

theorem p86 x0 x1 x2 x3 : Safe c I (k0_part86 i _ a _ b _ d _ e _ f _ g _ h _ j _ l _ m _ n _ o _ p _ q _ r _ s _ t _ u _ v _ w _ z _ A _ B _ C _ D x0 x1 x2 x3) := by
  rw [k0_part86_eq_skeleton]; unfold k0_part86_skel
  exact ls E.r3 fun _ => ls E.w23.rd fun _ => sb E.w23 fun _ => ls E.r4 fun _ => ls E.r2 fun _ => ls E.r2 fun _ => ls E.r3 fun _ => pu _

theorem p87 x0 x1 x2 x3 x4 : Safe c I (k0_part87 i _ a _ b _ d _ e _ f _ g _ h _ j _ l _ m _ n _ o _ p _ q _ r _ s _ t _ u _ v _ w _ z _ A _ B _ C _ D x0 x1 x2 x3 x4) := by
  rw [k0_part87_eq_skeleton]; unfold k0_part87_skel
  exact ls E.r3 fun _ => ls E.r2 fun _ => ls E.r2 fun _ => ls E.r3 fun _ => ls E.r3 fun _ => ls E.r2 fun _ => ls E.r2 fun _ => pu _

theorem p88 x0 x1 x2 x3 : Safe c I (k0_part88 i _ a _ b _ d _ e _ f _ g _ h _ j _ l _ m _ n _ o _ p _ q _ r _ s _ t _ u _ v _ w _ z _ A _ B _ C _ D x0 x1 x2 x3) := by
  rw [k0_part88_eq_skeleton]; unfold k0_part88_skel
  exact ls E.r3 fun _ => ls E.r3 fun _ => ls E.r2 fun _ => ls E.r2 fun _ => ls E.r3 fun _ => ls E.r3 fun _ => pu _

theorem p89 x0 x1 x2 x3 x4 : Safe c I (k0_part89 i _ a _ b _ d _ e _ f _ g _ h _ j _ l _ m _ n _ o _ p _ q _ r _ s _ t _ u _ v _ w _ z _ A _ B _ C _ D x0 x1 x2 x3 x4) := by
  rw [k0_part89_eq_skeleton]; unfold k0_part89_skel
  exact ls E.r2 fun _ => ls E.r2 fun _ => ls E.r3 fun _ => ls E.r3 fun _ => ls E.r2 fun _ => ls E.r2 fun _ => ls E.r3 fun _ => pu _

theorem p90 x0 x1 x2 x3 : Safe c I (k0_part90 i _ a _ b _ d _ e _ f _ g _ h _ j _ l _ m _ n _ o _ p _ q _ r _ s _ t _ u _ v _ w _ z _ A _ B _ C _ D x0 x1 x2 x3) := by
  rw [k0_part90_eq_skeleton]; unfold k0_part90_skel
  exact ls E.r3 fun _ => ls E.r2 fun _ => ls E.r2 fun _ => ls E.r3 fun _ => ls E.r3 fun _ => ls E.r2 fun _ => pu _

theorem p91 x0 x1 x2 x3 x4 : Safe c I (k0_part91 i _ a _ b _ d _ e _ f _ g _ h _ j _ l _ m _ n _ o _ p _ q _ r _ s _ t _ u _ v _ w _ z _ A _ B _ C _ D x0 x1 x2 x3 x4) := by
  rw [k0_part91_eq_skeleton]; unfold k0_part91_skel
  exact ls E.r2 fun _ => ls E.r3 fun _ => ls E.r3 fun _ => ls E.w23.rd fun _ => sb E.w23 fun _ => ls E.r4 fun _ => pu _

theorem p92 x0 x1 : Safe c I (k0_part92 i _ a _ b _ d _ e _ f _ g _ h _ j _ l _ m _ n _ o _ p _ q _ r _ s _ t _ u _ v _ w _ z _ A _ B _ C _ D x0 x1) := by
  rw [k0_part92_eq_skeleton]; unfold k0_part92_skel
  exact ls E.r2 fun _ => ls E.r2 fun _ => ls E.r3 fun _ => ls E.r3 fun _ => ls E.r2 fun _ => ls E.r2 fun _ => ls E.r3 fun _ => pu _

theorem p93 x0 x1 x2 x3 x4 : Safe c I (k0_part93 i _ a _ b _ d _ e _ f _ g _ h _ j _ l _ m _ n _ o _ p _ q _ r _ s _ t _ u _ v _ w _ z _ A _ B _ C _ D x0 x1 x2 x3 x4) := by
  rw [k0_part93_eq_skeleton]; unfold k0_part93_skel
  exact ls E.r3 fun _ => ls E.r2 fun _ => ls E.r2 fun _ => ls E.r3 fun _ => ls E.r3 fun _ => ls E.r2 fun _ => pu _

theorem p94 x0 x1 x2 : Safe c I (k0_part94 i _ a _ b _ d _ e _ f _ g _ h _ j _ l _ m _ n _ o _ p _ q _ r _ s _ t _ u _ v _ w _ z _ A _ B _ C _ D x0 x1 x2) := by
  rw [k0_part94_eq_skeleton]; unfold k0_part94_skel
  exact ls E.r2 fun _ => ls E.r3 fun _ => ls E.r3 fun _ => ls E.r2 fun _ => ls E.r2 fun _ => ls E.r3 fun _ => ls E.r3 fun _ => pu _

theorem p95 x0 x1 x2 x3 : Safe c I (k0_part95 i _ a _ b _ d _ e _ f _ g _ h _ j _ l _ m _ n _ o _ p _ q _ r _ s _ t _ u _ v _ w _ z _ A _ B _ C _ D x0 x1 x2 x3) := by
  rw [k0_part95_eq_skeleton]; unfold k0_part95_skel
  exact ls E.r2 fun _ => ls E.r2 fun _ => ls E.r3 fun _ => ls E.r3 fun _ => ls E.r2 fun _ => ls E.r2 fun _ => ls E.r3 fun _ => pu _

theorem p96 x0 x1 x2 x3 x4 : Safe c I (k0_part96 i _ a _ b _ d _ e _ f _ g _ h _ j _ l _ m _ n _ o _ p _ q _ r _ s _ t _ u _ v _ w _ z _ A _ B _ C _ D x0 x1 x2 x3 x4) := by
  rw [k0_part96_eq_skeleton]; unfold k0_part96_skel
  exact ls E.r3 fun _ => ls E.r2 fun _ => ls E.r2 fun _ => ls E.r3 fun _ => ls E.r3 fun _ => pu _

theorem p97 x0 x1 x2 : Safe c I (k0_part97 i _ a _ b _ d _ e _ f _ g _ h _ j _ l _ m _ n _ o _ p _ q _ r _ s _ t _ u _ v _ w _ z _ A _ B _ C _ D x0 x1 x2) := by
  rw [k0_part97_eq_skeleton]; unfold k0_part97_skel
  exact ls E.w23.rd fun _ => sb E.w23 fun _ => ls E.w23.rd fun _ => ls E.w23.rd fun _ => pu _

theorem p98 x0 x1 x2 x3 x4 : Safe c I (k0_part98 i _ a _ b _ d _ e _ f _ g _ h _ j _ l _ m _ n _ o _ p _ q _ r _ s _ t _ u _ v _ w _ z _ A _ B _ C _ D x0 x1 x2 x3 x4) := by
  rw [k0_part98_eq_skeleton]; unfold k0_part98_skel
  exact ls E.w23.rd fun _ => pu _

theorem p64 x0 x1 x2 x3 : Safe c I (k0_part64 i _ a _ b _ d _ e _ f _ g _ h _ j _ l _ m _ n _ o _ p _ q _ r _ s _ t _ u _ v _ w _ z _ A _ B _ C _ D x0 x1 x2 x3) := by
  rw [k0_part64_eq_skeleton]; unfold k0_part64_skel
  exact ls E.w23.rd fun _ => ls E.w23.rd fun _ => pu _

theorem b7 x0 x1 x2 x3 k y : Safe c I (k0_t7_body i _ a _ b _ d _ e _ f _ g _ h _ j _ l _ m _ n _ o _ p _ q _ r _ s _ t _ u _ v _ w _ z _ A _ B _ C _ D x0 x1 x2 x3 k y) := by
  unfold k0_t7_body
  exact bd (p64 E ..) fun ⟨_, _, _, _, _⟩ => ls E.w23.rd fun _ => pu _

theorem p99 x0 x1 x2 x3 : Safe c I (k0_part99 i _ a _ b _ d _ e _ f _ g _ h _ j _ l _ m _ n _ o _ p _ q _ r _ s _ t _ u _ v _ w _ z _ A _ B _ C _ D x0 x1 x2 x3) := by
  rw [k0_part99_eq_skeleton]; unfold k0_part99_skel
  exact bd (fr fun _ _ => b7 E ..) fun _ => ls E.w23.rd fun _ => ls E.w24.rd fun _ => sb E.w24 fun _ => pu _

theorem p100 x0 x1 x2 x3 x4 x5 : Safe c I (k0_part100 i _ a _ b _ d _ e _ f _ g _ h _ j _ l _ m _ n _ o _ p _ q _ r _ s _ t _ u _ v _ w _ z _ A _ B _ C _ D x0 x1 x2 x3 x4 x5) := by
  rw [k0_part100_eq_skeleton]; unfold k0_part100_skel
  exact ls E.w23.rd fun _ => ls E.w24.rd fun _ => sb E.w24 fun _ => pu _

theorem p101 x0 x1 x2 x3 x4 x5 : Safe c I (k0_part101 i _ a _ b _ d _ e _ f _ g _ h _ j _ l _ m _ n _ o _ p _ q _ r _ s _ t _ u _ v _ w _ z _ A _ B _ C _ D x0 x1 x2 x3 x4 x5) := by
  rw [k0_part101_eq_skeleton]; unfold k0_part101_skel
  exact ls E.w23.rd fun _ => ls E.w24.rd fun _ => sb E.w24 fun _ => pu _

theorem p77 x0 x1 : Safe c I (k0_part77 i _ a _ b _ d _ e _ f _ g _ h _ j _ l _ m _ n _ o _ p _ q _ r _ s _ t _ u _ v _ w _ z _ A _ B _ C _ D x0 x1) := by
  rw [k0_part77_eq_skeleton]; unfold k0_part77_skel
  exact ls E.w23.rd fun _ => ls E.w23.rd fun _ => pu _

theorem p78 x0 x1 x2 x3 x4 : Safe c I (k0_part78 i _ a _ b _ d _ e _ f _ g _ h _ j _ l _ m _ n _ o _ p _ q _ r _ s _ t _ u _ v _ w _ z _ A _ B _ C _ D x0 x1 x2 x3 x4) := by
  rw [k0_part78_eq_skeleton]; unfold k0_part78_skel
  exact ls E.w23.rd fun _ => pu _

theorem p65 x0 x1 x2 x3 x4 x5 x6 x7 x8 : Safe c I (k0_part65 i _ a _ b _ d _ e _ f _ g _ h _ j _ l _ m _ n _ o _ p _ q _ r _ s _ t _ u _ v _ w _ z _ A _ B _ C _ D x0 x1 x2 x3 x4 x5 x6 x7 x8) := by
  rw [k0_part65_eq_skeleton]; unfold k0_part65_skel
  exact ls E.w23.rd fun _ => pu _

theorem p66 x0 x1 x2 x3 x4 x5 x6 x7 : Safe c I (k0_part66 i _ a _ b _ d _ e _ f _ g _ h _ j _ l _ m _ n _ o _ p _ q _ r _ s _ t _ u _ v _ w _ z _ A _ B _ C _ D x0 x1 x2 x3 x4 x5 x6 x7) := by
  rw [k0_part66_eq_skeleton]; unfold k0_part66_skel
  exact ls E.w23.rd fun _ => pu _

theorem p67 x0 x1 x2 x3 x4 x5 x6 x7 : Safe c I (k0_part67 i _ a _ b _ d _ e _ f _ g _ h _ j _ l _ m _ n _ o _ p _ q _ r _ s _ t _ u _ v _ w _ z _ A _ B _ C _ D x0 x1 x2 x3 x4 x5 x6 x7) := by
  rw [k0_part67_eq_skeleton]; unfold k0_part67_skel
  exact ls E.w23.rd fun _ => pu _

theorem p68 x0 x1 x2 x3 x4 x5 x6 x7 : Safe c I (k0_part68 i _ a _ b _ d _ e _ f _ g _ h _ j _ l _ m _ n _ o _ p _ q _ r _ s _ t _ u _ v _ w _ z _ A _ B _ C _ D x0 x1 x2 x3 x4 x5 x6 x7) := by
  rw [k0_part68_eq_skeleton]; unfold k0_part68_skel
  exact ls E.w23.rd fun _ => pu _

theorem p69 x0 x1 x2 x3 x4 x5 x6 x7 : Safe c I (k0_part69 i _ a _ b _ d _ e _ f _ g _ h _ j _ l _ m _ n _ o _ p _ q _ r _ s _ t _ u _ v _ w _ z _ A _ B _ C _ D x0 x1 x2 x3 x4 x5 x6 x7) := by
  rw [k0_part69_eq_skeleton]; unfold k0_part69_skel
  exact ls E.w23.rd fun _ => pu _

theorem p70 x0 x1 x2 x3 x4 x5 x6 x7 x8 : Safe c I (k0_part70 i _ a _ b _ d _ e _ f _ g _ h _ j _ l _ m _ n _ o _ p _ q _ r _ s _ t _ u _ v _ w _ z _ A _ B _ C _ D x0 x1 x2 x3 x4 x5 x6 x7 x8) := by
  rw [k0_part70_eq_skeleton]; unfold k0_part70_skel
  exact ls E.w23.rd fun _ => pu _

theorem b8 x0 x1 x2 x3 x4 x5 x6 x7 x8 x9 x10 x11 x12 x13 k y : Safe c I (k0_t8_body i _ a _ b _ d _ e _ f _ g _ h _ j _ l _ m _ n _ o _ p _ q _ r _ s _ t _ u _ v _ w _ z _ A _ B _ C _ D x0 x1 x2 x3 x4 x5 x6 x7 x8 x9 x10 x11 x12 x13 k y) := by
  unfold k0_t8_body
  exact bd (p65 E ..) fun ⟨_, _, _⟩ => bd (p66 E ..) fun ⟨_, _, _⟩ => bd (p67 E ..) fun ⟨_, _, _⟩ => bd (p68 E ..) fun ⟨_, _, _⟩ => bd (p69 E ..) fun ⟨_, _, _⟩ => bd (p70 E ..) fun ⟨_, _, _, _, _, _⟩ => pu _

theorem p71 x0 x1 x2 x3 x4 x5 x6 x7 x8 : Safe c I (k0_part71 i _ a _ b _ d _ e _ f _ g _ h _ j _ l _ m _ n _ o _ p _ q _ r _ s _ t _ u _ v _ w _ z _ A _ B _ C _ D x0 x1 x2 x3 x4 x5 x6 x7 x8) := by
  rw [k0_part71_eq_skeleton]; unfold k0_part71_skel
  exact ls E.w23.rd fun _ => pu _

theorem p72 x0 x1 x2 x3 x4 x5 x6 x7 : Safe c I (k0_part72 i _ a _ b _ d _ e _ f _ g _ h _ j _ l _ m _ n _ o _ p _ q _ r _ s _ t _ u _ v _ w _ z _ A _ B _ C _ D x0 x1 x2 x3 x4 x5 x6 x7) := by
  rw [k0_part72_eq_skeleton]; unfold k0_part72_skel
  exact ls E.w23.rd fun _ => pu _

theorem p73 x0 x1 x2 x3 x4 x5 x6 x7 : Safe c I (k0_part73 i _ a _ b _ d _ e _ f _ g _ h _ j _ l _ m _ n _ o _ p _ q _ r _ s _ t _ u _ v _ w _ z _ A _ B _ C _ D x0 x1 x2 x3 x4 x5 x6 x7) := by
  rw [k0_part73_eq_skeleton]; unfold k0_part73_skel
  exact ls E.w23.rd fun _ => pu _

theorem p74 x0 x1 x2 x3 x4 x5 x6 x7 : Safe c I (k0_part74 i _ a _ b _ d _ e _ f _ g _ h _ j _ l _ m _ n _ o _ p _ q _ r _ s _ t _ u _ v _ w _ z _ A _ B _ C _ D x0 x1 x2 x3 x4 x5 x6 x7) := by
  rw [k0_part74_eq_skeleton]; unfold k0_part74_skel
  exact ls E.w23.rd fun _ => pu _

theorem p75 x0 x1 x2 x3 x4 x5 x6 x7 : Safe c I (k0_part75 i _ a _ b _ d _ e _ f _ g _ h _ j _ l _ m _ n _ o _ p _ q _ r _ s _ t _ u _ v _ w _ z _ A _ B _ C _ D x0 x1 x2 x3 x4 x5 x6 x7) := by
  rw [k0_part75_eq_skeleton]; unfold k0_part75_skel
  exact ls E.w23.rd fun _ => pu _

theorem p76 x0 x1 x2 x3 x4 x5 x6 x7 x8 : Safe c I (k0_part76 i _ a _ b _ d _ e _ f _ g _ h _ j _ l _ m _ n _ o _ p _ q _ r _ s _ t _ u _ v _ w _ z _ A _ B _ C _ D x0 x1 x2 x3 x4 x5 x6 x7 x8) := by
  rw [k0_part76_eq_skeleton]; unfold k0_part76_skel
  exact ls E.w23.rd fun _ => pu _

theorem b9 x0 x1 x2 x3 x4 x5 x6 x7 x8 x9 x10 x11 x12 x13 x14 k y : Safe c I (k0_t9_body i _ a _ b _ d _ e _ f _ g _ h _ j _ l _ m _ n _ o _ p _ q _ r _ s _ t _ u _ v _ w _ z _ A _ B _ C _ D x0 x1 x2 x3 x4 x5 x6 x7 x8 x9 x10 x11 x12 x13 x14 k y) := by
  unfold k0_t9_body
  exact bd (p71 E ..) fun ⟨_, _, _⟩ => bd (p72 E ..) fun ⟨_, _, _⟩ => bd (p73 E ..) fun ⟨_, _, _⟩ => bd (p74 E ..) fun ⟨_, _, _⟩ => bd (p75 E ..) fun ⟨_, _, _⟩ => bd (p76 E ..) fun ⟨_, _, _, _, _, _⟩ => pu _

theorem p79 x0 x1 x2 x3 x4 x5 x6 x7 x8 x9 x10 x11 : Safe c I (k0_part79 i _ a _ b _ d _ e _ f _ g _ h _ j _ l _ m _ n _ o _ p _ q _ r _ s _ t _ u _ v _ w _ z _ A _ B _ C _ D x0 x1 x2 x3 x4 x5 x6 x7 x8 x9 x10 x11) := by
  rw [k0_part79_eq_skeleton]; unfold k0_part79_skel
  exact bd (asm (k0_chk3_all ..)) fun _ => bd (fr fun _ _ => b8 E ..) fun ⟨_, _, _⟩ => bd (fr fun _ _ => b9 E ..) fun ⟨_, _, _⟩ => ls E.w23.rd fun _ => pu _

theorem p80 x0 x1 x2 x3 x4 x5 x6 x7 x8 : Safe c I (k0_part80 i _ a _ b _ d _ e _ f _ g _ h _ j _ l _ m _ n _ o _ p _ q _ r _ s _ t _ u _ v _ w _ z _ A _ B _ C _ D x0 x1 x2 x3 x4 x5 x6 x7 x8) := by
  rw [k0_part80_eq_skeleton]; unfold k0_part80_skel
  exact ls E.w24.rd fun _ => sb E.w24 fun _ => ls E.w23.rd fun _ => ls E.w24.rd fun _ => sb E.w24 fun _ => pu _

theorem p102 x0 x1 x2 x3 x4 x5 x6 : Safe c I (k0_part102 i _ a _ b _ d _ e _ f _ g _ h _ j _ l _ m _ n _ o _ p _ q _ r _ s _ t _ u _ v _ w _ z _ A _ B _ C _ D x0 x1 x2 x3 x4 x5 x6) := by
  rw [k0_part102_eq_skeleton]; unfold k0_part102_skel
  exact ite (fun _ => bd (p77 E ..) fun ⟨_, _, _, _, _⟩ => bd (p78 E ..) fun ⟨_, _, _, _⟩ => bd (p79 E ..) fun ⟨_, _, _, _, _⟩ => bd (p80 E ..) fun _ => ls E.w23.rd fun _ => ls E.w24.rd fun _ => sb E.w24 fun _ => ls E.w24.rd fun _ => ls E.r5 fun _ => ls E.r5 fun _ => ls E.r5 fun _ => ls E.r5 fun _ => ls E.r6 fun _ => ls E.w25.rd fun _ => sb E.w25 fun _ => pu _) fun _ => ls E.w24.rd fun _ => ls E.r5 fun _ => ls E.r5 fun _ => ls E.r5 fun _ => ls E.r5 fun _ => ls E.r6 fun _ => ls E.w25.rd fun _ => sb E.w25 fun _ => pu _

theorem p103 x0 x1 x2 : Safe c I (k0_part103 i _ a _ b _ d _ e _ f _ g _ h _ j _ l _ m _ n _ o _ p _ q _ r _ s _ t _ u _ v _ w _ z _ A _ B _ C _ D x0 x1 x2) := by
  rw [k0_part103_eq_skeleton]; unfold k0_part103_skel
  exact ls E.r5 fun _ => ls E.r5 fun _ => ls E.r5 fun _ => ls E.r5 fun _ => ls E.r6 fun _ => ls E.w25.rd fun _ => sb E.w25 fun _ => pu _

theorem p104 x0 x1 x2 : Safe c I (k0_part104 i _ a _ b _ d _ e _ f _ g _ h _ j _ l _ m _ n _ o _ p _ q _ r _ s _ t _ u _ v _ w _ z _ A _ B _ C _ D x0 x1 x2) := by
  rw [k0_part104_eq_skeleton]; unfold k0_part104_skel
  exact ls E.r5 fun _ => ls E.r5 fun _ => ls E.r5 fun _ => ls E.r5 fun _ => ls E.r6 fun _ => ls E.w25.rd fun _ => sb E.w25 fun _ => pu _

theorem p105 x0 x1 x2 x3 x4 : Safe c I (k0_part105 i _ a _ b _ d _ e _ f _ g _ h _ j _ l _ m _ n _ o _ p _ q _ r _ s _ t _ u _ v _ w _ z _ A _ B _ C _ D x0 x1 x2 x3 x4) := by
  rw [k0_part105_eq_skeleton]; unfold k0_part105_skel
  exact ls E.r5 fun _ => ls E.r5 fun _ => ls E.r5 fun _ => ls E.r5 fun _ => ls E.r6 fun _ => ls E.w25.rd fun _ => sb E.w25 fun _ => ls E.w24.rd fun _ => pu _

theorem p106 x0 : Safe c I (k0_part106 i _ a _ b _ d _ e _ f _ g _ h _ j _ l _ m _ n _ o _ p _ q _ r _ s _ t _ u _ v _ w _ z _ A _ B _ C _ D x0) := by
  rw [k0_part106_eq_skeleton]; unfold k0_part106_skel
  exact ls E.r5 fun _ => ls E.r5 fun _ => ls E.r5 fun _ => ls E.r5 fun _ => ls E.r6 fun _ => ls E.w25.rd fun _ => sb E.w25 fun _ => ls E.r5 fun _ => pu _

theorem p107 x0 x1 : Safe c I (k0_part107 i _ a _ b _ d _ e _ f _ g _ h _ j _ l _ m _ n _ o _ p _ q _ r _ s _ t _ u _ v _ w _ z _ A _ B _ C _ D x0 x1) := by
  rw [k0_part107_eq_skeleton]; unfold k0_part107_skel
  exact ls E.r5 fun _ => ls E.r5 fun _ => ls E.r5 fun _ => ls E.r6 fun _ => ls E.w25.rd fun _ => sb E.w25 fun _ => ls E.r5 fun _ => ls E.r5 fun _ => ls E.r5 fun _ => pu _

theorem p108 x0 x1 x2 x3 : Safe c I (k0_part108 i _ a _ b _ d _ e _ f _ g _ h _ j _ l _ m _ n _ o _ p _ q _ r _ s _ t _ u _ v _ w _ z _ A _ B _ C _ D x0 x1 x2 x3) := by
  rw [k0_part108_eq_skeleton]; unfold k0_part108_skel
  exact ls E.r5 fun _ => ls E.r6 fun _ => ls E.w25.rd fun _ => sb E.w25 fun _ => ls E.r5 fun _ => ls E.r5 fun _ => ls E.r5 fun _ => ls E.r5 fun _ => pu _

theorem p109 x0 x1 x2 x3 x4 x5 : Safe c I (k0_part109 i _ a _ b _ d _ e _ f _ g _ h _ j _ l _ m _ n _ o _ p _ q _ r _ s _ t _ u _ v _ w _ z _ A _ B _ C _ D x0 x1 x2 x3 x4 x5) := by
  rw [k0_part109_eq_skeleton]; unfold k0_part109_skel
  exact ls E.r6 fun _ => ls E.w25.rd fun _ => sb E.w25 fun _ => ls E.w24.rd fun _ => ls E.r5 fun _ => ls E.r5 fun _ => ls E.r5 fun _ => ls E.r5 fun _ => pu _

theorem p110 x0 x1 : Safe c I (k0_part110 i _ a _ b _ d _ e _ f _ g _ h _ j _ l _ m _ n _ o _ p _ q _ r _ s _ t _ u _ v _ w _ z _ A _ B _ C _ D x0 x1) := by
  rw [k0_part110_eq_skeleton]; unfold k0_part110_skel
  exact ls E.r6 fun _ => ls E.w25.rd fun _ => sb E.w25 fun _ => ls E.r5 fun _ => ls E.r5 fun _ => ls E.r5 fun _ => ls E.r5 fun _ => ls E.r6 fun _ => pu _

theorem p111 x0 x1 : Safe c I (k0_part111 i _ a _ b _ d _ e _ f _ g _ h _ j _ l _ m _ n _ o _ p _ q _ r _ s _ t _ u _ v _ w _ z _ A _ B _ C _ D x0 x1) := by
  rw [k0_part111_eq_skeleton]; unfold k0_part111_skel
  exact ls E.w25.rd fun _ => sb E.w25 fun _ => ls E.r5 fun _ => ls E.r5 fun _ => ls E.r5 fun _ => ls E.r5 fun _ => ls E.r6 fun _ => ls E.w25.rd fun _ => sb E.w25 fun _ => pu _

theorem p112 x0 x1 x2 : Safe c I (k0_part112 i _ a _ b _ d _ e _ f _ g _ h _ j _ l _ m _ n _ o _ p _ q _ r _ s _ t _ u _ v _ w _ z _ A _ B _ C _ D x0 x1 x2) := by
  rw [k0_part112_eq_skeleton]; unfold k0_part112_skel
  exact ls E.r5 fun _ => ls E.r5 fun _ => ls E.r5 fun _ => ls E.r5 fun _ => ls E.r6 fun _ => ls E.w25.rd fun _ => sb E.w25 fun _ => pu _

theorem p113 x0 x1 x2 x3 x4 : Safe c I (k0_part113 i _ a _ b _ d _ e _ f _ g _ h _ j _ l _ m _ n _ o _ p _ q _ r _ s _ t _ u _ v _ w _ z _ A _ B _ C _ D x0 x1 x2 x3 x4) := by
  rw [k0_part113_eq_skeleton]; unfold k0_part113_skel
  exact ls E.w26.rd fun _ => sb E.w26 fun _ => ls E.w25.rd fun _ => ls E.r7 fun _ => ls E.w26.rd fun _ => ls E.w26.rd fun _ => sb E.w26 fun _ => ls E.w25.rd fun _ => pu _

theorem p114 x0 x1 x2 : Safe c I (k0_part114 i _ a _ b _ d _ e _ f _ g _ h _ j _ l _ m _ n _ o _ p _ q _ r _ s _ t _ u _ v _ w _ z _ A _ B _ C _ D x0 x1 x2) := by
  rw [k0_part114_eq_skeleton]; unfold k0_part114_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p115 x0 x1 x2 : Safe c I (k0_part115 i _ a _ b _ d _ e _ f _ g _ h _ j _ l _ m _ n _ o _ p _ q _ r _ s _ t _ u _ v _ w _ z _ A _ B _ C _ D x0 x1 x2) := by
  rw [k0_part115_eq_skeleton]; unfold k0_part115_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p116 x0 x1 x2 : Safe c I (k0_part116 i _ a _ b _ d _ e _ f _ g _ h _ j _ l _ m _ n _ o _ p _ q _ r _ s _ t _ u _ v _ w _ z _ A _ B _ C _ D x0 x1 x2) := by
  rw [k0_part116_eq_skeleton]; unfold k0_part116_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p117 x0 x1 x2 : Safe c I (k0_part117 i _ a _ b _ d _ e _ f _ g _ h _ j _ l _ m _ n _ o _ p _ q _ r _ s _ t _ u _ v _ w _ z _ A _ B _ C _ D x0 x1 x2) := by
  rw [k0_part117_eq_skeleton]; unfold k0_part117_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p118 x0 x1 x2 : Safe c I (k0_part118 i _ a _ b _ d _ e _ f _ g _ h _ j _ l _ m _ n _ o _ p _ q _ r _ s _ t _ u _ v _ w _ z _ A _ B _ C _ D x0 x1 x2) := by
  rw [k0_part118_eq_skeleton]; unfold k0_part118_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p119 x0 x1 : Safe c I (k0_part119 i _ a _ b _ d _ e _ f _ g _ h _ j _ l _ m _ n _ o _ p _ q _ r _ s _ t _ u _ v _ w _ z _ A _ B _ C _ D x0 x1) := by
  rw [k0_part119_eq_skeleton]; unfold k0_part119_skel
  exact ls E.r7 fun _ => ls E.w26.rd fun _ => ls E.w26.rd fun _ => sb E.w26 fun _ => ls E.w26.rd fun _ => ls E.w26.rd fun _ => ls E.w15.rd fun _ => sb E.w15 fun _ => ls E.w15.rd fun _ => sb E.w15 fun _ => ls E.w15.rd fun _ => pu _

theorem p120 x0 x1 : Safe c I (k0_part120 i _ a _ b _ d _ e _ f _ g _ h _ j _ l _ m _ n _ o _ p _ q _ r _ s _ t _ u _ v _ w _ z _ A _ B _ C _ D x0 x1) := by
  rw [k0_part120_eq_skeleton]; unfold k0_part120_skel
  exact sb E.w15 fun _ => ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => ls E.w15.rd fun _ => pu _

theorem p121 x0 x1 : Safe c I (k0_part121 i _ a _ b _ d _ e _ f _ g _ h _ j _ l _ m _ n _ o _ p _ q _ r _ s _ t _ u _ v _ w _ z _ A _ B _ C _ D x0 x1) := by
  rw [k0_part121_eq_skeleton]; unfold k0_part121_skel
  exact sb E.w15 fun _ => ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => ls E.w15.rd fun _ => pu _

theorem p148 x0 : Safe c I (k0_part148 i _ a _ b _ d _ e _ f _ g _ h _ j _ l _ m _ n _ o _ p _ q _ r _ s _ t _ u _ v _ w _ z _ A _ B _ C _ D x0) := by
  rw [k0_part148_eq_skeleton]; unfold k0_part148_skel
  exact ls E.r4 fun _ => ls E.r2 fun _ => ls E.r2 fun _ => ls E.r3 fun _ => ls E.r3 fun _ => ls E.r2 fun _ => ls E.r2 fun _ => pu _

theorem p149 x0 x1 x2 x3 : Safe c I (k0_part149 i _ a _ b _ d _ e _ f _ g _ h _ j _ l _ m _ n _ o _ p _ q _ r _ s _ t _ u _ v _ w _ z _ A _ B _ C _ D x0 x1 x2 x3) := by
  rw [k0_part149_eq_skeleton]; unfold k0_part149_skel
  exact ls E.r3 fun _ => ls E.r3 fun _ => ls E.r2 fun _ => ls E.r2 fun _ => ls E.r3 fun _ => ls E.r3 fun _ => pu _

theorem p150 x0 x1 x2 x3 x4 : Safe c I (k0_part150 i _ a _ b _ d _ e _ f _ g _ h _ j _ l _ m _ n _ o _ p _ q _ r _ s _ t _ u _ v _ w _ z _ A _ B _ C _ D x0 x1 x2 x3 x4) := by
  rw [k0_part150_eq_skeleton]; unfold k0_part150_skel
  exact ls E.r2 fun _ => ls E.r2 fun _ => ls E.r3 fun _ => ls E.r3 fun _ => ls E.r2 fun _ => ls E.r2 fun _ => ls E.r3 fun _ => pu _

theorem p151 x0 x1 x2 x3 x4 : Safe c I (k0_part151 i _ a _ b _ d _ e _ f _ g _ h _ j _ l _ m _ n _ o _ p _ q _ r _ s _ t _ u _ v _ w _ z _ A _ B _ C _ D x0 x1 x2 x3 x4) := by
  rw [k0_part151_eq_skeleton]; unfold k0_part151_skel
  exact ls E.r3 fun _ => ls E.r2 fun _ => ls E.r2 fun _ => ls E.r3 fun _ => ls E.r3 fun _ => ls E.r2 fun _ => pu _

theorem p152 x0 x1 x2 : Safe c I (k0_part152 i _ a _ b _ d _ e _ f _ g _ h _ j _ l _ m _ n _ o _ p _ q _ r _ s _ t _ u _ v _ w _ z _ A _ B _ C _ D x0 x1 x2) := by
  rw [k0_part152_eq_skeleton]; unfold k0_part152_skel
  exact ls E.r2 fun _ => ls E.r3 fun _ => ls E.r3 fun _ => ls E.r2 fun _ => ls E.r2 fun _ => ls E.r3 fun _ => pu _

theorem p153 x0 x1 x2 x3 : Safe c I (k0_part153 i _ a _ b _ d _ e _ f _ g _ h _ j _ l _ m _ n _ o _ p _ q _ r _ s _ t _ u _ v _ w _ z _ A _ B _ C _ D x0 x1 x2 x3) := by
  rw [k0_part153_eq_skeleton]; unfold k0_part153_skel
  exact ls E.r3 fun _ => ls E.w23.rd fun _ => sb E.w23 fun _ => ls E.r4 fun _ => ls E.r2 fun _ => ls E.r2 fun _ => ls E.r3 fun _ => pu _

theorem p154 x0 x1 x2 x3 x4 : Safe c I (k0_part154 i _ a _ b _ d _ e _ f _ g _ h _ j _ l _ m _ n _ o _ p _ q _ r _ s _ t _ u _ v _ w _ z _ A _ B _ C _ D x0 x1 x2 x3 x4) := by
  rw [k0_part154_eq_skeleton]; unfold k0_part154_skel
  exact ls E.r3 fun _ => ls E.r2 fun _ => ls E.r2 fun _ => ls E.r3 fun _ => ls E.r3 fun _ => ls E.r2 fun _ => ls E.r2 fun _ => pu _

theorem p155 x0 x1 x2 x3 : Safe c I (k0_part155 i _ a _ b _ d _ e _ f _ g _ h _ j _ l _ m _ n _ o _ p _ q _ r _ s _ t _ u _ v _ w _ z _ A _ B _ C _ D x0 x1 x2 x3) := by
  rw [k0_part155_eq_skeleton]; unfold k0_part155_skel
  exact ls E.r3 fun _ => ls E.r3 fun _ => ls E.r2 fun _ => ls E.r2 fun _ => ls E.r3 fun _ => ls E.r3 fun _ => pu _

theorem p156 x0 x1 x2 x3 x4 : Safe c I (k0_part156 i _ a _ b _ d _ e _ f _ g _ h _ j _ l _ m _ n _ o _ p _ q _ r _ s _ t _ u _ v _ w _ z _ A _ B _ C _ D x0 x1 x2 x3 x4) := by
  rw [k0_part156_eq_skeleton]; unfold k0_part156_skel
  exact ls E.r2 fun _ => ls E.r2 fun _ => ls E.r3 fun _ => ls E.r3 fun _ => ls E.r2 fun _ => ls E.r2 fun _ => ls E.r3 fun _ => pu _

theorem p157 x0 x1 x2 x3 : Safe c I (k0_part157 i _ a _ b _ d _ e _ f _ g _ h _ j _ l _ m _ n _ o _ p _ q _ r _ s _ t _ u _ v _ w _ z _ A _ B _ C _ D x0 x1 x2 x3) := by
  rw [k0_part157_eq_skeleton]; unfold k0_part157_skel
  exact ls E.r3 fun _ => ls E.r2 fun _ => ls E.r2 fun _ => ls E.r3 fun _ => ls E.r3 fun _ => ls E.r2 fun _ => pu _

theorem p158 x0 x1 x2 x3 x4 : Safe c I (k0_part158 i _ a _ b _ d _ e _ f _ g _ h _ j _ l _ m _ n _ o _ p _ q _ r _ s _ t _ u _ v _ w _ z _ A _ B _ C _ D x0 x1 x2 x3 x4) := by
  rw [k0_part158_eq_skeleton]; unfold k0_part158_skel
  exact ls E.r2 fun _ => ls E.r3 fun _ => ls E.r3 fun _ => ls E.w23.rd fun _ => sb E.w23 fun _ => ls E.r4 fun _ => pu _

theorem p159 x0 x1 : Safe c I (k0_part159 i _ a _ b _ d _ e _ f _ g _ h _ j _ l _ m _ n _ o _ p _ q _ r _ s _ t _ u _ v _ w _ z _ A _ B _ C _ D x0 x1) := by
  rw [k0_part159_eq_skeleton]; unfold k0_part159_skel
  exact ls E.r2 fun _ => ls E.r2 fun _ => ls E.r3 fun _ => ls E.r3 fun _ => ls E.r2 fun _ => ls E.r2 fun _ => ls E.r3 fun _ => pu _

theorem p160 x0 x1 x2 x3 x4 : Safe c I (k0_part160 i _ a _ b _ d _ e _ f _ g _ h _ j _ l _ m _ n _ o _ p _ q _ r _ s _ t _ u _ v _ w _ z _ A _ B _ C _ D x0 x1 x2 x3 x4) := by
  rw [k0_part160_eq_skeleton]; unfold k0_part160_skel
  exact ls E.r3 fun _ => ls E.r2 fun _ => ls E.r2 fun _ => ls E.r3 fun _ => ls E.r3 fun _ => ls E.r2 fun _ => pu _

theorem p161 x0 x1 x2 : Safe c I (k0_part161 i _ a _ b _ d _ e _ f _ g _ h _ j _ l _ m _ n _ o _ p _ q _ r _ s _ t _ u _ v _ w _ z _ A _ B _ C _ D x0 x1 x2) := by
  rw [k0_part161_eq_skeleton]; unfold k0_part161_skel
  exact ls E.r2 fun _ => ls E.r3 fun _ => ls E.r3 fun _ => ls E.r2 fun _ => ls E.r2 fun _ => ls E.r3 fun _ => ls E.r3 fun _ => pu _

theorem p162 x0 x1 x2 x3 : Safe c I (k0_part162 i _ a _ b _ d _ e _ f _ g _ h _ j _ l _ m _ n _ o _ p _ q _ r _ s _ t _ u _ v _ w _ z _ A _ B _ C _ D x0 x1 x2 x3) := by
  rw [k0_part162_eq_skeleton]; unfold k0_part162_skel
  exact ls E.r2 fun _ => ls E.r2 fun _ => ls E.r3 fun _ => ls E.r3 fun _ => ls E.r2 fun _ => ls E.r2 fun _ => ls E.r3 fun _ => pu _

theorem p163 x0 x1 x2 x3 x4 : Safe c I (k0_part163 i _ a _ b _ d _ e _ f _ g _ h _ j _ l _ m _ n _ o _ p _ q _ r _ s _ t _ u _ v _ w _ z _ A _ B _ C _ D x0 x1 x2 x3 x4) := by
  rw [k0_part163_eq_skeleton]; unfold k0_part163_skel
  exact ls E.r3 fun _ => ls E.r2 fun _ => ls E.r2 fun _ => ls E.r3 fun _ => ls E.r3 fun _ => pu _

theorem p164 x0 x1 x2 : Safe c I (k0_part164 i _ a _ b _ d _ e _ f _ g _ h _ j _ l _ m _ n _ o _ p _ q _ r _ s _ t _ u _ v _ w _ z _ A _ B _ C _ D x0 x1 x2) := by
  rw [k0_part164_eq_skeleton]; unfold k0_part164_skel
  exact ls E.w23.rd fun _ => sb E.w23 fun _ => ls E.r4 fun _ => ls E.r2 fun _ => ls E.r2 fun _ => ls E.r3 fun _ => ls E.r3 fun _ => pu _

theorem p165 x0 x1 x2 x3 : Safe c I (k0_part165 i _ a _ b _ d _ e _ f _ g _ h _ j _ l _ m _ n _ o _ p _ q _ r _ s _ t _ u _ v _ w _ z _ A _ B _ C _ D x0 x1 x2 x3) := by
  rw [k0_part165_eq_skeleton]; unfold k0_part165_skel
  exact ls E.r2 fun _ => ls E.r2 fun _ => ls E.r3 fun _ => ls E.r3 fun _ => ls E.r2 fun _ => ls E.r2 fun _ => ls E.r3 fun _ => pu _

theorem p166 x0 x1 x2 x3 x4 x5 : Safe c I (k0_part166 i _ a _ b _ d _ e _ f _ g _ h _ j _ l _ m _ n _ o _ p _ q _ r _ s _ t _ u _ v _ w _ z _ A _ B _ C _ D x0 x1 x2 x3 x4 x5) := by
  rw [k0_part166_eq_skeleton]; unfold k0_part166_skel
  exact ls E.r3 fun _ => ls E.r2 fun _ => ls E.r2 fun _ => ls E.r3 fun _ => ls E.r3 fun _ => ls E.r2 fun _ => pu _

theorem p167 x0 x1 x2 : Safe c I (k0_part167 i _ a _ b _ d _ e _ f _ g _ h _ j _ l _ m _ n _ o _ p _ q _ r _ s _ t _ u _ v _ w _ z _ A _ B _ C _ D x0 x1 x2) := by
  rw [k0_part167_eq_skeleton]; unfold k0_part167_skel
  exact ls E.r2 fun _ => ls E.r3 fun _ => ls E.r3 fun _ => ls E.r2 fun _ => ls E.r2 fun _ => ls E.r3 fun _ => ls E.r3 fun _ => pu _

theorem p168 x0 x1 x2 x3 : Safe c I (k0_part168 i _ a _ b _ d _ e _ f _ g _ h _ j _ l _ m _ n _ o _ p _ q _ r _ s _ t _ u _ v _ w _ z _ A _ B _ C _ D x0 x1 x2 x3) := by
  rw [k0_part168_eq_skeleton]; unfold k0_part168_skel
  exact ls E.r2 fun _ => ls E.r2 fun _ => ls E.r3 fun _ => ls E.r3 fun _ => ls E.r2 fun _ => ls E.r2 fun _ => pu _

theorem p169 x0 x1 x2 x3 : Safe c I (k0_part169 i _ a _ b _ d _ e _ f _ g _ h _ j _ l _ m _ n _ o _ p _ q _ r _ s _ t _ u _ v _ w _ z _ A _ B _ C _ D x0 x1 x2 x3) := by
  rw [k0_part169_eq_skeleton]; unfold k0_part169_skel
  exact ls E.r3 fun _ => ls E.r3 fun _ => ls E.w23.rd fun _ => sb E.w23 fun _ => ls E.w23.rd fun _ => pu _

theorem p170 x0 x1 x2 x3 : Safe c I (k0_part170 i _ a _ b _ d _ e _ f _ g _ h _ j _ l _ m _ n _ o _ p _ q _ r _ s _ t _ u _ v _ w _ z _ A _ B _ C _ D x0 x1 x2 x3) := by
  rw [k0_part170_eq_skeleton]; unfold k0_part170_skel
  exact ls E.w23.rd fun _ => ls E.w23.rd fun _ => pu _

theorem p122 x0 x1 x2 x3 : Safe c I (k0_part122 i _ a _ b _ d _ e _ f _ g _ h _ j _ l _ m _ n _ o _ p _ q _ r _ s _ t _ u _ v _ w _ z _ A _ B _ C _ D x0 x1 x2 x3) := by
  rw [k0_part122_eq_skeleton]; unfold k0_part122_skel
  exact ls E.w23.rd fun _ => ls E.w23.rd fun _ => pu _

theorem p123 x0 x1 x2 x3 : Safe c I (k0_part123 i _ a _ b _ d _ e _ f _ g _ h _ j _ l _ m _ n _ o _ p _ q _ r _ s _ t _ u _ v _ w _ z _ A _ B _ C _ D x0 x1 x2 x3) := by
  rw [k0_part123_eq_skeleton]; unfold k0_part123_skel
  exact ls E.w23.rd fun _ => ls E.w23.rd fun _ => pu _

theorem b10 x0 x1 x2 x3 k y : Safe c I (k0_t10_body i _ a _ b _ d _ e _ f _ g _ h _ j _ l _ m _ n _ o _ p _ q _ r _ s _ t _ u _ v _ w _ z _ A _ B _ C _ D x0 x1 x2 x3 k y) := by
  unfold k0_t10_body
  exact bd (p122 E ..) fun ⟨_, _, _, _, _⟩ => bd (p123 E ..) fun ⟨_, _⟩ => pu _

theorem p171 x0 x1 x2 x3 : Safe c I (k0_part171 i _ a _ b _ d _ e _ f _ g _ h _ j _ l _ m _ n _ o _ p _ q _ r _ s _ t _ u _ v _ w _ z _ A _ B _ C _ D x0 x1 x2 x3) := by
  rw [k0_part171_eq_skeleton]; unfold k0_part171_skel
  exact ls E.w23.rd fun _ => bd (fr fun _ _ => b10 E ..) fun _ => pu _

theorem p172 x0 x1 x2 x3 : Safe c I (k0_part172 i _ a _ b _ d _ e _ f _ g _ h _ j _ l _ m _ n _ o _ p _ q _ r _ s _ t _ u _ v _ w _ z _ A _ B _ C _ D x0 x1 x2 x3) := by
  rw [k0_part172_eq_skeleton]; unfold k0_part172_skel
  exact ls E.w23.rd fun _ => ls E.w24.rd fun _ => sb E.w24 fun _ => pu _

theorem p173 x0 x1 x2 x3 x4 : Safe c I (k0_part173 i _ a _ b _ d _ e _ f _ g _ h _ j _ l _ m _ n _ o _ p _ q _ r _ s _ t _ u _ v _ w _ z _ A _ B _ C _ D x0 x1 x2 x3 x4) := by
  rw [k0_part173_eq_skeleton]; unfold k0_part173_skel
  exact ls E.w23.rd fun _ => ls E.w24.rd fun _ => sb E.w24 fun _ => pu _

theorem p174 x0 x1 x2 x3 x4 x5 : Safe c I (k0_part174 i _ a _ b _ d _ e _ f _ g _ h _ j _ l _ m _ n _ o _ p _ q _ r _ s _ t _ u _ v _ w _ z _ A _ B _ C _ D x0 x1 x2 x3 x4 x5) := by
  rw [k0_part174_eq_skeleton]; unfold k0_part174_skel
  exact ls E.w23.rd fun _ => ls E.w24.rd fun _ => sb E.w24 fun _ => ls E.w23.rd fun _ => pu _

theorem p142 x0 x1 : Safe c I (k0_part142 i _ a _ b _ d _ e _ f _ g _ h _ j _ l _ m _ n _ o _ p _ q _ r _ s _ t _ u _ v _ w _ z _ A _ B _ C _ D x0 x1) := by
  rw [k0_part142_eq_skeleton]; unfold k0_part142_skel
  exact ls E.w23.rd fun _ => ls E.w23.rd fun _ => pu _

theorem p143 x0 x1 x2 x3 : Safe c I (k0_part143 i _ a _ b _ d _ e _ f _ g _ h _ j _ l _ m _ n _ o _ p _ q _ r _ s _ t _ u _ v _ w _ z _ A _ B _ C _ D x0 x1 x2 x3) := by
  rw [k0_part143_eq_skeleton]; unfold k0_part143_skel
  exact ls E.w23.rd fun _ => ls E.w23.rd fun _ => pu _

theorem p124 x0 x1 x2 x3 x4 x5 x6 x7 x8 : Safe c I (k0_part124 i _ a _ b _ d _ e _ f _ g _ h _ j _ l _ m _ n _ o _ p _ q _ r _ s _ t _ u _ v _ w _ z _ A _ B _ C _ D x0 x1 x2 x3 x4 x5 x6 x7 x8) := by
  rw [k0_part124_eq_skeleton]; unfold k0_part124_skel
  exact ls E.w23.rd fun _ => pu _

theorem p125 x0 x1 x2 x3 x4 x5 x6 x7 : Safe c I (k0_part125 i _ a _ b _ d _ e _ f _ g _ h _ j _ l _ m _ n _ o _ p _ q _ r _ s _ t _ u _ v _ w _ z _ A _ B _ C _ D x0 x1 x2 x3 x4 x5 x6 x7) := by
  rw [k0_part125_eq_skeleton]; unfold k0_part125_skel
  exact ls E.w23.rd fun _ => pu _

theorem p126 x0 x1 x2 x3 x4 x5 x6 x7 : Safe c I (k0_part126 i _ a _ b _ d _ e _ f _ g _ h _ j _ l _ m _ n _ o _ p _ q _ r _ s _ t _ u _ v _ w _ z _ A _ B _ C _ D x0 x1 x2 x3 x4 x5 x6 x7) := by
  rw [k0_part126_eq_skeleton]; unfold k0_part126_skel
  exact ls E.w23.rd fun _ => pu _

theorem p127 x0 x1 x2 x3 x4 x5 x6 x7 : Safe c I (k0_part127 i _ a _ b _ d _ e _ f _ g _ h _ j _ l _ m _ n _ o _ p _ q _ r _ s _ t _ u _ v _ w _ z _ A _ B _ C _ D x0 x1 x2 x3 x4 x5 x6 x7) := by
  rw [k0_part127_eq_skeleton]; unfold k0_part127_skel
  exact ls E.w23.rd fun _ => pu _

theorem p128 x0 x1 x2 x3 x4 x5 x6 x7 : Safe c I (k0_part128 i _ a _ b _ d _ e _ f _ g _ h _ j _ l _ m _ n _ o _ p _ q _ r _ s _ t _ u _ v _ w _ z _ A _ B _ C _ D x0 x1 x2 x3 x4 x5 x6 x7) := by
  rw [k0_part128_eq_skeleton]; unfold k0_part128_skel
  exact ls E.w23.rd fun _ => pu _

theorem p129 x0 x1 x2 x3 x4 x5 x6 x7 : Safe c I (k0_part129 i _ a _ b _ d _ e _ f _ g _ h _ j _ l _ m _ n _ o _ p _ q _ r _ s _ t _ u _ v _ w _ z _ A _ B _ C _ D x0 x1 x2 x3 x4 x5 x6 x7) := by
  rw [k0_part129_eq_skeleton]; unfold k0_part129_skel
  exact ls E.w23.rd fun _ => pu _

theorem p130 x0 x1 x2 x3 x4 x5 x6 x7 x8 : Safe c I (k0_part130 i _ a _ b _ d _ e _ f _ g _ h _ j _ l _ m _ n _ o _ p _ q _ r _ s _ t _ u _ v _ w _ z _ A _ B _ C _ D x0 x1 x2 x3 x4 x5 x6 x7 x8) := by
  rw [k0_part130_eq_skeleton]; unfold k0_part130_skel
  exact ls E.w23.rd fun _ => pu _

theorem p131 x0 x1 x2 x3 x4 x5 x6 x7 x8 x9 : Safe c I (k0_part131 i _ a _ b _ d _ e _ f _ g _ h _ j _ l _ m _ n _ o _ p _ q _ r _ s _ t _ u _ v _ w _ z _ A _ B _ C _ D x0 x1 x2 x3 x4 x5 x6 x7 x8 x9) := by
  rw [k0_part131_eq_skeleton]; unfold k0_part131_skel
  exact ls E.w23.rd fun _ => pu _

theorem p132 x0 x1 x2 x3 x4 x5 x6 x7 x8 x9 x10 x11 x12 x13 x14 : Safe c I (k0_part132 i _ a _ b _ d _ e _ f _ g _ h _ j _ l _ m _ n _ o _ p _ q _ r _ s _ t _ u _ v _ w _ z _ A _ B _ C _ D x0 x1 x2 x3 x4 x5 x6 x7 x8 x9 x10 x11 x12 x13 x14) := by
  rw [k0_part132_eq_skeleton]; unfold k0_part132_skel
  exact pu _

theorem b11 x0 x1 x2 x3 x4 x5 x6 x7 x8 x9 x10 x11 k y : Safe c I (k0_t11_body i _ a _ b _ d _ e _ f _ g _ h _ j _ l _ m _ n _ o _ p _ q _ r _ s _ t _ u _ v _ w _ z _ A _ B _ C _ D x0 x1 x2 x3 x4 x5 x6 x7 x8 x9 x10 x11 k y) := by
  unfold k0_t11_body
  exact bd (p124 E ..) fun ⟨_, _, _⟩ => bd (p125 E ..) fun ⟨_, _, _⟩ => bd (p126 E ..) fun ⟨_, _, _⟩ => bd (p127 E ..) fun ⟨_, _, _⟩ => bd (p128 E ..) fun ⟨_, _, _⟩ => bd (p129 E ..) fun ⟨_, _, _⟩ => bd (p130 E ..) fun ⟨_, _, _, _, _, _⟩ => bd (p131 E ..) fun ⟨_, _, _, _, _, _, _, _⟩ => bd (p132 E ..) fun ⟨_, _, _⟩ => pu _

theorem p133 x0 x1 x2 x3 x4 x5 x6 x7 x8 : Safe c I (k0_part133 i _ a _ b _ d _ e _ f _ g _ h _ j _ l _ m _ n _ o _ p _ q _ r _ s _ t _ u _ v _ w _ z _ A _ B _ C _ D x0 x1 x2 x3 x4 x5 x6 x7 x8) := by
  rw [k0_part133_eq_skeleton]; unfold k0_part133_skel
  exact ls E.w23.rd fun _ => pu _

theorem p134 x0 x1 x2 x3 x4 x5 x6 x7 : Safe c I (k0_part134 i _ a _ b _ d _ e _ f _ g _ h _ j _ l _ m _ n _ o _ p _ q _ r _ s _ t _ u _ v _ w _ z _ A _ B _ C _ D x0 x1 x2 x3 x4 x5 x6 x7) := by
  rw [k0_part134_eq_skeleton]; unfold k0_part134_skel
  exact ls E.w23.rd fun _ => pu _

theorem p135 x0 x1 x2 x3 x4 x5 x6 x7 : Safe c I (k0_part135 i _ a _ b _ d _ e _ f _ g _ h _ j _ l _ m _ n _ o _ p _ q _ r _ s _ t _ u _ v _ w _ z _ A _ B _ C _ D x0 x1 x2 x3 x4 x5 x6 x7) := by
  rw [k0_part135_eq_skeleton]; unfold k0_part135_skel
  exact ls E.w23.rd fun _ => pu _

theorem p136 x0 x1 x2 x3 x4 x5 x6 x7 : Safe c I (k0_part136 i _ a _ b _ d _ e _ f _ g _ h _ j _ l _ m _ n _ o _ p _ q _ r _ s _ t _ u _ v _ w _ z _ A _ B _ C _ D x0 x1 x2 x3 x4 x5 x6 x7) := by
  rw [k0_part136_eq_skeleton]; unfold k0_part136_skel
  exact ls E.w23.rd fun _ => pu _

theorem p137 x0 x1 x2 x3 x4 x5 x6 x7 : Safe c I (k0_part137 i _ a _ b _ d _ e _ f _ g _ h _ j _ l _ m _ n _ o _ p _ q _ r _ s _ t _ u _ v _ w _ z _ A _ B _ C _ D x0 x1 x2 x3 x4 x5 x6 x7) := by
  rw [k0_part137_eq_skeleton]; unfold k0_part137_skel
  exact ls E.w23.rd fun _ => pu _

theorem p138 x0 x1 x2 x3 x4 x5 x6 x7 : Safe c I (k0_part138 i _ a _ b _ d _ e _ f _ g _ h _ j _ l _ m _ n _ o _ p _ q _ r _ s _ t _ u _ v _ w _ z _ A _ B _ C _ D x0 x1 x2 x3 x4 x5 x6 x7) := by
  rw [k0_part138_eq_skeleton]; unfold k0_part138_skel
  exact ls E.w23.rd fun _ => pu _

theorem p139 x0 x1 x2 x3 x4 x5 x6 x7 x8 : Safe c I (k0_part139 i _ a _ b _ d _ e _ f _ g _ h _ j _ l _ m _ n _ o _ p _ q _ r _ s _ t _ u _ v _ w _ z _ A _ B _ C _ D x0 x1 x2 x3 x4 x5 x6 x7 x8) := by
  rw [k0_part139_eq_skeleton]; unfold k0_part139_skel
  exact ls E.w23.rd fun _ => pu _

theorem p140 x0 x1 x2 x3 x4 x5 x6 x7 x8 x9 : Safe c I (k0_part140 i _ a _ b _ d _ e _ f _ g _ h _ j _ l _ m _ n _ o _ p _ q _ r _ s _ t _ u _ v _ w _ z _ A _ B _ C _ D x0 x1 x2 x3 x4 x5 x6 x7 x8 x9) := by
  rw [k0_part140_eq_skeleton]; unfold k0_part140_skel
  exact ls E.w23.rd fun _ => pu _

theorem p141 x0 x1 x2 x3 x4 x5 x6 x7 x8 x9 x10 x11 x12 x13 x14 : Safe c I (k0_part141 i _ a _ b _ d _ e _ f _ g _ h _ j _ l _ m _ n _ o _ p _ q _ r _ s _ t _ u _ v _ w _ z _ A _ B _ C _ D x0 x1 x2 x3 x4 x5 x6 x7 x8 x9 x10 x11 x12 x13 x14) := by
  rw [k0_part141_eq_skeleton]; unfold k0_part141_skel
  exact pu _

theorem b12 x0 x1 x2 x3 x4 x5 x6 x7 x8 x9 x10 x11 x12 k y : Safe c I (k0_t12_body i _ a _ b _ d _ e _ f _ g _ h _ j _ l _ m _ n _ o _ p _ q _ r _ s _ t _ u _ v _ w _ z _ A _ B _ C _ D x0 x1 x2 x3 x4 x5 x6 x7 x8 x9 x10 x11 x12 k y) := by
  unfold k0_t12_body
  exact bd (p133 E ..) fun ⟨_, _, _⟩ => bd (p134 E ..) fun ⟨_, _, _⟩ => bd (p135 E ..) fun ⟨_, _, _⟩ => bd (p136 E ..) fun ⟨_, _, _⟩ => bd (p137 E ..) fun ⟨_, _, _⟩ => bd (p138 E ..) fun ⟨_, _, _⟩ => bd (p139 E ..) fun ⟨_, _, _, _, _, _⟩ => bd (p140 E ..) fun ⟨_, _, _, _, _, _, _, _⟩ => bd (p141 E ..) fun ⟨_, _, _⟩ => pu _

theorem p144 x0 x1 x2 x3 x4 x5 x6 x7 x8 x9 : Safe c I (k0_part144 i _ a _ b _ d _ e _ f _ g _ h _ j _ l _ m _ n _ o _ p _ q _ r _ s _ t _ u _ v _ w _ z _ A _ B _ C _ D x0 x1 x2 x3 x4 x5 x6 x7 x8 x9) := by
  rw [k0_part144_eq_skeleton]; unfold k0_part144_skel
  exact bd (asm (k0_chk4_all ..)) fun _ => bd (fr fun _ _ => b11 E ..) fun ⟨_, _, _⟩ => bd (fr fun _ _ => b12 E ..) fun ⟨_, _, _⟩ => ls E.w23.rd fun _ => pu _

theorem p145 x0 x1 x2 x3 x4 x5 x6 x7 x8 x9 : Safe c I (k0_part145 i _ a _ b _ d _ e _ f _ g _ h _ j _ l _ m _ n _ o _ p _ q _ r _ s _ t _ u _ v _ w _ z _ A _ B _ C _ D x0 x1 x2 x3 x4 x5 x6 x7 x8 x9) := by
  rw [k0_part145_eq_skeleton]; unfold k0_part145_skel
  exact ls E.w24.rd fun _ => sb E.w24 fun _ => ls E.w23.rd fun _ => pu _

theorem p146 x0 x1 x2 x3 x4 x5 x6 x7 x8 x9 x10 : Safe c I (k0_part146 i _ a _ b _ d _ e _ f _ g _ h _ j _ l _ m _ n _ o _ p _ q _ r _ s _ t _ u _ v _ w _ z _ A _ B _ C _ D x0 x1 x2 x3 x4 x5 x6 x7 x8 x9 x10) := by
  rw [k0_part146_eq_skeleton]; unfold k0_part146_skel
  exact ls E.w24.rd fun _ => sb E.w24 fun _ => ls E.w23.rd fun _ => pu _

theorem p147 x0 x1 x2 x3 x4 x5 x6 x7 x8 x9 : Safe c I (k0_part147 i _ a _ b _ d _ e _ f _ g _ h _ j _ l _ m _ n _ o _ p _ q _ r _ s _ t _ u _ v _ w _ z _ A _ B _ C _ D x0 x1 x2 x3 x4 x5 x6 x7 x8 x9) := by
  rw [k0_part147_eq_skeleton]; unfold k0_part147_skel
  exact ls E.w24.rd fun _ => sb E.w24 fun _ => ls E.w23.rd fun _ => pu _

theorem p175 x0 x1 x2 x3 x4 x5 x6 x7 : Safe c I (k0_part175 i _ a _ b _ d _ e _ f _ g _ h _ j _ l _ m _ n _ o _ p _ q _ r _ s _ t _ u _ v _ w _ z _ A _ B _ C _ D x0 x1 x2 x3 x4 x5 x6 x7) := by
  rw [k0_part175_eq_skeleton]; unfold k0_part175_skel
  exact ls E.w24.rd fun _ => sb E.w24 fun _ => ite (fun _ => bd (p142 E ..) fun ⟨_, _, _, _, _⟩ => bd (p143 E ..) fun ⟨_, _, _⟩ => bd (p144 E ..) fun ⟨_, _, _, _, _, _⟩ => bd (p145 E ..) fun ⟨_, _, _, _, _⟩ => bd (p146 E ..) fun ⟨_, _, _, _⟩ => bd (p147 E ..) fun ⟨_, _⟩ => ls E.w24.rd fun _ => sb E.w24 fun _ => pu _) fun _ => pu _

theorem p176 : Safe c I (k0_part176 i _ a _ b _ d _ e _ f _ g _ h _ j _ l _ m _ n _ o _ p _ q _ r _ s _ t _ u _ v _ w _ z _ A _ B _ C _ D ) := by
  rw [k0_part176_eq_skeleton]; unfold k0_part176_skel
  exact ls E.w24.rd fun _ => ls E.r5 fun _ => ls E.r5 fun _ => ls E.r5 fun _ => ls E.r5 fun _ => ls E.r6 fun _ => ls E.w25.rd fun _ => sb E.w25 fun _ => pu _

theorem p177 x0 : Safe c I (k0_part177 i _ a _ b _ d _ e _ f _ g _ h _ j _ l _ m _ n _ o _ p _ q _ r _ s _ t _ u _ v _ w _ z _ A _ B _ C _ D x0) := by
  rw [k0_part177_eq_skeleton]; unfold k0_part177_skel
  exact ls E.r5 fun _ => ls E.r5 fun _ => ls E.r5 fun _ => ls E.r5 fun _ => ls E.r6 fun _ => ls E.w25.rd fun _ => sb E.w25 fun _ => ls E.r5 fun _ => pu _

theorem p178 x0 x1 : Safe c I (k0_part178 i _ a _ b _ d _ e _ f _ g _ h _ j _ l _ m _ n _ o _ p _ q _ r _ s _ t _ u _ v _ w _ z _ A _ B _ C _ D x0 x1) := by
  rw [k0_part178_eq_skeleton]; unfold k0_part178_skel
  exact ls E.r5 fun _ => ls E.r5 fun _ => ls E.r5 fun _ => ls E.r6 fun _ => ls E.w25.rd fun _ => sb E.w25 fun _ => ls E.r5 fun _ => ls E.r5 fun _ => ls E.r5 fun _ => pu _

theorem p179 x0 x1 x2 x3 x4 x5 x6 x7 : Safe c I (k0_part179 i _ a _ b _ d _ e _ f _ g _ h _ j _ l _ m _ n _ o _ p _ q _ r _ s _ t _ u _ v _ w _ z _ A _ B _ C _ D x0 x1 x2 x3 x4 x5 x6 x7) := by
  rw [k0_part179_eq_skeleton]; unfold k0_part179_skel
  exact ls E.r5 fun _ => ls E.r6 fun _ => ls E.w25.rd fun _ => sb E.w25 fun _ => ls E.w24.rd fun _ => ls E.r5 fun _ => ls E.r5 fun _ => ls E.r5 fun _ => pu _

theorem p180 x0 x1 x2 x3 : Safe c I (k0_part180 i _ a _ b _ d _ e _ f _ g _ h _ j _ l _ m _ n _ o _ p _ q _ r _ s _ t _ u _ v _ w _ z _ A _ B _ C _ D x0 x1 x2 x3) := by
  rw [k0_part180_eq_skeleton]; unfold k0_part180_skel
  exact ls E.r5 fun _ => ls E.r6 fun _ => ls E.w25.rd fun _ => sb E.w25 fun _ => ls E.r5 fun _ => ls E.r5 fun _ => ls E.r5 fun _ => ls E.r5 fun _ => pu _

theorem p181 x0 x1 : Safe c I (k0_part181 i _ a _ b _ d _ e _ f _ g _ h _ j _ l _ m _ n _ o _ p _ q _ r _ s _ t _ u _ v _ w _ z _ A _ B _ C _ D x0 x1) := by
  rw [k0_part181_eq_skeleton]; unfold k0_part181_skel
  exact ls E.r6 fun _ => ls E.w25.rd fun _ => sb E.w25 fun _ => ls E.r5 fun _ => ls E.r5 fun _ => ls E.r5 fun _ => ls E.r5 fun _ => ls E.r6 fun _ => pu _

theorem p182 x0 x1 : Safe c I (k0_part182 i _ a _ b _ d _ e _ f _ g _ h _ j _ l _ m _ n _ o _ p _ q _ r _ s _ t _ u _ v _ w _ z _ A _ B _ C _ D x0 x1) := by
  rw [k0_part182_eq_skeleton]; unfold k0_part182_skel
  exact ls E.w25.rd fun _ => sb E.w25 fun _ => ls E.r5 fun _ => ls E.r5 fun _ => ls E.r5 fun _ => ls E.r5 fun _ => ls E.r6 fun _ => ls E.w25.rd fun _ => sb E.w25 fun _ => pu _

theorem p183 x0 x1 x2 x3 x4 x5 : Safe c I (k0_part183 i _ a _ b _ d _ e _ f _ g _ h _ j _ l _ m _ n _ o _ p _ q _ r _ s _ t _ u _ v _ w _ z _ A _ B _ C _ D x0 x1 x2 x3 x4 x5) := by
  rw [k0_part183_eq_skeleton]; unfold k0_part183_skel
  exact ls E.w24.rd fun _ => ls E.r5 fun _ => ls E.r5 fun _ => ls E.r5 fun _ => ls E.r5 fun _ => ls E.r6 fun _ => ls E.w25.rd fun _ => sb E.w25 fun _ => pu _

theorem p184 x0 x1 : Safe c I (k0_part184 i _ a _ b _ d _ e _ f _ g _ h _ j _ l _ m _ n _ o _ p _ q _ r _ s _ t _ u _ v _ w _ z _ A _ B _ C _ D x0 x1) := by
  rw [k0_part184_eq_skeleton]; unfold k0_part184_skel
  exact ls E.r5 fun _ => ls E.r5 fun _ => ls E.r5 fun _ => ls E.r5 fun _ => ls E.r6 fun _ => ls E.w25.rd fun _ => sb E.w25 fun _ => pu _

theorem p185 x0 x1 x2 : Safe c I (k0_part185 i _ a _ b _ d _ e _ f _ g _ h _ j _ l _ m _ n _ o _ p _ q _ r _ s _ t _ u _ v _ w _ z _ A _ B _ C _ D x0 x1 x2) := by
  rw [k0_part185_eq_skeleton]; unfold k0_part185_skel
  exact ls E.r5 fun _ => ls E.r5 fun _ => ls E.r5 fun _ => ls E.r5 fun _ => ls E.r6 fun _ => ls E.w25.rd fun _ => sb E.w25 fun _ => pu _

theorem p186 x0 x1 x2 x3 x4 x5 : Safe c I (k0_part186 i _ a _ b _ d _ e _ f _ g _ h _ j _ l _ m _ n _ o _ p _ q _ r _ s _ t _ u _ v _ w _ z _ A _ B _ C _ D x0 x1 x2 x3 x4 x5) := by
  rw [k0_part186_eq_skeleton]; unfold k0_part186_skel
  exact ls E.r5 fun _ => ls E.r5 fun _ => ls E.r5 fun _ => ls E.r5 fun _ => ls E.r6 fun _ => ls E.w25.rd fun _ => sb E.w25 fun _ => ls E.w24.rd fun _ => pu _

theorem p187 x0 : Safe c I (k0_part187 i _ a _ b _ d _ e _ f _ g _ h _ j _ l _ m _ n _ o _ p _ q _ r _ s _ t _ u _ v _ w _ z _ A _ B _ C _ D x0) := by
  rw [k0_part187_eq_skeleton]; unfold k0_part187_skel
  exact ls E.r5 fun _ => ls E.r5 fun _ => ls E.r5 fun _ => ls E.r5 fun _ => ls E.r6 fun _ => ls E.w25.rd fun _ => sb E.w25 fun _ => ls E.r5 fun _ => pu _

theorem p188 x0 x1 : Safe c I (k0_part188 i _ a _ b _ d _ e _ f _ g _ h _ j _ l _ m _ n _ o _ p _ q _ r _ s _ t _ u _ v _ w _ z _ A _ B _ C _ D x0 x1) := by
  rw [k0_part188_eq_skeleton]; unfold k0_part188_skel
  exact ls E.r5 fun _ => ls E.r5 fun _ => ls E.r5 fun _ => ls E.r6 fun _ => ls E.w25.rd fun _ => sb E.w25 fun _ => ls E.r5 fun _ => ls E.r5 fun _ => ls E.r5 fun _ => pu _

theorem p189 x0 x1 x2 x3 : Safe c I (k0_part189 i _ a _ b _ d _ e _ f _ g _ h _ j _ l _ m _ n _ o _ p _ q _ r _ s _ t _ u _ v _ w _ z _ A _ B _ C _ D x0 x1 x2 x3) := by
  rw [k0_part189_eq_skeleton]; unfold k0_part189_skel
  exact ls E.r5 fun _ => ls E.r6 fun _ => ls E.w25.rd fun _ => sb E.w25 fun _ => ls E.r5 fun _ => ls E.r5 fun _ => ls E.r5 fun _ => ls E.r5 fun _ => pu _

theorem p190 x0 x1 x2 x3 x4 x5 : Safe c I (k0_part190 i _ a _ b _ d _ e _ f _ g _ h _ j _ l _ m _ n _ o _ p _ q _ r _ s _ t _ u _ v _ w _ z _ A _ B _ C _ D x0 x1 x2 x3 x4 x5) := by
  rw [k0_part190_eq_skeleton]; unfold k0_part190_skel
  exact ls E.r6 fun _ => ls E.w25.rd fun _ => sb E.w25 fun _ => ls E.w26.rd fun _ => sb E.w26 fun _ => ls E.w25.rd fun _ => pu _

theorem p191 x0 x1 x2 : Safe c I (k0_part191 i _ a _ b _ d _ e _ f _ g _ h _ j _ l _ m _ n _ o _ p _ q _ r _ s _ t _ u _ v _ w _ z _ A _ B _ C _ D x0 x1 x2) := by
  rw [k0_part191_eq_skeleton]; unfold k0_part191_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p192 x0 x1 x2 : Safe c I (k0_part192 i _ a _ b _ d _ e _ f _ g _ h _ j _ l _ m _ n _ o _ p _ q _ r _ s _ t _ u _ v _ w _ z _ A _ B _ C _ D x0 x1 x2) := by
  rw [k0_part192_eq_skeleton]; unfold k0_part192_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p193 x0 x1 x2 : Safe c I (k0_part193 i _ a _ b _ d _ e _ f _ g _ h _ j _ l _ m _ n _ o _ p _ q _ r _ s _ t _ u _ v _ w _ z _ A _ B _ C _ D x0 x1 x2) := by
  rw [k0_part193_eq_skeleton]; unfold k0_part193_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p194 x0 x1 x2 : Safe c I (k0_part194 i _ a _ b _ d _ e _ f _ g _ h _ j _ l _ m _ n _ o _ p _ q _ r _ s _ t _ u _ v _ w _ z _ A _ B _ C _ D x0 x1 x2) := by
  rw [k0_part194_eq_skeleton]; unfold k0_part194_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p195 x0 x1 x2 : Safe c I (k0_part195 i _ a _ b _ d _ e _ f _ g _ h _ j _ l _ m _ n _ o _ p _ q _ r _ s _ t _ u _ v _ w _ z _ A _ B _ C _ D x0 x1 x2) := by
  rw [k0_part195_eq_skeleton]; unfold k0_part195_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p196 x0 x1 x2 : Safe c I (k0_part196 i _ a _ b _ d _ e _ f _ g _ h _ j _ l _ m _ n _ o _ p _ q _ r _ s _ t _ u _ v _ w _ z _ A _ B _ C _ D x0 x1 x2) := by
  rw [k0_part196_eq_skeleton]; unfold k0_part196_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p197 x0 x1 x2 : Safe c I (k0_part197 i _ a _ b _ d _ e _ f _ g _ h _ j _ l _ m _ n _ o _ p _ q _ r _ s _ t _ u _ v _ w _ z _ A _ B _ C _ D x0 x1 x2) := by
  rw [k0_part197_eq_skeleton]; unfold k0_part197_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w25.rd fun _ => pu _

theorem p198 x0 x1 x2 : Safe c I (k0_part198 i _ a _ b _ d _ e _ f _ g _ h _ j _ l _ m _ n _ o _ p _ q _ r _ s _ t _ u _ v _ w _ z _ A _ B _ C _ D x0 x1 x2) := by
  rw [k0_part198_eq_skeleton]; unfold k0_part198_skel
  exact ls E.r7 fun _ => ls E.w26.rd fun _ => ls E.w26.rd fun _ => sb E.w26 fun _ => ls E.w25.rd fun _ => ls E.r7 fun _ => ls E.w26.rd fun _ => ls E.w26.rd fun _ => sb E.w26 fun _ => ls E.w26.rd fun _ => ls E.w26.rd fun _ => pu _

theorem p199 x0 x1 : Safe c I (k0_part199 i _ a _ b _ d _ e _ f _ g _ h _ j _ l _ m _ n _ o _ p _ q _ r _ s _ t _ u _ v _ w _ z _ A _ B _ C _ D x0 x1) := by
  rw [k0_part199_eq_skeleton]; unfold k0_part199_skel
  exact ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => pu _

theorem p200 x0 x1 : Safe c I (k0_part200 i _ a _ b _ d _ e _ f _ g _ h _ j _ l _ m _ n _ o _ p _ q _ r _ s _ t _ u _ v _ w _ z _ A _ B _ C _ D x0 x1) := by
  rw [k0_part200_eq_skeleton]; unfold k0_part200_skel
  exact ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => ls E.w15.rd fun _ => sb E.w15 fun _ => pu _

theorem p201 x0 x1 : Safe c I (k0_part201 i _ a _ b _ d _ e _ f _ g _ h _ j _ l _ m _ n _ o _ p _ q _ r _ s _ t _ u _ v _ w _ z _ A _ B _ C _ D x0 x1) := by
  rw [k0_part201_eq_skeleton]; unfold k0_part201_skel
  exact bd (p148 E ..) fun ⟨_, _, _, _, _, _⟩ => bd (p149 E ..) fun ⟨_, _, _, _⟩ => bd (p150 E ..) fun ⟨_, _, _, _⟩ => bd (p151 E ..) fun ⟨_, _⟩ => bd (p152 E ..) fun ⟨_, _⟩ => bd (p153 E ..) fun ⟨_, _, _, _, _⟩ => bd (p154 E ..) fun ⟨_, _, _⟩ => bd (p155 E ..) fun ⟨_, _, _, _⟩ => bd (p156 E ..) fun ⟨_, _, _⟩ => bd (p157 E ..) fun ⟨_, _⟩ => bd (p158 E ..) fun ⟨_, _⟩ => bd (p159 E ..) fun ⟨_, _, _, _⟩ => bd (p160 E ..) fun ⟨_, _⟩ => bd (p161 E ..) fun ⟨_, _, _⟩ => bd (p162 E ..) fun ⟨_, _, _⟩ => bd (p163 E ..) fun ⟨_, _⟩ => bd (p164 E ..) fun ⟨_, _, _, _⟩ => bd (p165 E ..) fun ⟨_, _, _, _, _⟩ => bd (p166 E ..) fun ⟨_, _⟩ => bd (p167 E ..) fun ⟨_, _, _⟩ => bd (p168 E ..) fun ⟨_, _⟩ => bd (p169 E ..) fun ⟨_, _, _, _⟩ => bd (p170 E ..) fun ⟨_, _⟩ => bd (p171 E ..) fun ⟨_, _⟩ => bd (p172 E ..) fun ⟨_, _, _⟩ => bd (p173 E ..) fun ⟨_, _, _⟩ => bd (p174 E ..) fun ⟨_, _, _⟩ => bd (p175 E ..) fun _ => bd (p176 E ..) fun ⟨_, _, _⟩ => bd (p177 E ..) fun ⟨_, _⟩ => bd (p178 E ..) fun ⟨_, _, _, _⟩ => bd (p179 E ..) fun ⟨_, _, _, _, _⟩ => bd (p180 E ..) fun ⟨_, _⟩ => bd (p181 E ..) fun ⟨_, _⟩ => bd (p182 E ..) fun ⟨_, _, _⟩ => bd (p183 E ..) fun ⟨_, _, _⟩ => bd (p184 E ..) fun ⟨_, _, _⟩ => bd (p185 E ..) fun ⟨_, _, _⟩ => bd (p186 E ..) fun ⟨_, _⟩ => bd (p187 E ..) fun ⟨_, _⟩ => bd (p188 E ..) fun ⟨_, _, _, _⟩ => bd (p189 E ..) fun ⟨_, _⟩ => bd (p190 E ..) fun ⟨_, _, _⟩ => bd (p191 E ..) fun _ => bd (p192 E ..) fun _ => bd (p193 E ..) fun _ => bd (p194 E ..) fun _ => bd (p195 E ..) fun _ => bd (p196 E ..) fun _ => bd (p197 E ..) fun _ => bd (p198 E ..) fun ⟨_, _⟩ => bd (p199 E ..) fun _ => bd (p200 E ..) fun _ => ls E.w15.rd fun _ => sb E.w15 fun _ => pu _

theorem root : Safe c I (cc0_dsa_attention (F := F) i _ a _ b _ d _ e _ f _ g _ h _ j _ l _ m _ n _ o _ p _ q _ r _ s _ t _ u _ v _ w _ z _ A _ B _ C _ D ) := by
  rw [cc0_dsa_attention_eq_skeleton]; unfold cc0_dsa_attention_skel
  exact bd (p202 E ..) fun ⟨_, _⟩ => bd (p203 E ..) fun ⟨_, _, _⟩ => ite (fun _ => bd (p81 E ..) fun ⟨_, _, _, _, _, _⟩ => bd (p82 E ..) fun ⟨_, _, _, _⟩ => bd (p83 E ..) fun ⟨_, _, _, _⟩ => bd (p84 E ..) fun ⟨_, _⟩ => bd (p85 E ..) fun ⟨_, _⟩ => bd (p86 E ..) fun ⟨_, _, _, _, _⟩ => bd (p87 E ..) fun ⟨_, _, _⟩ => bd (p88 E ..) fun ⟨_, _, _, _⟩ => bd (p89 E ..) fun ⟨_, _, _⟩ => bd (p90 E ..) fun ⟨_, _⟩ => bd (p91 E ..) fun ⟨_, _⟩ => bd (p92 E ..) fun ⟨_, _, _, _⟩ => bd (p93 E ..) fun ⟨_, _⟩ => bd (p94 E ..) fun ⟨_, _, _⟩ => bd (p95 E ..) fun ⟨_, _, _⟩ => bd (p96 E ..) fun ⟨_, _⟩ => bd (p97 E ..) fun ⟨_, _, _, _, _⟩ => bd (p98 E ..) fun _ => bd (p99 E ..) fun ⟨_, _, _, _, _⟩ => bd (p100 E ..) fun ⟨_, _, _⟩ => bd (p101 E ..) fun ⟨_, _⟩ => bd (p102 E ..) fun ⟨_, _, _, _⟩ => bd (p103 E ..) fun ⟨_, _, _⟩ => bd (p104 E ..) fun ⟨_, _⟩ => bd (p105 E ..) fun ⟨_, _⟩ => bd (p106 E ..) fun ⟨_, _⟩ => bd (p107 E ..) fun ⟨_, _, _, _⟩ => bd (p108 E ..) fun ⟨_, _⟩ => bd (p109 E ..) fun ⟨_, _, _⟩ => bd (p110 E ..) fun ⟨_, _⟩ => bd (p111 E ..) fun ⟨_, _, _⟩ => bd (p112 E ..) fun ⟨_, _⟩ => bd (p113 E ..) fun ⟨_, _, _⟩ => bd (p114 E ..) fun _ => bd (p115 E ..) fun _ => bd (p116 E ..) fun _ => bd (p117 E ..) fun _ => bd (p118 E ..) fun _ => bd (p119 E ..) fun ⟨_, _⟩ => bd (p120 E ..) fun _ => bd (p121 E ..) fun _ => sb E.w15 fun _ => ls E.w15.rd fun _ => sb E.w15 fun _ => ite (fun _ => bd (p201 E ..) fun ⟨_, _⟩ => ls E.w15.rd fun _ => sb E.w15 fun _ => ls E.w15.rd fun _ => sb E.w15 fun _ => ls E.w15.rd fun _ => sb E.w15 fun _ => pu _) fun _ => pu _) fun _ => ite (fun _ => bd (p201 E ..) fun ⟨_, _⟩ => ls E.w15.rd fun _ => sb E.w15 fun _ => ls E.w15.rd fun _ => sb E.w15 fun _ => ls E.w15.rd fun _ => sb E.w15 fun _ => pu _) fun _ => pu _

end Cert.Proof.Dsa
-- ==== Proof.DsaFrame.lean ====
module

public import proofs.«01_k».proof.Proof.DsaBody

@[expose] public section

set_option maxRecDepth 65536
set_option maxHeartbeats 4000000

/-! The sparse attention's run: its body at every grid point, and the frame of the kernel, as compiled and
idealized. -/

noncomputable section

namespace Cert.Proof.Dsa

open Cert.KDsaIdeal Cert.KDsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline

variable {F : FTy → Type} [FloatOps F]

/-- What the body runs from: the inputs' staging buffers at their blocks, the results' and the scratch at some contents. -/
def Held (c : Dev nD)
    (a2 : Memref sig .tc .vmem S1x128x2048 .bf16)
    (a3 : Memref sig .tc .vmem S1x16x128 .f32)
    (a4 : Memref sig .tc .vmem S1x2048x128 .bf16)
    (a5 : Memref sig .tc .vmem S1x128x2048 .bf16)
    (a6 : Memref sig .tc .vmem S1x2048x512 .bf16)
    (a7 : Memref sig .tc .vmem S1x4x512x512 .bf16)
    (a8 : Memref sig .tc .vmem S1x32x4096 .f32)
    (a9 : Memref sig .tc .vmem S1x32x4096 .f32)
    (a10 : Memref sig .tc .vmem S1x128x4096 .f32)
    (a11 : Memref sig .tc .vmem S1x64x4096 .f32)
    (a12 : Memref sig .tc .vmem S1x64x1024 .f32)
    (a13 : Memref sig .tc .vmem S1x64x1024 .f32)
    (a14 : Memref sig .tc .vmem S1x64x1024 .f32)
    (a15 : Memref sig .tc .vmem S1x128x2048 .bf16)
    (a16 : Memref sig .tc .vmem S32x4096 .bf16)
    (a17 : Memref sig .tc .vmem S32x4096 .bf16)
    (a18 : Memref sig .tc .vmem S128x4096 .bf16)
    (a19 : Memref sig .tc .vmem S64x4096 .bf16)
    (a20 : Memref sig .tc .vmem S64x1024 .bf16)
    (a21 : Memref sig .tc .vmem S64x1024 .bf16)
    (a22 : Memref sig .tc .vmem S64x1024 .bf16)
    (a23 : Memref sig .tc .vmem S2048x128 .f32)
    (a24 : Memref sig .tc .vmem S2048x128 .f32)
    (a25 : Memref sig .tc .vmem S2048x2048 .f32)
    (a26 : Memref sig .tc .vmem S144x2048 .f32)
    (X2 : S1x128x2048.Idx → Elt F .bf16)
    (X3 : S1x16x128.Idx → Elt F .f32)
    (X4 : S1x2048x128.Idx → Elt F .bf16)
    (X5 : S1x128x2048.Idx → Elt F .bf16)
    (X6 : S1x2048x512.Idx → Elt F .bf16)
    (X7 : S1x4x512x512.Idx → Elt F .bf16)
    (X8 : S1x32x4096.Idx → Elt F .f32)
    (X9 : S1x32x4096.Idx → Elt F .f32)
    (X10 : S1x128x4096.Idx → Elt F .f32)
    (X11 : S1x64x4096.Idx → Elt F .f32)
    (X12 : S1x64x1024.Idx → Elt F .f32)
    (X13 : S1x64x1024.Idx → Elt F .f32)
    (X14 : S1x64x1024.Idx → Elt F .f32) : sProp (MT nD τ sig Unit (Elt F) ℕ (UR sig nD τ) ℕ) :=
  iprop(owns (c : Thread nD τ) a2 fullShare X2
    ∗ owns (c : Thread nD τ) a3 fullShare X3
    ∗ owns (c : Thread nD τ) a4 fullShare X4
    ∗ owns (c : Thread nD τ) a5 fullShare X5
    ∗ owns (c : Thread nD τ) a6 fullShare X6
    ∗ owns (c : Thread nD τ) a7 fullShare X7
    ∗ owns (c : Thread nD τ) a8 fullShare X8
    ∗ owns (c : Thread nD τ) a9 fullShare X9
    ∗ owns (c : Thread nD τ) a10 fullShare X10
    ∗ owns (c : Thread nD τ) a11 fullShare X11
    ∗ owns (c : Thread nD τ) a12 fullShare X12
    ∗ owns (c : Thread nD τ) a13 fullShare X13
    ∗ owns (c : Thread nD τ) a14 fullShare X14
    ∗ (∃ X, owns (c : Thread nD τ) a15 fullShare X)
    ∗ (∃ X, owns (c : Thread nD τ) a16 fullShare X)
    ∗ (∃ X, owns (c : Thread nD τ) a17 fullShare X)
    ∗ (∃ X, owns (c : Thread nD τ) a18 fullShare X)
    ∗ (∃ X, owns (c : Thread nD τ) a19 fullShare X)
    ∗ (∃ X, owns (c : Thread nD τ) a20 fullShare X)
    ∗ (∃ X, owns (c : Thread nD τ) a21 fullShare X)
    ∗ (∃ X, owns (c : Thread nD τ) a22 fullShare X)
    ∗ (∃ X, owns (c : Thread nD τ) a23 fullShare X)
    ∗ (∃ X, owns (c : Thread nD τ) a24 fullShare X)
    ∗ (∃ X, owns (c : Thread nD τ) a25 fullShare X)
    ∗ (∃ X, owns (c : Thread nD τ) a26 fullShare X))

theorem held_env {c : Dev nD}
    {a2 : Memref sig .tc .vmem S1x128x2048 .bf16}
    {a3 : Memref sig .tc .vmem S1x16x128 .f32}
    {a4 : Memref sig .tc .vmem S1x2048x128 .bf16}
    {a5 : Memref sig .tc .vmem S1x128x2048 .bf16}
    {a6 : Memref sig .tc .vmem S1x2048x512 .bf16}
    {a7 : Memref sig .tc .vmem S1x4x512x512 .bf16}
    {a8 : Memref sig .tc .vmem S1x32x4096 .f32}
    {a9 : Memref sig .tc .vmem S1x32x4096 .f32}
    {a10 : Memref sig .tc .vmem S1x128x4096 .f32}
    {a11 : Memref sig .tc .vmem S1x64x4096 .f32}
    {a12 : Memref sig .tc .vmem S1x64x1024 .f32}
    {a13 : Memref sig .tc .vmem S1x64x1024 .f32}
    {a14 : Memref sig .tc .vmem S1x64x1024 .f32}
    {a15 : Memref sig .tc .vmem S1x128x2048 .bf16}
    {a16 : Memref sig .tc .vmem S32x4096 .bf16}
    {a17 : Memref sig .tc .vmem S32x4096 .bf16}
    {a18 : Memref sig .tc .vmem S128x4096 .bf16}
    {a19 : Memref sig .tc .vmem S64x4096 .bf16}
    {a20 : Memref sig .tc .vmem S64x1024 .bf16}
    {a21 : Memref sig .tc .vmem S64x1024 .bf16}
    {a22 : Memref sig .tc .vmem S64x1024 .bf16}
    {a23 : Memref sig .tc .vmem S2048x128 .f32}
    {a24 : Memref sig .tc .vmem S2048x128 .f32}
    {a25 : Memref sig .tc .vmem S2048x2048 .f32}
    {a26 : Memref sig .tc .vmem S144x2048 .f32}
    {X2 : S1x128x2048.Idx → Elt F .bf16}
    {X3 : S1x16x128.Idx → Elt F .f32}
    {X4 : S1x2048x128.Idx → Elt F .bf16}
    {X5 : S1x128x2048.Idx → Elt F .bf16}
    {X6 : S1x2048x512.Idx → Elt F .bf16}
    {X7 : S1x4x512x512.Idx → Elt F .bf16}
    {X8 : S1x32x4096.Idx → Elt F .f32}
    {X9 : S1x32x4096.Idx → Elt F .f32}
    {X10 : S1x128x4096.Idx → Elt F .f32}
    {X11 : S1x64x4096.Idx → Elt F .f32}
    {X12 : S1x64x1024.Idx → Elt F .f32}
    {X13 : S1x64x1024.Idx → Elt F .f32}
    {X14 : S1x64x1024.Idx → Elt F .f32} :
    Env c (Held c a2 a3 a4 a5 a6 a7 a8 a9 a10 a11 a12 a13 a14 a15 a16 a17 a18 a19 a20 a21 a22 a23 a24 a25 a26 X2 X3 X4 X5 X6 X7 X8 X9 X10 X11 X12 X13 X14) a2 a3 a4 a5 a6 a7 a8 a9 a10 a11 a12 a13 a14 a15 a16 a17 a18 a19 a20 a21 a22 a23 a24 a25 a26 := by
  unfold Held
  constructor
  · exact (rd_owns _).left
  · exact (rd_owns _).left.right
  · exact (rd_owns _).left.right.right
  · exact (rd_owns _).left.right.right.right
  · exact (rd_owns _).left.right.right.right.right
  · exact (rd_owns _).left.right.right.right.right.right
  · exact (rd_owns _).left.right.right.right.right.right.right
  · exact (rd_owns _).left.right.right.right.right.right.right.right
  · exact (rd_owns _).left.right.right.right.right.right.right.right.right
  · exact (rd_owns _).left.right.right.right.right.right.right.right.right.right
  · exact (rd_owns _).left.right.right.right.right.right.right.right.right.right.right
  · exact (rd_owns _).left.right.right.right.right.right.right.right.right.right.right.right
  · exact (rd_owns _).left.right.right.right.right.right.right.right.right.right.right.right.right
  · exact wr_owns.left.right.right.right.right.right.right.right.right.right.right.right.right.right
  · exact wr_owns.left.right.right.right.right.right.right.right.right.right.right.right.right.right.right
  · exact wr_owns.left.right.right.right.right.right.right.right.right.right.right.right.right.right.right.right
  · exact wr_owns.left.right.right.right.right.right.right.right.right.right.right.right.right.right.right.right.right
  · exact wr_owns.left.right.right.right.right.right.right.right.right.right.right.right.right.right.right.right.right.right
  · exact wr_owns.left.right.right.right.right.right.right.right.right.right.right.right.right.right.right.right.right.right.right
  · exact wr_owns.left.right.right.right.right.right.right.right.right.right.right.right.right.right.right.right.right.right.right.right
  · exact wr_owns.left.right.right.right.right.right.right.right.right.right.right.right.right.right.right.right.right.right.right.right.right
  · exact wr_owns.left.right.right.right.right.right.right.right.right.right.right.right.right.right.right.right.right.right.right.right.right.right
  · exact wr_owns.left.right.right.right.right.right.right.right.right.right.right.right.right.right.right.right.right.right.right.right.right.right.right
  · exact wr_owns.left.right.right.right.right.right.right.right.right.right.right.right.right.right.right.right.right.right.right.right.right.right.right.right
  · exact wr_owns.right.right.right.right.right.right.right.right.right.right.right.right.right.right.right.right.right.right.right.right.right.right.right.right

variable (m : (ℓ : Loc nD τ sig) → Buf (Elt F) ℓ) (ρ : Dev nD → PrngReg)

/-- The results, whose contents the frame forgets. -/
abbrev fgt : Fin cfg0.W → Bool := fun w => Nat.ble 13 w.val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => fun _ => Classical.arbitrary _
    | ⟨14, _⟩ => fun _ => Classical.arbitrary _
    | ⟨15, _⟩ => fun _ => Classical.arbitrary _
    | ⟨16, _⟩ => fun _ => Classical.arbitrary _
    | ⟨17, _⟩ => fun _ => Classical.arbitrary _
    | ⟨18, _⟩ => fun _ => Classical.arbitrary _
    | ⟨19, _⟩ => fun _ => Classical.arbitrary _
    | ⟨20, _⟩ => fun _ => Classical.arbitrary _
    | ⟨n + 21, h⟩ => (Nat.not_lt_of_le (Nat.le_add_left 21 n) h).elim
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_19 t) fullShare X)
    ∗ (∃ X, owns (c : Thread nD τ) (st0_20 t) fullShare X))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_19 t) fullShare X)
    ∗ (∃ X, owns (c : Thread nD τ) (st0_20 t) fullShare X))

/-- The assertion the body runs from, at point `t`. -/
abbrev heldAt (c : Dev nD) (t : Fin cfg0.N) :=
  Held (F := F) c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (Memref.whole cc0_scratch0) (Memref.whole cc0_scratch1) (Memref.whole cc0_scratch2) (Memref.whole cc0_scratch3)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

theorem sound_body (c : Dev nD) (t : Fin cfg0.N) :
    bodyPre m c t ⊢ wp frame (wpE (defs₀ (F := F)) Variants.none c none) Set.univ (bodyAt0 t) (fun _ => bodyPost m c t) := by
  refine BIBase.Entails.trans ?_ ((root (held_env (c := c) (X2 := iblk m c 0 t) (X3 := iblk m c 1 t) (X4 := iblk m c 2 t) (X5 := iblk m c 3 t) (X6 := iblk m c 4 t) (X7 := iblk m c 5 t) (X8 := iblk m c 6 t) (X9 := iblk m c 7 t) (X10 := iblk m c 8 t) (X11 := iblk m c 9 t) (X12 := iblk m c 10 t) (X13 := iblk m c 11 t) (X14 := iblk m c 12 t))).run _)
  unfold bodyPre bodyPost Held
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12,
    show (dats m 0 c).Φ t.castSucc = Pipeline.ΦA spec0 c from rfl]
  unfold Pipeline.ΦA
  rw [scopedRest0_eq]
  simp only [owns_whole]
  iintro ⟨⟨⟨S0, S1, S2, S3⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19, H20⟩
  isplitr [Hp Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [S0]; · iexact S0
    isplitl [S1]; · iexact S1
    isplitl [S2]; · iexact S2
    iexact S3
  · iintro %_v ⟨H0, H1, H2, H3, H4, H5, H6, H7, H8, H9, H10, H11, H12, H13, H14, H15, H16, H17, H18, H19, H20, S0, S1, S2, S3⟩
    isplitl [S0 S1 S2 S3 Hp]
    · isplitl [S0 S1 S2 S3]
      · isplitl [S0]; · iexact S0
        isplitl [S1]; · iexact S1
        isplitl [S2]; · iexact S2
        iexact S3
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, row]
  exact triple_restated (sound_body m c t) rfl .rfl fun _ => .rfl

set_option backward.isDefEq.respectTransparency.types false in
theorem run : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨
      (h.1.arr_in c 3 rfl).trans ((A_eq m c 3).trans (V_main_arg0 m c)),
      (h.1.arr_in c 4 rfl).trans ((A_eq m c 4).trans (V_main_arg1 m c)),
      (h.1.arr_in c 5 rfl).trans ((A_eq m c 5).trans (V_main_arg2 m c)),
      (h.1.arr_in c 0 rfl).trans ((A_eq m c 0).trans (V_main_arg3 m c)),
      (h.1.arr_in c 2 rfl).trans ((A_eq m c 2).trans (V_main_arg4 m c)),
      (h.1.arr_in c 1 rfl).trans ((A_eq m c 1).trans (V_main_arg5 m c)),
      (h.1.arr_in c 6 rfl).trans ((A_eq m c 6).trans (V_main_arg6 m c)),
      (h.1.arr_in c 7 rfl).trans ((A_eq m c 7).trans (V_main_arg7 m c)),
      ((h.1 c).2 main_arg8 (Pipeline.mem_restRefs_of main_arg8 (by decide) (by decide))).trans (V_main_arg8 m c),
      (h.1.arr_in c 9 rfl).trans ((A_eq m c 9).trans (V_main_arg9 m c)),
      (h.1.arr_in c 10 rfl).trans ((A_eq m c 10).trans (V_main_arg10 m c)),
      (h.1.arr_in c 11 rfl).trans ((A_eq m c 11).trans (V_main_arg11 m c)),
      (h.1.arr_in c 12 rfl).trans ((A_eq m c 12).trans (V_main_arg12 m c))⟩, h.2⟩) (run m ρ)

end Cert.Proof.Dsa
-- ==== Proof.DsaClaims.lean ====
module

public import proofs.«01_k».proof.Proof.DsaFrame
public import proofs.«01_k».proof.Proof.DsaBitsFrame
public import proofs.«01_k».proof.Defs

@[expose] public section

/-! The claims of the sparse attention: its frame, as compiled and idealized. -/

noncomputable section

namespace Cert.Proof.Dsa

open Idealize.ShloMosaic

theorem frame_kernel : Cert.quiescent_KDsa := fun m ρ _ => DsaBits.frame_run (F := Bits) m ρ

theorem frame_ideal : Cert.quiescent_KDsaIdeal := fun m ρ _ => frame_run (F := Ideal) m ρ

theorem preserves : Cert.preserves_KDsa_KDsaIdeal := trivial

end Cert.Proof.Dsa
-- ==== Proof.lean ====
/-
  All the claims together: each is proved in the module of its own call.
-/
module

public import proofs.«01_k».proof.Defs
public import proofs.«01_k».proof.Proof.UpClaims
public import proofs.«01_k».proof.Proof.DownClaims
public import proofs.«01_k».proof.Proof.GatingClaims
public import proofs.«01_k».proof.Proof.MergeClaims
public import proofs.«01_k».proof.Proof.OutprojClaims
public import proofs.«01_k».proof.Proof.ProjattClaims
public import proofs.«01_k».proof.Proof.MixnormClaims
public import proofs.«01_k».proof.Proof.FinalClaims
public import proofs.«01_k».proof.Proof.XqClaims
public import proofs.«01_k».proof.Proof.XkvClaims
public import proofs.«01_k».proof.Proof.XoutClaims
public import proofs.«01_k».proof.Proof.XattnClaims
public import proofs.«01_k».proof.Proof.ZaClaims
public import proofs.«01_k».proof.Proof.DsaClaims

@[expose] public section

noncomputable section

namespace Cert.Proof

open Idealize.ShloMosaic Idealize.SL.Sem

theorem claim : Cert.Claim :=
  ⟨Cert.KUp.Gen.facts,
   Cert.KUpIdeal.Gen.facts,
   Cert.RUpIdeal.Gen.facts,
   Cert.KDown.Gen.facts,
   Cert.KDownIdeal.Gen.facts,
   Cert.RDownIdeal.Gen.facts,
   Cert.KGating.Gen.facts,
   Cert.KGatingIdeal.Gen.facts,
   Cert.RGatingIdeal.Gen.facts,
   Cert.KMerge.Gen.facts,
   Cert.KMergeIdeal.Gen.facts,
   Cert.RMergeIdeal.Gen.facts,
   Cert.KOutproj.Gen.facts,
   Cert.KOutprojIdeal.Gen.facts,
   Cert.ROutprojIdeal.Gen.facts,
   Cert.KProjatt.Gen.facts,
   Cert.KProjattIdeal.Gen.facts,
   Cert.RProjattIdeal.Gen.facts,
   Cert.KMixnorm.Gen.facts,
   Cert.KMixnormIdeal.Gen.facts,
   Cert.RMixnormIdeal.Gen.facts,
   Cert.KFinal.Gen.facts,
   Cert.KFinalIdeal.Gen.facts,
   Cert.RFinalIdeal.Gen.facts,
   Cert.KXq.Gen.facts,
   Cert.KXqIdeal.Gen.facts,
   Cert.RXqIdeal.Gen.facts,
   Cert.KXkv.Gen.facts,
   Cert.KXkvIdeal.Gen.facts,
   Cert.RXkvIdeal.Gen.facts,
   Cert.KXout.Gen.facts,
   Cert.KXoutIdeal.Gen.facts,
   Cert.RXoutIdeal.Gen.facts,
   Cert.KXattn.Gen.facts,
   Cert.KXattnIdeal.Gen.facts,
   Cert.RXattnIdeal.Gen.facts,
   Cert.KZa.Gen.facts,
   Cert.KZaIdeal.Gen.facts,
   Cert.RZaIdeal.Gen.facts,
   Cert.KDsa.Gen.facts,
   Cert.KDsaIdeal.Gen.facts,
   Cert.Pre_finite_queries_and_keys.Gen.facts,
   Up.frame_kernel,
   Up.frame_ideal,
   Up.frame_reference,
   Down.frame_kernel,
   Down.frame_ideal,
   Down.frame_reference,
   Gating.frame_kernel,
   Gating.frame_ideal,
   Gating.frame_reference,
   Merge.frame_kernel,
   Merge.frame_ideal,
   Merge.frame_reference,
   Outproj.frame_kernel,
   Outproj.frame_ideal,
   Outproj.frame_reference,
   Projatt.frame_kernel,
   Projatt.frame_ideal,
   Projatt.frame_reference,
   Mixnorm.frame_kernel,
   Mixnorm.frame_ideal,
   Mixnorm.frame_reference,
   Final.frame_kernel,
   Final.frame_ideal,
   Final.frame_reference,
   Xq.frame_kernel,
   Xq.frame_ideal,
   Xq.frame_reference,
   Xkv.frame_kernel,
   Xkv.frame_ideal,
   Xkv.frame_reference,
   Xout.frame_kernel,
   Xout.frame_ideal,
   Xout.frame_reference,
   Xattn.frame_kernel,
   Xattn.frame_ideal,
   Xattn.frame_ideal_pre,
   Xattn.frame_reference,
   Xattn.frame_reference_pre,
   Za.frame_kernel,
   Za.frame_ideal,
   Za.frame_reference,
   Dsa.frame_kernel,
   Dsa.frame_ideal,
   Up.preserves,
   Down.preserves,
   Gating.preserves,
   Merge.preserves,
   Outproj.preserves,
   Projatt.preserves,
   Mixnorm.preserves,
   Final.preserves,
   Xq.preserves,
   Xkv.preserves,
   Xout.preserves,
   Xattn.preserves,
   Za.preserves,
   Dsa.preserves,
   Up.algebraic,
   Down.algebraic,
   Gating.algebraic,
   Merge.algebraic,
   Outproj.algebraic,
   Projatt.algebraic,
   Mixnorm.algebraic,
   Final.algebraic,
   Xq.algebraic,
   Xkv.algebraic,
   Xout.algebraic,
   Xattn.algebraic,
   Za.algebraic⟩

end Cert.Proof

end
